-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite3 [hPre_finite3 : Cert.Pre_finite3.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2))).1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2))).2 = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite3 [hPre_finite3 : Cert.Pre_finite3.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2))).1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2))).2 = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Kernel3Ideal_pre_finite3 [hKernel3Ideal : Cert.Kernel3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite3 m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Reference3Ideal_pre_finite3 [hReference3Ideal : Cert.Reference3Ideal.Facts] [hPre_finite3 : Cert.Pre_finite3.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite3 m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9)
      ∧ r.2.mem ((c.tc : Thread Cert.Kernel5.nD Cert.Kernel5.τ).loc Cert.Kernel5.main_arg10) = m ((c.tc : Thread Cert.Kernel5.nD Cert.Kernel5.τ).loc Cert.Kernel5.main_arg10)
      ∧ r.2.mem ((c.tc : Thread Cert.Kernel5.nD Cert.Kernel5.τ).loc Cert.Kernel5.main_arg11) = m ((c.tc : Thread Cert.Kernel5.nD Cert.Kernel5.τ).loc Cert.Kernel5.main_arg11))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
      ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
      ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9)
      ∧ r.2.mem ((c.tc : Thread Cert.Reference5Ideal.nD Cert.Reference5Ideal.τ).loc Cert.Reference5Ideal.main_arg10) = m ((c.tc : Thread Cert.Reference5Ideal.nD Cert.Reference5Ideal.τ).loc Cert.Reference5Ideal.main_arg10)
      ∧ r.2.mem ((c.tc : Thread Cert.Reference5Ideal.nD Cert.Reference5Ideal.τ).loc Cert.Reference5Ideal.main_arg11) = m ((c.tc : Thread Cert.Reference5Ideal.nD Cert.Reference5Ideal.τ).loc Cert.Reference5Ideal.main_arg11))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5)
      ∧ r.2.mem ((c.tc : Thread Cert.Kernel8.nD Cert.Kernel8.τ).loc Cert.Kernel8.main_arg6) = m ((c.tc : Thread Cert.Kernel8.nD Cert.Kernel8.τ).loc Cert.Kernel8.main_arg6)
      ∧ r.2.mem ((c.tc : Thread Cert.Kernel8.nD Cert.Kernel8.τ).loc Cert.Kernel8.main_arg7) = m ((c.tc : Thread Cert.Kernel8.nD Cert.Kernel8.τ).loc Cert.Kernel8.main_arg7)
      ∧ r.2.mem ((c.tc : Thread Cert.Kernel8.nD Cert.Kernel8.τ).loc Cert.Kernel8.main_arg8) = m ((c.tc : Thread Cert.Kernel8.nD Cert.Kernel8.τ).loc Cert.Kernel8.main_arg8))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
      ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7)
      ∧ r.2.mem ((c.tc : Thread Cert.Kernel8Ideal.nD Cert.Kernel8Ideal.τ).loc Cert.Kernel8Ideal.main_arg8) = m ((c.tc : Thread Cert.Kernel8Ideal.nD Cert.Kernel8Ideal.τ).loc Cert.Kernel8Ideal.main_arg8))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6)
      ∧ r.2.mem ((c.tc : Thread Cert.Reference8Ideal.nD Cert.Reference8Ideal.τ).loc Cert.Reference8Ideal.main_arg7) = m ((c.tc : Thread Cert.Reference8Ideal.nD Cert.Reference8Ideal.τ).loc Cert.Reference8Ideal.main_arg7)
      ∧ r.2.mem ((c.tc : Thread Cert.Reference8Ideal.nD Cert.Reference8Ideal.τ).loc Cert.Reference8Ideal.main_arg8) = m ((c.tc : Thread Cert.Reference8Ideal.nD Cert.Reference8Ideal.τ).loc Cert.Reference8Ideal.main_arg8))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)) →
    ∃ (v0 : (c : Dev Cert.Kernel2Ideal.nD) → Buf (Elt Ideal) ((c.tc : Thread Cert.Kernel2Ideal.nD Cert.Kernel2Ideal.τ).loc Cert.Kernel2Ideal.main_v5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v5) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v43) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8))

def preserves_Kernel3_Kernel3Ideal : Prop :=
  IdealRules.named_const.Statement Cert.Kernel3Ideal.κ "mask" .f32 0xF149F2CA#32 ⊥

def algebraic_Kernel3Ideal_Reference3Ideal_pre_finite3 [hKernel3Ideal : Cert.Kernel3Ideal.Facts] [hReference3Ideal : Cert.Reference3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite3 m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v30) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v4)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v4) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v38) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)
      ∧ m' ((c.tc : Thread Cert.Reference5Ideal.nD Cert.Reference5Ideal.τ).loc Cert.Reference5Ideal.main_arg9) = m ((c.tc : Thread Cert.Kernel5Ideal.nD Cert.Kernel5Ideal.τ).loc Cert.Kernel5Ideal.main_arg9)
      ∧ m' ((c.tc : Thread Cert.Reference5Ideal.nD Cert.Reference5Ideal.τ).loc Cert.Reference5Ideal.main_arg10) = m ((c.tc : Thread Cert.Kernel5Ideal.nD Cert.Kernel5Ideal.τ).loc Cert.Kernel5Ideal.main_arg10)
      ∧ m' ((c.tc : Thread Cert.Reference5Ideal.nD Cert.Reference5Ideal.τ).loc Cert.Reference5Ideal.main_arg11) = m ((c.tc : Thread Cert.Kernel5Ideal.nD Cert.Kernel5Ideal.τ).loc Cert.Kernel5Ideal.main_arg11)) →
    ∃ (v0 : (c : Dev Cert.Kernel5Ideal.nD) → Buf (Elt Ideal) ((c.tc : Thread Cert.Kernel5Ideal.nD Cert.Kernel5Ideal.τ).loc Cert.Kernel5Ideal.main_v32)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v32) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
          ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
          ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
          ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v69) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8)
          ∧ r.2.mem ((c.tc : Thread Cert.Reference5Ideal.nD Cert.Reference5Ideal.τ).loc Cert.Reference5Ideal.main_arg9) = m' ((c.tc : Thread Cert.Reference5Ideal.nD Cert.Reference5Ideal.τ).loc Cert.Reference5Ideal.main_arg9)
          ∧ r.2.mem ((c.tc : Thread Cert.Reference5Ideal.nD Cert.Reference5Ideal.τ).loc Cert.Reference5Ideal.main_arg10) = m' ((c.tc : Thread Cert.Reference5Ideal.nD Cert.Reference5Ideal.τ).loc Cert.Reference5Ideal.main_arg10)
          ∧ r.2.mem ((c.tc : Thread Cert.Reference5Ideal.nD Cert.Reference5Ideal.τ).loc Cert.Reference5Ideal.main_arg11) = m' ((c.tc : Thread Cert.Reference5Ideal.nD Cert.Reference5Ideal.τ).loc Cert.Reference5Ideal.main_arg11))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v5_0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v5_0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v4) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)) →
    ∃ (v0 : (c : Dev Cert.Kernel7Ideal.nD) → Buf (Elt Ideal) ((c.tc : Thread Cert.Kernel7Ideal.nD Cert.Kernel7Ideal.τ).loc Cert.Kernel7Ideal.main_v31_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v31_1) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v47) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)
      ∧ m' ((c.tc : Thread Cert.Reference8Ideal.nD Cert.Reference8Ideal.τ).loc Cert.Reference8Ideal.main_arg6) = m ((c.tc : Thread Cert.Kernel8Ideal.nD Cert.Kernel8Ideal.τ).loc Cert.Kernel8Ideal.main_arg6)
      ∧ m' ((c.tc : Thread Cert.Reference8Ideal.nD Cert.Reference8Ideal.τ).loc Cert.Reference8Ideal.main_arg7) = m ((c.tc : Thread Cert.Kernel8Ideal.nD Cert.Kernel8Ideal.τ).loc Cert.Kernel8Ideal.main_arg7)
      ∧ m' ((c.tc : Thread Cert.Reference8Ideal.nD Cert.Reference8Ideal.τ).loc Cert.Reference8Ideal.main_arg8) = m ((c.tc : Thread Cert.Kernel8Ideal.nD Cert.Kernel8Ideal.τ).loc Cert.Kernel8Ideal.main_arg8)) →
    ∃ (v0 : (c : Dev Cert.Kernel8Ideal.nD) → Buf (Elt Ideal) ((c.tc : Thread Cert.Kernel8Ideal.nD Cert.Kernel8Ideal.τ).loc Cert.Kernel8Ideal.main_v5)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v5) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
          ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
          ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7)
          ∧ r.2.mem ((c.tc : Thread Cert.Kernel8Ideal.nD Cert.Kernel8Ideal.τ).loc Cert.Kernel8Ideal.main_arg8) = m ((c.tc : Thread Cert.Kernel8Ideal.nD Cert.Kernel8Ideal.τ).loc Cert.Kernel8Ideal.main_arg8))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v40) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5)
          ∧ r.2.mem ((c.tc : Thread Cert.Reference8Ideal.nD Cert.Reference8Ideal.τ).loc Cert.Reference8Ideal.main_arg6) = m' ((c.tc : Thread Cert.Reference8Ideal.nD Cert.Reference8Ideal.τ).loc Cert.Reference8Ideal.main_arg6)
          ∧ r.2.mem ((c.tc : Thread Cert.Reference8Ideal.nD Cert.Reference8Ideal.τ).loc Cert.Reference8Ideal.main_arg7) = m' ((c.tc : Thread Cert.Reference8Ideal.nD Cert.Reference8Ideal.τ).loc Cert.Reference8Ideal.main_arg7)
          ∧ r.2.mem ((c.tc : Thread Cert.Reference8Ideal.nD Cert.Reference8Ideal.τ).loc Cert.Reference8Ideal.main_arg8) = m' ((c.tc : Thread Cert.Reference8Ideal.nD Cert.Reference8Ideal.τ).loc Cert.Reference8Ideal.main_arg8))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)) →
    ∃ (v0 : (c : Dev Cert.Kernel9Ideal.nD) → Buf (Elt Ideal) ((c.tc : Thread Cert.Kernel9Ideal.nD Cert.Kernel9Ideal.τ).loc Cert.Kernel9Ideal.main_v4)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v4) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v36) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)) →
    ∃ (v0 : (c : Dev Cert.Kernel10Ideal.nD) → Buf (Elt Ideal) ((c.tc : Thread Cert.Kernel10Ideal.nD Cert.Kernel10Ideal.τ).loc Cert.Kernel10Ideal.main_v30_1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v30_1) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v48) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)) →
    ∃ (v0 : (c : Dev Cert.Kernel11Ideal.nD) → Buf (Elt Ideal) ((c.tc : Thread Cert.Kernel11Ideal.nD Cert.Kernel11Ideal.τ).loc Cert.Kernel11Ideal.main_v8_1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v8_1) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v9) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hPre_finite : Cert.Pre_finite.Facts) (hPre_finite3 : Cert.Pre_finite3.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Kernel3Ideal_pre_finite3 (hKernel3Ideal := hKernel3Ideal) (hPre_finite3 := hPre_finite3)
    ∧ quiescent_Reference3Ideal (hReference3Ideal := hReference3Ideal)
    ∧ quiescent_Reference3Ideal_pre_finite3 (hReference3Ideal := hReference3Ideal) (hPre_finite3 := hPre_finite3)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal_pre_finite3 (hKernel3Ideal := hKernel3Ideal) (hReference3Ideal := hReference3Ideal) (hPre_finite3 := hPre_finite3)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
-- ==== Pre_finite.lean ====
abbrev S4x8192x1024 : Shape := ⟨3, ![4, 8192, 1024]⟩
abbrev S4x32x256x256 : Shape := ⟨4, ![4, 32, 256, 256]⟩
abbrev S4x32x128x256 : Shape := ⟨4, ![4, 32, 128, 256]⟩
abbrev S_ : Shape := ⟨0, ![]⟩

class Facts : Prop where
  bitsLt_bf16_f32 : FTy.bits .bf16 < FTy.bits .f32
  bcast_S_S4x8192x1024 : S_.BroadcastsInDim S4x8192x1024 (![] : Fin 0 → Fin S4x8192x1024.rank)
  bcast_S_S4x32x256x256 : S_.BroadcastsInDim S4x32x256x256 (![] : Fin 0 → Fin S4x32x256x256.rank)

variable [Facts]

def fn {F : FTy → Type} [FloatOps F] (main_arg0 : FVec F S4x8192x1024 .bf16) (main_arg1 : FVec F S4x32x256x256 .bf16) (main_arg2 : FVec F S4x32x128x256 .bf16) : IVec S4x8192x1024 1 × IVec S4x32x256x256 1 :=
  let main_v0 : FVec F S4x8192x1024 .f32 := (extf .f32 · bitsLt_bf16_f32) main_arg0
  let main_v1 : FVec F S4x8192x1024 .f32 := Host.absf main_v0
  let main_cst : FVec F S_ .f32 := constant S_ .f32 0x7F800000#32
  let main_v2 : FVec F S4x8192x1024 .f32 := broadcastInDim S4x8192x1024 ![] bcast_S_S4x8192x1024 main_cst
  let main_v3 : IVec S4x8192x1024 1 := cmpf .olt main_v1 main_v2
  let main_v4 : FVec F S4x32x256x256 .f32 := (extf .f32 · bitsLt_bf16_f32) main_arg1
  let main_v5 : FVec F S4x32x256x256 .f32 := Host.absf main_v4
  let main_cst_0 : FVec F S_ .f32 := constant S_ .f32 0x7F800000#32
  let main_v6 : FVec F S4x32x256x256 .f32 := broadcastInDim S4x32x256x256 ![] bcast_S_S4x32x256x256 main_cst_0
  let main_v7 : IVec S4x32x256x256 1 := cmpf .olt main_v5 main_v6
  (main_v3, main_v7)
-- ==== Pre_finite3.lean ====
abbrev S4x8192x512 : Shape := ⟨3, ![4, 8192, 512]⟩
abbrev S4x32x256x256 : Shape := ⟨4, ![4, 32, 256, 256]⟩
abbrev S4x32x128x256 : Shape := ⟨4, ![4, 32, 128, 256]⟩
abbrev S_ : Shape := ⟨0, ![]⟩

class Facts : Prop where
  bitsLt_bf16_f32 : FTy.bits .bf16 < FTy.bits .f32
  bcast_S_S4x8192x512 : S_.BroadcastsInDim S4x8192x512 (![] : Fin 0 → Fin S4x8192x512.rank)
  bcast_S_S4x32x256x256 : S_.BroadcastsInDim S4x32x256x256 (![] : Fin 0 → Fin S4x32x256x256.rank)

variable [Facts]

def fn {F : FTy → Type} [FloatOps F] (main_arg0 : FVec F S4x8192x512 .bf16) (main_arg1 : FVec F S4x32x256x256 .bf16) (main_arg2 : FVec F S4x32x128x256 .bf16) : IVec S4x8192x512 1 × IVec S4x32x256x256 1 :=
  let main_v0 : FVec F S4x8192x512 .f32 := (extf .f32 · bitsLt_bf16_f32) main_arg0
  let main_v1 : FVec F S4x8192x512 .f32 := Host.absf main_v0
  let main_cst : FVec F S_ .f32 := constant S_ .f32 0x7F800000#32
  let main_v2 : FVec F S4x8192x512 .f32 := broadcastInDim S4x8192x512 ![] bcast_S_S4x8192x512 main_cst
  let main_v3 : IVec S4x8192x512 1 := cmpf .olt main_v1 main_v2
  let main_v4 : FVec F S4x32x256x256 .f32 := (extf .f32 · bitsLt_bf16_f32) main_arg1
  let main_v5 : FVec F S4x32x256x256 .f32 := Host.absf main_v4
  let main_cst_0 : FVec F S_ .f32 := constant S_ .f32 0x7F800000#32
  let main_v6 : FVec F S4x32x256x256 .f32 := broadcastInDim S4x32x256x256 ![] bcast_S_S4x32x256x256 main_cst_0
  let main_v7 : IVec S4x32x256x256 1 := cmpf .olt main_v5 main_v6
  (main_v3, main_v7)
-- ==== Kernel.lean ====
abbrev S4x8192x1024 : Shape := ⟨3, ![4, 8192, 1024]⟩
abbrev S4x32x256x256 : Shape := ⟨4, ![4, 32, 256, 256]⟩
abbrev S4x32x128x256 : Shape := ⟨4, ![4, 32, 128, 256]⟩
abbrev S4x512x8192 : Shape := ⟨3, ![4, 512, 8192]⟩
abbrev S1x128x1024 : Shape := ⟨3, ![1, 128, 1024]⟩
abbrev S1x32x256x256 : Shape := ⟨4, ![1, 32, 256, 256]⟩
abbrev S1x32x128x256 : Shape := ⟨4, ![1, 32, 128, 256]⟩
abbrev S1x512x128 : Shape := ⟨3, ![1, 512, 128]⟩
abbrev S1x512 : Shape := ⟨2, ![1, 512]⟩
abbrev S128x512 : Shape := ⟨2, ![128, 512]⟩
abbrev S128x1024 : Shape := ⟨2, ![128, 1024]⟩
abbrev S128x256 : Shape := ⟨2, ![128, 256]⟩
abbrev S512x256 : Shape := ⟨2, ![512, 256]⟩
abbrev S1x1x256x256 : Shape := ⟨4, ![1, 1, 256, 256]⟩
abbrev S256x256 : Shape := ⟨2, ![256, 256]⟩
abbrev S256x512 : Shape := ⟨2, ![256, 512]⟩
abbrev S512 : Shape := ⟨1, ![512]⟩
abbrev S1x1x128x256 : Shape := ⟨4, ![1, 1, 128, 256]⟩
abbrev S128x128 : Shape := ⟨2, ![128, 128]⟩
abbrev S1x128x128 : Shape := ⟨3, ![1, 128, 128]⟩

abbrev nBuf : Space → Nat
  | .hbm => 4
  | .vmem => 11
  | .smem => 0
  | _ => 0

abbrev bufTy : (tb : Table) → Fin (tcTables nBuf tb) → BufTy
  | .hbm, ⟨0, _⟩ => ⟨S4x8192x1024, .bf16⟩
  | .hbm, ⟨1, _⟩ => ⟨S4x32x256x256, .bf16⟩
  | .hbm, ⟨2, _⟩ => ⟨S4x32x128x256, .bf16⟩
  | .hbm, ⟨3, _⟩ => ⟨S4x512x8192, .f32⟩
  | .local _ .vmem, ⟨0, _⟩ => ⟨S1x128x1024, .bf16⟩
  | .local _ .vmem, ⟨1, _⟩ => ⟨S1x128x1024, .bf16⟩
  | .local _ .vmem, ⟨2, _⟩ => ⟨S1x32x256x256, .bf16⟩
  | .local _ .vmem, ⟨3, _⟩ => ⟨S1x32x256x256, .bf16⟩
  | .local _ .vmem, ⟨4, _⟩ => ⟨S1x32x128x256, .bf16⟩
  | .local _ .vmem, ⟨5, _⟩ => ⟨S1x32x128x256, .bf16⟩
  | .local _ .vmem, ⟨6, _⟩ => ⟨S1x512x128, .f32⟩
  | .local _ .vmem, ⟨7, _⟩ => ⟨S1x512x128, .f32⟩
  | .local _ .vmem, ⟨8, _⟩ => ⟨S1x512, .f32⟩
  | .local _ .vmem, ⟨9, _⟩ => ⟨S1x512, .f32⟩
  | .local _ .vmem, ⟨10, _⟩ => ⟨S128x512, .f32⟩
  | _, _ => ⟨S4x8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 1, 64], ![false, false, false]⟩

@[reducible] def k0_t1_loop (i : grid0.Coords) : Scf.Loop 32 :=
  let c0_i32_21 : BitVec 32 := 0#32
  let arg2 : BitVec 32 := BitVec.ofNat 32 (i 2).val
  let c128_i32 : BitVec 32 := 128#32
  let v19 : BitVec 32 := Scalar.muli arg2 c128_i32
  let c0_i32 : BitVec 32 := 0#32
  let v21 : BitVec 1 := Scalar.cmpi .sgt v19 c0_i32
  let v22 : BitVec 32 := Scalar.extui v21
  let c0_i32_10 : BitVec 32 := 0#32
  let v23 : BitVec 1 := Scalar.cmpi .slt v19 c0_i32_10
  let v24 : BitVec 32 := Scalar.extui v23
  let v25 : BitVec 32 := Scalar.subi v22 v24
  let c256_i32 : BitVec 32 := 256#32
  let c0_i32_11 : BitVec 32 := 0#32
  let v26 : BitVec 1 := Scalar.cmpi .sgt c256_i32 c0_i32_11
  let v27 : BitVec 32 := Scalar.extui v26
  let c0_i32_12 : BitVec 32 := 0#32
  let v28 : BitVec 1 := Scalar.cmpi .slt c256_i32 c0_i32_12
  let v29 : BitVec 32 := Scalar.extui v28
  let v30 : BitVec 32 := Scalar.subi v27 v29
  let v31 : BitVec 1 := Scalar.cmpi .ne v25 v30
  let v32 : BitVec 32 := Scalar.remsi v19 c256_i32
  let c0_i32_13 : BitVec 32 := 0#32
  let v33 : BitVec 1 := Scalar.cmpi .ne v32 c0_i32_13
  let v34 : BitVec 1 := Scalar.andi v31 v33
  let v20 : BitVec 32 := Scalar.divsi v19 c256_i32
  let c1_i32 : BitVec 32 := 1#32
  let v35 : BitVec 32 := Scalar.subi v20 c1_i32
  let v36 : BitVec 32 := Scalar.select v34 v35 v20
  let c0_i32_14 : BitVec 32 := 0#32
  let v38 : BitVec 1 := Scalar.cmpi .sgt v36 c0_i32_14
  let v39 : BitVec 32 := Scalar.extui v38
  let c0_i32_15 : BitVec 32 := 0#32
  let v40 : BitVec 1 := Scalar.cmpi .slt v36 c0_i32_15
  let v41 : BitVec 32 := Scalar.extui v40
  let v42 : BitVec 32 := Scalar.subi v39 v41
  let c4_i32 : BitVec 32 := 4#32
  let c0_i32_16 : BitVec 32 := 0#32
  let v43 : BitVec 1 := Scalar.cmpi .sgt c4_i32 c0_i32_16
  let v44 : BitVec 32 := Scalar.extui v43
  let c0_i32_17 : BitVec 32 := 0#32
  let v45 : BitVec 1 := Scalar.cmpi .slt c4_i32 c0_i32_17
  let v46 : BitVec 32 := Scalar.extui v45
  let v47 : BitVec 32 := Scalar.subi v44 v46
  let v48 : BitVec 1 := Scalar.cmpi .ne v42 v47
  let v49 : BitVec 32 := Scalar.remsi v36 c4_i32
  let c0_i32_18 : BitVec 32 := 0#32
  let v50 : BitVec 1 := Scalar.cmpi .ne v49 c0_i32_18
  let v51 : BitVec 1 := Scalar.andi v48 v50
  let v37 : BitVec 32 := Scalar.divsi v36 c4_i32
  let c1_i32_19 : BitVec 32 := 1#32
  let v52 : BitVec 32 := Scalar.subi v37 c1_i32_19
  let v53 : BitVec 32 := Scalar.select v51 v52 v37
  let v54 : BitVec 32 := Scalar.subi v53 c0_i32_21
  let c1_i32_22 : BitVec 32 := 1#32
  let v56 : BitVec 32 := Scalar.divsi v54 c1_i32_22
  let v57 : BitVec 32 := Scalar.muli v56 c1_i32_22
  let v58 : BitVec 32 := Scalar.addi c0_i32_21 v57
  let c1_i32_23 : BitVec 32 := 1#32
  ⟨c0_i32_21, v58, c1_i32_23⟩
def k0_off1 (i : grid0.Coords) (k0_t1 : Fin (k0_t1_loop i).trips) (c0_i32_66 : BitVec 32) : Fin 4 → Nat :=
  let c0_73 : Index := 0#32
  let c4_i32_65 : BitVec 32 := 4#32
  let c0_i32_21 : BitVec 32 := 0#32
  let c1_i32_23 : BitVec 32 := 1#32
  let arg10 : BitVec 32 := Scf.iv c0_i32_21 c1_i32_23 k0_t1
  let v113 : BitVec 32 := Scalar.muli c4_i32_65 arg10
  let v114 : BitVec 32 := Scalar.addi v113 c0_i32_66
  let v121 : Index := Scalar.indexCast v114
  let c0_74 : Index := 0#32
  let c0_75 : Index := 0#32
  ![0, v121.toNat, 0, 0]
def k0_off2 (i : grid0.Coords) (k0_t1 : Fin (k0_t1_loop i).trips) (c0_i32_66 : BitVec 32) : Fin 4 → Nat :=
  let c0_100 : Index := 0#32
  let c4_i32_65 : BitVec 32 := 4#32
  let c0_i32_21 : BitVec 32 := 0#32
  let c1_i32_23 : BitVec 32 := 1#32
  let arg10 : BitVec 32 := Scf.iv c0_i32_21 c1_i32_23 k0_t1
  let v113 : BitVec 32 := Scalar.muli c4_i32_65 arg10
  let v114 : BitVec 32 := Scalar.addi v113 c0_i32_66
  let v163 : Index := Scalar.indexCast v114
  let c0_101 : Index := 0#32
  let c0_102 : Index := 0#32
  ![0, v163.toNat, 0, 0]
@[reducible] def k0_t2_loop (i : grid0.Coords) : Scf.Loop 32 :=
  let c0_i32_21 : BitVec 32 := 0#32
  let arg2 : BitVec 32 := BitVec.ofNat 32 (i 2).val
  let c128_i32 : BitVec 32 := 128#32
  let v19 : BitVec 32 := Scalar.muli arg2 c128_i32
  let c0_i32 : BitVec 32 := 0#32
  let v21 : BitVec 1 := Scalar.cmpi .sgt v19 c0_i32
  let v22 : BitVec 32 := Scalar.extui v21
  let c0_i32_10 : BitVec 32 := 0#32
  let v23 : BitVec 1 := Scalar.cmpi .slt v19 c0_i32_10
  let v24 : BitVec 32 := Scalar.extui v23
  let v25 : BitVec 32 := Scalar.subi v22 v24
  let c256_i32 : BitVec 32 := 256#32
  let c0_i32_11 : BitVec 32 := 0#32
  let v26 : BitVec 1 := Scalar.cmpi .sgt c256_i32 c0_i32_11
  let v27 : BitVec 32 := Scalar.extui v26
  let c0_i32_12 : BitVec 32 := 0#32
  let v28 : BitVec 1 := Scalar.cmpi .slt c256_i32 c0_i32_12
  let v29 : BitVec 32 := Scalar.extui v28
  let v30 : BitVec 32 := Scalar.subi v27 v29
  let v31 : BitVec 1 := Scalar.cmpi .ne v25 v30
  let v32 : BitVec 32 := Scalar.remsi v19 c256_i32
  let c0_i32_13 : BitVec 32 := 0#32
  let v33 : BitVec 1 := Scalar.cmpi .ne v32 c0_i32_13
  let v34 : BitVec 1 := Scalar.andi v31 v33
  let v20 : BitVec 32 := Scalar.divsi v19 c256_i32
  let c1_i32 : BitVec 32 := 1#32
  let v35 : BitVec 32 := Scalar.subi v20 c1_i32
  let v36 : BitVec 32 := Scalar.select v34 v35 v20
  let c0_i32_14 : BitVec 32 := 0#32
  let v38 : BitVec 1 := Scalar.cmpi .sgt v36 c0_i32_14
  let v39 : BitVec 32 := Scalar.extui v38
  let c0_i32_15 : BitVec 32 := 0#32
  let v40 : BitVec 1 := Scalar.cmpi .slt v36 c0_i32_15
  let v41 : BitVec 32 := Scalar.extui v40
  let v42 : BitVec 32 := Scalar.subi v39 v41
  let c4_i32 : BitVec 32 := 4#32
  let c0_i32_16 : BitVec 32 := 0#32
  let v43 : BitVec 1 := Scalar.cmpi .sgt c4_i32 c0_i32_16
  let v44 : BitVec 32 := Scalar.extui v43
  let c0_i32_17 : BitVec 32 := 0#32
  let v45 : BitVec 1 := Scalar.cmpi .slt c4_i32 c0_i32_17
  let v46 : BitVec 32 := Scalar.extui v45
  let v47 : BitVec 32 := Scalar.subi v44 v46
  let v48 : BitVec 1 := Scalar.cmpi .ne v42 v47
  let v49 : BitVec 32 := Scalar.remsi v36 c4_i32
  let c0_i32_18 : BitVec 32 := 0#32
  let v50 : BitVec 1 := Scalar.cmpi .ne v49 c0_i32_18
  let v51 : BitVec 1 := Scalar.andi v48 v50
  let v37 : BitVec 32 := Scalar.divsi v36 c4_i32
  let c1_i32_19 : BitVec 32 := 1#32
  let v52 : BitVec 32 := Scalar.subi v37 c1_i32_19
  let v53 : BitVec 32 := Scalar.select v51 v52 v37
  let v54 : BitVec 32 := Scalar.subi v53 c0_i32_21
  let c1_i32_22 : BitVec 32 := 1#32
  let v56 : BitVec 32 := Scalar.divsi v54 c1_i32_22
  let v57 : BitVec 32 := Scalar.muli v56 c1_i32_22
  let v58 : BitVec 32 := Scalar.addi c0_i32_21 v57
  let v55 : BitVec 32 := Scalar.addi c0_i32_21 v54
  let c1_i32_24 : BitVec 32 := 1#32
  ⟨v58, v55, c1_i32_24⟩
def k0_off3 (i : grid0.Coords) (k0_t2 : Fin (k0_t2_loop i).trips) (c0_i32_66 : BitVec 32) : Fin 4 → Nat :=
  let c0_73 : Index := 0#32
  let c4_i32_65 : BitVec 32 := 4#32
  let c0_i32_21 : BitVec 32 := 0#32
  let arg2 : BitVec 32 := BitVec.ofNat 32 (i 2).val
  let c128_i32 : BitVec 32 := 128#32
  let v19 : BitVec 32 := Scalar.muli arg2 c128_i32
  let c0_i32 : BitVec 32 := 0#32
  let v21 : BitVec 1 := Scalar.cmpi .sgt v19 c0_i32
  let v22 : BitVec 32 := Scalar.extui v21
  let c0_i32_10 : BitVec 32 := 0#32
  let v23 : BitVec 1 := Scalar.cmpi .slt v19 c0_i32_10
  let v24 : BitVec 32 := Scalar.extui v23
  let v25 : BitVec 32 := Scalar.subi v22 v24
  let c256_i32 : BitVec 32 := 256#32
  let c0_i32_11 : BitVec 32 := 0#32
  let v26 : BitVec 1 := Scalar.cmpi .sgt c256_i32 c0_i32_11
  let v27 : BitVec 32 := Scalar.extui v26
  let c0_i32_12 : BitVec 32 := 0#32
  let v28 : BitVec 1 := Scalar.cmpi .slt c256_i32 c0_i32_12
  let v29 : BitVec 32 := Scalar.extui v28
  let v30 : BitVec 32 := Scalar.subi v27 v29
  let v31 : BitVec 1 := Scalar.cmpi .ne v25 v30
  let v32 : BitVec 32 := Scalar.remsi v19 c256_i32
  let c0_i32_13 : BitVec 32 := 0#32
  let v33 : BitVec 1 := Scalar.cmpi .ne v32 c0_i32_13
  let v34 : BitVec 1 := Scalar.andi v31 v33
  let v20 : BitVec 32 := Scalar.divsi v19 c256_i32
  let c1_i32 : BitVec 32 := 1#32
  let v35 : BitVec 32 := Scalar.subi v20 c1_i32
  let v36 : BitVec 32 := Scalar.select v34 v35 v20
  let c0_i32_14 : BitVec 32 := 0#32
  let v38 : BitVec 1 := Scalar.cmpi .sgt v36 c0_i32_14
  let v39 : BitVec 32 := Scalar.extui v38
  let c0_i32_15 : BitVec 32 := 0#32
  let v40 : BitVec 1 := Scalar.cmpi .slt v36 c0_i32_15
  let v41 : BitVec 32 := Scalar.extui v40
  let v42 : BitVec 32 := Scalar.subi v39 v41
  let c4_i32 : BitVec 32 := 4#32
  let c0_i32_16 : BitVec 32 := 0#32
  let v43 : BitVec 1 := Scalar.cmpi .sgt c4_i32 c0_i32_16
  let v44 : BitVec 32 := Scalar.extui v43
  let c0_i32_17 : BitVec 32 := 0#32
  let v45 : BitVec 1 := Scalar.cmpi .slt c4_i32 c0_i32_17
  let v46 : BitVec 32 := Scalar.extui v45
  let v47 : BitVec 32 := Scalar.subi v44 v46
  let v48 : BitVec 1 := Scalar.cmpi .ne v42 v47
  let v49 : BitVec 32 := Scalar.remsi v36 c4_i32
  let c0_i32_18 : BitVec 32 := 0#32
  let v50 : BitVec 1 := Scalar.cmpi .ne v49 c0_i32_18
  let v51 : BitVec 1 := Scalar.andi v48 v50
  let v37 : BitVec 32 := Scalar.divsi v36 c4_i32
  let c1_i32_19 : BitVec 32 := 1#32
  let v52 : BitVec 32 := Scalar.subi v37 c1_i32_19
  let v53 : BitVec 32 := Scalar.select v51 v52 v37
  let v54 : BitVec 32 := Scalar.subi v53 c0_i32_21
  let c1_i32_22 : BitVec 32 := 1#32
  let v56 : BitVec 32 := Scalar.divsi v54 c1_i32_22
  let v57 : BitVec 32 := Scalar.muli v56 c1_i32_22
  let v58 : BitVec 32 := Scalar.addi c0_i32_21 v57
  let c1_i32_24 : BitVec 32 := 1#32
  let arg10 : BitVec 32 := Scf.iv v58 c1_i32_24 k0_t2
  let v113 : BitVec 32 := Scalar.muli c4_i32_65 arg10
  let v114 : BitVec 32 := Scalar.addi v113 c0_i32_66
  let v121 : Index := Scalar.indexCast v114
  let c0_74 : Index := 0#32
  let c0_75 : Index := 0#32
  ![0, v121.toNat, 0, 0]
def k0_off4 (i : grid0.Coords) (k0_t2 : Fin (k0_t2_loop i).trips) (c0_i32_66 : BitVec 32) : Fin 4 → Nat :=
  let c0_100 : Index := 0#32
  let c4_i32_65 : BitVec 32 := 4#32
  let c0_i32_21 : BitVec 32 := 0#32
  let arg2 : BitVec 32 := BitVec.ofNat 32 (i 2).val
  let c128_i32 : BitVec 32 := 128#32
  let v19 : BitVec 32 := Scalar.muli arg2 c128_i32
  let c0_i32 : BitVec 32 := 0#32
  let v21 : BitVec 1 := Scalar.cmpi .sgt v19 c0_i32
  let v22 : BitVec 32 := Scalar.extui v21
  let c0_i32_10 : BitVec 32 := 0#32
  let v23 : BitVec 1 := Scalar.cmpi .slt v19 c0_i32_10
  let v24 : BitVec 32 := Scalar.extui v23
  let v25 : BitVec 32 := Scalar.subi v22 v24
  let c256_i32 : BitVec 32 := 256#32
  let c0_i32_11 : BitVec 32 := 0#32
  let v26 : BitVec 1 := Scalar.cmpi .sgt c256_i32 c0_i32_11
  let v27 : BitVec 32 := Scalar.extui v26
  let c0_i32_12 : BitVec 32 := 0#32
  let v28 : BitVec 1 := Scalar.cmpi .slt c256_i32 c0_i32_12
  let v29 : BitVec 32 := Scalar.extui v28
  let v30 : BitVec 32 := Scalar.subi v27 v29
  let v31 : BitVec 1 := Scalar.cmpi .ne v25 v30
  let v32 : BitVec 32 := Scalar.remsi v19 c256_i32
  let c0_i32_13 : BitVec 32 := 0#32
  let v33 : BitVec 1 := Scalar.cmpi .ne v32 c0_i32_13
  let v34 : BitVec 1 := Scalar.andi v31 v33
  let v20 : BitVec 32 := Scalar.divsi v19 c256_i32
  let c1_i32 : BitVec 32 := 1#32
  let v35 : BitVec 32 := Scalar.subi v20 c1_i32
  let v36 : BitVec 32 := Scalar.select v34 v35 v20
  let c0_i32_14 : BitVec 32 := 0#32
  let v38 : BitVec 1 := Scalar.cmpi .sgt v36 c0_i32_14
  let v39 : BitVec 32 := Scalar.extui v38
  let c0_i32_15 : BitVec 32 := 0#32
  let v40 : BitVec 1 := Scalar.cmpi .slt v36 c0_i32_15
  let v41 : BitVec 32 := Scalar.extui v40
  let v42 : BitVec 32 := Scalar.subi v39 v41
  let c4_i32 : BitVec 32 := 4#32
  let c0_i32_16 : BitVec 32 := 0#32
  let v43 : BitVec 1 := Scalar.cmpi .sgt c4_i32 c0_i32_16
  let v44 : BitVec 32 := Scalar.extui v43
  let c0_i32_17 : BitVec 32 := 0#32
  let v45 : BitVec 1 := Scalar.cmpi .slt c4_i32 c0_i32_17
  let v46 : BitVec 32 := Scalar.extui v45
  let v47 : BitVec 32 := Scalar.subi v44 v46
  let v48 : BitVec 1 := Scalar.cmpi .ne v42 v47
  let v49 : BitVec 32 := Scalar.remsi v36 c4_i32
  let c0_i32_18 : BitVec 32 := 0#32
  let v50 : BitVec 1 := Scalar.cmpi .ne v49 c0_i32_18
  let v51 : BitVec 1 := Scalar.andi v48 v50
  let v37 : BitVec 32 := Scalar.divsi v36 c4_i32
  let c1_i32_19 : BitVec 32 := 1#32
  let v52 : BitVec 32 := Scalar.subi v37 c1_i32_19
  let v53 : BitVec 32 := Scalar.select v51 v52 v37
  let v54 : BitVec 32 := Scalar.subi v53 c0_i32_21
  let c1_i32_22 : BitVec 32 := 1#32
  let v56 : BitVec 32 := Scalar.divsi v54 c1_i32_22
  let v57 : BitVec 32 := Scalar.muli v56 c1_i32_22
  let v58 : BitVec 32 := Scalar.addi c0_i32_21 v57
  let c1_i32_24 : BitVec 32 := 1#32
  let arg10 : BitVec 32 := Scf.iv v58 c1_i32_24 k0_t2
  let v113 : BitVec 32 := Scalar.muli c4_i32_65 arg10
  let v114 : BitVec 32 := Scalar.addi v113 c0_i32_66
  let v163 : Index := Scalar.indexCast v114
  let c0_101 : Index := 0#32
  let c0_102 : Index := 0#32
  ![0, v163.toNat, 0, 0]
def k0_cond1 (i : grid0.Coords) : BitVec 1 :=
  let arg2 : BitVec 32 := BitVec.ofNat 32 (i 2).val
  let c128_i32 : BitVec 32 := 128#32
  let v19 : BitVec 32 := Scalar.muli arg2 c128_i32
  let c0_i32 : BitVec 32 := 0#32
  let v21 : BitVec 1 := Scalar.cmpi .sgt v19 c0_i32
  let v22 : BitVec 32 := Scalar.extui v21
  let c0_i32_10 : BitVec 32 := 0#32
  let v23 : BitVec 1 := Scalar.cmpi .slt v19 c0_i32_10
  let v24 : BitVec 32 := Scalar.extui v23
  let v25 : BitVec 32 := Scalar.subi v22 v24
  let c256_i32 : BitVec 32 := 256#32
  let c0_i32_11 : BitVec 32 := 0#32
  let v26 : BitVec 1 := Scalar.cmpi .sgt c256_i32 c0_i32_11
  let v27 : BitVec 32 := Scalar.extui v26
  let c0_i32_12 : BitVec 32 := 0#32
  let v28 : BitVec 1 := Scalar.cmpi .slt c256_i32 c0_i32_12
  let v29 : BitVec 32 := Scalar.extui v28
  let v30 : BitVec 32 := Scalar.subi v27 v29
  let v31 : BitVec 1 := Scalar.cmpi .ne v25 v30
  let v32 : BitVec 32 := Scalar.remsi v19 c256_i32
  let c0_i32_13 : BitVec 32 := 0#32
  let v33 : BitVec 1 := Scalar.cmpi .ne v32 c0_i32_13
  let v34 : BitVec 1 := Scalar.andi v31 v33
  let v20 : BitVec 32 := Scalar.divsi v19 c256_i32
  let c1_i32 : BitVec 32 := 1#32
  let v35 : BitVec 32 := Scalar.subi v20 c1_i32
  let v36 : BitVec 32 := Scalar.select v34 v35 v20
  let c0_i32_14 : BitVec 32 := 0#32
  let v38 : BitVec 1 := Scalar.cmpi .sgt v36 c0_i32_14
  let v39 : BitVec 32 := Scalar.extui v38
  let c0_i32_15 : BitVec 32 := 0#32
  let v40 : BitVec 1 := Scalar.cmpi .slt v36 c0_i32_15
  let v41 : BitVec 32 := Scalar.extui v40
  let v42 : BitVec 32 := Scalar.subi v39 v41
  let c4_i32 : BitVec 32 := 4#32
  let c0_i32_16 : BitVec 32 := 0#32
  let v43 : BitVec 1 := Scalar.cmpi .sgt c4_i32 c0_i32_16
  let v44 : BitVec 32 := Scalar.extui v43
  let c0_i32_17 : BitVec 32 := 0#32
  let v45 : BitVec 1 := Scalar.cmpi .slt c4_i32 c0_i32_17
  let v46 : BitVec 32 := Scalar.extui v45
  let v47 : BitVec 32 := Scalar.subi v44 v46
  let v48 : BitVec 1 := Scalar.cmpi .ne v42 v47
  let v49 : BitVec 32 := Scalar.remsi v36 c4_i32
  let c0_i32_18 : BitVec 32 := 0#32
  let v50 : BitVec 1 := Scalar.cmpi .ne v49 c0_i32_18
  let v51 : BitVec 1 := Scalar.andi v48 v50
  let v37 : BitVec 32 := Scalar.divsi v36 c4_i32
  let c1_i32_19 : BitVec 32 := 1#32
  let v52 : BitVec 32 := Scalar.subi v37 c1_i32_19
  let v53 : BitVec 32 := Scalar.select v51 v52 v37
  let c4_i32_25 : BitVec 32 := 4#32
  let v59 : BitVec 32 := Scalar.muli v53 c4_i32_25
  let v60 : BitVec 32 := Scalar.subi v36 v59
  let c0_i32_26 : BitVec 32 := 0#32
  let v61 : BitVec 1 := Scalar.cmpi .eq v60 c0_i32_26
  let v64 : BitVec 32 := Scalar.extui v61
  let c0_i32_29 : BitVec 32 := 0#32
  let v65 : BitVec 1 := Scalar.cmpi .ne v64 c0_i32_29
  v65

def k0_off5 (i : grid0.Coords) : Fin 4 → Nat :=
  let c0_65 : Index := 0#32
  let arg2 : BitVec 32 := BitVec.ofNat 32 (i 2).val
  let c128_i32 : BitVec 32 := 128#32
  let v19 : BitVec 32 := Scalar.muli arg2 c128_i32
  let c0_i32 : BitVec 32 := 0#32
  let v21 : BitVec 1 := Scalar.cmpi .sgt v19 c0_i32
  let v22 : BitVec 32 := Scalar.extui v21
  let c0_i32_10 : BitVec 32 := 0#32
  let v23 : BitVec 1 := Scalar.cmpi .slt v19 c0_i32_10
  let v24 : BitVec 32 := Scalar.extui v23
  let v25 : BitVec 32 := Scalar.subi v22 v24
  let c256_i32 : BitVec 32 := 256#32
  let c0_i32_11 : BitVec 32 := 0#32
  let v26 : BitVec 1 := Scalar.cmpi .sgt c256_i32 c0_i32_11
  let v27 : BitVec 32 := Scalar.extui v26
  let c0_i32_12 : BitVec 32 := 0#32
  let v28 : BitVec 1 := Scalar.cmpi .slt c256_i32 c0_i32_12
  let v29 : BitVec 32 := Scalar.extui v28
  let v30 : BitVec 32 := Scalar.subi v27 v29
  let v31 : BitVec 1 := Scalar.cmpi .ne v25 v30
  let v32 : BitVec 32 := Scalar.remsi v19 c256_i32
  let c0_i32_13 : BitVec 32 := 0#32
  let v33 : BitVec 1 := Scalar.cmpi .ne v32 c0_i32_13
  let v34 : BitVec 1 := Scalar.andi v31 v33
  let v20 : BitVec 32 := Scalar.divsi v19 c256_i32
  let c1_i32 : BitVec 32 := 1#32
  let v35 : BitVec 32 := Scalar.subi v20 c1_i32
  let v36 : BitVec 32 := Scalar.select v34 v35 v20
  let c0_i32_27 : BitVec 32 := 0#32
  let v62 : BitVec 32 := Scalar.subi v36 c0_i32_27
  let c0_i32_28 : BitVec 32 := 0#32
  let v63 : BitVec 32 := Scalar.addi v62 c0_i32_28
  let v113 : Index := Scalar.indexCast v63
  let c0_66 : Index := 0#32
  let c0_67 : Index := 0#32
  ![0, v113.toNat, 0, 0]
def k0_off6 (i : grid0.Coords) : Fin 4 → Nat :=
  let c0_80 : Index := 0#32
  let arg2 : BitVec 32 := BitVec.ofNat 32 (i 2).val
  let c128_i32 : BitVec 32 := 128#32
  let v19 : BitVec 32 := Scalar.muli arg2 c128_i32
  let c0_i32 : BitVec 32 := 0#32
  let v21 : BitVec 1 := Scalar.cmpi .sgt v19 c0_i32
  let v22 : BitVec 32 := Scalar.extui v21
  let c0_i32_10 : BitVec 32 := 0#32
  let v23 : BitVec 1 := Scalar.cmpi .slt v19 c0_i32_10
  let v24 : BitVec 32 := Scalar.extui v23
  let v25 : BitVec 32 := Scalar.subi v22 v24
  let c256_i32 : BitVec 32 := 256#32
  let c0_i32_11 : BitVec 32 := 0#32
  let v26 : BitVec 1 := Scalar.cmpi .sgt c256_i32 c0_i32_11
  let v27 : BitVec 32 := Scalar.extui v26
  let c0_i32_12 : BitVec 32 := 0#32
  let v28 : BitVec 1 := Scalar.cmpi .slt c256_i32 c0_i32_12
  let v29 : BitVec 32 := Scalar.extui v28
  let v30 : BitVec 32 := Scalar.subi v27 v29
  let v31 : BitVec 1 := Scalar.cmpi .ne v25 v30
  let v32 : BitVec 32 := Scalar.remsi v19 c256_i32
  let c0_i32_13 : BitVec 32 := 0#32
  let v33 : BitVec 1 := Scalar.cmpi .ne v32 c0_i32_13
  let v34 : BitVec 1 := Scalar.andi v31 v33
  let v20 : BitVec 32 := Scalar.divsi v19 c256_i32
  let c1_i32 : BitVec 32 := 1#32
  let v35 : BitVec 32 := Scalar.subi v20 c1_i32
  let v36 : BitVec 32 := Scalar.select v34 v35 v20
  let c0_i32_27 : BitVec 32 := 0#32
  let v62 : BitVec 32 := Scalar.subi v36 c0_i32_27
  let c0_i32_28 : BitVec 32 := 0#32
  let v63 : BitVec 32 := Scalar.addi v62 c0_i32_28
  let v146 : Index := Scalar.indexCast v63
  let c0_81 : Index := 0#32
  let c0_82 : Index := 0#32
  ![0, v146.toNat, 0, 0]
def k0_cond2 (i : grid0.Coords) : BitVec 1 :=
  let arg2 : BitVec 32 := BitVec.ofNat 32 (i 2).val
  let c128_i32 : BitVec 32 := 128#32
  let v19 : BitVec 32 := Scalar.muli arg2 c128_i32
  let c0_i32 : BitVec 32 := 0#32
  let v21 : BitVec 1 := Scalar.cmpi .sgt v19 c0_i32
  let v22 : BitVec 32 := Scalar.extui v21
  let c0_i32_10 : BitVec 32 := 0#32
  let v23 : BitVec 1 := Scalar.cmpi .slt v19 c0_i32_10
  let v24 : BitVec 32 := Scalar.extui v23
  let v25 : BitVec 32 := Scalar.subi v22 v24
  let c256_i32 : BitVec 32 := 256#32
  let c0_i32_11 : BitVec 32 := 0#32
  let v26 : BitVec 1 := Scalar.cmpi .sgt c256_i32 c0_i32_11
  let v27 : BitVec 32 := Scalar.extui v26
  let c0_i32_12 : BitVec 32 := 0#32
  let v28 : BitVec 1 := Scalar.cmpi .slt c256_i32 c0_i32_12
  let v29 : BitVec 32 := Scalar.extui v28
  let v30 : BitVec 32 := Scalar.subi v27 v29
  let v31 : BitVec 1 := Scalar.cmpi .ne v25 v30
  let v32 : BitVec 32 := Scalar.remsi v19 c256_i32
  let c0_i32_13 : BitVec 32 := 0#32
  let v33 : BitVec 1 := Scalar.cmpi .ne v32 c0_i32_13
  let v34 : BitVec 1 := Scalar.andi v31 v33
  let v20 : BitVec 32 := Scalar.divsi v19 c256_i32
  let c1_i32 : BitVec 32 := 1#32
  let v35 : BitVec 32 := Scalar.subi v20 c1_i32
  let v36 : BitVec 32 := Scalar.select v34 v35 v20
  let c0_i32_14 : BitVec 32 := 0#32
  let v38 : BitVec 1 := Scalar.cmpi .sgt v36 c0_i32_14
  let v39 : BitVec 32 := Scalar.extui v38
  let c0_i32_15 : BitVec 32 := 0#32
  let v40 : BitVec 1 := Scalar.cmpi .slt v36 c0_i32_15
  let v41 : BitVec 32 := Scalar.extui v40
  let v42 : BitVec 32 := Scalar.subi v39 v41
  let c4_i32 : BitVec 32 := 4#32
  let c0_i32_16 : BitVec 32 := 0#32
  let v43 : BitVec 1 := Scalar.cmpi .sgt c4_i32 c0_i32_16
  let v44 : BitVec 32 := Scalar.extui v43
  let c0_i32_17 : BitVec 32 := 0#32
  let v45 : BitVec 1 := Scalar.cmpi .slt c4_i32 c0_i32_17
  let v46 : BitVec 32 := Scalar.extui v45
  let v47 : BitVec 32 := Scalar.subi v44 v46
  let v48 : BitVec 1 := Scalar.cmpi .ne v42 v47
  let v49 : BitVec 32 := Scalar.remsi v36 c4_i32
  let c0_i32_18 : BitVec 32 := 0#32
  let v50 : BitVec 1 := Scalar.cmpi .ne v49 c0_i32_18
  let v51 : BitVec 1 := Scalar.andi v48 v50
  let v37 : BitVec 32 := Scalar.divsi v36 c4_i32
  let c1_i32_19 : BitVec 32 := 1#32
  let v52 : BitVec 32 := Scalar.subi v37 c1_i32_19
  let v53 : BitVec 32 := Scalar.select v51 v52 v37
  let c4_i32_25 : BitVec 32 := 4#32
  let v59 : BitVec 32 := Scalar.muli v53 c4_i32_25
  let v60 : BitVec 32 := Scalar.subi v36 v59
  let c1_i32_30 : BitVec 32 := 1#32
  let v66 : BitVec 1 := Scalar.cmpi .eq v60 c1_i32_30
  let v71 : BitVec 32 := Scalar.extui v66
  let c0_i32_35 : BitVec 32 := 0#32
  let v72 : BitVec 1 := Scalar.cmpi .ne v71 c0_i32_35
  v72

def k0_off7 (i : grid0.Coords) (c0_i32_32 : BitVec 32) : Fin 4 → Nat :=
  let c0_65 : Index := 0#32
  let arg2 : BitVec 32 := BitVec.ofNat 32 (i 2).val
  let c128_i32 : BitVec 32 := 128#32
  let v19 : BitVec 32 := Scalar.muli arg2 c128_i32
  let c0_i32 : BitVec 32 := 0#32
  let v21 : BitVec 1 := Scalar.cmpi .sgt v19 c0_i32
  let v22 : BitVec 32 := Scalar.extui v21
  let c0_i32_10 : BitVec 32 := 0#32
  let v23 : BitVec 1 := Scalar.cmpi .slt v19 c0_i32_10
  let v24 : BitVec 32 := Scalar.extui v23
  let v25 : BitVec 32 := Scalar.subi v22 v24
  let c256_i32 : BitVec 32 := 256#32
  let c0_i32_11 : BitVec 32 := 0#32
  let v26 : BitVec 1 := Scalar.cmpi .sgt c256_i32 c0_i32_11
  let v27 : BitVec 32 := Scalar.extui v26
  let c0_i32_12 : BitVec 32 := 0#32
  let v28 : BitVec 1 := Scalar.cmpi .slt c256_i32 c0_i32_12
  let v29 : BitVec 32 := Scalar.extui v28
  let v30 : BitVec 32 := Scalar.subi v27 v29
  let v31 : BitVec 1 := Scalar.cmpi .ne v25 v30
  let v32 : BitVec 32 := Scalar.remsi v19 c256_i32
  let c0_i32_13 : BitVec 32 := 0#32
  let v33 : BitVec 1 := Scalar.cmpi .ne v32 c0_i32_13
  let v34 : BitVec 1 := Scalar.andi v31 v33
  let v20 : BitVec 32 := Scalar.divsi v19 c256_i32
  let c1_i32 : BitVec 32 := 1#32
  let v35 : BitVec 32 := Scalar.subi v20 c1_i32
  let v36 : BitVec 32 := Scalar.select v34 v35 v20
  let c1_i32_31 : BitVec 32 := 1#32
  let v67 : BitVec 32 := Scalar.subi v36 c1_i32_31
  let v68 : BitVec 32 := Scalar.addi v67 c0_i32_32
  let v113 : Index := Scalar.indexCast v68
  let c0_66 : Index := 0#32
  let c0_67 : Index := 0#32
  ![0, v113.toNat, 0, 0]
def k0_off8 (i : grid0.Coords) (c0_i32_32 : BitVec 32) : Fin 4 → Nat :=
  let c0_85 : Index := 0#32
  let arg2 : BitVec 32 := BitVec.ofNat 32 (i 2).val
  let c128_i32 : BitVec 32 := 128#32
  let v19 : BitVec 32 := Scalar.muli arg2 c128_i32
  let c0_i32 : BitVec 32 := 0#32
  let v21 : BitVec 1 := Scalar.cmpi .sgt v19 c0_i32
  let v22 : BitVec 32 := Scalar.extui v21
  let c0_i32_10 : BitVec 32 := 0#32
  let v23 : BitVec 1 := Scalar.cmpi .slt v19 c0_i32_10
  let v24 : BitVec 32 := Scalar.extui v23
  let v25 : BitVec 32 := Scalar.subi v22 v24
  let c256_i32 : BitVec 32 := 256#32
  let c0_i32_11 : BitVec 32 := 0#32
  let v26 : BitVec 1 := Scalar.cmpi .sgt c256_i32 c0_i32_11
  let v27 : BitVec 32 := Scalar.extui v26
  let c0_i32_12 : BitVec 32 := 0#32
  let v28 : BitVec 1 := Scalar.cmpi .slt c256_i32 c0_i32_12
  let v29 : BitVec 32 := Scalar.extui v28
  let v30 : BitVec 32 := Scalar.subi v27 v29
  let v31 : BitVec 1 := Scalar.cmpi .ne v25 v30
  let v32 : BitVec 32 := Scalar.remsi v19 c256_i32
  let c0_i32_13 : BitVec 32 := 0#32
  let v33 : BitVec 1 := Scalar.cmpi .ne v32 c0_i32_13
  let v34 : BitVec 1 := Scalar.andi v31 v33
  let v20 : BitVec 32 := Scalar.divsi v19 c256_i32
  let c1_i32 : BitVec 32 := 1#32
  let v35 : BitVec 32 := Scalar.subi v20 c1_i32
  let v36 : BitVec 32 := Scalar.select v34 v35 v20
  let c1_i32_31 : BitVec 32 := 1#32
  let v67 : BitVec 32 := Scalar.subi v36 c1_i32_31
  let v68 : BitVec 32 := Scalar.addi v67 c0_i32_32
  let v153 : Index := Scalar.indexCast v68
  let c0_86 : Index := 0#32
  let c0_87 : Index := 0#32
  ![0, v153.toNat, 0, 0]
def k0_cond3 (i : grid0.Coords) : BitVec 1 :=
  let arg2 : BitVec 32 := BitVec.ofNat 32 (i 2).val
  let c128_i32 : BitVec 32 := 128#32
  let v19 : BitVec 32 := Scalar.muli arg2 c128_i32
  let c0_i32 : BitVec 32 := 0#32
  let v21 : BitVec 1 := Scalar.cmpi .sgt v19 c0_i32
  let v22 : BitVec 32 := Scalar.extui v21
  let c0_i32_10 : BitVec 32 := 0#32
  let v23 : BitVec 1 := Scalar.cmpi .slt v19 c0_i32_10
  let v24 : BitVec 32 := Scalar.extui v23
  let v25 : BitVec 32 := Scalar.subi v22 v24
  let c256_i32 : BitVec 32 := 256#32
  let c0_i32_11 : BitVec 32 := 0#32
  let v26 : BitVec 1 := Scalar.cmpi .sgt c256_i32 c0_i32_11
  let v27 : BitVec 32 := Scalar.extui v26
  let c0_i32_12 : BitVec 32 := 0#32
  let v28 : BitVec 1 := Scalar.cmpi .slt c256_i32 c0_i32_12
  let v29 : BitVec 32 := Scalar.extui v28
  let v30 : BitVec 32 := Scalar.subi v27 v29
  let v31 : BitVec 1 := Scalar.cmpi .ne v25 v30
  let v32 : BitVec 32 := Scalar.remsi v19 c256_i32
  let c0_i32_13 : BitVec 32 := 0#32
  let v33 : BitVec 1 := Scalar.cmpi .ne v32 c0_i32_13
  let v34 : BitVec 1 := Scalar.andi v31 v33
  let v20 : BitVec 32 := Scalar.divsi v19 c256_i32
  let c1_i32 : BitVec 32 := 1#32
  let v35 : BitVec 32 := Scalar.subi v20 c1_i32
  let v36 : BitVec 32 := Scalar.select v34 v35 v20
  let c0_i32_14 : BitVec 32 := 0#32
  let v38 : BitVec 1 := Scalar.cmpi .sgt v36 c0_i32_14
  let v39 : BitVec 32 := Scalar.extui v38
  let c0_i32_15 : BitVec 32 := 0#32
  let v40 : BitVec 1 := Scalar.cmpi .slt v36 c0_i32_15
  let v41 : BitVec 32 := Scalar.extui v40
  let v42 : BitVec 32 := Scalar.subi v39 v41
  let c4_i32 : BitVec 32 := 4#32
  let c0_i32_16 : BitVec 32 := 0#32
  let v43 : BitVec 1 := Scalar.cmpi .sgt c4_i32 c0_i32_16
  let v44 : BitVec 32 := Scalar.extui v43
  let c0_i32_17 : BitVec 32 := 0#32
  let v45 : BitVec 1 := Scalar.cmpi .slt c4_i32 c0_i32_17
  let v46 : BitVec 32 := Scalar.extui v45
  let v47 : BitVec 32 := Scalar.subi v44 v46
  let v48 : BitVec 1 := Scalar.cmpi .ne v42 v47
  let v49 : BitVec 32 := Scalar.remsi v36 c4_i32
  let c0_i32_18 : BitVec 32 := 0#32
  let v50 : BitVec 1 := Scalar.cmpi .ne v49 c0_i32_18
  let v51 : BitVec 1 := Scalar.andi v48 v50
  let v37 : BitVec 32 := Scalar.divsi v36 c4_i32
  let c1_i32_19 : BitVec 32 := 1#32
  let v52 : BitVec 32 := Scalar.subi v37 c1_i32_19
  let v53 : BitVec 32 := Scalar.select v51 v52 v37
  let c4_i32_25 : BitVec 32 := 4#32
  let v59 : BitVec 32 := Scalar.muli v53 c4_i32_25
  let v60 : BitVec 32 := Scalar.subi v36 v59
  let c2_i32 : BitVec 32 := 2#32
  let v73 : BitVec 1 := Scalar.cmpi .eq v60 c2_i32
  let v80 : BitVec 32 := Scalar.extui v73
  let c0_i32_42 : BitVec 32 := 0#32
  let v81 : BitVec 1 := Scalar.cmpi .ne v80 c0_i32_42
  v81

def k0_off9 (i : grid0.Coords) (c0_i32_37 : BitVec 32) : Fin 4 → Nat :=
  let c0_65 : Index := 0#32
  let arg2 : BitVec 32 := BitVec.ofNat 32 (i 2).val
  let c128_i32 : BitVec 32 := 128#32
  let v19 : BitVec 32 := Scalar.muli arg2 c128_i32
  let c0_i32 : BitVec 32 := 0#32
  let v21 : BitVec 1 := Scalar.cmpi .sgt v19 c0_i32
  let v22 : BitVec 32 := Scalar.extui v21
  let c0_i32_10 : BitVec 32 := 0#32
  let v23 : BitVec 1 := Scalar.cmpi .slt v19 c0_i32_10
  let v24 : BitVec 32 := Scalar.extui v23
  let v25 : BitVec 32 := Scalar.subi v22 v24
  let c256_i32 : BitVec 32 := 256#32
  let c0_i32_11 : BitVec 32 := 0#32
  let v26 : BitVec 1 := Scalar.cmpi .sgt c256_i32 c0_i32_11
  let v27 : BitVec 32 := Scalar.extui v26
  let c0_i32_12 : BitVec 32 := 0#32
  let v28 : BitVec 1 := Scalar.cmpi .slt c256_i32 c0_i32_12
  let v29 : BitVec 32 := Scalar.extui v28
  let v30 : BitVec 32 := Scalar.subi v27 v29
  let v31 : BitVec 1 := Scalar.cmpi .ne v25 v30
  let v32 : BitVec 32 := Scalar.remsi v19 c256_i32
  let c0_i32_13 : BitVec 32 := 0#32
  let v33 : BitVec 1 := Scalar.cmpi .ne v32 c0_i32_13
  let v34 : BitVec 1 := Scalar.andi v31 v33
  let v20 : BitVec 32 := Scalar.divsi v19 c256_i32
  let c1_i32 : BitVec 32 := 1#32
  let v35 : BitVec 32 := Scalar.subi v20 c1_i32
  let v36 : BitVec 32 := Scalar.select v34 v35 v20
  let c2_i32_36 : BitVec 32 := 2#32
  let v74 : BitVec 32 := Scalar.subi v36 c2_i32_36
  let v75 : BitVec 32 := Scalar.addi v74 c0_i32_37
  let v113 : Index := Scalar.indexCast v75
  let c0_66 : Index := 0#32
  let c0_67 : Index := 0#32
  ![0, v113.toNat, 0, 0]
def k0_off10 (i : grid0.Coords) (c0_i32_37 : BitVec 32) : Fin 4 → Nat :=
  let c0_90 : Index := 0#32
  let arg2 : BitVec 32 := BitVec.ofNat 32 (i 2).val
  let c128_i32 : BitVec 32 := 128#32
  let v19 : BitVec 32 := Scalar.muli arg2 c128_i32
  let c0_i32 : BitVec 32 := 0#32
  let v21 : BitVec 1 := Scalar.cmpi .sgt v19 c0_i32
  let v22 : BitVec 32 := Scalar.extui v21
  let c0_i32_10 : BitVec 32 := 0#32
  let v23 : BitVec 1 := Scalar.cmpi .slt v19 c0_i32_10
  let v24 : BitVec 32 := Scalar.extui v23
  let v25 : BitVec 32 := Scalar.subi v22 v24
  let c256_i32 : BitVec 32 := 256#32
  let c0_i32_11 : BitVec 32 := 0#32
  let v26 : BitVec 1 := Scalar.cmpi .sgt c256_i32 c0_i32_11
  let v27 : BitVec 32 := Scalar.extui v26
  let c0_i32_12 : BitVec 32 := 0#32
  let v28 : BitVec 1 := Scalar.cmpi .slt c256_i32 c0_i32_12
  let v29 : BitVec 32 := Scalar.extui v28
  let v30 : BitVec 32 := Scalar.subi v27 v29
  let v31 : BitVec 1 := Scalar.cmpi .ne v25 v30
  let v32 : BitVec 32 := Scalar.remsi v19 c256_i32
  let c0_i32_13 : BitVec 32 := 0#32
  let v33 : BitVec 1 := Scalar.cmpi .ne v32 c0_i32_13
  let v34 : BitVec 1 := Scalar.andi v31 v33
  let v20 : BitVec 32 := Scalar.divsi v19 c256_i32
  let c1_i32 : BitVec 32 := 1#32
  let v35 : BitVec 32 := Scalar.subi v20 c1_i32
  let v36 : BitVec 32 := Scalar.select v34 v35 v20
  let c2_i32_36 : BitVec 32 := 2#32
  let v74 : BitVec 32 := Scalar.subi v36 c2_i32_36
  let v75 : BitVec 32 := Scalar.addi v74 c0_i32_37
  let v160 : Index := Scalar.indexCast v75
  let c0_91 : Index := 0#32
  let c0_92 : Index := 0#32
  ![0, v160.toNat, 0, 0]
def k0_cond4 (i : grid0.Coords) : BitVec 1 :=
  let arg2 : BitVec 32 := BitVec.ofNat 32 (i 2).val
  let c128_i32 : BitVec 32 := 128#32
  let v19 : BitVec 32 := Scalar.muli arg2 c128_i32
  let c0_i32 : BitVec 32 := 0#32
  let v21 : BitVec 1 := Scalar.cmpi .sgt v19 c0_i32
  let v22 : BitVec 32 := Scalar.extui v21
  let c0_i32_10 : BitVec 32 := 0#32
  let v23 : BitVec 1 := Scalar.cmpi .slt v19 c0_i32_10
  let v24 : BitVec 32 := Scalar.extui v23
  let v25 : BitVec 32 := Scalar.subi v22 v24
  let c256_i32 : BitVec 32 := 256#32
  let c0_i32_11 : BitVec 32 := 0#32
  let v26 : BitVec 1 := Scalar.cmpi .sgt c256_i32 c0_i32_11
  let v27 : BitVec 32 := Scalar.extui v26
  let c0_i32_12 : BitVec 32 := 0#32
  let v28 : BitVec 1 := Scalar.cmpi .slt c256_i32 c0_i32_12
  let v29 : BitVec 32 := Scalar.extui v28
  let v30 : BitVec 32 := Scalar.subi v27 v29
  let v31 : BitVec 1 := Scalar.cmpi .ne v25 v30
  let v32 : BitVec 32 := Scalar.remsi v19 c256_i32
  let c0_i32_13 : BitVec 32 := 0#32
  let v33 : BitVec 1 := Scalar.cmpi .ne v32 c0_i32_13
  let v34 : BitVec 1 := Scalar.andi v31 v33
  let v20 : BitVec 32 := Scalar.divsi v19 c256_i32
  let c1_i32 : BitVec 32 := 1#32
  let v35 : BitVec 32 := Scalar.subi v20 c1_i32
  let v36 : BitVec 32 := Scalar.select v34 v35 v20
  let c0_i32_14 : BitVec 32 := 0#32
  let v38 : BitVec 1 := Scalar.cmpi .sgt v36 c0_i32_14
  let v39 : BitVec 32 := Scalar.extui v38
  let c0_i32_15 : BitVec 32 := 0#32
  let v40 : BitVec 1 := Scalar.cmpi .slt v36 c0_i32_15
  let v41 : BitVec 32 := Scalar.extui v40
  let v42 : BitVec 32 := Scalar.subi v39 v41
  let c4_i32 : BitVec 32 := 4#32
  let c0_i32_16 : BitVec 32 := 0#32
  let v43 : BitVec 1 := Scalar.cmpi .sgt c4_i32 c0_i32_16
  let v44 : BitVec 32 := Scalar.extui v43
  let c0_i32_17 : BitVec 32 := 0#32
  let v45 : BitVec 1 := Scalar.cmpi .slt c4_i32 c0_i32_17
  let v46 : BitVec 32 := Scalar.extui v45
  let v47 : BitVec 32 := Scalar.subi v44 v46
  let v48 : BitVec 1 := Scalar.cmpi .ne v42 v47
  let v49 : BitVec 32 := Scalar.remsi v36 c4_i32
  let c0_i32_18 : BitVec 32 := 0#32
  let v50 : BitVec 1 := Scalar.cmpi .ne v49 c0_i32_18
  let v51 : BitVec 1 := Scalar.andi v48 v50
  let v37 : BitVec 32 := Scalar.divsi v36 c4_i32
  let c1_i32_19 : BitVec 32 := 1#32
  let v52 : BitVec 32 := Scalar.subi v37 c1_i32_19
  let v53 : BitVec 32 := Scalar.select v51 v52 v37
  let c4_i32_25 : BitVec 32 := 4#32
  let v59 : BitVec 32 := Scalar.muli v53 c4_i32_25
  let v60 : BitVec 32 := Scalar.subi v36 v59
  let c3_i32 : BitVec 32 := 3#32
  let v82 : BitVec 1 := Scalar.cmpi .eq v60 c3_i32
  let v91 : BitVec 32 := Scalar.extui v82
  let c0_i32_51 : BitVec 32 := 0#32
  let v92 : BitVec 1 := Scalar.cmpi .ne v91 c0_i32_51
  v92

def k0_off11 (i : grid0.Coords) (c0_i32_44 : BitVec 32) : Fin 4 → Nat :=
  let c0_65 : Index := 0#32
  let arg2 : BitVec 32 := BitVec.ofNat 32 (i 2).val
  let c128_i32 : BitVec 32 := 128#32
  let v19 : BitVec 32 := Scalar.muli arg2 c128_i32
  let c0_i32 : BitVec 32 := 0#32
  let v21 : BitVec 1 := Scalar.cmpi .sgt v19 c0_i32
  let v22 : BitVec 32 := Scalar.extui v21
  let c0_i32_10 : BitVec 32 := 0#32
  let v23 : BitVec 1 := Scalar.cmpi .slt v19 c0_i32_10
  let v24 : BitVec 32 := Scalar.extui v23
  let v25 : BitVec 32 := Scalar.subi v22 v24
  let c256_i32 : BitVec 32 := 256#32
  let c0_i32_11 : BitVec 32 := 0#32
  let v26 : BitVec 1 := Scalar.cmpi .sgt c256_i32 c0_i32_11
  let v27 : BitVec 32 := Scalar.extui v26
  let c0_i32_12 : BitVec 32 := 0#32
  let v28 : BitVec 1 := Scalar.cmpi .slt c256_i32 c0_i32_12
  let v29 : BitVec 32 := Scalar.extui v28
  let v30 : BitVec 32 := Scalar.subi v27 v29
  let v31 : BitVec 1 := Scalar.cmpi .ne v25 v30
  let v32 : BitVec 32 := Scalar.remsi v19 c256_i32
  let c0_i32_13 : BitVec 32 := 0#32
  let v33 : BitVec 1 := Scalar.cmpi .ne v32 c0_i32_13
  let v34 : BitVec 1 := Scalar.andi v31 v33
  let v20 : BitVec 32 := Scalar.divsi v19 c256_i32
  let c1_i32 : BitVec 32 := 1#32
  let v35 : BitVec 32 := Scalar.subi v20 c1_i32
  let v36 : BitVec 32 := Scalar.select v34 v35 v20
  let c3_i32_43 : BitVec 32 := 3#32
  let v83 : BitVec 32 := Scalar.subi v36 c3_i32_43
  let v84 : BitVec 32 := Scalar.addi v83 c0_i32_44
  let v113 : Index := Scalar.indexCast v84
  let c0_66 : Index := 0#32
  let c0_67 : Index := 0#32
  ![0, v113.toNat, 0, 0]
def k0_off12 (i : grid0.Coords) (c0_i32_44 : BitVec 32) : Fin 4 → Nat :=
  let c0_95 : Index := 0#32
  let arg2 : BitVec 32 := BitVec.ofNat 32 (i 2).val
  let c128_i32 : BitVec 32 := 128#32
  let v19 : BitVec 32 := Scalar.muli arg2 c128_i32
  let c0_i32 : BitVec 32 := 0#32
  let v21 : BitVec 1 := Scalar.cmpi .sgt v19 c0_i32
  let v22 : BitVec 32 := Scalar.extui v21
  let c0_i32_10 : BitVec 32 := 0#32
  let v23 : BitVec 1 := Scalar.cmpi .slt v19 c0_i32_10
  let v24 : BitVec 32 := Scalar.extui v23
  let v25 : BitVec 32 := Scalar.subi v22 v24
  let c256_i32 : BitVec 32 := 256#32
  let c0_i32_11 : BitVec 32 := 0#32
  let v26 : BitVec 1 := Scalar.cmpi .sgt c256_i32 c0_i32_11
  let v27 : BitVec 32 := Scalar.extui v26
  let c0_i32_12 : BitVec 32 := 0#32
  let v28 : BitVec 1 := Scalar.cmpi .slt c256_i32 c0_i32_12
  let v29 : BitVec 32 := Scalar.extui v28
  let v30 : BitVec 32 := Scalar.subi v27 v29
  let v31 : BitVec 1 := Scalar.cmpi .ne v25 v30
  let v32 : BitVec 32 := Scalar.remsi v19 c256_i32
  let c0_i32_13 : BitVec 32 := 0#32
  let v33 : BitVec 1 := Scalar.cmpi .ne v32 c0_i32_13
  let v34 : BitVec 1 := Scalar.andi v31 v33
  let v20 : BitVec 32 := Scalar.divsi v19 c256_i32
  let c1_i32 : BitVec 32 := 1#32
  let v35 : BitVec 32 := Scalar.subi v20 c1_i32
  let v36 : BitVec 32 := Scalar.select v34 v35 v20
  let c3_i32_43 : BitVec 32 := 3#32
  let v83 : BitVec 32 := Scalar.subi v36 c3_i32_43
  let v84 : BitVec 32 := Scalar.addi v83 c0_i32_44
  let v167 : Index := Scalar.indexCast v84
  let c0_96 : Index := 0#32
  let c0_97 : Index := 0#32
  ![0, v167.toNat, 0, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat, arg1.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, arg1.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x32x256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x32x128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== KernelIdeal.lean ====
variable {F : FTy → Type} [FloatOps F] [Named F]
def κ : String → Option EReal := fun
  | "mask" => some ⊥
  | _ => none
-- ==== ReferenceIdeal.lean ====
abbrev S4x8192x1024 : Shape := ⟨3, ![4, 8192, 1024]⟩
abbrev S4x32x256x256 : Shape := ⟨4, ![4, 32, 256, 256]⟩
abbrev S4x32x128x256 : Shape := ⟨4, ![4, 32, 128, 256]⟩
abbrev S4x8192x4x256 : Shape := ⟨4, ![4, 8192, 4, 256]⟩
abbrev S4x8192x256 : Shape := ⟨3, ![4, 8192, 256]⟩
abbrev S4x32x256x128 : Shape := ⟨4, ![4, 32, 256, 128]⟩
abbrev S4x8192x128 : Shape := ⟨3, ![4, 8192, 128]⟩
abbrev S8192 : Shape := ⟨1, ![8192]⟩
abbrev S4x8192x8192x4 : Shape := ⟨4, ![4, 8192, 8192, 4]⟩
abbrev S4x4x8192x8192 : Shape := ⟨4, ![4, 4, 8192, 8192]⟩
abbrev S8192x1 : Shape := ⟨2, ![8192, 1]⟩
abbrev S1x8192 : Shape := ⟨2, ![1, 8192]⟩
abbrev S8192x8192 : Shape := ⟨2, ![8192, 8192]⟩
abbrev S_ : Shape := ⟨0, ![]⟩
abbrev S4x4x8192 : Shape := ⟨3, ![4, 4, 8192]⟩
abbrev S4x4x8192x1 : Shape := ⟨4, ![4, 4, 8192, 1]⟩
abbrev S4x128x4x8192 : Shape := ⟨4, ![4, 128, 4, 8192]⟩
abbrev S4x4x128x8192 : Shape := ⟨4, ![4, 4, 128, 8192]⟩
abbrev S4x512x8192 : Shape := ⟨3, ![4, 512, 8192]⟩

abbrev nBuf : Space → Nat
  | .hbm => 45
  | .vmem => 0
  | .smem => 0
  | _ => 0

abbrev bufTy : (tb : Table) → Fin (tcTables nBuf tb) → BufTy
  | .hbm, ⟨0, _⟩ => ⟨S4x8192x1024, .bf16⟩
  | .hbm, ⟨1, _⟩ => ⟨S4x32x256x256, .bf16⟩
  | .hbm, ⟨2, _⟩ => ⟨S4x32x128x256, .bf16⟩
  | .hbm, ⟨3, _⟩ => ⟨S4x8192x1024, .f32⟩
  | .hbm, ⟨4, _⟩ => ⟨S4x8192x4x256, .f32⟩
  | .hbm, ⟨5, _⟩ => ⟨S4x32x256x256, .f32⟩
  | .hbm, ⟨6, _⟩ => ⟨S4x8192x256, .f32⟩
  | .hbm, ⟨7, _⟩ => ⟨S4x32x128x256, .f32⟩
  | .hbm, ⟨8, _⟩ => ⟨S4x32x256x128, .f32⟩
  | .hbm, ⟨9, _⟩ => ⟨S4x8192x128, .f32⟩
  | .hbm, ⟨10, _⟩ => ⟨S8192, .i32⟩
  | .hbm, ⟨11, _⟩ => ⟨S4x8192x8192x4, .f32⟩
  | .hbm, ⟨12, _⟩ => ⟨S4x4x8192x8192, .f32⟩
  | .hbm, ⟨13, _⟩ => ⟨S8192x1, .i32⟩
  | .hbm, ⟨14, _⟩ => ⟨S1x8192, .i32⟩
  | .hbm, ⟨15, _⟩ => ⟨S8192x8192, .i32⟩
  | .hbm, ⟨16, _⟩ => ⟨S8192x8192, .i32⟩
  | .hbm, ⟨17, _⟩ => ⟨S8192x8192, .i1⟩
  | .hbm, ⟨18, _⟩ => ⟨S_, .f32⟩
  | .hbm, ⟨19, _⟩ => ⟨S_, .f32⟩
  | .hbm, ⟨20, _⟩ => ⟨S4x4x8192x8192, .i1⟩
  | .hbm, ⟨21, _⟩ => ⟨S4x4x8192x8192, .f32⟩
  | .hbm, ⟨22, _⟩ => ⟨S4x4x8192x8192, .f32⟩
  | .hbm, ⟨23, _⟩ => ⟨S_, .f32⟩
  | .hbm, ⟨24, _⟩ => ⟨S4x4x8192, .f32⟩
  | .hbm, ⟨25, _⟩ => ⟨S4x4x8192x1, .f32⟩
  | .hbm, ⟨26, _⟩ => ⟨S4x4x8192x8192, .f32⟩
  | .hbm, ⟨27, _⟩ => ⟨S4x4x8192x8192, .f32⟩
  | .hbm, ⟨28, _⟩ => ⟨S4x4x8192x8192, .f32⟩
  | .hbm, ⟨29, _⟩ => ⟨S_, .f32⟩
  | .hbm, ⟨30, _⟩ => ⟨S_, .f32⟩
  | .hbm, ⟨31, _⟩ => ⟨S4x4x8192x8192, .i1⟩
  | .hbm, ⟨32, _⟩ => ⟨S4x4x8192x8192, .f32⟩
  | .hbm, ⟨33, _⟩ => ⟨S4x4x8192x8192, .f32⟩
  | .hbm, ⟨34, _⟩ => ⟨S_, .f32⟩
  | .hbm, ⟨35, _⟩ => ⟨S4x4x8192, .f32⟩
  | .hbm, ⟨36, _⟩ => ⟨S4x4x8192x1, .f32⟩
  | .hbm, ⟨37, _⟩ => ⟨S_, .f32⟩
  | .hbm, ⟨38, _⟩ => ⟨S4x4x8192x1, .f32⟩
  | .hbm, ⟨39, _⟩ => ⟨S4x4x8192x1, .f32⟩
  | .hbm, ⟨40, _⟩ => ⟨S4x4x8192x8192, .f32⟩
  | .hbm, ⟨41, _⟩ => ⟨S4x4x8192x8192, .f32⟩
  | .hbm, ⟨42, _⟩ => ⟨S4x128x4x8192, .f32⟩
  | .hbm, ⟨43, _⟩ => ⟨S4x4x128x8192, .f32⟩
  | .hbm, ⟨44, _⟩ => ⟨S4x512x8192, .f32⟩
  | _, _ => ⟨S4x8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_cst : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_v15 : Ref sig .tc := ⟨.hbm, 22, rfl⟩
abbrev main_cst_0 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_1 : Ref sig .tc := ⟨.hbm, 29, rfl⟩
abbrev main_call1_v0 : Ref sig .tc := ⟨.hbm, 30, rfl⟩
abbrev main_call1_v1 : Ref sig .tc := ⟨.hbm, 31, rfl⟩
abbrev main_call1_v2 : Ref sig .tc := ⟨.hbm, 32, rfl⟩
abbrev main_v21 : Ref sig .tc := ⟨.hbm, 33, rfl⟩
abbrev main_cst_2 : Ref sig .tc := ⟨.hbm, 34, rfl⟩
abbrev main_v22 : Ref sig .tc := ⟨.hbm, 35, rfl⟩
abbrev main_v23 : Ref sig .tc := ⟨.hbm, 36, rfl⟩
abbrev main_cst_3 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩

abbrev nD : Nat := 1
abbrev τ : Topo := Topo.v7x

variable {F : FTy → Type} [FloatOps F]
-- ==== Kernel2.lean ====
abbrev S4x8192x1024 : Shape := ⟨3, ![4, 8192, 1024]⟩
abbrev S4x1x1024 : Shape := ⟨3, ![4, 1, 1024]⟩
abbrev S1024x2816 : Shape := ⟨2, ![1024, 2816]⟩
abbrev S2816x1024 : Shape := ⟨2, ![2816, 1024]⟩
abbrev S1024 : Shape := ⟨1, ![1024]⟩
abbrev S1x1024 : Shape := ⟨2, ![1, 1024]⟩
abbrev S1x512x1024 : Shape := ⟨3, ![1, 512, 1024]⟩
abbrev S1x1x1024 : Shape := ⟨3, ![1, 1, 1024]⟩
abbrev S512x1024 : Shape := ⟨2, ![512, 1024]⟩
abbrev S1024x256 : Shape := ⟨2, ![1024, 256]⟩
abbrev S512x256 : Shape := ⟨2, ![512, 256]⟩
abbrev S256x1024 : Shape := ⟨2, ![256, 1024]⟩
abbrev S512 : Shape := ⟨1, ![512]⟩
abbrev S512x1 : Shape := ⟨2, ![512, 1]⟩

abbrev nBuf : Space → Nat
  | .hbm => 15
  | .vmem => 15
  | .smem => 0
  | _ => 0

abbrev bufTy : (tb : Table) → Fin (tcTables nBuf tb) → BufTy
  | .hbm, ⟨0, _⟩ => ⟨S4x8192x1024, .f32⟩
  | .hbm, ⟨1, _⟩ => ⟨S4x1x1024, .f32⟩
  | .hbm, ⟨2, _⟩ => ⟨S4x1x1024, .f32⟩
  | .hbm, ⟨3, _⟩ => ⟨S4x1x1024, .f32⟩
  | .hbm, ⟨4, _⟩ => ⟨S1024x2816, .f32⟩
  | .hbm, ⟨5, _⟩ => ⟨S1024x2816, .f32⟩
  | .hbm, ⟨6, _⟩ => ⟨S2816x1024, .f32⟩
  | .hbm, ⟨7, _⟩ => ⟨S1024, .f32⟩
  | .hbm, ⟨8, _⟩ => ⟨S1024, .f32⟩
  | .hbm, ⟨9, _⟩ => ⟨S1024x2816, .bf16⟩
  | .hbm, ⟨10, _⟩ => ⟨S1024x2816, .bf16⟩
  | .hbm, ⟨11, _⟩ => ⟨S2816x1024, .bf16⟩
  | .hbm, ⟨12, _⟩ => ⟨S1x1024, .f32⟩
  | .hbm, ⟨13, _⟩ => ⟨S1x1024, .f32⟩
  | .hbm, ⟨14, _⟩ => ⟨S4x8192x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1x1024, .f32⟩
  | .local _ .vmem, ⟨8, _⟩ => ⟨S1024x2816, .bf16⟩
  | .local _ .vmem, ⟨9, _⟩ => ⟨S1024x2816, .bf16⟩
  | .local _ .vmem, ⟨10, _⟩ => ⟨S2816x1024, .bf16⟩
  | .local _ .vmem, ⟨11, _⟩ => ⟨S1x1024, .f32⟩
  | .local _ .vmem, ⟨12, _⟩ => ⟨S1x1024, .f32⟩
  | .local _ .vmem, ⟨13, _⟩ => ⟨S1x512x1024, .f32⟩
  | .local _ .vmem, ⟨14, _⟩ => ⟨S1x512x1024, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1024x2816 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x2816 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Reference2Ideal.lean ====
abbrev S4x8192x1024 : Shape := ⟨3, ![4, 8192, 1024]⟩
abbrev S4x1x1024 : Shape := ⟨3, ![4, 1, 1024]⟩
abbrev S1024x2816 : Shape := ⟨2, ![1024, 2816]⟩
abbrev S2816x1024 : Shape := ⟨2, ![2816, 1024]⟩
abbrev S1024 : Shape := ⟨1, ![1024]⟩
abbrev S_ : Shape := ⟨0, ![]⟩
abbrev S4x8192x2816 : Shape := ⟨3, ![4, 8192, 2816]⟩
abbrev S4x8192 : Shape := ⟨2, ![4, 8192]⟩
abbrev S4x8192x1 : Shape := ⟨3, ![4, 8192, 1]⟩
abbrev S1x1x1024 : Shape := ⟨3, ![1, 1, 1024]⟩

abbrev nBuf : Space → Nat
  | .hbm => 70
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S4x1x1024, .f32⟩
  | .hbm, ⟨2, _⟩ => ⟨S4x1x1024, .f32⟩
  | .hbm, ⟨3, _⟩ => ⟨S4x1x1024, .f32⟩
  | .hbm, ⟨4, _⟩ => ⟨S1024x2816, .f32⟩
  | .hbm, ⟨5, _⟩ => ⟨S1024x2816, .f32⟩
  | .hbm, ⟨6, _⟩ => ⟨S2816x1024, .f32⟩
  | .hbm, ⟨7, _⟩ => ⟨S1024, .f32⟩
  | .hbm, ⟨8, _⟩ => ⟨S1024, .f32⟩
  | .hbm, ⟨9, _⟩ => ⟨S_, .f32⟩
  | .hbm, ⟨10, _⟩ => ⟨S4x1x1024, .f32⟩
  | .hbm, ⟨11, _⟩ => ⟨S4x1x1024, .f32⟩
  | .hbm, ⟨12, _⟩ => ⟨S4x8192x1024, .f32⟩
  | .hbm, ⟨13, _⟩ => ⟨S4x8192x1024, .f32⟩
  | .hbm, ⟨14, _⟩ => ⟨S4x8192x1024, .f32⟩
  | .hbm, ⟨15, _⟩ => ⟨S4x8192x1024, .f32⟩
  | .hbm, ⟨16, _⟩ => ⟨S4x8192x2816, .f32⟩
  | .hbm, ⟨17, _⟩ => ⟨S4x8192x2816, .f32⟩
  | .hbm, ⟨18, _⟩ => ⟨S4x8192x2816, .f32⟩
  | .hbm, ⟨19, _⟩ => ⟨S_, .f32⟩
  | .hbm, ⟨20, _⟩ => ⟨S4x8192x2816, .f32⟩
  | .hbm, ⟨21, _⟩ => ⟨S4x8192x2816, .f32⟩
  | .hbm, ⟨22, _⟩ => ⟨S_, .f32⟩
  | .hbm, ⟨23, _⟩ => ⟨S4x8192x2816, .f32⟩
  | .hbm, ⟨24, _⟩ => ⟨S4x8192x2816, .f32⟩
  | .hbm, ⟨25, _⟩ => ⟨S4x8192x2816, .f32⟩
  | .hbm, ⟨26, _⟩ => ⟨S4x8192x2816, .f32⟩
  | .hbm, ⟨27, _⟩ => ⟨S4x8192x2816, .f32⟩
  | .hbm, ⟨28, _⟩ => ⟨S4x8192x1024, .f32⟩
  | .hbm, ⟨29, _⟩ => ⟨S_, .f32⟩
  | .hbm, ⟨30, _⟩ => ⟨S4x8192x1024, .f32⟩
  | .hbm, ⟨31, _⟩ => ⟨S4x8192x1024, .f32⟩
  | .hbm, ⟨32, _⟩ => ⟨S_, .f32⟩
  | .hbm, ⟨33, _⟩ => ⟨S4x1x1024, .f32⟩
  | .hbm, ⟨34, _⟩ => ⟨S4x1x1024, .f32⟩
  | .hbm, ⟨35, _⟩ => ⟨S_, .f32⟩
  | .hbm, ⟨36, _⟩ => ⟨S4x1x1024, .f32⟩
  | .hbm, ⟨37, _⟩ => ⟨S4x1x1024, .f32⟩
  | .hbm, ⟨38, _⟩ => ⟨S4x8192x1024, .f32⟩
  | .hbm, ⟨39, _⟩ => ⟨S4x8192x1024, .f32⟩
  | .hbm, ⟨40, _⟩ => ⟨S4x8192x1024, .f32⟩
  | .hbm, ⟨41, _⟩ => ⟨S_, .f32⟩
  | .hbm, ⟨42, _⟩ => ⟨S4x8192, .f32⟩
  | .hbm, ⟨43, _⟩ => ⟨S4x8192x1, .f32⟩
  | .hbm, ⟨44, _⟩ => ⟨S_, .f32⟩
  | .hbm, ⟨45, _⟩ => ⟨S4x8192x1, .f32⟩
  | .hbm, ⟨46, _⟩ => ⟨S4x8192x1, .f32⟩
  | .hbm, ⟨47, _⟩ => ⟨S4x8192x1024, .f32⟩
  | .hbm, ⟨48, _⟩ => ⟨S4x8192x1024, .f32⟩
  | .hbm, ⟨49, _⟩ => ⟨S4x8192x1024, .f32⟩
  | .hbm, ⟨50, _⟩ => ⟨S_, .f32⟩
  | .hbm, ⟨51, _⟩ => ⟨S4x8192, .f32⟩
  | .hbm, ⟨52, _⟩ => ⟨S4x8192x1, .f32⟩
  | .hbm, ⟨53, _⟩ => ⟨S_, .f32⟩
  | .hbm, ⟨54, _⟩ => ⟨S4x8192x1, .f32⟩
  | .hbm, ⟨55, _⟩ => ⟨S4x8192x1, .f32⟩
  | .hbm, ⟨56, _⟩ => ⟨S4x8192x1024, .f32⟩
  | .hbm, ⟨57, _⟩ => ⟨S4x8192x1024, .f32⟩
  | .hbm, ⟨58, _⟩ => ⟨S_, .f32⟩
  | .hbm, ⟨59, _⟩ => ⟨S4x8192x1, .f32⟩
  | .hbm, ⟨60, _⟩ => ⟨S4x8192x1, .f32⟩
  | .hbm, ⟨61, _⟩ => ⟨S4x8192x1, .f32⟩
  | .hbm, ⟨62, _⟩ => ⟨S4x8192x1024, .f32⟩
  | .hbm, ⟨63, _⟩ => ⟨S4x8192x1024, .f32⟩
  | .hbm, ⟨64, _⟩ => ⟨S1x1x1024, .f32⟩
  | .hbm, ⟨65, _⟩ => ⟨S4x8192x1024, .f32⟩
  | .hbm, ⟨66, _⟩ => ⟨S4x8192x1024, .f32⟩
  | .hbm, ⟨67, _⟩ => ⟨S1x1x1024, .f32⟩
  | .hbm, ⟨68, _⟩ => ⟨S4x8192x1024, .f32⟩
  | .hbm, ⟨69, _⟩ => ⟨S4x8192x1024, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_call0_v0 : Ref sig .tc := ⟨.hbm, 17, rfl⟩
abbrev main_call0_v1 : Ref sig .tc := ⟨.hbm, 18, rfl⟩
abbrev main_call0_cst : Ref sig .tc := ⟨.hbm, 19, rfl⟩
abbrev main_call0_v2 : Ref sig .tc := ⟨.hbm, 20, rfl⟩
abbrev main_call0_v3 : Ref sig .tc := ⟨.hbm, 21, rfl⟩
abbrev main_call0_cst_0 : Ref sig .tc := ⟨.hbm, 22, rfl⟩
abbrev main_call0_v4 : Ref sig .tc := ⟨.hbm, 23, rfl⟩
abbrev main_call0_v5 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_cst_0 : Ref sig .tc := ⟨.hbm, 29, rfl⟩
abbrev main_v11 : Ref sig .tc := ⟨.hbm, 30, rfl⟩
abbrev main_v12 : Ref sig .tc := ⟨.hbm, 31, rfl⟩
abbrev main_cst_1 : Ref sig .tc := ⟨.hbm, 32, rfl⟩
abbrev main_v13 : Ref sig .tc := ⟨.hbm, 33, rfl⟩
abbrev main_v14 : Ref sig .tc := ⟨.hbm, 34, rfl⟩
abbrev main_cst_2 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_cst_3 : Ref sig .tc := ⟨.hbm, 41, rfl⟩
abbrev main_v20 : Ref sig .tc := ⟨.hbm, 42, rfl⟩
abbrev main_v21 : Ref sig .tc := ⟨.hbm, 43, rfl⟩
abbrev main_cst_4 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_cst_5 : Ref sig .tc := ⟨.hbm, 50, rfl⟩
abbrev main_v27 : Ref sig .tc := ⟨.hbm, 51, rfl⟩
abbrev main_v28 : Ref sig .tc := ⟨.hbm, 52, rfl⟩
abbrev main_cst_6 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_cst_7 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩

abbrev nD : Nat := 1
abbrev τ : Topo := Topo.v7x

variable {F : FTy → Type} [FloatOps F]
-- ==== Kernel3.lean ====
abbrev S4x8192x512 : Shape := ⟨3, ![4, 8192, 512]⟩
abbrev S4x32x256x256 : Shape := ⟨4, ![4, 32, 256, 256]⟩
abbrev S4x32x128x256 : Shape := ⟨4, ![4, 32, 128, 256]⟩
abbrev S4x256x8192 : Shape := ⟨3, ![4, 256, 8192]⟩
abbrev S1x256x256 : Shape := ⟨3, ![1, 256, 256]⟩
abbrev S1x32x256x128 : Shape := ⟨4, ![1, 32, 256, 128]⟩
abbrev S1x32x64x256 : Shape := ⟨4, ![1, 32, 64, 256]⟩
abbrev S1x128x256 : Shape := ⟨3, ![1, 128, 256]⟩
abbrev S1x512 : Shape := ⟨2, ![1, 512]⟩
abbrev S64x512 : Shape := ⟨2, ![64, 512]⟩
abbrev S256x256 : Shape := ⟨2, ![256, 256]⟩
abbrev S256x128 : Shape := ⟨2, ![256, 128]⟩
abbrev S512x128 : Shape := ⟨2, ![512, 128]⟩
abbrev S1x1x256x128 : Shape := ⟨4, ![1, 1, 256, 128]⟩
abbrev S256x512 : Shape := ⟨2, ![256, 512]⟩
abbrev S512 : Shape := ⟨1, ![512]⟩
abbrev S1x1x64x256 : Shape := ⟨4, ![1, 1, 64, 256]⟩
abbrev S64x256 : Shape := ⟨2, ![64, 256]⟩
abbrev S1x64x256 : Shape := ⟨3, ![1, 64, 256]⟩

abbrev nBuf : Space → Nat
  | .hbm => 4
  | .vmem => 11
  | .smem => 0
  | _ => 0

abbrev bufTy : (tb : Table) → Fin (tcTables nBuf tb) → BufTy
  | .hbm, ⟨0, _⟩ => ⟨S4x8192x512, .bf16⟩
  | .hbm, ⟨1, _⟩ => ⟨S4x32x256x256, .bf16⟩
  | .hbm, ⟨2, _⟩ => ⟨S4x32x128x256, .bf16⟩
  | .hbm, ⟨3, _⟩ => ⟨S4x256x8192, .f32⟩
  | .local _ .vmem, ⟨0, _⟩ => ⟨S1x256x256, .bf16⟩
  | .local _ .vmem, ⟨1, _⟩ => ⟨S1x256x256, .bf16⟩
  | .local _ .vmem, ⟨2, _⟩ => ⟨S1x32x256x128, .bf16⟩
  | .local _ .vmem, ⟨3, _⟩ => ⟨S1x32x256x128, .bf16⟩
  | .local _ .vmem, ⟨4, _⟩ => ⟨S1x32x64x256, .bf16⟩
  | .local _ .vmem, ⟨5, _⟩ => ⟨S1x32x64x256, .bf16⟩
  | .local _ .vmem, ⟨6, _⟩ => ⟨S1x128x256, .f32⟩
  | .local _ .vmem, ⟨7, _⟩ => ⟨S1x128x256, .f32⟩
  | .local _ .vmem, ⟨8, _⟩ => ⟨S1x512, .f32⟩
  | .local _ .vmem, ⟨9, _⟩ => ⟨S1x512, .f32⟩
  | .local _ .vmem, ⟨10, _⟩ => ⟨S64x512, .f32⟩
  | _, _ => ⟨S4x8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 32], ![false, false, false]⟩

@[reducible] def k0_t1_loop (i : grid0.Coords) : Scf.Loop 32 :=
  let c0_i32_22 : BitVec 32 := 0#32
  let arg2 : BitVec 32 := BitVec.ofNat 32 (i 2).val
  let c256_i32 : BitVec 32 := 256#32
  let v17 : BitVec 32 := Scalar.muli arg2 c256_i32
  let c0_i32 : BitVec 32 := 0#32
  let v19 : BitVec 1 := Scalar.cmpi .sgt v17 c0_i32
  let v20 : BitVec 32 := Scalar.extui v19
  let c0_i32_11 : BitVec 32 := 0#32
  let v21 : BitVec 1 := Scalar.cmpi .slt v17 c0_i32_11
  let v22 : BitVec 32 := Scalar.extui v21
  let v23 : BitVec 32 := Scalar.subi v20 v22
  let c256_i32_10 : BitVec 32 := 256#32
  let c0_i32_12 : BitVec 32 := 0#32
  let v24 : BitVec 1 := Scalar.cmpi .sgt c256_i32_10 c0_i32_12
  let v25 : BitVec 32 := Scalar.extui v24
  let c0_i32_13 : BitVec 32 := 0#32
  let v26 : BitVec 1 := Scalar.cmpi .slt c256_i32_10 c0_i32_13
  let v27 : BitVec 32 := Scalar.extui v26
  let v28 : BitVec 32 := Scalar.subi v25 v27
  let v29 : BitVec 1 := Scalar.cmpi .ne v23 v28
  let v30 : BitVec 32 := Scalar.remsi v17 c256_i32_10
  let c0_i32_14 : BitVec 32 := 0#32
  let v31 : BitVec 1 := Scalar.cmpi .ne v30 c0_i32_14
  let v32 : BitVec 1 := Scalar.andi v29 v31
  let v18 : BitVec 32 := Scalar.divsi v17 c256_i32_10
  let c1_i32 : BitVec 32 := 1#32
  let v33 : BitVec 32 := Scalar.subi v18 c1_i32
  let v34 : BitVec 32 := Scalar.select v32 v33 v18
  let c0_i32_15 : BitVec 32 := 0#32
  let v36 : BitVec 1 := Scalar.cmpi .sgt v34 c0_i32_15
  let v37 : BitVec 32 := Scalar.extui v36
  let c0_i32_16 : BitVec 32 := 0#32
  let v38 : BitVec 1 := Scalar.cmpi .slt v34 c0_i32_16
  let v39 : BitVec 32 := Scalar.extui v38
  let v40 : BitVec 32 := Scalar.subi v37 v39
  let c4_i32 : BitVec 32 := 4#32
  let c0_i32_17 : BitVec 32 := 0#32
  let v41 : BitVec 1 := Scalar.cmpi .sgt c4_i32 c0_i32_17
  let v42 : BitVec 32 := Scalar.extui v41
  let c0_i32_18 : BitVec 32 := 0#32
  let v43 : BitVec 1 := Scalar.cmpi .slt c4_i32 c0_i32_18
  let v44 : BitVec 32 := Scalar.extui v43
  let v45 : BitVec 32 := Scalar.subi v42 v44
  let v46 : BitVec 1 := Scalar.cmpi .ne v40 v45
  let v47 : BitVec 32 := Scalar.remsi v34 c4_i32
  let c0_i32_19 : BitVec 32 := 0#32
  let v48 : BitVec 1 := Scalar.cmpi .ne v47 c0_i32_19
  let v49 : BitVec 1 := Scalar.andi v46 v48
  let v35 : BitVec 32 := Scalar.divsi v34 c4_i32
  let c1_i32_20 : BitVec 32 := 1#32
  let v50 : BitVec 32 := Scalar.subi v35 c1_i32_20
  let v51 : BitVec 32 := Scalar.select v49 v50 v35
  let v52 : BitVec 32 := Scalar.subi v51 c0_i32_22
  let c1_i32_23 : BitVec 32 := 1#32
  let v54 : BitVec 32 := Scalar.divsi v52 c1_i32_23
  let v55 : BitVec 32 := Scalar.muli v54 c1_i32_23
  let v56 : BitVec 32 := Scalar.addi c0_i32_22 v55
  let c1_i32_24 : BitVec 32 := 1#32
  ⟨c0_i32_22, v56, c1_i32_24⟩
def k0_off1 (i : grid0.Coords) (k0_t1 : Fin (k0_t1_loop i).trips) (c0_i32_63 : BitVec 32) : Fin 4 → Nat :=
  let c0_70 : Index := 0#32
  let c4_i32_62 : BitVec 32 := 4#32
  let c0_i32_22 : BitVec 32 := 0#32
  let c1_i32_24 : BitVec 32 := 1#32
  let arg10 : BitVec 32 := Scf.iv c0_i32_22 c1_i32_24 k0_t1
  let v103 : BitVec 32 := Scalar.muli c4_i32_62 arg10
  let v104 : BitVec 32 := Scalar.addi v103 c0_i32_63
  let v111 : Index := Scalar.indexCast v104
  let c0_71 : Index := 0#32
  let c0_72 : Index := 0#32
  ![0, v111.toNat, 0, 0]
def k0_off2 (i : grid0.Coords) (k0_t1 : Fin (k0_t1_loop i).trips) (c0_i32_63 : BitVec 32) : Fin 4 → Nat :=
  let c0_97 : Index := 0#32
  let c4_i32_62 : BitVec 32 := 4#32
  let c0_i32_22 : BitVec 32 := 0#32
  let c1_i32_24 : BitVec 32 := 1#32
  let arg10 : BitVec 32 := Scf.iv c0_i32_22 c1_i32_24 k0_t1
  let v103 : BitVec 32 := Scalar.muli c4_i32_62 arg10
  let v104 : BitVec 32 := Scalar.addi v103 c0_i32_63
  let v153 : Index := Scalar.indexCast v104
  let c0_98 : Index := 0#32
  let c0_99 : Index := 0#32
  ![0, v153.toNat, 0, 0]
@[reducible] def k0_t2_loop (i : grid0.Coords) : Scf.Loop 32 :=
  let c0_i32_22 : BitVec 32 := 0#32
  let arg2 : BitVec 32 := BitVec.ofNat 32 (i 2).val
  let c256_i32 : BitVec 32 := 256#32
  let v17 : BitVec 32 := Scalar.muli arg2 c256_i32
  let c0_i32 : BitVec 32 := 0#32
  let v19 : BitVec 1 := Scalar.cmpi .sgt v17 c0_i32
  let v20 : BitVec 32 := Scalar.extui v19
  let c0_i32_11 : BitVec 32 := 0#32
  let v21 : BitVec 1 := Scalar.cmpi .slt v17 c0_i32_11
  let v22 : BitVec 32 := Scalar.extui v21
  let v23 : BitVec 32 := Scalar.subi v20 v22
  let c256_i32_10 : BitVec 32 := 256#32
  let c0_i32_12 : BitVec 32 := 0#32
  let v24 : BitVec 1 := Scalar.cmpi .sgt c256_i32_10 c0_i32_12
  let v25 : BitVec 32 := Scalar.extui v24
  let c0_i32_13 : BitVec 32 := 0#32
  let v26 : BitVec 1 := Scalar.cmpi .slt c256_i32_10 c0_i32_13
  let v27 : BitVec 32 := Scalar.extui v26
  let v28 : BitVec 32 := Scalar.subi v25 v27
  let v29 : BitVec 1 := Scalar.cmpi .ne v23 v28
  let v30 : BitVec 32 := Scalar.remsi v17 c256_i32_10
  let c0_i32_14 : BitVec 32 := 0#32
  let v31 : BitVec 1 := Scalar.cmpi .ne v30 c0_i32_14
  let v32 : BitVec 1 := Scalar.andi v29 v31
  let v18 : BitVec 32 := Scalar.divsi v17 c256_i32_10
  let c1_i32 : BitVec 32 := 1#32
  let v33 : BitVec 32 := Scalar.subi v18 c1_i32
  let v34 : BitVec 32 := Scalar.select v32 v33 v18
  let c0_i32_15 : BitVec 32 := 0#32
  let v36 : BitVec 1 := Scalar.cmpi .sgt v34 c0_i32_15
  let v37 : BitVec 32 := Scalar.extui v36
  let c0_i32_16 : BitVec 32 := 0#32
  let v38 : BitVec 1 := Scalar.cmpi .slt v34 c0_i32_16
  let v39 : BitVec 32 := Scalar.extui v38
  let v40 : BitVec 32 := Scalar.subi v37 v39
  let c4_i32 : BitVec 32 := 4#32
  let c0_i32_17 : BitVec 32 := 0#32
  let v41 : BitVec 1 := Scalar.cmpi .sgt c4_i32 c0_i32_17
  let v42 : BitVec 32 := Scalar.extui v41
  let c0_i32_18 : BitVec 32 := 0#32
  let v43 : BitVec 1 := Scalar.cmpi .slt c4_i32 c0_i32_18
  let v44 : BitVec 32 := Scalar.extui v43
  let v45 : BitVec 32 := Scalar.subi v42 v44
  let v46 : BitVec 1 := Scalar.cmpi .ne v40 v45
  let v47 : BitVec 32 := Scalar.remsi v34 c4_i32
  let c0_i32_19 : BitVec 32 := 0#32
  let v48 : BitVec 1 := Scalar.cmpi .ne v47 c0_i32_19
  let v49 : BitVec 1 := Scalar.andi v46 v48
  let v35 : BitVec 32 := Scalar.divsi v34 c4_i32
  let c1_i32_20 : BitVec 32 := 1#32
  let v50 : BitVec 32 := Scalar.subi v35 c1_i32_20
  let v51 : BitVec 32 := Scalar.select v49 v50 v35
  let v52 : BitVec 32 := Scalar.subi v51 c0_i32_22
  let c1_i32_23 : BitVec 32 := 1#32
  let v54 : BitVec 32 := Scalar.divsi v52 c1_i32_23
  let v55 : BitVec 32 := Scalar.muli v54 c1_i32_23
  let v56 : BitVec 32 := Scalar.addi c0_i32_22 v55
  let v53 : BitVec 32 := Scalar.addi c0_i32_22 v52
  let c1_i32_25 : BitVec 32 := 1#32
  ⟨v56, v53, c1_i32_25⟩
def k0_off3 (i : grid0.Coords) (k0_t2 : Fin (k0_t2_loop i).trips) (c0_i32_63 : BitVec 32) : Fin 4 → Nat :=
  let c0_70 : Index := 0#32
  let c4_i32_62 : BitVec 32 := 4#32
  let c0_i32_22 : BitVec 32 := 0#32
  let arg2 : BitVec 32 := BitVec.ofNat 32 (i 2).val
  let c256_i32 : BitVec 32 := 256#32
  let v17 : BitVec 32 := Scalar.muli arg2 c256_i32
  let c0_i32 : BitVec 32 := 0#32
  let v19 : BitVec 1 := Scalar.cmpi .sgt v17 c0_i32
  let v20 : BitVec 32 := Scalar.extui v19
  let c0_i32_11 : BitVec 32 := 0#32
  let v21 : BitVec 1 := Scalar.cmpi .slt v17 c0_i32_11
  let v22 : BitVec 32 := Scalar.extui v21
  let v23 : BitVec 32 := Scalar.subi v20 v22
  let c256_i32_10 : BitVec 32 := 256#32
  let c0_i32_12 : BitVec 32 := 0#32
  let v24 : BitVec 1 := Scalar.cmpi .sgt c256_i32_10 c0_i32_12
  let v25 : BitVec 32 := Scalar.extui v24
  let c0_i32_13 : BitVec 32 := 0#32
  let v26 : BitVec 1 := Scalar.cmpi .slt c256_i32_10 c0_i32_13
  let v27 : BitVec 32 := Scalar.extui v26
  let v28 : BitVec 32 := Scalar.subi v25 v27
  let v29 : BitVec 1 := Scalar.cmpi .ne v23 v28
  let v30 : BitVec 32 := Scalar.remsi v17 c256_i32_10
  let c0_i32_14 : BitVec 32 := 0#32
  let v31 : BitVec 1 := Scalar.cmpi .ne v30 c0_i32_14
  let v32 : BitVec 1 := Scalar.andi v29 v31
  let v18 : BitVec 32 := Scalar.divsi v17 c256_i32_10
  let c1_i32 : BitVec 32 := 1#32
  let v33 : BitVec 32 := Scalar.subi v18 c1_i32
  let v34 : BitVec 32 := Scalar.select v32 v33 v18
  let c0_i32_15 : BitVec 32 := 0#32
  let v36 : BitVec 1 := Scalar.cmpi .sgt v34 c0_i32_15
  let v37 : BitVec 32 := Scalar.extui v36
  let c0_i32_16 : BitVec 32 := 0#32
  let v38 : BitVec 1 := Scalar.cmpi .slt v34 c0_i32_16
  let v39 : BitVec 32 := Scalar.extui v38
  let v40 : BitVec 32 := Scalar.subi v37 v39
  let c4_i32 : BitVec 32 := 4#32
  let c0_i32_17 : BitVec 32 := 0#32
  let v41 : BitVec 1 := Scalar.cmpi .sgt c4_i32 c0_i32_17
  let v42 : BitVec 32 := Scalar.extui v41
  let c0_i32_18 : BitVec 32 := 0#32
  let v43 : BitVec 1 := Scalar.cmpi .slt c4_i32 c0_i32_18
  let v44 : BitVec 32 := Scalar.extui v43
  let v45 : BitVec 32 := Scalar.subi v42 v44
  let v46 : BitVec 1 := Scalar.cmpi .ne v40 v45
  let v47 : BitVec 32 := Scalar.remsi v34 c4_i32
  let c0_i32_19 : BitVec 32 := 0#32
  let v48 : BitVec 1 := Scalar.cmpi .ne v47 c0_i32_19
  let v49 : BitVec 1 := Scalar.andi v46 v48
  let v35 : BitVec 32 := Scalar.divsi v34 c4_i32
  let c1_i32_20 : BitVec 32 := 1#32
  let v50 : BitVec 32 := Scalar.subi v35 c1_i32_20
  let v51 : BitVec 32 := Scalar.select v49 v50 v35
  let v52 : BitVec 32 := Scalar.subi v51 c0_i32_22
  let c1_i32_23 : BitVec 32 := 1#32
  let v54 : BitVec 32 := Scalar.divsi v52 c1_i32_23
  let v55 : BitVec 32 := Scalar.muli v54 c1_i32_23
  let v56 : BitVec 32 := Scalar.addi c0_i32_22 v55
  let c1_i32_25 : BitVec 32 := 1#32
  let arg10 : BitVec 32 := Scf.iv v56 c1_i32_25 k0_t2
  let v103 : BitVec 32 := Scalar.muli c4_i32_62 arg10
  let v104 : BitVec 32 := Scalar.addi v103 c0_i32_63
  let v111 : Index := Scalar.indexCast v104
  let c0_71 : Index := 0#32
  let c0_72 : Index := 0#32
  ![0, v111.toNat, 0, 0]
def k0_off4 (i : grid0.Coords) (k0_t2 : Fin (k0_t2_loop i).trips) (c0_i32_63 : BitVec 32) : Fin 4 → Nat :=
  let c0_97 : Index := 0#32
  let c4_i32_62 : BitVec 32 := 4#32
  let c0_i32_22 : BitVec 32 := 0#32
  let arg2 : BitVec 32 := BitVec.ofNat 32 (i 2).val
  let c256_i32 : BitVec 32 := 256#32
  let v17 : BitVec 32 := Scalar.muli arg2 c256_i32
  let c0_i32 : BitVec 32 := 0#32
  let v19 : BitVec 1 := Scalar.cmpi .sgt v17 c0_i32
  let v20 : BitVec 32 := Scalar.extui v19
  let c0_i32_11 : BitVec 32 := 0#32
  let v21 : BitVec 1 := Scalar.cmpi .slt v17 c0_i32_11
  let v22 : BitVec 32 := Scalar.extui v21
  let v23 : BitVec 32 := Scalar.subi v20 v22
  let c256_i32_10 : BitVec 32 := 256#32
  let c0_i32_12 : BitVec 32 := 0#32
  let v24 : BitVec 1 := Scalar.cmpi .sgt c256_i32_10 c0_i32_12
  let v25 : BitVec 32 := Scalar.extui v24
  let c0_i32_13 : BitVec 32 := 0#32
  let v26 : BitVec 1 := Scalar.cmpi .slt c256_i32_10 c0_i32_13
  let v27 : BitVec 32 := Scalar.extui v26
  let v28 : BitVec 32 := Scalar.subi v25 v27
  let v29 : BitVec 1 := Scalar.cmpi .ne v23 v28
  let v30 : BitVec 32 := Scalar.remsi v17 c256_i32_10
  let c0_i32_14 : BitVec 32 := 0#32
  let v31 : BitVec 1 := Scalar.cmpi .ne v30 c0_i32_14
  let v32 : BitVec 1 := Scalar.andi v29 v31
  let v18 : BitVec 32 := Scalar.divsi v17 c256_i32_10
  let c1_i32 : BitVec 32 := 1#32
  let v33 : BitVec 32 := Scalar.subi v18 c1_i32
  let v34 : BitVec 32 := Scalar.select v32 v33 v18
  let c0_i32_15 : BitVec 32 := 0#32
  let v36 : BitVec 1 := Scalar.cmpi .sgt v34 c0_i32_15
  let v37 : BitVec 32 := Scalar.extui v36
  let c0_i32_16 : BitVec 32 := 0#32
  let v38 : BitVec 1 := Scalar.cmpi .slt v34 c0_i32_16
  let v39 : BitVec 32 := Scalar.extui v38
  let v40 : BitVec 32 := Scalar.subi v37 v39
  let c4_i32 : BitVec 32 := 4#32
  let c0_i32_17 : BitVec 32 := 0#32
  let v41 : BitVec 1 := Scalar.cmpi .sgt c4_i32 c0_i32_17
  let v42 : BitVec 32 := Scalar.extui v41
  let c0_i32_18 : BitVec 32 := 0#32
  let v43 : BitVec 1 := Scalar.cmpi .slt c4_i32 c0_i32_18
  let v44 : BitVec 32 := Scalar.extui v43
  let v45 : BitVec 32 := Scalar.subi v42 v44
  let v46 : BitVec 1 := Scalar.cmpi .ne v40 v45
  let v47 : BitVec 32 := Scalar.remsi v34 c4_i32
  let c0_i32_19 : BitVec 32 := 0#32
  let v48 : BitVec 1 := Scalar.cmpi .ne v47 c0_i32_19
  let v49 : BitVec 1 := Scalar.andi v46 v48
  let v35 : BitVec 32 := Scalar.divsi v34 c4_i32
  let c1_i32_20 : BitVec 32 := 1#32
  let v50 : BitVec 32 := Scalar.subi v35 c1_i32_20
  let v51 : BitVec 32 := Scalar.select v49 v50 v35
  let v52 : BitVec 32 := Scalar.subi v51 c0_i32_22
  let c1_i32_23 : BitVec 32 := 1#32
  let v54 : BitVec 32 := Scalar.divsi v52 c1_i32_23
  let v55 : BitVec 32 := Scalar.muli v54 c1_i32_23
  let v56 : BitVec 32 := Scalar.addi c0_i32_22 v55
  let c1_i32_25 : BitVec 32 := 1#32
  let arg10 : BitVec 32 := Scf.iv v56 c1_i32_25 k0_t2
  let v103 : BitVec 32 := Scalar.muli c4_i32_62 arg10
  let v104 : BitVec 32 := Scalar.addi v103 c0_i32_63
  let v153 : Index := Scalar.indexCast v104
  let c0_98 : Index := 0#32
  let c0_99 : Index := 0#32
  ![0, v153.toNat, 0, 0]
def k0_cond1 (i : grid0.Coords) : BitVec 1 :=
  let arg2 : BitVec 32 := BitVec.ofNat 32 (i 2).val
  let c256_i32 : BitVec 32 := 256#32
  let v17 : BitVec 32 := Scalar.muli arg2 c256_i32
  let c0_i32 : BitVec 32 := 0#32
  let v19 : BitVec 1 := Scalar.cmpi .sgt v17 c0_i32
  let v20 : BitVec 32 := Scalar.extui v19
  let c0_i32_11 : BitVec 32 := 0#32
  let v21 : BitVec 1 := Scalar.cmpi .slt v17 c0_i32_11
  let v22 : BitVec 32 := Scalar.extui v21
  let v23 : BitVec 32 := Scalar.subi v20 v22
  let c256_i32_10 : BitVec 32 := 256#32
  let c0_i32_12 : BitVec 32 := 0#32
  let v24 : BitVec 1 := Scalar.cmpi .sgt c256_i32_10 c0_i32_12
  let v25 : BitVec 32 := Scalar.extui v24
  let c0_i32_13 : BitVec 32 := 0#32
  let v26 : BitVec 1 := Scalar.cmpi .slt c256_i32_10 c0_i32_13
  let v27 : BitVec 32 := Scalar.extui v26
  let v28 : BitVec 32 := Scalar.subi v25 v27
  let v29 : BitVec 1 := Scalar.cmpi .ne v23 v28
  let v30 : BitVec 32 := Scalar.remsi v17 c256_i32_10
  let c0_i32_14 : BitVec 32 := 0#32
  let v31 : BitVec 1 := Scalar.cmpi .ne v30 c0_i32_14
  let v32 : BitVec 1 := Scalar.andi v29 v31
  let v18 : BitVec 32 := Scalar.divsi v17 c256_i32_10
  let c1_i32 : BitVec 32 := 1#32
  let v33 : BitVec 32 := Scalar.subi v18 c1_i32
  let v34 : BitVec 32 := Scalar.select v32 v33 v18
  let c0_i32_15 : BitVec 32 := 0#32
  let v36 : BitVec 1 := Scalar.cmpi .sgt v34 c0_i32_15
  let v37 : BitVec 32 := Scalar.extui v36
  let c0_i32_16 : BitVec 32 := 0#32
  let v38 : BitVec 1 := Scalar.cmpi .slt v34 c0_i32_16
  let v39 : BitVec 32 := Scalar.extui v38
  let v40 : BitVec 32 := Scalar.subi v37 v39
  let c4_i32 : BitVec 32 := 4#32
  let c0_i32_17 : BitVec 32 := 0#32
  let v41 : BitVec 1 := Scalar.cmpi .sgt c4_i32 c0_i32_17
  let v42 : BitVec 32 := Scalar.extui v41
  let c0_i32_18 : BitVec 32 := 0#32
  let v43 : BitVec 1 := Scalar.cmpi .slt c4_i32 c0_i32_18
  let v44 : BitVec 32 := Scalar.extui v43
  let v45 : BitVec 32 := Scalar.subi v42 v44
  let v46 : BitVec 1 := Scalar.cmpi .ne v40 v45
  let v47 : BitVec 32 := Scalar.remsi v34 c4_i32
  let c0_i32_19 : BitVec 32 := 0#32
  let v48 : BitVec 1 := Scalar.cmpi .ne v47 c0_i32_19
  let v49 : BitVec 1 := Scalar.andi v46 v48
  let v35 : BitVec 32 := Scalar.divsi v34 c4_i32
  let c1_i32_20 : BitVec 32 := 1#32
  let v50 : BitVec 32 := Scalar.subi v35 c1_i32_20
  let v51 : BitVec 32 := Scalar.select v49 v50 v35
  let c4_i32_26 : BitVec 32 := 4#32
  let v57 : BitVec 32 := Scalar.muli v51 c4_i32_26
  let v58 : BitVec 32 := Scalar.subi v34 v57
  let c0_i32_27 : BitVec 32 := 0#32
  let v59 : BitVec 1 := Scalar.cmpi .eq v58 c0_i32_27
  let v62 : BitVec 32 := Scalar.extui v59
  let c0_i32_30 : BitVec 32 := 0#32
  let v63 : BitVec 1 := Scalar.cmpi .ne v62 c0_i32_30
  v63

def k0_off5 (i : grid0.Coords) : Fin 4 → Nat :=
  let c0_62 : Index := 0#32
  let arg2 : BitVec 32 := BitVec.ofNat 32 (i 2).val
  let c256_i32 : BitVec 32 := 256#32
  let v17 : BitVec 32 := Scalar.muli arg2 c256_i32
  let c0_i32 : BitVec 32 := 0#32
  let v19 : BitVec 1 := Scalar.cmpi .sgt v17 c0_i32
  let v20 : BitVec 32 := Scalar.extui v19
  let c0_i32_11 : BitVec 32 := 0#32
  let v21 : BitVec 1 := Scalar.cmpi .slt v17 c0_i32_11
  let v22 : BitVec 32 := Scalar.extui v21
  let v23 : BitVec 32 := Scalar.subi v20 v22
  let c256_i32_10 : BitVec 32 := 256#32
  let c0_i32_12 : BitVec 32 := 0#32
  let v24 : BitVec 1 := Scalar.cmpi .sgt c256_i32_10 c0_i32_12
  let v25 : BitVec 32 := Scalar.extui v24
  let c0_i32_13 : BitVec 32 := 0#32
  let v26 : BitVec 1 := Scalar.cmpi .slt c256_i32_10 c0_i32_13
  let v27 : BitVec 32 := Scalar.extui v26
  let v28 : BitVec 32 := Scalar.subi v25 v27
  let v29 : BitVec 1 := Scalar.cmpi .ne v23 v28
  let v30 : BitVec 32 := Scalar.remsi v17 c256_i32_10
  let c0_i32_14 : BitVec 32 := 0#32
  let v31 : BitVec 1 := Scalar.cmpi .ne v30 c0_i32_14
  let v32 : BitVec 1 := Scalar.andi v29 v31
  let v18 : BitVec 32 := Scalar.divsi v17 c256_i32_10
  let c1_i32 : BitVec 32 := 1#32
  let v33 : BitVec 32 := Scalar.subi v18 c1_i32
  let v34 : BitVec 32 := Scalar.select v32 v33 v18
  let c0_i32_28 : BitVec 32 := 0#32
  let v60 : BitVec 32 := Scalar.subi v34 c0_i32_28
  let c0_i32_29 : BitVec 32 := 0#32
  let v61 : BitVec 32 := Scalar.addi v60 c0_i32_29
  let v103 : Index := Scalar.indexCast v61
  let c0_63 : Index := 0#32
  let c0_64 : Index := 0#32
  ![0, v103.toNat, 0, 0]
def k0_off6 (i : grid0.Coords) : Fin 4 → Nat :=
  let c0_77 : Index := 0#32
  let arg2 : BitVec 32 := BitVec.ofNat 32 (i 2).val
  let c256_i32 : BitVec 32 := 256#32
  let v17 : BitVec 32 := Scalar.muli arg2 c256_i32
  let c0_i32 : BitVec 32 := 0#32
  let v19 : BitVec 1 := Scalar.cmpi .sgt v17 c0_i32
  let v20 : BitVec 32 := Scalar.extui v19
  let c0_i32_11 : BitVec 32 := 0#32
  let v21 : BitVec 1 := Scalar.cmpi .slt v17 c0_i32_11
  let v22 : BitVec 32 := Scalar.extui v21
  let v23 : BitVec 32 := Scalar.subi v20 v22
  let c256_i32_10 : BitVec 32 := 256#32
  let c0_i32_12 : BitVec 32 := 0#32
  let v24 : BitVec 1 := Scalar.cmpi .sgt c256_i32_10 c0_i32_12
  let v25 : BitVec 32 := Scalar.extui v24
  let c0_i32_13 : BitVec 32 := 0#32
  let v26 : BitVec 1 := Scalar.cmpi .slt c256_i32_10 c0_i32_13
  let v27 : BitVec 32 := Scalar.extui v26
  let v28 : BitVec 32 := Scalar.subi v25 v27
  let v29 : BitVec 1 := Scalar.cmpi .ne v23 v28
  let v30 : BitVec 32 := Scalar.remsi v17 c256_i32_10
  let c0_i32_14 : BitVec 32 := 0#32
  let v31 : BitVec 1 := Scalar.cmpi .ne v30 c0_i32_14
  let v32 : BitVec 1 := Scalar.andi v29 v31
  let v18 : BitVec 32 := Scalar.divsi v17 c256_i32_10
  let c1_i32 : BitVec 32 := 1#32
  let v33 : BitVec 32 := Scalar.subi v18 c1_i32
  let v34 : BitVec 32 := Scalar.select v32 v33 v18
  let c0_i32_28 : BitVec 32 := 0#32
  let v60 : BitVec 32 := Scalar.subi v34 c0_i32_28
  let c0_i32_29 : BitVec 32 := 0#32
  let v61 : BitVec 32 := Scalar.addi v60 c0_i32_29
  let v136 : Index := Scalar.indexCast v61
  let c0_78 : Index := 0#32
  let c0_79 : Index := 0#32
  ![0, v136.toNat, 0, 0]
def k0_cond2 (i : grid0.Coords) : BitVec 1 :=
  let arg2 : BitVec 32 := BitVec.ofNat 32 (i 2).val
  let c256_i32 : BitVec 32 := 256#32
  let v17 : BitVec 32 := Scalar.muli arg2 c256_i32
  let c0_i32 : BitVec 32 := 0#32
  let v19 : BitVec 1 := Scalar.cmpi .sgt v17 c0_i32
  let v20 : BitVec 32 := Scalar.extui v19
  let c0_i32_11 : BitVec 32 := 0#32
  let v21 : BitVec 1 := Scalar.cmpi .slt v17 c0_i32_11
  let v22 : BitVec 32 := Scalar.extui v21
  let v23 : BitVec 32 := Scalar.subi v20 v22
  let c256_i32_10 : BitVec 32 := 256#32
  let c0_i32_12 : BitVec 32 := 0#32
  let v24 : BitVec 1 := Scalar.cmpi .sgt c256_i32_10 c0_i32_12
  let v25 : BitVec 32 := Scalar.extui v24
  let c0_i32_13 : BitVec 32 := 0#32
  let v26 : BitVec 1 := Scalar.cmpi .slt c256_i32_10 c0_i32_13
  let v27 : BitVec 32 := Scalar.extui v26
  let v28 : BitVec 32 := Scalar.subi v25 v27
  let v29 : BitVec 1 := Scalar.cmpi .ne v23 v28
  let v30 : BitVec 32 := Scalar.remsi v17 c256_i32_10
  let c0_i32_14 : BitVec 32 := 0#32
  let v31 : BitVec 1 := Scalar.cmpi .ne v30 c0_i32_14
  let v32 : BitVec 1 := Scalar.andi v29 v31
  let v18 : BitVec 32 := Scalar.divsi v17 c256_i32_10
  let c1_i32 : BitVec 32 := 1#32
  let v33 : BitVec 32 := Scalar.subi v18 c1_i32
  let v34 : BitVec 32 := Scalar.select v32 v33 v18
  let c0_i32_15 : BitVec 32 := 0#32
  let v36 : BitVec 1 := Scalar.cmpi .sgt v34 c0_i32_15
  let v37 : BitVec 32 := Scalar.extui v36
  let c0_i32_16 : BitVec 32 := 0#32
  let v38 : BitVec 1 := Scalar.cmpi .slt v34 c0_i32_16
  let v39 : BitVec 32 := Scalar.extui v38
  let v40 : BitVec 32 := Scalar.subi v37 v39
  let c4_i32 : BitVec 32 := 4#32
  let c0_i32_17 : BitVec 32 := 0#32
  let v41 : BitVec 1 := Scalar.cmpi .sgt c4_i32 c0_i32_17
  let v42 : BitVec 32 := Scalar.extui v41
  let c0_i32_18 : BitVec 32 := 0#32
  let v43 : BitVec 1 := Scalar.cmpi .slt c4_i32 c0_i32_18
  let v44 : BitVec 32 := Scalar.extui v43
  let v45 : BitVec 32 := Scalar.subi v42 v44
  let v46 : BitVec 1 := Scalar.cmpi .ne v40 v45
  let v47 : BitVec 32 := Scalar.remsi v34 c4_i32
  let c0_i32_19 : BitVec 32 := 0#32
  let v48 : BitVec 1 := Scalar.cmpi .ne v47 c0_i32_19
  let v49 : BitVec 1 := Scalar.andi v46 v48
  let v35 : BitVec 32 := Scalar.divsi v34 c4_i32
  let c1_i32_20 : BitVec 32 := 1#32
  let v50 : BitVec 32 := Scalar.subi v35 c1_i32_20
  let v51 : BitVec 32 := Scalar.select v49 v50 v35
  let c4_i32_26 : BitVec 32 := 4#32
  let v57 : BitVec 32 := Scalar.muli v51 c4_i32_26
  let v58 : BitVec 32 := Scalar.subi v34 v57
  let c1_i32_31 : BitVec 32 := 1#32
  let v64 : BitVec 1 := Scalar.cmpi .eq v58 c1_i32_31
  let v69 : BitVec 32 := Scalar.extui v64
  let c0_i32_36 : BitVec 32 := 0#32
  let v70 : BitVec 1 := Scalar.cmpi .ne v69 c0_i32_36
  v70

def k0_off7 (i : grid0.Coords) (c0_i32_33 : BitVec 32) : Fin 4 → Nat :=
  let c0_62 : Index := 0#32
  let arg2 : BitVec 32 := BitVec.ofNat 32 (i 2).val
  let c256_i32 : BitVec 32 := 256#32
  let v17 : BitVec 32 := Scalar.muli arg2 c256_i32
  let c0_i32 : BitVec 32 := 0#32
  let v19 : BitVec 1 := Scalar.cmpi .sgt v17 c0_i32
  let v20 : BitVec 32 := Scalar.extui v19
  let c0_i32_11 : BitVec 32 := 0#32
  let v21 : BitVec 1 := Scalar.cmpi .slt v17 c0_i32_11
  let v22 : BitVec 32 := Scalar.extui v21
  let v23 : BitVec 32 := Scalar.subi v20 v22
  let c256_i32_10 : BitVec 32 := 256#32
  let c0_i32_12 : BitVec 32 := 0#32
  let v24 : BitVec 1 := Scalar.cmpi .sgt c256_i32_10 c0_i32_12
  let v25 : BitVec 32 := Scalar.extui v24
  let c0_i32_13 : BitVec 32 := 0#32
  let v26 : BitVec 1 := Scalar.cmpi .slt c256_i32_10 c0_i32_13
  let v27 : BitVec 32 := Scalar.extui v26
  let v28 : BitVec 32 := Scalar.subi v25 v27
  let v29 : BitVec 1 := Scalar.cmpi .ne v23 v28
  let v30 : BitVec 32 := Scalar.remsi v17 c256_i32_10
  let c0_i32_14 : BitVec 32 := 0#32
  let v31 : BitVec 1 := Scalar.cmpi .ne v30 c0_i32_14
  let v32 : BitVec 1 := Scalar.andi v29 v31
  let v18 : BitVec 32 := Scalar.divsi v17 c256_i32_10
  let c1_i32 : BitVec 32 := 1#32
  let v33 : BitVec 32 := Scalar.subi v18 c1_i32
  let v34 : BitVec 32 := Scalar.select v32 v33 v18
  let c1_i32_32 : BitVec 32 := 1#32
  let v65 : BitVec 32 := Scalar.subi v34 c1_i32_32
  let v66 : BitVec 32 := Scalar.addi v65 c0_i32_33
  let v103 : Index := Scalar.indexCast v66
  let c0_63 : Index := 0#32
  let c0_64 : Index := 0#32
  ![0, v103.toNat, 0, 0]
def k0_off8 (i : grid0.Coords) (c0_i32_33 : BitVec 32) : Fin 4 → Nat :=
  let c0_82 : Index := 0#32
  let arg2 : BitVec 32 := BitVec.ofNat 32 (i 2).val
  let c256_i32 : BitVec 32 := 256#32
  let v17 : BitVec 32 := Scalar.muli arg2 c256_i32
  let c0_i32 : BitVec 32 := 0#32
  let v19 : BitVec 1 := Scalar.cmpi .sgt v17 c0_i32
  let v20 : BitVec 32 := Scalar.extui v19
  let c0_i32_11 : BitVec 32 := 0#32
  let v21 : BitVec 1 := Scalar.cmpi .slt v17 c0_i32_11
  let v22 : BitVec 32 := Scalar.extui v21
  let v23 : BitVec 32 := Scalar.subi v20 v22
  let c256_i32_10 : BitVec 32 := 256#32
  let c0_i32_12 : BitVec 32 := 0#32
  let v24 : BitVec 1 := Scalar.cmpi .sgt c256_i32_10 c0_i32_12
  let v25 : BitVec 32 := Scalar.extui v24
  let c0_i32_13 : BitVec 32 := 0#32
  let v26 : BitVec 1 := Scalar.cmpi .slt c256_i32_10 c0_i32_13
  let v27 : BitVec 32 := Scalar.extui v26
  let v28 : BitVec 32 := Scalar.subi v25 v27
  let v29 : BitVec 1 := Scalar.cmpi .ne v23 v28
  let v30 : BitVec 32 := Scalar.remsi v17 c256_i32_10
  let c0_i32_14 : BitVec 32 := 0#32
  let v31 : BitVec 1 := Scalar.cmpi .ne v30 c0_i32_14
  let v32 : BitVec 1 := Scalar.andi v29 v31
  let v18 : BitVec 32 := Scalar.divsi v17 c256_i32_10
  let c1_i32 : BitVec 32 := 1#32
  let v33 : BitVec 32 := Scalar.subi v18 c1_i32
  let v34 : BitVec 32 := Scalar.select v32 v33 v18
  let c1_i32_32 : BitVec 32 := 1#32
  let v65 : BitVec 32 := Scalar.subi v34 c1_i32_32
  let v66 : BitVec 32 := Scalar.addi v65 c0_i32_33
  let v143 : Index := Scalar.indexCast v66
  let c0_83 : Index := 0#32
  let c0_84 : Index := 0#32
  ![0, v143.toNat, 0, 0]
def k0_cond3 (i : grid0.Coords) : BitVec 1 :=
  let arg2 : BitVec 32 := BitVec.ofNat 32 (i 2).val
  let c256_i32 : BitVec 32 := 256#32
  let v17 : BitVec 32 := Scalar.muli arg2 c256_i32
  let c0_i32 : BitVec 32 := 0#32
  let v19 : BitVec 1 := Scalar.cmpi .sgt v17 c0_i32
  let v20 : BitVec 32 := Scalar.extui v19
  let c0_i32_11 : BitVec 32 := 0#32
  let v21 : BitVec 1 := Scalar.cmpi .slt v17 c0_i32_11
  let v22 : BitVec 32 := Scalar.extui v21
  let v23 : BitVec 32 := Scalar.subi v20 v22
  let c256_i32_10 : BitVec 32 := 256#32
  let c0_i32_12 : BitVec 32 := 0#32
  let v24 : BitVec 1 := Scalar.cmpi .sgt c256_i32_10 c0_i32_12
  let v25 : BitVec 32 := Scalar.extui v24
  let c0_i32_13 : BitVec 32 := 0#32
  let v26 : BitVec 1 := Scalar.cmpi .slt c256_i32_10 c0_i32_13
  let v27 : BitVec 32 := Scalar.extui v26
  let v28 : BitVec 32 := Scalar.subi v25 v27
  let v29 : BitVec 1 := Scalar.cmpi .ne v23 v28
  let v30 : BitVec 32 := Scalar.remsi v17 c256_i32_10
  let c0_i32_14 : BitVec 32 := 0#32
  let v31 : BitVec 1 := Scalar.cmpi .ne v30 c0_i32_14
  let v32 : BitVec 1 := Scalar.andi v29 v31
  let v18 : BitVec 32 := Scalar.divsi v17 c256_i32_10
  let c1_i32 : BitVec 32 := 1#32
  let v33 : BitVec 32 := Scalar.subi v18 c1_i32
  let v34 : BitVec 32 := Scalar.select v32 v33 v18
  let c0_i32_15 : BitVec 32 := 0#32
  let v36 : BitVec 1 := Scalar.cmpi .sgt v34 c0_i32_15
  let v37 : BitVec 32 := Scalar.extui v36
  let c0_i32_16 : BitVec 32 := 0#32
  let v38 : BitVec 1 := Scalar.cmpi .slt v34 c0_i32_16
  let v39 : BitVec 32 := Scalar.extui v38
  let v40 : BitVec 32 := Scalar.subi v37 v39
  let c4_i32 : BitVec 32 := 4#32
  let c0_i32_17 : BitVec 32 := 0#32
  let v41 : BitVec 1 := Scalar.cmpi .sgt c4_i32 c0_i32_17
  let v42 : BitVec 32 := Scalar.extui v41
  let c0_i32_18 : BitVec 32 := 0#32
  let v43 : BitVec 1 := Scalar.cmpi .slt c4_i32 c0_i32_18
  let v44 : BitVec 32 := Scalar.extui v43
  let v45 : BitVec 32 := Scalar.subi v42 v44
  let v46 : BitVec 1 := Scalar.cmpi .ne v40 v45
  let v47 : BitVec 32 := Scalar.remsi v34 c4_i32
  let c0_i32_19 : BitVec 32 := 0#32
  let v48 : BitVec 1 := Scalar.cmpi .ne v47 c0_i32_19
  let v49 : BitVec 1 := Scalar.andi v46 v48
  let v35 : BitVec 32 := Scalar.divsi v34 c4_i32
  let c1_i32_20 : BitVec 32 := 1#32
  let v50 : BitVec 32 := Scalar.subi v35 c1_i32_20
  let v51 : BitVec 32 := Scalar.select v49 v50 v35
  let c4_i32_26 : BitVec 32 := 4#32
  let v57 : BitVec 32 := Scalar.muli v51 c4_i32_26
  let v58 : BitVec 32 := Scalar.subi v34 v57
  let c2_i32 : BitVec 32 := 2#32
  let v71 : BitVec 1 := Scalar.cmpi .eq v58 c2_i32
  let v78 : BitVec 32 := Scalar.extui v71
  let c0_i32_43 : BitVec 32 := 0#32
  let v79 : BitVec 1 := Scalar.cmpi .ne v78 c0_i32_43
  v79

def k0_off9 (i : grid0.Coords) (c0_i32_38 : BitVec 32) : Fin 4 → Nat :=
  let c0_62 : Index := 0#32
  let arg2 : BitVec 32 := BitVec.ofNat 32 (i 2).val
  let c256_i32 : BitVec 32 := 256#32
  let v17 : BitVec 32 := Scalar.muli arg2 c256_i32
  let c0_i32 : BitVec 32 := 0#32
  let v19 : BitVec 1 := Scalar.cmpi .sgt v17 c0_i32
  let v20 : BitVec 32 := Scalar.extui v19
  let c0_i32_11 : BitVec 32 := 0#32
  let v21 : BitVec 1 := Scalar.cmpi .slt v17 c0_i32_11
  let v22 : BitVec 32 := Scalar.extui v21
  let v23 : BitVec 32 := Scalar.subi v20 v22
  let c256_i32_10 : BitVec 32 := 256#32
  let c0_i32_12 : BitVec 32 := 0#32
  let v24 : BitVec 1 := Scalar.cmpi .sgt c256_i32_10 c0_i32_12
  let v25 : BitVec 32 := Scalar.extui v24
  let c0_i32_13 : BitVec 32 := 0#32
  let v26 : BitVec 1 := Scalar.cmpi .slt c256_i32_10 c0_i32_13
  let v27 : BitVec 32 := Scalar.extui v26
  let v28 : BitVec 32 := Scalar.subi v25 v27
  let v29 : BitVec 1 := Scalar.cmpi .ne v23 v28
  let v30 : BitVec 32 := Scalar.remsi v17 c256_i32_10
  let c0_i32_14 : BitVec 32 := 0#32
  let v31 : BitVec 1 := Scalar.cmpi .ne v30 c0_i32_14
  let v32 : BitVec 1 := Scalar.andi v29 v31
  let v18 : BitVec 32 := Scalar.divsi v17 c256_i32_10
  let c1_i32 : BitVec 32 := 1#32
  let v33 : BitVec 32 := Scalar.subi v18 c1_i32
  let v34 : BitVec 32 := Scalar.select v32 v33 v18
  let c2_i32_37 : BitVec 32 := 2#32
  let v72 : BitVec 32 := Scalar.subi v34 c2_i32_37
  let v73 : BitVec 32 := Scalar.addi v72 c0_i32_38
  let v103 : Index := Scalar.indexCast v73
  let c0_63 : Index := 0#32
  let c0_64 : Index := 0#32
  ![0, v103.toNat, 0, 0]
def k0_off10 (i : grid0.Coords) (c0_i32_38 : BitVec 32) : Fin 4 → Nat :=
  let c0_87 : Index := 0#32
  let arg2 : BitVec 32 := BitVec.ofNat 32 (i 2).val
  let c256_i32 : BitVec 32 := 256#32
  let v17 : BitVec 32 := Scalar.muli arg2 c256_i32
  let c0_i32 : BitVec 32 := 0#32
  let v19 : BitVec 1 := Scalar.cmpi .sgt v17 c0_i32
  let v20 : BitVec 32 := Scalar.extui v19
  let c0_i32_11 : BitVec 32 := 0#32
  let v21 : BitVec 1 := Scalar.cmpi .slt v17 c0_i32_11
  let v22 : BitVec 32 := Scalar.extui v21
  let v23 : BitVec 32 := Scalar.subi v20 v22
  let c256_i32_10 : BitVec 32 := 256#32
  let c0_i32_12 : BitVec 32 := 0#32
  let v24 : BitVec 1 := Scalar.cmpi .sgt c256_i32_10 c0_i32_12
  let v25 : BitVec 32 := Scalar.extui v24
  let c0_i32_13 : BitVec 32 := 0#32
  let v26 : BitVec 1 := Scalar.cmpi .slt c256_i32_10 c0_i32_13
  let v27 : BitVec 32 := Scalar.extui v26
  let v28 : BitVec 32 := Scalar.subi v25 v27
  let v29 : BitVec 1 := Scalar.cmpi .ne v23 v28
  let v30 : BitVec 32 := Scalar.remsi v17 c256_i32_10
  let c0_i32_14 : BitVec 32 := 0#32
  let v31 : BitVec 1 := Scalar.cmpi .ne v30 c0_i32_14
  let v32 : BitVec 1 := Scalar.andi v29 v31
  let v18 : BitVec 32 := Scalar.divsi v17 c256_i32_10
  let c1_i32 : BitVec 32 := 1#32
  let v33 : BitVec 32 := Scalar.subi v18 c1_i32
  let v34 : BitVec 32 := Scalar.select v32 v33 v18
  let c2_i32_37 : BitVec 32 := 2#32
  let v72 : BitVec 32 := Scalar.subi v34 c2_i32_37
  let v73 : BitVec 32 := Scalar.addi v72 c0_i32_38
  let v150 : Index := Scalar.indexCast v73
  let c0_88 : Index := 0#32
  let c0_89 : Index := 0#32
  ![0, v150.toNat, 0, 0]
def k0_cond4 (i : grid0.Coords) : BitVec 1 :=
  let arg2 : BitVec 32 := BitVec.ofNat 32 (i 2).val
  let c256_i32 : BitVec 32 := 256#32
  let v17 : BitVec 32 := Scalar.muli arg2 c256_i32
  let c0_i32 : BitVec 32 := 0#32
  let v19 : BitVec 1 := Scalar.cmpi .sgt v17 c0_i32
  let v20 : BitVec 32 := Scalar.extui v19
  let c0_i32_11 : BitVec 32 := 0#32
  let v21 : BitVec 1 := Scalar.cmpi .slt v17 c0_i32_11
  let v22 : BitVec 32 := Scalar.extui v21
  let v23 : BitVec 32 := Scalar.subi v20 v22
  let c256_i32_10 : BitVec 32 := 256#32
  let c0_i32_12 : BitVec 32 := 0#32
  let v24 : BitVec 1 := Scalar.cmpi .sgt c256_i32_10 c0_i32_12
  let v25 : BitVec 32 := Scalar.extui v24
  let c0_i32_13 : BitVec 32 := 0#32
  let v26 : BitVec 1 := Scalar.cmpi .slt c256_i32_10 c0_i32_13
  let v27 : BitVec 32 := Scalar.extui v26
  let v28 : BitVec 32 := Scalar.subi v25 v27
  let v29 : BitVec 1 := Scalar.cmpi .ne v23 v28
  let v30 : BitVec 32 := Scalar.remsi v17 c256_i32_10
  let c0_i32_14 : BitVec 32 := 0#32
  let v31 : BitVec 1 := Scalar.cmpi .ne v30 c0_i32_14
  let v32 : BitVec 1 := Scalar.andi v29 v31
  let v18 : BitVec 32 := Scalar.divsi v17 c256_i32_10
  let c1_i32 : BitVec 32 := 1#32
  let v33 : BitVec 32 := Scalar.subi v18 c1_i32
  let v34 : BitVec 32 := Scalar.select v32 v33 v18
  let c0_i32_15 : BitVec 32 := 0#32
  let v36 : BitVec 1 := Scalar.cmpi .sgt v34 c0_i32_15
  let v37 : BitVec 32 := Scalar.extui v36
  let c0_i32_16 : BitVec 32 := 0#32
  let v38 : BitVec 1 := Scalar.cmpi .slt v34 c0_i32_16
  let v39 : BitVec 32 := Scalar.extui v38
  let v40 : BitVec 32 := Scalar.subi v37 v39
  let c4_i32 : BitVec 32 := 4#32
  let c0_i32_17 : BitVec 32 := 0#32
  let v41 : BitVec 1 := Scalar.cmpi .sgt c4_i32 c0_i32_17
  let v42 : BitVec 32 := Scalar.extui v41
  let c0_i32_18 : BitVec 32 := 0#32
  let v43 : BitVec 1 := Scalar.cmpi .slt c4_i32 c0_i32_18
  let v44 : BitVec 32 := Scalar.extui v43
  let v45 : BitVec 32 := Scalar.subi v42 v44
  let v46 : BitVec 1 := Scalar.cmpi .ne v40 v45
  let v47 : BitVec 32 := Scalar.remsi v34 c4_i32
  let c0_i32_19 : BitVec 32 := 0#32
  let v48 : BitVec 1 := Scalar.cmpi .ne v47 c0_i32_19
  let v49 : BitVec 1 := Scalar.andi v46 v48
  let v35 : BitVec 32 := Scalar.divsi v34 c4_i32
  let c1_i32_20 : BitVec 32 := 1#32
  let v50 : BitVec 32 := Scalar.subi v35 c1_i32_20
  let v51 : BitVec 32 := Scalar.select v49 v50 v35
  let c4_i32_26 : BitVec 32 := 4#32
  let v57 : BitVec 32 := Scalar.muli v51 c4_i32_26
  let v58 : BitVec 32 := Scalar.subi v34 v57
  let c3_i32 : BitVec 32 := 3#32
  let v80 : BitVec 1 := Scalar.cmpi .eq v58 c3_i32
  let v89 : BitVec 32 := Scalar.extui v80
  let c0_i32_52 : BitVec 32 := 0#32
  let v90 : BitVec 1 := Scalar.cmpi .ne v89 c0_i32_52
  v90

def k0_off11 (i : grid0.Coords) (c0_i32_45 : BitVec 32) : Fin 4 → Nat :=
  let c0_62 : Index := 0#32
  let arg2 : BitVec 32 := BitVec.ofNat 32 (i 2).val
  let c256_i32 : BitVec 32 := 256#32
  let v17 : BitVec 32 := Scalar.muli arg2 c256_i32
  let c0_i32 : BitVec 32 := 0#32
  let v19 : BitVec 1 := Scalar.cmpi .sgt v17 c0_i32
  let v20 : BitVec 32 := Scalar.extui v19
  let c0_i32_11 : BitVec 32 := 0#32
  let v21 : BitVec 1 := Scalar.cmpi .slt v17 c0_i32_11
  let v22 : BitVec 32 := Scalar.extui v21
  let v23 : BitVec 32 := Scalar.subi v20 v22
  let c256_i32_10 : BitVec 32 := 256#32
  let c0_i32_12 : BitVec 32 := 0#32
  let v24 : BitVec 1 := Scalar.cmpi .sgt c256_i32_10 c0_i32_12
  let v25 : BitVec 32 := Scalar.extui v24
  let c0_i32_13 : BitVec 32 := 0#32
  let v26 : BitVec 1 := Scalar.cmpi .slt c256_i32_10 c0_i32_13
  let v27 : BitVec 32 := Scalar.extui v26
  let v28 : BitVec 32 := Scalar.subi v25 v27
  let v29 : BitVec 1 := Scalar.cmpi .ne v23 v28
  let v30 : BitVec 32 := Scalar.remsi v17 c256_i32_10
  let c0_i32_14 : BitVec 32 := 0#32
  let v31 : BitVec 1 := Scalar.cmpi .ne v30 c0_i32_14
  let v32 : BitVec 1 := Scalar.andi v29 v31
  let v18 : BitVec 32 := Scalar.divsi v17 c256_i32_10
  let c1_i32 : BitVec 32 := 1#32
  let v33 : BitVec 32 := Scalar.subi v18 c1_i32
  let v34 : BitVec 32 := Scalar.select v32 v33 v18
  let c3_i32_44 : BitVec 32 := 3#32
  let v81 : BitVec 32 := Scalar.subi v34 c3_i32_44
  let v82 : BitVec 32 := Scalar.addi v81 c0_i32_45
  let v103 : Index := Scalar.indexCast v82
  let c0_63 : Index := 0#32
  let c0_64 : Index := 0#32
  ![0, v103.toNat, 0, 0]
def k0_off12 (i : grid0.Coords) (c0_i32_45 : BitVec 32) : Fin 4 → Nat :=
  let c0_92 : Index := 0#32
  let arg2 : BitVec 32 := BitVec.ofNat 32 (i 2).val
  let c256_i32 : BitVec 32 := 256#32
  let v17 : BitVec 32 := Scalar.muli arg2 c256_i32
  let c0_i32 : BitVec 32 := 0#32
  let v19 : BitVec 1 := Scalar.cmpi .sgt v17 c0_i32
  let v20 : BitVec 32 := Scalar.extui v19
  let c0_i32_11 : BitVec 32 := 0#32
  let v21 : BitVec 1 := Scalar.cmpi .slt v17 c0_i32_11
  let v22 : BitVec 32 := Scalar.extui v21
  let v23 : BitVec 32 := Scalar.subi v20 v22
  let c256_i32_10 : BitVec 32 := 256#32
  let c0_i32_12 : BitVec 32 := 0#32
  let v24 : BitVec 1 := Scalar.cmpi .sgt c256_i32_10 c0_i32_12
  let v25 : BitVec 32 := Scalar.extui v24
  let c0_i32_13 : BitVec 32 := 0#32
  let v26 : BitVec 1 := Scalar.cmpi .slt c256_i32_10 c0_i32_13
  let v27 : BitVec 32 := Scalar.extui v26
  let v28 : BitVec 32 := Scalar.subi v25 v27
  let v29 : BitVec 1 := Scalar.cmpi .ne v23 v28
  let v30 : BitVec 32 := Scalar.remsi v17 c256_i32_10
  let c0_i32_14 : BitVec 32 := 0#32
  let v31 : BitVec 1 := Scalar.cmpi .ne v30 c0_i32_14
  let v32 : BitVec 1 := Scalar.andi v29 v31
  let v18 : BitVec 32 := Scalar.divsi v17 c256_i32_10
  let c1_i32 : BitVec 32 := 1#32
  let v33 : BitVec 32 := Scalar.subi v18 c1_i32
  let v34 : BitVec 32 := Scalar.select v32 v33 v18
  let c3_i32_44 : BitVec 32 := 3#32
  let v81 : BitVec 32 := Scalar.subi v34 c3_i32_44
  let v82 : BitVec 32 := Scalar.addi v81 c0_i32_45
  let v157 : Index := Scalar.indexCast v82
  let c0_93 : Index := 0#32
  let c0_94 : Index := 0#32
  ![0, v157.toNat, 0, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat, arg1.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, arg1.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x32x256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x32x64x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x128x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== Kernel3Ideal.lean ====
variable {F : FTy → Type} [FloatOps F] [Named F]
def κ : String → Option EReal := fun
  | "mask" => some ⊥
  | _ => none
-- ==== Reference3Ideal.lean ====
abbrev S4x8192x512 : Shape := ⟨3, ![4, 8192, 512]⟩
abbrev S4x32x256x256 : Shape := ⟨4, ![4, 32, 256, 256]⟩
abbrev S4x32x128x256 : Shape := ⟨4, ![4, 32, 128, 256]⟩
abbrev S4x8192x2x2x128 : Shape := ⟨5, ![4, 8192, 2, 2, 128]⟩
abbrev S4x8192x2x128 : Shape := ⟨4, ![4, 8192, 2, 128]⟩
abbrev S4x32x256x128 : Shape := ⟨4, ![4, 32, 256, 128]⟩
abbrev S4x8192x2x64 : Shape := ⟨4, ![4, 8192, 2, 64]⟩
abbrev S8192 : Shape := ⟨1, ![8192]⟩
abbrev S4x2x8192x8192x2 : Shape := ⟨5, ![4, 2, 8192, 8192, 2]⟩
abbrev S4x2x2x8192x8192 : Shape := ⟨5, ![4, 2, 2, 8192, 8192]⟩
abbrev S8192x1 : Shape := ⟨2, ![8192, 1]⟩
abbrev S1x8192 : Shape := ⟨2, ![1, 8192]⟩
abbrev S8192x8192 : Shape := ⟨2, ![8192, 8192]⟩
abbrev S_ : Shape := ⟨0, ![]⟩
abbrev S4x2x2x8192 : Shape := ⟨4, ![4, 2, 2, 8192]⟩
abbrev S4x2x2x8192x1 : Shape := ⟨5, ![4, 2, 2, 8192, 1]⟩
abbrev S4x2x64x2x8192 : Shape := ⟨5, ![4, 2, 64, 2, 8192]⟩
abbrev S4x2x2x64x8192 : Shape := ⟨5, ![4, 2, 2, 64, 8192]⟩
abbrev S4x256x8192 : Shape := ⟨3, ![4, 256, 8192]⟩

abbrev nBuf : Space → Nat
  | .hbm => 45
  | .vmem => 0
  | .smem => 0
  | _ => 0

abbrev bufTy : (tb : Table) → Fin (tcTables nBuf tb) → BufTy
  | .hbm, ⟨0, _⟩ => ⟨S4x8192x512, .bf16⟩
  | .hbm, ⟨1, _⟩ => ⟨S4x32x256x256, .bf16⟩
  | .hbm, ⟨2, _⟩ => ⟨S4x32x128x256, .bf16⟩
  | .hbm, ⟨3, _⟩ => ⟨S4x8192x512, .f32⟩
  | .hbm, ⟨4, _⟩ => ⟨S4x8192x2x2x128, .f32⟩
  | .hbm, ⟨5, _⟩ => ⟨S4x32x256x256, .f32⟩
  | .hbm, ⟨6, _⟩ => ⟨S4x8192x2x128, .f32⟩
  | .hbm, ⟨7, _⟩ => ⟨S4x32x128x256, .f32⟩
  | .hbm, ⟨8, _⟩ => ⟨S4x32x256x128, .f32⟩
  | .hbm, ⟨9, _⟩ => ⟨S4x8192x2x64, .f32⟩
  | .hbm, ⟨10, _⟩ => ⟨S8192, .i32⟩
  | .hbm, ⟨11, _⟩ => ⟨S4x2x8192x8192x2, .f32⟩
  | .hbm, ⟨12, _⟩ => ⟨S4x2x2x8192x8192, .f32⟩
  | .hbm, ⟨13, _⟩ => ⟨S8192x1, .i32⟩
  | .hbm, ⟨14, _⟩ => ⟨S1x8192, .i32⟩
  | .hbm, ⟨15, _⟩ => ⟨S8192x8192, .i32⟩
  | .hbm, ⟨16, _⟩ => ⟨S8192x8192, .i32⟩
  | .hbm, ⟨17, _⟩ => ⟨S8192x8192, .i1⟩
  | .hbm, ⟨18, _⟩ => ⟨S_, .f32⟩
  | .hbm, ⟨19, _⟩ => ⟨S_, .f32⟩
  | .hbm, ⟨20, _⟩ => ⟨S4x2x2x8192x8192, .i1⟩
  | .hbm, ⟨21, _⟩ => ⟨S4x2x2x8192x8192, .f32⟩
  | .hbm, ⟨22, _⟩ => ⟨S4x2x2x8192x8192, .f32⟩
  | .hbm, ⟨23, _⟩ => ⟨S_, .f32⟩
  | .hbm, ⟨24, _⟩ => ⟨S4x2x2x8192, .f32⟩
  | .hbm, ⟨25, _⟩ => ⟨S4x2x2x8192x1, .f32⟩
  | .hbm, ⟨26, _⟩ => ⟨S4x2x2x8192x8192, .f32⟩
  | .hbm, ⟨27, _⟩ => ⟨S4x2x2x8192x8192, .f32⟩
  | .hbm, ⟨28, _⟩ => ⟨S4x2x2x8192x8192, .f32⟩
  | .hbm, ⟨29, _⟩ => ⟨S_, .f32⟩
  | .hbm, ⟨30, _⟩ => ⟨S_, .f32⟩
  | .hbm, ⟨31, _⟩ => ⟨S4x2x2x8192x8192, .i1⟩
  | .hbm, ⟨32, _⟩ => ⟨S4x2x2x8192x8192, .f32⟩
  | .hbm, ⟨33, _⟩ => ⟨S4x2x2x8192x8192, .f32⟩
  | .hbm, ⟨34, _⟩ => ⟨S_, .f32⟩
  | .hbm, ⟨35, _⟩ => ⟨S4x2x2x8192, .f32⟩
  | .hbm, ⟨36, _⟩ => ⟨S4x2x2x8192x1, .f32⟩
  | .hbm, ⟨37, _⟩ => ⟨S_, .f32⟩
  | .hbm, ⟨38, _⟩ => ⟨S4x2x2x8192x1, .f32⟩
  | .hbm, ⟨39, _⟩ => ⟨S4x2x2x8192x1, .f32⟩
  | .hbm, ⟨40, _⟩ => ⟨S4x2x2x8192x8192, .f32⟩
  | .hbm, ⟨41, _⟩ => ⟨S4x2x2x8192x8192, .f32⟩
  | .hbm, ⟨42, _⟩ => ⟨S4x2x64x2x8192, .f32⟩
  | .hbm, ⟨43, _⟩ => ⟨S4x2x2x64x8192, .f32⟩
  | .hbm, ⟨44, _⟩ => ⟨S4x256x8192, .f32⟩
  | _, _ => ⟨S4x8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_cst : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_v15 : Ref sig .tc := ⟨.hbm, 22, rfl⟩
abbrev main_cst_0 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_1 : Ref sig .tc := ⟨.hbm, 29, rfl⟩
abbrev main_call1_v0 : Ref sig .tc := ⟨.hbm, 30, rfl⟩
abbrev main_call1_v1 : Ref sig .tc := ⟨.hbm, 31, rfl⟩
abbrev main_call1_v2 : Ref sig .tc := ⟨.hbm, 32, rfl⟩
abbrev main_v21 : Ref sig .tc := ⟨.hbm, 33, rfl⟩
abbrev main_cst_2 : Ref sig .tc := ⟨.hbm, 34, rfl⟩
abbrev main_v22 : Ref sig .tc := ⟨.hbm, 35, rfl⟩
abbrev main_v23 : Ref sig .tc := ⟨.hbm, 36, rfl⟩
abbrev main_cst_3 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩

abbrev nD : Nat := 1
abbrev τ : Topo := Topo.v7x

variable {F : FTy → Type} [FloatOps F]
-- ==== Kernel4.lean ====
abbrev S4x8192x1024 : Shape := ⟨3, ![4, 8192, 1024]⟩
abbrev S4x1x1024 : Shape := ⟨3, ![4, 1, 1024]⟩
abbrev S1024x2544 : Shape := ⟨2, ![1024, 2544]⟩
abbrev S3456 : Shape := ⟨1, ![3456]⟩
abbrev S_ : Shape := ⟨0, ![]⟩
abbrev S3456x1 : Shape := ⟨2, ![3456, 1]⟩
abbrev S1 : Shape := ⟨1, ![1]⟩
abbrev S1x1 : Shape := ⟨2, ![1, 1]⟩
abbrev S1024x3456 : Shape := ⟨2, ![1024, 3456]⟩
abbrev S1x3456 : Shape := ⟨2, ![1, 3456]⟩
abbrev S4x8192x3456 : Shape := ⟨3, ![4, 8192, 3456]⟩
abbrev S1x512x1024 : Shape := ⟨3, ![1, 512, 1024]⟩
abbrev S1x1x1024 : Shape := ⟨3, ![1, 1, 1024]⟩
abbrev S1x512x3456 : Shape := ⟨3, ![1, 512, 3456]⟩
abbrev S512x1024 : Shape := ⟨2, ![512, 1024]⟩
abbrev S1x1024 : Shape := ⟨2, ![1, 1024]⟩
abbrev S512x3456 : Shape := ⟨2, ![512, 3456]⟩

abbrev nBuf : Space → Nat
  | .hbm => 37
  | .vmem => 9
  | .smem => 0
  | _ => 0

abbrev bufTy : (tb : Table) → Fin (tcTables nBuf tb) → BufTy
  | .hbm, ⟨0, _⟩ => ⟨S4x8192x1024, .f32⟩
  | .hbm, ⟨1, _⟩ => ⟨S4x1x1024, .f32⟩
  | .hbm, ⟨2, _⟩ => ⟨S4x1x1024, .f32⟩
  | .hbm, ⟨3, _⟩ => ⟨S1024x2544, .f32⟩
  | .hbm, ⟨4, _⟩ => ⟨S3456, .i32⟩
  | .hbm, ⟨5, _⟩ => ⟨S3456, .i1⟩
  | .hbm, ⟨6, _⟩ => ⟨S_, .i32⟩
  | .hbm, ⟨7, _⟩ => ⟨S3456, .i32⟩
  | .hbm, ⟨8, _⟩ => ⟨S3456, .i1⟩
  | .hbm, ⟨9, _⟩ => ⟨S_, .i32⟩
  | .hbm, ⟨10, _⟩ => ⟨S3456, .i32⟩
  | .hbm, ⟨11, _⟩ => ⟨S3456, .i32⟩
  | .hbm, ⟨12, _⟩ => ⟨S3456, .i32⟩
  | .hbm, ⟨13, _⟩ => ⟨S3456x1, .i32⟩
  | .hbm, ⟨14, _⟩ => ⟨S1, .i32⟩
  | .hbm, ⟨15, _⟩ => ⟨S_, .i32⟩
  | .hbm, ⟨16, _⟩ => ⟨S3456x1, .i32⟩
  | .hbm, ⟨17, _⟩ => ⟨S3456x1, .i1⟩
  | .hbm, ⟨18, _⟩ => ⟨S1x1, .i32⟩
  | .hbm, ⟨19, _⟩ => ⟨S3456x1, .i32⟩
  | .hbm, ⟨20, _⟩ => ⟨S3456x1, .i1⟩
  | .hbm, ⟨21, _⟩ => ⟨S3456x1, .i1⟩
  | .hbm, ⟨22, _⟩ => ⟨S_, .i1⟩
  | .hbm, ⟨23, _⟩ => ⟨S3456, .i1⟩
  | .hbm, ⟨24, _⟩ => ⟨S1024x3456, .f32⟩
  | .hbm, ⟨25, _⟩ => ⟨S1024x3456, .i1⟩
  | .hbm, ⟨26, _⟩ => ⟨S_, .f32⟩
  | .hbm, ⟨27, _⟩ => ⟨S1024x3456, .f32⟩
  | .hbm, ⟨28, _⟩ => ⟨S1024x3456, .f32⟩
  | .hbm, ⟨29, _⟩ => ⟨S1x3456, .i1⟩
  | .hbm, ⟨30, _⟩ => ⟨S_, .f32⟩
  | .hbm, ⟨31, _⟩ => ⟨S_, .f32⟩
  | .hbm, ⟨32, _⟩ => ⟨S1024x3456, .i1⟩
  | .hbm, ⟨33, _⟩ => ⟨S1024x3456, .f32⟩
  | .hbm, ⟨34, _⟩ => ⟨S1024x3456, .f32⟩
  | .hbm, ⟨35, _⟩ => ⟨S1024x3456, .bf16⟩
  | .hbm, ⟨36, _⟩ => ⟨S4x8192x3456, .f32⟩
  | .local _ .vmem, ⟨0, _⟩ => ⟨S1x512x1024, .f32⟩
  | .local _ .vmem, ⟨1, _⟩ => ⟨S1x512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1024x3456, .bf16⟩
  | .local _ .vmem, ⟨7, _⟩ => ⟨S1x512x3456, .f32⟩
  | .local _ .vmem, ⟨8, _⟩ => ⟨S1x512x3456, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_call0_c : Ref sig .tc := ⟨.hbm, 6, rfl⟩
abbrev main_call0_v0 : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_c_1 : Ref sig .tc := ⟨.hbm, 14, rfl⟩
abbrev main_call0_c_2 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_3 : Ref sig .tc := ⟨.hbm, 22, rfl⟩
abbrev main_call0_v12 : Ref sig .tc := ⟨.hbm, 23, rfl⟩
abbrev main_call0_v13 : Ref sig .tc := ⟨.hbm, 24, rfl⟩
abbrev main_call0_v14 : Ref sig .tc := ⟨.hbm, 25, rfl⟩
abbrev main_call0_cst : Ref sig .tc := ⟨.hbm, 26, rfl⟩
abbrev main_call0_v15 : Ref sig .tc := ⟨.hbm, 27, rfl⟩
abbrev main_v0 : Ref sig .tc := ⟨.hbm, 28, rfl⟩
abbrev main_v1 : Ref sig .tc := ⟨.hbm, 29, rfl⟩
abbrev main_cst : Ref sig .tc := ⟨.hbm, 30, rfl⟩
abbrev main_call1_v0 : Ref sig .tc := ⟨.hbm, 31, rfl⟩
abbrev main_call1_v1 : Ref sig .tc := ⟨.hbm, 32, rfl⟩
abbrev main_call1_v2 : Ref sig .tc := ⟨.hbm, 33, rfl⟩
abbrev main_v2 : Ref sig .tc := ⟨.hbm, 34, rfl⟩
abbrev main_v3 : Ref sig .tc := ⟨.hbm, 35, rfl⟩
abbrev main_v4 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1024x3456 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x512x3456 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference4Ideal.lean ====
abbrev S4x8192x1024 : Shape := ⟨3, ![4, 8192, 1024]⟩
abbrev S4x1x1024 : Shape := ⟨3, ![4, 1, 1024]⟩
abbrev S1024x2544 : Shape := ⟨2, ![1024, 2544]⟩
abbrev S_ : Shape := ⟨0, ![]⟩
abbrev S4x8192x2544 : Shape := ⟨3, ![4, 8192, 2544]⟩
abbrev S4x8192x256 : Shape := ⟨3, ![4, 8192, 256]⟩
abbrev S4x8192x384 : Shape := ⟨3, ![4, 8192, 384]⟩
abbrev S4x8192x12 : Shape := ⟨3, ![4, 8192, 12]⟩
abbrev S4x8192x128 : Shape := ⟨3, ![4, 8192, 128]⟩
abbrev S4x8192x4 : Shape := ⟨3, ![4, 8192, 4]⟩
abbrev S4x8192x192 : Shape := ⟨3, ![4, 8192, 192]⟩
abbrev S4x8192x32 : Shape := ⟨3, ![4, 8192, 32]⟩
abbrev S4x8192x64 : Shape := ⟨3, ![4, 8192, 64]⟩
abbrev S4x8192x80 : Shape := ⟨3, ![4, 8192, 80]⟩
abbrev S4x8192x1792 : Shape := ⟨3, ![4, 8192, 1792]⟩
abbrev S4x8192x1536 : Shape := ⟨3, ![4, 8192, 1536]⟩
abbrev S4x8192x3456 : Shape := ⟨3, ![4, 8192, 3456]⟩

abbrev nBuf : Space → Nat
  | .hbm => 46
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S4x1x1024, .f32⟩
  | .hbm, ⟨2, _⟩ => ⟨S4x1x1024, .f32⟩
  | .hbm, ⟨3, _⟩ => ⟨S1024x2544, .f32⟩
  | .hbm, ⟨4, _⟩ => ⟨S_, .f32⟩
  | .hbm, ⟨5, _⟩ => ⟨S4x1x1024, .f32⟩
  | .hbm, ⟨6, _⟩ => ⟨S4x1x1024, .f32⟩
  | .hbm, ⟨7, _⟩ => ⟨S4x8192x1024, .f32⟩
  | .hbm, ⟨8, _⟩ => ⟨S4x8192x1024, .f32⟩
  | .hbm, ⟨9, _⟩ => ⟨S4x8192x1024, .f32⟩
  | .hbm, ⟨10, _⟩ => ⟨S4x8192x1024, .f32⟩
  | .hbm, ⟨11, _⟩ => ⟨S4x8192x2544, .f32⟩
  | .hbm, ⟨12, _⟩ => ⟨S4x8192x256, .f32⟩
  | .hbm, ⟨13, _⟩ => ⟨S4x8192x384, .f32⟩
  | .hbm, ⟨14, _⟩ => ⟨S4x8192x12, .f32⟩
  | .hbm, ⟨15, _⟩ => ⟨S4x8192x256, .f32⟩
  | .hbm, ⟨16, _⟩ => ⟨S4x8192x256, .f32⟩
  | .hbm, ⟨17, _⟩ => ⟨S4x8192x256, .f32⟩
  | .hbm, ⟨18, _⟩ => ⟨S4x8192x256, .f32⟩
  | .hbm, ⟨19, _⟩ => ⟨S4x8192x256, .f32⟩
  | .hbm, ⟨20, _⟩ => ⟨S4x8192x128, .f32⟩
  | .hbm, ⟨21, _⟩ => ⟨S4x8192x128, .f32⟩
  | .hbm, ⟨22, _⟩ => ⟨S4x8192x4, .f32⟩
  | .hbm, ⟨23, _⟩ => ⟨S4x8192x192, .f32⟩
  | .hbm, ⟨24, _⟩ => ⟨S4x8192x128, .f32⟩
  | .hbm, ⟨25, _⟩ => ⟨S4x8192x32, .f32⟩
  | .hbm, ⟨26, _⟩ => ⟨S4x8192x64, .f32⟩
  | .hbm, ⟨27, _⟩ => ⟨S4x8192x64, .f32⟩
  | .hbm, ⟨28, _⟩ => ⟨S4x8192x64, .f32⟩
  | .hbm, ⟨29, _⟩ => ⟨S4x8192x64, .f32⟩
  | .hbm, ⟨30, _⟩ => ⟨S4x8192x64, .f32⟩
  | .hbm, ⟨31, _⟩ => ⟨S4x8192x64, .f32⟩
  | .hbm, ⟨32, _⟩ => ⟨S4x8192x64, .f32⟩
  | .hbm, ⟨33, _⟩ => ⟨S4x8192x64, .f32⟩
  | .hbm, ⟨34, _⟩ => ⟨S4x8192x64, .f32⟩
  | .hbm, ⟨35, _⟩ => ⟨S4x8192x64, .f32⟩
  | .hbm, ⟨36, _⟩ => ⟨S4x8192x64, .f32⟩
  | .hbm, ⟨37, _⟩ => ⟨S4x8192x64, .f32⟩
  | .hbm, ⟨38, _⟩ => ⟨S_, .f32⟩
  | .hbm, ⟨39, _⟩ => ⟨S4x8192x64, .f32⟩
  | .hbm, ⟨40, _⟩ => ⟨S_, .f32⟩
  | .hbm, ⟨41, _⟩ => ⟨S4x8192x80, .f32⟩
  | .hbm, ⟨42, _⟩ => ⟨S4x8192x1792, .f32⟩
  | .hbm, ⟨43, _⟩ => ⟨S4x8192x1536, .f32⟩
  | .hbm, ⟨44, _⟩ => ⟨S4x8192x128, .f32⟩
  | .hbm, ⟨45, _⟩ => ⟨S4x8192x3456, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_cst_0 : Ref sig .tc := ⟨.hbm, 38, rfl⟩
abbrev main_v33 : Ref sig .tc := ⟨.hbm, 39, rfl⟩
abbrev main_cst_1 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩

abbrev nD : Nat := 1
abbrev τ : Topo := Topo.v7x

variable {F : FTy → Type} [FloatOps F]
-- ==== Kernel5.lean ====
abbrev S4x8192x1024 : Shape := ⟨3, ![4, 8192, 1024]⟩
abbrev S4x1x1024 : Shape := ⟨3, ![4, 1, 1024]⟩
abbrev S4x256x8192 : Shape := ⟨3, ![4, 256, 8192]⟩
abbrev S4x8192x256 : Shape := ⟨3, ![4, 8192, 256]⟩
abbrev S4x512x8192 : Shape := ⟨3, ![4, 512, 8192]⟩
abbrev S4x8192x3456 : Shape := ⟨3, ![4, 8192, 3456]⟩
abbrev S1024 : Shape := ⟨1, ![1024]⟩
abbrev S128x256 : Shape := ⟨2, ![128, 256]⟩
abbrev S1024x1024 : Shape := ⟨2, ![1024, 1024]⟩
abbrev S128x4x64 : Shape := ⟨3, ![128, 4, 64]⟩
abbrev S_ : Shape := ⟨0, ![]⟩
abbrev S512x256 : Shape := ⟨2, ![512, 256]⟩
abbrev S128x1x64 : Shape := ⟨3, ![128, 1, 64]⟩
abbrev S128x64 : Shape := ⟨2, ![128, 64]⟩
abbrev S1 : Shape := ⟨1, ![1]⟩
abbrev S2 : Shape := ⟨1, ![2]⟩
abbrev S256x512 : Shape := ⟨2, ![256, 512]⟩
abbrev S1x1024 : Shape := ⟨2, ![1, 1024]⟩
abbrev S1x512x1024 : Shape := ⟨3, ![1, 512, 1024]⟩
abbrev S1x1x1024 : Shape := ⟨3, ![1, 1, 1024]⟩
abbrev S1x256x512 : Shape := ⟨3, ![1, 256, 512]⟩
abbrev S1x512x256 : Shape := ⟨3, ![1, 512, 256]⟩
abbrev S1x512x512 : Shape := ⟨3, ![1, 512, 512]⟩
abbrev S512x512 : Shape := ⟨2, ![512, 512]⟩
abbrev S1x256 : Shape := ⟨2, ![1, 256]⟩
abbrev S512 : Shape := ⟨1, ![512]⟩
abbrev S512x1 : Shape := ⟨2, ![512, 1]⟩
abbrev S512x1024 : Shape := ⟨2, ![512, 1024]⟩

abbrev nBuf : Space → Nat
  | .hbm => 54
  | .vmem => 21
  | .smem => 0
  | _ => 0

abbrev bufTy : (tb : Table) → Fin (tcTables nBuf tb) → BufTy
  | .hbm, ⟨0, _⟩ => ⟨S4x8192x1024, .f32⟩
  | .hbm, ⟨1, _⟩ => ⟨S4x1x1024, .f32⟩
  | .hbm, ⟨2, _⟩ => ⟨S4x256x8192, .f32⟩
  | .hbm, ⟨3, _⟩ => ⟨S4x8192x256, .f32⟩
  | .hbm, ⟨4, _⟩ => ⟨S4x256x8192, .f32⟩
  | .hbm, ⟨5, _⟩ => ⟨S4x512x8192, .f32⟩
  | .hbm, ⟨6, _⟩ => ⟨S4x8192x3456, .f32⟩
  | .hbm, ⟨7, _⟩ => ⟨S1024, .f32⟩
  | .hbm, ⟨8, _⟩ => ⟨S128x256, .f32⟩
  | .hbm, ⟨9, _⟩ => ⟨S1024x1024, .f32⟩
  | .hbm, ⟨10, _⟩ => ⟨S1024, .f32⟩
  | .hbm, ⟨11, _⟩ => ⟨S1024, .f32⟩
  | .hbm, ⟨12, _⟩ => ⟨S128x4x64, .f32⟩
  | .hbm, ⟨13, _⟩ => ⟨S_, .f32⟩
  | .hbm, ⟨14, _⟩ => ⟨S512x256, .f32⟩
  | .hbm, ⟨15, _⟩ => ⟨S128x1x64, .f32⟩
  | .hbm, ⟨16, _⟩ => ⟨S128x64, .f32⟩
  | .hbm, ⟨17, _⟩ => ⟨S_, .i32⟩
  | .hbm, ⟨18, _⟩ => ⟨S1, .i32⟩
  | .hbm, ⟨19, _⟩ => ⟨S_, .i32⟩
  | .hbm, ⟨20, _⟩ => ⟨S1, .i32⟩
  | .hbm, ⟨21, _⟩ => ⟨S2, .i32⟩
  | .hbm, ⟨22, _⟩ => ⟨S512x256, .f32⟩
  | .hbm, ⟨23, _⟩ => ⟨S128x1x64, .f32⟩
  | .hbm, ⟨24, _⟩ => ⟨S128x64, .f32⟩
  | .hbm, ⟨25, _⟩ => ⟨S_, .i32⟩
  | .hbm, ⟨26, _⟩ => ⟨S1, .i32⟩
  | .hbm, ⟨27, _⟩ => ⟨S_, .i32⟩
  | .hbm, ⟨28, _⟩ => ⟨S1, .i32⟩
  | .hbm, ⟨29, _⟩ => ⟨S2, .i32⟩
  | .hbm, ⟨30, _⟩ => ⟨S512x256, .f32⟩
  | .hbm, ⟨31, _⟩ => ⟨S128x1x64, .f32⟩
  | .hbm, ⟨32, _⟩ => ⟨S128x64, .f32⟩
  | .hbm, ⟨33, _⟩ => ⟨S_, .i32⟩
  | .hbm, ⟨34, _⟩ => ⟨S1, .i32⟩
  | .hbm, ⟨35, _⟩ => ⟨S_, .i32⟩
  | .hbm, ⟨36, _⟩ => ⟨S1, .i32⟩
  | .hbm, ⟨37, _⟩ => ⟨S2, .i32⟩
  | .hbm, ⟨38, _⟩ => ⟨S512x256, .f32⟩
  | .hbm, ⟨39, _⟩ => ⟨S128x1x64, .f32⟩
  | .hbm, ⟨40, _⟩ => ⟨S128x64, .f32⟩
  | .hbm, ⟨41, _⟩ => ⟨S_, .i32⟩
  | .hbm, ⟨42, _⟩ => ⟨S1, .i32⟩
  | .hbm, ⟨43, _⟩ => ⟨S_, .i32⟩
  | .hbm, ⟨44, _⟩ => ⟨S1, .i32⟩
  | .hbm, ⟨45, _⟩ => ⟨S2, .i32⟩
  | .hbm, ⟨46, _⟩ => ⟨S512x256, .f32⟩
  | .hbm, ⟨47, _⟩ => ⟨S256x512, .f32⟩
  | .hbm, ⟨48, _⟩ => ⟨S256x512, .bf16⟩
  | .hbm, ⟨49, _⟩ => ⟨S1024x1024, .bf16⟩
  | .hbm, ⟨50, _⟩ => ⟨S1x1024, .f32⟩
  | .hbm, ⟨51, _⟩ => ⟨S1x1024, .f32⟩
  | .hbm, ⟨52, _⟩ => ⟨S1x1024, .f32⟩
  | .hbm, ⟨53, _⟩ => ⟨S4x8192x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x256x512, .f32⟩
  | .local _ .vmem, ⟨5, _⟩ => ⟨S1x256x512, .f32⟩
  | .local _ .vmem, ⟨6, _⟩ => ⟨S1x512x256, .f32⟩
  | .local _ .vmem, ⟨7, _⟩ => ⟨S1x512x256, .f32⟩
  | .local _ .vmem, ⟨8, _⟩ => ⟨S1x256x512, .f32⟩
  | .local _ .vmem, ⟨9, _⟩ => ⟨S1x256x512, .f32⟩
  | .local _ .vmem, ⟨10, _⟩ => ⟨S1x512x512, .f32⟩
  | .local _ .vmem, ⟨11, _⟩ => ⟨S1x512x512, .f32⟩
  | .local _ .vmem, ⟨12, _⟩ => ⟨S1x512x256, .f32⟩
  | .local _ .vmem, ⟨13, _⟩ => ⟨S1x512x256, .f32⟩
  | .local _ .vmem, ⟨14, _⟩ => ⟨S1x1024, .f32⟩
  | .local _ .vmem, ⟨15, _⟩ => ⟨S256x512, .bf16⟩
  | .local _ .vmem, ⟨16, _⟩ => ⟨S1024x1024, .bf16⟩
  | .local _ .vmem, ⟨17, _⟩ => ⟨S1x1024, .f32⟩
  | .local _ .vmem, ⟨18, _⟩ => ⟨S1x1024, .f32⟩
  | .local _ .vmem, ⟨19, _⟩ => ⟨S1x512x1024, .f32⟩
  | .local _ .vmem, ⟨20, _⟩ => ⟨S1x512x1024, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_cst : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_v4 : Ref sig .tc := ⟨.hbm, 18, rfl⟩
abbrev main_c_0 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_c_1 : Ref sig .tc := ⟨.hbm, 25, rfl⟩
abbrev main_v10 : Ref sig .tc := ⟨.hbm, 26, rfl⟩
abbrev main_c_2 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_c_3 : Ref sig .tc := ⟨.hbm, 33, rfl⟩
abbrev main_v16 : Ref sig .tc := ⟨.hbm, 34, rfl⟩
abbrev main_c_4 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_c_5 : Ref sig .tc := ⟨.hbm, 41, rfl⟩
abbrev main_v22 : Ref sig .tc := ⟨.hbm, 42, rfl⟩
abbrev main_c_6 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg12_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem12_1 : DmaSem sig := 20

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_6 (i : grid0.Coords) : Fin 3 → Nat :=
  let arg0 : BitVec 32 := BitVec.ofNat 32 (i 0).val
  let arg1 : BitVec 32 := BitVec.ofNat 32 (i 1).val
  let c7_i32 : BitVec 32 := 7#32
  let c0_i32 : BitVec 32 := 0#32
  ![arg0.toNat, arg1.toNat, c7_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S256x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== Reference5Ideal.lean ====
abbrev S4x8192x1024 : Shape := ⟨3, ![4, 8192, 1024]⟩
abbrev S4x1x1024 : Shape := ⟨3, ![4, 1, 1024]⟩
abbrev S4x256x8192 : Shape := ⟨3, ![4, 256, 8192]⟩
abbrev S4x8192x256 : Shape := ⟨3, ![4, 8192, 256]⟩
abbrev S4x512x8192 : Shape := ⟨3, ![4, 512, 8192]⟩
abbrev S4x8192x3456 : Shape := ⟨3, ![4, 8192, 3456]⟩
abbrev S1024 : Shape := ⟨1, ![1024]⟩
abbrev S128x256 : Shape := ⟨2, ![128, 256]⟩
abbrev S1024x1024 : Shape := ⟨2, ![1024, 1024]⟩
abbrev S4x4x128x8192 : Shape := ⟨4, ![4, 4, 128, 8192]⟩
abbrev S128x4x64 : Shape := ⟨3, ![128, 4, 64]⟩
abbrev S4x64x4x8192 : Shape := ⟨4, ![4, 64, 4, 8192]⟩
abbrev S4x8192x4x64 : Shape := ⟨4, ![4, 8192, 4, 64]⟩
abbrev S4x8192x1x256 : Shape := ⟨4, ![4, 8192, 1, 256]⟩
abbrev S4x8192x4x256 : Shape := ⟨4, ![4, 8192, 4, 256]⟩
abbrev S4x256 : Shape := ⟨2, ![4, 256]⟩
abbrev S_ : Shape := ⟨0, ![]⟩
abbrev S4x8192x4 : Shape := ⟨3, ![4, 8192, 4]⟩
abbrev S4x8192x4x1 : Shape := ⟨4, ![4, 8192, 4, 1]⟩
abbrev S1x1x4x256 : Shape := ⟨4, ![1, 1, 4, 256]⟩
abbrev S4x8192 : Shape := ⟨2, ![4, 8192]⟩
abbrev S4x8192x1 : Shape := ⟨3, ![4, 8192, 1]⟩
abbrev S1x1x1024 : Shape := ⟨3, ![1, 1, 1024]⟩

abbrev nBuf : Space → Nat
  | .hbm => 100
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S4x1x1024, .f32⟩
  | .hbm, ⟨2, _⟩ => ⟨S4x256x8192, .f32⟩
  | .hbm, ⟨3, _⟩ => ⟨S4x8192x256, .f32⟩
  | .hbm, ⟨4, _⟩ => ⟨S4x256x8192, .f32⟩
  | .hbm, ⟨5, _⟩ => ⟨S4x512x8192, .f32⟩
  | .hbm, ⟨6, _⟩ => ⟨S4x8192x3456, .f32⟩
  | .hbm, ⟨7, _⟩ => ⟨S1024, .f32⟩
  | .hbm, ⟨8, _⟩ => ⟨S128x256, .f32⟩
  | .hbm, ⟨9, _⟩ => ⟨S1024x1024, .f32⟩
  | .hbm, ⟨10, _⟩ => ⟨S1024, .f32⟩
  | .hbm, ⟨11, _⟩ => ⟨S1024, .f32⟩
  | .hbm, ⟨12, _⟩ => ⟨S4x8192x256, .f32⟩
  | .hbm, ⟨13, _⟩ => ⟨S4x4x128x8192, .f32⟩
  | .hbm, ⟨14, _⟩ => ⟨S128x4x64, .f32⟩
  | .hbm, ⟨15, _⟩ => ⟨S4x64x4x8192, .f32⟩
  | .hbm, ⟨16, _⟩ => ⟨S4x8192x4x64, .f32⟩
  | .hbm, ⟨17, _⟩ => ⟨S4x8192x256, .f32⟩
  | .hbm, ⟨18, _⟩ => ⟨S4x8192x256, .f32⟩
  | .hbm, ⟨19, _⟩ => ⟨S4x8192x256, .f32⟩
  | .hbm, ⟨20, _⟩ => ⟨S4x8192x1x256, .f32⟩
  | .hbm, ⟨21, _⟩ => ⟨S4x8192x1x256, .f32⟩
  | .hbm, ⟨22, _⟩ => ⟨S4x8192x1x256, .f32⟩
  | .hbm, ⟨23, _⟩ => ⟨S4x8192x1x256, .f32⟩
  | .hbm, ⟨24, _⟩ => ⟨S4x8192x4x256, .f32⟩
  | .hbm, ⟨25, _⟩ => ⟨S4x256, .f32⟩
  | .hbm, ⟨26, _⟩ => ⟨S4x8192x4x256, .f32⟩
  | .hbm, ⟨27, _⟩ => ⟨S_, .f32⟩
  | .hbm, ⟨28, _⟩ => ⟨S4x8192x4, .f32⟩
  | .hbm, ⟨29, _⟩ => ⟨S4x8192x4x1, .f32⟩
  | .hbm, ⟨30, _⟩ => ⟨S_, .f32⟩
  | .hbm, ⟨31, _⟩ => ⟨S4x8192x4x1, .f32⟩
  | .hbm, ⟨32, _⟩ => ⟨S4x8192x4x1, .f32⟩
  | .hbm, ⟨33, _⟩ => ⟨S_, .f32⟩
  | .hbm, ⟨34, _⟩ => ⟨S4x8192x4x1, .f32⟩
  | .hbm, ⟨35, _⟩ => ⟨S4x8192x4x1, .f32⟩
  | .hbm, ⟨36, _⟩ => ⟨S4x8192x4x1, .f32⟩
  | .hbm, ⟨37, _⟩ => ⟨S4x8192x4x256, .f32⟩
  | .hbm, ⟨38, _⟩ => ⟨S4x8192x4x256, .f32⟩
  | .hbm, ⟨39, _⟩ => ⟨S1x1x4x256, .f32⟩
  | .hbm, ⟨40, _⟩ => ⟨S4x8192x4x256, .f32⟩
  | .hbm, ⟨41, _⟩ => ⟨S4x8192x4x256, .f32⟩
  | .hbm, ⟨42, _⟩ => ⟨S4x8192x1x256, .f32⟩
  | .hbm, ⟨43, _⟩ => ⟨S4x8192x256, .f32⟩
  | .hbm, ⟨44, _⟩ => ⟨S4x8192x1x256, .f32⟩
  | .hbm, ⟨45, _⟩ => ⟨S4x8192x256, .f32⟩
  | .hbm, ⟨46, _⟩ => ⟨S4x8192x256, .f32⟩
  | .hbm, ⟨47, _⟩ => ⟨S4x8192x256, .f32⟩
  | .hbm, ⟨48, _⟩ => ⟨S_, .f32⟩
  | .hbm, ⟨49, _⟩ => ⟨S4x8192x256, .f32⟩
  | .hbm, ⟨50, _⟩ => ⟨S4x8192x256, .f32⟩
  | .hbm, ⟨51, _⟩ => ⟨S_, .f32⟩
  | .hbm, ⟨52, _⟩ => ⟨S4x8192x256, .f32⟩
  | .hbm, ⟨53, _⟩ => ⟨S4x8192x256, .f32⟩
  | .hbm, ⟨54, _⟩ => ⟨S4x8192x256, .f32⟩
  | .hbm, ⟨55, _⟩ => ⟨S4x8192x256, .f32⟩
  | .hbm, ⟨56, _⟩ => ⟨S4x8192x1x256, .f32⟩
  | .hbm, ⟨57, _⟩ => ⟨S4x8192x256, .f32⟩
  | .hbm, ⟨58, _⟩ => ⟨S4x8192x1x256, .f32⟩
  | .hbm, ⟨59, _⟩ => ⟨S4x8192x256, .f32⟩
  | .hbm, ⟨60, _⟩ => ⟨S4x8192x1024, .f32⟩
  | .hbm, ⟨61, _⟩ => ⟨S_, .f32⟩
  | .hbm, ⟨62, _⟩ => ⟨S4x8192x1024, .f32⟩
  | .hbm, ⟨63, _⟩ => ⟨S4x8192x1024, .f32⟩
  | .hbm, ⟨64, _⟩ => ⟨S_, .f32⟩
  | .hbm, ⟨65, _⟩ => ⟨S4x1x1024, .f32⟩
  | .hbm, ⟨66, _⟩ => ⟨S4x1x1024, .f32⟩
  | .hbm, ⟨67, _⟩ => ⟨S4x8192x1024, .f32⟩
  | .hbm, ⟨68, _⟩ => ⟨S4x8192x1024, .f32⟩
  | .hbm, ⟨69, _⟩ => ⟨S4x8192x1024, .f32⟩
  | .hbm, ⟨70, _⟩ => ⟨S4x8192x1024, .f32⟩
  | .hbm, ⟨71, _⟩ => ⟨S_, .f32⟩
  | .hbm, ⟨72, _⟩ => ⟨S4x8192, .f32⟩
  | .hbm, ⟨73, _⟩ => ⟨S4x8192x1, .f32⟩
  | .hbm, ⟨74, _⟩ => ⟨S_, .f32⟩
  | .hbm, ⟨75, _⟩ => ⟨S4x8192x1, .f32⟩
  | .hbm, ⟨76, _⟩ => ⟨S4x8192x1, .f32⟩
  | .hbm, ⟨77, _⟩ => ⟨S4x8192x1024, .f32⟩
  | .hbm, ⟨78, _⟩ => ⟨S4x8192x1024, .f32⟩
  | .hbm, ⟨79, _⟩ => ⟨S4x8192x1024, .f32⟩
  | .hbm, ⟨80, _⟩ => ⟨S_, .f32⟩
  | .hbm, ⟨81, _⟩ => ⟨S4x8192, .f32⟩
  | .hbm, ⟨82, _⟩ => ⟨S4x8192x1, .f32⟩
  | .hbm, ⟨83, _⟩ => ⟨S_, .f32⟩
  | .hbm, ⟨84, _⟩ => ⟨S4x8192x1, .f32⟩
  | .hbm, ⟨85, _⟩ => ⟨S4x8192x1, .f32⟩
  | .hbm, ⟨86, _⟩ => ⟨S4x8192x1024, .f32⟩
  | .hbm, ⟨87, _⟩ => ⟨S4x8192x1024, .f32⟩
  | .hbm, ⟨88, _⟩ => ⟨S_, .f32⟩
  | .hbm, ⟨89, _⟩ => ⟨S4x8192x1, .f32⟩
  | .hbm, ⟨90, _⟩ => ⟨S4x8192x1, .f32⟩
  | .hbm, ⟨91, _⟩ => ⟨S4x8192x1, .f32⟩
  | .hbm, ⟨92, _⟩ => ⟨S4x8192x1024, .f32⟩
  | .hbm, ⟨93, _⟩ => ⟨S4x8192x1024, .f32⟩
  | .hbm, ⟨94, _⟩ => ⟨S1x1x1024, .f32⟩
  | .hbm, ⟨95, _⟩ => ⟨S4x8192x1024, .f32⟩
  | .hbm, ⟨96, _⟩ => ⟨S4x8192x1024, .f32⟩
  | .hbm, ⟨97, _⟩ => ⟨S1x1x1024, .f32⟩
  | .hbm, ⟨98, _⟩ => ⟨S4x8192x1024, .f32⟩
  | .hbm, ⟨99, _⟩ => ⟨S4x8192x1024, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst : Ref sig .tc := ⟨.hbm, 27, rfl⟩
abbrev main_v15 : Ref sig .tc := ⟨.hbm, 28, rfl⟩
abbrev main_v16 : Ref sig .tc := ⟨.hbm, 29, rfl⟩
abbrev main_cst_0 : Ref sig .tc := ⟨.hbm, 30, rfl⟩
abbrev main_v17 : Ref sig .tc := ⟨.hbm, 31, rfl⟩
abbrev main_v18 : Ref sig .tc := ⟨.hbm, 32, rfl⟩
abbrev main_cst_1 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_call0_v0 : Ref sig .tc := ⟨.hbm, 46, rfl⟩
abbrev main_call0_v1 : Ref sig .tc := ⟨.hbm, 47, rfl⟩
abbrev main_call0_cst : Ref sig .tc := ⟨.hbm, 48, rfl⟩
abbrev main_call0_v2 : Ref sig .tc := ⟨.hbm, 49, rfl⟩
abbrev main_call0_v3 : Ref sig .tc := ⟨.hbm, 50, rfl⟩
abbrev main_call0_cst_0 : Ref sig .tc := ⟨.hbm, 51, rfl⟩
abbrev main_call0_v4 : Ref sig .tc := ⟨.hbm, 52, rfl⟩
abbrev main_call0_v5 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_cst_2 : Ref sig .tc := ⟨.hbm, 61, rfl⟩
abbrev main_v38 : Ref sig .tc := ⟨.hbm, 62, rfl⟩
abbrev main_v39 : Ref sig .tc := ⟨.hbm, 63, rfl⟩
abbrev main_cst_3 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_cst_4 : Ref sig .tc := ⟨.hbm, 71, rfl⟩
abbrev main_v46 : Ref sig .tc := ⟨.hbm, 72, rfl⟩
abbrev main_v47 : Ref sig .tc := ⟨.hbm, 73, rfl⟩
abbrev main_cst_5 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_cst_6 : Ref sig .tc := ⟨.hbm, 80, rfl⟩
abbrev main_v53 : Ref sig .tc := ⟨.hbm, 81, rfl⟩
abbrev main_v54 : Ref sig .tc := ⟨.hbm, 82, rfl⟩
abbrev main_cst_7 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_cst_8 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩

abbrev nD : Nat := 1
abbrev τ : Topo := Topo.v7x

variable {F : FTy → Type} [FloatOps F]
-- ==== Kernel6.lean ====
abbrev S4x8192x3456 : Shape := ⟨3, ![4, 8192, 3456]⟩
abbrev S4 : Shape := ⟨1, ![4]⟩
abbrev S256x256 : Shape := ⟨2, ![256, 256]⟩
abbrev S384x768 : Shape := ⟨2, ![384, 768]⟩
abbrev S1x768 : Shape := ⟨2, ![1, 768]⟩
abbrev S_ : Shape := ⟨0, ![]⟩
abbrev S1x128 : Shape := ⟨2, ![1, 128]⟩
abbrev S1 : Shape := ⟨1, ![1]⟩
abbrev S2 : Shape := ⟨1, ![2]⟩
abbrev S4x8192x4 : Shape := ⟨3, ![4, 8192, 4]⟩
abbrev S4x8192x512 : Shape := ⟨3, ![4, 8192, 512]⟩
abbrev S4x32x256x256 : Shape := ⟨4, ![4, 32, 256, 256]⟩
abbrev S4x32x128x256 : Shape := ⟨4, ![4, 32, 128, 256]⟩
abbrev S1x256x512 : Shape := ⟨3, ![1, 256, 512]⟩
abbrev S1x256x256 : Shape := ⟨3, ![1, 256, 256]⟩
abbrev S1x256x128 : Shape := ⟨3, ![1, 256, 128]⟩
abbrev S1x256x4 : Shape := ⟨3, ![1, 256, 4]⟩
abbrev S1x1x256x256 : Shape := ⟨4, ![1, 1, 256, 256]⟩
abbrev S1x1x128x256 : Shape := ⟨4, ![1, 1, 128, 256]⟩
abbrev S256x128 : Shape := ⟨2, ![256, 128]⟩
abbrev S256x4 : Shape := ⟨2, ![256, 4]⟩
abbrev S256x384 : Shape := ⟨2, ![256, 384]⟩
abbrev S256x768 : Shape := ⟨2, ![256, 768]⟩
abbrev S256x512 : Shape := ⟨2, ![256, 512]⟩
abbrev S128x256 : Shape := ⟨2, ![128, 256]⟩

abbrev nBuf : Space → Nat
  | .hbm => 17
  | .vmem => 21
  | .smem => 0
  | _ => 0

abbrev bufTy : (tb : Table) → Fin (tcTables nBuf tb) → BufTy
  | .hbm, ⟨0, _⟩ => ⟨S4x8192x3456, .f32⟩
  | .hbm, ⟨1, _⟩ => ⟨S4, .f32⟩
  | .hbm, ⟨2, _⟩ => ⟨S256x256, .f32⟩
  | .hbm, ⟨3, _⟩ => ⟨S384x768, .bf16⟩
  | .hbm, ⟨4, _⟩ => ⟨S1x768, .f32⟩
  | .hbm, ⟨5, _⟩ => ⟨S_, .f32⟩
  | .hbm, ⟨6, _⟩ => ⟨S1x128, .f32⟩
  | .hbm, ⟨7, _⟩ => ⟨S_, .i32⟩
  | .hbm, ⟨8, _⟩ => ⟨S1, .i32⟩
  | .hbm, ⟨9, _⟩ => ⟨S_, .i32⟩
  | .hbm, ⟨10, _⟩ => ⟨S1, .i32⟩
  | .hbm, ⟨11, _⟩ => ⟨S2, .i32⟩
  | .hbm, ⟨12, _⟩ => ⟨S1x128, .f32⟩
  | .hbm, ⟨13, _⟩ => ⟨S4x8192x4, .f32⟩
  | .hbm, ⟨14, _⟩ => ⟨S4x8192x512, .bf16⟩
  | .hbm, ⟨15, _⟩ => ⟨S4x32x256x256, .bf16⟩
  | .hbm, ⟨16, _⟩ => ⟨S4x32x128x256, .bf16⟩
  | .local _ .vmem, ⟨0, _⟩ => ⟨S1x256x512, .f32⟩
  | .local _ .vmem, ⟨1, _⟩ => ⟨S1x256x512, .f32⟩
  | .local _ .vmem, ⟨2, _⟩ => ⟨S1x256x256, .f32⟩
  | .local _ .vmem, ⟨3, _⟩ => ⟨S1x256x256, .f32⟩
  | .local _ .vmem, ⟨4, _⟩ => ⟨S1x256x256, .f32⟩
  | .local _ .vmem, ⟨5, _⟩ => ⟨S1x256x256, .f32⟩
  | .local _ .vmem, ⟨6, _⟩ => ⟨S1x256x128, .f32⟩
  | .local _ .vmem, ⟨7, _⟩ => ⟨S1x256x128, .f32⟩
  | .local _ .vmem, ⟨8, _⟩ => ⟨S1x128, .f32⟩
  | .local _ .vmem, ⟨9, _⟩ => ⟨S256x256, .f32⟩
  | .local _ .vmem, ⟨10, _⟩ => ⟨S384x768, .bf16⟩
  | .local _ .vmem, ⟨11, _⟩ => ⟨S1x768, .f32⟩
  | .local _ .vmem, ⟨12, _⟩ => ⟨S1x256x4, .f32⟩
  | .local _ .vmem, ⟨13, _⟩ => ⟨S1x256x4, .f32⟩
  | .local _ .vmem, ⟨14, _⟩ => ⟨S1x256x512, .bf16⟩
  | .local _ .vmem, ⟨15, _⟩ => ⟨S1x256x512, .bf16⟩
  | .local _ .vmem, ⟨16, _⟩ => ⟨S1x1x256x256, .bf16⟩
  | .local _ .vmem, ⟨17, _⟩ => ⟨S1x1x256x256, .bf16⟩
  | .local _ .vmem, ⟨18, _⟩ => ⟨S1x1x128x256, .bf16⟩
  | .local _ .vmem, ⟨19, _⟩ => ⟨S1x1x128x256, .bf16⟩
  | .local _ .vmem, ⟨20, _⟩ => ⟨S1x128, .f32⟩
  | _, _ => ⟨S4x8192x3456, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5_0 : Ref sig .tc := ⟨.hbm, 13, rfl⟩
abbrev main_v5_1 : Ref sig .tc := ⟨.hbm, 14, rfl⟩
abbrev main_v5_2 : Ref sig .tc := ⟨.hbm, 15, rfl⟩
abbrev main_v5_3 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨2, ![4, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c8_i32 : BitVec 32 := 8#32
  let c0_i32 : BitVec 32 := 0#32
  ![arg0.toNat, arg1.toNat, c8_i32.toNat]

def cc0_transform_2 (i : grid0.Coords) : Fin 3 → Nat :=
  let arg0 : BitVec 32 := BitVec.ofNat 32 (i 0).val
  let arg1 : BitVec 32 := BitVec.ofNat 32 (i 1).val
  let c9_i32 : BitVec 32 := 9#32
  let c0_i32 : BitVec 32 := 0#32
  ![arg0.toNat, arg1.toNat, c9_i32.toNat]

def cc0_transform_3 (i : grid0.Coords) : Fin 3 → Nat :=
  let arg0 : BitVec 32 := BitVec.ofNat 32 (i 0).val
  let arg1 : BitVec 32 := BitVec.ofNat 32 (i 1).val
  let c26_i32 : BitVec 32 := 26#32
  let c0_i32 : BitVec 32 := 0#32
  ![arg0.toNat, arg1.toNat, c26_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S384x768 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x768 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x256x4 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x1x256x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x1x128x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== Reference6Ideal.lean ====
abbrev S4x8192x3456 : Shape := ⟨3, ![4, 8192, 3456]⟩
abbrev S4 : Shape := ⟨1, ![4]⟩
abbrev S256x256 : Shape := ⟨2, ![256, 256]⟩
abbrev S384x768 : Shape := ⟨2, ![384, 768]⟩
abbrev S1x768 : Shape := ⟨2, ![1, 768]⟩
abbrev S4x8192x4 : Shape := ⟨3, ![4, 8192, 4]⟩
abbrev S1x1x4 : Shape := ⟨3, ![1, 1, 4]⟩
abbrev S_ : Shape := ⟨0, ![]⟩

abbrev nBuf : Space → Nat
  | .hbm => 25
  | .vmem => 0
  | .smem => 0
  | _ => 0

abbrev bufTy : (tb : Table) → Fin (tcTables nBuf tb) → BufTy
  | .hbm, ⟨0, _⟩ => ⟨S4x8192x3456, .f32⟩
  | .hbm, ⟨1, _⟩ => ⟨S4, .f32⟩
  | .hbm, ⟨2, _⟩ => ⟨S256x256, .f32⟩
  | .hbm, ⟨3, _⟩ => ⟨S384x768, .bf16⟩
  | .hbm, ⟨4, _⟩ => ⟨S1x768, .f32⟩
  | .hbm, ⟨5, _⟩ => ⟨S4x8192x4, .f32⟩
  | .hbm, ⟨6, _⟩ => ⟨S1x1x4, .f32⟩
  | .hbm, ⟨7, _⟩ => ⟨S4x8192x4, .f32⟩
  | .hbm, ⟨8, _⟩ => ⟨S4x8192x4, .f32⟩
  | .hbm, ⟨9, _⟩ => ⟨S4x8192x4, .f32⟩
  | .hbm, ⟨10, _⟩ => ⟨S_, .f32⟩
  | .hbm, ⟨11, _⟩ => ⟨S4x8192x4, .f32⟩
  | .hbm, ⟨12, _⟩ => ⟨S4x8192x4, .f32⟩
  | .hbm, ⟨13, _⟩ => ⟨S4x8192x4, .f32⟩
  | .hbm, ⟨14, _⟩ => ⟨S4x8192x4, .f32⟩
  | .hbm, ⟨15, _⟩ => ⟨S4x8192x4, .i1⟩
  | .hbm, ⟨16, _⟩ => ⟨S4x8192x4, .f32⟩
  | .hbm, ⟨17, _⟩ => ⟨S4x8192x4, .f32⟩
  | .hbm, ⟨18, _⟩ => ⟨S4x8192x4, .f32⟩
  | .hbm, ⟨19, _⟩ => ⟨S4x8192x4, .f32⟩
  | .hbm, ⟨20, _⟩ => ⟨S4x8192x4, .f32⟩
  | .hbm, ⟨21, _⟩ => ⟨S4x8192x4, .f32⟩
  | .hbm, ⟨22, _⟩ => ⟨S4x8192x4, .f32⟩
  | .hbm, ⟨23, _⟩ => ⟨S4x8192x4, .f32⟩
  | .hbm, ⟨24, _⟩ => ⟨S4x8192x4, .f32⟩
  | _, _ => ⟨S4x8192x3456, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_call0_v0 : Ref sig .tc := ⟨.hbm, 9, rfl⟩
abbrev main_call0_call0_cst : Ref sig .tc := ⟨.hbm, 10, rfl⟩
abbrev main_call0_call0_v0 : Ref sig .tc := ⟨.hbm, 11, rfl⟩
abbrev main_call0_call0_v1 : Ref sig .tc := ⟨.hbm, 12, rfl⟩
abbrev main_call0_call0_v2 : Ref sig .tc := ⟨.hbm, 13, rfl⟩
abbrev main_call0_call0_v3 : Ref sig .tc := ⟨.hbm, 14, rfl⟩
abbrev main_call0_call0_v4 : Ref sig .tc := ⟨.hbm, 15, rfl⟩
abbrev main_call0_call0_v5 : Ref sig .tc := ⟨.hbm, 16, rfl⟩
abbrev main_call0_call0_v6 : Ref sig .tc := ⟨.hbm, 17, rfl⟩
abbrev main_call0_call0_v7 : Ref sig .tc := ⟨.hbm, 18, rfl⟩
abbrev main_call0_call0_v8 : Ref sig .tc := ⟨.hbm, 19, rfl⟩
abbrev main_call0_call0_v9 : Ref sig .tc := ⟨.hbm, 20, rfl⟩
abbrev main_call0_call0_v10 : Ref sig .tc := ⟨.hbm, 21, rfl⟩
abbrev main_call0_call0_v11 : Ref sig .tc := ⟨.hbm, 22, rfl⟩
abbrev main_call0_v1 : Ref sig .tc := ⟨.hbm, 23, rfl⟩
abbrev main_v4 : Ref sig .tc := ⟨.hbm, 24, rfl⟩

abbrev nD : Nat := 1
abbrev τ : Topo := Topo.v7x

variable {F : FTy → Type} [FloatOps F]
-- ==== Kernel7.lean ====
abbrev S4x8192x3456 : Shape := ⟨3, ![4, 8192, 3456]⟩
abbrev S128 : Shape := ⟨1, ![128]⟩
abbrev S1x256 : Shape := ⟨2, ![1, 256]⟩
abbrev S256x384 : Shape := ⟨2, ![256, 384]⟩
abbrev S384x1024 : Shape := ⟨2, ![384, 1024]⟩
abbrev S1x128 : Shape := ⟨2, ![1, 128]⟩
abbrev S8192 : Shape := ⟨1, ![8192]⟩
abbrev S16 : Shape := ⟨1, ![16]⟩
abbrev S_ : Shape := ⟨0, ![]⟩
abbrev S8192x1 : Shape := ⟨2, ![8192, 1]⟩
abbrev S1x16 : Shape := ⟨2, ![1, 16]⟩
abbrev S8192x16 : Shape := ⟨2, ![8192, 16]⟩
abbrev S8192x96 : Shape := ⟨2, ![8192, 96]⟩
abbrev S1x8192x1x16 : Shape := ⟨4, ![1, 8192, 1, 16]⟩
abbrev S1x8192x4x16 : Shape := ⟨4, ![1, 8192, 4, 16]⟩
abbrev S8192x64 : Shape := ⟨2, ![8192, 64]⟩
abbrev S8192x128 : Shape := ⟨2, ![8192, 128]⟩
abbrev S4x8192x1024 : Shape := ⟨3, ![4, 8192, 1024]⟩
abbrev S4x8192x160 : Shape := ⟨3, ![4, 8192, 160]⟩
abbrev S4x32x256x256 : Shape := ⟨4, ![4, 32, 256, 256]⟩
abbrev S4x32x128x256 : Shape := ⟨4, ![4, 32, 128, 256]⟩
abbrev S1x256x256 : Shape := ⟨3, ![1, 256, 256]⟩
abbrev S1x256x128 : Shape := ⟨3, ![1, 256, 128]⟩
abbrev S256x128 : Shape := ⟨2, ![256, 128]⟩
abbrev S1x256x1024 : Shape := ⟨3, ![1, 256, 1024]⟩
abbrev S1x256x160 : Shape := ⟨3, ![1, 256, 160]⟩
abbrev S1x1x256x256 : Shape := ⟨4, ![1, 1, 256, 256]⟩
abbrev S1x1x128x256 : Shape := ⟨4, ![1, 1, 128, 256]⟩
abbrev S256x256 : Shape := ⟨2, ![256, 256]⟩
abbrev S256 : Shape := ⟨1, ![256]⟩
abbrev S256x1 : Shape := ⟨2, ![256, 1]⟩
abbrev S256x1024 : Shape := ⟨2, ![256, 1024]⟩
abbrev S256x160 : Shape := ⟨2, ![256, 160]⟩
abbrev S128x256 : Shape := ⟨2, ![128, 256]⟩

abbrev nBuf : Space → Nat
  | .hbm => 44
  | .vmem => 28
  | .smem => 0
  | _ => 0

abbrev bufTy : (tb : Table) → Fin (tcTables nBuf tb) → BufTy
  | .hbm, ⟨0, _⟩ => ⟨S4x8192x3456, .f32⟩
  | .hbm, ⟨1, _⟩ => ⟨S128, .f32⟩
  | .hbm, ⟨2, _⟩ => ⟨S1x256, .f32⟩
  | .hbm, ⟨3, _⟩ => ⟨S256x384, .bf16⟩
  | .hbm, ⟨4, _⟩ => ⟨S384x1024, .bf16⟩
  | .hbm, ⟨5, _⟩ => ⟨S1x128, .f32⟩
  | .hbm, ⟨6, _⟩ => ⟨S8192, .i32⟩
  | .hbm, ⟨7, _⟩ => ⟨S16, .f32⟩
  | .hbm, ⟨8, _⟩ => ⟨S16, .f32⟩
  | .hbm, ⟨9, _⟩ => ⟨S_, .f32⟩
  | .hbm, ⟨10, _⟩ => ⟨S16, .f32⟩
  | .hbm, ⟨11, _⟩ => ⟨S16, .f32⟩
  | .hbm, ⟨12, _⟩ => ⟨S_, .f32⟩
  | .hbm, ⟨13, _⟩ => ⟨S16, .f32⟩
  | .hbm, ⟨14, _⟩ => ⟨S16, .f32⟩
  | .hbm, ⟨15, _⟩ => ⟨S8192, .f32⟩
  | .hbm, ⟨16, _⟩ => ⟨S8192x1, .f32⟩
  | .hbm, ⟨17, _⟩ => ⟨S1x16, .f32⟩
  | .hbm, ⟨18, _⟩ => ⟨S8192x16, .f32⟩
  | .hbm, ⟨19, _⟩ => ⟨S8192x16, .f32⟩
  | .hbm, ⟨20, _⟩ => ⟨S8192x16, .f32⟩
  | .hbm, ⟨21, _⟩ => ⟨S8192x16, .f32⟩
  | .hbm, ⟨22, _⟩ => ⟨S8192x16, .f32⟩
  | .hbm, ⟨23, _⟩ => ⟨S_, .f32⟩
  | .hbm, ⟨24, _⟩ => ⟨S8192x96, .f32⟩
  | .hbm, ⟨25, _⟩ => ⟨S_, .f32⟩
  | .hbm, ⟨26, _⟩ => ⟨S8192x16, .f32⟩
  | .hbm, ⟨27, _⟩ => ⟨S1x8192x1x16, .f32⟩
  | .hbm, ⟨28, _⟩ => ⟨S1x8192x4x16, .f32⟩
  | .hbm, ⟨29, _⟩ => ⟨S8192x64, .f32⟩
  | .hbm, ⟨30, _⟩ => ⟨S1x8192x1x16, .f32⟩
  | .hbm, ⟨31, _⟩ => ⟨S1x8192x4x16, .f32⟩
  | .hbm, ⟨32, _⟩ => ⟨S8192x64, .f32⟩
  | .hbm, ⟨33, _⟩ => ⟨S8192x128, .f32⟩
  | .hbm, ⟨34, _⟩ => ⟨S8192x64, .f32⟩
  | .hbm, ⟨35, _⟩ => ⟨S8192x128, .f32⟩
  | .hbm, ⟨36, _⟩ => ⟨S8192x128, .f32⟩
  | .hbm, ⟨37, _⟩ => ⟨S8192x16, .f32⟩
  | .hbm, ⟨38, _⟩ => ⟨S8192x128, .f32⟩
  | .hbm, ⟨39, _⟩ => ⟨S8192x128, .f32⟩
  | .hbm, ⟨40, _⟩ => ⟨S4x8192x1024, .bf16⟩
  | .hbm, ⟨41, _⟩ => ⟨S4x8192x160, .f32⟩
  | .hbm, ⟨42, _⟩ => ⟨S4x32x256x256, .bf16⟩
  | .hbm, ⟨43, _⟩ => ⟨S4x32x128x256, .bf16⟩
  | .local _ .vmem, ⟨0, _⟩ => ⟨S1x256x256, .f32⟩
  | .local _ .vmem, ⟨1, _⟩ => ⟨S1x256x256, .f32⟩
  | .local _ .vmem, ⟨2, _⟩ => ⟨S1x256x128, .f32⟩
  | .local _ .vmem, ⟨3, _⟩ => ⟨S1x256x128, .f32⟩
  | .local _ .vmem, ⟨4, _⟩ => ⟨S1x256x128, .f32⟩
  | .local _ .vmem, ⟨5, _⟩ => ⟨S1x256x128, .f32⟩
  | .local _ .vmem, ⟨6, _⟩ => ⟨S1x256, .f32⟩
  | .local _ .vmem, ⟨7, _⟩ => ⟨S1x128, .f32⟩
  | .local _ .vmem, ⟨8, _⟩ => ⟨S256x384, .bf16⟩
  | .local _ .vmem, ⟨9, _⟩ => ⟨S384x1024, .bf16⟩
  | .local _ .vmem, ⟨10, _⟩ => ⟨S256x128, .f32⟩
  | .local _ .vmem, ⟨11, _⟩ => ⟨S256x128, .f32⟩
  | .local _ .vmem, ⟨12, _⟩ => ⟨S256x128, .f32⟩
  | .local _ .vmem, ⟨13, _⟩ => ⟨S256x128, .f32⟩
  | .local _ .vmem, ⟨14, _⟩ => ⟨S256x128, .f32⟩
  | .local _ .vmem, ⟨15, _⟩ => ⟨S256x128, .f32⟩
  | .local _ .vmem, ⟨16, _⟩ => ⟨S256x128, .f32⟩
  | .local _ .vmem, ⟨17, _⟩ => ⟨S256x128, .f32⟩
  | .local _ .vmem, ⟨18, _⟩ => ⟨S256x128, .f32⟩
  | .local _ .vmem, ⟨19, _⟩ => ⟨S256x128, .f32⟩
  | .local _ .vmem, ⟨20, _⟩ => ⟨S1x256x1024, .bf16⟩
  | .local _ .vmem, ⟨21, _⟩ => ⟨S1x256x1024, .bf16⟩
  | .local _ .vmem, ⟨22, _⟩ => ⟨S1x256x160, .f32⟩
  | .local _ .vmem, ⟨23, _⟩ => ⟨S1x256x160, .f32⟩
  | .local _ .vmem, ⟨24, _⟩ => ⟨S1x1x256x256, .bf16⟩
  | .local _ .vmem, ⟨25, _⟩ => ⟨S1x1x256x256, .bf16⟩
  | .local _ .vmem, ⟨26, _⟩ => ⟨S1x1x128x256, .bf16⟩
  | .local _ .vmem, ⟨27, _⟩ => ⟨S1x1x128x256, .bf16⟩
  | _, _ => ⟨S4x8192x3456, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_1 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31_0 : Ref sig .tc := ⟨.hbm, 40, rfl⟩
abbrev main_v31_1 : Ref sig .tc := ⟨.hbm, 41, rfl⟩
abbrev main_v31_2 : Ref sig .tc := ⟨.hbm, 42, rfl⟩
abbrev main_v31_3 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem15_1 : DmaSem sig := 27

abbrev nD : Nat := 1
abbrev τ : Topo := Topo.v7x

variable {F : FTy → Type} [FloatOps F]

abbrev grid0 : Pipeline.Grid := ⟨2, ![4, 32], ![false, false]⟩

def cc0_transform_0 (i : grid0.Coords) : Fin 3 → Nat :=
  let arg0 : BitVec 32 := BitVec.ofNat 32 (i 0).val
  let arg1 : BitVec 32 := BitVec.ofNat 32 (i 1).val
  let c10_i32 : BitVec 32 := 10#32
  let c0_i32 : BitVec 32 := 0#32
  ![arg0.toNat, arg1.toNat, c10_i32.toNat]

def cc0_transform_1 (i : grid0.Coords) : Fin 3 → Nat :=
  let arg0 : BitVec 32 := BitVec.ofNat 32 (i 0).val
  let arg1 : BitVec 32 := BitVec.ofNat 32 (i 1).val
  let c25_i32 : BitVec 32 := 25#32
  let c0_i32 : BitVec 32 := 0#32
  ![arg0.toNat, arg1.toNat, c25_i32.toNat]

def cc0_transform_2 (i : grid0.Coords) : Fin 3 → Nat :=
  let arg0 : BitVec 32 := BitVec.ofNat 32 (i 0).val
  let arg1 : BitVec 32 := BitVec.ofNat 32 (i 1).val
  let c26_i32 : BitVec 32 := 26#32
  let c0_i32 : BitVec 32 := 0#32
  ![arg0.toNat, arg1.toNat, c26_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_15 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S256x384 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S384x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S256x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S256x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 2 → Memref sig .tc .vmem S256x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, true]

abbrev stage0_12 : Fin 2 → Memref sig .tc .vmem S1x256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x256x160 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x1x256x256 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x1x128x256 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]
-- ==== Reference7Ideal.lean ====
abbrev S4x8192x3456 : Shape := ⟨3, ![4, 8192, 3456]⟩
abbrev S128 : Shape := ⟨1, ![128]⟩
abbrev S1x256 : Shape := ⟨2, ![1, 256]⟩
abbrev S256x384 : Shape := ⟨2, ![256, 384]⟩
abbrev S384x1024 : Shape := ⟨2, ![384, 1024]⟩
abbrev S4x8192x128 : Shape := ⟨3, ![4, 8192, 128]⟩
abbrev S4x8192x32 : Shape := ⟨3, ![4, 8192, 32]⟩
abbrev S_ : Shape := ⟨0, ![]⟩
abbrev S4x8192 : Shape := ⟨2, ![4, 8192]⟩
abbrev S4x8192x1 : Shape := ⟨3, ![4, 8192, 1]⟩
abbrev S1x1x128 : Shape := ⟨3, ![1, 1, 128]⟩
abbrev S8192 : Shape := ⟨1, ![8192]⟩
abbrev S16 : Shape := ⟨1, ![16]⟩
abbrev S8192x1 : Shape := ⟨2, ![8192, 1]⟩
abbrev S1x16 : Shape := ⟨2, ![1, 16]⟩
abbrev S8192x16 : Shape := ⟨2, ![8192, 16]⟩
abbrev S4x8192x16 : Shape := ⟨3, ![4, 8192, 16]⟩
abbrev S1x8192x16 : Shape := ⟨3, ![1, 8192, 16]⟩
abbrev S4x8192x160 : Shape := ⟨3, ![4, 8192, 160]⟩

abbrev nBuf : Space → Nat
  | .hbm => 58
  | .vmem => 0
  | .smem => 0
  | _ => 0

abbrev bufTy : (tb : Table) → Fin (tcTables nBuf tb) → BufTy
  | .hbm, ⟨0, _⟩ => ⟨S4x8192x3456, .f32⟩
  | .hbm, ⟨1, _⟩ => ⟨S128, .f32⟩
  | .hbm, ⟨2, _⟩ => ⟨S1x256, .f32⟩
  | .hbm, ⟨3, _⟩ => ⟨S256x384, .bf16⟩
  | .hbm, ⟨4, _⟩ => ⟨S384x1024, .bf16⟩
  | .hbm, ⟨5, _⟩ => ⟨S4x8192x128, .f32⟩
  | .hbm, ⟨6, _⟩ => ⟨S4x8192x32, .f32⟩
  | .hbm, ⟨7, _⟩ => ⟨S4x8192x128, .f32⟩
  | .hbm, ⟨8, _⟩ => ⟨S_, .f32⟩
  | .hbm, ⟨9, _⟩ => ⟨S4x8192, .f32⟩
  | .hbm, ⟨10, _⟩ => ⟨S4x8192x1, .f32⟩
  | .hbm, ⟨11, _⟩ => ⟨S_, .f32⟩
  | .hbm, ⟨12, _⟩ => ⟨S4x8192x1, .f32⟩
  | .hbm, ⟨13, _⟩ => ⟨S4x8192x1, .f32⟩
  | .hbm, ⟨14, _⟩ => ⟨S_, .f32⟩
  | .hbm, ⟨15, _⟩ => ⟨S4x8192x1, .f32⟩
  | .hbm, ⟨16, _⟩ => ⟨S4x8192x1, .f32⟩
  | .hbm, ⟨17, _⟩ => ⟨S4x8192x1, .f32⟩
  | .hbm, ⟨18, _⟩ => ⟨S4x8192x128, .f32⟩
  | .hbm, ⟨19, _⟩ => ⟨S4x8192x128, .f32⟩
  | .hbm, ⟨20, _⟩ => ⟨S1x1x128, .f32⟩
  | .hbm, ⟨21, _⟩ => ⟨S4x8192x128, .f32⟩
  | .hbm, ⟨22, _⟩ => ⟨S4x8192x128, .f32⟩
  | .hbm, ⟨23, _⟩ => ⟨S8192, .i32⟩
  | .hbm, ⟨24, _⟩ => ⟨S16, .f32⟩
  | .hbm, ⟨25, _⟩ => ⟨S16, .f32⟩
  | .hbm, ⟨26, _⟩ => ⟨S_, .f32⟩
  | .hbm, ⟨27, _⟩ => ⟨S16, .f32⟩
  | .hbm, ⟨28, _⟩ => ⟨S16, .f32⟩
  | .hbm, ⟨29, _⟩ => ⟨S_, .f32⟩
  | .hbm, ⟨30, _⟩ => ⟨S16, .f32⟩
  | .hbm, ⟨31, _⟩ => ⟨S16, .f32⟩
  | .hbm, ⟨32, _⟩ => ⟨S8192, .f32⟩
  | .hbm, ⟨33, _⟩ => ⟨S8192x1, .f32⟩
  | .hbm, ⟨34, _⟩ => ⟨S1x16, .f32⟩
  | .hbm, ⟨35, _⟩ => ⟨S8192x16, .f32⟩
  | .hbm, ⟨36, _⟩ => ⟨S8192x16, .f32⟩
  | .hbm, ⟨37, _⟩ => ⟨S8192x16, .f32⟩
  | .hbm, ⟨38, _⟩ => ⟨S8192x16, .f32⟩
  | .hbm, ⟨39, _⟩ => ⟨S8192x16, .f32⟩
  | .hbm, ⟨40, _⟩ => ⟨S4x8192x16, .f32⟩
  | .hbm, ⟨41, _⟩ => ⟨S4x8192x16, .f32⟩
  | .hbm, ⟨42, _⟩ => ⟨S1x8192x16, .f32⟩
  | .hbm, ⟨43, _⟩ => ⟨S4x8192x16, .f32⟩
  | .hbm, ⟨44, _⟩ => ⟨S4x8192x16, .f32⟩
  | .hbm, ⟨45, _⟩ => ⟨S1x8192x16, .f32⟩
  | .hbm, ⟨46, _⟩ => ⟨S4x8192x16, .f32⟩
  | .hbm, ⟨47, _⟩ => ⟨S4x8192x16, .f32⟩
  | .hbm, ⟨48, _⟩ => ⟨S4x8192x16, .f32⟩
  | .hbm, ⟨49, _⟩ => ⟨S1x8192x16, .f32⟩
  | .hbm, ⟨50, _⟩ => ⟨S4x8192x16, .f32⟩
  | .hbm, ⟨51, _⟩ => ⟨S4x8192x16, .f32⟩
  | .hbm, ⟨52, _⟩ => ⟨S1x8192x16, .f32⟩
  | .hbm, ⟨53, _⟩ => ⟨S4x8192x16, .f32⟩
  | .hbm, ⟨54, _⟩ => ⟨S4x8192x16, .f32⟩
  | .hbm, ⟨55, _⟩ => ⟨S4x8192x16, .f32⟩
  | .hbm, ⟨56, _⟩ => ⟨S4x8192x32, .f32⟩
  | .hbm, ⟨57, _⟩ => ⟨S4x8192x160, .f32⟩
  | _, _ => ⟨S4x8192x3456, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩

abbrev nD : Nat := 1
abbrev τ : Topo := Topo.v7x

variable {F : FTy → Type} [FloatOps F]
-- ==== Kernel8.lean ====
abbrev S1x128x1024 : Shape := ⟨3, ![1, 128, 1024]⟩
abbrev S1024x2816 : Shape := ⟨2, ![1024, 2816]⟩
abbrev S2816x1024 : Shape := ⟨2, ![2816, 1024]⟩
abbrev S1024 : Shape := ⟨1, ![1024]⟩
abbrev S1x1024 : Shape := ⟨2, ![1, 1024]⟩
abbrev S128x1024 : Shape := ⟨2, ![128, 1024]⟩
abbrev S1024x256 : Shape := ⟨2, ![1024, 256]⟩
abbrev S128x256 : Shape := ⟨2, ![128, 256]⟩
abbrev S256x1024 : Shape := ⟨2, ![256, 1024]⟩
abbrev S128 : Shape := ⟨1, ![128]⟩
abbrev S128x1 : Shape := ⟨2, ![128, 1]⟩

abbrev nBuf : Space → Nat
  | .hbm => 15
  | .vmem => 10
  | .smem => 0
  | _ => 0

abbrev bufTy : (tb : Table) → Fin (tcTables nBuf tb) → BufTy
  | .hbm, ⟨0, _⟩ => ⟨S1x128x1024, .f32⟩
  | .hbm, ⟨1, _⟩ => ⟨S1x128x1024, .f32⟩
  | .hbm, ⟨2, _⟩ => ⟨S1x128x1024, .f32⟩
  | .hbm, ⟨3, _⟩ => ⟨S1x128x1024, .f32⟩
  | .hbm, ⟨4, _⟩ => ⟨S1024x2816, .f32⟩
  | .hbm, ⟨5, _⟩ => ⟨S1024x2816, .f32⟩
  | .hbm, ⟨6, _⟩ => ⟨S2816x1024, .f32⟩
  | .hbm, ⟨7, _⟩ => ⟨S1024, .f32⟩
  | .hbm, ⟨8, _⟩ => ⟨S1024, .f32⟩
  | .hbm, ⟨9, _⟩ => ⟨S1024x2816, .bf16⟩
  | .hbm, ⟨10, _⟩ => ⟨S1024x2816, .bf16⟩
  | .hbm, ⟨11, _⟩ => ⟨S2816x1024, .bf16⟩
  | .hbm, ⟨12, _⟩ => ⟨S1x1024, .f32⟩
  | .hbm, ⟨13, _⟩ => ⟨S1x1024, .f32⟩
  | .hbm, ⟨14, _⟩ => ⟨S1x128x1024, .f32⟩
  | .local _ .vmem, ⟨0, _⟩ => ⟨S1x128x1024, .f32⟩
  | .local _ .vmem, ⟨1, _⟩ => ⟨S1x128x1024, .f32⟩
  | .local _ .vmem, ⟨2, _⟩ => ⟨S1x128x1024, .f32⟩
  | .local _ .vmem, ⟨3, _⟩ => ⟨S1x128x1024, .f32⟩
  | .local _ .vmem, ⟨4, _⟩ => ⟨S1024x2816, .bf16⟩
  | .local _ .vmem, ⟨5, _⟩ => ⟨S1024x2816, .bf16⟩
  | .local _ .vmem, ⟨6, _⟩ => ⟨S2816x1024, .bf16⟩
  | .local _ .vmem, ⟨7, _⟩ => ⟨S1x1024, .f32⟩
  | .local _ .vmem, ⟨8, _⟩ => ⟨S1x1024, .f32⟩
  | .local _ .vmem, ⟨9, _⟩ => ⟨S1x128x1024, .f32⟩
  | _, _ => ⟨S1x128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S1x128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1024x2816 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x2816 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x128x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true, true]
-- ==== Reference8Ideal.lean ====
abbrev S1x128x1024 : Shape := ⟨3, ![1, 128, 1024]⟩
abbrev S1024x2816 : Shape := ⟨2, ![1024, 2816]⟩
abbrev S2816x1024 : Shape := ⟨2, ![2816, 1024]⟩
abbrev S1024 : Shape := ⟨1, ![1024]⟩
abbrev S_ : Shape := ⟨0, ![]⟩
abbrev S1x128x2816 : Shape := ⟨3, ![1, 128, 2816]⟩
abbrev S1x128 : Shape := ⟨2, ![1, 128]⟩
abbrev S1x128x1 : Shape := ⟨3, ![1, 128, 1]⟩
abbrev S1x1x1024 : Shape := ⟨3, ![1, 1, 1024]⟩

abbrev nBuf : Space → Nat
  | .hbm => 67
  | .vmem => 0
  | .smem => 0
  | _ => 0

abbrev bufTy : (tb : Table) → Fin (tcTables nBuf tb) → BufTy
  | .hbm, ⟨0, _⟩ => ⟨S1x128x1024, .f32⟩
  | .hbm, ⟨1, _⟩ => ⟨S1x128x1024, .f32⟩
  | .hbm, ⟨2, _⟩ => ⟨S1x128x1024, .f32⟩
  | .hbm, ⟨3, _⟩ => ⟨S1x128x1024, .f32⟩
  | .hbm, ⟨4, _⟩ => ⟨S1024x2816, .f32⟩
  | .hbm, ⟨5, _⟩ => ⟨S1024x2816, .f32⟩
  | .hbm, ⟨6, _⟩ => ⟨S2816x1024, .f32⟩
  | .hbm, ⟨7, _⟩ => ⟨S1024, .f32⟩
  | .hbm, ⟨8, _⟩ => ⟨S1024, .f32⟩
  | .hbm, ⟨9, _⟩ => ⟨S_, .f32⟩
  | .hbm, ⟨10, _⟩ => ⟨S1x128x1024, .f32⟩
  | .hbm, ⟨11, _⟩ => ⟨S1x128x1024, .f32⟩
  | .hbm, ⟨12, _⟩ => ⟨S1x128x1024, .f32⟩
  | .hbm, ⟨13, _⟩ => ⟨S1x128x1024, .f32⟩
  | .hbm, ⟨14, _⟩ => ⟨S1x128x2816, .f32⟩
  | .hbm, ⟨15, _⟩ => ⟨S1x128x2816, .f32⟩
  | .hbm, ⟨16, _⟩ => ⟨S1x128x2816, .f32⟩
  | .hbm, ⟨17, _⟩ => ⟨S_, .f32⟩
  | .hbm, ⟨18, _⟩ => ⟨S1x128x2816, .f32⟩
  | .hbm, ⟨19, _⟩ => ⟨S1x128x2816, .f32⟩
  | .hbm, ⟨20, _⟩ => ⟨S_, .f32⟩
  | .hbm, ⟨21, _⟩ => ⟨S1x128x2816, .f32⟩
  | .hbm, ⟨22, _⟩ => ⟨S1x128x2816, .f32⟩
  | .hbm, ⟨23, _⟩ => ⟨S1x128x2816, .f32⟩
  | .hbm, ⟨24, _⟩ => ⟨S1x128x2816, .f32⟩
  | .hbm, ⟨25, _⟩ => ⟨S1x128x2816, .f32⟩
  | .hbm, ⟨26, _⟩ => ⟨S1x128x1024, .f32⟩
  | .hbm, ⟨27, _⟩ => ⟨S_, .f32⟩
  | .hbm, ⟨28, _⟩ => ⟨S1x128x1024, .f32⟩
  | .hbm, ⟨29, _⟩ => ⟨S1x128x1024, .f32⟩
  | .hbm, ⟨30, _⟩ => ⟨S_, .f32⟩
  | .hbm, ⟨31, _⟩ => ⟨S1x128x1024, .f32⟩
  | .hbm, ⟨32, _⟩ => ⟨S1x128x1024, .f32⟩
  | .hbm, ⟨33, _⟩ => ⟨S_, .f32⟩
  | .hbm, ⟨34, _⟩ => ⟨S1x128x1024, .f32⟩
  | .hbm, ⟨35, _⟩ => ⟨S1x128x1024, .f32⟩
  | .hbm, ⟨36, _⟩ => ⟨S1x128x1024, .f32⟩
  | .hbm, ⟨37, _⟩ => ⟨S1x128x1024, .f32⟩
  | .hbm, ⟨38, _⟩ => ⟨S_, .f32⟩
  | .hbm, ⟨39, _⟩ => ⟨S1x128, .f32⟩
  | .hbm, ⟨40, _⟩ => ⟨S1x128x1, .f32⟩
  | .hbm, ⟨41, _⟩ => ⟨S_, .f32⟩
  | .hbm, ⟨42, _⟩ => ⟨S1x128x1, .f32⟩
  | .hbm, ⟨43, _⟩ => ⟨S1x128x1, .f32⟩
  | .hbm, ⟨44, _⟩ => ⟨S1x128x1024, .f32⟩
  | .hbm, ⟨45, _⟩ => ⟨S1x128x1024, .f32⟩
  | .hbm, ⟨46, _⟩ => ⟨S1x128x1024, .f32⟩
  | .hbm, ⟨47, _⟩ => ⟨S_, .f32⟩
  | .hbm, ⟨48, _⟩ => ⟨S1x128, .f32⟩
  | .hbm, ⟨49, _⟩ => ⟨S1x128x1, .f32⟩
  | .hbm, ⟨50, _⟩ => ⟨S_, .f32⟩
  | .hbm, ⟨51, _⟩ => ⟨S1x128x1, .f32⟩
  | .hbm, ⟨52, _⟩ => ⟨S1x128x1, .f32⟩
  | .hbm, ⟨53, _⟩ => ⟨S1x128x1024, .f32⟩
  | .hbm, ⟨54, _⟩ => ⟨S1x128x1024, .f32⟩
  | .hbm, ⟨55, _⟩ => ⟨S_, .f32⟩
  | .hbm, ⟨56, _⟩ => ⟨S1x128x1, .f32⟩
  | .hbm, ⟨57, _⟩ => ⟨S1x128x1, .f32⟩
  | .hbm, ⟨58, _⟩ => ⟨S1x128x1, .f32⟩
  | .hbm, ⟨59, _⟩ => ⟨S1x128x1024, .f32⟩
  | .hbm, ⟨60, _⟩ => ⟨S1x128x1024, .f32⟩
  | .hbm, ⟨61, _⟩ => ⟨S1x1x1024, .f32⟩
  | .hbm, ⟨62, _⟩ => ⟨S1x128x1024, .f32⟩
  | .hbm, ⟨63, _⟩ => ⟨S1x128x1024, .f32⟩
  | .hbm, ⟨64, _⟩ => ⟨S1x1x1024, .f32⟩
  | .hbm, ⟨65, _⟩ => ⟨S1x128x1024, .f32⟩
  | .hbm, ⟨66, _⟩ => ⟨S1x128x1024, .f32⟩
  | _, _ => ⟨S1x128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_call0_v0 : Ref sig .tc := ⟨.hbm, 15, rfl⟩
abbrev main_call0_v1 : Ref sig .tc := ⟨.hbm, 16, rfl⟩
abbrev main_call0_cst : Ref sig .tc := ⟨.hbm, 17, rfl⟩
abbrev main_call0_v2 : Ref sig .tc := ⟨.hbm, 18, rfl⟩
abbrev main_call0_v3 : Ref sig .tc := ⟨.hbm, 19, rfl⟩
abbrev main_call0_cst_0 : Ref sig .tc := ⟨.hbm, 20, rfl⟩
abbrev main_call0_v4 : Ref sig .tc := ⟨.hbm, 21, rfl⟩
abbrev main_call0_v5 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_cst_0 : Ref sig .tc := ⟨.hbm, 27, rfl⟩
abbrev main_v9 : Ref sig .tc := ⟨.hbm, 28, rfl⟩
abbrev main_v10 : Ref sig .tc := ⟨.hbm, 29, rfl⟩
abbrev main_cst_1 : Ref sig .tc := ⟨.hbm, 30, rfl⟩
abbrev main_v11 : Ref sig .tc := ⟨.hbm, 31, rfl⟩
abbrev main_v12 : Ref sig .tc := ⟨.hbm, 32, rfl⟩
abbrev main_cst_2 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_cst_3 : Ref sig .tc := ⟨.hbm, 38, rfl⟩
abbrev main_v17 : Ref sig .tc := ⟨.hbm, 39, rfl⟩
abbrev main_v18 : Ref sig .tc := ⟨.hbm, 40, rfl⟩
abbrev main_cst_4 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_cst_5 : Ref sig .tc := ⟨.hbm, 47, rfl⟩
abbrev main_v24 : Ref sig .tc := ⟨.hbm, 48, rfl⟩
abbrev main_v25 : Ref sig .tc := ⟨.hbm, 49, rfl⟩
abbrev main_cst_6 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_cst_7 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩

abbrev nD : Nat := 1
abbrev τ : Topo := Topo.v7x

variable {F : FTy → Type} [FloatOps F]
-- ==== Kernel9.lean ====
abbrev S1x128x1024 : Shape := ⟨3, ![1, 128, 1024]⟩
abbrev S1024x2544 : Shape := ⟨2, ![1024, 2544]⟩
abbrev S3456 : Shape := ⟨1, ![3456]⟩
abbrev S_ : Shape := ⟨0, ![]⟩
abbrev S3456x1 : Shape := ⟨2, ![3456, 1]⟩
abbrev S1 : Shape := ⟨1, ![1]⟩
abbrev S1x1 : Shape := ⟨2, ![1, 1]⟩
abbrev S1024x3456 : Shape := ⟨2, ![1024, 3456]⟩
abbrev S1x3456 : Shape := ⟨2, ![1, 3456]⟩
abbrev S1x128x3456 : Shape := ⟨3, ![1, 128, 3456]⟩
abbrev S128x1024 : Shape := ⟨2, ![128, 1024]⟩
abbrev S128x3456 : Shape := ⟨2, ![128, 3456]⟩

abbrev nBuf : Space → Nat
  | .hbm => 37
  | .vmem => 5
  | .smem => 0
  | _ => 0

abbrev bufTy : (tb : Table) → Fin (tcTables nBuf tb) → BufTy
  | .hbm, ⟨0, _⟩ => ⟨S1x128x1024, .f32⟩
  | .hbm, ⟨1, _⟩ => ⟨S1x128x1024, .f32⟩
  | .hbm, ⟨2, _⟩ => ⟨S1x128x1024, .f32⟩
  | .hbm, ⟨3, _⟩ => ⟨S1024x2544, .f32⟩
  | .hbm, ⟨4, _⟩ => ⟨S3456, .i32⟩
  | .hbm, ⟨5, _⟩ => ⟨S3456, .i1⟩
  | .hbm, ⟨6, _⟩ => ⟨S_, .i32⟩
  | .hbm, ⟨7, _⟩ => ⟨S3456, .i32⟩
  | .hbm, ⟨8, _⟩ => ⟨S3456, .i1⟩
  | .hbm, ⟨9, _⟩ => ⟨S_, .i32⟩
  | .hbm, ⟨10, _⟩ => ⟨S3456, .i32⟩
  | .hbm, ⟨11, _⟩ => ⟨S3456, .i32⟩
  | .hbm, ⟨12, _⟩ => ⟨S3456, .i32⟩
  | .hbm, ⟨13, _⟩ => ⟨S3456x1, .i32⟩
  | .hbm, ⟨14, _⟩ => ⟨S1, .i32⟩
  | .hbm, ⟨15, _⟩ => ⟨S_, .i32⟩
  | .hbm, ⟨16, _⟩ => ⟨S3456x1, .i32⟩
  | .hbm, ⟨17, _⟩ => ⟨S3456x1, .i1⟩
  | .hbm, ⟨18, _⟩ => ⟨S1x1, .i32⟩
  | .hbm, ⟨19, _⟩ => ⟨S3456x1, .i32⟩
  | .hbm, ⟨20, _⟩ => ⟨S3456x1, .i1⟩
  | .hbm, ⟨21, _⟩ => ⟨S3456x1, .i1⟩
  | .hbm, ⟨22, _⟩ => ⟨S_, .i1⟩
  | .hbm, ⟨23, _⟩ => ⟨S3456, .i1⟩
  | .hbm, ⟨24, _⟩ => ⟨S1024x3456, .f32⟩
  | .hbm, ⟨25, _⟩ => ⟨S1024x3456, .i1⟩
  | .hbm, ⟨26, _⟩ => ⟨S_, .f32⟩
  | .hbm, ⟨27, _⟩ => ⟨S1024x3456, .f32⟩
  | .hbm, ⟨28, _⟩ => ⟨S1024x3456, .f32⟩
  | .hbm, ⟨29, _⟩ => ⟨S1x3456, .i1⟩
  | .hbm, ⟨30, _⟩ => ⟨S_, .f32⟩
  | .hbm, ⟨31, _⟩ => ⟨S_, .f32⟩
  | .hbm, ⟨32, _⟩ => ⟨S1024x3456, .i1⟩
  | .hbm, ⟨33, _⟩ => ⟨S1024x3456, .f32⟩
  | .hbm, ⟨34, _⟩ => ⟨S1024x3456, .f32⟩
  | .hbm, ⟨35, _⟩ => ⟨S1024x3456, .bf16⟩
  | .hbm, ⟨36, _⟩ => ⟨S1x128x3456, .f32⟩
  | .local _ .vmem, ⟨0, _⟩ => ⟨S1x128x1024, .f32⟩
  | .local _ .vmem, ⟨1, _⟩ => ⟨S1x128x1024, .f32⟩
  | .local _ .vmem, ⟨2, _⟩ => ⟨S1x128x1024, .f32⟩
  | .local _ .vmem, ⟨3, _⟩ => ⟨S1024x3456, .bf16⟩
  | .local _ .vmem, ⟨4, _⟩ => ⟨S1x128x3456, .f32⟩
  | _, _ => ⟨S1x128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_call0_c : Ref sig .tc := ⟨.hbm, 6, rfl⟩
abbrev main_call0_v0 : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_c_1 : Ref sig .tc := ⟨.hbm, 14, rfl⟩
abbrev main_call0_c_2 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_3 : Ref sig .tc := ⟨.hbm, 22, rfl⟩
abbrev main_call0_v12 : Ref sig .tc := ⟨.hbm, 23, rfl⟩
abbrev main_call0_v13 : Ref sig .tc := ⟨.hbm, 24, rfl⟩
abbrev main_call0_v14 : Ref sig .tc := ⟨.hbm, 25, rfl⟩
abbrev main_call0_cst : Ref sig .tc := ⟨.hbm, 26, rfl⟩
abbrev main_call0_v15 : Ref sig .tc := ⟨.hbm, 27, rfl⟩
abbrev main_v0 : Ref sig .tc := ⟨.hbm, 28, rfl⟩
abbrev main_v1 : Ref sig .tc := ⟨.hbm, 29, rfl⟩
abbrev main_cst : Ref sig .tc := ⟨.hbm, 30, rfl⟩
abbrev main_call1_v0 : Ref sig .tc := ⟨.hbm, 31, rfl⟩
abbrev main_call1_v1 : Ref sig .tc := ⟨.hbm, 32, rfl⟩
abbrev main_call1_v2 : Ref sig .tc := ⟨.hbm, 33, rfl⟩
abbrev main_v2 : Ref sig .tc := ⟨.hbm, 34, rfl⟩
abbrev main_v3 : Ref sig .tc := ⟨.hbm, 35, rfl⟩
abbrev main_v4 : Ref sig .tc := ⟨.hbm, 36, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S1x128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1024x3456 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128x3456 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]
-- ==== Reference9Ideal.lean ====
abbrev S1x128x1024 : Shape := ⟨3, ![1, 128, 1024]⟩
abbrev S1024x2544 : Shape := ⟨2, ![1024, 2544]⟩
abbrev S_ : Shape := ⟨0, ![]⟩
abbrev S1x128x2544 : Shape := ⟨3, ![1, 128, 2544]⟩
abbrev S1x128x256 : Shape := ⟨3, ![1, 128, 256]⟩
abbrev S1x128x384 : Shape := ⟨3, ![1, 128, 384]⟩
abbrev S1x128x12 : Shape := ⟨3, ![1, 128, 12]⟩
abbrev S1x128x128 : Shape := ⟨3, ![1, 128, 128]⟩
abbrev S1x128x4 : Shape := ⟨3, ![1, 128, 4]⟩
abbrev S1x128x192 : Shape := ⟨3, ![1, 128, 192]⟩
abbrev S1x128x32 : Shape := ⟨3, ![1, 128, 32]⟩
abbrev S1x128x64 : Shape := ⟨3, ![1, 128, 64]⟩
abbrev S1x128x80 : Shape := ⟨3, ![1, 128, 80]⟩
abbrev S1x128x1792 : Shape := ⟨3, ![1, 128, 1792]⟩
abbrev S1x128x1536 : Shape := ⟨3, ![1, 128, 1536]⟩
abbrev S1x128x3456 : Shape := ⟨3, ![1, 128, 3456]⟩

abbrev nBuf : Space → Nat
  | .hbm => 44
  | .vmem => 0
  | .smem => 0
  | _ => 0

abbrev bufTy : (tb : Table) → Fin (tcTables nBuf tb) → BufTy
  | .hbm, ⟨0, _⟩ => ⟨S1x128x1024, .f32⟩
  | .hbm, ⟨1, _⟩ => ⟨S1x128x1024, .f32⟩
  | .hbm, ⟨2, _⟩ => ⟨S1x128x1024, .f32⟩
  | .hbm, ⟨3, _⟩ => ⟨S1024x2544, .f32⟩
  | .hbm, ⟨4, _⟩ => ⟨S_, .f32⟩
  | .hbm, ⟨5, _⟩ => ⟨S1x128x1024, .f32⟩
  | .hbm, ⟨6, _⟩ => ⟨S1x128x1024, .f32⟩
  | .hbm, ⟨7, _⟩ => ⟨S1x128x1024, .f32⟩
  | .hbm, ⟨8, _⟩ => ⟨S1x128x1024, .f32⟩
  | .hbm, ⟨9, _⟩ => ⟨S1x128x2544, .f32⟩
  | .hbm, ⟨10, _⟩ => ⟨S1x128x256, .f32⟩
  | .hbm, ⟨11, _⟩ => ⟨S1x128x384, .f32⟩
  | .hbm, ⟨12, _⟩ => ⟨S1x128x12, .f32⟩
  | .hbm, ⟨13, _⟩ => ⟨S1x128x256, .f32⟩
  | .hbm, ⟨14, _⟩ => ⟨S1x128x256, .f32⟩
  | .hbm, ⟨15, _⟩ => ⟨S1x128x256, .f32⟩
  | .hbm, ⟨16, _⟩ => ⟨S1x128x256, .f32⟩
  | .hbm, ⟨17, _⟩ => ⟨S1x128x256, .f32⟩
  | .hbm, ⟨18, _⟩ => ⟨S1x128x128, .f32⟩
  | .hbm, ⟨19, _⟩ => ⟨S1x128x128, .f32⟩
  | .hbm, ⟨20, _⟩ => ⟨S1x128x4, .f32⟩
  | .hbm, ⟨21, _⟩ => ⟨S1x128x192, .f32⟩
  | .hbm, ⟨22, _⟩ => ⟨S1x128x128, .f32⟩
  | .hbm, ⟨23, _⟩ => ⟨S1x128x32, .f32⟩
  | .hbm, ⟨24, _⟩ => ⟨S1x128x64, .f32⟩
  | .hbm, ⟨25, _⟩ => ⟨S1x128x64, .f32⟩
  | .hbm, ⟨26, _⟩ => ⟨S1x128x64, .f32⟩
  | .hbm, ⟨27, _⟩ => ⟨S1x128x64, .f32⟩
  | .hbm, ⟨28, _⟩ => ⟨S1x128x64, .f32⟩
  | .hbm, ⟨29, _⟩ => ⟨S1x128x64, .f32⟩
  | .hbm, ⟨30, _⟩ => ⟨S1x128x64, .f32⟩
  | .hbm, ⟨31, _⟩ => ⟨S1x128x64, .f32⟩
  | .hbm, ⟨32, _⟩ => ⟨S1x128x64, .f32⟩
  | .hbm, ⟨33, _⟩ => ⟨S1x128x64, .f32⟩
  | .hbm, ⟨34, _⟩ => ⟨S1x128x64, .f32⟩
  | .hbm, ⟨35, _⟩ => ⟨S1x128x64, .f32⟩
  | .hbm, ⟨36, _⟩ => ⟨S_, .f32⟩
  | .hbm, ⟨37, _⟩ => ⟨S1x128x64, .f32⟩
  | .hbm, ⟨38, _⟩ => ⟨S_, .f32⟩
  | .hbm, ⟨39, _⟩ => ⟨S1x128x80, .f32⟩
  | .hbm, ⟨40, _⟩ => ⟨S1x128x1792, .f32⟩
  | .hbm, ⟨41, _⟩ => ⟨S1x128x1536, .f32⟩
  | .hbm, ⟨42, _⟩ => ⟨S1x128x128, .f32⟩
  | .hbm, ⟨43, _⟩ => ⟨S1x128x3456, .f32⟩
  | _, _ => ⟨S1x128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_cst_0 : Ref sig .tc := ⟨.hbm, 36, rfl⟩
abbrev main_v31 : Ref sig .tc := ⟨.hbm, 37, rfl⟩
abbrev main_cst_1 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩

abbrev nD : Nat := 1
abbrev τ : Topo := Topo.v7x

variable {F : FTy → Type} [FloatOps F]
-- ==== Kernel10.lean ====
abbrev S1x128x3456 : Shape := ⟨3, ![1, 128, 3456]⟩
abbrev S128 : Shape := ⟨1, ![128]⟩
abbrev S1x256 : Shape := ⟨2, ![1, 256]⟩
abbrev S256x384 : Shape := ⟨2, ![256, 384]⟩
abbrev S384x1024 : Shape := ⟨2, ![384, 1024]⟩
abbrev S1x128 : Shape := ⟨2, ![1, 128]⟩
abbrev S_ : Shape := ⟨0, ![]⟩
abbrev S1 : Shape := ⟨1, ![1]⟩
abbrev S16 : Shape := ⟨1, ![16]⟩
abbrev S1x1 : Shape := ⟨2, ![1, 1]⟩
abbrev S1x16 : Shape := ⟨2, ![1, 16]⟩
abbrev S1x96 : Shape := ⟨2, ![1, 96]⟩
abbrev S1x1x1x16 : Shape := ⟨4, ![1, 1, 1, 16]⟩
abbrev S1x1x4x16 : Shape := ⟨4, ![1, 1, 4, 16]⟩
abbrev S1x64 : Shape := ⟨2, ![1, 64]⟩
abbrev S1x128x1024 : Shape := ⟨3, ![1, 128, 1024]⟩
abbrev S1x128x160 : Shape := ⟨3, ![1, 128, 160]⟩
abbrev S1x128x256 : Shape := ⟨3, ![1, 128, 256]⟩
abbrev S1x128x128 : Shape := ⟨3, ![1, 128, 128]⟩
abbrev S128x256 : Shape := ⟨2, ![128, 256]⟩
abbrev S128x1 : Shape := ⟨2, ![128, 1]⟩
abbrev S128x384 : Shape := ⟨2, ![128, 384]⟩
abbrev S128x128 : Shape := ⟨2, ![128, 128]⟩
abbrev S128x1024 : Shape := ⟨2, ![128, 1024]⟩
abbrev S128x160 : Shape := ⟨2, ![128, 160]⟩

abbrev nBuf : Space → Nat
  | .hbm => 42
  | .vmem => 14
  | .smem => 0
  | _ => 0

abbrev bufTy : (tb : Table) → Fin (tcTables nBuf tb) → BufTy
  | .hbm, ⟨0, _⟩ => ⟨S1x128x3456, .f32⟩
  | .hbm, ⟨1, _⟩ => ⟨S128, .f32⟩
  | .hbm, ⟨2, _⟩ => ⟨S1x256, .f32⟩
  | .hbm, ⟨3, _⟩ => ⟨S256x384, .bf16⟩
  | .hbm, ⟨4, _⟩ => ⟨S384x1024, .bf16⟩
  | .hbm, ⟨5, _⟩ => ⟨S1x128, .f32⟩
  | .hbm, ⟨6, _⟩ => ⟨S_, .i32⟩
  | .hbm, ⟨7, _⟩ => ⟨S1, .i32⟩
  | .hbm, ⟨8, _⟩ => ⟨S16, .f32⟩
  | .hbm, ⟨9, _⟩ => ⟨S16, .f32⟩
  | .hbm, ⟨10, _⟩ => ⟨S_, .f32⟩
  | .hbm, ⟨11, _⟩ => ⟨S16, .f32⟩
  | .hbm, ⟨12, _⟩ => ⟨S16, .f32⟩
  | .hbm, ⟨13, _⟩ => ⟨S_, .f32⟩
  | .hbm, ⟨14, _⟩ => ⟨S16, .f32⟩
  | .hbm, ⟨15, _⟩ => ⟨S16, .f32⟩
  | .hbm, ⟨16, _⟩ => ⟨S1, .f32⟩
  | .hbm, ⟨17, _⟩ => ⟨S1x1, .f32⟩
  | .hbm, ⟨18, _⟩ => ⟨S1x16, .f32⟩
  | .hbm, ⟨19, _⟩ => ⟨S1x16, .f32⟩
  | .hbm, ⟨20, _⟩ => ⟨S1x16, .f32⟩
  | .hbm, ⟨21, _⟩ => ⟨S1x16, .f32⟩
  | .hbm, ⟨22, _⟩ => ⟨S1x16, .f32⟩
  | .hbm, ⟨23, _⟩ => ⟨S_, .f32⟩
  | .hbm, ⟨24, _⟩ => ⟨S1x96, .f32⟩
  | .hbm, ⟨25, _⟩ => ⟨S_, .f32⟩
  | .hbm, ⟨26, _⟩ => ⟨S1x16, .f32⟩
  | .hbm, ⟨27, _⟩ => ⟨S1x1x1x16, .f32⟩
  | .hbm, ⟨28, _⟩ => ⟨S1x1x4x16, .f32⟩
  | .hbm, ⟨29, _⟩ => ⟨S1x64, .f32⟩
  | .hbm, ⟨30, _⟩ => ⟨S1x1x1x16, .f32⟩
  | .hbm, ⟨31, _⟩ => ⟨S1x1x4x16, .f32⟩
  | .hbm, ⟨32, _⟩ => ⟨S1x64, .f32⟩
  | .hbm, ⟨33, _⟩ => ⟨S1x128, .f32⟩
  | .hbm, ⟨34, _⟩ => ⟨S1x64, .f32⟩
  | .hbm, ⟨35, _⟩ => ⟨S1x128, .f32⟩
  | .hbm, ⟨36, _⟩ => ⟨S1x128, .f32⟩
  | .hbm, ⟨37, _⟩ => ⟨S1x16, .f32⟩
  | .hbm, ⟨38, _⟩ => ⟨S1x128, .f32⟩
  | .hbm, ⟨39, _⟩ => ⟨S1x128, .f32⟩
  | .hbm, ⟨40, _⟩ => ⟨S1x128x1024, .bf16⟩
  | .hbm, ⟨41, _⟩ => ⟨S1x128x160, .f32⟩
  | .local _ .vmem, ⟨0, _⟩ => ⟨S1x128x256, .f32⟩
  | .local _ .vmem, ⟨1, _⟩ => ⟨S1x128x128, .f32⟩
  | .local _ .vmem, ⟨2, _⟩ => ⟨S1x128x128, .f32⟩
  | .local _ .vmem, ⟨3, _⟩ => ⟨S1x256, .f32⟩
  | .local _ .vmem, ⟨4, _⟩ => ⟨S1x128, .f32⟩
  | .local _ .vmem, ⟨5, _⟩ => ⟨S256x384, .bf16⟩
  | .local _ .vmem, ⟨6, _⟩ => ⟨S384x1024, .bf16⟩
  | .local _ .vmem, ⟨7, _⟩ => ⟨S1x128, .f32⟩
  | .local _ .vmem, ⟨8, _⟩ => ⟨S1x128, .f32⟩
  | .local _ .vmem, ⟨9, _⟩ => ⟨S1x128, .f32⟩
  | .local _ .vmem, ⟨10, _⟩ => ⟨S1x128, .f32⟩
  | .local _ .vmem, ⟨11, _⟩ => ⟨S1x128, .f32⟩
  | .local _ .vmem, ⟨12, _⟩ => ⟨S1x128x1024, .bf16⟩
  | .local _ .vmem, ⟨13, _⟩ => ⟨S1x128x160, .f32⟩
  | _, _ => ⟨S1x128x3456, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_1 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30_0 : Ref sig .tc := ⟨.hbm, 40, rfl⟩
abbrev main_v30_1 : Ref sig .tc := ⟨.hbm, 41, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c10_i32 : BitVec 32 := 10#32
  let c0_i32 : BitVec 32 := 0#32
  ![arg0.toNat, arg1.toNat, c10_i32.toNat]

def cc0_transform_1 (i : grid0.Coords) : Fin 3 → Nat :=
  let arg0 : BitVec 32 := BitVec.ofNat 32 (i 0).val
  let arg1 : BitVec 32 := BitVec.ofNat 32 (i 1).val
  let c25_i32 : BitVec 32 := 25#32
  let c0_i32 : BitVec 32 := 0#32
  ![arg0.toNat, arg1.toNat, c25_i32.toNat]

def cc0_transform_2 (i : grid0.Coords) : Fin 3 → Nat :=
  let arg0 : BitVec 32 := BitVec.ofNat 32 (i 0).val
  let arg1 : BitVec 32 := BitVec.ofNat 32 (i 1).val
  let c26_i32 : BitVec 32 := 26#32
  let c0_i32 : BitVec 32 := 0#32
  ![arg0.toNat, arg1.toNat, c26_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S1x128x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S256x384 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S384x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x128x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true, true]

abbrev stage0_13 : Fin 1 → Memref sig .tc .vmem S1x128x160 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![true, true]
-- ==== Reference10Ideal.lean ====
abbrev S1x128x3456 : Shape := ⟨3, ![1, 128, 3456]⟩
abbrev S128 : Shape := ⟨1, ![128]⟩
abbrev S1x256 : Shape := ⟨2, ![1, 256]⟩
abbrev S256x384 : Shape := ⟨2, ![256, 384]⟩
abbrev S384x1024 : Shape := ⟨2, ![384, 1024]⟩
abbrev S1x128x128 : Shape := ⟨3, ![1, 128, 128]⟩
abbrev S1x128x32 : Shape := ⟨3, ![1, 128, 32]⟩
abbrev S_ : Shape := ⟨0, ![]⟩
abbrev S1x128 : Shape := ⟨2, ![1, 128]⟩
abbrev S1x128x1 : Shape := ⟨3, ![1, 128, 1]⟩
abbrev S1x1x128 : Shape := ⟨3, ![1, 1, 128]⟩
abbrev S1 : Shape := ⟨1, ![1]⟩
abbrev S16 : Shape := ⟨1, ![16]⟩
abbrev S1x1 : Shape := ⟨2, ![1, 1]⟩
abbrev S1x16 : Shape := ⟨2, ![1, 16]⟩
abbrev S1x128x16 : Shape := ⟨3, ![1, 128, 16]⟩
abbrev S1x1x16 : Shape := ⟨3, ![1, 1, 16]⟩
abbrev S1x128x160 : Shape := ⟨3, ![1, 128, 160]⟩

abbrev nBuf : Space → Nat
  | .hbm => 60
  | .vmem => 0
  | .smem => 0
  | _ => 0

abbrev bufTy : (tb : Table) → Fin (tcTables nBuf tb) → BufTy
  | .hbm, ⟨0, _⟩ => ⟨S1x128x3456, .f32⟩
  | .hbm, ⟨1, _⟩ => ⟨S128, .f32⟩
  | .hbm, ⟨2, _⟩ => ⟨S1x256, .f32⟩
  | .hbm, ⟨3, _⟩ => ⟨S256x384, .bf16⟩
  | .hbm, ⟨4, _⟩ => ⟨S384x1024, .bf16⟩
  | .hbm, ⟨5, _⟩ => ⟨S1x128x128, .f32⟩
  | .hbm, ⟨6, _⟩ => ⟨S1x128x32, .f32⟩
  | .hbm, ⟨7, _⟩ => ⟨S1x128x128, .f32⟩
  | .hbm, ⟨8, _⟩ => ⟨S_, .f32⟩
  | .hbm, ⟨9, _⟩ => ⟨S1x128, .f32⟩
  | .hbm, ⟨10, _⟩ => ⟨S1x128x1, .f32⟩
  | .hbm, ⟨11, _⟩ => ⟨S_, .f32⟩
  | .hbm, ⟨12, _⟩ => ⟨S1x128x1, .f32⟩
  | .hbm, ⟨13, _⟩ => ⟨S1x128x1, .f32⟩
  | .hbm, ⟨14, _⟩ => ⟨S_, .f32⟩
  | .hbm, ⟨15, _⟩ => ⟨S1x128x1, .f32⟩
  | .hbm, ⟨16, _⟩ => ⟨S1x128x1, .f32⟩
  | .hbm, ⟨17, _⟩ => ⟨S1x128x1, .f32⟩
  | .hbm, ⟨18, _⟩ => ⟨S1x128x128, .f32⟩
  | .hbm, ⟨19, _⟩ => ⟨S1x128x128, .f32⟩
  | .hbm, ⟨20, _⟩ => ⟨S1x1x128, .f32⟩
  | .hbm, ⟨21, _⟩ => ⟨S1x128x128, .f32⟩
  | .hbm, ⟨22, _⟩ => ⟨S1x128x128, .f32⟩
  | .hbm, ⟨23, _⟩ => ⟨S1, .i32⟩
  | .hbm, ⟨24, _⟩ => ⟨S_, .i32⟩
  | .hbm, ⟨25, _⟩ => ⟨S1, .i32⟩
  | .hbm, ⟨26, _⟩ => ⟨S1, .i32⟩
  | .hbm, ⟨27, _⟩ => ⟨S16, .f32⟩
  | .hbm, ⟨28, _⟩ => ⟨S16, .f32⟩
  | .hbm, ⟨29, _⟩ => ⟨S_, .f32⟩
  | .hbm, ⟨30, _⟩ => ⟨S16, .f32⟩
  | .hbm, ⟨31, _⟩ => ⟨S16, .f32⟩
  | .hbm, ⟨32, _⟩ => ⟨S_, .f32⟩
  | .hbm, ⟨33, _⟩ => ⟨S16, .f32⟩
  | .hbm, ⟨34, _⟩ => ⟨S16, .f32⟩
  | .hbm, ⟨35, _⟩ => ⟨S1, .f32⟩
  | .hbm, ⟨36, _⟩ => ⟨S1x1, .f32⟩
  | .hbm, ⟨37, _⟩ => ⟨S1x16, .f32⟩
  | .hbm, ⟨38, _⟩ => ⟨S1x16, .f32⟩
  | .hbm, ⟨39, _⟩ => ⟨S1x16, .f32⟩
  | .hbm, ⟨40, _⟩ => ⟨S1x16, .f32⟩
  | .hbm, ⟨41, _⟩ => ⟨S1x16, .f32⟩
  | .hbm, ⟨42, _⟩ => ⟨S1x128x16, .f32⟩
  | .hbm, ⟨43, _⟩ => ⟨S1x128x16, .f32⟩
  | .hbm, ⟨44, _⟩ => ⟨S1x1x16, .f32⟩
  | .hbm, ⟨45, _⟩ => ⟨S1x128x16, .f32⟩
  | .hbm, ⟨46, _⟩ => ⟨S1x128x16, .f32⟩
  | .hbm, ⟨47, _⟩ => ⟨S1x1x16, .f32⟩
  | .hbm, ⟨48, _⟩ => ⟨S1x128x16, .f32⟩
  | .hbm, ⟨49, _⟩ => ⟨S1x128x16, .f32⟩
  | .hbm, ⟨50, _⟩ => ⟨S1x128x16, .f32⟩
  | .hbm, ⟨51, _⟩ => ⟨S1x1x16, .f32⟩
  | .hbm, ⟨52, _⟩ => ⟨S1x128x16, .f32⟩
  | .hbm, ⟨53, _⟩ => ⟨S1x128x16, .f32⟩
  | .hbm, ⟨54, _⟩ => ⟨S1x1x16, .f32⟩
  | .hbm, ⟨55, _⟩ => ⟨S1x128x16, .f32⟩
  | .hbm, ⟨56, _⟩ => ⟨S1x128x16, .f32⟩
  | .hbm, ⟨57, _⟩ => ⟨S1x128x16, .f32⟩
  | .hbm, ⟨58, _⟩ => ⟨S1x128x32, .f32⟩
  | .hbm, ⟨59, _⟩ => ⟨S1x128x160, .f32⟩
  | _, _ => ⟨S1x128x3456, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_c : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_2 : Ref sig .tc := ⟨.hbm, 29, rfl⟩
abbrev main_v20 : Ref sig .tc := ⟨.hbm, 30, rfl⟩
abbrev main_v21 : Ref sig .tc := ⟨.hbm, 31, rfl⟩
abbrev main_cst_3 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩

abbrev nD : Nat := 1
abbrev τ : Topo := Topo.v7x

variable {F : FTy → Type} [FloatOps F]
-- ==== Kernel11.lean ====
abbrev S1x128x3456 : Shape := ⟨3, ![1, 128, 3456]⟩
abbrev S4 : Shape := ⟨1, ![4]⟩
abbrev S128x4x128x128 : Shape := ⟨4, ![128, 4, 128, 128]⟩
abbrev S128x128 : Shape := ⟨2, ![128, 128]⟩
abbrev S128x3456 : Shape := ⟨2, ![128, 3456]⟩
abbrev S128x1x128 : Shape := ⟨3, ![128, 1, 128]⟩
abbrev S_ : Shape := ⟨0, ![]⟩
abbrev S1x128 : Shape := ⟨2, ![1, 128]⟩
abbrev S1 : Shape := ⟨1, ![1]⟩
abbrev S2 : Shape := ⟨1, ![2]⟩
abbrev S128x8x128x128 : Shape := ⟨4, ![128, 8, 128, 128]⟩
abbrev S1x4x128x128 : Shape := ⟨4, ![1, 4, 128, 128]⟩
abbrev S1x1x128 : Shape := ⟨3, ![1, 1, 128]⟩
abbrev S1x8x128x128 : Shape := ⟨4, ![1, 8, 128, 128]⟩
abbrev S1x1x128x128 : Shape := ⟨4, ![1, 1, 128, 128]⟩
abbrev S1x1 : Shape := ⟨2, ![1, 1]⟩

abbrev nBuf : Space → Nat
  | .hbm => 18
  | .vmem => 11
  | .smem => 0
  | _ => 0

abbrev bufTy : (tb : Table) → Fin (tcTables nBuf tb) → BufTy
  | .hbm, ⟨0, _⟩ => ⟨S1x128x3456, .f32⟩
  | .hbm, ⟨1, _⟩ => ⟨S4, .f32⟩
  | .hbm, ⟨2, _⟩ => ⟨S128x4x128x128, .f32⟩
  | .hbm, ⟨3, _⟩ => ⟨S128x128, .f32⟩
  | .hbm, ⟨4, _⟩ => ⟨S128x128, .f32⟩
  | .hbm, ⟨5, _⟩ => ⟨S128x3456, .f32⟩
  | .hbm, ⟨6, _⟩ => ⟨S128x128, .f32⟩
  | .hbm, ⟨7, _⟩ => ⟨S128x1x128, .f32⟩
  | .hbm, ⟨8, _⟩ => ⟨S_, .f32⟩
  | .hbm, ⟨9, _⟩ => ⟨S1x128, .f32⟩
  | .hbm, ⟨10, _⟩ => ⟨S_, .i32⟩
  | .hbm, ⟨11, _⟩ => ⟨S1, .i32⟩
  | .hbm, ⟨12, _⟩ => ⟨S_, .i32⟩
  | .hbm, ⟨13, _⟩ => ⟨S1, .i32⟩
  | .hbm, ⟨14, _⟩ => ⟨S2, .i32⟩
  | .hbm, ⟨15, _⟩ => ⟨S1x128, .f32⟩
  | .hbm, ⟨16, _⟩ => ⟨S128x8x128x128, .f32⟩
  | .hbm, ⟨17, _⟩ => ⟨S128x1x128, .f32⟩
  | .local _ .vmem, ⟨0, _⟩ => ⟨S1x4x128x128, .f32⟩
  | .local _ .vmem, ⟨1, _⟩ => ⟨S1x4x128x128, .f32⟩
  | .local _ .vmem, ⟨2, _⟩ => ⟨S1x1x128, .f32⟩
  | .local _ .vmem, ⟨3, _⟩ => ⟨S1x1x128, .f32⟩
  | .local _ .vmem, ⟨4, _⟩ => ⟨S1x128, .f32⟩
  | .local _ .vmem, ⟨5, _⟩ => ⟨S128x128, .f32⟩
  | .local _ .vmem, ⟨6, _⟩ => ⟨S128x128, .f32⟩
  | .local _ .vmem, ⟨7, _⟩ => ⟨S1x8x128x128, .f32⟩
  | .local _ .vmem, ⟨8, _⟩ => ⟨S1x8x128x128, .f32⟩
  | .local _ .vmem, ⟨9, _⟩ => ⟨S1x1x128, .f32⟩
  | .local _ .vmem, ⟨10, _⟩ => ⟨S1x1x128, .f32⟩
  | _, _ => ⟨S1x128x3456, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_c_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8_0 : Ref sig .tc := ⟨.hbm, 16, rfl⟩
abbrev main_v8_1 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![128], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x8x128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference11Ideal.lean ====
abbrev S1x128x3456 : Shape := ⟨3, ![1, 128, 3456]⟩
abbrev S4 : Shape := ⟨1, ![4]⟩
abbrev S128x4x128x128 : Shape := ⟨4, ![128, 4, 128, 128]⟩
abbrev S128x128 : Shape := ⟨2, ![128, 128]⟩
abbrev S_ : Shape := ⟨0, ![]⟩
abbrev S44 : Shape := ⟨1, ![44]⟩
abbrev S80 : Shape := ⟨1, ![80]⟩
abbrev S128 : Shape := ⟨1, ![128]⟩
abbrev S1x128x128 : Shape := ⟨3, ![1, 128, 128]⟩
abbrev S128x1x128 : Shape := ⟨3, ![128, 1, 128]⟩
abbrev S1x1x128 : Shape := ⟨3, ![1, 1, 128]⟩

abbrev nBuf : Space → Nat
  | .hbm => 32
  | .vmem => 0
  | .smem => 0
  | _ => 0

abbrev bufTy : (tb : Table) → Fin (tcTables nBuf tb) → BufTy
  | .hbm, ⟨0, _⟩ => ⟨S1x128x3456, .f32⟩
  | .hbm, ⟨1, _⟩ => ⟨S4, .f32⟩
  | .hbm, ⟨2, _⟩ => ⟨S128x4x128x128, .f32⟩
  | .hbm, ⟨3, _⟩ => ⟨S128x128, .f32⟩
  | .hbm, ⟨4, _⟩ => ⟨S128x128, .f32⟩
  | .hbm, ⟨5, _⟩ => ⟨S_, .f32⟩
  | .hbm, ⟨6, _⟩ => ⟨S44, .f32⟩
  | .hbm, ⟨7, _⟩ => ⟨S_, .f32⟩
  | .hbm, ⟨8, _⟩ => ⟨S80, .f32⟩
  | .hbm, ⟨9, _⟩ => ⟨S128, .f32⟩
  | .hbm, ⟨10, _⟩ => ⟨S1x128x128, .f32⟩
  | .hbm, ⟨11, _⟩ => ⟨S128x128, .f32⟩
  | .hbm, ⟨12, _⟩ => ⟨S128x1x128, .f32⟩
  | .hbm, ⟨13, _⟩ => ⟨S1x1x128, .f32⟩
  | .hbm, ⟨14, _⟩ => ⟨S128x1x128, .f32⟩
  | .hbm, ⟨15, _⟩ => ⟨S128x1x128, .f32⟩
  | .hbm, ⟨16, _⟩ => ⟨S128x1x128, .f32⟩
  | .hbm, ⟨17, _⟩ => ⟨S_, .f32⟩
  | .hbm, ⟨18, _⟩ => ⟨S128x1x128, .f32⟩
  | .hbm, ⟨19, _⟩ => ⟨S128x1x128, .f32⟩
  | .hbm, ⟨20, _⟩ => ⟨S128x1x128, .f32⟩
  | .hbm, ⟨21, _⟩ => ⟨S128x1x128, .f32⟩
  | .hbm, ⟨22, _⟩ => ⟨S128x1x128, .i1⟩
  | .hbm, ⟨23, _⟩ => ⟨S128x1x128, .f32⟩
  | .hbm, ⟨24, _⟩ => ⟨S128x1x128, .f32⟩
  | .hbm, ⟨25, _⟩ => ⟨S128x1x128, .f32⟩
  | .hbm, ⟨26, _⟩ => ⟨S128x1x128, .f32⟩
  | .hbm, ⟨27, _⟩ => ⟨S128x1x128, .f32⟩
  | .hbm, ⟨28, _⟩ => ⟨S128x1x128, .f32⟩
  | .hbm, ⟨29, _⟩ => ⟨S128x1x128, .f32⟩
  | .hbm, ⟨30, _⟩ => ⟨S128x1x128, .f32⟩
  | .hbm, ⟨31, _⟩ => ⟨S128x1x128, .f32⟩
  | _, _ => ⟨S1x128x3456, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_call0_v0 : Ref sig .tc := ⟨.hbm, 16, rfl⟩
abbrev main_call0_call0_cst : Ref sig .tc := ⟨.hbm, 17, rfl⟩
abbrev main_call0_call0_v0 : Ref sig .tc := ⟨.hbm, 18, rfl⟩
abbrev main_call0_call0_v1 : Ref sig .tc := ⟨.hbm, 19, rfl⟩
abbrev main_call0_call0_v2 : Ref sig .tc := ⟨.hbm, 20, rfl⟩
abbrev main_call0_call0_v3 : Ref sig .tc := ⟨.hbm, 21, rfl⟩
abbrev main_call0_call0_v4 : Ref sig .tc := ⟨.hbm, 22, rfl⟩
abbrev main_call0_call0_v5 : Ref sig .tc := ⟨.hbm, 23, rfl⟩
abbrev main_call0_call0_v6 : Ref sig .tc := ⟨.hbm, 24, rfl⟩
abbrev main_call0_call0_v7 : Ref sig .tc := ⟨.hbm, 25, rfl⟩
abbrev main_call0_call0_v8 : Ref sig .tc := ⟨.hbm, 26, rfl⟩
abbrev main_call0_call0_v9 : Ref sig .tc := ⟨.hbm, 27, rfl⟩
abbrev main_call0_call0_v10 : Ref sig .tc := ⟨.hbm, 28, rfl⟩
abbrev main_call0_call0_v11 : Ref sig .tc := ⟨.hbm, 29, rfl⟩
abbrev main_call0_v1 : Ref sig .tc := ⟨.hbm, 30, rfl⟩
abbrev main_v9 : Ref sig .tc := ⟨.hbm, 31, rfl⟩

abbrev nD : Nat := 1
abbrev τ : Topo := Topo.v7x

variable {F : FTy → Type} [FloatOps F]
-- ==== Proof.Step.lean ====
/-
  One grid point's arithmetic, as functions of the blocks it reads: the scores of a tile of keys, the mask of the last
  tile, and the update of the running state by a group of tiles.
-/
module

public import proofs.«01_k».proof.Proof.Gen.KernelIdeal.Value
public import Idealize.ShloMosaic.Lib.Tactic

@[expose] public section

set_option maxRecDepth 16384

noncomputable section

open Idealize.ShloMosaic Idealize.ShloMosaic.TcCoe Idealize.SL.Sem

namespace Cert.KernelIdeal.Val

open Cert.KernelIdeal Cert.KernelIdeal.Gen

variable {F : FTy → Type} [FloatOps F] [Named F]

/-- The running state of a block: the largest score, the weight sum and the value sums of each query column. -/
structure St (F : FTy → Type) [FloatOps F] where
  /-- largest score so far, per query column -/
  m : FVec F S1x512 .f32
  /-- sum of the weights -/
  l : FVec F S1x512 .f32
  /-- sum of the weighted values, one row per value coordinate -/
  a : FVec F S128x512 .f32

/-- The state before any tile. -/
def St.init : St F := ⟨k0_pay66, k0_pay67, k0_pay68⟩

/-- The scores of a tile of 256 keys against the block's 512 query columns. -/
def score (q : FVec F S512x256 .bf16) (kt : Vec F S1x1x256x256 .bf16) : FVec F S256x512 .f32 :=
  matmul dot_S256x256_S512x256_S256x512_1_1_0_0_n_n none (shapeCast S256x256 kt shapeCasts_S1x1x256x256_S256x256) q
    (constant S256x512 .f32 0x00000000#32)

/-- The scores of the last tile, later keys than the query replaced by the mask constant. -/
def masked (qi kj : BitVec 32) (s : FVec F S256x512 .f32) : FVec F S256x512 .f32 :=
  select
    (cmpi .sle
      (addi (iota .tc S256x512 32 [0] iota_S256x512_d0_w32)
        (broadcast S256x512 (Scalar.subi (Scalar.muli kj 256#32) (Scalar.muli qi 128#32))))
      (andi (iota .tc S256x512 32 [1] iota_S256x512_d1_w32) (broadcast S256x512 127#32)))
    s (broadcast S256x512 (Named.named κ "mask" 0xF149F2CA#32))

/-- The maximum raised by a tile's scores. -/
def raise (m : FVec F S1x512 .f32) (s : FVec F S256x512 .f32) : FVec F S1x512 .f32 :=
  maximumf m (shapeCast S1x512 (multiReduction .maximumf [0] S512 s 0xFF800000#32 reduces_S256x512_S512 (.inl rfl) rfl)
    shapeCasts_S512_S1x512)

/-- A tile's weights against the maximum `M`. -/
def weight (M : FVec F S1x512 .f32) (s : FVec F S256x512 .f32) : FVec F S256x512 .f32 :=
  exp (subf s (broadcastTo S256x512 M broadcasts_S1x512_S256x512))

/-- The weight sum with a tile's weights added. -/
def addL (M : FVec F S1x512 .f32) (l : FVec F S1x512 .f32) (s : FVec F S256x512 .f32) : FVec F S1x512 .f32 :=
  addf l (shapeCast S1x512
    (multiReduction .add [0] S512 (weight M s) 0x00000000#32 reduces_S256x512_S512 (.inl rfl) rfl) shapeCasts_S512_S1x512)

/-- The value sums with a tile's weighted values added. -/
def addA (M : FVec F S1x512 .f32) (a : FVec F S128x512 .f32) (s : FVec F S256x512 .f32) (vt : Vec F S1x1x128x256 .bf16) :
    FVec F S128x512 .f32 :=
  addf a (matmul dot_S128x256_S256x512_S128x512_1_0_0_1_n_n none (shapeCast S128x256 vt shapeCasts_S1x1x128x256_S128x256)
    (truncf .bf16 (weight M s) bitsLt_bf16_f32) (constant S128x512 .f32 0x00000000#32))

/-- A tile: its scores and its values. -/
abbrev Tile (F : FTy → Type) [FloatOps F] : Type := FVec F S256x512 .f32 × Vec F S1x1x128x256 .bf16

/-- The maximum after a group of tiles. -/
def groupM (ts : List (Tile F)) (m : FVec F S1x512 .f32) : FVec F S1x512 .f32 :=
  ts.foldl (fun m t => raise m t.1) m

/-- The update of the state by a group of tiles: the maximum over all of them first, then the sums. -/
def group (ts : List (Tile F)) (s : St F) : St F where
  m := groupM ts s.m
  l := ts.foldl (fun l t => addL (groupM ts s.m) l t.1) (mulf (exp (subf s.m (groupM ts s.m))) s.l)
  a := ts.foldl (fun a t => addA (groupM ts s.m) a t.1 t.2)
    (mulf (broadcastTo S128x512 (exp (subf s.m (groupM ts s.m))) broadcasts_S1x512_S128x512) s.a)

end Cert.KernelIdeal.Val
-- ==== Proof.Online.lean ====
/-
  The arithmetic of the online softmax over the extended reals, with no program in it.

  A query sees keys in an order; key `k` has score `S k` and value `V k`. After the first `n` keys the running state is
  the largest score `m`, the weight sum `l = ∑ exp (S k - m)` and the value sum `a = ∑ V k * exp (S k - m)`
  (`Seen S V n m l a`). A step that meets more keys raises `m` to `m'`, multiplies `l` and `a` by `exp (m - m')`, and adds
  the new keys' terms. At the end `a / l` is the softmax-weighted mean, written as the reference writes it.
-/
module

public import Idealize.ShloMosaic.PureOps.Ideal
public import Idealize.ShloMosaic.PureOps.Ideal.Laws

@[expose] public section

noncomputable section

open Idealize.ShloMosaic

namespace Cert.Online

/-- The exponential of an extended real is never negative. -/
theorem exp_nonneg (x : EReal) : 0 ≤ Ideal.exp x := by
  induction x with
  | bot => simp
  | top => simp
  | coe r => rw [Ideal.exp_coe]; exact_mod_cast (Real.exp_pos r).le

/-- The exponential is `⊤` at `⊤` only. -/
theorem exp_ne_top {x : EReal} (h : x ≠ ⊤) : Ideal.exp x ≠ ⊤ := by
  induction x with
  | bot => simp
  | top => exact absurd rfl h
  | coe r => rw [Ideal.exp_coe]; exact EReal.coe_ne_top _

/-- A score minus a score at least as large is not `⊤`. -/
theorem sub_ne_top {s m : EReal} (h : s ≤ m) : s - m ≠ ⊤ := by
  induction m with
  | bot => rw [le_bot_iff.mp h]; simp
  | top => simp
  | coe r =>
    induction s with
    | bot => simp
    | top => exact absurd (top_le_iff.mp h) (EReal.coe_ne_top r)
    | coe t => rw [← EReal.coe_sub]; exact EReal.coe_ne_top _

/-- Changing the maximum that a weight is taken against: the old weight times `exp (m - m')` is the new weight. -/
theorem exp_rescale {s m m' : EReal} (h : s ≤ m) (h' : m ≤ m') :
    Ideal.exp (m - m') * Ideal.exp (s - m) = Ideal.exp (s - m') := by
  induction s with
  | bot => simp
  | top =>
    obtain rfl := top_le_iff.mp h
    obtain rfl := top_le_iff.mp h'
    simp
  | coe s =>
    induction m with
    | bot => exact absurd (le_bot_iff.mp h) (EReal.coe_ne_bot s)
    | top =>
      obtain rfl := top_le_iff.mp h'
      simp
    | coe m =>
      induction m' with
      | bot => exact absurd (le_bot_iff.mp h') (EReal.coe_ne_bot m)
      | top => simp
      | coe m' =>
        rw [← EReal.coe_sub, ← EReal.coe_sub, ← EReal.coe_sub, Ideal.exp_coe, Ideal.exp_coe, Ideal.exp_coe,
          ← EReal.coe_mul, ← Real.exp_add]
        congr 2
        ring

/-- A real factor that is not negative goes inside a finite sum. -/
theorem mul_sum_of_nonneg {ι : Type} (s : Finset ι) {c : EReal} (h0 : 0 ≤ c) (h1 : c ≠ ⊤) (f : ι → EReal) :
    c * ∑ k ∈ s, f k = ∑ k ∈ s, c * f k := by
  classical
  induction s using Finset.induction_on with
  | empty => simp
  | insert a s ha ih =>
    rw [Finset.sum_insert ha, Finset.sum_insert ha, EReal.left_distrib_of_nonneg_of_ne_top h0 h1, ih]

/-- The largest of the first `n` scores (`⊥` for none). -/
def top (S : ℕ → EReal) (n : ℕ) : EReal := (Finset.range n).sup S

/-- The running state after the first `n` keys: largest score, weight sum, value sum. -/
structure Seen (S V : ℕ → EReal) (n : ℕ) (m l a : EReal) : Prop where
  hm : m = top S n
  hl : l = ∑ k ∈ Finset.range n, Ideal.exp (S k - m)
  ha : a = ∑ k ∈ Finset.range n, V k * Ideal.exp (S k - m)

/-- Every score seen is at most the largest. -/
theorem le_top (S : ℕ → EReal) {n k : ℕ} (h : k < n) : S k ≤ top S n :=
  Finset.le_sup (f := S) (Finset.mem_range.mpr h)

/-- The largest of more scores is larger. -/
theorem top_mono (S : ℕ → EReal) {n n' : ℕ} (h : n ≤ n') : top S n ≤ top S n' :=
  Finset.sup_mono (Finset.range_subset_range.mpr h)

/-- The largest of the first `n + w` scores: the larger of the largest of the first `n` and that of the next `w`. -/
theorem top_add (S : ℕ → EReal) (n w : ℕ) :
    top S (n + w) = max (top S n) (Finset.univ.sup fun i : Fin w => S (n + i.val)) := by
  apply le_antisymm
  · refine Finset.sup_le fun k hk => ?_
    have hk := Finset.mem_range.mp hk
    by_cases h : k < n
    · exact le_max_of_le_left (le_top S h)
    · have e := Finset.le_sup (f := fun i : Fin w => S (n + i.val)) (Finset.mem_univ (⟨k - n, by omega⟩ : Fin w))
      dsimp only at e
      rw [show n + (k - n) = k by omega] at e
      exact le_max_of_le_right e
  · refine max_le (top_mono S (by omega)) (Finset.sup_le fun i _ => le_top S (by omega))

/-- A sum over the first `n + w` keys: over the first `n`, then over the next `w`. -/
theorem sum_add (f : ℕ → EReal) (n w : ℕ) :
    ∑ k ∈ Finset.range (n + w), f k = ∑ k ∈ Finset.range n, f k + ∑ i : Fin w, f (n + i.val) := by
  rw [Finset.sum_range_add, Finset.sum_range (fun i => f (n + i))]

/-- Before any key: no score, nothing summed. -/
theorem Seen.zero (S V : ℕ → EReal) : Seen S V 0 ⊥ 0 0 := ⟨rfl, by simp, by simp⟩

/-- The partial state inside a step: the maximum `M` is already the one after the step, the sums stop at key `n`. -/
structure Part (S V : ℕ → EReal) (n : ℕ) (M l a : EReal) : Prop where
  hl : l = ∑ k ∈ Finset.range n, Ideal.exp (S k - M)
  ha : a = ∑ k ∈ Finset.range n, V k * Ideal.exp (S k - M)

/-- Rescaling: the state's sums, times `exp (m - M)`, are taken against the larger maximum `M`. -/
theorem Seen.rescale {S V : ℕ → EReal} {n : ℕ} {m l a : EReal} (h : Seen S V n m l a) {M : EReal} (hM : m ≤ M) :
    Part S V n M (Ideal.exp (m - M) * l) (Ideal.exp (m - M) * a) := by
  have h0 := exp_nonneg (m - M)
  have h1 := exp_ne_top (sub_ne_top hM)
  refine ⟨?_, ?_⟩
  · rw [h.hl, mul_sum_of_nonneg _ h0 h1]
    refine Finset.sum_congr rfl fun k hk => exp_rescale ?_ hM
    rw [h.hm]; exact le_top S (Finset.mem_range.mp hk)
  · rw [h.ha, mul_sum_of_nonneg _ h0 h1]
    refine Finset.sum_congr rfl fun k hk => ?_
    rw [mul_left_comm, exp_rescale (by rw [h.hm]; exact le_top S (Finset.mem_range.mp hk)) hM]

/-- Adding one tile of `w` keys to a partial state. -/
theorem Part.tile {S V : ℕ → EReal} {n : ℕ} {M l a : EReal} (h : Part S V n M l a) (w : ℕ) :
    Part S V (n + w) M (l + ∑ i : Fin w, Ideal.exp (S (n + i.val) - M))
      (a + ∑ i : Fin w, V (n + i.val) * Ideal.exp (S (n + i.val) - M)) :=
  ⟨by rw [h.hl, ← sum_add (fun k => Ideal.exp (S k - M))], by rw [h.ha, ← sum_add (fun k => V k * Ideal.exp (S k - M))]⟩

/-- A partial state that has met all the keys its maximum was taken over is a state. -/
theorem Part.seen {S V : ℕ → EReal} {n : ℕ} {M l a : EReal} (h : Part S V n M l a) (hM : M = top S n) :
    Seen S V n M l a := ⟨hM, h.hl, h.ha⟩

/-- Keys that score `⊥` change neither the maximum nor the sums. -/
theorem Seen.extend {S V : ℕ → EReal} {n K : ℕ} {m l a : EReal} (h : Seen S V n m l a) (hn : n ≤ K)
    (hS : ∀ k, n ≤ k → S k = ⊥) : Seen S V K m l a := by
  have e : ∀ f : ℕ → EReal, (∀ k, n ≤ k → f k = 0) → ∑ k ∈ Finset.range K, f k = ∑ k ∈ Finset.range n, f k :=
    fun f hf => (Finset.sum_subset (Finset.range_subset_range.mpr hn) fun k _ hk =>
      hf k (by rw [Finset.mem_range] at hk; omega)).symm
  refine ⟨?_, ?_, ?_⟩
  · rw [h.hm]
    refine le_antisymm (top_mono S hn) (Finset.sup_le fun k _ => ?_)
    by_cases hk : k < n
    · exact le_top S hk
    · rw [hS k (by omega)]; exact bot_le
  · rw [e _ fun k hk => by rw [hS k hk]; simp]; exact h.hl
  · rw [e _ fun k hk => by rw [hS k hk]; simp]; exact h.ha

/-- The largest score is real when no score is `⊤` and one is real. -/
theorem top_real {S : ℕ → EReal} {K k₀ : ℕ} (hk : k₀ < K) (hb : S k₀ ≠ ⊥) (ht : ∀ k, S k ≠ ⊤) :
    ∃ r : ℝ, top S K = (r : EReal) := by
  have h1 : top S K ≠ ⊤ := by
    obtain ⟨k, _, e⟩ := Finset.exists_mem_eq_sup (Finset.range K) ⟨k₀, Finset.mem_range.mpr hk⟩ S
    rw [top, e]; exact ht k
  have h2 : top S K ≠ ⊥ := fun e => hb (le_bot_iff.mp (e ▸ le_top S hk))
  exact ⟨_, (EReal.coe_toReal h1 h2).symm⟩

/-- The weight sum is a real number that is at least one. -/
theorem Seen.sum_real {S V : ℕ → EReal} {K k₀ : ℕ} {m l a : EReal} (h : Seen S V K m l a) (hk : k₀ < K)
    (hb : S k₀ ≠ ⊥) (ht : ∀ k, S k ≠ ⊤) : ∃ r : ℝ, l = (r : EReal) ∧ 1 ≤ r := by
  obtain ⟨r, hr⟩ := top_real hk hb ht
  have hm : m = (r : EReal) := h.hm.trans hr
  have hle : ∀ k ∈ Finset.range K, Ideal.exp (S k - m) ≠ ⊤ := fun k hk' =>
    exp_ne_top (sub_ne_top (by rw [h.hm]; exact le_top S (Finset.mem_range.mp hk')))
  have hge : (1 : EReal) ≤ l := by
    obtain ⟨k, hk', e⟩ := Finset.exists_mem_eq_sup (Finset.range K) ⟨k₀, Finset.mem_range.mpr hk⟩ S
    have e1 : Ideal.exp (S k - m) = 1 := by
      rw [← e, show (Finset.range K).sup S = m from h.hm.symm, hm, ← EReal.coe_sub, sub_self, Ideal.exp_coe, Real.exp_zero]
      rfl
    rw [h.hl, ← e1]
    exact Finset.single_le_sum (f := fun k => Ideal.exp (S k - m)) (fun i _ => exp_nonneg _) hk'
  have hne : l ≠ ⊤ := by
    rw [h.hl]
    have : ∀ s : Finset ℕ, s ⊆ Finset.range K → ∑ k ∈ s, Ideal.exp (S k - m) ≠ ⊤ := by
      intro s
      induction s using Finset.induction_on with
      | empty => intro _; simp
      | insert x s hx ih =>
        intro hs
        rw [Finset.sum_insert hx]
        have a1 := hle x (hs (Finset.mem_insert_self x s))
        have a2 := ih (fun y hy => hs (Finset.mem_insert_of_mem hy))
        exact (EReal.add_lt_top a1 a2).ne
    exact this _ (Finset.Subset.refl _)
  have hnb : l ≠ ⊥ := fun e => by rw [e] at hge; exact absurd hge (by decide)
  refine ⟨l.toReal, (EReal.coe_toReal hne hnb).symm, ?_⟩
  have := hge
  rw [← EReal.coe_toReal hne hnb] at this
  exact_mod_cast this

/-- THE END: the value sum over the weight sum is the sum of the values times their normalised weights, the weight sum
    floored at `t ≤ 1` as the reference floors it. -/
theorem Seen.quotient {S V : ℕ → EReal} {K k₀ : ℕ} {m l a t : EReal} (h : Seen S V K m l a) (hk : k₀ < K)
    (hb : S k₀ ≠ ⊥) (ht : ∀ k, S k ≠ ⊤) (hT : t ≤ 1) :
    Ideal.div a l = ∑ k ∈ Finset.range K, V k * Ideal.div (Ideal.exp (S k - m)) (max l t) := by
  obtain ⟨r, hr, h1⟩ := h.sum_real hk hb ht
  have hl : max l t = l := max_eq_left (hT.trans (by rw [hr]; exact_mod_cast h1))
  have h0 : l ≠ 0 := by rw [hr]; exact_mod_cast (by linarith : r ≠ 0)
  rw [hl]
  unfold Ideal.div
  simp only [if_neg h0]
  rw [h.ha, mul_comm, mul_sum_of_nonneg]
  · refine Finset.sum_congr rfl fun k _ => ?_
    rw [mul_comm, mul_assoc]
  · rw [hr, ← EReal.coe_inv]; exact_mod_cast inv_nonneg.mpr (by linarith)
  · rw [hr, ← EReal.coe_inv]; exact EReal.coe_ne_top _

/-- A sum of products of finite numbers is finite. -/
theorem real_sum {n : ℕ} (u v : Fin n → EReal) (hu : ∀ f, u f ≠ ⊥ ∧ u f ≠ ⊤) (hv : ∀ f, v f ≠ ⊥ ∧ v f ≠ ⊤) :
    ∃ x : ℝ, ∑ f : Fin n, u f * v f = (x : EReal) := by
  refine Finset.sum_induction _ (fun z : EReal => ∃ x : ℝ, z = (x : EReal)) ?_ ⟨0, rfl⟩ fun f _ => ?_
  · rintro _ _ ⟨x, rfl⟩ ⟨y, rfl⟩
    exact ⟨x + y, (EReal.coe_add x y).symm⟩
  · refine ⟨(u f).toReal * (v f).toReal, ?_⟩
    rw [EReal.coe_mul, EReal.coe_toReal (hu f).2 (hu f).1, EReal.coe_toReal (hv f).2 (hv f).1]

/-- The floor of the weight sum is at most one. -/
theorem tiny_le : Ideal.ofBits .f32 0x0DA24260#32 ≤ 1 := by
  simp [Ideal.ofBits, Ideal.ieee, -EReal.coe_mul]
  norm_num
  exact EReal.coe_le_coe_iff.mpr (by norm_num : (332307 / 332306998946228968225951765070086144 : ℝ) ≤ 1)

end Cert.Online
-- ==== Proof.Read.lean ====
/-
  The arithmetic of a grid point read at an index, in extended reals.
-/
module

public import proofs.«01_k».proof.Proof.Step
public import proofs.«01_k».proof.Proof.Online
public import Idealize.ShloMosaic.Lib.Pointwise

@[expose] public section

set_option maxRecDepth 16384

noncomputable section

open Idealize.ShloMosaic Idealize.ShloMosaic.TcCoe Idealize.SL.Sem

namespace Cert.KernelIdeal.Val

open Cert.KernelIdeal Cert.KernelIdeal.Gen Cert.Online

theorem score_apply (q : FVec Ideal S512x256 .bf16) (kt : Vec Ideal S1x1x256x256 .bf16) (j : Fin 256) (col : Fin 512) :
    score q kt (ix2 j col) = ∑ f : Fin 256, kt (ix4 0 0 j f) * q (ix2 col f) := by
  pointwise [score]

theorem raise_apply (m : FVec Ideal S1x512 .f32) (s : FVec Ideal S256x512 .f32) (col : Fin 512) :
    raise m s (ix2 0 col) = max (m (ix2 0 col)) (Finset.univ.sup fun j : Fin 256 => s (ix2 j col)) := by
  pointwise [raise]
  rw [show Ideal.ofBits .f32 4286578688#32 = ⊥ from by simp [Ideal.ofBits, Ideal.ieee]]
  rfl

theorem weight_apply (M : FVec Ideal S1x512 .f32) (s : FVec Ideal S256x512 .f32) (j : Fin 256) (col : Fin 512) :
    weight M s (ix2 j col) = Ideal.exp (s (ix2 j col) - M (ix2 0 col)) := by
  pointwise [weight]

theorem addL_apply (M l : FVec Ideal S1x512 .f32) (s : FVec Ideal S256x512 .f32) (col : Fin 512) :
    addL M l s (ix2 0 col) = l (ix2 0 col) + ∑ j : Fin 256, Ideal.exp (s (ix2 j col) - M (ix2 0 col)) := by
  pointwise [addL, weight]

theorem addA_apply (M : FVec Ideal S1x512 .f32) (a : FVec Ideal S128x512 .f32) (s : FVec Ideal S256x512 .f32)
    (vt : Vec Ideal S1x1x128x256 .bf16) (d : Fin 128) (col : Fin 512) :
    addA M a s vt (ix2 d col)
      = a (ix2 d col) + ∑ j : Fin 256, vt (ix4 0 0 d j) * Ideal.exp (s (ix2 j col) - M (ix2 0 col)) := by
  pointwise [addA, weight]

/-- The word that shifts the last tile's keys against the block's first query: 0 or -128. -/
theorem shift_eq (q : Fin 64) :
    Scalar.subi (Scalar.muli (BitVec.ofNat 32 (q.val / 2)) 256#32) (Scalar.muli (BitVec.ofNat 32 q.val) 128#32)
      = if q.val % 2 = 0 then 0#32 else 4294967168#32 := by
  revert q
  decide +kernel

/-- A query column's number modulo 128, as a word. -/
theorem col_eq (col : Fin 512) :
    IntOp.andi (BitVec.ofNat 32 col.val) 127#32 = BitVec.ofNat 32 (col.val % 128) := by
  revert col
  decide +kernel

/-- The comparison of a key with a query, in words and in numbers. -/
theorem cmp_eq (j : Fin 256) (c : Fin 128) (p : Fin 2) :
    IntOp.cmpi CmpIPredicate.sle (IntOp.addi (BitVec.ofNat 32 j.val) (if p.val = 0 then 0#32 else 4294967168#32))
      (BitVec.ofNat 32 c.val) = BitVec.ofBool (decide (j.val ≤ 128 * p.val + c.val)) := by
  have hj : (BitVec.ofNat 32 j.val).toNat = j.val := by rw [BitVec.toNat_ofNat]; omega
  have hc : (BitVec.ofNat 32 c.val).toNat = c.val := by rw [BitVec.toNat_ofNat]; omega
  change BitVec.ofBool (BitVec.sle (BitVec.ofNat 32 j.val + _) (BitVec.ofNat 32 c.val)) = _
  congr 1
  rw [BitVec.sle_eq_decide, decide_eq_decide, BitVec.toInt_eq_toNat_cond, BitVec.toInt_eq_toNat_cond, BitVec.toNat_add, hj, hc]
  have := p.isLt
  by_cases hp : p.val = 0
  · rw [if_pos hp]
    simp only [BitVec.toNat_ofNat]
    split_ifs <;> omega
  · rw [if_neg hp]
    simp only [BitVec.toNat_ofNat]
    split_ifs <;> omega

/-- The last tile's scores: a key after the query scores `⊥`. -/
theorem masked_apply (q : Fin 64) (s : FVec Ideal S256x512 .f32) (j : Fin 256) (col : Fin 512) :
    masked (BitVec.ofNat 32 q.val) (BitVec.ofNat 32 (q.val / 2)) s (ix2 j col)
      = if 256 * (q.val / 2) + j.val ≤ 128 * q.val + col.val % 128 then s (ix2 j col) else ⊥ := by
  pointwise [masked]
  rw [shift_eq, col_eq]
  have h := cmp_eq j ⟨col.val % 128, by omega⟩ ⟨q.val % 2, by omega⟩
  simp only at h
  rw [h]
  by_cases hc : j.val ≤ 128 * (q.val % 2) + col.val % 128
  · rw [if_pos (by omega), decide_eq_true hc]
    rfl
  · rw [if_neg (by omega), decide_eq_false hc]
    rfl

end Cert.KernelIdeal.Val
-- ==== Proof.Group.lean ====
/-
  A group of consecutive tiles carries the running state from the keys before it to the keys up to its end.
-/
module

public import proofs.«01_k».proof.Proof.Read

@[expose] public section

set_option maxRecDepth 16384

noncomputable section

open Idealize.ShloMosaic Idealize.ShloMosaic.TcCoe Idealize.SL.Sem

namespace Cert.KernelIdeal.Val

open Cert.KernelIdeal Cert.KernelIdeal.Gen Cert.Online

variable (S : Fin 512 → ℕ → EReal) (V : Fin 128 → ℕ → EReal)

/-- A tile holds the scores and values of the 256 keys from key `n` on. -/
structure IsTile (n : ℕ) (t : Tile Ideal) : Prop where
  hs : ∀ (j : Fin 256) (col : Fin 512), t.1 (ix2 j col) = S col (n + j.val)
  hv : ∀ (d : Fin 128) (j : Fin 256), t.2 (ix4 0 0 d j) = V d (n + j.val)

/-- Consecutive tiles, the first from key `n` on. -/
def Tiles : ℕ → List (Tile Ideal) → Prop
  | _, [] => True
  | n, t :: ts => IsTile S V n t ∧ Tiles (n + 256) ts

/-- The state is that of the first `n` keys, in every query column and value coordinate. -/
def Holds (n : ℕ) (s : St Ideal) : Prop :=
  ∀ (col : Fin 512) (d : Fin 128), Seen (S col) (V d) n (s.m (ix2 0 col)) (s.l (ix2 0 col)) (s.a (ix2 d col))

/-- The maximum after the group is the largest of the scores up to the group's end. -/
theorem groupM_apply (col : Fin 512) (ts : List (Tile Ideal)) (n : ℕ) (m : FVec Ideal S1x512 .f32) (h : Tiles S V n ts)
    (hm : m (ix2 0 col) = top (S col) n) : groupM ts m (ix2 0 col) = top (S col) (n + 256 * ts.length) := by
  induction ts generalizing n m with
  | nil => exact hm
  | cons t ts ih =>
    have e : groupM (t :: ts) m = groupM ts (raise m t.1) := rfl
    rw [e, ih (n + 256) (raise m t.1) h.2 (by
      rw [raise_apply, top_add, hm]
      exact congrArg _ (congrArg _ (funext fun j => h.1.hs j col)))]
    congr 1
    rw [List.length_cons]
    omega

/-- The sums after the group's tiles, against the group's maximum. -/
theorem group_part (col : Fin 512) (d : Fin 128) (M : FVec Ideal S1x512 .f32) (ts : List (Tile Ideal)) (n : ℕ)
    (l : FVec Ideal S1x512 .f32) (a : FVec Ideal S128x512 .f32) (h : Tiles S V n ts)
    (hp : Part (S col) (V d) n (M (ix2 0 col)) (l (ix2 0 col)) (a (ix2 d col))) :
    Part (S col) (V d) (n + 256 * ts.length) (M (ix2 0 col)) ((ts.foldl (fun l t => addL M l t.1) l) (ix2 0 col))
      ((ts.foldl (fun a t => addA M a t.1 t.2) a) (ix2 d col)) := by
  induction ts generalizing n l a with
  | nil => exact hp
  | cons t ts ih =>
    have hq := hp.tile 256
    have el : addL M l t.1 (ix2 0 col)
        = l (ix2 0 col) + ∑ i : Fin 256, Ideal.exp (S col (n + i.val) - M (ix2 0 col)) := by
      rw [addL_apply]
      exact congrArg _ (Finset.sum_congr rfl fun j _ => by rw [h.1.hs])
    have ea : addA M a t.1 t.2 (ix2 d col)
        = a (ix2 d col) + ∑ i : Fin 256, V d (n + i.val) * Ideal.exp (S col (n + i.val) - M (ix2 0 col)) := by
      rw [addA_apply]
      exact congrArg _ (Finset.sum_congr rfl fun j _ => by rw [h.1.hs, h.1.hv])
    rw [← el, ← ea] at hq
    have hr := ih (n + 256) _ _ h.2 hq
    rw [List.foldl_cons, List.foldl_cons, List.length_cons, show n + 256 * (ts.length + 1) = n + 256 + 256 * ts.length by omega]
    exact hr

/-- The rescaled weight sum. -/
theorem scaleL_apply (m M l : FVec Ideal S1x512 .f32) (col : Fin 512) :
    mulf (exp (subf m M)) l (ix2 0 col) = Ideal.exp (m (ix2 0 col) - M (ix2 0 col)) * l (ix2 0 col) := by
  pointwise

/-- The rescaled value sums. -/
theorem scaleA_apply (m M : FVec Ideal S1x512 .f32) (a : FVec Ideal S128x512 .f32) (d : Fin 128) (col : Fin 512) :
    mulf (broadcastTo S128x512 (exp (subf m M)) broadcasts_S1x512_S128x512) a (ix2 d col)
      = Ideal.exp (m (ix2 0 col) - M (ix2 0 col)) * a (ix2 d col) := by
  pointwise

/-- The state after a group of consecutive tiles. -/
theorem group_holds (ts : List (Tile Ideal)) (n : ℕ) (s : St Ideal) (h : Tiles S V n ts) (hs : Holds S V n s) :
    Holds S V (n + 256 * ts.length) (group ts s) := by
  intro col d
  have hM := groupM_apply S V col ts n s.m h (hs col d).hm
  have hle : s.m (ix2 0 col) ≤ groupM ts s.m (ix2 0 col) := by
    rw [hM, (hs col d).hm]
    exact top_mono _ (Nat.le_add_right _ _)
  have hp := (hs col d).rescale hle
  rw [← scaleL_apply, ← scaleA_apply] at hp
  exact (group_part S V col d (groupM ts s.m) ts n _ _ h hp).seen hM

/-- Before any tile. -/
theorem init_holds : Holds S V 0 (St.init : St Ideal) := by
  intro col d
  have hm : (St.init : St Ideal).m (ix2 0 col) = ⊥ := by
    pointwise [St.init, k0_pay66]
    rfl
  have hl : (St.init : St Ideal).l (ix2 0 col) = 0 := by
    pointwise [St.init, k0_pay67]
  have ha : (St.init : St Ideal).a (ix2 d col) = 0 := by
    pointwise [St.init, k0_pay68]
  rw [hm, hl, ha]
  exact Seen.zero _ _

end Cert.KernelIdeal.Val
-- ==== Proof.Trip.lean ====
/-
  One trip of the loop over groups of four tiles, read off its generated stores: the running state's three arrays, each
  stored whole, are the update of the arrays found there by the four tiles.
-/
module

public import proofs.«01_k».proof.Proof.Step

@[expose] public section

set_option maxRecDepth 16384

noncomputable section

open Idealize.ShloMosaic Idealize.ShloMosaic.TcCoe Idealize.SL.Sem

namespace Cert.KernelIdeal.Val

open Cert.KernelIdeal Cert.KernelIdeal.Gen

variable {F : FTy → Type} [FloatOps F] [Named F]

/-- Tile `r` of trip `k`: scores and values, read at the offsets the trip computes. -/
def tripTile (i : grid0.Coords) (arg4 : Memref sig .tc .vmem S1x32x256x256 .bf16)
    (arg5 : Memref sig .tc .vmem S1x32x128x256 .bf16) (q : FVec F S512x256 .bf16)
    (X4 : BufTy.Contents (Elt F) arg4.view.ty) (X5 : BufTy.Contents (Elt F) arg5.view.ty) (k : Fin (k0_t1_loop i).trips)
    (w : BitVec 32) (hk : ∀ a, k0_off1 i k w a + S1x1x256x256.size a ≤ S1x32x256x256.size a)
    (hv : ∀ a, k0_off2 i k w a + S1x1x128x256.size a ≤ S1x32x128x256.size a) : Tile F :=
  (score q (View.readAt (Elt F) arg4.view (Rect.unit (s := S1x32x256x256) (k0_off1 i k w) S1x1x256x256.size hk).toLoadRect X4),
    View.readAt (Elt F) arg5.view (Rect.unit (s := S1x32x128x256) (k0_off2 i k w) S1x1x128x256.size hv).toLoadRect X5)

/-- The four tiles of trip `k`. -/
def tripTiles (i : grid0.Coords) (arg4 : Memref sig .tc .vmem S1x32x256x256 .bf16)
    (arg5 : Memref sig .tc .vmem S1x32x128x256 .bf16) (q : FVec F S512x256 .bf16)
    (X4 : BufTy.Contents (Elt F) arg4.view.ty) (X5 : BufTy.Contents (Elt F) arg5.view.ty) (k : Fin (k0_t1_loop i).trips) :
    List (Tile F) :=
  [tripTile i arg4 arg5 q X4 X5 k 0#32 (k0_off1_inb i k 0) (k0_off2_inb i k 0),
    tripTile i arg4 arg5 q X4 X5 k 1#32 (k0_off1_inb i k 1) (k0_off2_inb i k 1),
    tripTile i arg4 arg5 q X4 X5 k 2#32 (k0_off1_inb i k 2) (k0_off2_inb i k 2),
    tripTile i arg4 arg5 q X4 X5 k 3#32 (k0_off1_inb i k 3) (k0_off2_inb i k 3)]

/-- The whole of a maximum or weight-sum array, as loaded. -/
abbrev rd1 (r : Memref sig .tc .vmem S1x512 .f32) (f : BufTy.Contents (Elt F) r.view.ty) : Vec F S1x512 .f32 :=
  View.readAt (Elt F) r.view (Rect.unit (s := S1x512) ![0, 0] S1x512.size inb_S1x512_S1x512_0_0).toLoadRect f

/-- The whole of the value-sum array, as loaded. -/
abbrev rd2 (r : Memref sig .tc .vmem S128x512 .f32) (f : BufTy.Contents (Elt F) r.view.ty) : Vec F S128x512 .f32 :=
  View.readAt (Elt F) r.view (Rect.unit (s := S128x512) ![0, 0] S128x512.size inb_S128x512_S128x512_0_0).toLoadRect f

variable (𝒱 : Variants) (c : Dev nD) (bd : Option 𝒱.V) (i : grid0.Coords) (arg3 : Memref sig .tc .vmem S1x128x1024 .bf16)
  (harg3 : arg3.IsWhole) (arg4 : Memref sig .tc .vmem S1x32x256x256 .bf16) (harg4 : arg4.IsWhole)
  (arg5 : Memref sig .tc .vmem S1x32x128x256 .bf16) (harg5 : arg5.IsWhole) (arg6 : Memref sig .tc .vmem S1x512x128 .f32)
  (harg6 : arg6.IsWhole) (arg7 : Memref sig .tc .vmem S1x512 .f32) (harg7 : arg7.IsWhole)
  (arg8 : Memref sig .tc .vmem S1x512 .f32) (harg8 : arg8.IsWhole) (arg9 : Memref sig .tc .vmem S128x512 .f32)
  (harg9 : arg9.IsWhole) (arg2 : BitVec 32) (v6 : FVec F S512x256 .bf16) (v20 : BitVec 32) (v34 : BitVec 1)
  (X4 : BufTy.Contents (Elt F) arg4.view.ty) (X5 : BufTy.Contents (Elt F) arg5.view.ty) (k : Fin (k0_t1_loop i).trips)
  (f7 : BufTy.Contents (Elt F) arg7.view.ty) (f8 : BufTy.Contents (Elt F) arg8.view.ty)
  (f9 : BufTy.Contents (Elt F) arg9.view.ty)

/-- What trip `k` stores in the maximum array. -/
theorem trip_m :
    (trip_k0_t1 (F := F) 𝒱 c bd i arg3 harg3 arg4 harg4 arg5 harg5 arg6 harg6 arg7 harg7 arg8 harg8 arg9 harg9 arg2 v6 v20
        v34 X4 X5 k).1 f7 f8 f9
      = [⟨Rect.unit (s := S1x512) ![0, 0] S1x512.size inb_S1x512_S1x512_0_0,
          shapeCast S1x512 (group (tripTiles i arg4 arg5 v6 X4 X5 k) ⟨rd1 arg7 f7, rd1 arg8 f8, rd2 arg9 f9⟩).m
            shapeCasts_S1x512_S1x512⟩] := by
  unfold trip_k0_t1
  dsimp only
  sl_unfold_words
  rfl

/-- What trip `k` stores in the weight-sum array. -/
theorem trip_l :
    (trip_k0_t1 (F := F) 𝒱 c bd i arg3 harg3 arg4 harg4 arg5 harg5 arg6 harg6 arg7 harg7 arg8 harg8 arg9 harg9 arg2 v6 v20
        v34 X4 X5 k).2.1 f7 f8 f9
      = [⟨Rect.unit (s := S1x512) ![0, 0] S1x512.size inb_S1x512_S1x512_0_0,
          shapeCast S1x512 (group (tripTiles i arg4 arg5 v6 X4 X5 k) ⟨rd1 arg7 f7, rd1 arg8 f8, rd2 arg9 f9⟩).l
            shapeCasts_S1x512_S1x512⟩] := by
  unfold trip_k0_t1
  dsimp only
  sl_unfold_words
  rfl

/-- What trip `k` stores in the value-sum array. -/
theorem trip_a :
    (trip_k0_t1 (F := F) 𝒱 c bd i arg3 harg3 arg4 harg4 arg5 harg5 arg6 harg6 arg7 harg7 arg8 harg8 arg9 harg9 arg2 v6 v20
        v34 X4 X5 k).2.2.1 f7 f8 f9
      = [⟨Rect.unit (s := S128x512) ![0, 0] S128x512.size inb_S128x512_S128x512_0_0,
          shapeCast S128x512 (group (tripTiles i arg4 arg5 v6 X4 X5 k) ⟨rd1 arg7 f7, rd1 arg8 f8, rd2 arg9 f9⟩).a
            shapeCasts_S128x512_S128x512⟩] := by
  unfold trip_k0_t1
  dsimp only
  sl_unfold_words
  rfl

end Cert.KernelIdeal.Val
-- ==== Proof.Loop.lean ====
/-
  The loop over groups of four tiles: after each number of trips the three arrays hold the running state updated by the
  groups in turn. The loop over left-over groups runs no trip.
-/
module

public import proofs.«01_k».proof.Proof.Trip
public import Idealize.ShloMosaic.Lib.VecWindow
public import Idealize.ShloMosaic.Lib.Writes

@[expose] public section

set_option maxRecDepth 16384

noncomputable section

open Idealize.ShloMosaic Idealize.ShloMosaic.TcCoe Idealize.SL.Sem

namespace Cert.KernelIdeal.Val

open Cert.KernelIdeal Cert.KernelIdeal.Gen

variable {F : FTy → Type} [FloatOps F] [Named F]

/-- The state after `n` trips. -/
def loopSt (i : grid0.Coords) (arg4 : Memref sig .tc .vmem S1x32x256x256 .bf16)
    (arg5 : Memref sig .tc .vmem S1x32x128x256 .bf16) (q : FVec F S512x256 .bf16)
    (X4 : BufTy.Contents (Elt F) arg4.view.ty) (X5 : BufTy.Contents (Elt F) arg5.view.ty) : ℕ → St F
  | 0 => St.init
  | n + 1 =>
    if h : n < (k0_t1_loop i).trips then
      group (tripTiles i arg4 arg5 q X4 X5 ⟨n, h⟩) (loopSt i arg4 arg5 q X4 X5 n)
    else loopSt i arg4 arg5 q X4 X5 n

theorem loopSt_succ (i : grid0.Coords) (arg4 : Memref sig .tc .vmem S1x32x256x256 .bf16)
    (arg5 : Memref sig .tc .vmem S1x32x128x256 .bf16) (q : FVec F S512x256 .bf16)
    (X4 : BufTy.Contents (Elt F) arg4.view.ty) (X5 : BufTy.Contents (Elt F) arg5.view.ty)
    (k : Fin (k0_t1_loop i).trips) :
    loopSt i arg4 arg5 q X4 X5 (k.val + 1)
      = group (tripTiles i arg4 arg5 q X4 X5 k) (loopSt i arg4 arg5 q X4 X5 k.val) := by
  rw [loopSt, dif_pos k.isLt]

variable (𝒱 : Variants) (c : Dev nD) (bd : Option 𝒱.V) (i : grid0.Coords) (arg3 : Memref sig .tc .vmem S1x128x1024 .bf16)
  (harg3 : arg3.IsWhole) (arg4 : Memref sig .tc .vmem S1x32x256x256 .bf16) (harg4 : arg4.IsWhole)
  (arg5 : Memref sig .tc .vmem S1x32x128x256 .bf16) (harg5 : arg5.IsWhole) (arg6 : Memref sig .tc .vmem S1x512x128 .f32)
  (harg6 : arg6.IsWhole) (arg7 : Memref sig .tc .vmem S1x512 .f32) (harg7 : arg7.IsWhole)
  (arg8 : Memref sig .tc .vmem S1x512 .f32) (harg8 : arg8.IsWhole) (arg9 : Memref sig .tc .vmem S128x512 .f32)
  (harg9 : arg9.IsWhole) (arg2 : BitVec 32) (v6 : FVec F S512x256 .bf16) (v20 : BitVec 32) (v34 : BitVec 1)
  (X4 : BufTy.Contents (Elt F) arg4.view.ty) (X5 : BufTy.Contents (Elt F) arg5.view.ty)
  (G7 : BufTy.Contents (Elt F) arg7.view.ty) (G8 : BufTy.Contents (Elt F) arg8.view.ty)
  (G9 : BufTy.Contents (Elt F) arg9.view.ty)

/-- The three arrays after `n` trips, from arrays that hold the initial state. -/
theorem loop_state (h7 : rd1 arg7 G7 = (St.init : St F).m) (h8 : rd1 arg8 G8 = (St.init : St F).l)
    (h9 : rd2 arg9 G9 = (St.init : St F).a) (n : ℕ) (hn : n ≤ (k0_t1_loop i).trips) :
    rd1 arg7 (arg7.view.writes (Elt F) G7 (pb_k0_t1 (F := F) 𝒱 c bd i arg3 harg3 arg4 harg4 arg5 harg5 arg6 harg6 arg7
        harg7 arg8 harg8 arg9 harg9 arg2 v6 v20 v34 X4 X5 G7 G8 G9 n).1) = (loopSt i arg4 arg5 v6 X4 X5 n).m
      ∧ rd1 arg8 (arg8.view.writes (Elt F) G8 (pb_k0_t1 (F := F) 𝒱 c bd i arg3 harg3 arg4 harg4 arg5 harg5 arg6 harg6 arg7
        harg7 arg8 harg8 arg9 harg9 arg2 v6 v20 v34 X4 X5 G7 G8 G9 n).2.1) = (loopSt i arg4 arg5 v6 X4 X5 n).l
      ∧ rd2 arg9 (arg9.view.writes (Elt F) G9 (pb_k0_t1 (F := F) 𝒱 c bd i arg3 harg3 arg4 harg4 arg5 harg5 arg6 harg6 arg7
        harg7 arg8 harg8 arg9 harg9 arg2 v6 v20 v34 X4 X5 G7 G8 G9 n).2.2) = (loopSt i arg4 arg5 v6 X4 X5 n).a := by
  induction n with
  | zero => exact ⟨h7, h8, h9⟩
  | succ n ih =>
    obtain ⟨i7, i8, i9⟩ := ih (by omega)
    have hs := pb_k0_t1_succ (F := F) 𝒱 c bd i arg3 harg3 arg4 harg4 arg5 harg5 arg6 harg6 arg7 harg7 arg8 harg8 arg9 harg9
      arg2 v6 v20 v34 X4 X5 G7 G8 G9 ⟨n, hn⟩
    simp only at hs
    have hl := loopSt_succ i arg4 arg5 v6 X4 X5 ⟨n, hn⟩
    simp only at hl
    rw [hs, hl, trip_m, trip_l, trip_a, i7, i8, i9]
    simp only [List.cons_append, List.nil_append, shapeCast_self]
    exact ⟨View.readAt_writes_full _ _ _ _ _ _, View.readAt_writes_full _ _ _ _ _ _, View.readAt_writes_full _ _ _ _ _ _⟩

/-- The number of trips: a trip takes four tiles of 256 keys, and a block of queries starts at 128 times its number. -/
theorem trips_eq (i : grid0.Coords) : (k0_t1_loop i).trips = (i 2).val / 8 := by
  have h : ∀ q : Fin 64, ∀ j : grid0.Coords, (j 2).val = q.val → (k0_t1_loop j).trips = q.val / 8 := by
    intro q j hj
    simp only [k0_t1_loop, hj]
    clear hj j
    revert q
    decide +kernel
  exact h ⟨(i 2).val, (i 2).isLt⟩ i rfl

/-- The loop over left-over groups has no trip. -/
theorem trips2_eq (i : grid0.Coords) : (k0_t2_loop i).trips = 0 := by
  have h : ∀ q : Fin 64, ∀ j : grid0.Coords, (j 2).val = q.val → (k0_t2_loop j).trips = 0 := by
    intro q j hj
    simp only [k0_t2_loop, hj]
    clear hj j
    revert q
    decide +kernel
  exact h ⟨(i 2).val, (i 2).isLt⟩ i rfl

end Cert.KernelIdeal.Val
-- ==== Proof.Run.lean ====
/-
  One grid point's stores, read off the generated run: the four slices of the output block, cut from the quotient of the
  state after the loop and the tail tiles. There are four tails, by the number of whole tiles left after the groups of four.
-/
module

public import proofs.«01_k».proof.Proof.Loop

@[expose] public section

set_option maxRecDepth 16384

noncomputable section

open Idealize.ShloMosaic Idealize.ShloMosaic.TcCoe Idealize.SL.Sem

namespace Cert.KernelIdeal.Val

open Cert.KernelIdeal Cert.KernelIdeal.Gen

variable {F : FTy → Type} [FloatOps F] [Named F]

/-- The queries of a block, one row per query column. -/
def queries (arg3 : Memref sig .tc .vmem S1x128x1024 .bf16) (X3 : BufTy.Contents (Elt F) arg3.view.ty) :
    FVec F S512x256 .bf16 :=
  k0_pay65 (View.readAt (Elt F) arg3.view
    (Rect.unit (s := S1x128x1024) ![0, 0, 0] S1x128x1024.size inb_S1x128x1024_S1x128x1024_0_0_0).toLoadRect X3)

/-- A tile read at given offsets. -/
def tile (arg4 : Memref sig .tc .vmem S1x32x256x256 .bf16) (arg5 : Memref sig .tc .vmem S1x32x128x256 .bf16)
    (q : FVec F S512x256 .bf16) (X4 : BufTy.Contents (Elt F) arg4.view.ty) (X5 : BufTy.Contents (Elt F) arg5.view.ty)
    (o4 o5 : Fin 4 → ℕ) (hk : ∀ a, o4 a + S1x1x256x256.size a ≤ S1x32x256x256.size a)
    (hv : ∀ a, o5 a + S1x1x128x256.size a ≤ S1x32x128x256.size a) : Tile F :=
  (score q (View.readAt (Elt F) arg4.view (Rect.unit (s := S1x32x256x256) o4 S1x1x256x256.size hk).toLoadRect X4),
    View.readAt (Elt F) arg5.view (Rect.unit (s := S1x32x128x256) o5 S1x1x128x256.size hv).toLoadRect X5)

/-- The number of the tile that holds the block's first query, as computed after `r` whole tail tiles. -/
def lastTile (i : grid0.Coords) (r : BitVec 32) : BitVec 32 :=
  Scalar.addi (Scalar.subi (Scalar.select
    (Scalar.andi
      (Scalar.cmpi .ne
        (Scalar.subi (Scalar.extui (Scalar.cmpi .sgt (Scalar.muli (BitVec.ofNat 32 (i 2).val) 128#32) 0#32))
          (Scalar.extui (Scalar.cmpi .slt (Scalar.muli (BitVec.ofNat 32 (i 2).val) 128#32) 0#32))) 1#32)
      (Scalar.cmpi .ne (Scalar.remsi (Scalar.muli (BitVec.ofNat 32 (i 2).val) 128#32) 256#32) 0#32))
    (Scalar.subi (Scalar.divsi (Scalar.muli (BitVec.ofNat 32 (i 2).val) 128#32) 256#32) 1#32)
    (Scalar.divsi (Scalar.muli (BitVec.ofNat 32 (i 2).val) 128#32) 256#32)) r) r

/-- A tile with the later keys masked. -/
def cutTile (qi kj : BitVec 32) (t : Tile F) : Tile F := (masked qi kj t.1, t.2)

/-- The four stores of the output block from the final sums. -/
def outPieces (l : FVec F S1x512 .f32) (a : FVec F S128x512 .f32) : List (View.Piece (Elt F) S1x512x128 .f32) :=
  [⟨Rect.unit ![0, 384, 0] ![1, 128, 128] inb_S1x512x128_S1x128x128_0_384_0, k0_pay4 (k0_pay91 a l)⟩,
    ⟨Rect.unit ![0, 256, 0] ![1, 128, 128] inb_S1x512x128_S1x128x128_0_256_0, k0_pay3 (k0_pay91 a l)⟩,
    ⟨Rect.unit ![0, 128, 0] ![1, 128, 128] inb_S1x512x128_S1x128x128_0_128_0, k0_pay2 (k0_pay91 a l)⟩,
    ⟨Rect.unit ![0, 0, 0] ![1, 128, 128] inb_S1x512x128_S1x128x128_0_0_0, k0_pay1 (k0_pay92 a l)⟩]

/-- The store of a whole maximum or weight-sum array. -/
abbrev pc1 (w : FVec F S1x512 .f32) : View.Piece (Elt F) S1x512 .f32 :=
  ⟨Rect.unit (s := S1x512) ![0, 0] S1x512.size inb_S1x512_S1x512_0_0, w⟩

/-- The store of the whole value-sum array. -/
abbrev pc2 (w : FVec F S128x512 .f32) : View.Piece (Elt F) S128x512 .f32 :=
  ⟨Rect.unit (s := S128x512) ![0, 0] S128x512.size inb_S128x512_S128x512_0_0, w⟩

/-- The load rectangle of a whole maximum or weight-sum array. -/
abbrev lr1 : LoadRect S1x512 := (Rect.unit (s := S1x512) ![0, 0] S1x512.size inb_S1x512_S1x512_0_0).toLoadRect

/-- The load rectangle of the whole value-sum array. -/
abbrev lr2 : LoadRect S128x512 := (Rect.unit (s := S128x512) ![0, 0] S128x512.size inb_S128x512_S128x512_0_0).toLoadRect

variable (c : Dev nD) (i : grid0.Coords) (arg3 : Memref sig .tc .vmem S1x128x1024 .bf16)
  (harg3 : arg3.IsWhole) (arg4 : Memref sig .tc .vmem S1x32x256x256 .bf16) (harg4 : arg4.IsWhole)
  (arg5 : Memref sig .tc .vmem S1x32x128x256 .bf16) (harg5 : arg5.IsWhole) (arg6 : Memref sig .tc .vmem S1x512x128 .f32)
  (harg6 : arg6.IsWhole) (arg7 : Memref sig .tc .vmem S1x512 .f32) (harg7 : arg7.IsWhole)
  (arg8 : Memref sig .tc .vmem S1x512 .f32) (harg8 : arg8.IsWhole) (arg9 : Memref sig .tc .vmem S128x512 .f32)
  (harg9 : arg9.IsWhole)

/-- The lists of stores of both loops and the start, over the start values. -/
abbrev pre1 (q : FVec F S512x256 .bf16) (X4 : BufTy.Contents (Elt F) arg4.view.ty)
    (X5 : BufTy.Contents (Elt F) arg5.view.ty) (v20 : BitVec 32) (v34 : BitVec 1) :
    List (View.Piece (Elt F) S1x512 .f32) × List (View.Piece (Elt F) S1x512 .f32) × List (View.Piece (Elt F) S128x512 .f32) :=
  pb_k0_t1 Variants.none c none i arg3 harg3 arg4 harg4 arg5 harg5 arg6 harg6 arg7 harg7 arg8 harg8 arg9 harg9
    (BitVec.ofNat 32 (i 2).val) q v20 v34 X4 X5 (arg7.view.writes (Elt F) arg7.view.junk [pc1 k0_pay66])
    (arg8.view.writes (Elt F) arg8.view.junk [pc1 k0_pay67]) (arg9.view.writes (Elt F) arg9.view.junk [pc2 k0_pay68])
    (Scf.trips (k0_t1_loop i).lb (k0_t1_loop i).ub (k0_t1_loop i).st)

/-- The stores of the loop over left-over groups. -/
abbrev pre2 (q : FVec F S512x256 .bf16) (X4 : BufTy.Contents (Elt F) arg4.view.ty)
    (X5 : BufTy.Contents (Elt F) arg5.view.ty) (v20 : BitVec 32) (v34 : BitVec 1) (v58 : BitVec 32) :
    List (View.Piece (Elt F) S1x512 .f32) × List (View.Piece (Elt F) S1x512 .f32) × List (View.Piece (Elt F) S128x512 .f32) :=
  pb_k0_t2 Variants.none c none i arg3 harg3 arg4 harg4 arg5 harg5 arg6 harg6 arg7 harg7 arg8 harg8 arg9 harg9
    (BitVec.ofNat 32 (i 2).val) q v20 v34 v58 X4 X5
    (arg7.view.writes (Elt F) arg7.view.junk ((pre1 c i arg3 harg3 arg4 harg4 arg5 harg5 arg6 harg6 arg7 harg7 arg8 harg8
      arg9 harg9 q X4 X5 v20 v34).1 ++ [pc1 k0_pay66]))
    (arg8.view.writes (Elt F) arg8.view.junk ((pre1 c i arg3 harg3 arg4 harg4 arg5 harg5 arg6 harg6 arg7 harg7 arg8 harg8
      arg9 harg9 q X4 X5 v20 v34).2.1 ++ [pc1 k0_pay67]))
    (arg9.view.writes (Elt F) arg9.view.junk ((pre1 c i arg3 harg3 arg4 harg4 arg5 harg5 arg6 harg6 arg7 harg7 arg8 harg8
      arg9 harg9 q X4 X5 v20 v34).2.2 ++ [pc2 k0_pay68]))
    (Scf.trips (k0_t2_loop i).lb (k0_t2_loop i).ub (k0_t2_loop i).st)

/-- The three loads the tail starts with give the state after the loop's last trip. -/
theorem found (q : FVec F S512x256 .bf16) (X4 : BufTy.Contents (Elt F) arg4.view.ty)
    (X5 : BufTy.Contents (Elt F) arg5.view.ty) (v20 : BitVec 32) (v34 : BitVec 1) (v58 : BitVec 32) :
    arg7.view.readCov ((pre2 c i arg3 harg3 arg4 harg4 arg5 harg5 arg6 harg6 arg7 harg7 arg8 harg8 arg9 harg9 q X4 X5
        v20 v34 v58).1 ++ ((pre1 c i arg3 harg3 arg4 harg4 arg5 harg5 arg6 harg6 arg7 harg7 arg8 harg8 arg9 harg9 q X4 X5
        v20 v34).1 ++ [pc1 k0_pay66])) lr1 = (loopSt i arg4 arg5 q X4 X5 (k0_t1_loop i).trips).m
      ∧ arg8.view.readCov ((pre2 c i arg3 harg3 arg4 harg4 arg5 harg5 arg6 harg6 arg7 harg7 arg8 harg8 arg9 harg9 q X4 X5
        v20 v34 v58).2.1 ++ ((pre1 c i arg3 harg3 arg4 harg4 arg5 harg5 arg6 harg6 arg7 harg7 arg8 harg8 arg9 harg9 q X4 X5
        v20 v34).2.1 ++ [pc1 k0_pay67])) lr1 = (loopSt i arg4 arg5 q X4 X5 (k0_t1_loop i).trips).l
      ∧ arg9.view.readCov ((pre2 c i arg3 harg3 arg4 harg4 arg5 harg5 arg6 harg6 arg7 harg7 arg8 harg8 arg9 harg9 q X4 X5
        v20 v34 v58).2.2 ++ ((pre1 c i arg3 harg3 arg4 harg4 arg5 harg5 arg6 harg6 arg7 harg7 arg8 harg8 arg9 harg9 q X4 X5
        v20 v34).2.2 ++ [pc2 k0_pay68])) lr2 = (loopSt i arg4 arg5 q X4 X5 (k0_t1_loop i).trips).a := by
  have h2 : pre2 c i arg3 harg3 arg4 harg4 arg5 harg5 arg6 harg6 arg7 harg7 arg8 harg8 arg9 harg9 q X4 X5 v20 v34 v58
      = ([], [], []) := by
    unfold pre2
    rw [show Scf.trips (k0_t2_loop i).lb (k0_t2_loop i).ub (k0_t2_loop i).st = 0 from trips2_eq i]
    rfl
  obtain ⟨e7, e8, e9⟩ := loop_state Variants.none c none i arg3 harg3 arg4 harg4 arg5 harg5 arg6 harg6 arg7 harg7 arg8 harg8 arg9 harg9 (BitVec.ofNat 32 (i 2).val) q v20 v34 X4 X5
    (arg7.view.writes (Elt F) arg7.view.junk [pc1 k0_pay66])
    (arg8.view.writes (Elt F) arg8.view.junk [pc1 k0_pay67]) (arg9.view.writes (Elt F) arg9.view.junk [pc2 k0_pay68])
    (View.readAt_writes_full _ _ _ _ _ _) (View.readAt_writes_full _ _ _ _ _ _) (View.readAt_writes_full _ _ _ _ _ _)
    (k0_t1_loop i).trips le_rfl
  rw [h2]
  simp only [List.nil_append, View.readCov, View.writes_append]
  exact ⟨e7, e8, e9⟩

/-- A load of a whole array after a store of it gives the stored values. -/
theorem cov1 (r : Memref sig .tc .vmem S1x512 .f32) (w : FVec F S1x512 .f32) (L : List (View.Piece (Elt F) S1x512 .f32)) :
    r.view.readCov (pc1 w :: L) lr1 = w :=
  View.readCov_full _ _ _ _ _

/-- The same of the value sums. -/
theorem cov2 (r : Memref sig .tc .vmem S128x512 .f32) (w : FVec F S128x512 .f32)
    (L : List (View.Piece (Elt F) S128x512 .f32)) : r.view.readCov (pc2 w :: L) lr2 = w :=
  View.readCov_full _ _ _ _ _

/-- Equal sums give equal stores. -/
theorem outPieces_congr {l l' : FVec F S1x512 .f32} {a a' : FVec F S128x512 .f32} (hl : l = l') (ha : a = a') :
    outPieces l a = outPieces l' a' := by
  rw [hl, ha]

variable (x0 : Vec F S1x128x1024 .bf16) (x1 : Vec F S1x32x256x256 .bf16) (x2 : Vec F S1x32x128x256 .bf16)

/-- The state after the loop, of a block. -/
abbrev blockSt : St F :=
  loopSt i arg4 arg5 (queries arg3 (harg3.unread x0)) (harg4.unread x1) (harg5.unread x2) (k0_t1_loop i).trips

/-- A tile of a block. -/
abbrev blockTile (o4 o5 : Fin 4 → ℕ) (hk : ∀ a, o4 a + S1x1x256x256.size a ≤ S1x32x256x256.size a)
    (hv : ∀ a, o5 a + S1x1x128x256.size a ≤ S1x32x128x256.size a) : Tile F :=
  tile arg4 arg5 (queries arg3 (harg3.unread x0)) (harg4.unread x1) (harg5.unread x2) o4 o5 hk hv

/-- The stores when no whole tile is left: one masked tile. -/
theorem run_A (hc0 : cond0_0 i) (hc1 : ¬cond0_1 i) (hc2 : ¬cond0_2 i) (hc3 : ¬cond0_3 i)
    (hk : ∀ a, k0_off5 i a + S1x1x256x256.size a ≤ S1x32x256x256.size a)
    (hv : ∀ a, k0_off6 i a + S1x1x128x256.size a ≤ S1x32x128x256.size a) :
      (kernelRun0_A (F := F) c i arg3 harg3 arg4 harg4 arg5 harg5 arg6 harg6 arg7 harg7 arg8 harg8 arg9 harg9 hc0 hc1 hc2 hc3
          x0 x1 x2).1
        = outPieces
          (group [cutTile (BitVec.ofNat 32 (i 2).val) (lastTile i 0#32)
            (blockTile arg3 harg3 arg4 harg4 arg5 harg5 x0 x1 x2 (k0_off5 i) (k0_off6 i) hk hv)]
            (blockSt i arg3 harg3 arg4 harg4 arg5 harg5 x0 x1 x2)).l
          (group [cutTile (BitVec.ofNat 32 (i 2).val) (lastTile i 0#32)
            (blockTile arg3 harg3 arg4 harg4 arg5 harg5 x0 x1 x2 (k0_off5 i) (k0_off6 i) hk hv)]
            (blockSt i arg3 harg3 arg4 harg4 arg5 harg5 x0 x1 x2)).a := by
  have f := found c i arg3 harg3 arg4 harg4 arg5 harg5 arg6 harg6 arg7 harg7 arg8 harg8 arg9 harg9 (queries arg3 (harg3.unread x0)) (harg4.unread x1) (harg5.unread x2)
  have f7 := fun v20 v34 v58 => (f v20 v34 v58).1
  have f8 := fun v20 v34 v58 => (f v20 v34 v58).2.1
  have f9 := fun v20 v34 v58 => (f v20 v34 v58).2.2
  clear f
  dsimp only [pre1, pre2, queries] at f7 f8 f9
  unfold kernelRun0_A
  dsimp only
  sl_unfold_words
  simp only [f7, f8, f9, lastTile, blockSt, blockTile, queries, tile]
  refine outPieces_congr ((cov1 _ _ _).trans ?_) ((cov2 _ _ _).trans ?_)
  · generalize Scalar.addi _ 0#32 = kj
    generalize loopSt i arg4 arg5 _ (harg4.unread x1) (harg5.unread x2) (k0_t1_loop i).trips = s
    exact (shapeCast_self _ _).trans rfl
  · generalize Scalar.addi _ 0#32 = kj
    generalize loopSt i arg4 arg5 _ (harg4.unread x1) (harg5.unread x2) (k0_t1_loop i).trips = s
    exact (shapeCast_self _ _).trans rfl

/-- The stores when one whole tile is left: that tile, then the masked one. -/
theorem run_B (hc0 : ¬cond0_0 i) (hc1 : cond0_1 i) (hc2 : ¬cond0_2 i) (hc3 : ¬cond0_3 i)
    (hk : ∀ (r : Fin 2) (a : Fin 4), k0_off7 i (BitVec.ofNat 32 r.val) a + S1x1x256x256.size a ≤ S1x32x256x256.size a)
    (hv : ∀ (r : Fin 2) (a : Fin 4), k0_off8 i (BitVec.ofNat 32 r.val) a + S1x1x128x256.size a ≤ S1x32x128x256.size a) :
    (kernelRun0_B (F := F) c i arg3 harg3 arg4 harg4 arg5 harg5 arg6 harg6 arg7 harg7 arg8 harg8 arg9 harg9 hc0 hc1 hc2 hc3
          x0 x1 x2).1
        = outPieces
          (group [blockTile arg3 harg3 arg4 harg4 arg5 harg5 x0 x1 x2 (k0_off7 i 0#32) (k0_off8 i 0#32) (hk 0) (hv 0),
            cutTile (BitVec.ofNat 32 (i 2).val) (lastTile i 1#32)
              (blockTile arg3 harg3 arg4 harg4 arg5 harg5 x0 x1 x2 (k0_off7 i 1#32) (k0_off8 i 1#32) (hk 1) (hv 1))]
            (blockSt i arg3 harg3 arg4 harg4 arg5 harg5 x0 x1 x2)).l
          (group [blockTile arg3 harg3 arg4 harg4 arg5 harg5 x0 x1 x2 (k0_off7 i 0#32) (k0_off8 i 0#32) (hk 0) (hv 0),
            cutTile (BitVec.ofNat 32 (i 2).val) (lastTile i 1#32)
              (blockTile arg3 harg3 arg4 harg4 arg5 harg5 x0 x1 x2 (k0_off7 i 1#32) (k0_off8 i 1#32) (hk 1) (hv 1))]
            (blockSt i arg3 harg3 arg4 harg4 arg5 harg5 x0 x1 x2)).a := by
  have f := found c i arg3 harg3 arg4 harg4 arg5 harg5 arg6 harg6 arg7 harg7 arg8 harg8 arg9 harg9 (queries arg3 (harg3.unread x0)) (harg4.unread x1) (harg5.unread x2)
  have f7 := fun v20 v34 v58 => (f v20 v34 v58).1
  have f8 := fun v20 v34 v58 => (f v20 v34 v58).2.1
  have f9 := fun v20 v34 v58 => (f v20 v34 v58).2.2
  clear f
  dsimp only [pre1, pre2, queries] at f7 f8 f9
  unfold kernelRun0_B
  dsimp only
  sl_unfold_words
  simp only [f7, f8, f9, lastTile, blockSt, blockTile, queries, tile]
  refine outPieces_congr ((cov1 _ _ _).trans ?_) ((cov2 _ _ _).trans ?_)
  · generalize Scalar.addi _ 1#32 = kj
    generalize loopSt i arg4 arg5 _ (harg4.unread x1) (harg5.unread x2) (k0_t1_loop i).trips = s
    exact (shapeCast_self _ _).trans rfl
  · generalize Scalar.addi _ 1#32 = kj
    generalize loopSt i arg4 arg5 _ (harg4.unread x1) (harg5.unread x2) (k0_t1_loop i).trips = s
    exact (shapeCast_self _ _).trans rfl

/-- The stores when two whole tiles are left. -/
theorem run_C (hc0 : ¬cond0_0 i) (hc1 : ¬cond0_1 i) (hc2 : cond0_2 i) (hc3 : ¬cond0_3 i)
    (hk : ∀ (r : Fin 3) (a : Fin 4), k0_off9 i (BitVec.ofNat 32 r.val) a + S1x1x256x256.size a ≤ S1x32x256x256.size a)
    (hv : ∀ (r : Fin 3) (a : Fin 4), k0_off10 i (BitVec.ofNat 32 r.val) a + S1x1x128x256.size a ≤ S1x32x128x256.size a) :
    (kernelRun0_C (F := F) c i arg3 harg3 arg4 harg4 arg5 harg5 arg6 harg6 arg7 harg7 arg8 harg8 arg9 harg9 hc0 hc1 hc2 hc3
          x0 x1 x2).1
        = outPieces
          (group [blockTile arg3 harg3 arg4 harg4 arg5 harg5 x0 x1 x2 (k0_off9 i 0#32) (k0_off10 i 0#32) (hk 0) (hv 0),
            blockTile arg3 harg3 arg4 harg4 arg5 harg5 x0 x1 x2 (k0_off9 i 1#32) (k0_off10 i 1#32) (hk 1) (hv 1),
            cutTile (BitVec.ofNat 32 (i 2).val) (lastTile i 2#32)
              (blockTile arg3 harg3 arg4 harg4 arg5 harg5 x0 x1 x2 (k0_off9 i 2#32) (k0_off10 i 2#32) (hk 2) (hv 2))]
            (blockSt i arg3 harg3 arg4 harg4 arg5 harg5 x0 x1 x2)).l
          (group [blockTile arg3 harg3 arg4 harg4 arg5 harg5 x0 x1 x2 (k0_off9 i 0#32) (k0_off10 i 0#32) (hk 0) (hv 0),
            blockTile arg3 harg3 arg4 harg4 arg5 harg5 x0 x1 x2 (k0_off9 i 1#32) (k0_off10 i 1#32) (hk 1) (hv 1),
            cutTile (BitVec.ofNat 32 (i 2).val) (lastTile i 2#32)
              (blockTile arg3 harg3 arg4 harg4 arg5 harg5 x0 x1 x2 (k0_off9 i 2#32) (k0_off10 i 2#32) (hk 2) (hv 2))]
            (blockSt i arg3 harg3 arg4 harg4 arg5 harg5 x0 x1 x2)).a := by
  have f := found c i arg3 harg3 arg4 harg4 arg5 harg5 arg6 harg6 arg7 harg7 arg8 harg8 arg9 harg9 (queries arg3 (harg3.unread x0)) (harg4.unread x1) (harg5.unread x2)
  have f7 := fun v20 v34 v58 => (f v20 v34 v58).1
  have f8 := fun v20 v34 v58 => (f v20 v34 v58).2.1
  have f9 := fun v20 v34 v58 => (f v20 v34 v58).2.2
  clear f
  dsimp only [pre1, pre2, queries] at f7 f8 f9
  unfold kernelRun0_C
  dsimp only
  sl_unfold_words
  simp only [f7, f8, f9, lastTile, blockSt, blockTile, queries, tile]
  refine outPieces_congr ((cov1 _ _ _).trans ?_) ((cov2 _ _ _).trans ?_)
  · generalize Scalar.addi _ 2#32 = kj
    generalize loopSt i arg4 arg5 _ (harg4.unread x1) (harg5.unread x2) (k0_t1_loop i).trips = s
    exact (shapeCast_self _ _).trans rfl
  · generalize Scalar.addi _ 2#32 = kj
    generalize loopSt i arg4 arg5 _ (harg4.unread x1) (harg5.unread x2) (k0_t1_loop i).trips = s
    exact (shapeCast_self _ _).trans rfl

/-- The stores when three whole tiles are left. -/
theorem run_D (hc0 : ¬cond0_0 i) (hc1 : ¬cond0_1 i) (hc2 : ¬cond0_2 i) (hc3 : cond0_3 i)
    (hk : ∀ (r : Fin 4) (a : Fin 4), k0_off11 i (BitVec.ofNat 32 r.val) a + S1x1x256x256.size a ≤ S1x32x256x256.size a)
    (hv : ∀ (r : Fin 4) (a : Fin 4), k0_off12 i (BitVec.ofNat 32 r.val) a + S1x1x128x256.size a ≤ S1x32x128x256.size a) :
    (kernelRun0_D (F := F) c i arg3 harg3 arg4 harg4 arg5 harg5 arg6 harg6 arg7 harg7 arg8 harg8 arg9 harg9 hc0 hc1 hc2 hc3
          x0 x1 x2).1
        = outPieces
          (group [blockTile arg3 harg3 arg4 harg4 arg5 harg5 x0 x1 x2 (k0_off11 i 0#32) (k0_off12 i 0#32) (hk 0) (hv 0),
            blockTile arg3 harg3 arg4 harg4 arg5 harg5 x0 x1 x2 (k0_off11 i 1#32) (k0_off12 i 1#32) (hk 1) (hv 1),
            blockTile arg3 harg3 arg4 harg4 arg5 harg5 x0 x1 x2 (k0_off11 i 2#32) (k0_off12 i 2#32) (hk 2) (hv 2),
            cutTile (BitVec.ofNat 32 (i 2).val) (lastTile i 3#32)
              (blockTile arg3 harg3 arg4 harg4 arg5 harg5 x0 x1 x2 (k0_off11 i 3#32) (k0_off12 i 3#32) (hk 3) (hv 3))]
            (blockSt i arg3 harg3 arg4 harg4 arg5 harg5 x0 x1 x2)).l
          (group [blockTile arg3 harg3 arg4 harg4 arg5 harg5 x0 x1 x2 (k0_off11 i 0#32) (k0_off12 i 0#32) (hk 0) (hv 0),
            blockTile arg3 harg3 arg4 harg4 arg5 harg5 x0 x1 x2 (k0_off11 i 1#32) (k0_off12 i 1#32) (hk 1) (hv 1),
            blockTile arg3 harg3 arg4 harg4 arg5 harg5 x0 x1 x2 (k0_off11 i 2#32) (k0_off12 i 2#32) (hk 2) (hv 2),
            cutTile (BitVec.ofNat 32 (i 2).val) (lastTile i 3#32)
              (blockTile arg3 harg3 arg4 harg4 arg5 harg5 x0 x1 x2 (k0_off11 i 3#32) (k0_off12 i 3#32) (hk 3) (hv 3))]
            (blockSt i arg3 harg3 arg4 harg4 arg5 harg5 x0 x1 x2)).a := by
  have f := found c i arg3 harg3 arg4 harg4 arg5 harg5 arg6 harg6 arg7 harg7 arg8 harg8 arg9 harg9 (queries arg3 (harg3.unread x0)) (harg4.unread x1) (harg5.unread x2)
  have f7 := fun v20 v34 v58 => (f v20 v34 v58).1
  have f8 := fun v20 v34 v58 => (f v20 v34 v58).2.1
  have f9 := fun v20 v34 v58 => (f v20 v34 v58).2.2
  clear f
  dsimp only [pre1, pre2, queries] at f7 f8 f9
  unfold kernelRun0_D
  dsimp only
  sl_unfold_words
  simp only [f7, f8, f9, lastTile, blockSt, blockTile, queries, tile]
  refine outPieces_congr ((cov1 _ _ _).trans ?_) ((cov2 _ _ _).trans ?_)
  · generalize Scalar.addi _ 3#32 = kj
    generalize loopSt i arg4 arg5 _ (harg4.unread x1) (harg5.unread x2) (k0_t1_loop i).trips = s
    exact (shapeCast_self _ _).trans rfl
  · generalize Scalar.addi _ 3#32 = kj
    generalize loopSt i arg4 arg5 _ (harg4.unread x1) (harg5.unread x2) (k0_t1_loop i).trips = s
    exact (shapeCast_self _ _).trans rfl

end Cert.KernelIdeal.Val
-- ==== Proof.Words.lean ====
/-
  The words of a grid point as numbers: where each tile is read.
-/
module

public import proofs.«01_k».proof.Proof.Run

@[expose] public section

set_option maxRecDepth 16384

noncomputable section

open Idealize.ShloMosaic Idealize.ShloMosaic.TcCoe Idealize.SL.Sem

namespace Cert.KernelIdeal.Val

open Cert.KernelIdeal Cert.KernelIdeal.Gen

/-- The last tile's number is half the block's number. -/
theorem lastTile_eq (i : grid0.Coords) (r : Fin 4) :
    lastTile i (BitVec.ofNat 32 r.val) = BitVec.ofNat 32 ((i 2).val / 2) := by
  have h : ∀ q : Fin 64, ∀ j : grid0.Coords, (j 2).val = q.val →
      lastTile j (BitVec.ofNat 32 r.val) = BitVec.ofNat 32 (q.val / 2) := by
    intro q j hj
    simp only [lastTile, hj]
    clear hj j
    revert q r
    decide +kernel
  exact h ⟨(i 2).val, (i 2).isLt⟩ i rfl

/-- Tile `r` of trip `k` is tile `4 k + r` of the keys. -/
theorem off1_eq (i : grid0.Coords) (k : Fin (k0_t1_loop i).trips) (r : Fin 4) :
    k0_off1 i k (BitVec.ofNat 32 r.val) = ![0, 4 * k.val + r.val, 0, 0] := by
  have hk : k.val < 8 := by
    have h1 := k.isLt
    have h2 := trips_eq i
    have h3 : (i 2).val < 64 := (i 2).isLt
    omega
  have h : ∀ q : Fin 8, k.val = q.val → k0_off1 i k (BitVec.ofNat 32 r.val) = ![0, 4 * q.val + r.val, 0, 0] := by
    intro q hq
    simp only [k0_off1, Scf.iv, hq]
    clear hq hk k i
    revert q r
    decide +kernel
  exact h ⟨k.val, hk⟩ rfl

/-- The same for the values. -/
theorem off2_eq (i : grid0.Coords) (k : Fin (k0_t1_loop i).trips) (r : Fin 4) :
    k0_off2 i k (BitVec.ofNat 32 r.val) = ![0, 4 * k.val + r.val, 0, 0] := by
  rw [← off1_eq]
  rfl

/-- The tail's one tile when no whole tile is left. -/
theorem off5_eq (i : grid0.Coords) : k0_off5 i = ![0, (i 2).val / 2, 0, 0] := by
  have h : ∀ q : Fin 64, ∀ j : grid0.Coords, (j 2).val = q.val → k0_off5 j = ![0, q.val / 2, 0, 0] := by
    intro q j hj
    simp only [k0_off5, hj]
    clear hj j
    revert q
    decide +kernel
  exact h ⟨(i 2).val, (i 2).isLt⟩ i rfl

/-- The tail's tiles when one whole tile is left. -/
theorem off7_eq (i : grid0.Coords) (hi : (i 2).val % 8 = 2 ∨ (i 2).val % 8 = 3) (r : Fin 2) :
    k0_off7 i (BitVec.ofNat 32 r.val) = ![0, (i 2).val / 2 - 1 + r.val, 0, 0] := by
  have h : ∀ q : Fin 64, ∀ j : grid0.Coords, (j 2).val = q.val → q.val % 8 = 2 ∨ q.val % 8 = 3 →
      k0_off7 j (BitVec.ofNat 32 r.val) = ![0, q.val / 2 - 1 + r.val, 0, 0] := by
    intro q j hj
    simp only [k0_off7, hj]
    clear hj j
    revert q r
    decide +kernel
  exact h ⟨(i 2).val, (i 2).isLt⟩ i rfl hi

/-- The tail's tiles when two whole tiles are left. -/
theorem off9_eq (i : grid0.Coords) (hi : (i 2).val % 8 = 4 ∨ (i 2).val % 8 = 5) (r : Fin 3) :
    k0_off9 i (BitVec.ofNat 32 r.val) = ![0, (i 2).val / 2 - 2 + r.val, 0, 0] := by
  have h : ∀ q : Fin 64, ∀ j : grid0.Coords, (j 2).val = q.val → q.val % 8 = 4 ∨ q.val % 8 = 5 →
      k0_off9 j (BitVec.ofNat 32 r.val) = ![0, q.val / 2 - 2 + r.val, 0, 0] := by
    intro q j hj
    simp only [k0_off9, hj]
    clear hj j
    revert q r
    decide +kernel
  exact h ⟨(i 2).val, (i 2).isLt⟩ i rfl hi

/-- The tail's tiles when three whole tiles are left. -/
theorem off11_eq (i : grid0.Coords) (hi : (i 2).val % 8 = 6 ∨ (i 2).val % 8 = 7) (r : Fin 4) :
    k0_off11 i (BitVec.ofNat 32 r.val) = ![0, (i 2).val / 2 - 3 + r.val, 0, 0] := by
  have h : ∀ q : Fin 64, ∀ j : grid0.Coords, (j 2).val = q.val → q.val % 8 = 6 ∨ q.val % 8 = 7 →
      k0_off11 j (BitVec.ofNat 32 r.val) = ![0, q.val / 2 - 3 + r.val, 0, 0] := by
    intro q j hj
    simp only [k0_off11, hj]
    clear hj j
    revert q r
    decide +kernel
  exact h ⟨(i 2).val, (i 2).isLt⟩ i rfl hi

/-- The values' offsets are the keys' offsets. -/
theorem off6_eq (i : grid0.Coords) : k0_off6 i = k0_off5 i := rfl

theorem off8_eq (i : grid0.Coords) (w : BitVec 32) : k0_off8 i w = k0_off7 i w := rfl

theorem off10_eq (i : grid0.Coords) (w : BitVec 32) : k0_off10 i w = k0_off9 i w := rfl

theorem off12_eq (i : grid0.Coords) (w : BitVec 32) : k0_off12 i w = k0_off11 i w := rfl

end Cert.KernelIdeal.Val
-- ==== Proof.Block.lean ====
/-
  One grid point's blocks: the scores and values its tiles hold, and the state after all its tiles.
-/
module

public import proofs.«01_k».proof.Proof.Group
public import proofs.«01_k».proof.Proof.Words

@[expose] public section

set_option maxRecDepth 16384

noncomputable section

open Idealize.ShloMosaic Idealize.ShloMosaic.TcCoe Idealize.SL.Sem

namespace Cert.KernelIdeal.Val

open Cert.KernelIdeal Cert.KernelIdeal.Gen Cert.Online

variable (arg3 : Memref sig .tc .vmem S1x128x1024 .bf16)
  (harg3 : arg3.IsWhole) (arg4 : Memref sig .tc .vmem S1x32x256x256 .bf16) (harg4 : arg4.IsWhole)
  (arg5 : Memref sig .tc .vmem S1x32x128x256 .bf16) (harg5 : arg5.IsWhole)
variable (x0 : Vec Ideal S1x128x1024 .bf16) (x1 : Vec Ideal S1x32x256x256 .bf16) (x2 : Vec Ideal S1x32x128x256 .bf16)

/-- The score of key `n` for query column `col` of block `q`: the product of key and query, `⊥` for a later key. -/
def S (q : ℕ) (col : Fin 512) (n : ℕ) : EReal :=
  if n ≤ 128 * q + col.val % 128 then
    ∑ f : Fin 256, x1 (ix4 0 ⟨n / 256 % 32, by omega⟩ ⟨n % 256, by omega⟩ f)
      * x0 (ix3 0 ⟨col.val % 128, by omega⟩ ⟨col.val / 128 * 256 + f.val, by omega⟩)
  else ⊥

/-- Coordinate `d` of key `n`'s value. -/
def V (d : Fin 128) (n : ℕ) : EReal := x2 (ix4 0 ⟨n / 256 % 32, by omega⟩ d ⟨n % 256, by omega⟩)

/-- The queries, one row per query column. -/
theorem queries_apply (col : Fin 512) (f : Fin 256) :
    queries arg3 (harg3.unread x0) (ix2 col f)
      = x0 (ix3 0 ⟨col.val % 128, by omega⟩ ⟨col.val / 128 * 256 + f.val, by omega⟩) := by
  unfold queries
  rw [View.readAt_eq_ld, harg3.read_unread]
  pointwise [k0_pay65]
  have e : ∀ (a a' : Fin 128) (b b' : Fin 1024), a.val = a'.val → b.val = b'.val → x0 (ix3 0 a b) = x0 (ix3 0 a' b') :=
    fun a a' b b' h h' => congrArg₂ (fun a b => x0 (ix3 0 a b)) (Fin.ext h) (Fin.ext h')
  have := col.isLt
  split_ifs <;> refine e _ _ _ _ ?_ ?_ <;> simp only <;> omega

/-- The scores of tile `T`, no key masked. -/
theorem tile_score (T : ℕ) (hT : T < 32) (hk : ∀ a, (![0, T, 0, 0] : Fin 4 → ℕ) a + S1x1x256x256.size a ≤ S1x32x256x256.size a)
    (hv : ∀ a, (![0, T, 0, 0] : Fin 4 → ℕ) a + S1x1x128x256.size a ≤ S1x32x128x256.size a) (j : Fin 256) (col : Fin 512) :
    (blockTile arg3 harg3 arg4 harg4 arg5 harg5 x0 x1 x2 ![0, T, 0, 0] ![0, T, 0, 0] hk hv).1 (ix2 j col)
      = ∑ f : Fin 256, x1 (ix4 0 ⟨T, hT⟩ j f)
        * x0 (ix3 0 ⟨col.val % 128, by omega⟩ ⟨col.val / 128 * 256 + f.val, by omega⟩) := by
  unfold blockTile tile
  dsimp only
  rw [score_apply]
  refine Finset.sum_congr rfl fun f _ => ?_
  rw [queries_apply, View.readAt_eq_ld, harg4.read_unread]
  congr 1
  pointwise

/-- The values of tile `T`. -/
theorem tile_value (T : ℕ) (hT : T < 32) (hk : ∀ a, (![0, T, 0, 0] : Fin 4 → ℕ) a + S1x1x256x256.size a ≤ S1x32x256x256.size a)
    (hv : ∀ a, (![0, T, 0, 0] : Fin 4 → ℕ) a + S1x1x128x256.size a ≤ S1x32x128x256.size a) (d : Fin 128) (j : Fin 256) :
    (blockTile arg3 harg3 arg4 harg4 arg5 harg5 x0 x1 x2 ![0, T, 0, 0] ![0, T, 0, 0] hk hv).2 (ix4 0 0 d j)
      = x2 (ix4 0 ⟨T, hT⟩ d j) := by
  unfold blockTile tile
  dsimp only
  rw [View.readAt_eq_ld, harg5.read_unread]
  pointwise

/-- A tile of earlier keys only. -/
theorem isTile_whole (q T : ℕ) (hq : q < 64) (hT : T < q / 2) (o4 o5 : Fin 4 → ℕ) (h4 : o4 = ![0, T, 0, 0]) (h5 : o5 = ![0, T, 0, 0])
    (hk : ∀ a, o4 a + S1x1x256x256.size a ≤ S1x32x256x256.size a)
    (hv : ∀ a, o5 a + S1x1x128x256.size a ≤ S1x32x128x256.size a) :
    IsTile (S x0 x1 q) (V x2) (256 * T) (blockTile arg3 harg3 arg4 harg4 arg5 harg5 x0 x1 x2 o4 o5 hk hv) := by
  subst h4 h5
  refine ⟨fun j col => ?_, fun d j => ?_⟩
  · rw [tile_score arg3 harg3 arg4 harg4 arg5 harg5 x0 x1 x2 T (by omega), S, if_pos (by omega)]
    refine Finset.sum_congr rfl fun f _ => ?_
    have e1 : (⟨T, by omega⟩ : Fin 32) = ⟨(256 * T + j.val) / 256 % 32, by omega⟩ := Fin.ext (by simp only; omega)
    have e2 : j = ⟨(256 * T + j.val) % 256, by omega⟩ := Fin.ext (by simp only; omega)
    rw [← e1, ← e2]
  · rw [tile_value arg3 harg3 arg4 harg4 arg5 harg5 x0 x1 x2 T (by omega), V]
    have e1 : (⟨T, by omega⟩ : Fin 32) = ⟨(256 * T + j.val) / 256 % 32, by omega⟩ := Fin.ext (by simp only; omega)
    have e2 : j = ⟨(256 * T + j.val) % 256, by omega⟩ := Fin.ext (by simp only; omega)
    rw [← e1, ← e2]

/-- The last tile, later keys masked. -/
theorem isTile_cut (q : Fin 64) (o4 o5 : Fin 4 → ℕ) (h4 : o4 = ![0, q.val / 2, 0, 0])
    (h5 : o5 = ![0, q.val / 2, 0, 0]) (hk : ∀ a, o4 a + S1x1x256x256.size a ≤ S1x32x256x256.size a)
    (hv : ∀ a, o5 a + S1x1x128x256.size a ≤ S1x32x128x256.size a) :
    IsTile (S x0 x1 q.val) (V x2) (256 * (q.val / 2)) (cutTile (BitVec.ofNat 32 q.val) (BitVec.ofNat 32 (q.val / 2))
      (blockTile arg3 harg3 arg4 harg4 arg5 harg5 x0 x1 x2 o4 o5 hk hv)) := by
  subst h4 h5
  have hq := q.isLt
  refine ⟨fun j col => ?_, fun d j => ?_⟩
  · unfold cutTile
    dsimp only
    rw [masked_apply, S, tile_score arg3 harg3 arg4 harg4 arg5 harg5 x0 x1 x2 (q.val / 2) (by omega)]
    refine if_congr Iff.rfl (Finset.sum_congr rfl fun f _ => ?_) rfl
    have e1 : (⟨q.val / 2, by omega⟩ : Fin 32) = ⟨(256 * (q.val / 2) + j.val) / 256 % 32, by omega⟩ :=
      Fin.ext (by simp only; omega)
    have e2 : j = ⟨(256 * (q.val / 2) + j.val) % 256, by omega⟩ := Fin.ext (by simp only; omega)
    rw [← e1, ← e2]
  · unfold cutTile
    dsimp only
    rw [tile_value arg3 harg3 arg4 harg4 arg5 harg5 x0 x1 x2 (q.val / 2) (by omega), V]
    have e1 : (⟨q.val / 2, by omega⟩ : Fin 32) = ⟨(256 * (q.val / 2) + j.val) / 256 % 32, by omega⟩ :=
      Fin.ext (by simp only; omega)
    have e2 : j = ⟨(256 * (q.val / 2) + j.val) % 256, by omega⟩ := Fin.ext (by simp only; omega)
    rw [← e1, ← e2]

variable (i : grid0.Coords)

/-- The state after `n` trips of the loop is that of the first `1024 * n` keys. -/
theorem loop_holds (n : ℕ) (hn : n ≤ (k0_t1_loop i).trips) :
    Holds (S x0 x1 (i 2).val) (V x2) (1024 * n)
      (loopSt i arg4 arg5 (queries arg3 (harg3.unread x0)) (harg4.unread x1) (harg5.unread x2) n) := by
  induction n with
  | zero => exact init_holds _ _
  | succ n ih =>
    have h2 := trips_eq i
    have hq : (i 2).val < 64 := (i 2).isLt
    have e := loopSt_succ i arg4 arg5 (queries arg3 (harg3.unread x0)) (harg4.unread x1) (harg5.unread x2) ⟨n, hn⟩
    simp only at e
    rw [e]
    have w := fun (r : Fin 4) (hk : _) (hv : _) => isTile_whole arg3 harg3 arg4 harg4 arg5 harg5 x0 x1 x2 (i 2).val (4 * n + r.val) hq
      (by omega) (k0_off1 i ⟨n, hn⟩ (BitVec.ofNat 32 r.val)) (k0_off2 i ⟨n, hn⟩ (BitVec.ofNat 32 r.val)) (off1_eq i ⟨n, hn⟩ r)
      (off2_eq i ⟨n, hn⟩ r) hk hv
    have key := group_holds (S x0 x1 (i 2).val) (V x2)
      (tripTiles i arg4 arg5 (queries arg3 (harg3.unread x0)) (harg4.unread x1) (harg5.unread x2) ⟨n, hn⟩) (256 * (4 * n)) _
      ⟨w 0 _ _, w 1 _ _, w 2 _ _, w 3 _ _, trivial⟩ (by
        have := ih (by omega)
        rwa [show 1024 * n = 256 * (4 * n) by omega] at this)
    rw [show 1024 * (n + 1) = 256 * (4 * n) + 256 * 4 by omega]
    exact key

/-- The state after all whole trips. -/
theorem block_holds : Holds (S x0 x1 (i 2).val) (V x2) (256 * (4 * ((i 2).val / 8)))
    (blockSt i arg3 harg3 arg4 harg4 arg5 harg5 x0 x1 x2) := by
  have h := loop_holds arg3 harg3 arg4 harg4 arg5 harg5 x0 x1 x2 i _ le_rfl
  have h2 := trips_eq i
  rwa [show 1024 * (k0_t1_loop i).trips = 256 * (4 * ((i 2).val / 8)) by omega] at h

/-- The masked tile of the tail. -/
theorem cut_holds (r : Fin 4) (o4 o5 : Fin 4 → ℕ) (h4 : o4 = ![0, (i 2).val / 2, 0, 0]) (h5 : o5 = ![0, (i 2).val / 2, 0, 0])
    (hk : ∀ a, o4 a + S1x1x256x256.size a ≤ S1x32x256x256.size a)
    (hv : ∀ a, o5 a + S1x1x128x256.size a ≤ S1x32x128x256.size a) :
    IsTile (S x0 x1 (i 2).val) (V x2) (256 * ((i 2).val / 2))
      (cutTile (BitVec.ofNat 32 (i 2).val) (lastTile i (BitVec.ofNat 32 r.val))
        (blockTile arg3 harg3 arg4 harg4 arg5 harg5 x0 x1 x2 o4 o5 hk hv)) := by
  rw [lastTile_eq]
  exact isTile_cut arg3 harg3 arg4 harg4 arg5 harg5 x0 x1 x2 ⟨(i 2).val, (i 2).isLt⟩ o4 o5 h4 h5 hk hv

/-- The state after the tail's tiles, when they reach up to the last tile. -/
theorem tail_holds (ts : List (Tile Ideal)) (h : Tiles (S x0 x1 (i 2).val) (V x2) (256 * (4 * ((i 2).val / 8))) ts)
    (hl : 4 * ((i 2).val / 8) + ts.length = (i 2).val / 2 + 1) :
    Holds (S x0 x1 (i 2).val) (V x2) (256 * ((i 2).val / 2 + 1))
      (group ts (blockSt i arg3 harg3 arg4 harg4 arg5 harg5 x0 x1 x2)) := by
  rw [← hl, Nat.mul_add]
  exact group_holds _ _ ts _ _ h (block_holds arg3 harg3 arg4 harg4 arg5 harg5 x0 x1 x2 i)

/-- All tiles, when the tail is the masked tile alone. -/
theorem holds_A (hi : (i 2).val % 8 = 0 ∨ (i 2).val % 8 = 1)
    (hk : ∀ a, k0_off5 i a + S1x1x256x256.size a ≤ S1x32x256x256.size a)
    (hv : ∀ a, k0_off6 i a + S1x1x128x256.size a ≤ S1x32x128x256.size a) :
    Holds (S x0 x1 (i 2).val) (V x2) (256 * ((i 2).val / 2 + 1))
      (group [cutTile (BitVec.ofNat 32 (i 2).val) (lastTile i 0#32)
        (blockTile arg3 harg3 arg4 harg4 arg5 harg5 x0 x1 x2 (k0_off5 i) (k0_off6 i) hk hv)]
        (blockSt i arg3 harg3 arg4 harg4 arg5 harg5 x0 x1 x2)) := by
  refine tail_holds arg3 harg3 arg4 harg4 arg5 harg5 x0 x1 x2 i _ ⟨?_, trivial⟩ (by simp only [List.length]; omega)
  have hc := cut_holds arg3 harg3 arg4 harg4 arg5 harg5 x0 x1 x2 i 0 _ _ (off5_eq i) (off6_eq i ▸ off5_eq i) hk hv
  rw [show 4 * ((i 2).val / 8) = (i 2).val / 2 by omega]
  exact hc

/-- All tiles, when one whole tile is left before the masked one. -/
theorem holds_B (hi : (i 2).val % 8 = 2 ∨ (i 2).val % 8 = 3)
    (hk : ∀ (r : Fin 2) (a : Fin 4), k0_off7 i (BitVec.ofNat 32 r.val) a + S1x1x256x256.size a ≤ S1x32x256x256.size a)
    (hv : ∀ (r : Fin 2) (a : Fin 4), k0_off8 i (BitVec.ofNat 32 r.val) a + S1x1x128x256.size a ≤ S1x32x128x256.size a) :
    Holds (S x0 x1 (i 2).val) (V x2) (256 * ((i 2).val / 2 + 1))
      (group [blockTile arg3 harg3 arg4 harg4 arg5 harg5 x0 x1 x2 (k0_off7 i 0#32) (k0_off8 i 0#32) (hk 0) (hv 0),
        cutTile (BitVec.ofNat 32 (i 2).val) (lastTile i 1#32)
          (blockTile arg3 harg3 arg4 harg4 arg5 harg5 x0 x1 x2 (k0_off7 i 1#32) (k0_off8 i 1#32) (hk 1) (hv 1))]
        (blockSt i arg3 harg3 arg4 harg4 arg5 harg5 x0 x1 x2)) := by
  have hq : (i 2).val < 64 := (i 2).isLt
  have e : 4 * ((i 2).val / 8) = (i 2).val / 2 - 1 := by omega
  refine tail_holds arg3 harg3 arg4 harg4 arg5 harg5 x0 x1 x2 i _ ⟨?_, ?_, trivial⟩ (by simp only [List.length]; omega)
  · exact isTile_whole arg3 harg3 arg4 harg4 arg5 harg5 x0 x1 x2 _ (4 * ((i 2).val / 8)) hq (by omega) _ _
      ((off7_eq i hi 0).trans (by rw [e]; rfl)) ((off7_eq i hi 0).trans (by rw [e]; rfl)) (hk 0) (hv 0)
  · have e' : (i 2).val / 2 - 1 + 1 = (i 2).val / 2 := by omega
    have hc := cut_holds arg3 harg3 arg4 harg4 arg5 harg5 x0 x1 x2 i 1 _ _ ((off7_eq i hi 1).trans (by rw [← e']; rfl))
      ((off7_eq i hi 1).trans (by rw [← e']; rfl)) (hk 1) (hv 1)
    rw [show 256 * (4 * ((i 2).val / 8)) + 256 = 256 * ((i 2).val / 2) by omega]
    exact hc

/-- All tiles, when two whole tiles are left before the masked one. -/
theorem holds_C (hi : (i 2).val % 8 = 4 ∨ (i 2).val % 8 = 5)
    (hk : ∀ (r : Fin 3) (a : Fin 4), k0_off9 i (BitVec.ofNat 32 r.val) a + S1x1x256x256.size a ≤ S1x32x256x256.size a)
    (hv : ∀ (r : Fin 3) (a : Fin 4), k0_off10 i (BitVec.ofNat 32 r.val) a + S1x1x128x256.size a ≤ S1x32x128x256.size a) :
    Holds (S x0 x1 (i 2).val) (V x2) (256 * ((i 2).val / 2 + 1))
      (group [blockTile arg3 harg3 arg4 harg4 arg5 harg5 x0 x1 x2 (k0_off9 i 0#32) (k0_off10 i 0#32) (hk 0) (hv 0),
        blockTile arg3 harg3 arg4 harg4 arg5 harg5 x0 x1 x2 (k0_off9 i 1#32) (k0_off10 i 1#32) (hk 1) (hv 1),
        cutTile (BitVec.ofNat 32 (i 2).val) (lastTile i 2#32)
          (blockTile arg3 harg3 arg4 harg4 arg5 harg5 x0 x1 x2 (k0_off9 i 2#32) (k0_off10 i 2#32) (hk 2) (hv 2))]
        (blockSt i arg3 harg3 arg4 harg4 arg5 harg5 x0 x1 x2)) := by
  have hq : (i 2).val < 64 := (i 2).isLt
  have e : 4 * ((i 2).val / 8) = (i 2).val / 2 - 2 := by omega
  refine tail_holds arg3 harg3 arg4 harg4 arg5 harg5 x0 x1 x2 i _ ⟨?_, ?_, ?_, trivial⟩ (by simp only [List.length]; omega)
  · exact isTile_whole arg3 harg3 arg4 harg4 arg5 harg5 x0 x1 x2 _ (4 * ((i 2).val / 8)) hq (by omega) _ _
      ((off9_eq i hi 0).trans (by rw [e]; rfl)) ((off9_eq i hi 0).trans (by rw [e]; rfl)) (hk 0) (hv 0)
  · exact isTile_whole arg3 harg3 arg4 harg4 arg5 harg5 x0 x1 x2 _ (4 * ((i 2).val / 8) + 1) hq (by omega) _ _
      ((off9_eq i hi 1).trans (by rw [e]; rfl)) ((off9_eq i hi 1).trans (by rw [e]; rfl)) (hk 1) (hv 1)
  · have e' : (i 2).val / 2 - 2 + 2 = (i 2).val / 2 := by omega
    have hc := cut_holds arg3 harg3 arg4 harg4 arg5 harg5 x0 x1 x2 i 2 _ _ ((off9_eq i hi 2).trans (by rw [← e']; rfl))
      ((off9_eq i hi 2).trans (by rw [← e']; rfl)) (hk 2) (hv 2)
    rw [show 256 * (4 * ((i 2).val / 8)) + 256 + 256 = 256 * ((i 2).val / 2) by omega]
    exact hc

/-- All tiles, when three whole tiles are left before the masked one. -/
theorem holds_D (hi : (i 2).val % 8 = 6 ∨ (i 2).val % 8 = 7)
    (hk : ∀ (r : Fin 4) (a : Fin 4), k0_off11 i (BitVec.ofNat 32 r.val) a + S1x1x256x256.size a ≤ S1x32x256x256.size a)
    (hv : ∀ (r : Fin 4) (a : Fin 4), k0_off12 i (BitVec.ofNat 32 r.val) a + S1x1x128x256.size a ≤ S1x32x128x256.size a) :
    Holds (S x0 x1 (i 2).val) (V x2) (256 * ((i 2).val / 2 + 1))
      (group [blockTile arg3 harg3 arg4 harg4 arg5 harg5 x0 x1 x2 (k0_off11 i 0#32) (k0_off12 i 0#32) (hk 0) (hv 0),
        blockTile arg3 harg3 arg4 harg4 arg5 harg5 x0 x1 x2 (k0_off11 i 1#32) (k0_off12 i 1#32) (hk 1) (hv 1),
        blockTile arg3 harg3 arg4 harg4 arg5 harg5 x0 x1 x2 (k0_off11 i 2#32) (k0_off12 i 2#32) (hk 2) (hv 2),
        cutTile (BitVec.ofNat 32 (i 2).val) (lastTile i 3#32)
          (blockTile arg3 harg3 arg4 harg4 arg5 harg5 x0 x1 x2 (k0_off11 i 3#32) (k0_off12 i 3#32) (hk 3) (hv 3))]
        (blockSt i arg3 harg3 arg4 harg4 arg5 harg5 x0 x1 x2)) := by
  have hq : (i 2).val < 64 := (i 2).isLt
  have e : 4 * ((i 2).val / 8) = (i 2).val / 2 - 3 := by omega
  refine tail_holds arg3 harg3 arg4 harg4 arg5 harg5 x0 x1 x2 i _ ⟨?_, ?_, ?_, ?_, trivial⟩ (by simp only [List.length]; omega)
  · exact isTile_whole arg3 harg3 arg4 harg4 arg5 harg5 x0 x1 x2 _ (4 * ((i 2).val / 8)) hq (by omega) _ _
      ((off11_eq i hi 0).trans (by rw [e]; rfl)) ((off11_eq i hi 0).trans (by rw [e]; rfl)) (hk 0) (hv 0)
  · exact isTile_whole arg3 harg3 arg4 harg4 arg5 harg5 x0 x1 x2 _ (4 * ((i 2).val / 8) + 1) hq (by omega) _ _
      ((off11_eq i hi 1).trans (by rw [e]; rfl)) ((off11_eq i hi 1).trans (by rw [e]; rfl)) (hk 1) (hv 1)
  · exact isTile_whole arg3 harg3 arg4 harg4 arg5 harg5 x0 x1 x2 _ (4 * ((i 2).val / 8) + 2) hq (by omega) _ _
      ((off11_eq i hi 2).trans (by rw [e]; rfl)) ((off11_eq i hi 2).trans (by rw [e]; rfl)) (hk 2) (hv 2)
  · have e' : (i 2).val / 2 - 3 + 3 = (i 2).val / 2 := by omega
    have hc := cut_holds arg3 harg3 arg4 harg4 arg5 harg5 x0 x1 x2 i 3 _ _ ((off11_eq i hi 3).trans (by rw [← e']; rfl))
      ((off11_eq i hi 3).trans (by rw [← e']; rfl)) (hk 3) (hv 3)
    rw [show 256 * (4 * ((i 2).val / 8)) + 256 + 256 + 256 = 256 * ((i 2).val / 2) by omega]
    exact hc

end Cert.KernelIdeal.Val
-- ==== Proof.Out.lean ====
/-
  The output block: what one grid point's stores leave at an index, as a quotient of its final sums.
-/
module

public import proofs.«01_k».proof.Proof.Block
public import Idealize.ShloMosaic.Lib.WritesUnit

@[expose] public section

set_option maxRecDepth 16384

noncomputable section

open Idealize.ShloMosaic Idealize.ShloMosaic.TcCoe Idealize.SL.Sem

namespace Cert.KernelIdeal.Val

open Cert.KernelIdeal Cert.KernelIdeal.Gen Cert.Online

/-- The four slices of the output block hold the quotients of the four groups of query columns. -/
theorem outPieces_apply (f : BufTy.Contents (Elt Ideal) VO0_3.ty) (l : FVec Ideal S1x512 .f32) (a : FVec Ideal S128x512 .f32)
    (x : Fin 512) (r : Fin 128) :
    VO0_3.read (Elt Ideal) (VO0_3.writes (Elt Ideal) f (outPieces l a)) (ix3 0 x r)
      = Ideal.div (a (ix2 ⟨x.val % 128, by omega⟩ ⟨x.val / 128 * 128 + r.val, by omega⟩))
          (l (ix2 0 ⟨x.val / 128 * 128 + r.val, by omega⟩)) := by
  have e : ∀ (d d' : Fin 128) (c c' : Fin 512), d.val = d'.val → c.val = c'.val →
      Ideal.div (a (ix2 d c)) (l (ix2 0 c)) = Ideal.div (a (ix2 d' c')) (l (ix2 0 c')) := by
    intro d d' c c' h h'
    rw [Fin.ext h, Fin.ext h']
  have hx := x.isLt
  have hr := r.isLt
  unfold outPieces
  by_cases h3 : 384 ≤ x.val
  · refine (View.read_writes_cons_unit_of_mem VO0_3 f _ _ _ _ (ix3 0 (⟨x.val - 384, by omega⟩ : Fin 128) r) rfl ?_).trans ?_
    · intro b; fin_cases b <;> simp <;> omega
    · pointwise [k0_pay4, k0_pay91]
      refine e _ _ _ _ ?_ ?_ <;> simp only <;> omega
  refine (View.read_writes_cons_unit_of_not_mem VO0_3 f _ _ _ _ rfl 1 (Or.inl (by show x.val < 384; omega))).trans ?_
  by_cases h2 : 256 ≤ x.val
  · refine (View.read_writes_cons_unit_of_mem VO0_3 f _ _ _ _ (ix3 0 (⟨x.val - 256, by omega⟩ : Fin 128) r) rfl ?_).trans ?_
    · intro b; fin_cases b <;> simp <;> omega
    · pointwise [k0_pay3, k0_pay91]
      refine e _ _ _ _ ?_ ?_ <;> simp only <;> omega
  refine (View.read_writes_cons_unit_of_not_mem VO0_3 f _ _ _ _ rfl 1 (Or.inl (by show x.val < 256; omega))).trans ?_
  by_cases h1 : 128 ≤ x.val
  · refine (View.read_writes_cons_unit_of_mem VO0_3 f _ _ _ _ (ix3 0 (⟨x.val - 128, by omega⟩ : Fin 128) r) rfl ?_).trans ?_
    · intro b; fin_cases b <;> simp <;> omega
    · pointwise [k0_pay2, k0_pay91]
      refine e _ _ _ _ ?_ ?_ <;> simp only <;> omega
  refine (View.read_writes_cons_unit_of_not_mem VO0_3 f _ _ _ _ rfl 1 (Or.inl (by show x.val < 128; omega))).trans ?_
  refine (View.read_writes_cons_unit_of_mem VO0_3 f _ _ _ _ (ix3 0 (⟨x.val, by omega⟩ : Fin 128) r) rfl ?_).trans ?_
  · intro b; fin_cases b <;> simp
  · pointwise [k0_pay1, k0_pay92, k0_pay91]
    refine e _ _ _ _ ?_ ?_ <;> simp only <;> omega

variable (c : Dev nD) (i : grid0.Coords) (arg3 : Memref sig .tc .vmem S1x128x1024 .bf16)
  (harg3 : arg3.IsWhole) (arg4 : Memref sig .tc .vmem S1x32x256x256 .bf16) (harg4 : arg4.IsWhole)
  (arg5 : Memref sig .tc .vmem S1x32x128x256 .bf16) (harg5 : arg5.IsWhole)
  (arg6 : Memref sig .tc .vmem S1x512x128 .f32) (harg6 : arg6.IsWhole) (arg7 : Memref sig .tc .vmem S1x512 .f32)
  (harg7 : arg7.IsWhole) (arg8 : Memref sig .tc .vmem S1x512 .f32) (harg8 : arg8.IsWhole)
  (arg9 : Memref sig .tc .vmem S128x512 .f32) (harg9 : arg9.IsWhole)
variable (x0 : Vec Ideal S1x128x1024 .bf16) (x1 : Vec Ideal S1x32x256x256 .bf16) (x2 : Vec Ideal S1x32x128x256 .bf16)

/-- An output block of quotients of the sums over all keys up to the end of the last tile. -/
def IsBlock (q : ℕ) (o : Vec Ideal S1x512x128 .f32) : Prop :=
  ∀ (x : Fin 512) (r : Fin 128), ∃ m l a,
    Seen (S x0 x1 q ⟨x.val / 128 * 128 + r.val, by omega⟩) (V x2 ⟨x.val % 128, by omega⟩) (256 * (q / 2 + 1)) m l a
      ∧ o (ix3 0 x r) = Ideal.div a l

/-- The four stores of a state that holds leave such a block. -/
theorem isBlock_of_holds (q : ℕ) (s : St Ideal) (h : Holds (S x0 x1 q) (V x2) (256 * (q / 2 + 1)) s)
    (f : BufTy.Contents (Elt Ideal) VO0_3.ty) :
    IsBlock x0 x1 x2 q (VO0_3.read (Elt Ideal) (VO0_3.writes (Elt Ideal) f (outPieces s.l s.a))) :=
  fun x r => ⟨_, _, _, h ⟨x.val / 128 * 128 + r.val, by omega⟩ ⟨x.val % 128, by omega⟩, outPieces_apply f s.l s.a x r⟩

/-- The output block when the tail is one masked tile. -/
theorem out_A (hc0 : cond0_0 i) (hc1 : ¬cond0_1 i) (hc2 : ¬cond0_2 i) (hc3 : ¬cond0_3 i)
    (hi : (i 2).val % 8 = 0 ∨ (i 2).val % 8 = 1) :
    IsBlock x0 x1 x2 (i 2).val (out0_A_3 c i arg3 harg3 arg4 harg4 arg5 harg5 arg6 harg6 arg7 harg7 arg8 harg8 arg9 harg9
      hc0 hc1 hc2 hc3 x0 x1 x2) := by
  unfold out0_A_3
  rw [run_A c i arg3 harg3 arg4 harg4 arg5 harg5 arg6 harg6 arg7 harg7 arg8 harg8 arg9 harg9 x0 x1 x2 hc0 hc1 hc2 hc3
    (k0_off5_inb i hc0) (k0_off6_inb i hc0)]
  exact isBlock_of_holds x0 x1 x2 _ _ (holds_A arg3 harg3 arg4 harg4 arg5 harg5 x0 x1 x2 i hi
    (k0_off5_inb i hc0) (k0_off6_inb i hc0)) _

/-- The output block when the tail is one whole tile and the masked one. -/
theorem out_B (hc0 : ¬cond0_0 i) (hc1 : cond0_1 i) (hc2 : ¬cond0_2 i) (hc3 : ¬cond0_3 i)
    (hi : (i 2).val % 8 = 2 ∨ (i 2).val % 8 = 3) :
    IsBlock x0 x1 x2 (i 2).val (out0_B_3 c i arg3 harg3 arg4 harg4 arg5 harg5 arg6 harg6 arg7 harg7 arg8 harg8 arg9 harg9
      hc0 hc1 hc2 hc3 x0 x1 x2) := by
  unfold out0_B_3
  rw [run_B c i arg3 harg3 arg4 harg4 arg5 harg5 arg6 harg6 arg7 harg7 arg8 harg8 arg9 harg9 x0 x1 x2 hc0 hc1 hc2 hc3
    (fun r a => k0_off7_inb i hc1 r a) (fun r a => k0_off8_inb i hc1 r a)]
  exact isBlock_of_holds x0 x1 x2 _ _ (holds_B arg3 harg3 arg4 harg4 arg5 harg5 x0 x1 x2 i hi
    (fun r a => k0_off7_inb i hc1 r a) (fun r a => k0_off8_inb i hc1 r a)) _

/-- The output block when the tail is two whole tiles and the masked one. -/
theorem out_C (hc0 : ¬cond0_0 i) (hc1 : ¬cond0_1 i) (hc2 : cond0_2 i) (hc3 : ¬cond0_3 i)
    (hi : (i 2).val % 8 = 4 ∨ (i 2).val % 8 = 5) :
    IsBlock x0 x1 x2 (i 2).val (out0_C_3 c i arg3 harg3 arg4 harg4 arg5 harg5 arg6 harg6 arg7 harg7 arg8 harg8 arg9 harg9
      hc0 hc1 hc2 hc3 x0 x1 x2) := by
  unfold out0_C_3
  rw [run_C c i arg3 harg3 arg4 harg4 arg5 harg5 arg6 harg6 arg7 harg7 arg8 harg8 arg9 harg9 x0 x1 x2 hc0 hc1 hc2 hc3
    (fun r a => k0_off9_inb i hc2 r a) (fun r a => k0_off10_inb i hc2 r a)]
  exact isBlock_of_holds x0 x1 x2 _ _ (holds_C arg3 harg3 arg4 harg4 arg5 harg5 x0 x1 x2 i hi
    (fun r a => k0_off9_inb i hc2 r a) (fun r a => k0_off10_inb i hc2 r a)) _

/-- The output block when the tail is three whole tiles and the masked one. -/
theorem out_D (hc0 : ¬cond0_0 i) (hc1 : ¬cond0_1 i) (hc2 : ¬cond0_2 i) (hc3 : cond0_3 i)
    (hi : (i 2).val % 8 = 6 ∨ (i 2).val % 8 = 7) :
    IsBlock x0 x1 x2 (i 2).val (out0_D_3 c i arg3 harg3 arg4 harg4 arg5 harg5 arg6 harg6 arg7 harg7 arg8 harg8 arg9 harg9
      hc0 hc1 hc2 hc3 x0 x1 x2) := by
  unfold out0_D_3
  rw [run_D c i arg3 harg3 arg4 harg4 arg5 harg5 arg6 harg6 arg7 harg7 arg8 harg8 arg9 harg9 x0 x1 x2 hc0 hc1 hc2 hc3
    (fun r a => k0_off11_inb i hc3 r a) (fun r a => k0_off12_inb i hc3 r a)]
  exact isBlock_of_holds x0 x1 x2 _ _ (holds_D arg3 harg3 arg4 harg4 arg5 harg5 x0 x1 x2 i hi
    (fun r a => k0_off11_inb i hc3 r a) (fun r a => k0_off12_inb i hc3 r a)) _

end Cert.KernelIdeal.Val
-- ==== Proof.Array.lean ====
/-
  The output array: every grid point's block placed in it, read back at an index.
-/
module

public import proofs.«01_k».proof.Proof.Out
public import proofs.«01_k».proof.Proof.Gen.KernelIdeal.Value
public import Idealize.ShloMosaic.Lib.Pipeline.ValueKit.Geometry

@[expose] public section

set_option maxRecDepth 16384

noncomputable section

open Idealize.ShloMosaic Idealize.ShloMosaic.TcCoe Idealize.SL.Sem
open Idealize.ShloMosaic.Pipeline (Dat)

namespace Cert.KernelIdeal.Val

open Cert.KernelIdeal Cert.KernelIdeal.Gen Cert.Online

variable (m : (ℓ : Loc nD τ sig) → Buf (Elt Ideal) ℓ)

/-- The windows' block indices at a grid point. -/
theorem idx (t : Fin cfg0.N) :
    win0_0.index t = ![t.val / 64, t.val % 64, 0] ∧ win0_1.index t = ![t.val / 64, 0, 0, 0]
      ∧ win0_2.index t = ![t.val / 64, 0, 0, 0] ∧ win0_3.index t = ![t.val / 64, 0, t.val % 64]
      ∧ (grid0.coords t 2).val = t.val % 64 := by
  revert t
  decide +kernel

/-- What a grid point leaves: quotients of the sums over its keys. -/
theorem block_out (c : Dev nD) (t : Fin cfg0.N) :
    IsBlock (iblk m c 0 t) (iblk m c 1 t) (iblk m c 2 t) (t.val % 64) (outsAt0 m c t.val t.isLt) := by
  have hq := (idx t).2.2.2.2
  have hm : (grid0.coords t 2).val % 8 = t.val % 8 := by omega
  rw [← hq]
  by_cases h0 : t.val % 8 = 0 ∨ t.val % 8 = 1
  · rw [outsAt0_A m c t h0 (by omega) (by omega) (by omega)]
    exact out_A _ _ _ _ _ _ _ _ _ _ _ _ _ _ _ _ _ _ _ _ _ _ _ (by omega)
  by_cases h1 : t.val % 8 = 2 ∨ t.val % 8 = 3
  · rw [outsAt0_B m c t h0 h1 (by omega) (by omega)]
    exact out_B _ _ _ _ _ _ _ _ _ _ _ _ _ _ _ _ _ _ _ _ _ _ _ (by omega)
  by_cases h2 : t.val % 8 = 4 ∨ t.val % 8 = 5
  · rw [outsAt0_C m c t h0 h1 h2 (by omega)]
    exact out_C _ _ _ _ _ _ _ _ _ _ _ _ _ _ _ _ _ _ _ _ _ _ _ (by omega)
  · rw [outsAt0_D m c t h0 h1 h2 (by omega)]
    exact out_D _ _ _ _ _ _ _ _ _ _ _ _ _ _ _ _ _ _ _ _ _ _ _ (by omega)

variable (A0 : Vec Ideal S4x8192x1024 .bf16) (A1 : Vec Ideal S4x32x256x256 .bf16) (A2 : Vec Ideal S4x32x128x256 .bf16)

/-- The score of key `n` for query `s` of head `h` in batch `b`: `⊥` for a later key. -/
def score' (b : Fin 4) (h : Fin 4) (s : Fin 8192) (n : ℕ) : EReal :=
  if n ≤ s.val then
    ∑ f : Fin 256, A1 (ix4 b ⟨n / 256 % 32, by omega⟩ ⟨n % 256, by omega⟩ f)
      * A0 (ix3 b s ⟨h.val * 256 + f.val, by omega⟩)
  else ⊥

/-- Coordinate `d` of key `n`'s value in batch `b`. -/
def value' (b : Fin 4) (d : Fin 128) (n : ℕ) : EReal := A2 (ix4 b ⟨n / 256 % 32, by omega⟩ d ⟨n % 256, by omega⟩)

/-- The attention of query `s` of head `h` in batch `b`, at value coordinate `d`: the values weighed by the softmax of the scores. -/
def soft (b : Fin 4) (h : Fin 4) (d : Fin 128) (s : Fin 8192) : EReal :=
  ∑ k ∈ Finset.range 8192, value' A2 b d k
    * Ideal.div (Ideal.exp (score' A0 A1 b h s k - top (score' A0 A1 b h s) 8192))
      (max (∑ k ∈ Finset.range 8192, Ideal.exp (score' A0 A1 b h s k - top (score' A0 A1 b h s) 8192))
        (Ideal.ofBits .f32 0x0DA24260#32))

/-- A grid point's queries in their array. -/
theorem iblk0 (c : Dev nD) (t : Fin cfg0.N) (b : Fin 4) (hb : b.val = t.val / 64) (r : Fin 128) (g : Fin 1024) :
    iblk m c 0 t (ix3 0 r g) = m ((c : Thread nD τ).loc main_arg0) (ix3 b (⟨t.val % 64 * 128 + r.val, by omega⟩ : Fin 8192) g) := by
  have e := (idx t).1
  blk_ext [iblk, V, e]

/-- A grid point's keys in their array. -/
theorem iblk1 (c : Dev nD) (t : Fin cfg0.N) (b : Fin 4) (hb : b.val = t.val / 64) (n : Fin 32) (j f : Fin 256) :
    iblk m c 1 t (ix4 0 n j f) = m ((c : Thread nD τ).loc main_arg1) (ix4 b n j f) := by
  have e := (idx t).2.1
  blk_ext [iblk, V, e]

/-- A grid point's values in their array. -/
theorem iblk2 (c : Dev nD) (t : Fin cfg0.N) (b : Fin 4) (hb : b.val = t.val / 64) (n : Fin 32) (d : Fin 128) (j : Fin 256) :
    iblk m c 2 t (ix4 0 n d j) = m ((c : Thread nD τ).loc main_arg2) (ix4 b n d j) := by
  have e := (idx t).2.2.1
  blk_ext [iblk, V, e]

/-- A grid point's scores are its queries' scores. -/
theorem S_eq (c : Dev nD) (t : Fin cfg0.N) (b : Fin 4) (hb : b.val = t.val / 64) (x : Fin 512) (r : Fin 128) :
    S (iblk m c 0 t) (iblk m c 1 t) (t.val % 64) ⟨x.val / 128 * 128 + r.val, by omega⟩
      = score' (m ((c : Thread nD τ).loc main_arg0)) (m ((c : Thread nD τ).loc main_arg1)) b ⟨x.val / 128, by omega⟩
        ⟨t.val % 64 * 128 + r.val, by omega⟩ := by
  funext n
  unfold S score'
  refine if_congr (by simp only; omega) (Finset.sum_congr rfl fun f _ => ?_) rfl
  rw [iblk0 m c t b hb, iblk1 m c t b hb]
  have e1 : (⟨t.val % 64 * 128 + (x.val / 128 * 128 + r.val) % 128, by omega⟩ : Fin 8192) = ⟨t.val % 64 * 128 + r.val, by omega⟩ :=
    Fin.ext (by simp only; omega)
  have e2 : (⟨(x.val / 128 * 128 + r.val) / 128 * 256 + f.val, by omega⟩ : Fin 1024) = ⟨x.val / 128 * 256 + f.val, by omega⟩ :=
    Fin.ext (by simp only; omega)
  simp only [e1, e2]

/-- A grid point's values are its batch's values. -/
theorem V_eq (c : Dev nD) (t : Fin cfg0.N) (b : Fin 4) (hb : b.val = t.val / 64) (d : Fin 128) :
    Val.V (iblk m c 2 t) d = value' (m ((c : Thread nD τ).loc main_arg2)) b d := by
  funext n
  unfold Val.V value'
  rw [iblk2 m c t b hb]

/-- Finite queries and keys have scores below `⊤`, and a query's score of key `0` is not `⊥`. -/
theorem score_finite (h0 : ∀ y, A0 y ≠ ⊥ ∧ A0 y ≠ ⊤) (h1 : ∀ y, A1 y ≠ ⊥ ∧ A1 y ≠ ⊤) (b h : Fin 4) (s : Fin 8192) :
    score' A0 A1 b h s 0 ≠ ⊥ ∧ ∀ n, score' A0 A1 b h s n ≠ ⊤ := by
  have key : ∀ n : ℕ, ∃ x : ℝ, (∑ f : Fin 256, A1 (ix4 b ⟨n / 256 % 32, by omega⟩ ⟨n % 256, by omega⟩ f)
      * A0 (ix3 b s ⟨h.val * 256 + f.val, by omega⟩)) = (x : EReal) :=
    fun n => real_sum _ _ (fun _ => h1 _) fun _ => h0 _
  refine ⟨?_, fun n => ?_⟩
  · obtain ⟨x, hx⟩ := key 0
    rw [score', if_pos (Nat.zero_le _), hx]
    exact EReal.coe_ne_bot x
  · obtain ⟨x, hx⟩ := key n
    unfold score'
    split_ifs
    · rw [hx]; exact EReal.coe_ne_top x
    · exact bot_ne_top

/-- The array of the attention. -/
def softArr : Vec Ideal S4x512x8192 .f32 :=
  fun y => soft A0 A1 A2 (y 0) ⟨(y 1).val / 128, by have : (y 1).val < 512 := (y 1).isLt; omega⟩ ⟨(y 1).val % 128, by omega⟩ (y 2)

/-- The kernel's result array is the attention of its arguments. -/
theorem final (c : Dev nD) (h0 : ∀ y, m ((c : Thread nD τ).loc main_arg0) y ≠ (⊥ : EReal) ∧ m ((c : Thread nD τ).loc main_arg0) y ≠ (⊤ : EReal))
    (h1 : ∀ y, m ((c : Thread nD τ).loc main_arg1) y ≠ (⊥ : EReal) ∧ m ((c : Thread nD τ).loc main_arg1) y ≠ (⊤ : EReal)) :
    (dats m 0 c).arrAt 3 cfg0.N = softArr (m ((c : Thread nD τ).loc main_arg0)) (m ((c : Thread nD τ).loc main_arg1))
      (m ((c : Thread nD τ).loc main_arg2)) := by
  refine (dats m 0 c).arrAt_eq_of_covers 3 _ (by decide +kernel) fun t hf y => ?_
  blk_simp
  rw [after0_3]
  have ht : t.val < 256 := lt_of_lt_of_eq t.isLt N_0
  obtain ⟨x, r, rfl⟩ : ∃ (x : Fin 512) (r : Fin 128), y = (ix3 0 x r : S1x512x128.Idx) :=
    ⟨y 1, y 2, (eq_ix3 y).trans (congrArg (fun a => ix3 a (y 1) (y 2)) (Subsingleton.elim (α := Fin 1) _ _))⟩
  have e := (idx t).2.2.2.1
  have hx := x.isLt
  have hr := r.isLt
  have hy : (win0_3.blk t).view.emb (ix3 0 x r : S1x512x128.Idx)
      = (ix3 (⟨t.val / 64, by omega⟩ : Fin 4) x (⟨t.val % 64 * 128 + r.val, by omega⟩ : Fin 8192) : S4x512x8192.Idx) := by
    blk_ext [e]
  rw [hy]
  obtain ⟨M, l, a, hs, ho⟩ := block_out m c t x r
  refine ho.trans ?_
  rw [S_eq m c t ⟨t.val / 64, by omega⟩ rfl, V_eq m c t ⟨t.val / 64, by omega⟩ rfl] at hs
  have hf := score_finite (m ((c : Thread nD τ).loc main_arg0)) (m ((c : Thread nD τ).loc main_arg1)) h0 h1 ⟨t.val / 64, by omega⟩
    ⟨x.val / 128, by omega⟩ ⟨t.val % 64 * 128 + r.val, by omega⟩
  have hs' := hs.extend (K := 8192) (by omega) fun k hk => by
    unfold score'
    rw [if_neg (by simp only; omega)]
  rw [hs'.quotient (by omega) hf.1 hf.2 tiny_le, hs'.hl, hs'.hm]
  rfl

end Cert.KernelIdeal.Val
-- ==== Proof.Ref.lean ====
/-
  The reference: its scores, softmax and weighted values, read at an index.
-/
module

public import proofs.«01_k».proof.Proof.Array
public import proofs.«01_k».proof.Proof.Gen.ReferenceIdeal
public import proofs.«01_k».proof.Proof.Gen.ReferenceIdeal.Run
public import Idealize.ShloMosaic.Lib.Pointwise

@[expose] public section

set_option maxRecDepth 16384

noncomputable section

open Idealize.ShloMosaic Idealize.ShloMosaic.TcCoe Idealize.SL.Sem

namespace Cert.ReferenceIdeal.Val

open Cert.ReferenceIdeal Cert.ReferenceIdeal.Facts Cert.ReferenceIdeal.Gen Cert.Online Cert.KernelIdeal.Val

variable (A0 : FVec Ideal S4x8192x1024 .bf16) (A1 : FVec Ideal S4x32x256x256 .bf16) (A2 : FVec Ideal S4x32x128x256 .bf16)

/-- A key no later than the query. -/
def seen : IVec S4x4x8192x8192 1 :=
  broadcastInDim S4x4x8192x8192 ![2, 3] bcast_S8192x8192_S4x4x8192x8192_2_3
    (cmpi .sge (broadcastInDim S8192x8192 ![0, 1] bcast_S8192x1_S8192x8192_0_1 (broadcastInDim S8192x1 ![0] bcast_S8192_S8192x1_0 (iotaInDim S8192 32 0)))
      (broadcastInDim S8192x8192 ![0, 1] bcast_S1x8192_S8192x8192_0_1 (broadcastInDim S1x8192 ![1] bcast_S8192_S1x8192_1 (iotaInDim S8192 32 0))))

/-- The masked scores. -/
def scores : FVec Ideal S4x4x8192x8192 .f32 :=
  select seen
    (transpose S4x4x8192x8192 [0, 3, 2, 1] (Host.dotGeneral dot_S4x8192x256_S4x8192x4x256_S4x8192x8192x4_2_3_1_12_0_0 none
      (shapeCast _ (extf .f32 A1 bitsLt_bf16_f32) shapeCasts_S4x32x256x256_S4x8192x256)
      (shapeCast _ (extf .f32 A0 bitsLt_bf16_f32) shapeCasts_S4x8192x1024_S4x8192x4x256)) transposes_S4x8192x8192x4_S4x4x8192x8192_0_3_2_1)
    (broadcastInDim S4x4x8192x8192 ![] bcast_S_S4x4x8192x8192 (id (constant S_ .f32 0xFF800000#32)))

/-- The largest score of each query. -/
def largest (s : FVec Ideal S4x4x8192x8192 .f32) : FVec Ideal S4x4x8192 .f32 :=
  Host.reduce FloatOps.maximumf s (constant S_ .f32 0xFF800000#32) reducesTo_S4x4x8192x8192_S4x4x8192_d3 h_S_

/-- The exponentials of the scores less the largest. -/
def exps (s : FVec Ideal S4x4x8192x8192 .f32) : FVec Ideal S4x4x8192x8192 .f32 :=
  select seen (Host.exp (subf s (broadcastInDim S4x4x8192x8192 ![0, 1, 2, 3] bcast_S4x4x8192x1_S4x4x8192x8192_0_1_2_3
    (broadcastInDim S4x4x8192x1 ![0, 1, 2] bcast_S4x4x8192_S4x4x8192x1_0_1_2 (largest s)))))
    (broadcastInDim S4x4x8192x8192 ![] bcast_S_S4x4x8192x8192 (id (constant S_ .f32 0x00000000#32)))

/-- The exponentials over their floored sum. -/
def probs (e : FVec Ideal S4x4x8192x8192 .f32) : FVec Ideal S4x4x8192x8192 .f32 :=
  Host.divf e (broadcastInDim S4x4x8192x8192 ![0, 1, 2, 3] bcast_S4x4x8192x1_S4x4x8192x8192_0_1_2_3
    (maximumf (broadcastInDim S4x4x8192x1 ![0, 1, 2] bcast_S4x4x8192_S4x4x8192x1_0_1_2
      (Host.reduceAdd e (constant S_ .f32 0x00000000#32) reducesTo_S4x4x8192x8192_S4x4x8192_d3 h_S_))
      (broadcastInDim S4x4x8192x1 ![] bcast_S_S4x4x8192x1 (constant S_ .f32 0x0DA24260#32))))

/-- The weighted values. -/
def weighted (p : FVec Ideal S4x4x8192x8192 .f32) : FVec Ideal S4x512x8192 .f32 :=
  shapeCast _ (transpose S4x4x128x8192 [0, 2, 1, 3] (Host.dotGeneral dot_S4x8192x128_S4x4x8192x8192_S4x128x4x8192_1_3_2_12_0_0 none
    (shapeCast _ (transpose S4x32x256x128 [0, 1, 3, 2] (extf .f32 A2 bitsLt_bf16_f32) transposes_S4x32x128x256_S4x32x256x128_0_1_3_2)
      shapeCasts_S4x32x256x128_S4x8192x128) p) transposes_S4x128x4x8192_S4x4x128x8192_0_2_1_3) shapeCasts_S4x4x128x8192_S4x512x8192

/-- The reference is these steps in a row. -/
theorem res_eq (m : (ℓ : Loc nD τ sig) → Buf (Elt Ideal) ℓ) (c : Dev nD) :
    Value.res_main_v30 m c = weighted (m ((c.tc : Thread nD τ).loc main_arg2))
      (probs (exps (scores (m ((c.tc : Thread nD τ).loc main_arg0)) (m ((c.tc : Thread nD τ).loc main_arg1))))) := by
  unfold Value.res_main_v30
  rfl

/-- The mask's comparison. -/
theorem sge_eq (s n : Fin 8192) :
    IntOp.cmpi .sge (BitVec.ofNat 32 s.val) (BitVec.ofNat 32 n.val) = BitVec.ofBool (decide (n.val ≤ s.val)) := by
  have hs : (BitVec.ofNat 32 s.val).toNat = s.val := by rw [BitVec.toNat_ofNat]; omega
  have hn : (BitVec.ofNat 32 n.val).toNat = n.val := by rw [BitVec.toNat_ofNat]; omega
  change BitVec.ofBool (BitVec.sle (BitVec.ofNat 32 n.val) (BitVec.ofNat 32 s.val)) = _
  congr 1
  rw [BitVec.sle_eq_decide, decide_eq_decide, BitVec.toInt_eq_toNat_cond, BitVec.toInt_eq_toNat_cond, hs, hn]
  split_ifs <;> omega

/-- The mask at a query and a key. -/
theorem seen_apply (b h : Fin 4) (s n : Fin 8192) : seen (ix4 b h s n) = BitVec.ofBool (decide (n.val ≤ s.val)) := by
  pointwise [seen]
  exact sge_eq s n

/-- A choice by the mask. -/
theorem select_seen {α : Type} (b h : Fin 4) (s n : Fin 8192) (x y : α) :
    Scalar.select (seen (ix4 b h s n)) x y = if n.val ≤ s.val then x else y := by
  rw [seen_apply]
  by_cases hc : n.val ≤ s.val
  · rw [if_pos hc, decide_eq_true hc]
    rfl
  · rw [if_neg hc, decide_eq_false hc]
    rfl

/-- The masked score of a key. -/
theorem scores_apply (b h : Fin 4) (s n : Fin 8192) : scores A0 A1 (ix4 b h s n) = score' A0 A1 b h s n.val := by
  pointwise [scores]
  rw [select_seen, score']
  refine if_congr Iff.rfl (Finset.sum_congr rfl fun f _ => ?_) ?_
  · have e : (⟨n.val / 256, by omega⟩ : Fin 32) = ⟨n.val / 256 % 32, by omega⟩ := Fin.ext (by simp only; omega)
    rw [e]
  · show Ideal.ofBits .f32 0xFF800000#32 = ⊥
    simp [Ideal.ofBits, Ideal.ieee]

/-- The largest of a row. -/
theorem largest_apply (x : FVec Ideal S4x4x8192x8192 .f32) (b h : Fin 4) (s : Fin 8192) (f : ℕ → EReal)
    (hf : ∀ n : Fin 8192, x (ix4 b h s n) = f n.val) : largest x (ix3 b h s) = top f 8192 := by
  pointwise [largest]
  have e : Ideal.ofBits .f32 0xFF800000#32 = ⊥ := by simp [Ideal.ofBits, Ideal.ieee]
  rw [e]
  simp only [hf]
  refine (show _ = Finset.univ.sup fun n : Fin 8192 => f n.val from rfl).trans (le_antisymm ?_ ?_)
  · exact Finset.sup_le fun n _ => le_top f n.isLt
  · exact Finset.sup_le fun k hk => Finset.le_sup (f := fun n : Fin 8192 => f n.val) (Finset.mem_univ ⟨k, Finset.mem_range.mp hk⟩)

/-- An exponential. -/
theorem exps_apply (x : FVec Ideal S4x4x8192x8192 .f32) (b h : Fin 4) (s n : Fin 8192)  :
    exps x (ix4 b h s n) = if n.val ≤ s.val then Ideal.exp (x (ix4 b h s n) - largest x (ix3 b h s)) else 0 := by
  pointwise [exps]
  rw [select_seen]
  refine if_congr Iff.rfl rfl ?_
  show Ideal.ofBits .f32 0x00000000#32 = 0
  simp [Ideal.ofBits, Ideal.ieee]

/-- A probability. -/
theorem probs_apply (x : FVec Ideal S4x4x8192x8192 .f32) (b h : Fin 4) (s n : Fin 8192)  :
    probs x (ix4 b h s n) = Ideal.div (x (ix4 b h s n)) (max (∑ n : Fin 8192, x (ix4 b h s n)) (Ideal.ofBits .f32 0x0DA24260#32)) := by
  pointwise [probs]

/-- A weighted sum of values. -/
theorem weighted_apply (p : FVec Ideal S4x4x8192x8192 .f32) (b : Fin 4) (x : Fin 512) (s : Fin 8192)  :
    weighted A2 p (ix3 b x s) = ∑ n : Fin 8192, A2 (ix4 b ⟨n.val / 256, by omega⟩ ⟨x.val % 128, by omega⟩ ⟨n.val % 256, by omega⟩)
      * p (ix4 b ⟨x.val / 128, by omega⟩ s n) := by
  pointwise [weighted]

/-- The exponentials are those of the scores, zero where the score is `⊥`. -/
theorem exps_scores (b h : Fin 4) (s n : Fin 8192) :
    exps (scores A0 A1) (ix4 b h s n) = Ideal.exp (score' A0 A1 b h s n.val - top (score' A0 A1 b h s) 8192) := by
  rw [exps_apply, largest_apply _ b h s _ (scores_apply A0 A1 b h s), scores_apply]
  by_cases hc : n.val ≤ s.val
  · rw [if_pos hc]
  · have e : score' A0 A1 b h s n.val = ⊥ := by rw [score', if_neg hc]
    rw [if_neg hc, e, EReal.bot_sub]
    exact Ideal.exp_bot.symm

/-- The reference's result is the attention of its arguments. -/
theorem res (m : (ℓ : Loc nD τ sig) → Buf (Elt Ideal) ℓ) (c : Dev nD) :
    Value.res_main_v30 m c = softArr (m ((c.tc : Thread nD τ).loc main_arg0)) (m ((c.tc : Thread nD τ).loc main_arg1))
      (m ((c.tc : Thread nD τ).loc main_arg2)) := by
  rw [res_eq]
  funext y
  obtain ⟨b, x, s, rfl⟩ : ∃ (b : Fin 4) (x : Fin 512) (s : Fin 8192), y = (ix3 b x s : S4x512x8192.Idx) :=
    ⟨y 0, y 1, y 2, eq_ix3 y⟩
  rw [weighted_apply]
  refine Eq.trans ?_ (show soft _ _ _ b ⟨x.val / 128, by omega⟩ ⟨x.val % 128, by omega⟩ s = _ from rfl)
  rw [soft, Finset.sum_range, Finset.sum_range]
  refine Finset.sum_congr rfl fun n _ => ?_
  simp only [probs_apply, exps_scores]
  have e : (⟨n.val / 256, by omega⟩ : Fin 32) = ⟨n.val / 256 % 32, by omega⟩ := Fin.ext (by simp only; omega)
  rw [e]
  rfl

end Cert.ReferenceIdeal.Val
-- ==== Proof.FfnSpec.lean ====
/-
  The gated feed-forward block of 1 row, in plain arithmetic.
-/
module

public import Idealize.ShloMosaic.PureOps.Ideal
public import Idealize.ShloMosaic.PureOps

@[expose] public section

noncomputable section

open Idealize.ShloMosaic

namespace Cert.Ffn

/-- A gate times its logistic. -/
def gate (a : EReal) : EReal := a * Ideal.div 1 (1 + Ideal.exp (-a))

/-- What hidden unit `n` adds to an output coordinate, from its gate, its value and its output weight. -/
def unit (h : Fin 1024 → EReal) (g u : Fin 1024 → EReal) (w : EReal) : EReal :=
  gate (∑ f, h f * g f) * (∑ f, h f * u f) * w

/-- The shifted and scaled row. -/
def hidden (x sh sc : Fin 1024 → EReal) (f : Fin 1024) : EReal := x f * (1 + sc f) + sh f

/-- The row with the block's output added: what the normalisation takes. -/
def total (x gt y : Fin 1024 → EReal) (d : Fin 1024) : EReal :=
  Ideal.ofBits .f32 0x3FB504F3#32 * x d + Ideal.ofBits .f32 0x3F000000#32 * (1 + gt d) * y d

/-- The mean of a row. -/
def mean (z : Fin 1024 → EReal) : EReal := Ideal.div (∑ d, z d) (Ideal.ofBits .f32 0x44800000#32)

/-- A row less its mean. -/
def centred (z : Fin 1024 → EReal) (d : Fin 1024) : EReal := z d - mean z

/-- The normalised row. -/
def normed (z lg lb : Fin 1024 → EReal) (d : Fin 1024) : EReal :=
  centred z d * Ideal.rsqrt (mean (fun d => centred z d * centred z d) + Ideal.ofBits .f32 0x3727C5AC#32) * lg d + lb d

/-- Entry `d` of the block's result on a row. -/
def row (x sh sc gt : Fin 1024 → EReal) (wg wu : Fin 1024 → Fin 2816 → EReal) (wd : Fin 2816 → Fin 1024 → EReal)
    (lg lb : Fin 1024 → EReal) (d : Fin 1024) : EReal :=
  normed (total x gt fun d => ∑ n, unit (hidden x sh sc) (fun f => wg f n) (fun f => wu f n) (wd n d)) lg lb d

/-- A sum over the hidden units, 256 at a time. -/
theorem sum_pieces (f : Fin 2816 → EReal) (S : ℕ → EReal)
    (h : ∀ k (hk : k < 11), S k = ∑ j : Fin 256, f ⟨k * 256 + j.val, by omega⟩) :
    ∑ n, f n = ∑ k ∈ Finset.range 11, S k := by
  have step : ∀ K, K ≤ 11 → ∑ k ∈ Finset.range K, S k
      = ∑ n ∈ Finset.range (K * 256), if hn : n < 2816 then f ⟨n, hn⟩ else 0 := by
    intro K
    induction K with
    | zero => intro _; simp
    | succ K ih =>
      intro hK
      rw [Finset.sum_range_succ, ih (by omega), h K (by omega), Nat.succ_mul, Finset.sum_range_add, Finset.sum_range]
      congr 1
      rw [Finset.sum_range]
      refine Finset.sum_congr rfl fun j _ => ?_
      rw [dif_pos (by omega)]
  rw [step 11 le_rfl, Finset.sum_range]
  refine Finset.sum_congr rfl fun n _ => ?_
  rw [dif_pos n.isLt]

end Cert.Ffn
-- ==== Proof.FfnChunk.lean ====
/-
  The feed-forward kernel: one chunk of hidden units, and the row it normalises.
-/
module

public import proofs.«01_k».proof.Proof.FfnSpec
public import proofs.«01_k».proof.Proof.Gen.Kernel2Ideal
public import proofs.«01_k».proof.Proof.Gen.Kernel2Ideal.Frame
public import Idealize.ShloMosaic.Lib.Pointwise
public import Idealize.ShloMosaic.Lib.Pipeline.ValueKit.Acc

@[expose] public section

set_option maxRecDepth 16384

noncomputable section

open Idealize.ShloMosaic Idealize.ShloMosaic.TcCoe Idealize.SL.Sem

namespace Cert.Kernel2Ideal.Val

open Cert.Kernel2Ideal Cert.Kernel2Ideal.Facts Cert.Kernel2Ideal.Gen Cert.Ffn

/-- A chunk's gated hidden units. -/
def acts (h : FVec Ideal S512x1024 .bf16) (g u : Vec Ideal S1024x256 .bf16) : FVec Ideal S512x256 .bf16 :=
  k0_pay6 h g u

/-- What a chunk of hidden units adds to the output. -/
def chunk (h : FVec Ideal S512x1024 .bf16) (g u : Vec Ideal S1024x256 .bf16) (d : Vec Ideal S256x1024 .bf16) :
    FVec Ideal S512x1024 .f32 :=
  matmul dot_S512x256_S256x1024_S512x1024_1_0_0_1_n_n none (acts h g u)
    (shapeCast S256x1024 d shapeCasts_S256x1024_S256x1024 : FVec Ideal S256x1024 .bf16) (constant S512x1024 .f32 0x00000000#32)

/-- A chunk at an entry. -/
theorem chunk_apply (h : FVec Ideal S512x1024 .bf16) (g u : Vec Ideal S1024x256 .bf16) (w : Vec Ideal S256x1024 .bf16)
    (r : Fin 512) (d : Fin 1024) :
    chunk h g u w (ix2 r d) = ∑ j : Fin 256, unit (fun f => h (ix2 r f)) (fun f => g (ix2 f j)) (fun f => u (ix2 f j)) (w (ix2 j d)) := by
  pointwise [chunk, acts, k0_pay6]
  simp only [zero_sub]
  rfl

variable (x0 : Vec Ideal S1x512x1024 .f32) (x1 x2 x3 : Vec Ideal S1x1x1024 .f32) (x4 x5 : Vec Ideal S1024x2816 .bf16)
  (x6 : Vec Ideal S2816x1024 .bf16) (x7 x8 : Vec Ideal S1x1024 .f32)

/-- The scaled and shifted rows of a block, as the kernel's products take them. -/
def rows : FVec Ideal S512x1024 .bf16 := k0_pay3 (View.ld x0 r0_0) (View.ld x2 r0_1) (View.ld x1 r0_1)

/-- A row of a block, scaled and shifted. -/
theorem rows_apply (r : Fin 512) (f : Fin 1024) :
    rows x0 x1 x2 (ix2 r f) = hidden (fun f => x0 (ix3 0 r f)) (fun f => x1 (ix3 0 0 f)) (fun f => x2 (ix3 0 0 f)) f := by
  pointwise [rows, k0_pay3, k0_pay2]
  rfl

/-- The chunks' sum, in the order the kernel adds them. -/
def sums : FVec Ideal S512x1024 .f32 :=
  addf (addf (addf (addf (addf (addf (addf (addf (addf (addf (addf (broadcast S512x1024 (Scalar.ofBits .f32 0x00000000#32))
    (chunk (rows x0 x1 x2) (View.ld x4 r0_2) (View.ld x5 r0_2) (View.ld x6 r0_3)))
    (chunk (rows x0 x1 x2) (View.ld x4 r0_4) (View.ld x5 r0_4) (View.ld x6 r0_5)))
    (chunk (rows x0 x1 x2) (View.ld x4 r0_6) (View.ld x5 r0_6) (View.ld x6 r0_7)))
    (chunk (rows x0 x1 x2) (View.ld x4 r0_8) (View.ld x5 r0_8) (View.ld x6 r0_9)))
    (chunk (rows x0 x1 x2) (View.ld x4 r0_10) (View.ld x5 r0_10) (View.ld x6 r0_11)))
    (chunk (rows x0 x1 x2) (View.ld x4 r0_12) (View.ld x5 r0_12) (View.ld x6 r0_13)))
    (chunk (rows x0 x1 x2) (View.ld x4 r0_14) (View.ld x5 r0_14) (View.ld x6 r0_15)))
    (chunk (rows x0 x1 x2) (View.ld x4 r0_16) (View.ld x5 r0_16) (View.ld x6 r0_17)))
    (chunk (rows x0 x1 x2) (View.ld x4 r0_18) (View.ld x5 r0_18) (View.ld x6 r0_19)))
    (chunk (rows x0 x1 x2) (View.ld x4 r0_20) (View.ld x5 r0_20) (View.ld x6 r0_21)))
    (chunk (rows x0 x1 x2) (View.ld x4 r0_22) (View.ld x5 r0_22) (View.ld x6 r0_23))

/-- Chunk `k` of the hidden units at an entry. -/
def part (r : Fin 512) (d : Fin 1024) (k : ℕ) : EReal :=
  ∑ j : Fin 256, unit (hidden (fun f => x0 (ix3 0 r f)) (fun f => x1 (ix3 0 0 f)) (fun f => x2 (ix3 0 0 f)))
    (fun f => x4 (ix2 f ⟨(k * 256 + j.val) % 2816, by omega⟩)) (fun f => x5 (ix2 f ⟨(k * 256 + j.val) % 2816, by omega⟩))
    (x6 (ix2 ⟨(k * 256 + j.val) % 2816, by omega⟩ d))

/-- Loading 256 columns of a weight from column `o`. -/
theorem ld_cols (x : Vec Ideal S1024x2816 .bf16) (o : ℕ) (hb : ∀ d, (![0, o] : Fin 2 → ℕ) d + S1024x256.size d ≤ S1024x2816.size d)
    (f : Fin 1024) (j : Fin 256) :
    View.ld x (Rect.unit (s := S1024x2816) ![0, o] S1024x256.size hb) (ix2 f j) = x (ix2 f ⟨(o + j.val) % 2816, by omega⟩) := by
  have h : o + 256 ≤ 2816 := hb 1
  have e : (⟨(o + j.val) % 2816, by omega⟩ : Fin 2816) = ⟨o + j.val, by omega⟩ := Fin.ext (Nat.mod_eq_of_lt (by omega))
  pointwise
  rw [e]

/-- Loading 256 rows of a weight from row `o`. -/
theorem ld_rows (x : Vec Ideal S2816x1024 .bf16) (o : ℕ) (hb : ∀ d, (![o, 0] : Fin 2 → ℕ) d + S256x1024.size d ≤ S2816x1024.size d)
    (j : Fin 256) (d : Fin 1024) :
    View.ld x (Rect.unit (s := S2816x1024) ![o, 0] S256x1024.size hb) (ix2 j d) = x (ix2 ⟨(o + j.val) % 2816, by omega⟩ d) := by
  have h : o + 256 ≤ 2816 := hb 0
  have e : (⟨(o + j.val) % 2816, by omega⟩ : Fin 2816) = ⟨o + j.val, by omega⟩ := Fin.ext (Nat.mod_eq_of_lt (by omega))
  pointwise
  rw [e]

/-- A chunk read from the weights' columns and rows that begin at `256 k`. -/
theorem chunk_part (r : Fin 512) (d : Fin 1024) (k o : ℕ) (ho : o = k * 256)
    (hb : ∀ d, (![0, o] : Fin 2 → ℕ) d + S1024x256.size d ≤ S1024x2816.size d)
    (hc : ∀ d, (![o, 0] : Fin 2 → ℕ) d + S256x1024.size d ≤ S2816x1024.size d) :
    chunk (rows x0 x1 x2) (View.ld x4 (Rect.unit (s := S1024x2816) ![0, o] S1024x256.size hb))
      (View.ld x5 (Rect.unit (s := S1024x2816) ![0, o] S1024x256.size hb))
      (View.ld x6 (Rect.unit (s := S2816x1024) ![o, 0] S256x1024.size hc)) (ix2 r d) = part x0 x1 x2 x4 x5 x6 r d k := by
  subst ho
  rw [chunk_apply]
  unfold part
  refine Finset.sum_congr rfl fun j _ => ?_
  rw [ld_rows x6 (k * 256) hc j d, funext fun f => ld_cols x4 (k * 256) hb f j, funext fun f => ld_cols x5 (k * 256) hb f j,
    funext fun f => rows_apply x0 x1 x2 r f]

/-- The kernel's sum is the sum over all hidden units. -/
theorem sums_apply (r : Fin 512) (d : Fin 1024) :
    sums x0 x1 x2 x4 x5 x6 (ix2 r d) = ∑ n : Fin 2816, unit (hidden (fun f => x0 (ix3 0 r f)) (fun f => x1 (ix3 0 0 f)) (fun f => x2 (ix3 0 0 f)))
      (fun f => x4 (ix2 f n)) (fun f => x5 (ix2 f n)) (x6 (ix2 n d)) := by
  refine Eq.trans ?_ (sum_pieces _ (part x0 x1 x2 x4 x5 x6 r d) fun k hk => ?_).symm
  · simp only [Finset.sum_range_succ, Finset.sum_range_zero]
    pointwise [sums]
    rw [chunk_part x0 x1 x2 x4 x5 x6 r d 0 0 rfl, chunk_part x0 x1 x2 x4 x5 x6 r d 1 256 rfl, chunk_part x0 x1 x2 x4 x5 x6 r d 2 512 rfl,
      chunk_part x0 x1 x2 x4 x5 x6 r d 3 768 rfl, chunk_part x0 x1 x2 x4 x5 x6 r d 4 1024 rfl, chunk_part x0 x1 x2 x4 x5 x6 r d 5 1280 rfl,
      chunk_part x0 x1 x2 x4 x5 x6 r d 6 1536 rfl, chunk_part x0 x1 x2 x4 x5 x6 r d 7 1792 rfl, chunk_part x0 x1 x2 x4 x5 x6 r d 8 2048 rfl,
      chunk_part x0 x1 x2 x4 x5 x6 r d 9 2304 rfl, chunk_part x0 x1 x2 x4 x5 x6 r d 10 2560 rfl]
  · unfold part
    refine Finset.sum_congr rfl fun j _ => ?_
    have e : (⟨(k * 256 + j.val) % 2816, by omega⟩ : Fin 2816) = ⟨k * 256 + j.val, by omega⟩ :=
      Fin.ext (Nat.mod_eq_of_lt (by omega))
    simp only [e]

/-- What the kernel normalises. -/
def before : FVec Ideal S512x1024 .f32 :=
  addf (mulf (broadcast S512x1024 (Scalar.ofBits .f32 0x3FB504F3#32)) (k0_pay2 (View.ld x0 r0_0)))
    (mulf (broadcastTo S512x1024 (mulf (broadcast S1x1024 (Scalar.ofBits .f32 0x3F000000#32))
      (addf (broadcast S1x1024 (Scalar.ofBits .f32 0x3F800000#32)) (shapeCast S1x1024 (View.ld x3 r0_1 : FVec Ideal S1x1x1024 .f32) shapeCasts_S1x1x1024_S1x1024)))
      broadcasts_S1x1024_S512x1024) (sums x0 x1 x2 x4 x5 x6))

/-- A row of it. -/
theorem before_apply (r : Fin 512) (d : Fin 1024) :
    before x0 x1 x2 x3 x4 x5 x6 (ix2 r d) = total (fun f => x0 (ix3 0 r f)) (fun f => x3 (ix3 0 0 f))
      (fun d => ∑ n : Fin 2816, unit (hidden (fun f => x0 (ix3 0 r f)) (fun f => x1 (ix3 0 0 f)) (fun f => x2 (ix3 0 0 f)))
        (fun f => x4 (ix2 f n)) (fun f => x5 (ix2 f n)) (x6 (ix2 n d))) d := by
  pointwise [before, k0_pay2]
  rw [sums_apply]
  rfl

/-- A block of rows less their means. -/
def less (z : FVec Ideal S512x1024 .f32) : FVec Ideal S512x1024 .f32 :=
  subf z (broadcastTo S512x1024 (divf (shapeCast S512x1 (multiReduction .add [1] S512 z 0x00000000#32 reduces_S512x1024_S512 (.inl rfl) rfl)
    shapeCasts_S512_S512x1) (broadcast S512x1 (Scalar.ofBits .f32 0x44800000#32))) broadcasts_S512x1_S512x1024)

/-- A row less its mean. -/
theorem less_apply (z : FVec Ideal S512x1024 .f32) (r : Fin 512) (d : Fin 1024) :
    less z (ix2 r d) = centred (fun d => z (ix2 r d)) d := by
  pointwise [less]
  rfl

/-- The last payload: the rows scaled by their deviations. -/
def scaled (z : FVec Ideal S512x1024 .f32) : FVec Ideal S1x512x1024 .f32 :=
  k0_pay1 (k0_pay22 (View.ld x7 r0_24)) (k0_pay23 (View.ld x8 r0_24)) (less z)
    (divf (shapeCast S512x1 (multiReduction .add [1] S512 (mulf (less z) (less z)) 0x00000000#32 reduces_S512x1024_S512 (.inl rfl) rfl)
    shapeCasts_S512_S512x1) (broadcast S512x1 (Scalar.ofBits .f32 0x44800000#32))) (Scalar.ofBits .f32 0x3727C5AC#32)

/-- A normalised row. -/
theorem scaled_apply (z : FVec Ideal S512x1024 .f32) (r : Fin 512) (d : Fin 1024) :
    scaled x7 x8 z (ix3 0 r d) = normed (fun d => z (ix2 r d)) (fun f => x7 (ix2 0 f)) (fun f => x8 (ix2 0 f)) d := by
  pointwise [scaled, k0_pay1, k0_pay22, k0_pay23]
  simp only [less_apply]
  rfl

/-- What a grid point leaves is these steps in a row. -/
theorem out_eq : out0_9 x0 x1 x2 x3 x4 x5 x6 x7 x8 = scaled x7 x8 (before x0 x1 x2 x3 x4 x5 x6) := by
  rw [show out0_9 x0 x1 x2 x3 x4 x5 x6 x7 x8 = View.canon [⟨r0_0, scaled x7 x8 (before x0 x1 x2 x3 x4 x5 x6)⟩] from rfl]
  frame_out

end Cert.Kernel2Ideal.Val
-- ==== Proof.FfnArray.lean ====
/-
  The feed-forward kernel's output array: every grid point's block placed in it, read back at an index.
-/
module

public import proofs.«01_k».proof.Proof.FfnChunk
public import proofs.«01_k».proof.Proof.Gen.Kernel2Ideal.Value
public import Idealize.ShloMosaic.Lib.Pipeline.ValueKit.Geometry
public import Idealize.ShloMosaic.Lib.Pipeline.ValueKit.Point

@[expose] public section

set_option maxRecDepth 16384

noncomputable section

open Idealize.ShloMosaic Idealize.ShloMosaic.TcCoe Idealize.SL.Sem
open Idealize.ShloMosaic.Pipeline (Dat)

namespace Cert.Kernel2Ideal.Val

open Cert.Kernel2Ideal Cert.Kernel2Ideal.Gen Cert.Ffn

variable (m : (ℓ : Loc nD τ sig) → Buf (Elt Ideal) ℓ)

/-- The windows' block indices at a grid point. -/
theorem idx (t : Fin cfg0.N) :
    win0_0.index t = ![t.val / 16, t.val % 16, 0] ∧ win0_1.index t = ![t.val / 16, 0, 0] ∧ win0_2.index t = ![t.val / 16, 0, 0]
      ∧ win0_3.index t = ![t.val / 16, 0, 0] ∧ win0_4.index t = ![0, 0] ∧ win0_5.index t = ![0, 0] ∧ win0_6.index t = ![0, 0]
      ∧ win0_7.index t = ![0, 0] ∧ win0_8.index t = ![0, 0] ∧ win0_9.index t = ![t.val / 16, t.val % 16, 0] := by
  revert t
  decide +kernel

/-- The feed-forward block with its normalisation, on whole arrays. -/
def ffnArr (A0 : Vec Ideal S4x8192x1024 .f32) (A1 A2 A3 : Vec Ideal S4x1x1024 .f32) (A4 A5 : Vec Ideal S1024x2816 .f32)
    (A6 : Vec Ideal S2816x1024 .f32) (A7 A8 : Vec Ideal S1024 .f32) : Vec Ideal S4x8192x1024 .f32 :=
  fun y => row (fun d => A0 (ix3 (y 0) (y 1) d)) (fun d => A1 (ix3 (y 0) 0 d)) (fun d => A2 (ix3 (y 0) 0 d))
    (fun d => A3 (ix3 (y 0) 0 d)) (fun f n => A4 (ix2 f n)) (fun f n => A5 (ix2 f n)) (fun n d => A6 (ix2 n d))
    (fun d => A7 (ix1 d)) (fun d => A8 (ix1 d)) (y 2)

/-- A grid point's rows in their array. -/
theorem iblk0 (c : Dev nD) (t : Fin cfg0.N) (b : Fin 4) (hb : b.val = t.val / 16) (r : Fin 512) (d : Fin 1024) :
    iblk m c 0 t (ix3 0 r d) = m ((c : Thread nD τ).loc main_arg0) (ix3 b (⟨t.val % 16 * 512 + r.val, by omega⟩ : Fin 8192) d) := by
  have e := (idx t).1
  blk_ext [iblk, V, e]

/-- A grid point's shift. -/
theorem iblk1 (c : Dev nD) (t : Fin cfg0.N) (b : Fin 4) (hb : b.val = t.val / 16) (d : Fin 1024) :
    iblk m c 1 t (ix3 0 0 d) = m ((c : Thread nD τ).loc main_arg1) (ix3 b 0 d) := by
  have e := (idx t).2.1
  blk_ext [iblk, V, e]

/-- A grid point's scale. -/
theorem iblk2 (c : Dev nD) (t : Fin cfg0.N) (b : Fin 4) (hb : b.val = t.val / 16) (d : Fin 1024) :
    iblk m c 2 t (ix3 0 0 d) = m ((c : Thread nD τ).loc main_arg2) (ix3 b 0 d) := by
  have e := (idx t).2.2.1
  blk_ext [iblk, V, e]

/-- A grid point's gate on the block. -/
theorem iblk3 (c : Dev nD) (t : Fin cfg0.N) (b : Fin 4) (hb : b.val = t.val / 16) (d : Fin 1024) :
    iblk m c 3 t (ix3 0 0 d) = m ((c : Thread nD τ).loc main_arg3) (ix3 b 0 d) := by
  have e := (idx t).2.2.2.1
  blk_ext [iblk, V, e]

/-- The gates' weights. -/
theorem iblk4 (c : Dev nD) (t : Fin cfg0.N) (f : Fin 1024) (n : Fin 2816) :
    iblk m c 4 t (ix2 f n) = m ((c : Thread nD τ).loc main_arg4) (ix2 f n) := by
  have e := (idx t).2.2.2.2.1
  blk_ext! [iblk, e]

/-- The values' weights. -/
theorem iblk5 (c : Dev nD) (t : Fin cfg0.N) (f : Fin 1024) (n : Fin 2816) :
    iblk m c 5 t (ix2 f n) = m ((c : Thread nD τ).loc main_arg5) (ix2 f n) := by
  have e := (idx t).2.2.2.2.2.1
  blk_ext! [iblk, e]

/-- The output weights. -/
theorem iblk6 (c : Dev nD) (t : Fin cfg0.N) (n : Fin 2816) (d : Fin 1024) :
    iblk m c 6 t (ix2 n d) = m ((c : Thread nD τ).loc main_arg6) (ix2 n d) := by
  have e := (idx t).2.2.2.2.2.2.1
  blk_ext! [iblk, e]

/-- The normalisation's factors. -/
theorem iblk7 (c : Dev nD) (t : Fin cfg0.N) (d : Fin 1024) :
    iblk m c 7 t (ix2 0 d) = m ((c : Thread nD τ).loc main_arg7) (ix1 d) := by
  have e := (idx t).2.2.2.2.2.2.2.1
  blk_ext! [iblk, e]

/-- The normalisation's offsets. -/
theorem iblk8 (c : Dev nD) (t : Fin cfg0.N) (d : Fin 1024) :
    iblk m c 8 t (ix2 0 d) = m ((c : Thread nD τ).loc main_arg8) (ix1 d) := by
  have e := (idx t).2.2.2.2.2.2.2.2.1
  blk_ext! [iblk, e]

/-- The kernel's result array is the feed-forward block of its arguments. -/
theorem final (c : Dev nD) :
    (dats m 0 c).arrAt 9 cfg0.N = ffnArr (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) (m ((c : Thread nD τ).loc main_arg7))
      (m ((c : Thread nD τ).loc main_arg8)) := by
  refine (dats m 0 c).arrAt_eq_of_covers 9 _ (by decide +kernel) fun t hf y => ?_
  blk_simp
  rw [after0_9, out_eq]
  have ht : t.val < 64 := lt_of_lt_of_eq t.isLt N_0
  obtain ⟨r, d, rfl⟩ : ∃ (r : Fin 512) (d : Fin 1024), y = (ix3 0 r d : S1x512x1024.Idx) :=
    ⟨y 1, y 2, (eq_ix3 y).trans (congrArg (fun a => ix3 a (y 1) (y 2)) (Subsingleton.elim (α := Fin 1) _ _))⟩
  have e := (idx t).2.2.2.2.2.2.2.2.2
  have hy : (win0_9.blk t).view.emb (ix3 0 r d : S1x512x1024.Idx)
      = (ix3 (⟨t.val / 16, by omega⟩ : Fin 4) (⟨t.val % 16 * 512 + r.val, by omega⟩ : Fin 8192) d : S4x8192x1024.Idx) := by
    blk_ext [e]
  rw [hy, scaled_apply]
  simp only [before_apply, iblk0 m c t ⟨t.val / 16, by omega⟩ rfl, iblk1 m c t ⟨t.val / 16, by omega⟩ rfl,
    iblk2 m c t ⟨t.val / 16, by omega⟩ rfl, iblk3 m c t ⟨t.val / 16, by omega⟩ rfl, iblk4, iblk5, iblk6, iblk7, iblk8]
  rfl

end Cert.Kernel2Ideal.Val
-- ==== Proof.FfnRef.lean ====
/-
  The feed-forward reference: its steps, read at an index.
-/
module

public import proofs.«01_k».proof.Proof.FfnArray
public import proofs.«01_k».proof.Proof.Gen.Reference2Ideal
public import proofs.«01_k».proof.Proof.Gen.Reference2Ideal.Run
public import Idealize.ShloMosaic.Lib.Pointwise

@[expose] public section

set_option maxRecDepth 16384

noncomputable section

open Idealize.ShloMosaic Idealize.ShloMosaic.TcCoe Idealize.SL.Sem

namespace Cert.Reference2Ideal.Val

open Cert.Reference2Ideal Cert.Reference2Ideal.Facts Cert.Reference2Ideal.Gen Cert.Ffn Cert.Kernel2Ideal.Val

variable (A0 : FVec Ideal S4x8192x1024 .f32) (A1 A2 A3 : FVec Ideal S4x1x1024 .f32) (A4 A5 : FVec Ideal S1024x2816 .f32)
  (A6 : FVec Ideal S2816x1024 .f32) (A7 A8 : FVec Ideal S1024 .f32)

/-- The scaled and shifted rows. -/
def shifted : FVec Ideal S4x8192x1024 .f32 :=
  addf (mulf A0 (broadcastInDim S4x8192x1024 ![0, 1, 2] bcast_S4x1x1024_S4x8192x1024_0_1_2
      (addf (broadcastInDim S4x1x1024 ![] bcast_S_S4x1x1024 (constant S_ .f32 0x3F800000#32)) A2)))
    (broadcastInDim S4x8192x1024 ![0, 1, 2] bcast_S4x1x1024_S4x8192x1024_0_1_2 A1)

/-- A product with one of the two inner weights. -/
def inner (h : FVec Ideal S4x8192x1024 .f32) (w : FVec Ideal S1024x2816 .f32) : FVec Ideal S4x8192x2816 .f32 :=
  Host.dotGeneral dot_S4x8192x1024_S1024x2816_S4x8192x2816_2_0_01_1_n_n none h w

/-- A gate times its logistic. -/
def gated (g : FVec Ideal S4x8192x2816 .f32) : FVec Ideal S4x8192x2816 .f32 :=
  mulf g (Host.divf (broadcastInDim S4x8192x2816 ![] bcast_S_S4x8192x2816 (constant S_ .f32 0x3F800000#32))
    (addf (broadcastInDim S4x8192x2816 ![] bcast_S_S4x8192x2816 (constant S_ .f32 0x3F800000#32)) (Host.exp (Host.negf g))))

/-- The product with the output weights. -/
def outer (a : FVec Ideal S4x8192x2816 .f32) : FVec Ideal S4x8192x1024 .f32 :=
  Host.dotGeneral dot_S4x8192x2816_S2816x1024_S4x8192x1024_2_0_01_1_n_n none a A6

/-- The rows with the block's output added. -/
def added (y : FVec Ideal S4x8192x1024 .f32) : FVec Ideal S4x8192x1024 .f32 :=
  addf (mulf (broadcastInDim S4x8192x1024 ![] bcast_S_S4x8192x1024 (constant S_ .f32 0x3FB504F3#32)) A0)
    (mulf (broadcastInDim S4x8192x1024 ![0, 1, 2] bcast_S4x1x1024_S4x8192x1024_0_1_2
      (mulf (broadcastInDim S4x1x1024 ![] bcast_S_S4x1x1024 (constant S_ .f32 0x3F000000#32))
        (addf (broadcastInDim S4x1x1024 ![] bcast_S_S4x1x1024 (constant S_ .f32 0x3F800000#32)) A3))) y)

/-- The rows' means. -/
def means (z : FVec Ideal S4x8192x1024 .f32) : FVec Ideal S4x8192x1 .f32 :=
  Host.divf (broadcastInDim S4x8192x1 ![0, 1] bcast_S4x8192_S4x8192x1_0_1
      (Host.reduceAdd z (constant S_ .f32 0x00000000#32) reducesTo_S4x8192x1024_S4x8192_d2 h_S_))
    (broadcastInDim S4x8192x1 ![] bcast_S_S4x8192x1 (constant S_ .f32 0x44800000#32))

/-- The rows less their means. -/
def apart (z : FVec Ideal S4x8192x1024 .f32) : FVec Ideal S4x8192x1024 .f32 :=
  subf z (broadcastInDim S4x8192x1024 ![0, 1, 2] bcast_S4x8192x1_S4x8192x1024_0_1_2 (means z))

/-- The normalised rows. -/
def norms (z : FVec Ideal S4x8192x1024 .f32) : FVec Ideal S4x8192x1024 .f32 :=
  addf (mulf (mulf (apart z) (broadcastInDim S4x8192x1024 ![0, 1, 2] bcast_S4x8192x1_S4x8192x1024_0_1_2
      (Host.rsqrt (addf (means (mulf (apart z) (apart z))) (broadcastInDim S4x8192x1 ![] bcast_S_S4x8192x1 (constant S_ .f32 0x3727C5AC#32))))))
      (broadcastInDim S4x8192x1024 ![0, 1, 2] bcast_S1x1x1024_S4x8192x1024_0_1_2 (broadcastInDim S1x1x1024 ![2] bcast_S1024_S1x1x1024_2 A7)))
    (broadcastInDim S4x8192x1024 ![0, 1, 2] bcast_S1x1x1024_S4x8192x1024_0_1_2 (broadcastInDim S1x1x1024 ![2] bcast_S1024_S1x1x1024_2 A8))

/-- The reference is these steps in a row. -/
theorem res_eq (m : (ℓ : Loc nD τ sig) → Buf (Elt Ideal) ℓ) (c : Dev nD) :
    Value.res_main_v43 m c = norms (m ((c.tc : Thread nD τ).loc main_arg7)) (m ((c.tc : Thread nD τ).loc main_arg8))
      (added (m ((c.tc : Thread nD τ).loc main_arg0)) (m ((c.tc : Thread nD τ).loc main_arg3)) (outer (m ((c.tc : Thread nD τ).loc main_arg6))
        (mulf (gated (inner (shifted (m ((c.tc : Thread nD τ).loc main_arg0)) (m ((c.tc : Thread nD τ).loc main_arg1))
            (m ((c.tc : Thread nD τ).loc main_arg2))) (m ((c.tc : Thread nD τ).loc main_arg4))))
          (inner (shifted (m ((c.tc : Thread nD τ).loc main_arg0)) (m ((c.tc : Thread nD τ).loc main_arg1))
            (m ((c.tc : Thread nD τ).loc main_arg2))) (m ((c.tc : Thread nD τ).loc main_arg5)))))) := by
  unfold Value.res_main_v43
  rfl

/-- A scaled and shifted row. -/
theorem shifted_apply (b : Fin 4) (s : Fin 8192) (f : Fin 1024) :
    shifted A0 A1 A2 (ix3 b s f) = hidden (fun d => A0 (ix3 b s d)) (fun d => A1 (ix3 b 0 d)) (fun d => A2 (ix3 b 0 d)) f := by
  pointwise [shifted]
  rfl

/-- The block's output on a row. -/
theorem outer_apply (h : FVec Ideal S4x8192x1024 .f32) (b : Fin 4) (s : Fin 8192) (d : Fin 1024) :
    outer A6 (mulf (gated (inner h A4)) (inner h A5)) (ix3 b s d)
      = ∑ n : Fin 2816, unit (fun f => h (ix3 b s f)) (fun f => A4 (ix2 f n)) (fun f => A5 (ix2 f n)) (A6 (ix2 n d)) := by
  pointwise [outer, gated, inner]
  rfl

/-- A row with the block's output added. -/
theorem added_apply (y : FVec Ideal S4x8192x1024 .f32) (b : Fin 4) (s : Fin 8192) (d : Fin 1024) :
    added A0 A3 y (ix3 b s d) = total (fun d => A0 (ix3 b s d)) (fun d => A3 (ix3 b 0 d)) (fun d => y (ix3 b s d)) d := by
  pointwise [added]
  rfl

/-- A row's mean. -/
theorem means_apply (z : FVec Ideal S4x8192x1024 .f32) (b : Fin 4) (s : Fin 8192) :
    means z (ix3 b s 0) = mean fun d => z (ix3 b s d) := by
  pointwise [means]
  rfl

/-- A row less its mean. -/
theorem apart_apply (z : FVec Ideal S4x8192x1024 .f32) (b : Fin 4) (s : Fin 8192) (d : Fin 1024) :
    apart z (ix3 b s d) = centred (fun d => z (ix3 b s d)) d := by
  pointwise [apart]
  rw [means_apply]
  rfl

/-- A normalised row. -/
theorem norms_apply (z : FVec Ideal S4x8192x1024 .f32) (b : Fin 4) (s : Fin 8192) (d : Fin 1024) :
    norms A7 A8 z (ix3 b s d) = normed (fun d => z (ix3 b s d)) (fun d => A7 (ix1 d)) (fun d => A8 (ix1 d)) d := by
  pointwise [norms]
  rw [means_apply]
  pointwise
  simp only [apart_apply]
  rfl

/-- The reference's result is the feed-forward block of its arguments. -/
theorem res (m : (ℓ : Loc nD τ sig) → Buf (Elt Ideal) ℓ) (c : Dev nD) :
    Value.res_main_v43 m c = ffnArr (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) (m ((c.tc : Thread nD τ).loc main_arg7))
      (m ((c.tc : Thread nD τ).loc main_arg8)) := by
  rw [res_eq]
  funext y
  obtain ⟨b, s, d, rfl⟩ : ∃ (b : Fin 4) (s : Fin 8192) (d : Fin 1024), y = (ix3 b s d : S4x8192x1024.Idx) :=
    ⟨y 0, y 1, y 2, eq_ix3 y⟩
  rw [norms_apply]
  simp only [added_apply, outer_apply, shifted_apply]
  rfl

end Cert.Reference2Ideal.Val
-- ==== Proof.FoxStep.lean ====
/-
  One grid point's arithmetic, as functions of the blocks it reads: the scores of a tile of keys, the mask of the last
  tile, and the update of the running state by a group of tiles.
-/
module

public import proofs.«01_k».proof.Proof.Gen.Kernel3Ideal.Value
public import Idealize.ShloMosaic.Lib.Tactic

@[expose] public section

set_option maxRecDepth 16384

noncomputable section

open Idealize.ShloMosaic Idealize.ShloMosaic.TcCoe Idealize.SL.Sem

namespace Cert.Kernel3Ideal.Val

open Cert.Kernel3Ideal Cert.Kernel3Ideal.Gen

variable {F : FTy → Type} [FloatOps F] [Named F]

/-- The running state of a block: the largest score, the weight sum and the value sums of each query column. -/
structure St (F : FTy → Type) [FloatOps F] where
  /-- largest score so far, per query column -/
  m : FVec F S1x512 .f32
  /-- sum of the weights -/
  l : FVec F S1x512 .f32
  /-- sum of the weighted values, one row per value coordinate -/
  a : FVec F S64x512 .f32

/-- The state before any tile. -/
def St.init : St F := ⟨k0_pay63, k0_pay64, k0_pay65⟩

/-- The scores of a tile of 256 keys against the block's 512 query columns. -/
def score (q : FVec F S512x128 .bf16) (kt : Vec F S1x1x256x128 .bf16) : FVec F S256x512 .f32 :=
  matmul dot_S256x128_S512x128_S256x512_1_1_0_0_n_n none (shapeCast S256x128 kt shapeCasts_S1x1x256x128_S256x128) q
    (constant S256x512 .f32 0x00000000#32)

/-- The scores of the last tile, later keys than the query replaced by the mask constant. -/
def masked (qi kj : BitVec 32) (s : FVec F S256x512 .f32) : FVec F S256x512 .f32 :=
  select
    (cmpi .sle
      (addi (iota .tc S256x512 32 [0] iota_S256x512_d0_w32)
        (broadcast S256x512 (Scalar.subi (Scalar.muli kj 256#32) (Scalar.muli qi 256#32))))
      (andi (iota .tc S256x512 32 [1] iota_S256x512_d1_w32) (broadcast S256x512 255#32)))
    s (broadcast S256x512 (Named.named κ "mask" 0xF149F2CA#32))

/-- The maximum raised by a tile's scores. -/
def raise (m : FVec F S1x512 .f32) (s : FVec F S256x512 .f32) : FVec F S1x512 .f32 :=
  maximumf m (shapeCast S1x512 (multiReduction .maximumf [0] S512 s 0xFF800000#32 reduces_S256x512_S512 (.inl rfl) rfl)
    shapeCasts_S512_S1x512)

/-- A tile's weights against the maximum `M`. -/
def weight (M : FVec F S1x512 .f32) (s : FVec F S256x512 .f32) : FVec F S256x512 .f32 :=
  exp (subf s (broadcastTo S256x512 M broadcasts_S1x512_S256x512))

/-- The weight sum with a tile's weights added. -/
def addL (M : FVec F S1x512 .f32) (l : FVec F S1x512 .f32) (s : FVec F S256x512 .f32) : FVec F S1x512 .f32 :=
  addf l (shapeCast S1x512
    (multiReduction .add [0] S512 (weight M s) 0x00000000#32 reduces_S256x512_S512 (.inl rfl) rfl) shapeCasts_S512_S1x512)

/-- The value sums with a tile's weighted values added. -/
def addA (M : FVec F S1x512 .f32) (a : FVec F S64x512 .f32) (s : FVec F S256x512 .f32) (vt : Vec F S1x1x64x256 .bf16) :
    FVec F S64x512 .f32 :=
  addf a (matmul dot_S64x256_S256x512_S64x512_1_0_0_1_n_n none (shapeCast S64x256 vt shapeCasts_S1x1x64x256_S64x256)
    (truncf .bf16 (weight M s) bitsLt_bf16_f32) (constant S64x512 .f32 0x00000000#32))

/-- A tile: its scores and its values. -/
abbrev Tile (F : FTy → Type) [FloatOps F] : Type := FVec F S256x512 .f32 × Vec F S1x1x64x256 .bf16

/-- The maximum after a group of tiles. -/
def groupM (ts : List (Tile F)) (m : FVec F S1x512 .f32) : FVec F S1x512 .f32 :=
  ts.foldl (fun m t => raise m t.1) m

/-- The update of the state by a group of tiles: the maximum over all of them first, then the sums. -/
def group (ts : List (Tile F)) (s : St F) : St F where
  m := groupM ts s.m
  l := ts.foldl (fun l t => addL (groupM ts s.m) l t.1) (mulf (exp (subf s.m (groupM ts s.m))) s.l)
  a := ts.foldl (fun a t => addA (groupM ts s.m) a t.1 t.2)
    (mulf (broadcastTo S64x512 (exp (subf s.m (groupM ts s.m))) broadcasts_S1x512_S64x512) s.a)

end Cert.Kernel3Ideal.Val
-- ==== Proof.FoxRead.lean ====
/-
  The arithmetic of a grid point read at an index, in extended reals.
-/
module

public import proofs.«01_k».proof.Proof.FoxStep
public import proofs.«01_k».proof.Proof.Online
public import Idealize.ShloMosaic.Lib.Pointwise

@[expose] public section

set_option maxRecDepth 16384

noncomputable section

open Idealize.ShloMosaic Idealize.ShloMosaic.TcCoe Idealize.SL.Sem

namespace Cert.Kernel3Ideal.Val

open Cert.Kernel3Ideal Cert.Kernel3Ideal.Gen Cert.Online

theorem score_apply (q : FVec Ideal S512x128 .bf16) (kt : Vec Ideal S1x1x256x128 .bf16) (j : Fin 256) (col : Fin 512) :
    score q kt (ix2 j col) = ∑ f : Fin 128, kt (ix4 0 0 j f) * q (ix2 col f) := by
  pointwise [score]

theorem raise_apply (m : FVec Ideal S1x512 .f32) (s : FVec Ideal S256x512 .f32) (col : Fin 512) :
    raise m s (ix2 0 col) = max (m (ix2 0 col)) (Finset.univ.sup fun j : Fin 256 => s (ix2 j col)) := by
  pointwise [raise]
  rw [show Ideal.ofBits .f32 4286578688#32 = ⊥ from by simp [Ideal.ofBits, Ideal.ieee]]
  rfl

theorem weight_apply (M : FVec Ideal S1x512 .f32) (s : FVec Ideal S256x512 .f32) (j : Fin 256) (col : Fin 512) :
    weight M s (ix2 j col) = Ideal.exp (s (ix2 j col) - M (ix2 0 col)) := by
  pointwise [weight]

theorem addL_apply (M l : FVec Ideal S1x512 .f32) (s : FVec Ideal S256x512 .f32) (col : Fin 512) :
    addL M l s (ix2 0 col) = l (ix2 0 col) + ∑ j : Fin 256, Ideal.exp (s (ix2 j col) - M (ix2 0 col)) := by
  pointwise [addL, weight]

theorem addA_apply (M : FVec Ideal S1x512 .f32) (a : FVec Ideal S64x512 .f32) (s : FVec Ideal S256x512 .f32)
    (vt : Vec Ideal S1x1x64x256 .bf16) (d : Fin 64) (col : Fin 512) :
    addA M a s vt (ix2 d col)
      = a (ix2 d col) + ∑ j : Fin 256, vt (ix4 0 0 d j) * Ideal.exp (s (ix2 j col) - M (ix2 0 col)) := by
  pointwise [addA, weight]

/-- The last tile starts at the block's first query: the word that shifts its keys is 0. -/
theorem shift_eq (q : Fin 32) :
    Scalar.subi (Scalar.muli (BitVec.ofNat 32 q.val) 256#32) (Scalar.muli (BitVec.ofNat 32 q.val) 256#32) = 0#32 := by
  revert q
  decide +kernel

/-- A query column's number modulo 256, as a word. -/
theorem col_eq (col : Fin 512) :
    IntOp.andi (BitVec.ofNat 32 col.val) 255#32 = BitVec.ofNat 32 (col.val % 256) := by
  revert col
  decide +kernel

/-- The comparison of a key with a query, in words and in numbers. -/
theorem cmp_eq (j c : Fin 256) :
    IntOp.cmpi CmpIPredicate.sle (IntOp.addi (BitVec.ofNat 32 j.val) 0#32) (BitVec.ofNat 32 c.val)
      = BitVec.ofBool (decide (j.val ≤ c.val)) := by
  have hj : (BitVec.ofNat 32 j.val).toNat = j.val := by rw [BitVec.toNat_ofNat]; omega
  have hc : (BitVec.ofNat 32 c.val).toNat = c.val := by rw [BitVec.toNat_ofNat]; omega
  change BitVec.ofBool (BitVec.sle (BitVec.ofNat 32 j.val + 0#32) (BitVec.ofNat 32 c.val)) = _
  congr 1
  rw [BitVec.sle_eq_decide, decide_eq_decide, BitVec.add_zero, BitVec.toInt_eq_toNat_cond, BitVec.toInt_eq_toNat_cond, hj, hc]
  split_ifs <;> omega

/-- The last tile's scores: a key after the query scores `⊥`. -/
theorem masked_apply (q : Fin 32) (s : FVec Ideal S256x512 .f32) (j : Fin 256) (col : Fin 512) :
    masked (BitVec.ofNat 32 q.val) (BitVec.ofNat 32 q.val) s (ix2 j col)
      = if 256 * q.val + j.val ≤ 256 * q.val + col.val % 256 then s (ix2 j col) else ⊥ := by
  pointwise [masked]
  rw [shift_eq, col_eq]
  have h := cmp_eq j ⟨col.val % 256, by omega⟩
  simp only at h
  rw [h]
  by_cases hc : j.val ≤ col.val % 256
  · rw [if_pos (by omega), decide_eq_true hc]
    rfl
  · rw [if_neg (by omega), decide_eq_false hc]
    rfl

end Cert.Kernel3Ideal.Val
-- ==== Proof.FoxGroup.lean ====
/-
  A group of consecutive tiles carries the running state from the keys before it to the keys up to its end.
-/
module

public import proofs.«01_k».proof.Proof.FoxRead

@[expose] public section

set_option maxRecDepth 16384

noncomputable section

open Idealize.ShloMosaic Idealize.ShloMosaic.TcCoe Idealize.SL.Sem

namespace Cert.Kernel3Ideal.Val

open Cert.Kernel3Ideal Cert.Kernel3Ideal.Gen Cert.Online

variable (S : Fin 512 → ℕ → EReal) (V : Fin 64 → ℕ → EReal)

/-- A tile holds the scores and values of the 256 keys from key `n` on. -/
structure IsTile (n : ℕ) (t : Tile Ideal) : Prop where
  hs : ∀ (j : Fin 256) (col : Fin 512), t.1 (ix2 j col) = S col (n + j.val)
  hv : ∀ (d : Fin 64) (j : Fin 256), t.2 (ix4 0 0 d j) = V d (n + j.val)

/-- Consecutive tiles, the first from key `n` on. -/
def Tiles : ℕ → List (Tile Ideal) → Prop
  | _, [] => True
  | n, t :: ts => IsTile S V n t ∧ Tiles (n + 256) ts

/-- The state is that of the first `n` keys, in every query column and value coordinate. -/
def Holds (n : ℕ) (s : St Ideal) : Prop :=
  ∀ (col : Fin 512) (d : Fin 64), Seen (S col) (V d) n (s.m (ix2 0 col)) (s.l (ix2 0 col)) (s.a (ix2 d col))

/-- The maximum after the group is the largest of the scores up to the group's end. -/
theorem groupM_apply (col : Fin 512) (ts : List (Tile Ideal)) (n : ℕ) (m : FVec Ideal S1x512 .f32) (h : Tiles S V n ts)
    (hm : m (ix2 0 col) = top (S col) n) : groupM ts m (ix2 0 col) = top (S col) (n + 256 * ts.length) := by
  induction ts generalizing n m with
  | nil => exact hm
  | cons t ts ih =>
    have e : groupM (t :: ts) m = groupM ts (raise m t.1) := rfl
    rw [e, ih (n + 256) (raise m t.1) h.2 (by
      rw [raise_apply, top_add, hm]
      exact congrArg _ (congrArg _ (funext fun j => h.1.hs j col)))]
    congr 1
    rw [List.length_cons]
    omega

/-- The sums after the group's tiles, against the group's maximum. -/
theorem group_part (col : Fin 512) (d : Fin 64) (M : FVec Ideal S1x512 .f32) (ts : List (Tile Ideal)) (n : ℕ)
    (l : FVec Ideal S1x512 .f32) (a : FVec Ideal S64x512 .f32) (h : Tiles S V n ts)
    (hp : Part (S col) (V d) n (M (ix2 0 col)) (l (ix2 0 col)) (a (ix2 d col))) :
    Part (S col) (V d) (n + 256 * ts.length) (M (ix2 0 col)) ((ts.foldl (fun l t => addL M l t.1) l) (ix2 0 col))
      ((ts.foldl (fun a t => addA M a t.1 t.2) a) (ix2 d col)) := by
  induction ts generalizing n l a with
  | nil => exact hp
  | cons t ts ih =>
    have hq := hp.tile 256
    have el : addL M l t.1 (ix2 0 col)
        = l (ix2 0 col) + ∑ i : Fin 256, Ideal.exp (S col (n + i.val) - M (ix2 0 col)) := by
      rw [addL_apply]
      exact congrArg _ (Finset.sum_congr rfl fun j _ => by rw [h.1.hs])
    have ea : addA M a t.1 t.2 (ix2 d col)
        = a (ix2 d col) + ∑ i : Fin 256, V d (n + i.val) * Ideal.exp (S col (n + i.val) - M (ix2 0 col)) := by
      rw [addA_apply]
      exact congrArg _ (Finset.sum_congr rfl fun j _ => by rw [h.1.hs, h.1.hv])
    rw [← el, ← ea] at hq
    have hr := ih (n + 256) _ _ h.2 hq
    rw [List.foldl_cons, List.foldl_cons, List.length_cons, show n + 256 * (ts.length + 1) = n + 256 + 256 * ts.length by omega]
    exact hr

/-- The rescaled weight sum. -/
theorem scaleL_apply (m M l : FVec Ideal S1x512 .f32) (col : Fin 512) :
    mulf (exp (subf m M)) l (ix2 0 col) = Ideal.exp (m (ix2 0 col) - M (ix2 0 col)) * l (ix2 0 col) := by
  pointwise

/-- The rescaled value sums. -/
theorem scaleA_apply (m M : FVec Ideal S1x512 .f32) (a : FVec Ideal S64x512 .f32) (d : Fin 64) (col : Fin 512) :
    mulf (broadcastTo S64x512 (exp (subf m M)) broadcasts_S1x512_S64x512) a (ix2 d col)
      = Ideal.exp (m (ix2 0 col) - M (ix2 0 col)) * a (ix2 d col) := by
  pointwise

/-- The state after a group of consecutive tiles. -/
theorem group_holds (ts : List (Tile Ideal)) (n : ℕ) (s : St Ideal) (h : Tiles S V n ts) (hs : Holds S V n s) :
    Holds S V (n + 256 * ts.length) (group ts s) := by
  intro col d
  have hM := groupM_apply S V col ts n s.m h (hs col d).hm
  have hle : s.m (ix2 0 col) ≤ groupM ts s.m (ix2 0 col) := by
    rw [hM, (hs col d).hm]
    exact top_mono _ (Nat.le_add_right _ _)
  have hp := (hs col d).rescale hle
  rw [← scaleL_apply, ← scaleA_apply] at hp
  exact (group_part S V col d (groupM ts s.m) ts n _ _ h hp).seen hM

/-- Before any tile. -/
theorem init_holds : Holds S V 0 (St.init : St Ideal) := by
  intro col d
  have hm : (St.init : St Ideal).m (ix2 0 col) = ⊥ := by
    pointwise [St.init, k0_pay63]
    rfl
  have hl : (St.init : St Ideal).l (ix2 0 col) = 0 := by
    pointwise [St.init, k0_pay64]
  have ha : (St.init : St Ideal).a (ix2 d col) = 0 := by
    pointwise [St.init, k0_pay65]
  rw [hm, hl, ha]
  exact Seen.zero _ _

end Cert.Kernel3Ideal.Val
-- ==== Proof.FoxTrip.lean ====
/-
  One trip of the loop over groups of four tiles, read off its generated stores: the running state's three arrays, each
  stored whole, are the update of the arrays found there by the four tiles.
-/
module

public import proofs.«01_k».proof.Proof.FoxStep

@[expose] public section

set_option maxRecDepth 16384

noncomputable section

open Idealize.ShloMosaic Idealize.ShloMosaic.TcCoe Idealize.SL.Sem

namespace Cert.Kernel3Ideal.Val

open Cert.Kernel3Ideal Cert.Kernel3Ideal.Gen

variable {F : FTy → Type} [FloatOps F] [Named F]

/-- Tile `r` of trip `k`: scores and values, read at the offsets the trip computes. -/
def tripTile (i : grid0.Coords) (arg4 : Memref sig .tc .vmem S1x32x256x128 .bf16)
    (arg5 : Memref sig .tc .vmem S1x32x64x256 .bf16) (q : FVec F S512x128 .bf16)
    (X4 : BufTy.Contents (Elt F) arg4.view.ty) (X5 : BufTy.Contents (Elt F) arg5.view.ty) (k : Fin (k0_t1_loop i).trips)
    (w : BitVec 32) (hk : ∀ a, k0_off1 i k w a + S1x1x256x128.size a ≤ S1x32x256x128.size a)
    (hv : ∀ a, k0_off2 i k w a + S1x1x64x256.size a ≤ S1x32x64x256.size a) : Tile F :=
  (score q (View.readAt (Elt F) arg4.view (Rect.unit (s := S1x32x256x128) (k0_off1 i k w) S1x1x256x128.size hk).toLoadRect X4),
    View.readAt (Elt F) arg5.view (Rect.unit (s := S1x32x64x256) (k0_off2 i k w) S1x1x64x256.size hv).toLoadRect X5)

/-- The four tiles of trip `k`. -/
def tripTiles (i : grid0.Coords) (arg4 : Memref sig .tc .vmem S1x32x256x128 .bf16)
    (arg5 : Memref sig .tc .vmem S1x32x64x256 .bf16) (q : FVec F S512x128 .bf16)
    (X4 : BufTy.Contents (Elt F) arg4.view.ty) (X5 : BufTy.Contents (Elt F) arg5.view.ty) (k : Fin (k0_t1_loop i).trips) :
    List (Tile F) :=
  [tripTile i arg4 arg5 q X4 X5 k 0#32 (k0_off1_inb i k 0) (k0_off2_inb i k 0),
    tripTile i arg4 arg5 q X4 X5 k 1#32 (k0_off1_inb i k 1) (k0_off2_inb i k 1),
    tripTile i arg4 arg5 q X4 X5 k 2#32 (k0_off1_inb i k 2) (k0_off2_inb i k 2),
    tripTile i arg4 arg5 q X4 X5 k 3#32 (k0_off1_inb i k 3) (k0_off2_inb i k 3)]

/-- The whole of a maximum or weight-sum array, as loaded. -/
abbrev rd1 (r : Memref sig .tc .vmem S1x512 .f32) (f : BufTy.Contents (Elt F) r.view.ty) : Vec F S1x512 .f32 :=
  View.readAt (Elt F) r.view (Rect.unit (s := S1x512) ![0, 0] S1x512.size inb_S1x512_S1x512_0_0).toLoadRect f

/-- The whole of the value-sum array, as loaded. -/
abbrev rd2 (r : Memref sig .tc .vmem S64x512 .f32) (f : BufTy.Contents (Elt F) r.view.ty) : Vec F S64x512 .f32 :=
  View.readAt (Elt F) r.view (Rect.unit (s := S64x512) ![0, 0] S64x512.size inb_S64x512_S64x512_0_0).toLoadRect f

variable (𝒱 : Variants) (c : Dev nD) (bd : Option 𝒱.V) (i : grid0.Coords) (arg3 : Memref sig .tc .vmem S1x256x256 .bf16)
  (harg3 : arg3.IsWhole) (arg4 : Memref sig .tc .vmem S1x32x256x128 .bf16) (harg4 : arg4.IsWhole)
  (arg5 : Memref sig .tc .vmem S1x32x64x256 .bf16) (harg5 : arg5.IsWhole) (arg6 : Memref sig .tc .vmem S1x128x256 .f32)
  (harg6 : arg6.IsWhole) (arg7 : Memref sig .tc .vmem S1x512 .f32) (harg7 : arg7.IsWhole)
  (arg8 : Memref sig .tc .vmem S1x512 .f32) (harg8 : arg8.IsWhole) (arg9 : Memref sig .tc .vmem S64x512 .f32)
  (harg9 : arg9.IsWhole) (arg2 : BitVec 32) (v4 : FVec F S512x128 .bf16) (v18 : BitVec 32) (v32 : BitVec 1) (v33 : BitVec 32)
  (X4 : BufTy.Contents (Elt F) arg4.view.ty) (X5 : BufTy.Contents (Elt F) arg5.view.ty) (k : Fin (k0_t1_loop i).trips)
  (f7 : BufTy.Contents (Elt F) arg7.view.ty) (f8 : BufTy.Contents (Elt F) arg8.view.ty)
  (f9 : BufTy.Contents (Elt F) arg9.view.ty)

/-- What trip `k` stores in the maximum array. -/
theorem trip_m :
    (trip_k0_t1 (F := F) 𝒱 c bd i arg3 harg3 arg4 harg4 arg5 harg5 arg6 harg6 arg7 harg7 arg8 harg8 arg9 harg9 arg2 v4 v18
        v32 v33 X4 X5 k).1 f7 f8 f9
      = [⟨Rect.unit (s := S1x512) ![0, 0] S1x512.size inb_S1x512_S1x512_0_0,
          shapeCast S1x512 (group (tripTiles i arg4 arg5 v4 X4 X5 k) ⟨rd1 arg7 f7, rd1 arg8 f8, rd2 arg9 f9⟩).m
            shapeCasts_S1x512_S1x512⟩] := by
  unfold trip_k0_t1
  dsimp only
  sl_unfold_words
  rfl

/-- What trip `k` stores in the weight-sum array. -/
theorem trip_l :
    (trip_k0_t1 (F := F) 𝒱 c bd i arg3 harg3 arg4 harg4 arg5 harg5 arg6 harg6 arg7 harg7 arg8 harg8 arg9 harg9 arg2 v4 v18
        v32 v33 X4 X5 k).2.1 f7 f8 f9
      = [⟨Rect.unit (s := S1x512) ![0, 0] S1x512.size inb_S1x512_S1x512_0_0,
          shapeCast S1x512 (group (tripTiles i arg4 arg5 v4 X4 X5 k) ⟨rd1 arg7 f7, rd1 arg8 f8, rd2 arg9 f9⟩).l
            shapeCasts_S1x512_S1x512⟩] := by
  unfold trip_k0_t1
  dsimp only
  sl_unfold_words
  rfl

/-- What trip `k` stores in the value-sum array. -/
theorem trip_a :
    (trip_k0_t1 (F := F) 𝒱 c bd i arg3 harg3 arg4 harg4 arg5 harg5 arg6 harg6 arg7 harg7 arg8 harg8 arg9 harg9 arg2 v4 v18
        v32 v33 X4 X5 k).2.2.1 f7 f8 f9
      = [⟨Rect.unit (s := S64x512) ![0, 0] S64x512.size inb_S64x512_S64x512_0_0,
          shapeCast S64x512 (group (tripTiles i arg4 arg5 v4 X4 X5 k) ⟨rd1 arg7 f7, rd1 arg8 f8, rd2 arg9 f9⟩).a
            shapeCasts_S64x512_S64x512⟩] := by
  unfold trip_k0_t1
  dsimp only
  sl_unfold_words
  rfl

end Cert.Kernel3Ideal.Val
-- ==== Proof.FoxLoop.lean ====
/-
  The loop over groups of four tiles: after each number of trips the three arrays hold the running state updated by the
  groups in turn. The loop over left-over groups runs no trip.
-/
module

public import proofs.«01_k».proof.Proof.FoxTrip
public import Idealize.ShloMosaic.Lib.VecWindow
public import Idealize.ShloMosaic.Lib.Writes

@[expose] public section

set_option maxRecDepth 16384

noncomputable section

open Idealize.ShloMosaic Idealize.ShloMosaic.TcCoe Idealize.SL.Sem

namespace Cert.Kernel3Ideal.Val

open Cert.Kernel3Ideal Cert.Kernel3Ideal.Gen

variable {F : FTy → Type} [FloatOps F] [Named F]

/-- The state after `n` trips. -/
def loopSt (i : grid0.Coords) (arg4 : Memref sig .tc .vmem S1x32x256x128 .bf16)
    (arg5 : Memref sig .tc .vmem S1x32x64x256 .bf16) (q : FVec F S512x128 .bf16)
    (X4 : BufTy.Contents (Elt F) arg4.view.ty) (X5 : BufTy.Contents (Elt F) arg5.view.ty) : ℕ → St F
  | 0 => St.init
  | n + 1 =>
    if h : n < (k0_t1_loop i).trips then
      group (tripTiles i arg4 arg5 q X4 X5 ⟨n, h⟩) (loopSt i arg4 arg5 q X4 X5 n)
    else loopSt i arg4 arg5 q X4 X5 n

theorem loopSt_succ (i : grid0.Coords) (arg4 : Memref sig .tc .vmem S1x32x256x128 .bf16)
    (arg5 : Memref sig .tc .vmem S1x32x64x256 .bf16) (q : FVec F S512x128 .bf16)
    (X4 : BufTy.Contents (Elt F) arg4.view.ty) (X5 : BufTy.Contents (Elt F) arg5.view.ty)
    (k : Fin (k0_t1_loop i).trips) :
    loopSt i arg4 arg5 q X4 X5 (k.val + 1)
      = group (tripTiles i arg4 arg5 q X4 X5 k) (loopSt i arg4 arg5 q X4 X5 k.val) := by
  rw [loopSt, dif_pos k.isLt]

variable (𝒱 : Variants) (c : Dev nD) (bd : Option 𝒱.V) (i : grid0.Coords) (arg3 : Memref sig .tc .vmem S1x256x256 .bf16)
  (harg3 : arg3.IsWhole) (arg4 : Memref sig .tc .vmem S1x32x256x128 .bf16) (harg4 : arg4.IsWhole)
  (arg5 : Memref sig .tc .vmem S1x32x64x256 .bf16) (harg5 : arg5.IsWhole) (arg6 : Memref sig .tc .vmem S1x128x256 .f32)
  (harg6 : arg6.IsWhole) (arg7 : Memref sig .tc .vmem S1x512 .f32) (harg7 : arg7.IsWhole)
  (arg8 : Memref sig .tc .vmem S1x512 .f32) (harg8 : arg8.IsWhole) (arg9 : Memref sig .tc .vmem S64x512 .f32)
  (harg9 : arg9.IsWhole) (arg2 : BitVec 32) (v4 : FVec F S512x128 .bf16) (v18 : BitVec 32) (v32 : BitVec 1) (v33 : BitVec 32)
  (X4 : BufTy.Contents (Elt F) arg4.view.ty) (X5 : BufTy.Contents (Elt F) arg5.view.ty)
  (G7 : BufTy.Contents (Elt F) arg7.view.ty) (G8 : BufTy.Contents (Elt F) arg8.view.ty)
  (G9 : BufTy.Contents (Elt F) arg9.view.ty)

/-- The three arrays after `n` trips, from arrays that hold the initial state. -/
theorem loop_state (h7 : rd1 arg7 G7 = (St.init : St F).m) (h8 : rd1 arg8 G8 = (St.init : St F).l)
    (h9 : rd2 arg9 G9 = (St.init : St F).a) (n : ℕ) (hn : n ≤ (k0_t1_loop i).trips) :
    rd1 arg7 (arg7.view.writes (Elt F) G7 (pb_k0_t1 (F := F) 𝒱 c bd i arg3 harg3 arg4 harg4 arg5 harg5 arg6 harg6 arg7
        harg7 arg8 harg8 arg9 harg9 arg2 v4 v18 v32 v33 X4 X5 G7 G8 G9 n).1) = (loopSt i arg4 arg5 v4 X4 X5 n).m
      ∧ rd1 arg8 (arg8.view.writes (Elt F) G8 (pb_k0_t1 (F := F) 𝒱 c bd i arg3 harg3 arg4 harg4 arg5 harg5 arg6 harg6 arg7
        harg7 arg8 harg8 arg9 harg9 arg2 v4 v18 v32 v33 X4 X5 G7 G8 G9 n).2.1) = (loopSt i arg4 arg5 v4 X4 X5 n).l
      ∧ rd2 arg9 (arg9.view.writes (Elt F) G9 (pb_k0_t1 (F := F) 𝒱 c bd i arg3 harg3 arg4 harg4 arg5 harg5 arg6 harg6 arg7
        harg7 arg8 harg8 arg9 harg9 arg2 v4 v18 v32 v33 X4 X5 G7 G8 G9 n).2.2) = (loopSt i arg4 arg5 v4 X4 X5 n).a := by
  induction n with
  | zero => exact ⟨h7, h8, h9⟩
  | succ n ih =>
    obtain ⟨i7, i8, i9⟩ := ih (by omega)
    have hs := pb_k0_t1_succ (F := F) 𝒱 c bd i arg3 harg3 arg4 harg4 arg5 harg5 arg6 harg6 arg7 harg7 arg8 harg8 arg9 harg9
      arg2 v4 v18 v32 v33 X4 X5 G7 G8 G9 ⟨n, hn⟩
    simp only at hs
    have hl := loopSt_succ i arg4 arg5 v4 X4 X5 ⟨n, hn⟩
    simp only at hl
    rw [hs, hl, trip_m, trip_l, trip_a, i7, i8, i9]
    simp only [List.cons_append, List.nil_append, shapeCast_self]
    exact ⟨View.readAt_writes_full _ _ _ _ _ _, View.readAt_writes_full _ _ _ _ _ _, View.readAt_writes_full _ _ _ _ _ _⟩

/-- The number of trips: a trip takes four tiles of 256 keys, and a block of queries starts at 128 times its number. -/
theorem trips_eq (i : grid0.Coords) : (k0_t1_loop i).trips = (i 2).val / 4 := by
  have h : ∀ q : Fin 32, ∀ j : grid0.Coords, (j 2).val = q.val → (k0_t1_loop j).trips = q.val / 4 := by
    intro q j hj
    simp only [k0_t1_loop, hj]
    clear hj j
    revert q
    decide +kernel
  exact h ⟨(i 2).val, (i 2).isLt⟩ i rfl

/-- The loop over left-over groups has no trip. -/
theorem trips2_eq (i : grid0.Coords) : (k0_t2_loop i).trips = 0 := by
  have h : ∀ q : Fin 32, ∀ j : grid0.Coords, (j 2).val = q.val → (k0_t2_loop j).trips = 0 := by
    intro q j hj
    simp only [k0_t2_loop, hj]
    clear hj j
    revert q
    decide +kernel
  exact h ⟨(i 2).val, (i 2).isLt⟩ i rfl

end Cert.Kernel3Ideal.Val
-- ==== Proof.FoxRun.lean ====
/-
  One grid point's stores, read off the generated run: the four slices of the output block, cut from the quotient of the
  state after the loop and the tail tiles. There are four tails, by the number of whole tiles left after the groups of four.
-/
module

public import proofs.«01_k».proof.Proof.FoxLoop

@[expose] public section

set_option maxRecDepth 16384

noncomputable section

open Idealize.ShloMosaic Idealize.ShloMosaic.TcCoe Idealize.SL.Sem

namespace Cert.Kernel3Ideal.Val

open Cert.Kernel3Ideal Cert.Kernel3Ideal.Gen

variable {F : FTy → Type} [FloatOps F] [Named F]

/-- The queries of a block, one row per query column. -/
def queries (arg3 : Memref sig .tc .vmem S1x256x256 .bf16) (X3 : BufTy.Contents (Elt F) arg3.view.ty) :
    FVec F S512x128 .bf16 :=
  k0_pay62 (View.readAt (Elt F) arg3.view
    (Rect.unit (s := S1x256x256) ![0, 0, 0] S1x256x256.size inb_S1x256x256_S1x256x256_0_0_0).toLoadRect X3)

/-- A tile read at given offsets. -/
def tile (arg4 : Memref sig .tc .vmem S1x32x256x128 .bf16) (arg5 : Memref sig .tc .vmem S1x32x64x256 .bf16)
    (q : FVec F S512x128 .bf16) (X4 : BufTy.Contents (Elt F) arg4.view.ty) (X5 : BufTy.Contents (Elt F) arg5.view.ty)
    (o4 o5 : Fin 4 → ℕ) (hk : ∀ a, o4 a + S1x1x256x128.size a ≤ S1x32x256x128.size a)
    (hv : ∀ a, o5 a + S1x1x64x256.size a ≤ S1x32x64x256.size a) : Tile F :=
  (score q (View.readAt (Elt F) arg4.view (Rect.unit (s := S1x32x256x128) o4 S1x1x256x128.size hk).toLoadRect X4),
    View.readAt (Elt F) arg5.view (Rect.unit (s := S1x32x64x256) o5 S1x1x64x256.size hv).toLoadRect X5)

/-- The number of the tile that holds the block's first query, as computed after `r` whole tail tiles. -/
def lastTile (i : grid0.Coords) (r : BitVec 32) : BitVec 32 :=
  Scalar.addi (Scalar.subi (Scalar.select
    (Scalar.andi
      (Scalar.cmpi .ne
        (Scalar.subi (Scalar.extui (Scalar.cmpi .sgt (Scalar.muli (BitVec.ofNat 32 (i 2).val) 256#32) 0#32))
          (Scalar.extui (Scalar.cmpi .slt (Scalar.muli (BitVec.ofNat 32 (i 2).val) 256#32) 0#32))) 1#32)
      (Scalar.cmpi .ne (Scalar.remsi (Scalar.muli (BitVec.ofNat 32 (i 2).val) 256#32) 256#32) 0#32))
    (Scalar.subi (Scalar.divsi (Scalar.muli (BitVec.ofNat 32 (i 2).val) 256#32) 256#32) 1#32)
    (Scalar.divsi (Scalar.muli (BitVec.ofNat 32 (i 2).val) 256#32) 256#32)) r) r

/-- A tile with the later keys masked. -/
def cutTile (qi kj : BitVec 32) (t : Tile F) : Tile F := (masked qi kj t.1, t.2)

/-- The two stores of the output block from the final sums. -/
def outPieces (l : FVec F S1x512 .f32) (a : FVec F S64x512 .f32) : List (View.Piece (Elt F) S1x128x256 .f32) :=
  [⟨Rect.unit ![0, 64, 0] ![1, 64, 256] inb_S1x128x256_S1x64x256_0_64_0, k0_pay1 (k0_pay88 a l)⟩,
    ⟨Rect.unit ![0, 0, 0] ![1, 64, 256] inb_S1x128x256_S1x64x256_0_0_0, k0_pay89 a l⟩]

/-- The store of a whole maximum or weight-sum array. -/
abbrev pc1 (w : FVec F S1x512 .f32) : View.Piece (Elt F) S1x512 .f32 :=
  ⟨Rect.unit (s := S1x512) ![0, 0] S1x512.size inb_S1x512_S1x512_0_0, w⟩

/-- The store of the whole value-sum array. -/
abbrev pc2 (w : FVec F S64x512 .f32) : View.Piece (Elt F) S64x512 .f32 :=
  ⟨Rect.unit (s := S64x512) ![0, 0] S64x512.size inb_S64x512_S64x512_0_0, w⟩

/-- The load rectangle of a whole maximum or weight-sum array. -/
abbrev lr1 : LoadRect S1x512 := (Rect.unit (s := S1x512) ![0, 0] S1x512.size inb_S1x512_S1x512_0_0).toLoadRect

/-- The load rectangle of the whole value-sum array. -/
abbrev lr2 : LoadRect S64x512 := (Rect.unit (s := S64x512) ![0, 0] S64x512.size inb_S64x512_S64x512_0_0).toLoadRect

variable (c : Dev nD) (i : grid0.Coords) (arg3 : Memref sig .tc .vmem S1x256x256 .bf16)
  (harg3 : arg3.IsWhole) (arg4 : Memref sig .tc .vmem S1x32x256x128 .bf16) (harg4 : arg4.IsWhole)
  (arg5 : Memref sig .tc .vmem S1x32x64x256 .bf16) (harg5 : arg5.IsWhole) (arg6 : Memref sig .tc .vmem S1x128x256 .f32)
  (harg6 : arg6.IsWhole) (arg7 : Memref sig .tc .vmem S1x512 .f32) (harg7 : arg7.IsWhole)
  (arg8 : Memref sig .tc .vmem S1x512 .f32) (harg8 : arg8.IsWhole) (arg9 : Memref sig .tc .vmem S64x512 .f32)
  (harg9 : arg9.IsWhole)

/-- The lists of stores of both loops and the start, over the start values. -/
abbrev pre1 (q : FVec F S512x128 .bf16) (X4 : BufTy.Contents (Elt F) arg4.view.ty)
    (X5 : BufTy.Contents (Elt F) arg5.view.ty) (v18 : BitVec 32) (v32 : BitVec 1) (v33 : BitVec 32) :
    List (View.Piece (Elt F) S1x512 .f32) × List (View.Piece (Elt F) S1x512 .f32) × List (View.Piece (Elt F) S64x512 .f32) :=
  pb_k0_t1 Variants.none c none i arg3 harg3 arg4 harg4 arg5 harg5 arg6 harg6 arg7 harg7 arg8 harg8 arg9 harg9
    (BitVec.ofNat 32 (i 2).val) q v18 v32 v33 X4 X5 (arg7.view.writes (Elt F) arg7.view.junk [pc1 k0_pay63])
    (arg8.view.writes (Elt F) arg8.view.junk [pc1 k0_pay64]) (arg9.view.writes (Elt F) arg9.view.junk [pc2 k0_pay65])
    (Scf.trips (k0_t1_loop i).lb (k0_t1_loop i).ub (k0_t1_loop i).st)

/-- The stores of the loop over left-over groups. -/
abbrev pre2 (q : FVec F S512x128 .bf16) (X4 : BufTy.Contents (Elt F) arg4.view.ty)
    (X5 : BufTy.Contents (Elt F) arg5.view.ty) (v18 : BitVec 32) (v32 : BitVec 1) (v33 : BitVec 32) (v56 : BitVec 32) :
    List (View.Piece (Elt F) S1x512 .f32) × List (View.Piece (Elt F) S1x512 .f32) × List (View.Piece (Elt F) S64x512 .f32) :=
  pb_k0_t2 Variants.none c none i arg3 harg3 arg4 harg4 arg5 harg5 arg6 harg6 arg7 harg7 arg8 harg8 arg9 harg9
    (BitVec.ofNat 32 (i 2).val) q v18 v32 v33 v56 X4 X5
    (arg7.view.writes (Elt F) arg7.view.junk ((pre1 c i arg3 harg3 arg4 harg4 arg5 harg5 arg6 harg6 arg7 harg7 arg8 harg8
      arg9 harg9 q X4 X5 v18 v32 v33).1 ++ [pc1 k0_pay63]))
    (arg8.view.writes (Elt F) arg8.view.junk ((pre1 c i arg3 harg3 arg4 harg4 arg5 harg5 arg6 harg6 arg7 harg7 arg8 harg8
      arg9 harg9 q X4 X5 v18 v32 v33).2.1 ++ [pc1 k0_pay64]))
    (arg9.view.writes (Elt F) arg9.view.junk ((pre1 c i arg3 harg3 arg4 harg4 arg5 harg5 arg6 harg6 arg7 harg7 arg8 harg8
      arg9 harg9 q X4 X5 v18 v32 v33).2.2 ++ [pc2 k0_pay65]))
    (Scf.trips (k0_t2_loop i).lb (k0_t2_loop i).ub (k0_t2_loop i).st)

/-- The three loads the tail starts with give the state after the loop's last trip. -/
theorem found (q : FVec F S512x128 .bf16) (X4 : BufTy.Contents (Elt F) arg4.view.ty)
    (X5 : BufTy.Contents (Elt F) arg5.view.ty) (v18 : BitVec 32) (v32 : BitVec 1) (v33 : BitVec 32) (v56 : BitVec 32) :
    arg7.view.readCov ((pre2 c i arg3 harg3 arg4 harg4 arg5 harg5 arg6 harg6 arg7 harg7 arg8 harg8 arg9 harg9 q X4 X5
        v18 v32 v33 v56).1 ++ ((pre1 c i arg3 harg3 arg4 harg4 arg5 harg5 arg6 harg6 arg7 harg7 arg8 harg8 arg9 harg9 q X4 X5
        v18 v32 v33).1 ++ [pc1 k0_pay63])) lr1 = (loopSt i arg4 arg5 q X4 X5 (k0_t1_loop i).trips).m
      ∧ arg8.view.readCov ((pre2 c i arg3 harg3 arg4 harg4 arg5 harg5 arg6 harg6 arg7 harg7 arg8 harg8 arg9 harg9 q X4 X5
        v18 v32 v33 v56).2.1 ++ ((pre1 c i arg3 harg3 arg4 harg4 arg5 harg5 arg6 harg6 arg7 harg7 arg8 harg8 arg9 harg9 q X4 X5
        v18 v32 v33).2.1 ++ [pc1 k0_pay64])) lr1 = (loopSt i arg4 arg5 q X4 X5 (k0_t1_loop i).trips).l
      ∧ arg9.view.readCov ((pre2 c i arg3 harg3 arg4 harg4 arg5 harg5 arg6 harg6 arg7 harg7 arg8 harg8 arg9 harg9 q X4 X5
        v18 v32 v33 v56).2.2 ++ ((pre1 c i arg3 harg3 arg4 harg4 arg5 harg5 arg6 harg6 arg7 harg7 arg8 harg8 arg9 harg9 q X4 X5
        v18 v32 v33).2.2 ++ [pc2 k0_pay65])) lr2 = (loopSt i arg4 arg5 q X4 X5 (k0_t1_loop i).trips).a := by
  have h2 : pre2 c i arg3 harg3 arg4 harg4 arg5 harg5 arg6 harg6 arg7 harg7 arg8 harg8 arg9 harg9 q X4 X5 v18 v32 v33 v56
      = ([], [], []) := by
    unfold pre2
    rw [show Scf.trips (k0_t2_loop i).lb (k0_t2_loop i).ub (k0_t2_loop i).st = 0 from trips2_eq i]
    rfl
  obtain ⟨e7, e8, e9⟩ := loop_state Variants.none c none i arg3 harg3 arg4 harg4 arg5 harg5 arg6 harg6 arg7 harg7 arg8 harg8 arg9 harg9 (BitVec.ofNat 32 (i 2).val) q v18 v32 v33 X4 X5
    (arg7.view.writes (Elt F) arg7.view.junk [pc1 k0_pay63])
    (arg8.view.writes (Elt F) arg8.view.junk [pc1 k0_pay64]) (arg9.view.writes (Elt F) arg9.view.junk [pc2 k0_pay65])
    (View.readAt_writes_full _ _ _ _ _ _) (View.readAt_writes_full _ _ _ _ _ _) (View.readAt_writes_full _ _ _ _ _ _)
    (k0_t1_loop i).trips le_rfl
  rw [h2]
  simp only [List.nil_append, View.readCov, View.writes_append]
  exact ⟨e7, e8, e9⟩

/-- A load of a whole array after a store of it gives the stored values. -/
theorem cov1 (r : Memref sig .tc .vmem S1x512 .f32) (w : FVec F S1x512 .f32) (L : List (View.Piece (Elt F) S1x512 .f32)) :
    r.view.readCov (pc1 w :: L) lr1 = w :=
  View.readCov_full _ _ _ _ _

/-- The same of the value sums. -/
theorem cov2 (r : Memref sig .tc .vmem S64x512 .f32) (w : FVec F S64x512 .f32)
    (L : List (View.Piece (Elt F) S64x512 .f32)) : r.view.readCov (pc2 w :: L) lr2 = w :=
  View.readCov_full _ _ _ _ _

/-- Equal sums give equal stores. -/
theorem outPieces_congr {l l' : FVec F S1x512 .f32} {a a' : FVec F S64x512 .f32} (hl : l = l') (ha : a = a') :
    outPieces l a = outPieces l' a' := by
  rw [hl, ha]

variable (x0 : Vec F S1x256x256 .bf16) (x1 : Vec F S1x32x256x128 .bf16) (x2 : Vec F S1x32x64x256 .bf16)

/-- The state after the loop, of a block. -/
abbrev blockSt : St F :=
  loopSt i arg4 arg5 (queries arg3 (harg3.unread x0)) (harg4.unread x1) (harg5.unread x2) (k0_t1_loop i).trips

/-- A tile of a block. -/
abbrev blockTile (o4 o5 : Fin 4 → ℕ) (hk : ∀ a, o4 a + S1x1x256x128.size a ≤ S1x32x256x128.size a)
    (hv : ∀ a, o5 a + S1x1x64x256.size a ≤ S1x32x64x256.size a) : Tile F :=
  tile arg4 arg5 (queries arg3 (harg3.unread x0)) (harg4.unread x1) (harg5.unread x2) o4 o5 hk hv

/-- The stores when no whole tile is left: one masked tile. -/
theorem run_A (hc0 : cond0_0 i) (hc1 : ¬cond0_1 i) (hc2 : ¬cond0_2 i) (hc3 : ¬cond0_3 i)
    (hk : ∀ a, k0_off5 i a + S1x1x256x128.size a ≤ S1x32x256x128.size a)
    (hv : ∀ a, k0_off6 i a + S1x1x64x256.size a ≤ S1x32x64x256.size a) :
      (kernelRun0_A (F := F) c i arg3 harg3 arg4 harg4 arg5 harg5 arg6 harg6 arg7 harg7 arg8 harg8 arg9 harg9 hc0 hc1 hc2 hc3
          x0 x1 x2).1
        = outPieces
          (group [cutTile (BitVec.ofNat 32 (i 2).val) (lastTile i 0#32)
            (blockTile arg3 harg3 arg4 harg4 arg5 harg5 x0 x1 x2 (k0_off5 i) (k0_off6 i) hk hv)]
            (blockSt i arg3 harg3 arg4 harg4 arg5 harg5 x0 x1 x2)).l
          (group [cutTile (BitVec.ofNat 32 (i 2).val) (lastTile i 0#32)
            (blockTile arg3 harg3 arg4 harg4 arg5 harg5 x0 x1 x2 (k0_off5 i) (k0_off6 i) hk hv)]
            (blockSt i arg3 harg3 arg4 harg4 arg5 harg5 x0 x1 x2)).a := by
  have f := found c i arg3 harg3 arg4 harg4 arg5 harg5 arg6 harg6 arg7 harg7 arg8 harg8 arg9 harg9 (queries arg3 (harg3.unread x0)) (harg4.unread x1) (harg5.unread x2)
  have f7 := fun v18 v32 v33 v56 => (f v18 v32 v33 v56).1
  have f8 := fun v18 v32 v33 v56 => (f v18 v32 v33 v56).2.1
  have f9 := fun v18 v32 v33 v56 => (f v18 v32 v33 v56).2.2
  clear f
  dsimp only [pre1, pre2, queries] at f7 f8 f9
  unfold kernelRun0_A
  dsimp only
  sl_unfold_words
  simp only [f7, f8, f9, lastTile, blockSt, blockTile, queries, tile]
  refine outPieces_congr ((cov1 _ _ _).trans ?_) ((cov2 _ _ _).trans ?_)
  · generalize Scalar.addi _ 0#32 = kj
    generalize loopSt i arg4 arg5 _ (harg4.unread x1) (harg5.unread x2) (k0_t1_loop i).trips = s
    exact (shapeCast_self _ _).trans rfl
  · generalize Scalar.addi _ 0#32 = kj
    generalize loopSt i arg4 arg5 _ (harg4.unread x1) (harg5.unread x2) (k0_t1_loop i).trips = s
    exact (shapeCast_self _ _).trans rfl

/-- The stores when one whole tile is left: that tile, then the masked one. -/
theorem run_B (hc0 : ¬cond0_0 i) (hc1 : cond0_1 i) (hc2 : ¬cond0_2 i) (hc3 : ¬cond0_3 i)
    (hk : ∀ (r : Fin 2) (a : Fin 4), k0_off7 i (BitVec.ofNat 32 r.val) a + S1x1x256x128.size a ≤ S1x32x256x128.size a)
    (hv : ∀ (r : Fin 2) (a : Fin 4), k0_off8 i (BitVec.ofNat 32 r.val) a + S1x1x64x256.size a ≤ S1x32x64x256.size a) :
    (kernelRun0_B (F := F) c i arg3 harg3 arg4 harg4 arg5 harg5 arg6 harg6 arg7 harg7 arg8 harg8 arg9 harg9 hc0 hc1 hc2 hc3
          x0 x1 x2).1
        = outPieces
          (group [blockTile arg3 harg3 arg4 harg4 arg5 harg5 x0 x1 x2 (k0_off7 i 0#32) (k0_off8 i 0#32) (hk 0) (hv 0),
            cutTile (BitVec.ofNat 32 (i 2).val) (lastTile i 1#32)
              (blockTile arg3 harg3 arg4 harg4 arg5 harg5 x0 x1 x2 (k0_off7 i 1#32) (k0_off8 i 1#32) (hk 1) (hv 1))]
            (blockSt i arg3 harg3 arg4 harg4 arg5 harg5 x0 x1 x2)).l
          (group [blockTile arg3 harg3 arg4 harg4 arg5 harg5 x0 x1 x2 (k0_off7 i 0#32) (k0_off8 i 0#32) (hk 0) (hv 0),
            cutTile (BitVec.ofNat 32 (i 2).val) (lastTile i 1#32)
              (blockTile arg3 harg3 arg4 harg4 arg5 harg5 x0 x1 x2 (k0_off7 i 1#32) (k0_off8 i 1#32) (hk 1) (hv 1))]
            (blockSt i arg3 harg3 arg4 harg4 arg5 harg5 x0 x1 x2)).a := by
  have f := found c i arg3 harg3 arg4 harg4 arg5 harg5 arg6 harg6 arg7 harg7 arg8 harg8 arg9 harg9 (queries arg3 (harg3.unread x0)) (harg4.unread x1) (harg5.unread x2)
  have f7 := fun v18 v32 v33 v56 => (f v18 v32 v33 v56).1
  have f8 := fun v18 v32 v33 v56 => (f v18 v32 v33 v56).2.1
  have f9 := fun v18 v32 v33 v56 => (f v18 v32 v33 v56).2.2
  clear f
  dsimp only [pre1, pre2, queries] at f7 f8 f9
  unfold kernelRun0_B
  dsimp only
  sl_unfold_words
  simp only [f7, f8, f9, lastTile, blockSt, blockTile, queries, tile]
  refine outPieces_congr ((cov1 _ _ _).trans ?_) ((cov2 _ _ _).trans ?_)
  · generalize Scalar.addi _ 1#32 = kj
    generalize loopSt i arg4 arg5 _ (harg4.unread x1) (harg5.unread x2) (k0_t1_loop i).trips = s
    exact (shapeCast_self _ _).trans rfl
  · generalize Scalar.addi _ 1#32 = kj
    generalize loopSt i arg4 arg5 _ (harg4.unread x1) (harg5.unread x2) (k0_t1_loop i).trips = s
    exact (shapeCast_self _ _).trans rfl

/-- The stores when two whole tiles are left. -/
theorem run_C (hc0 : ¬cond0_0 i) (hc1 : ¬cond0_1 i) (hc2 : cond0_2 i) (hc3 : ¬cond0_3 i)
    (hk : ∀ (r : Fin 3) (a : Fin 4), k0_off9 i (BitVec.ofNat 32 r.val) a + S1x1x256x128.size a ≤ S1x32x256x128.size a)
    (hv : ∀ (r : Fin 3) (a : Fin 4), k0_off10 i (BitVec.ofNat 32 r.val) a + S1x1x64x256.size a ≤ S1x32x64x256.size a) :
    (kernelRun0_C (F := F) c i arg3 harg3 arg4 harg4 arg5 harg5 arg6 harg6 arg7 harg7 arg8 harg8 arg9 harg9 hc0 hc1 hc2 hc3
          x0 x1 x2).1
        = outPieces
          (group [blockTile arg3 harg3 arg4 harg4 arg5 harg5 x0 x1 x2 (k0_off9 i 0#32) (k0_off10 i 0#32) (hk 0) (hv 0),
            blockTile arg3 harg3 arg4 harg4 arg5 harg5 x0 x1 x2 (k0_off9 i 1#32) (k0_off10 i 1#32) (hk 1) (hv 1),
            cutTile (BitVec.ofNat 32 (i 2).val) (lastTile i 2#32)
              (blockTile arg3 harg3 arg4 harg4 arg5 harg5 x0 x1 x2 (k0_off9 i 2#32) (k0_off10 i 2#32) (hk 2) (hv 2))]
            (blockSt i arg3 harg3 arg4 harg4 arg5 harg5 x0 x1 x2)).l
          (group [blockTile arg3 harg3 arg4 harg4 arg5 harg5 x0 x1 x2 (k0_off9 i 0#32) (k0_off10 i 0#32) (hk 0) (hv 0),
            blockTile arg3 harg3 arg4 harg4 arg5 harg5 x0 x1 x2 (k0_off9 i 1#32) (k0_off10 i 1#32) (hk 1) (hv 1),
            cutTile (BitVec.ofNat 32 (i 2).val) (lastTile i 2#32)
              (blockTile arg3 harg3 arg4 harg4 arg5 harg5 x0 x1 x2 (k0_off9 i 2#32) (k0_off10 i 2#32) (hk 2) (hv 2))]
            (blockSt i arg3 harg3 arg4 harg4 arg5 harg5 x0 x1 x2)).a := by
  have f := found c i arg3 harg3 arg4 harg4 arg5 harg5 arg6 harg6 arg7 harg7 arg8 harg8 arg9 harg9 (queries arg3 (harg3.unread x0)) (harg4.unread x1) (harg5.unread x2)
  have f7 := fun v18 v32 v33 v56 => (f v18 v32 v33 v56).1
  have f8 := fun v18 v32 v33 v56 => (f v18 v32 v33 v56).2.1
  have f9 := fun v18 v32 v33 v56 => (f v18 v32 v33 v56).2.2
  clear f
  dsimp only [pre1, pre2, queries] at f7 f8 f9
  unfold kernelRun0_C
  dsimp only
  sl_unfold_words
  simp only [f7, f8, f9, lastTile, blockSt, blockTile, queries, tile]
  refine outPieces_congr ((cov1 _ _ _).trans ?_) ((cov2 _ _ _).trans ?_)
  · generalize Scalar.addi _ 2#32 = kj
    generalize loopSt i arg4 arg5 _ (harg4.unread x1) (harg5.unread x2) (k0_t1_loop i).trips = s
    exact (shapeCast_self _ _).trans rfl
  · generalize Scalar.addi _ 2#32 = kj
    generalize loopSt i arg4 arg5 _ (harg4.unread x1) (harg5.unread x2) (k0_t1_loop i).trips = s
    exact (shapeCast_self _ _).trans rfl

/-- The stores when three whole tiles are left. -/
theorem run_D (hc0 : ¬cond0_0 i) (hc1 : ¬cond0_1 i) (hc2 : ¬cond0_2 i) (hc3 : cond0_3 i)
    (hk : ∀ (r : Fin 4) (a : Fin 4), k0_off11 i (BitVec.ofNat 32 r.val) a + S1x1x256x128.size a ≤ S1x32x256x128.size a)
    (hv : ∀ (r : Fin 4) (a : Fin 4), k0_off12 i (BitVec.ofNat 32 r.val) a + S1x1x64x256.size a ≤ S1x32x64x256.size a) :
    (kernelRun0_D (F := F) c i arg3 harg3 arg4 harg4 arg5 harg5 arg6 harg6 arg7 harg7 arg8 harg8 arg9 harg9 hc0 hc1 hc2 hc3
          x0 x1 x2).1
        = outPieces
          (group [blockTile arg3 harg3 arg4 harg4 arg5 harg5 x0 x1 x2 (k0_off11 i 0#32) (k0_off12 i 0#32) (hk 0) (hv 0),
            blockTile arg3 harg3 arg4 harg4 arg5 harg5 x0 x1 x2 (k0_off11 i 1#32) (k0_off12 i 1#32) (hk 1) (hv 1),
            blockTile arg3 harg3 arg4 harg4 arg5 harg5 x0 x1 x2 (k0_off11 i 2#32) (k0_off12 i 2#32) (hk 2) (hv 2),
            cutTile (BitVec.ofNat 32 (i 2).val) (lastTile i 3#32)
              (blockTile arg3 harg3 arg4 harg4 arg5 harg5 x0 x1 x2 (k0_off11 i 3#32) (k0_off12 i 3#32) (hk 3) (hv 3))]
            (blockSt i arg3 harg3 arg4 harg4 arg5 harg5 x0 x1 x2)).l
          (group [blockTile arg3 harg3 arg4 harg4 arg5 harg5 x0 x1 x2 (k0_off11 i 0#32) (k0_off12 i 0#32) (hk 0) (hv 0),
            blockTile arg3 harg3 arg4 harg4 arg5 harg5 x0 x1 x2 (k0_off11 i 1#32) (k0_off12 i 1#32) (hk 1) (hv 1),
            blockTile arg3 harg3 arg4 harg4 arg5 harg5 x0 x1 x2 (k0_off11 i 2#32) (k0_off12 i 2#32) (hk 2) (hv 2),
            cutTile (BitVec.ofNat 32 (i 2).val) (lastTile i 3#32)
              (blockTile arg3 harg3 arg4 harg4 arg5 harg5 x0 x1 x2 (k0_off11 i 3#32) (k0_off12 i 3#32) (hk 3) (hv 3))]
            (blockSt i arg3 harg3 arg4 harg4 arg5 harg5 x0 x1 x2)).a := by
  have f := found c i arg3 harg3 arg4 harg4 arg5 harg5 arg6 harg6 arg7 harg7 arg8 harg8 arg9 harg9 (queries arg3 (harg3.unread x0)) (harg4.unread x1) (harg5.unread x2)
  have f7 := fun v18 v32 v33 v56 => (f v18 v32 v33 v56).1
  have f8 := fun v18 v32 v33 v56 => (f v18 v32 v33 v56).2.1
  have f9 := fun v18 v32 v33 v56 => (f v18 v32 v33 v56).2.2
  clear f
  dsimp only [pre1, pre2, queries] at f7 f8 f9
  unfold kernelRun0_D
  dsimp only
  sl_unfold_words
  simp only [f7, f8, f9, lastTile, blockSt, blockTile, queries, tile]
  refine outPieces_congr ((cov1 _ _ _).trans ?_) ((cov2 _ _ _).trans ?_)
  · generalize Scalar.addi _ 3#32 = kj
    generalize loopSt i arg4 arg5 _ (harg4.unread x1) (harg5.unread x2) (k0_t1_loop i).trips = s
    exact (shapeCast_self _ _).trans rfl
  · generalize Scalar.addi _ 3#32 = kj
    generalize loopSt i arg4 arg5 _ (harg4.unread x1) (harg5.unread x2) (k0_t1_loop i).trips = s
    exact (shapeCast_self _ _).trans rfl

end Cert.Kernel3Ideal.Val
-- ==== Proof.FoxWords.lean ====
/-
  The words of a grid point as numbers: where each tile is read.
-/
module

public import proofs.«01_k».proof.Proof.FoxRun

@[expose] public section

set_option maxRecDepth 16384

noncomputable section

open Idealize.ShloMosaic Idealize.ShloMosaic.TcCoe Idealize.SL.Sem

namespace Cert.Kernel3Ideal.Val

open Cert.Kernel3Ideal Cert.Kernel3Ideal.Gen

/-- The last tile's number is the block's number. -/
theorem lastTile_eq (i : grid0.Coords) (r : Fin 4) :
    lastTile i (BitVec.ofNat 32 r.val) = BitVec.ofNat 32 (i 2).val := by
  have h : ∀ q : Fin 32, ∀ j : grid0.Coords, (j 2).val = q.val →
      lastTile j (BitVec.ofNat 32 r.val) = BitVec.ofNat 32 q.val := by
    intro q j hj
    simp only [lastTile, hj]
    clear hj j
    revert q r
    decide +kernel
  exact h ⟨(i 2).val, (i 2).isLt⟩ i rfl

/-- Tile `r` of trip `k` is tile `4 k + r` of the keys. -/
theorem off1_eq (i : grid0.Coords) (k : Fin (k0_t1_loop i).trips) (r : Fin 4) :
    k0_off1 i k (BitVec.ofNat 32 r.val) = ![0, 4 * k.val + r.val, 0, 0] := by
  have hk : k.val < 8 := by
    have h1 := k.isLt
    have h2 := trips_eq i
    have h3 : (i 2).val < 32 := (i 2).isLt
    omega
  have h : ∀ q : Fin 8, k.val = q.val → k0_off1 i k (BitVec.ofNat 32 r.val) = ![0, 4 * q.val + r.val, 0, 0] := by
    intro q hq
    simp only [k0_off1, Scf.iv, hq]
    clear hq hk k i
    revert q r
    decide +kernel
  exact h ⟨k.val, hk⟩ rfl

/-- The same for the values. -/
theorem off2_eq (i : grid0.Coords) (k : Fin (k0_t1_loop i).trips) (r : Fin 4) :
    k0_off2 i k (BitVec.ofNat 32 r.val) = ![0, 4 * k.val + r.val, 0, 0] := by
  rw [← off1_eq]
  rfl

/-- The tail's one tile when no whole tile is left. -/
theorem off5_eq (i : grid0.Coords) : k0_off5 i = ![0, (i 2).val, 0, 0] := by
  have h : ∀ q : Fin 32, ∀ j : grid0.Coords, (j 2).val = q.val → k0_off5 j = ![0, q.val, 0, 0] := by
    intro q j hj
    simp only [k0_off5, hj]
    clear hj j
    revert q
    decide +kernel
  exact h ⟨(i 2).val, (i 2).isLt⟩ i rfl

/-- The tail's tiles when one whole tile is left. -/
theorem off7_eq (i : grid0.Coords) (hi : (i 2).val % 4 = 1) (r : Fin 2) :
    k0_off7 i (BitVec.ofNat 32 r.val) = ![0, (i 2).val - 1 + r.val, 0, 0] := by
  have h : ∀ q : Fin 32, ∀ j : grid0.Coords, (j 2).val = q.val → q.val % 4 = 1 →
      k0_off7 j (BitVec.ofNat 32 r.val) = ![0, q.val - 1 + r.val, 0, 0] := by
    intro q j hj
    simp only [k0_off7, hj]
    clear hj j
    revert q r
    decide +kernel
  exact h ⟨(i 2).val, (i 2).isLt⟩ i rfl hi

/-- The tail's tiles when two whole tiles are left. -/
theorem off9_eq (i : grid0.Coords) (hi : (i 2).val % 4 = 2) (r : Fin 3) :
    k0_off9 i (BitVec.ofNat 32 r.val) = ![0, (i 2).val - 2 + r.val, 0, 0] := by
  have h : ∀ q : Fin 32, ∀ j : grid0.Coords, (j 2).val = q.val → q.val % 4 = 2 →
      k0_off9 j (BitVec.ofNat 32 r.val) = ![0, q.val - 2 + r.val, 0, 0] := by
    intro q j hj
    simp only [k0_off9, hj]
    clear hj j
    revert q r
    decide +kernel
  exact h ⟨(i 2).val, (i 2).isLt⟩ i rfl hi

/-- The tail's tiles when three whole tiles are left. -/
theorem off11_eq (i : grid0.Coords) (hi : (i 2).val % 4 = 3) (r : Fin 4) :
    k0_off11 i (BitVec.ofNat 32 r.val) = ![0, (i 2).val - 3 + r.val, 0, 0] := by
  have h : ∀ q : Fin 32, ∀ j : grid0.Coords, (j 2).val = q.val → q.val % 4 = 3 →
      k0_off11 j (BitVec.ofNat 32 r.val) = ![0, q.val - 3 + r.val, 0, 0] := by
    intro q j hj
    simp only [k0_off11, hj]
    clear hj j
    revert q r
    decide +kernel
  exact h ⟨(i 2).val, (i 2).isLt⟩ i rfl hi

/-- The values' offsets are the keys' offsets. -/
theorem off6_eq (i : grid0.Coords) : k0_off6 i = k0_off5 i := rfl

theorem off8_eq (i : grid0.Coords) (w : BitVec 32) : k0_off8 i w = k0_off7 i w := rfl

theorem off10_eq (i : grid0.Coords) (w : BitVec 32) : k0_off10 i w = k0_off9 i w := rfl

theorem off12_eq (i : grid0.Coords) (w : BitVec 32) : k0_off12 i w = k0_off11 i w := rfl

end Cert.Kernel3Ideal.Val
-- ==== Proof.FoxBlock.lean ====
/-
  One grid point's blocks: the scores and values its tiles hold, and the state after all its tiles.
-/
module

public import proofs.«01_k».proof.Proof.FoxGroup
public import proofs.«01_k».proof.Proof.FoxWords

@[expose] public section

set_option maxRecDepth 16384

noncomputable section

open Idealize.ShloMosaic Idealize.ShloMosaic.TcCoe Idealize.SL.Sem

namespace Cert.Kernel3Ideal.Val

open Cert.Kernel3Ideal Cert.Kernel3Ideal.Gen Cert.Online

variable (arg3 : Memref sig .tc .vmem S1x256x256 .bf16)
  (harg3 : arg3.IsWhole) (arg4 : Memref sig .tc .vmem S1x32x256x128 .bf16) (harg4 : arg4.IsWhole)
  (arg5 : Memref sig .tc .vmem S1x32x64x256 .bf16) (harg5 : arg5.IsWhole)
variable (x0 : Vec Ideal S1x256x256 .bf16) (x1 : Vec Ideal S1x32x256x128 .bf16) (x2 : Vec Ideal S1x32x64x256 .bf16)

/-- The score of key `n` for query column `col` of block `q`: the product of key and query, `⊥` for a later key. -/
def S (q : ℕ) (col : Fin 512) (n : ℕ) : EReal :=
  if n ≤ 256 * q + col.val % 256 then
    ∑ f : Fin 128, x1 (ix4 0 ⟨n / 256 % 32, by omega⟩ ⟨n % 256, by omega⟩ f)
      * x0 (ix3 0 ⟨col.val % 256, by omega⟩ ⟨col.val / 256 * 128 + f.val, by omega⟩)
  else ⊥

/-- Coordinate `d` of key `n`'s value. -/
def V (d : Fin 64) (n : ℕ) : EReal := x2 (ix4 0 ⟨n / 256 % 32, by omega⟩ d ⟨n % 256, by omega⟩)

/-- The queries, one row per query column. -/
theorem queries_apply (col : Fin 512) (f : Fin 128) :
    queries arg3 (harg3.unread x0) (ix2 col f)
      = x0 (ix3 0 ⟨col.val % 256, by omega⟩ ⟨col.val / 256 * 128 + f.val, by omega⟩) := by
  unfold queries
  rw [View.readAt_eq_ld, harg3.read_unread]
  pointwise [k0_pay62]
  have e : ∀ (a a' b b' : Fin 256), a.val = a'.val → b.val = b'.val → x0 (ix3 0 a b) = x0 (ix3 0 a' b') :=
    fun a a' b b' h h' => congrArg₂ (fun a b => x0 (ix3 0 a b)) (Fin.ext h) (Fin.ext h')
  have := col.isLt
  split_ifs <;> refine e _ _ _ _ ?_ ?_ <;> simp only <;> omega

/-- The scores of tile `T`, no key masked. -/
theorem tile_score (T : ℕ) (hT : T < 32) (hk : ∀ a, (![0, T, 0, 0] : Fin 4 → ℕ) a + S1x1x256x128.size a ≤ S1x32x256x128.size a)
    (hv : ∀ a, (![0, T, 0, 0] : Fin 4 → ℕ) a + S1x1x64x256.size a ≤ S1x32x64x256.size a) (j : Fin 256) (col : Fin 512) :
    (blockTile arg3 harg3 arg4 harg4 arg5 harg5 x0 x1 x2 ![0, T, 0, 0] ![0, T, 0, 0] hk hv).1 (ix2 j col)
      = ∑ f : Fin 128, x1 (ix4 0 ⟨T, hT⟩ j f)
        * x0 (ix3 0 ⟨col.val % 256, by omega⟩ ⟨col.val / 256 * 128 + f.val, by omega⟩) := by
  unfold blockTile tile
  dsimp only
  rw [score_apply]
  refine Finset.sum_congr rfl fun f _ => ?_
  rw [queries_apply, View.readAt_eq_ld, harg4.read_unread]
  congr 1
  pointwise

/-- The values of tile `T`. -/
theorem tile_value (T : ℕ) (hT : T < 32) (hk : ∀ a, (![0, T, 0, 0] : Fin 4 → ℕ) a + S1x1x256x128.size a ≤ S1x32x256x128.size a)
    (hv : ∀ a, (![0, T, 0, 0] : Fin 4 → ℕ) a + S1x1x64x256.size a ≤ S1x32x64x256.size a) (d : Fin 64) (j : Fin 256) :
    (blockTile arg3 harg3 arg4 harg4 arg5 harg5 x0 x1 x2 ![0, T, 0, 0] ![0, T, 0, 0] hk hv).2 (ix4 0 0 d j)
      = x2 (ix4 0 ⟨T, hT⟩ d j) := by
  unfold blockTile tile
  dsimp only
  rw [View.readAt_eq_ld, harg5.read_unread]
  pointwise

/-- A tile of earlier keys only. -/
theorem isTile_whole (q T : ℕ) (hq : q < 32) (hT : T < q) (o4 o5 : Fin 4 → ℕ) (h4 : o4 = ![0, T, 0, 0]) (h5 : o5 = ![0, T, 0, 0])
    (hk : ∀ a, o4 a + S1x1x256x128.size a ≤ S1x32x256x128.size a)
    (hv : ∀ a, o5 a + S1x1x64x256.size a ≤ S1x32x64x256.size a) :
    IsTile (S x0 x1 q) (V x2) (256 * T) (blockTile arg3 harg3 arg4 harg4 arg5 harg5 x0 x1 x2 o4 o5 hk hv) := by
  subst h4 h5
  refine ⟨fun j col => ?_, fun d j => ?_⟩
  · rw [tile_score arg3 harg3 arg4 harg4 arg5 harg5 x0 x1 x2 T (by omega), S, if_pos (by omega)]
    refine Finset.sum_congr rfl fun f _ => ?_
    have e1 : (⟨T, by omega⟩ : Fin 32) = ⟨(256 * T + j.val) / 256 % 32, by omega⟩ := Fin.ext (by simp only; omega)
    have e2 : j = ⟨(256 * T + j.val) % 256, by omega⟩ := Fin.ext (by simp only; omega)
    rw [← e1, ← e2]
  · rw [tile_value arg3 harg3 arg4 harg4 arg5 harg5 x0 x1 x2 T (by omega), V]
    have e1 : (⟨T, by omega⟩ : Fin 32) = ⟨(256 * T + j.val) / 256 % 32, by omega⟩ := Fin.ext (by simp only; omega)
    have e2 : j = ⟨(256 * T + j.val) % 256, by omega⟩ := Fin.ext (by simp only; omega)
    rw [← e1, ← e2]

/-- The last tile, later keys masked. -/
theorem isTile_cut (q : Fin 32) (o4 o5 : Fin 4 → ℕ) (h4 : o4 = ![0, q.val, 0, 0])
    (h5 : o5 = ![0, q.val, 0, 0]) (hk : ∀ a, o4 a + S1x1x256x128.size a ≤ S1x32x256x128.size a)
    (hv : ∀ a, o5 a + S1x1x64x256.size a ≤ S1x32x64x256.size a) :
    IsTile (S x0 x1 q.val) (V x2) (256 * q.val) (cutTile (BitVec.ofNat 32 q.val) (BitVec.ofNat 32 q.val)
      (blockTile arg3 harg3 arg4 harg4 arg5 harg5 x0 x1 x2 o4 o5 hk hv)) := by
  subst h4 h5
  have hq := q.isLt
  refine ⟨fun j col => ?_, fun d j => ?_⟩
  · unfold cutTile
    dsimp only
    rw [masked_apply, S, tile_score arg3 harg3 arg4 harg4 arg5 harg5 x0 x1 x2 q.val (by omega)]
    refine if_congr Iff.rfl (Finset.sum_congr rfl fun f _ => ?_) rfl
    have e1 : (⟨q.val, by omega⟩ : Fin 32) = ⟨(256 * q.val + j.val) / 256 % 32, by omega⟩ :=
      Fin.ext (by simp only; omega)
    have e2 : j = ⟨(256 * q.val + j.val) % 256, by omega⟩ := Fin.ext (by simp only; omega)
    rw [← e1, ← e2]
  · unfold cutTile
    dsimp only
    rw [tile_value arg3 harg3 arg4 harg4 arg5 harg5 x0 x1 x2 q.val (by omega), V]
    have e1 : (⟨q.val, by omega⟩ : Fin 32) = ⟨(256 * q.val + j.val) / 256 % 32, by omega⟩ :=
      Fin.ext (by simp only; omega)
    have e2 : j = ⟨(256 * q.val + j.val) % 256, by omega⟩ := Fin.ext (by simp only; omega)
    rw [← e1, ← e2]

variable (i : grid0.Coords)

/-- The state after `n` trips of the loop is that of the first `1024 * n` keys. -/
theorem loop_holds (n : ℕ) (hn : n ≤ (k0_t1_loop i).trips) :
    Holds (S x0 x1 (i 2).val) (V x2) (1024 * n)
      (loopSt i arg4 arg5 (queries arg3 (harg3.unread x0)) (harg4.unread x1) (harg5.unread x2) n) := by
  induction n with
  | zero => exact init_holds _ _
  | succ n ih =>
    have h2 := trips_eq i
    have hq : (i 2).val < 32 := (i 2).isLt
    have e := loopSt_succ i arg4 arg5 (queries arg3 (harg3.unread x0)) (harg4.unread x1) (harg5.unread x2) ⟨n, hn⟩
    simp only at e
    rw [e]
    have w := fun (r : Fin 4) (hk : _) (hv : _) => isTile_whole arg3 harg3 arg4 harg4 arg5 harg5 x0 x1 x2 (i 2).val (4 * n + r.val) hq
      (by omega) (k0_off1 i ⟨n, hn⟩ (BitVec.ofNat 32 r.val)) (k0_off2 i ⟨n, hn⟩ (BitVec.ofNat 32 r.val)) (off1_eq i ⟨n, hn⟩ r)
      (off2_eq i ⟨n, hn⟩ r) hk hv
    have key := group_holds (S x0 x1 (i 2).val) (V x2)
      (tripTiles i arg4 arg5 (queries arg3 (harg3.unread x0)) (harg4.unread x1) (harg5.unread x2) ⟨n, hn⟩) (256 * (4 * n)) _
      ⟨w 0 _ _, w 1 _ _, w 2 _ _, w 3 _ _, trivial⟩ (by
        have := ih (by omega)
        rwa [show 1024 * n = 256 * (4 * n) by omega] at this)
    rw [show 1024 * (n + 1) = 256 * (4 * n) + 256 * 4 by omega]
    exact key

/-- The state after all whole trips. -/
theorem block_holds : Holds (S x0 x1 (i 2).val) (V x2) (256 * (4 * ((i 2).val / 4)))
    (blockSt i arg3 harg3 arg4 harg4 arg5 harg5 x0 x1 x2) := by
  have h := loop_holds arg3 harg3 arg4 harg4 arg5 harg5 x0 x1 x2 i _ le_rfl
  have h2 := trips_eq i
  rwa [show 1024 * (k0_t1_loop i).trips = 256 * (4 * ((i 2).val / 4)) by omega] at h

/-- The masked tile of the tail. -/
theorem cut_holds (r : Fin 4) (o4 o5 : Fin 4 → ℕ) (h4 : o4 = ![0, (i 2).val, 0, 0]) (h5 : o5 = ![0, (i 2).val, 0, 0])
    (hk : ∀ a, o4 a + S1x1x256x128.size a ≤ S1x32x256x128.size a)
    (hv : ∀ a, o5 a + S1x1x64x256.size a ≤ S1x32x64x256.size a) :
    IsTile (S x0 x1 (i 2).val) (V x2) (256 * (i 2).val)
      (cutTile (BitVec.ofNat 32 (i 2).val) (lastTile i (BitVec.ofNat 32 r.val))
        (blockTile arg3 harg3 arg4 harg4 arg5 harg5 x0 x1 x2 o4 o5 hk hv)) := by
  rw [lastTile_eq]
  exact isTile_cut arg3 harg3 arg4 harg4 arg5 harg5 x0 x1 x2 ⟨(i 2).val, (i 2).isLt⟩ o4 o5 h4 h5 hk hv

/-- The state after the tail's tiles, when they reach up to the last tile. -/
theorem tail_holds (ts : List (Tile Ideal)) (h : Tiles (S x0 x1 (i 2).val) (V x2) (256 * (4 * ((i 2).val / 4))) ts)
    (hl : 4 * ((i 2).val / 4) + ts.length = (i 2).val + 1) :
    Holds (S x0 x1 (i 2).val) (V x2) (256 * ((i 2).val + 1))
      (group ts (blockSt i arg3 harg3 arg4 harg4 arg5 harg5 x0 x1 x2)) := by
  rw [← hl, Nat.mul_add]
  exact group_holds _ _ ts _ _ h (block_holds arg3 harg3 arg4 harg4 arg5 harg5 x0 x1 x2 i)

/-- All tiles, when the tail is the masked tile alone. -/
theorem holds_A (hi : (i 2).val % 4 = 0)
    (hk : ∀ a, k0_off5 i a + S1x1x256x128.size a ≤ S1x32x256x128.size a)
    (hv : ∀ a, k0_off6 i a + S1x1x64x256.size a ≤ S1x32x64x256.size a) :
    Holds (S x0 x1 (i 2).val) (V x2) (256 * ((i 2).val + 1))
      (group [cutTile (BitVec.ofNat 32 (i 2).val) (lastTile i 0#32)
        (blockTile arg3 harg3 arg4 harg4 arg5 harg5 x0 x1 x2 (k0_off5 i) (k0_off6 i) hk hv)]
        (blockSt i arg3 harg3 arg4 harg4 arg5 harg5 x0 x1 x2)) := by
  refine tail_holds arg3 harg3 arg4 harg4 arg5 harg5 x0 x1 x2 i _ ⟨?_, trivial⟩ (by simp only [List.length]; omega)
  have hc := cut_holds arg3 harg3 arg4 harg4 arg5 harg5 x0 x1 x2 i 0 _ _ (off5_eq i) (off6_eq i ▸ off5_eq i) hk hv
  rw [show 4 * ((i 2).val / 4) = (i 2).val by omega]
  exact hc

/-- All tiles, when one whole tile is left before the masked one. -/
theorem holds_B (hi : (i 2).val % 4 = 1)
    (hk : ∀ (r : Fin 2) (a : Fin 4), k0_off7 i (BitVec.ofNat 32 r.val) a + S1x1x256x128.size a ≤ S1x32x256x128.size a)
    (hv : ∀ (r : Fin 2) (a : Fin 4), k0_off8 i (BitVec.ofNat 32 r.val) a + S1x1x64x256.size a ≤ S1x32x64x256.size a) :
    Holds (S x0 x1 (i 2).val) (V x2) (256 * ((i 2).val + 1))
      (group [blockTile arg3 harg3 arg4 harg4 arg5 harg5 x0 x1 x2 (k0_off7 i 0#32) (k0_off8 i 0#32) (hk 0) (hv 0),
        cutTile (BitVec.ofNat 32 (i 2).val) (lastTile i 1#32)
          (blockTile arg3 harg3 arg4 harg4 arg5 harg5 x0 x1 x2 (k0_off7 i 1#32) (k0_off8 i 1#32) (hk 1) (hv 1))]
        (blockSt i arg3 harg3 arg4 harg4 arg5 harg5 x0 x1 x2)) := by
  have hq : (i 2).val < 32 := (i 2).isLt
  have e : 4 * ((i 2).val / 4) = (i 2).val - 1 := by omega
  refine tail_holds arg3 harg3 arg4 harg4 arg5 harg5 x0 x1 x2 i _ ⟨?_, ?_, trivial⟩ (by simp only [List.length]; omega)
  · exact isTile_whole arg3 harg3 arg4 harg4 arg5 harg5 x0 x1 x2 _ (4 * ((i 2).val / 4)) hq (by omega) _ _
      ((off7_eq i hi 0).trans (by rw [e]; rfl)) ((off7_eq i hi 0).trans (by rw [e]; rfl)) (hk 0) (hv 0)
  · have e' : (i 2).val - 1 + 1 = (i 2).val := by omega
    have hc := cut_holds arg3 harg3 arg4 harg4 arg5 harg5 x0 x1 x2 i 1 _ _ ((off7_eq i hi 1).trans (by rw [← e']; rfl))
      ((off7_eq i hi 1).trans (by rw [← e']; rfl)) (hk 1) (hv 1)
    rw [show 256 * (4 * ((i 2).val / 4)) + 256 = 256 * (i 2).val by omega]
    exact hc

/-- All tiles, when two whole tiles are left before the masked one. -/
theorem holds_C (hi : (i 2).val % 4 = 2)
    (hk : ∀ (r : Fin 3) (a : Fin 4), k0_off9 i (BitVec.ofNat 32 r.val) a + S1x1x256x128.size a ≤ S1x32x256x128.size a)
    (hv : ∀ (r : Fin 3) (a : Fin 4), k0_off10 i (BitVec.ofNat 32 r.val) a + S1x1x64x256.size a ≤ S1x32x64x256.size a) :
    Holds (S x0 x1 (i 2).val) (V x2) (256 * ((i 2).val + 1))
      (group [blockTile arg3 harg3 arg4 harg4 arg5 harg5 x0 x1 x2 (k0_off9 i 0#32) (k0_off10 i 0#32) (hk 0) (hv 0),
        blockTile arg3 harg3 arg4 harg4 arg5 harg5 x0 x1 x2 (k0_off9 i 1#32) (k0_off10 i 1#32) (hk 1) (hv 1),
        cutTile (BitVec.ofNat 32 (i 2).val) (lastTile i 2#32)
          (blockTile arg3 harg3 arg4 harg4 arg5 harg5 x0 x1 x2 (k0_off9 i 2#32) (k0_off10 i 2#32) (hk 2) (hv 2))]
        (blockSt i arg3 harg3 arg4 harg4 arg5 harg5 x0 x1 x2)) := by
  have hq : (i 2).val < 32 := (i 2).isLt
  have e : 4 * ((i 2).val / 4) = (i 2).val - 2 := by omega
  refine tail_holds arg3 harg3 arg4 harg4 arg5 harg5 x0 x1 x2 i _ ⟨?_, ?_, ?_, trivial⟩ (by simp only [List.length]; omega)
  · exact isTile_whole arg3 harg3 arg4 harg4 arg5 harg5 x0 x1 x2 _ (4 * ((i 2).val / 4)) hq (by omega) _ _
      ((off9_eq i hi 0).trans (by rw [e]; rfl)) ((off9_eq i hi 0).trans (by rw [e]; rfl)) (hk 0) (hv 0)
  · exact isTile_whole arg3 harg3 arg4 harg4 arg5 harg5 x0 x1 x2 _ (4 * ((i 2).val / 4) + 1) hq (by omega) _ _
      ((off9_eq i hi 1).trans (by rw [e]; rfl)) ((off9_eq i hi 1).trans (by rw [e]; rfl)) (hk 1) (hv 1)
  · have e' : (i 2).val - 2 + 2 = (i 2).val := by omega
    have hc := cut_holds arg3 harg3 arg4 harg4 arg5 harg5 x0 x1 x2 i 2 _ _ ((off9_eq i hi 2).trans (by rw [← e']; rfl))
      ((off9_eq i hi 2).trans (by rw [← e']; rfl)) (hk 2) (hv 2)
    rw [show 256 * (4 * ((i 2).val / 4)) + 256 + 256 = 256 * (i 2).val by omega]
    exact hc

/-- All tiles, when three whole tiles are left before the masked one. -/
theorem holds_D (hi : (i 2).val % 4 = 3)
    (hk : ∀ (r : Fin 4) (a : Fin 4), k0_off11 i (BitVec.ofNat 32 r.val) a + S1x1x256x128.size a ≤ S1x32x256x128.size a)
    (hv : ∀ (r : Fin 4) (a : Fin 4), k0_off12 i (BitVec.ofNat 32 r.val) a + S1x1x64x256.size a ≤ S1x32x64x256.size a) :
    Holds (S x0 x1 (i 2).val) (V x2) (256 * ((i 2).val + 1))
      (group [blockTile arg3 harg3 arg4 harg4 arg5 harg5 x0 x1 x2 (k0_off11 i 0#32) (k0_off12 i 0#32) (hk 0) (hv 0),
        blockTile arg3 harg3 arg4 harg4 arg5 harg5 x0 x1 x2 (k0_off11 i 1#32) (k0_off12 i 1#32) (hk 1) (hv 1),
        blockTile arg3 harg3 arg4 harg4 arg5 harg5 x0 x1 x2 (k0_off11 i 2#32) (k0_off12 i 2#32) (hk 2) (hv 2),
        cutTile (BitVec.ofNat 32 (i 2).val) (lastTile i 3#32)
          (blockTile arg3 harg3 arg4 harg4 arg5 harg5 x0 x1 x2 (k0_off11 i 3#32) (k0_off12 i 3#32) (hk 3) (hv 3))]
        (blockSt i arg3 harg3 arg4 harg4 arg5 harg5 x0 x1 x2)) := by
  have hq : (i 2).val < 32 := (i 2).isLt
  have e : 4 * ((i 2).val / 4) = (i 2).val - 3 := by omega
  refine tail_holds arg3 harg3 arg4 harg4 arg5 harg5 x0 x1 x2 i _ ⟨?_, ?_, ?_, ?_, trivial⟩ (by simp only [List.length]; omega)
  · exact isTile_whole arg3 harg3 arg4 harg4 arg5 harg5 x0 x1 x2 _ (4 * ((i 2).val / 4)) hq (by omega) _ _
      ((off11_eq i hi 0).trans (by rw [e]; rfl)) ((off11_eq i hi 0).trans (by rw [e]; rfl)) (hk 0) (hv 0)
  · exact isTile_whole arg3 harg3 arg4 harg4 arg5 harg5 x0 x1 x2 _ (4 * ((i 2).val / 4) + 1) hq (by omega) _ _
      ((off11_eq i hi 1).trans (by rw [e]; rfl)) ((off11_eq i hi 1).trans (by rw [e]; rfl)) (hk 1) (hv 1)
  · exact isTile_whole arg3 harg3 arg4 harg4 arg5 harg5 x0 x1 x2 _ (4 * ((i 2).val / 4) + 2) hq (by omega) _ _
      ((off11_eq i hi 2).trans (by rw [e]; rfl)) ((off11_eq i hi 2).trans (by rw [e]; rfl)) (hk 2) (hv 2)
  · have e' : (i 2).val - 3 + 3 = (i 2).val := by omega
    have hc := cut_holds arg3 harg3 arg4 harg4 arg5 harg5 x0 x1 x2 i 3 _ _ ((off11_eq i hi 3).trans (by rw [← e']; rfl))
      ((off11_eq i hi 3).trans (by rw [← e']; rfl)) (hk 3) (hv 3)
    rw [show 256 * (4 * ((i 2).val / 4)) + 256 + 256 + 256 = 256 * (i 2).val by omega]
    exact hc

end Cert.Kernel3Ideal.Val
-- ==== Proof.FoxOut.lean ====
/-
  The output block: what one grid point's stores leave at an index, as a quotient of its final sums.
-/
module

public import proofs.«01_k».proof.Proof.FoxBlock
public import Idealize.ShloMosaic.Lib.WritesUnit

@[expose] public section

set_option maxRecDepth 16384

noncomputable section

open Idealize.ShloMosaic Idealize.ShloMosaic.TcCoe Idealize.SL.Sem

namespace Cert.Kernel3Ideal.Val

open Cert.Kernel3Ideal Cert.Kernel3Ideal.Gen Cert.Online

/-- The two slices of the output block hold the quotients of the two heads' query columns. -/
theorem outPieces_apply (f : BufTy.Contents (Elt Ideal) VO0_3.ty) (l : FVec Ideal S1x512 .f32) (a : FVec Ideal S64x512 .f32)
    (x : Fin 128) (r : Fin 256) :
    VO0_3.read (Elt Ideal) (VO0_3.writes (Elt Ideal) f (outPieces l a)) (ix3 0 x r)
      = Ideal.div (a (ix2 ⟨x.val % 64, by omega⟩ ⟨x.val / 64 * 256 + r.val, by omega⟩))
          (l (ix2 0 ⟨x.val / 64 * 256 + r.val, by omega⟩)) := by
  have e : ∀ (d d' : Fin 64) (c c' : Fin 512), d.val = d'.val → c.val = c'.val →
      Ideal.div (a (ix2 d c)) (l (ix2 0 c)) = Ideal.div (a (ix2 d' c')) (l (ix2 0 c')) := by
    intro d d' c c' h h'
    rw [Fin.ext h, Fin.ext h']
  have hx := x.isLt
  have hr := r.isLt
  unfold outPieces
  by_cases h1 : 64 ≤ x.val
  · refine (View.read_writes_cons_unit_of_mem VO0_3 f _ _ _ _ (ix3 0 (⟨x.val - 64, by omega⟩ : Fin 64) r) rfl ?_).trans ?_
    · intro b; fin_cases b <;> simp <;> omega
    · pointwise [k0_pay1, k0_pay88]
      refine e _ _ _ _ ?_ ?_ <;> simp only <;> omega
  refine (View.read_writes_cons_unit_of_not_mem VO0_3 f _ _ _ _ rfl 1 (Or.inl (by show x.val < 64; omega))).trans ?_
  refine (View.read_writes_cons_unit_of_mem VO0_3 f _ _ _ _ (ix3 0 (⟨x.val, by omega⟩ : Fin 64) r) rfl ?_).trans ?_
  · intro b; fin_cases b <;> simp
  · pointwise [k0_pay89, k0_pay88]
    refine e _ _ _ _ ?_ ?_ <;> simp only <;> omega

variable (c : Dev nD) (i : grid0.Coords) (arg3 : Memref sig .tc .vmem S1x256x256 .bf16)
  (harg3 : arg3.IsWhole) (arg4 : Memref sig .tc .vmem S1x32x256x128 .bf16) (harg4 : arg4.IsWhole)
  (arg5 : Memref sig .tc .vmem S1x32x64x256 .bf16) (harg5 : arg5.IsWhole)
  (arg6 : Memref sig .tc .vmem S1x128x256 .f32) (harg6 : arg6.IsWhole) (arg7 : Memref sig .tc .vmem S1x512 .f32)
  (harg7 : arg7.IsWhole) (arg8 : Memref sig .tc .vmem S1x512 .f32) (harg8 : arg8.IsWhole)
  (arg9 : Memref sig .tc .vmem S64x512 .f32) (harg9 : arg9.IsWhole)
variable (x0 : Vec Ideal S1x256x256 .bf16) (x1 : Vec Ideal S1x32x256x128 .bf16) (x2 : Vec Ideal S1x32x64x256 .bf16)

/-- An output block of quotients of the sums over all keys up to the end of the last tile. -/
def IsBlock (q : ℕ) (o : Vec Ideal S1x128x256 .f32) : Prop :=
  ∀ (x : Fin 128) (r : Fin 256), ∃ m l a,
    Seen (S x0 x1 q ⟨x.val / 64 * 256 + r.val, by omega⟩) (V x2 ⟨x.val % 64, by omega⟩) (256 * (q + 1)) m l a
      ∧ o (ix3 0 x r) = Ideal.div a l

/-- The two stores of a state that holds leave such a block. -/
theorem isBlock_of_holds (q : ℕ) (s : St Ideal) (h : Holds (S x0 x1 q) (V x2) (256 * (q + 1)) s)
    (f : BufTy.Contents (Elt Ideal) VO0_3.ty) :
    IsBlock x0 x1 x2 q (VO0_3.read (Elt Ideal) (VO0_3.writes (Elt Ideal) f (outPieces s.l s.a))) :=
  fun x r => ⟨_, _, _, h ⟨x.val / 64 * 256 + r.val, by omega⟩ ⟨x.val % 64, by omega⟩, outPieces_apply f s.l s.a x r⟩

/-- The output block when the tail is one masked tile. -/
theorem out_A (hc0 : cond0_0 i) (hc1 : ¬cond0_1 i) (hc2 : ¬cond0_2 i) (hc3 : ¬cond0_3 i)
    (hi : (i 2).val % 4 = 0) :
    IsBlock x0 x1 x2 (i 2).val (out0_A_3 c i arg3 harg3 arg4 harg4 arg5 harg5 arg6 harg6 arg7 harg7 arg8 harg8 arg9 harg9
      hc0 hc1 hc2 hc3 x0 x1 x2) := by
  unfold out0_A_3
  rw [run_A c i arg3 harg3 arg4 harg4 arg5 harg5 arg6 harg6 arg7 harg7 arg8 harg8 arg9 harg9 x0 x1 x2 hc0 hc1 hc2 hc3
    (k0_off5_inb i hc0) (k0_off6_inb i hc0)]
  exact isBlock_of_holds x0 x1 x2 _ _ (holds_A arg3 harg3 arg4 harg4 arg5 harg5 x0 x1 x2 i hi
    (k0_off5_inb i hc0) (k0_off6_inb i hc0)) _

/-- The output block when the tail is one whole tile and the masked one. -/
theorem out_B (hc0 : ¬cond0_0 i) (hc1 : cond0_1 i) (hc2 : ¬cond0_2 i) (hc3 : ¬cond0_3 i)
    (hi : (i 2).val % 4 = 1) :
    IsBlock x0 x1 x2 (i 2).val (out0_B_3 c i arg3 harg3 arg4 harg4 arg5 harg5 arg6 harg6 arg7 harg7 arg8 harg8 arg9 harg9
      hc0 hc1 hc2 hc3 x0 x1 x2) := by
  unfold out0_B_3
  rw [run_B c i arg3 harg3 arg4 harg4 arg5 harg5 arg6 harg6 arg7 harg7 arg8 harg8 arg9 harg9 x0 x1 x2 hc0 hc1 hc2 hc3
    (fun r a => k0_off7_inb i hc1 r a) (fun r a => k0_off8_inb i hc1 r a)]
  exact isBlock_of_holds x0 x1 x2 _ _ (holds_B arg3 harg3 arg4 harg4 arg5 harg5 x0 x1 x2 i hi
    (fun r a => k0_off7_inb i hc1 r a) (fun r a => k0_off8_inb i hc1 r a)) _

/-- The output block when the tail is two whole tiles and the masked one. -/
theorem out_C (hc0 : ¬cond0_0 i) (hc1 : ¬cond0_1 i) (hc2 : cond0_2 i) (hc3 : ¬cond0_3 i)
    (hi : (i 2).val % 4 = 2) :
    IsBlock x0 x1 x2 (i 2).val (out0_C_3 c i arg3 harg3 arg4 harg4 arg5 harg5 arg6 harg6 arg7 harg7 arg8 harg8 arg9 harg9
      hc0 hc1 hc2 hc3 x0 x1 x2) := by
  unfold out0_C_3
  rw [run_C c i arg3 harg3 arg4 harg4 arg5 harg5 arg6 harg6 arg7 harg7 arg8 harg8 arg9 harg9 x0 x1 x2 hc0 hc1 hc2 hc3
    (fun r a => k0_off9_inb i hc2 r a) (fun r a => k0_off10_inb i hc2 r a)]
  exact isBlock_of_holds x0 x1 x2 _ _ (holds_C arg3 harg3 arg4 harg4 arg5 harg5 x0 x1 x2 i hi
    (fun r a => k0_off9_inb i hc2 r a) (fun r a => k0_off10_inb i hc2 r a)) _

/-- The output block when the tail is three whole tiles and the masked one. -/
theorem out_D (hc0 : ¬cond0_0 i) (hc1 : ¬cond0_1 i) (hc2 : ¬cond0_2 i) (hc3 : cond0_3 i)
    (hi : (i 2).val % 4 = 3) :
    IsBlock x0 x1 x2 (i 2).val (out0_D_3 c i arg3 harg3 arg4 harg4 arg5 harg5 arg6 harg6 arg7 harg7 arg8 harg8 arg9 harg9
      hc0 hc1 hc2 hc3 x0 x1 x2) := by
  unfold out0_D_3
  rw [run_D c i arg3 harg3 arg4 harg4 arg5 harg5 arg6 harg6 arg7 harg7 arg8 harg8 arg9 harg9 x0 x1 x2 hc0 hc1 hc2 hc3
    (fun r a => k0_off11_inb i hc3 r a) (fun r a => k0_off12_inb i hc3 r a)]
  exact isBlock_of_holds x0 x1 x2 _ _ (holds_D arg3 harg3 arg4 harg4 arg5 harg5 x0 x1 x2 i hi
    (fun r a => k0_off11_inb i hc3 r a) (fun r a => k0_off12_inb i hc3 r a)) _

end Cert.Kernel3Ideal.Val
-- ==== Proof.FoxArray.lean ====
/-
  The output array: every grid point's block placed in it, read back at an index.
-/
module

public import proofs.«01_k».proof.Proof.FoxOut
public import proofs.«01_k».proof.Proof.Gen.Kernel3Ideal.Value
public import Idealize.ShloMosaic.Lib.Pipeline.ValueKit.Geometry

@[expose] public section

set_option maxRecDepth 16384

noncomputable section

open Idealize.ShloMosaic Idealize.ShloMosaic.TcCoe Idealize.SL.Sem
open Idealize.ShloMosaic.Pipeline (Dat)

namespace Cert.Kernel3Ideal.Val

open Cert.Kernel3Ideal Cert.Kernel3Ideal.Gen Cert.Online

variable (m : (ℓ : Loc nD τ sig) → Buf (Elt Ideal) ℓ)

/-- The windows' block indices at a grid point. -/
theorem idx (t : Fin cfg0.N) :
    win0_0.index t = ![t.val / 64, t.val % 32, t.val % 64 / 32] ∧ win0_1.index t = ![t.val / 64, 0, 0, t.val % 64 / 32]
      ∧ win0_2.index t = ![t.val / 64, 0, t.val % 64 / 32, 0] ∧ win0_3.index t = ![t.val / 64, t.val % 64 / 32, t.val % 32]
      ∧ (grid0.coords t 2).val = t.val % 32 := by
  revert t
  decide +kernel

/-- What a grid point leaves: quotients of the sums over its keys. -/
theorem block_out (c : Dev nD) (t : Fin cfg0.N) :
    IsBlock (iblk m c 0 t) (iblk m c 1 t) (iblk m c 2 t) (t.val % 32) (outsAt0 m c t.val t.isLt) := by
  have hq := (idx t).2.2.2.2
  have hm : (grid0.coords t 2).val % 4 = t.val % 4 := by omega
  rw [← hq]
  by_cases h0 : t.val % 4 = 0
  · rw [outsAt0_A m c t h0 (by omega) (by omega) (by omega)]
    exact out_A _ _ _ _ _ _ _ _ _ _ _ _ _ _ _ _ _ _ _ _ _ _ _ (by omega)
  by_cases h1 : t.val % 4 = 1
  · rw [outsAt0_B m c t h0 h1 (by omega) (by omega)]
    exact out_B _ _ _ _ _ _ _ _ _ _ _ _ _ _ _ _ _ _ _ _ _ _ _ (by omega)
  by_cases h2 : t.val % 4 = 2
  · rw [outsAt0_C m c t h0 h1 h2 (by omega)]
    exact out_C _ _ _ _ _ _ _ _ _ _ _ _ _ _ _ _ _ _ _ _ _ _ _ (by omega)
  · rw [outsAt0_D m c t h0 h1 h2 (by omega)]
    exact out_D _ _ _ _ _ _ _ _ _ _ _ _ _ _ _ _ _ _ _ _ _ _ _ (by omega)

variable (A0 : Vec Ideal S4x8192x512 .bf16) (A1 : Vec Ideal S4x32x256x256 .bf16) (A2 : Vec Ideal S4x32x128x256 .bf16)

/-- The score of key `n` for query `s` of head `h` in batch `b`: `⊥` for a later key. Two heads share a key. -/
def score' (b : Fin 4) (h : Fin 4) (s : Fin 8192) (n : ℕ) : EReal :=
  if n ≤ s.val then
    ∑ f : Fin 128, A1 (ix4 b ⟨n / 256 % 32, by omega⟩ ⟨n % 256, by omega⟩ ⟨h.val / 2 * 128 + f.val, by omega⟩)
      * A0 (ix3 b s ⟨h.val * 128 + f.val, by omega⟩)
  else ⊥

/-- Coordinate `d` of key `n`'s value for head `h` in batch `b`. -/
def value' (b : Fin 4) (h : Fin 4) (d : Fin 64) (n : ℕ) : EReal :=
  A2 (ix4 b ⟨n / 256 % 32, by omega⟩ ⟨h.val / 2 * 64 + d.val, by omega⟩ ⟨n % 256, by omega⟩)

/-- The attention of query `s` of head `h` in batch `b`, at value coordinate `d`: the values weighed by the softmax of the scores. -/
def soft (b : Fin 4) (h : Fin 4) (d : Fin 64) (s : Fin 8192) : EReal :=
  ∑ k ∈ Finset.range 8192, value' A2 b h d k
    * Ideal.div (Ideal.exp (score' A0 A1 b h s k - top (score' A0 A1 b h s) 8192))
      (max (∑ k ∈ Finset.range 8192, Ideal.exp (score' A0 A1 b h s k - top (score' A0 A1 b h s) 8192))
        (Ideal.ofBits .f32 0x0DA24260#32))

/-- A grid point's queries in their array. -/
theorem iblk0 (c : Dev nD) (t : Fin cfg0.N) (b : Fin 4) (hb : b.val = t.val / 64) (r g : Fin 256) :
    iblk m c 0 t (ix3 0 r g) = m ((c : Thread nD τ).loc main_arg0)
      (ix3 b (⟨t.val % 32 * 256 + r.val, by omega⟩ : Fin 8192) (⟨t.val % 64 / 32 * 256 + g.val, by omega⟩ : Fin 512)) := by
  have e := (idx t).1
  blk_ext [iblk, V, e]

/-- A grid point's keys in their array. -/
theorem iblk1 (c : Dev nD) (t : Fin cfg0.N) (b : Fin 4) (hb : b.val = t.val / 64) (n : Fin 32) (j : Fin 256) (f : Fin 128) :
    iblk m c 1 t (ix4 0 n j f) = m ((c : Thread nD τ).loc main_arg1)
      (ix4 b n j (⟨t.val % 64 / 32 * 128 + f.val, by omega⟩ : Fin 256)) := by
  have e := (idx t).2.1
  blk_ext [iblk, V, e]

/-- A grid point's values in their array. -/
theorem iblk2 (c : Dev nD) (t : Fin cfg0.N) (b : Fin 4) (hb : b.val = t.val / 64) (n : Fin 32) (d : Fin 64) (j : Fin 256) :
    iblk m c 2 t (ix4 0 n d j) = m ((c : Thread nD τ).loc main_arg2)
      (ix4 b n (⟨t.val % 64 / 32 * 64 + d.val, by omega⟩ : Fin 128) j) := by
  have e := (idx t).2.2.1
  blk_ext [iblk, V, e]

/-- A grid point's scores are its queries' scores. -/
theorem S_eq (c : Dev nD) (t : Fin cfg0.N) (b : Fin 4) (hb : b.val = t.val / 64) (x : Fin 128) (r : Fin 256) :
    S (iblk m c 0 t) (iblk m c 1 t) (t.val % 32) ⟨x.val / 64 * 256 + r.val, by omega⟩
      = score' (m ((c : Thread nD τ).loc main_arg0)) (m ((c : Thread nD τ).loc main_arg1)) b
        ⟨t.val % 64 / 32 * 2 + x.val / 64, by omega⟩ ⟨t.val % 32 * 256 + r.val, by omega⟩ := by
  funext n
  unfold S score'
  refine if_congr (by simp only; omega) (Finset.sum_congr rfl fun f _ => ?_) rfl
  rw [iblk0 m c t b hb, iblk1 m c t b hb]
  have e1 : (⟨t.val % 32 * 256 + (x.val / 64 * 256 + r.val) % 256, by omega⟩ : Fin 8192) = ⟨t.val % 32 * 256 + r.val, by omega⟩ :=
    Fin.ext (by simp only; omega)
  have e2 : (⟨t.val % 64 / 32 * 256 + ((x.val / 64 * 256 + r.val) / 256 * 128 + f.val), by omega⟩ : Fin 512)
      = ⟨(t.val % 64 / 32 * 2 + x.val / 64) * 128 + f.val, by omega⟩ := Fin.ext (by simp only; omega)
  have e3 : (⟨t.val % 64 / 32 * 128 + f.val, by omega⟩ : Fin 256)
      = ⟨(t.val % 64 / 32 * 2 + x.val / 64) / 2 * 128 + f.val, by omega⟩ := Fin.ext (by simp only; omega)
  simp only [e1, e2, e3]

/-- A grid point's values are its heads' values. -/
theorem V_eq (c : Dev nD) (t : Fin cfg0.N) (b : Fin 4) (hb : b.val = t.val / 64) (x : Fin 128) :
    Val.V (iblk m c 2 t) ⟨x.val % 64, by omega⟩ = value' (m ((c : Thread nD τ).loc main_arg2)) b
      ⟨t.val % 64 / 32 * 2 + x.val / 64, by omega⟩ ⟨x.val % 64, by omega⟩ := by
  funext n
  unfold Val.V value'
  rw [iblk2 m c t b hb]
  have e : (⟨t.val % 64 / 32 * 64 + x.val % 64, by omega⟩ : Fin 128)
      = ⟨(t.val % 64 / 32 * 2 + x.val / 64) / 2 * 64 + x.val % 64, by omega⟩ := Fin.ext (by simp only; omega)
  simp only [e]

/-- Finite queries and keys have scores below `⊤`, and a query's score of key `0` is not `⊥`. -/
theorem score_finite (h0 : ∀ y, A0 y ≠ ⊥ ∧ A0 y ≠ ⊤) (h1 : ∀ y, A1 y ≠ ⊥ ∧ A1 y ≠ ⊤) (b h : Fin 4) (s : Fin 8192) :
    score' A0 A1 b h s 0 ≠ ⊥ ∧ ∀ n, score' A0 A1 b h s n ≠ ⊤ := by
  have key : ∀ n : ℕ, ∃ x : ℝ,
      (∑ f : Fin 128, A1 (ix4 b ⟨n / 256 % 32, by omega⟩ ⟨n % 256, by omega⟩ ⟨h.val / 2 * 128 + f.val, by omega⟩)
        * A0 (ix3 b s ⟨h.val * 128 + f.val, by omega⟩)) = (x : EReal) :=
    fun n => real_sum _ _ (fun _ => h1 _) fun _ => h0 _
  refine ⟨?_, fun n => ?_⟩
  · obtain ⟨x, hx⟩ := key 0
    rw [score', if_pos (Nat.zero_le _), hx]
    exact EReal.coe_ne_bot x
  · obtain ⟨x, hx⟩ := key n
    unfold score'
    split_ifs
    · rw [hx]; exact EReal.coe_ne_top x
    · exact bot_ne_top

/-- The array of the attention. -/
def softArr : Vec Ideal S4x256x8192 .f32 :=
  fun y => soft A0 A1 A2 (y 0) ⟨(y 1).val / 64, by have : (y 1).val < 256 := (y 1).isLt; omega⟩ ⟨(y 1).val % 64, by omega⟩ (y 2)

/-- The kernel's result array is the attention of its arguments. -/
theorem final (c : Dev nD) (h0 : ∀ y, m ((c : Thread nD τ).loc main_arg0) y ≠ (⊥ : EReal) ∧ m ((c : Thread nD τ).loc main_arg0) y ≠ (⊤ : EReal))
    (h1 : ∀ y, m ((c : Thread nD τ).loc main_arg1) y ≠ (⊥ : EReal) ∧ m ((c : Thread nD τ).loc main_arg1) y ≠ (⊤ : EReal)) :
    (dats m 0 c).arrAt 3 cfg0.N = softArr (m ((c : Thread nD τ).loc main_arg0)) (m ((c : Thread nD τ).loc main_arg1))
      (m ((c : Thread nD τ).loc main_arg2)) := by
  refine (dats m 0 c).arrAt_eq_of_covers 3 _ (by decide +kernel) fun t hf y => ?_
  blk_simp
  rw [after0_3]
  have ht : t.val < 256 := lt_of_lt_of_eq t.isLt N_0
  obtain ⟨x, r, rfl⟩ : ∃ (x : Fin 128) (r : Fin 256), y = (ix3 0 x r : S1x128x256.Idx) :=
    ⟨y 1, y 2, (eq_ix3 y).trans (congrArg (fun a => ix3 a (y 1) (y 2)) (Subsingleton.elim (α := Fin 1) _ _))⟩
  have e := (idx t).2.2.2.1
  have hx := x.isLt
  have hr := r.isLt
  have hy : (win0_3.blk t).view.emb (ix3 0 x r : S1x128x256.Idx)
      = (ix3 (⟨t.val / 64, by omega⟩ : Fin 4) (⟨t.val % 64 / 32 * 128 + x.val, by omega⟩ : Fin 256)
          (⟨t.val % 32 * 256 + r.val, by omega⟩ : Fin 8192) : S4x256x8192.Idx) := by
    blk_ext [e]
  rw [hy]
  obtain ⟨M, l, a, hs, ho⟩ := block_out m c t x r
  refine ho.trans ?_
  rw [S_eq m c t ⟨t.val / 64, by omega⟩ rfl, V_eq m c t ⟨t.val / 64, by omega⟩ rfl] at hs
  have hf := score_finite (m ((c : Thread nD τ).loc main_arg0)) (m ((c : Thread nD τ).loc main_arg1)) h0 h1 ⟨t.val / 64, by omega⟩
    ⟨t.val % 64 / 32 * 2 + x.val / 64, by omega⟩ ⟨t.val % 32 * 256 + r.val, by omega⟩
  have hs' := hs.extend (K := 8192) (by omega) fun k hk => by
    unfold score'
    rw [if_neg (by simp only; omega)]
  rw [hs'.quotient (by omega) hf.1 hf.2 tiny_le, hs'.hl, hs'.hm]
  unfold softArr
  have e1 : (⟨(t.val % 64 / 32 * 128 + x.val) / 64, by omega⟩ : Fin 4) = ⟨t.val % 64 / 32 * 2 + x.val / 64, by omega⟩ :=
    Fin.ext (by simp only; omega)
  have e2 : (⟨(t.val % 64 / 32 * 128 + x.val) % 64, by omega⟩ : Fin 64) = ⟨x.val % 64, by omega⟩ :=
    Fin.ext (by simp only; omega)
  refine Eq.trans ?_ (show soft _ _ _ ⟨t.val / 64, by omega⟩ ⟨(t.val % 64 / 32 * 128 + x.val) / 64, by omega⟩
    ⟨(t.val % 64 / 32 * 128 + x.val) % 64, by omega⟩ ⟨t.val % 32 * 256 + r.val, by omega⟩ = _ from rfl)
  rw [e1, e2]
  rfl

end Cert.Kernel3Ideal.Val
-- ==== Proof.FoxRef.lean ====
/-
  The forgetting attention's reference: its scores, softmax and weighted values, read at an index.
-/
module

public import proofs.«01_k».proof.Proof.FoxArray
public import proofs.«01_k».proof.Proof.Ref
public import proofs.«01_k».proof.Proof.Gen.Reference3Ideal
public import proofs.«01_k».proof.Proof.Gen.Reference3Ideal.Run
public import Idealize.ShloMosaic.Lib.Pointwise

@[expose] public section

set_option maxRecDepth 16384

noncomputable section

open Idealize.ShloMosaic Idealize.ShloMosaic.TcCoe Idealize.SL.Sem

namespace Cert.Reference3Ideal.Val

open Cert.Reference3Ideal Cert.Reference3Ideal.Facts Cert.Reference3Ideal.Gen Cert.Online Cert.Kernel3Ideal.Val

variable (A0 : FVec Ideal S4x8192x512 .bf16) (A1 : FVec Ideal S4x32x256x256 .bf16) (A2 : FVec Ideal S4x32x128x256 .bf16)

/-- A key no later than the query. -/
def seen : IVec S4x2x2x8192x8192 1 :=
  broadcastInDim S4x2x2x8192x8192 ![3, 4] bcast_S8192x8192_S4x2x2x8192x8192_3_4
    (cmpi .sge (broadcastInDim S8192x8192 ![0, 1] bcast_S8192x1_S8192x8192_0_1 (broadcastInDim S8192x1 ![0] bcast_S8192_S8192x1_0 (iotaInDim S8192 32 0)))
      (broadcastInDim S8192x8192 ![0, 1] bcast_S1x8192_S8192x8192_0_1 (broadcastInDim S1x8192 ![1] bcast_S8192_S1x8192_1 (iotaInDim S8192 32 0))))

/-- The masked scores. -/
def scores : FVec Ideal S4x2x2x8192x8192 .f32 :=
  select seen
    (transpose S4x2x2x8192x8192 [0, 1, 4, 3, 2] (Host.dotGeneral dot_S4x8192x2x128_S4x8192x2x2x128_S4x2x8192x8192x2_3_4_1_13_02_02 none
      (shapeCast _ (extf .f32 A1 bitsLt_bf16_f32) shapeCasts_S4x32x256x256_S4x8192x2x128)
      (shapeCast _ (extf .f32 A0 bitsLt_bf16_f32) shapeCasts_S4x8192x512_S4x8192x2x2x128)) transposes_S4x2x8192x8192x2_S4x2x2x8192x8192_0_1_4_3_2)
    (broadcastInDim S4x2x2x8192x8192 ![] bcast_S_S4x2x2x8192x8192 (id (constant S_ .f32 0xFF800000#32)))

/-- The largest score of each query. -/
def largest (s : FVec Ideal S4x2x2x8192x8192 .f32) : FVec Ideal S4x2x2x8192 .f32 :=
  Host.reduce FloatOps.maximumf s (constant S_ .f32 0xFF800000#32) reducesTo_S4x2x2x8192x8192_S4x2x2x8192_d4 h_S_

/-- The exponentials of the scores less the largest. -/
def exps (s : FVec Ideal S4x2x2x8192x8192 .f32) : FVec Ideal S4x2x2x8192x8192 .f32 :=
  select seen (Host.exp (subf s (broadcastInDim S4x2x2x8192x8192 ![0, 1, 2, 3, 4] bcast_S4x2x2x8192x1_S4x2x2x8192x8192_0_1_2_3_4
    (broadcastInDim S4x2x2x8192x1 ![0, 1, 2, 3] bcast_S4x2x2x8192_S4x2x2x8192x1_0_1_2_3 (largest s)))))
    (broadcastInDim S4x2x2x8192x8192 ![] bcast_S_S4x2x2x8192x8192 (id (constant S_ .f32 0x00000000#32)))

/-- The exponentials over their floored sum. -/
def probs (e : FVec Ideal S4x2x2x8192x8192 .f32) : FVec Ideal S4x2x2x8192x8192 .f32 :=
  Host.divf e (broadcastInDim S4x2x2x8192x8192 ![0, 1, 2, 3, 4] bcast_S4x2x2x8192x1_S4x2x2x8192x8192_0_1_2_3_4
    (maximumf (broadcastInDim S4x2x2x8192x1 ![0, 1, 2, 3] bcast_S4x2x2x8192_S4x2x2x8192x1_0_1_2_3
      (Host.reduceAdd e (constant S_ .f32 0x00000000#32) reducesTo_S4x2x2x8192x8192_S4x2x2x8192_d4 h_S_))
      (broadcastInDim S4x2x2x8192x1 ![] bcast_S_S4x2x2x8192x1 (constant S_ .f32 0x0DA24260#32))))

/-- The weighted values. -/
def weighted (p : FVec Ideal S4x2x2x8192x8192 .f32) : FVec Ideal S4x256x8192 .f32 :=
  shapeCast _ (transpose S4x2x2x64x8192 [0, 1, 3, 2, 4] (Host.dotGeneral dot_S4x8192x2x64_S4x2x2x8192x8192_S4x2x64x2x8192_1_4_3_23_02_01 none
    (shapeCast _ (transpose S4x32x256x128 [0, 1, 3, 2] (extf .f32 A2 bitsLt_bf16_f32) transposes_S4x32x128x256_S4x32x256x128_0_1_3_2)
      shapeCasts_S4x32x256x128_S4x8192x2x64) p) transposes_S4x2x64x2x8192_S4x2x2x64x8192_0_1_3_2_4) shapeCasts_S4x2x2x64x8192_S4x256x8192

/-- The reference is these steps in a row. -/
theorem res_eq (m : (ℓ : Loc nD τ sig) → Buf (Elt Ideal) ℓ) (c : Dev nD) :
    Value.res_main_v30 m c = weighted (m ((c.tc : Thread nD τ).loc main_arg2))
      (probs (exps (scores (m ((c.tc : Thread nD τ).loc main_arg0)) (m ((c.tc : Thread nD τ).loc main_arg1))))) := by
  unfold Value.res_main_v30
  rfl

/-- The mask at a query and a key. -/
theorem seen_apply (b : Fin 4) (k g : Fin 2) (s n : Fin 8192) :
    seen (ix5 b k g s n) = BitVec.ofBool (decide (n.val ≤ s.val)) := by
  pointwise [seen]
  exact Cert.ReferenceIdeal.Val.sge_eq s n

/-- A choice by the mask. -/
theorem select_seen {α : Type} (b : Fin 4) (k g : Fin 2) (s n : Fin 8192) (x y : α) :
    Scalar.select (seen (ix5 b k g s n)) x y = if n.val ≤ s.val then x else y := by
  rw [seen_apply]
  by_cases hc : n.val ≤ s.val
  · rw [if_pos hc, decide_eq_true hc]
    rfl
  · rw [if_neg hc, decide_eq_false hc]
    rfl

/-- The head of a key head `k` and a place `g` among its query heads. -/
def head (k g : Fin 2) : Fin 4 := ⟨k.val * 2 + g.val, by omega⟩

/-- The masked score of a key. -/
theorem scores_apply (b : Fin 4) (k g : Fin 2) (s n : Fin 8192) :
    scores A0 A1 (ix5 b k g s n) = score' A0 A1 b (head k g) s n.val := by
  pointwise [scores]
  rw [select_seen, score']
  refine if_congr Iff.rfl (Finset.sum_congr rfl fun f _ => ?_) ?_
  · have e : (⟨n.val / 256, by omega⟩ : Fin 32) = ⟨n.val / 256 % 32, by omega⟩ := Fin.ext (by simp only; omega)
    have e1 : (⟨k.val * 128 + f.val, by omega⟩ : Fin 256) = ⟨(head k g).val / 2 * 128 + f.val, by unfold head; omega⟩ :=
      Fin.ext (by simp only [head]; omega)
    have e2 : (⟨k.val * 256 + g.val * 128 + f.val, by omega⟩ : Fin 512) = ⟨(head k g).val * 128 + f.val, by unfold head; omega⟩ :=
      Fin.ext (by simp only [head]; omega)
    rw [← e, ← e1, ← e2]
  · show Ideal.ofBits .f32 0xFF800000#32 = ⊥
    simp [Ideal.ofBits, Ideal.ieee]

/-- The largest of a row. -/
theorem largest_apply (x : FVec Ideal S4x2x2x8192x8192 .f32) (b : Fin 4) (k g : Fin 2) (s : Fin 8192) (f : ℕ → EReal)
    (hf : ∀ n : Fin 8192, x (ix5 b k g s n) = f n.val) : largest x (ix4 b k g s) = top f 8192 := by
  pointwise [largest]
  have e : Ideal.ofBits .f32 0xFF800000#32 = ⊥ := by simp [Ideal.ofBits, Ideal.ieee]
  rw [e]
  simp only [hf]
  refine (show _ = Finset.univ.sup fun n : Fin 8192 => f n.val from rfl).trans (le_antisymm ?_ ?_)
  · exact Finset.sup_le fun n _ => le_top f n.isLt
  · exact Finset.sup_le fun k hk => Finset.le_sup (f := fun n : Fin 8192 => f n.val) (Finset.mem_univ ⟨k, Finset.mem_range.mp hk⟩)

/-- An exponential. -/
theorem exps_apply (x : FVec Ideal S4x2x2x8192x8192 .f32) (b : Fin 4) (k g : Fin 2) (s n : Fin 8192) :
    exps x (ix5 b k g s n) = if n.val ≤ s.val then Ideal.exp (x (ix5 b k g s n) - largest x (ix4 b k g s)) else 0 := by
  pointwise [exps]
  rw [select_seen]
  refine if_congr Iff.rfl rfl ?_
  show Ideal.ofBits .f32 0x00000000#32 = 0
  simp [Ideal.ofBits, Ideal.ieee]

/-- A probability. -/
theorem probs_apply (x : FVec Ideal S4x2x2x8192x8192 .f32) (b : Fin 4) (k g : Fin 2) (s n : Fin 8192) :
    probs x (ix5 b k g s n)
      = Ideal.div (x (ix5 b k g s n)) (max (∑ n : Fin 8192, x (ix5 b k g s n)) (Ideal.ofBits .f32 0x0DA24260#32)) := by
  pointwise [probs]

/-- A weighted sum of values. -/
theorem weighted_apply (p : FVec Ideal S4x2x2x8192x8192 .f32) (b : Fin 4) (k g : Fin 2) (d : Fin 64) (s : Fin 8192) :
    weighted A2 p (ix3 b ⟨k.val * 128 + g.val * 64 + d.val, by omega⟩ s)
      = ∑ n : Fin 8192, A2 (ix4 b ⟨n.val / 256, by omega⟩ ⟨k.val * 64 + d.val, by omega⟩ ⟨n.val % 256, by omega⟩)
        * p (ix5 b k g s n) := by
  pointwise [weighted]

/-- The exponentials are those of the scores, zero where the score is `⊥`. -/
theorem exps_scores (b : Fin 4) (k g : Fin 2) (s n : Fin 8192) :
    exps (scores A0 A1) (ix5 b k g s n)
      = Ideal.exp (score' A0 A1 b (head k g) s n.val - top (score' A0 A1 b (head k g) s) 8192) := by
  rw [exps_apply, largest_apply _ b k g s _ (scores_apply A0 A1 b k g s), scores_apply]
  by_cases hc : n.val ≤ s.val
  · rw [if_pos hc]
  · have e : score' A0 A1 b (head k g) s n.val = ⊥ := by rw [score', if_neg hc]
    rw [if_neg hc, e, EReal.bot_sub]
    exact Ideal.exp_bot.symm

/-- The reference's result is the attention of its arguments. -/
theorem res (m : (ℓ : Loc nD τ sig) → Buf (Elt Ideal) ℓ) (c : Dev nD) :
    Value.res_main_v30 m c = softArr (m ((c.tc : Thread nD τ).loc main_arg0)) (m ((c.tc : Thread nD τ).loc main_arg1))
      (m ((c.tc : Thread nD τ).loc main_arg2)) := by
  rw [res_eq]
  funext y
  obtain ⟨b, k, g, d, s, rfl⟩ : ∃ (b : Fin 4) (k g : Fin 2) (d : Fin 64) (s : Fin 8192),
      y = (ix3 b ⟨k.val * 128 + g.val * 64 + d.val, by omega⟩ s : S4x256x8192.Idx) := by
    have h1 : (y 1).val < 256 := (y 1).isLt
    refine ⟨y 0, ⟨(y 1).val / 128, by omega⟩, ⟨(y 1).val / 64 % 2, by omega⟩, ⟨(y 1).val % 64, by omega⟩, y 2, (eq_ix3 y).trans ?_⟩
    exact congrArg (fun a => ix3 (y 0) a (y 2)) (Fin.ext (by simp only; omega))
  rw [weighted_apply]
  have e1 : (⟨(k.val * 128 + g.val * 64 + d.val) / 64, by omega⟩ : Fin 4) = head k g := Fin.ext (by simp only [head]; omega)
  have e2 : (⟨(k.val * 128 + g.val * 64 + d.val) % 64, by omega⟩ : Fin 64) = d := Fin.ext (by simp only; omega)
  refine Eq.trans ?_ (show soft _ _ _ b ⟨(k.val * 128 + g.val * 64 + d.val) / 64, by omega⟩
    ⟨(k.val * 128 + g.val * 64 + d.val) % 64, by omega⟩ s = _ from rfl)
  rw [e1, e2, soft, Finset.sum_range, Finset.sum_range]
  refine Finset.sum_congr rfl fun n _ => ?_
  simp only [probs_apply, exps_scores]
  have e : (⟨n.val / 256, by omega⟩ : Fin 32) = ⟨n.val / 256 % 32, by omega⟩ := Fin.ext (by simp only; omega)
  have e3 : (⟨k.val * 64 + d.val, by omega⟩ : Fin 128) = ⟨(head k g).val / 2 * 64 + d.val, by unfold head; omega⟩ :=
    Fin.ext (by simp only [head]; omega)
  rw [e, e3]
  rfl

end Cert.Reference3Ideal.Val
-- ==== Proof.InSpec.lean ====
/-
  The input projection: which of the weights' columns stands where in the call's wider result.
-/
module

public import Idealize.ShloMosaic.PureOps.Ideal
public import Mathlib.Algebra.BigOperators.Fin

@[expose] public section

noncomputable section

open Idealize.ShloMosaic

namespace Cert.Inproj

/-- The columns of a run that begins at column `s` of the weights. -/
def run (s : ℕ) (k : ℕ) : Option ℕ := some (s + k)

/-- The columns of a run that holds zeros. -/
def gap (_ : ℕ) : Option ℕ := none

/-- The column at position `c` of runs in a row, each given by its width and its columns. -/
def colAt : List (ℕ × (ℕ → Option ℕ)) → ℕ → Option ℕ
  | [], _ => none
  | p :: l, c => if c < p.1 then p.2 c else colAt l (c - p.1)

/-- The runs of the result's first 1792 columns. -/
def runs0 : List (ℕ × (ℕ → Option ℕ)) :=
  [(64, run 1676), (64, gap), (64, run 1740), (64, gap), (64, run 1804), (64, gap), (64, run 1868), (64, gap), (256, run 0),
    (64, run 256), (64, run 320), (64, run 384), (64, run 448), (256, run 652), (256, run 908), (256, run 1164)]

/-- The runs of the next 1536 columns. -/
def runs1 : List (ℕ × (ℕ → Option ℕ)) :=
  [(256, run 1420), (64, run 1932), (64, gap), (64, run 1996), (64, gap), (128, run 1932), (128, run 2060), (192, run 2192), (64, gap),
    (64, run 512), (64, run 576), (64, run 384), (64, run 512), (64, run 448), (64, run 576), (128, run 2384)]

/-- The runs of the last 128 columns. -/
def runs2 : List (ℕ × (ℕ → Option ℕ)) := [(32, run 2512), (12, run 640), (4, run 2188), (80, gap)]

/-- The weights' column that stands at a column of the result, if one does. -/
def column (c : ℕ) : Option ℕ := colAt [(1792, colAt runs0), (1536, colAt runs1), (128, colAt runs2)] c

/-- A row's scaled and shifted entry. -/
def hidden (x sh sc : Fin 1024 → EReal) (d : Fin 1024) : EReal := x d * (1 + sc d) + sh d

/-- The weight at row `d` of the column `o`, nought where there is none. -/
def weight (w : Fin 1024 → Fin 2544 → EReal) (o : Option ℕ) (d : Fin 1024) : EReal :=
  match o with
  | none => 0
  | some s => if h : s < 2544 then w d ⟨s, h⟩ else 0

/-- A row's product with the column `o`. -/
def product (h : Fin 1024 → EReal) (w : Fin 1024 → Fin 2544 → EReal) (o : Option ℕ) : EReal := ∑ d, h d * weight w o d

/-- The product with a column that isn't there is nought. -/
theorem product_none (h : Fin 1024 → EReal) (w : Fin 1024 → Fin 2544 → EReal) : product h w none = 0 := by
  simp [product, weight]

/-- The product with column `s`. -/
theorem product_some (h : Fin 1024 → EReal) (w : Fin 1024 → Fin 2544 → EReal) (s : ℕ) (hs : s < 2544) :
    product h w (some s) = ∑ d, h d * w d ⟨s, hs⟩ := by
  simp [product, weight, hs]

end Cert.Inproj
-- ==== Proof.InTable.lean ====
/-
  The kernel's two tables of columns: which column of the weights each column of the wider result takes, and whether any.
-/
module

public import proofs.«01_k».proof.Proof.InSpec
public import proofs.«01_k».proof.Proof.Gen.Kernel4Ideal

@[expose] public section

set_option maxRecDepth 65536

noncomputable section

open Idealize.ShloMosaic Idealize.ShloMosaic.TcCoe Idealize.SL.Sem

namespace Cert.Kernel4Ideal.Val

open Cert.Kernel4Ideal Cert.Inproj

/-- What the tables hold for a column: the weights' column and a one, or column nought and a nought. -/
theorem tables (j : Fin 3456) :
    (lit0 j).toNat = (column j.val).getD 0 ∧ lit1 j = (if (column j.val).isSome then 1#1 else 0#1) ∧ (column j.val).getD 0 < 2544 := by
  revert j
  decide +kernel

end Cert.Kernel4Ideal.Val
-- ==== Proof.InPad.lean ====
/-
  The wider weights the kernel's host code makes, read at an index.
-/
module

public import proofs.«01_k».proof.Proof.InTable
public import proofs.«01_k».proof.Proof.Gen.Kernel4Ideal.Frame
public import Idealize.ShloMosaic.Lib.Pointwise
public import Idealize.ShloMosaic.Lib.ReduceAll
public import Idealize.ShloMosaic.Lib.Pipeline.ValueKit.Geometry
public import Idealize.ShloMosaic.Lib.Pipeline.ValueKit.Point

@[expose] public section

set_option maxRecDepth 16384

noncomputable section

open Idealize.ShloMosaic Idealize.ShloMosaic.TcCoe Idealize.SL.Sem

namespace Cert.Kernel4Ideal.Val

open Cert.Kernel4Ideal Cert.Kernel4Ideal.Facts Cert.Kernel4Ideal.Gen Cert.Inproj

/-- The columns taken, as the host code hands them to its gather: a negative one counts from the end. -/
def taken : IVec S3456x1 32 :=
  broadcastInDim S3456x1 ![0] bcast_S3456_S3456x1_0
    (select (cmpi .slt (fun i => lit0 (S3456.rowMajor i)) (broadcastInDim S3456 ![] bcast_S_S3456 (constantI S_ 32 0#32)))
      (addi (fun i => lit0 (S3456.rowMajor i)) (broadcastInDim S3456 ![] bcast_S_S3456 (constantI S_ 32 2544#32)))
      (fun i => lit0 (S3456.rowMajor i)))

/-- Which of them lie among the weights' columns. -/
def inside : IVec S3456 1 :=
  Host.reduce IntOp.andi
    (andi (cmpi .sge taken (broadcastInDim S3456x1 ![] bcast_S_S3456x1 (constantI S_ 32 0#32)))
      (cmpi .sle taken (broadcastInDim S3456x1 ![0, 1] bcast_S1x1_S3456x1_0_1 (broadcastInDim S1x1 ![1] bcast_S1_S1x1_1 (constantI S1 32 2543#32)))))
    (constantI S_ 1 1#1) reducesTo_S3456x1_S3456_d1 h_S_

/-- The wider weights. -/
def padded (A3 : FVec Ideal S1024x2544 .f32) : FVec Ideal S1024x3456 .bf16 :=
  truncf .bf16
    (select (broadcastInDim S1024x3456 ![0, 1] bcast_S1x3456_S1024x3456_0_1
        (broadcastInDim S1x3456 ![1] bcast_S3456_S1x3456_1 (fun i => lit1 (S3456.rowMajor i))))
      (select (broadcastInDim S1024x3456 ![1] bcast_S3456_S1024x3456_1 inside)
        (Host.gather gather_S1024x2544_S3456x1_S1024x3456_0_1_n_n_1_1_10241 A3 taken)
        (broadcastInDim S1024x3456 ![] bcast_S_S1024x3456 (constant S_ .f32 0x7FC00000#32)))
      (broadcastInDim S1024x3456 ![] bcast_S_S1024x3456 (constant S_ .f32 0x00000000#32))) bitsLt_bf16_f32

/-- The kernel's weights are these. -/
theorem V_padded (m : (ℓ : Loc nD τ sig) → Buf (Elt Ideal) ℓ) (c : Dev nD) :
    V m c main_v3 = padded (m ((c : Thread nD τ).loc main_arg3)) := by
  simp only [V, hostOps0, hostOps0_1, hostOps0_2, hostOps0_3, hostOps0_4, List.flatten_cons, List.flatten_nil, List.append_nil,
    List.cons_append, List.nil_append, StableHlo.after_cons, StableHlo.after_nil]
  after_results_simp
  simp -implicitDefEqProofs only [StableHlo.TRef.toBuf, StableHlo.TRef.ofBuf, cast_cast, cast_eq, id_eq]
  unfold padded inside taken
  rfl

/-- A word of a column compares as the column does. -/
theorem word_cmp (v : BitVec 32) (h : v.toNat < 2544) :
    IntOp.cmpi .slt v 0#32 = 0#1 ∧ IntOp.cmpi .sge v 0#32 = 1#1 ∧ IntOp.cmpi .sle v 2543#32 = 1#1 := by
  have e : v.toInt = v.toNat := BitVec.toInt_eq_toNat_of_lt (by omega)
  have e0 : (0#32).toInt = 0 := by decide
  have e1 : (2543#32).toInt = 2543 := by decide
  refine ⟨?_, ?_, ?_⟩ <;> simp only [IntOp.cmpi, BitVec.slt, BitVec.sle, e, e0, e1]
  · rw [decide_eq_false (by omega)]; rfl
  · rw [decide_eq_true (by omega)]; rfl
  · rw [decide_eq_true (by omega)]; rfl

/-- The column taken is the table's. -/
theorem taken_apply (j : Fin 3456) : taken (ix2 j 0) = lit0 j := by
  obtain ⟨h, -, hl⟩ := tables j
  have e : S3456.rowMajor (ix1 j) = j := Fin.ext (Shape.rowMajor_val_one _)
  pointwise [taken]
  rw [e, (word_cmp (lit0 j) (h ▸ hl)).1]
  rfl

/-- Every column taken lies among the weights' columns. -/
theorem inside_apply (y : S3456.Idx) : inside y = 1#1 := by
  refine Host.reduce_andi_one _ _ _ _ _ rfl fun i => ?_
  obtain ⟨j, rfl⟩ : ∃ j : Fin 3456, i = (ix2 j 0 : S3456x1.Idx) :=
    ⟨i 0, (eq_ix2 i).trans (congrArg (ix2 (i 0)) (Subsingleton.elim (α := Fin 1) _ _))⟩
  obtain ⟨h, -, hl⟩ := tables j
  pointwise
  rw [taken_apply, (word_cmp (lit0 j) (h ▸ hl)).2.1, (word_cmp (lit0 j) (h ▸ hl)).2.2]
  rfl

/-- The gather at an index: the weights' row, at the column taken. -/
theorem gather_apply (A3 : FVec Ideal S1024x2544 .f32) (d : Fin 1024) (j : Fin 3456) (hl : (column j.val).getD 0 < 2544) :
    Host.gather gather_S1024x2544_S3456x1_S1024x3456_0_1_n_n_1_1_10241 A3 taken (ix2 d j) = A3 (ix2 d ⟨(column j.val).getD 0, hl⟩) := by
  unfold Host.gather
  congr 1
  funext a
  refine Fin.ext ?_
  have h01 : a = 0 ∨ a = 1 := by
    match a with
    | ⟨0, _⟩ => exact Or.inl rfl
    | ⟨1, _⟩ => exact Or.inr rfl
  show GatherDims.start _ _ _ a + GatherDims.batchCoord _ _ a + GatherDims.offCoord _ _ a = _
  rw [GatherDims.batchCoord_eq_zero _ _ _ List.not_mem_nil]
  rcases h01 with rfl | rfl
  · unfold GatherDims.start
    rw [dif_neg (by decide)]
    unfold GatherDims.offCoord
    rw [dif_pos (by decide)]
    exact (Nat.zero_add _)
  · rw [GatherDims.offCoord_eq_zero _ _ _ (by decide)]
    unfold GatherDims.start
    rw [dif_pos (by decide)]
    have hsi : GatherDims.siIdx gather_S1024x2544_S3456x1_S1024x3456_0_1_n_n_1_1_10241 (ix2 d j)
        ⟨List.idxOf (1 : Fin 2) gather_S1024x2544_S3456x1_S1024x3456_0_1_n_n_1_1_10241.startIndexMap,
          List.idxOf_lt_length_iff.2 (by decide)⟩ = (ix2 j 0 : S3456x1.Idx) := by
      funext b
      refine Fin.ext ?_
      match b with
      | ⟨0, _⟩ => rfl
      | ⟨1, _⟩ => rfl
    rw [hsi, taken_apply]
    obtain ⟨h, -, -⟩ := tables j
    have e : (lit0 j).toInt = (lit0 j).toNat := BitVec.toInt_eq_toNat_of_lt (by omega)
    rw [e, Int.toNat_natCast, h]
    show min ((column j.val).getD 0) 2543 + 0 + 0 = (column j.val).getD 0
    omega

/-- The wider weights at an index. -/
theorem padded_apply (A3 : FVec Ideal S1024x2544 .f32) (d : Fin 1024) (j : Fin 3456) :
    padded A3 (ix2 d j) = weight (fun d n => A3 (ix2 d n)) (column j.val) d := by
  obtain ⟨-, h1, hl⟩ := tables j
  have e : S3456.rowMajor (ix1 j) = j := Fin.ext (Shape.rowMajor_val_one _)
  pointwise [padded]
  rw [e, inside_apply, gather_apply A3 d j hl, h1]
  unfold weight
  clear h1
  revert hl
  generalize column j.val = o
  intro hl
  cases o with
  | none => rfl
  | some s =>
    have hs : s < 2544 := hl
    show A3 (ix2 d ⟨s, hs⟩) = dite (s < 2544) _ _
    rw [dif_pos hs]

end Cert.Kernel4Ideal.Val
-- ==== Proof.InArray.lean ====
/-
  The input projection's output array: every grid point's block placed in it, read back at an index.
-/
module

public import proofs.«01_k».proof.Proof.InPad
public import proofs.«01_k».proof.Proof.Gen.Kernel4Ideal.Value
public import Idealize.ShloMosaic.Lib.Pipeline.ValueKit.Acc

@[expose] public section

set_option maxRecDepth 16384

noncomputable section

open Idealize.ShloMosaic Idealize.ShloMosaic.TcCoe Idealize.SL.Sem
open Idealize.ShloMosaic.Pipeline (Dat)

namespace Cert.Kernel4Ideal.Val

open Cert.Kernel4Ideal Cert.Kernel4Ideal.Gen Cert.Inproj

/-- A block of the result: its rows' products with the wider weights. -/
theorem out_apply (x0 : Vec Ideal S1x512x1024 .f32) (x1 x2 : Vec Ideal S1x1x1024 .f32) (x3 : Vec Ideal S1024x3456 .bf16)
    (r : Fin 512) (j : Fin 3456) :
    out0_4 x0 x1 x2 x3 (ix3 0 r j)
      = ∑ d : Fin 1024, hidden (fun d => x0 (ix3 0 r d)) (fun d => x1 (ix3 0 0 d)) (fun d => x2 (ix3 0 0 d)) d * x3 (ix2 d j) := by
  have e : out0_4 x0 x1 x2 x3 = k0_pay1 (View.ld x0 r0_0) (View.ld x2 r0_1) (View.ld x1 r0_1) (View.ld x3 r0_2) := by
    unfold out0_4
    frame_out
  rw [e]
  pointwise [k0_pay1]
  rfl

variable (m : (ℓ : Loc nD τ sig) → Buf (Elt Ideal) ℓ)

/-- The windows' block indices at a grid point. -/
theorem idx (t : Fin cfg0.N) :
    win0_0.index t = ![t.val / 16, t.val % 16, 0] ∧ win0_1.index t = ![t.val / 16, 0, 0] ∧ win0_2.index t = ![t.val / 16, 0, 0]
      ∧ win0_3.index t = ![0, 0] ∧ win0_4.index t = ![t.val / 16, t.val % 16, 0] := by
  revert t
  decide +kernel

/-- The input projection, on whole arrays. -/
def projArr (A0 : Vec Ideal S4x8192x1024 .f32) (A1 A2 : Vec Ideal S4x1x1024 .f32) (A3 : Vec Ideal S1024x2544 .f32) :
    Vec Ideal S4x8192x3456 .f32 :=
  fun y => product (hidden (fun d => A0 (ix3 (y 0) (y 1) d)) (fun d => A1 (ix3 (y 0) 0 d)) (fun d => A2 (ix3 (y 0) 0 d)))
    (fun d n => A3 (ix2 d n)) (column (y 2).val)

/-- A grid point's rows in their array. -/
theorem iblk0 (c : Dev nD) (t : Fin cfg0.N) (b : Fin 4) (hb : b.val = t.val / 16) (r : Fin 512) (d : Fin 1024) :
    iblk m c 0 t (ix3 0 r d) = m ((c : Thread nD τ).loc main_arg0) (ix3 b (⟨t.val % 16 * 512 + r.val, by omega⟩ : Fin 8192) d) := by
  have e := (idx t).1
  rw [← V_main_arg0 m c]
  blk_ext [iblk, e]

/-- A grid point's shift. -/
theorem iblk1 (c : Dev nD) (t : Fin cfg0.N) (b : Fin 4) (hb : b.val = t.val / 16) (d : Fin 1024) :
    iblk m c 1 t (ix3 0 0 d) = m ((c : Thread nD τ).loc main_arg1) (ix3 b 0 d) := by
  have e := (idx t).2.1
  rw [← V_main_arg1 m c]
  blk_ext [iblk, e]

/-- A grid point's scale. -/
theorem iblk2 (c : Dev nD) (t : Fin cfg0.N) (b : Fin 4) (hb : b.val = t.val / 16) (d : Fin 1024) :
    iblk m c 2 t (ix3 0 0 d) = m ((c : Thread nD τ).loc main_arg2) (ix3 b 0 d) := by
  have e := (idx t).2.2.1
  rw [← V_main_arg2 m c]
  blk_ext [iblk, e]

/-- The wider weights. -/
theorem iblk3 (c : Dev nD) (t : Fin cfg0.N) (d : Fin 1024) (j : Fin 3456) :
    iblk m c 3 t (ix2 d j) = weight (fun d n => m ((c : Thread nD τ).loc main_arg3) (ix2 d n)) (column j.val) d := by
  have e := (idx t).2.2.2.1
  rw [← padded_apply (m ((c : Thread nD τ).loc main_arg3)), ← V_padded]
  blk_ext [iblk, e]

/-- The kernel's result array is the input projection of its arguments. -/
theorem final (c : Dev nD) :
    (dats m 0 c).arrAt 4 cfg0.N = projArr (m ((c : Thread nD τ).loc main_arg0)) (m ((c : Thread nD τ).loc main_arg1))
      (m ((c : Thread nD τ).loc main_arg2)) (m ((c : Thread nD τ).loc main_arg3)) := by
  refine (dats m 0 c).arrAt_eq_of_covers 4 _ (by decide +kernel) fun t hf y => ?_
  blk_simp
  rw [after0_4]
  have ht : t.val < 64 := lt_of_lt_of_eq t.isLt N_0
  obtain ⟨r, j, rfl⟩ : ∃ (r : Fin 512) (j : Fin 3456), y = (ix3 0 r j : S1x512x3456.Idx) :=
    ⟨y 1, y 2, (eq_ix3 y).trans (congrArg (fun a => ix3 a (y 1) (y 2)) (Subsingleton.elim (α := Fin 1) _ _))⟩
  have e := (idx t).2.2.2.2
  have hy : (win0_4.blk t).view.emb (ix3 0 r j : S1x512x3456.Idx)
      = (ix3 (⟨t.val / 16, by omega⟩ : Fin 4) (⟨t.val % 16 * 512 + r.val, by omega⟩ : Fin 8192) j : S4x8192x3456.Idx) := by
    blk_ext [e]
  rw [hy, out_apply]
  simp only [iblk0 m c t ⟨t.val / 16, by omega⟩ rfl, iblk1 m c t ⟨t.val / 16, by omega⟩ rfl, iblk2 m c t ⟨t.val / 16, by omega⟩ rfl,
    iblk3]
  rfl

end Cert.Kernel4Ideal.Val
-- ==== Proof.InRuns.lean ====
/-
  The input projection's columns as runs of the weights' columns laid side by side, read at an index: for any number of rows.
-/
module

public import proofs.«01_k».proof.Proof.InSpec
public import Idealize.ShloMosaic.Lib.Pointwise

@[expose] public section

set_option maxRecDepth 16384

noncomputable section

open Idealize.ShloMosaic Idealize.ShloMosaic.TcCoe Idealize.SL.Sem

namespace Cert.Inproj

/-- Arrays of `n` times `s` rows, `w` columns wide. -/
abbrev wide (n s w : ℕ) : Shape := ⟨3, ![n, s, w]⟩

variable {n s : ℕ}

/-- A piece `p` is as wide as the run `q`, and holds in each row what `val` gives for the run's columns. -/
def Reads (val : Fin n → Fin s → Option ℕ → EReal) (p : (t : Shape) × (t.Idx → EReal)) (q : ℕ × (ℕ → Option ℕ)) : Prop :=
  ∃ x : (wide n s q.1).Idx → EReal, p = ⟨wide n s q.1, x⟩ ∧ ∀ b r (k : Fin q.1), x (ix3 b r k) = val b r (q.2 k.val)

variable {val : Fin n → Fin s → Option ℕ → EReal}

/-- Pieces side by side hold what the runs side by side give. -/
theorem concat_at {v : ℕ} (j : (wide n s v).Idx) :
    ∀ (xs : List ((t : Shape) × (t.Idx → EReal))) (qs : List (ℕ × (ℕ → Option ℕ))), List.Forall₂ (Reads val) xs qs →
      ∀ (hs : ∀ t ∈ xs.map (·.1), t.FitsOff (wide n s v) 2) (c : ℕ) (hc : c < (axisSizes (wide n s v) 2 xs).sum),
        concatenateAt (wide n s v) 2 j xs hs c hc = val (j 0) (j 1) (colAt qs c) := by
  intro xs qs h
  induction h with
  | nil => intro hs c hc; exact absurd hc (Nat.not_lt_zero c)
  | @cons p q xs qs hp hr ih =>
    intro hs c hc
    obtain ⟨x, rfl, hx⟩ := hp
    have key : ∀ (hlt : c < q.1) (f : ∀ b : Fin 3, (if b.val = 2 then c else (j b).val) < (wide n s q.1).size b),
        x (Shape.Idx.norm fun b => ⟨if b.val = 2 then c else (j b).val, f b⟩) = val (j 0) (j 1) (colAt (q :: qs) c) := by
      intro hlt f
      have e : colAt (q :: qs) c = q.2 c := if_pos hlt
      rw [e, ← hx (j 0) (j 1) ⟨c, hlt⟩]
      congr 1
      funext b
      refine Fin.ext ?_
      match b with
      | ⟨0, _⟩ => rfl
      | ⟨1, _⟩ => rfl
      | ⟨2, _⟩ => rfl
    cases hr with
    | nil =>
      have hlt : c < q.1 := by simpa [axisSizes_cons (wide n s v) 2 ⟨wide n s q.1, x⟩ [] (hs _ List.mem_cons_self)] using hc
      rw [concatenateAt_singleton]
      exact key hlt _
    | @cons p' q' xs' qs' hp' hr' =>
      rw [concatenateAt_cons]
      split
      next hlt => exact key hlt _
      next hlt =>
        rw [ih]
        exact congrArg (val (j 0) (j 1)) (if_neg hlt).symm

/-- Pieces side by side, as one piece. -/
theorem reads_concat (w : ℕ) (xs : List ((t : Shape) × (t.Idx → EReal))) (qs : List (ℕ × (ℕ → Option ℕ)))
    (h : List.Forall₂ (Reads val) xs qs) (hc : Shape.Concatenates (xs.map (·.1)) (wide n s w) 2) :
    Reads val ⟨wide n s w, concatenate (wide n s w) 2 xs hc⟩ (w, colAt qs) :=
  ⟨_, rfl, fun b r k => by rw [concatenate_apply, concat_at _ xs qs h]; rfl⟩

/-- A piece of zeros. -/
theorem reads_gap (w : ℕ) (h0 : ∀ b r, val b r none = 0) (hb) :
    Reads val ⟨wide n s w, broadcastInDim (wide n s w) ![] hb (constant (F := Ideal) ⟨0, ![]⟩ .f32 0x00000000#32)⟩ (w, gap) :=
  ⟨_, rfl, fun b r k => by
    refine Eq.trans ?_ (h0 b r).symm
    pointwise⟩

/-- A slice of an array that holds the run from column `o`. -/
theorem reads_slice (w v o p : ℕ) (x : (wide n s v).Idx → EReal) (hx : Reads val ⟨wide n s v, x⟩ (v, run o))
    (hs : Shape.Slices (wide n s v) ![0, 0, p] (wide n s w)) :
    Reads val ⟨wide n s w, extractStridedSlice (wide n s w) ![0, 0, p] x hs⟩ (w, run (o + p)) := by
  obtain ⟨x', e, hx⟩ := hx
  obtain rfl : x = x' := by simpa using e
  have hw : p + w ≤ v := by
    obtain ⟨_, h⟩ := hs
    exact h 2
  refine ⟨_, rfl, fun b r k => ?_⟩
  have h := hx b r ⟨p + k.val, by have := k.isLt; simp only at this; omega⟩
  refine Eq.trans ?_ (h.trans ?_)
  · rw [Pointwise.extractStridedSlice_apply]
    congr 1
    funext a
    refine Fin.ext ?_
    match a with
    | ⟨0, _⟩ => exact Nat.zero_add _
    | ⟨1, _⟩ => exact Nat.zero_add _
    | ⟨2, _⟩ => rfl
  · exact congrArg (val b r) (congrArg some (Nat.add_assoc o p k.val).symm)

/-- Columns lie among an array's. -/
theorem slices (v w p : ℕ) (h : p + w ≤ v) : Shape.Slices (wide n s v) ![0, 0, p] (wide n s w) := by
  refine ⟨rfl, fun a => ?_⟩
  match a with
  | ⟨0, _⟩ => exact (Nat.zero_add n).le
  | ⟨1, _⟩ => exact (Nat.zero_add s).le
  | ⟨2, _⟩ => exact h

/-- A number fills an array. -/
theorem fills (w : ℕ) : Shape.BroadcastsInDim ⟨0, ![]⟩ (wide n s w) ![] := ⟨fun a => a.elim0, fun a => a.elim0⟩

/-- Arrays stand side by side in one as wide as they are together. -/
theorem beside (w : ℕ) (ws : List ℕ) (h2 : 2 ≤ ws.length) (h : ws.sum = w) : Shape.Concatenates (ws.map (wide n s)) (wide n s w) 2 := by
  refine ⟨by simpa using h2, fun t ht => ?_, ?_⟩
  · obtain ⟨v, -, rfl⟩ := List.mem_map.1 ht
    refine ⟨rfl, fun b hb => ?_⟩
    match b with
    | ⟨0, _⟩ => rfl
    | ⟨1, _⟩ => rfl
    | ⟨2, _⟩ => exact absurd rfl hb
  · have e : (ws.map (wide n s)).map (fun t => if h : t.rank = (wide n s w).rank then t.size ((2 : Fin 3).cast h.symm) else 0) = ws := by
      rw [List.map_map]
      exact List.map_id ws
    exact (congrArg List.sum e).trans h

/-- The `w` columns from column `p` on. -/
def cut (P : (wide n s 2544).Idx → EReal) (w p : ℕ) (h : p + w ≤ 2544) : (wide n s w).Idx → EReal :=
  extractStridedSlice (wide n s w) ![0, 0, p] P (slices 2544 w p h)

/-- The `w` columns from column `q` on of the `v` columns from column `p` on. -/
def cut2 (P : (wide n s 2544).Idx → EReal) (w v p q : ℕ) (hv : p + v ≤ 2544) (h : q + w ≤ v) : (wide n s w).Idx → EReal :=
  extractStridedSlice (wide n s w) ![0, 0, q] (cut P v p hv) (slices v w q h)

/-- Columns of zeros. -/
def zeros (w : ℕ) : (wide n s w).Idx → EReal := broadcastInDim (wide n s w) ![] (fills w) (constant (F := Ideal) ⟨0, ![]⟩ .f32 0x00000000#32)

/-- A slice of an array that holds the weights' columns in order. -/
theorem reads_cut {P : (wide n s 2544).Idx → EReal} (hP : Reads val ⟨wide n s 2544, P⟩ (2544, run 0)) (w p : ℕ)
    (hs : Shape.Slices (wide n s 2544) ![0, 0, p] (wide n s w)) :
    Reads val ⟨wide n s w, extractStridedSlice (wide n s w) ![0, 0, p] P hs⟩ (w, run p) := by
  have h := reads_slice w 2544 0 p _ hP hs
  rwa [Nat.zero_add] at h

/-- A slice of a slice of it. -/
theorem reads_cut2 {P : (wide n s 2544).Idx → EReal} (hP : Reads val ⟨wide n s 2544, P⟩ (2544, run 0)) (w v p q : ℕ)
    (hv : Shape.Slices (wide n s 2544) ![0, 0, p] (wide n s v)) (hs : Shape.Slices (wide n s v) ![0, 0, q] (wide n s w)) :
    Reads val ⟨wide n s w, extractStridedSlice (wide n s w) ![0, 0, q] (extractStridedSlice (wide n s v) ![0, 0, p] P hv) hs⟩ (w, run (p + q)) :=
  reads_slice w v p q _ (reads_cut hP v p hv) hs

/-- The first 1792 columns. -/
def part0 (P : (wide n s 2544).Idx → EReal) : (wide n s 1792).Idx → EReal :=
  concatenate (wide n s 1792) 2
    [⟨wide n s 64, cut2 P 64 256 1676 0 (by decide) (by decide)⟩,
      ⟨wide n s 64, zeros 64⟩,
      ⟨wide n s 64, cut2 P 64 256 1676 64 (by decide) (by decide)⟩,
      ⟨wide n s 64, zeros 64⟩,
      ⟨wide n s 64, cut2 P 64 256 1676 128 (by decide) (by decide)⟩,
      ⟨wide n s 64, zeros 64⟩,
      ⟨wide n s 64, cut2 P 64 256 1676 192 (by decide) (by decide)⟩,
      ⟨wide n s 64, zeros 64⟩,
      ⟨wide n s 256, cut P 256 0 (by decide)⟩,
      ⟨wide n s 64, cut2 P 64 384 256 0 (by decide) (by decide)⟩,
      ⟨wide n s 64, cut2 P 64 384 256 64 (by decide) (by decide)⟩,
      ⟨wide n s 64, cut2 P 64 384 256 128 (by decide) (by decide)⟩,
      ⟨wide n s 64, cut2 P 64 384 256 192 (by decide) (by decide)⟩,
      ⟨wide n s 256, cut P 256 652 (by decide)⟩,
      ⟨wide n s 256, cut P 256 908 (by decide)⟩,
      ⟨wide n s 256, cut P 256 1164 (by decide)⟩]
    (beside 1792 [64, 64, 64, 64, 64, 64, 64, 64, 256, 64, 64, 64, 64, 256, 256, 256] (by decide) rfl)

/-- They hold their runs. -/
theorem reads_part0 (h0 : ∀ b r, val b r none = 0) {P : (wide n s 2544).Idx → EReal} (hP : Reads val ⟨wide n s 2544, P⟩ (2544, run 0)) :
    Reads val ⟨wide n s 1792, part0 P⟩ (1792, colAt runs0) :=
  reads_concat 1792 _ _
    (.cons (reads_cut2 hP 64 256 1676 0 _ _) <|
    .cons (reads_gap 64 h0 _) <|
    .cons (reads_cut2 hP 64 256 1676 64 _ _) <|
    .cons (reads_gap 64 h0 _) <|
    .cons (reads_cut2 hP 64 256 1676 128 _ _) <|
    .cons (reads_gap 64 h0 _) <|
    .cons (reads_cut2 hP 64 256 1676 192 _ _) <|
    .cons (reads_gap 64 h0 _) <|
    .cons (reads_cut hP 256 0 _) <|
    .cons (reads_cut2 hP 64 384 256 0 _ _) <|
    .cons (reads_cut2 hP 64 384 256 64 _ _) <|
    .cons (reads_cut2 hP 64 384 256 128 _ _) <|
    .cons (reads_cut2 hP 64 384 256 192 _ _) <|
    .cons (reads_cut hP 256 652 _) <|
    .cons (reads_cut hP 256 908 _) <|
    .cons (reads_cut hP 256 1164 _) <|
    .nil) _

/-- The next 1536 columns. -/
def part1 (P : (wide n s 2544).Idx → EReal) : (wide n s 1536).Idx → EReal :=
  concatenate (wide n s 1536) 2
    [⟨wide n s 256, cut P 256 1420 (by decide)⟩,
      ⟨wide n s 64, cut2 P 64 128 1932 0 (by decide) (by decide)⟩,
      ⟨wide n s 64, zeros 64⟩,
      ⟨wide n s 64, cut2 P 64 128 1932 64 (by decide) (by decide)⟩,
      ⟨wide n s 64, zeros 64⟩,
      ⟨wide n s 128, cut P 128 1932 (by decide)⟩,
      ⟨wide n s 128, cut P 128 2060 (by decide)⟩,
      ⟨wide n s 192, cut P 192 2192 (by decide)⟩,
      ⟨wide n s 64, zeros 64⟩,
      ⟨wide n s 64, cut2 P 64 384 256 256 (by decide) (by decide)⟩,
      ⟨wide n s 64, cut2 P 64 384 256 320 (by decide) (by decide)⟩,
      ⟨wide n s 64, cut2 P 64 384 256 128 (by decide) (by decide)⟩,
      ⟨wide n s 64, cut2 P 64 384 256 256 (by decide) (by decide)⟩,
      ⟨wide n s 64, cut2 P 64 384 256 192 (by decide) (by decide)⟩,
      ⟨wide n s 64, cut2 P 64 384 256 320 (by decide) (by decide)⟩,
      ⟨wide n s 128, cut P 128 2384 (by decide)⟩]
    (beside 1536 [256, 64, 64, 64, 64, 128, 128, 192, 64, 64, 64, 64, 64, 64, 64, 128] (by decide) rfl)

/-- They hold their runs. -/
theorem reads_part1 (h0 : ∀ b r, val b r none = 0) {P : (wide n s 2544).Idx → EReal} (hP : Reads val ⟨wide n s 2544, P⟩ (2544, run 0)) :
    Reads val ⟨wide n s 1536, part1 P⟩ (1536, colAt runs1) :=
  reads_concat 1536 _ _
    (.cons (reads_cut hP 256 1420 _) <|
    .cons (reads_cut2 hP 64 128 1932 0 _ _) <|
    .cons (reads_gap 64 h0 _) <|
    .cons (reads_cut2 hP 64 128 1932 64 _ _) <|
    .cons (reads_gap 64 h0 _) <|
    .cons (reads_cut hP 128 1932 _) <|
    .cons (reads_cut hP 128 2060 _) <|
    .cons (reads_cut hP 192 2192 _) <|
    .cons (reads_gap 64 h0 _) <|
    .cons (reads_cut2 hP 64 384 256 256 _ _) <|
    .cons (reads_cut2 hP 64 384 256 320 _ _) <|
    .cons (reads_cut2 hP 64 384 256 128 _ _) <|
    .cons (reads_cut2 hP 64 384 256 256 _ _) <|
    .cons (reads_cut2 hP 64 384 256 192 _ _) <|
    .cons (reads_cut2 hP 64 384 256 320 _ _) <|
    .cons (reads_cut hP 128 2384 _) <|
    .nil) _

/-- The last 128 columns. -/
def part2 (P : (wide n s 2544).Idx → EReal) : (wide n s 128).Idx → EReal :=
  concatenate (wide n s 128) 2
    [⟨wide n s 32, cut P 32 2512 (by decide)⟩,
      ⟨wide n s 12, cut P 12 640 (by decide)⟩,
      ⟨wide n s 4, cut P 4 2188 (by decide)⟩,
      ⟨wide n s 80, zeros 80⟩]
    (beside 128 [32, 12, 4, 80] (by decide) rfl)

/-- They hold their runs. -/
theorem reads_part2 (h0 : ∀ b r, val b r none = 0) {P : (wide n s 2544).Idx → EReal} (hP : Reads val ⟨wide n s 2544, P⟩ (2544, run 0)) :
    Reads val ⟨wide n s 128, part2 P⟩ (128, colAt runs2) :=
  reads_concat 128 _ _
    (.cons (reads_cut hP 32 2512 _) <|
    .cons (reads_cut hP 12 640 _) <|
    .cons (reads_cut hP 4 2188 _) <|
    .cons (reads_gap 80 h0 _) <|
    .nil) _

/-- All the columns, side by side. -/
def parts (P : (wide n s 2544).Idx → EReal) : (wide n s 3456).Idx → EReal :=
  concatenate (wide n s 3456) 2 [⟨wide n s 1792, part0 P⟩, ⟨wide n s 1536, part1 P⟩, ⟨wide n s 128, part2 P⟩]
    (beside 3456 [1792, 1536, 128] (by decide) rfl)

/-- They hold every column. -/
theorem reads_parts (h0 : ∀ b r, val b r none = 0) {P : (wide n s 2544).Idx → EReal} (hP : Reads val ⟨wide n s 2544, P⟩ (2544, run 0)) :
    Reads val ⟨wide n s 3456, parts P⟩ (3456, column) :=
  reads_concat 3456 _ [(1792, colAt runs0), (1536, colAt runs1), (128, colAt runs2)]
    (.cons (reads_part0 h0 hP) <| .cons (reads_part1 h0 hP) <| .cons (reads_part2 h0 hP) .nil) _

end Cert.Inproj
-- ==== Proof.InRef.lean ====
/-
  The input projection's reference: its pieces laid side by side are its product's columns, read at an index.
-/
module

public import proofs.«01_k».proof.Proof.InArray
public import proofs.«01_k».proof.Proof.InRuns
public import proofs.«01_k».proof.Proof.Gen.Reference4Ideal
public import proofs.«01_k».proof.Proof.Gen.Reference4Ideal.Run
public import Idealize.ShloMosaic.Lib.Pointwise

@[expose] public section

set_option maxRecDepth 16384

noncomputable section

open Idealize.ShloMosaic Idealize.ShloMosaic.TcCoe Idealize.SL.Sem

namespace Cert.Reference4Ideal.Val

open Cert.Reference4Ideal Cert.Reference4Ideal.Facts Cert.Reference4Ideal.Gen Cert.Inproj Cert.Kernel4Ideal.Val

variable (A0 : FVec Ideal S4x8192x1024 .f32) (A1 A2 : FVec Ideal S4x1x1024 .f32) (A3 : FVec Ideal S1024x2544 .f32)

/-- The scaled and shifted rows' product with the weights. -/
def projected : FVec Ideal S4x8192x2544 .f32 :=
  Host.dotGeneral dot_S4x8192x1024_S1024x2544_S4x8192x2544_2_0_01_1_n_n none
    (addf (mulf A0 (broadcastInDim S4x8192x1024 ![0, 1, 2] bcast_S4x1x1024_S4x8192x1024_0_1_2
        (addf (broadcastInDim S4x1x1024 ![] bcast_S_S4x1x1024 (constant S_ .f32 0x3F800000#32)) A2)))
      (broadcastInDim S4x8192x1024 ![0, 1, 2] bcast_S4x1x1024_S4x8192x1024_0_1_2 A1)) A3

/-- A row's product with a column of the weights. -/
def entry (b : Fin 4) (r : Fin 8192) (o : Option ℕ) : EReal :=
  product (hidden (fun d => A0 (ix3 b r d)) (fun d => A1 (ix3 b 0 d)) (fun d => A2 (ix3 b 0 d))) (fun d n => A3 (ix2 d n)) o

/-- The product's own columns are one run. -/
theorem reads_projected : Reads (entry A0 A1 A2 A3) ⟨wide 4 8192 2544, projected A0 A1 A2 A3⟩ (2544, run 0) :=
  ⟨_, rfl, fun b r k => by
    have e : (run 0 k.val) = some k.val := congrArg some (Nat.zero_add _)
    simp only [e, entry]
    rw [product_some _ _ _ k.isLt]
    pointwise [projected]
    rfl⟩

/-- The reference is these pieces of the product. -/
theorem res_eq (m : (ℓ : Loc nD τ sig) → Buf (Elt Ideal) ℓ) (c : Dev nD) :
    Value.res_main_v38 m c = parts (projected (m ((c.tc : Thread nD τ).loc main_arg0)) (m ((c.tc : Thread nD τ).loc main_arg1))
      (m ((c.tc : Thread nD τ).loc main_arg2)) (m ((c.tc : Thread nD τ).loc main_arg3))) := by
  unfold Value.res_main_v38 parts part0 part1 part2 cut2 cut zeros projected
  rfl

/-- The reference's result is the input projection of its arguments. -/
theorem res (m : (ℓ : Loc nD τ sig) → Buf (Elt Ideal) ℓ) (c : Dev nD) :
    Value.res_main_v38 m c = projArr (m ((c.tc : Thread nD τ).loc main_arg0)) (m ((c.tc : Thread nD τ).loc main_arg1))
      (m ((c.tc : Thread nD τ).loc main_arg2)) (m ((c.tc : Thread nD τ).loc main_arg3)) := by
  rw [res_eq]
  obtain ⟨x, e, h⟩ := reads_parts (fun _ _ => product_none _ _)
    (reads_projected (m ((c.tc : Thread nD τ).loc main_arg0)) (m ((c.tc : Thread nD τ).loc main_arg1))
      (m ((c.tc : Thread nD τ).loc main_arg2)) (m ((c.tc : Thread nD τ).loc main_arg3)))
  have e' : parts _ = x := eq_of_heq (Sigma.mk.inj e).2
  rw [e']
  funext y
  exact (congrArg x (eq_ix3 y)).trans (h (y 0) (y 1) (y 2))

end Cert.Reference4Ideal.Val
-- ==== Proof.MgSpec.lean ====
/-
  The merge of the four attention groups of 1 row, in plain arithmetic.
-/
module

public import proofs.«01_k».proof.Proof.FfnSpec

@[expose] public section

noncomputable section

open Idealize.ShloMosaic

namespace Cert.Merge

/-- A group of 256 entries over its root mean square, times its gains. -/
def rms (x g : Fin 256 → EReal) (j : Fin 256) : EReal :=
  x j * Ideal.rsqrt (Ideal.div (∑ d, x d * x d) (Ideal.ofBits .f32 0x43800000#32) + Ideal.ofBits .f32 0x358637BD#32) * g j

/-- Entry `j` of the latent heads' outputs: head `j / 64`'s 128 latent coordinates times that entry's weights. -/
def values (uv : Fin 128 → Fin 256 → EReal) (lat : Fin 512 → EReal) (j : Fin 256) : EReal :=
  ∑ c : Fin 128, uv c j * lat ⟨j.val / 64 * 128 + c.val, by omega⟩

/-- Four groups laid side by side. -/
def side (a b c d : Fin 256 → EReal) (k : Fin 1024) : EReal :=
  if h : k.val < 256 then a ⟨k.val, h⟩
  else if h' : k.val - 256 < 256 then b ⟨k.val - 256, h'⟩
  else if h'' : k.val - 256 - 256 < 256 then c ⟨k.val - 256 - 256, h''⟩
  else d ⟨k.val - 256 - 256 - 256, by omega⟩

/-- The gains of group `i`. -/
def gains (g : Fin 1024 → EReal) (i : Fin 4) (j : Fin 256) : EReal := g ⟨i.val * 256 + j.val, by omega⟩

/-- The four normalised groups side by side, the second one gated. -/
def merged (n h f l hg : Fin 256 → EReal) (g : Fin 1024 → EReal) (k : Fin 1024) : EReal :=
  side (rms n (gains g 0)) (fun j => rms h (gains g 1) j * Ffn.gate (hg j)) (rms f (gains g 2)) (rms l (gains g 3)) k

/-- The row with the block's output added: what the normalisation takes. -/
def total (x gt y : Fin 1024 → EReal) (d : Fin 1024) : EReal :=
  Ideal.ofBits .f32 0x3FB504F3#32 * x d + (1 + gt d) * y d

/-- Entry `d` of the block's result on a row. -/
def row (x gt : Fin 1024 → EReal) (n h f l hg : Fin 256 → EReal) (g : Fin 1024 → EReal) (wo : Fin 1024 → Fin 1024 → EReal)
    (lg lb : Fin 1024 → EReal) (d : Fin 1024) : EReal :=
  Ffn.normed (total x gt fun d => ∑ k, merged n h f l hg g k * wo k d) lg lb d

/-- The weights of one latent coordinate of a head, spread over the coordinates of all heads: 0 off the head's own block. -/
def spread (uv : Fin 128 → Fin 256 → EReal) (c : Fin 512) (j : Fin 256) : EReal :=
  if c.val / 128 = j.val / 64 then uv ⟨c.val % 128, by omega⟩ j else 0

/-- A product with the spread weights is the product over the head's own block. -/
theorem sum_spread (uv : Fin 128 → Fin 256 → EReal) (lat : Fin 512 → EReal) (j : Fin 256) :
    ∑ c, spread uv c j * lat c = values uv lat j := by
  refine (Finset.sum_of_injOn (fun c : Fin 128 => (⟨j.val / 64 * 128 + c.val, by omega⟩ : Fin 512)) ?_ (fun _ _ => Finset.mem_coe.2 (Finset.mem_univ _)) ?_ ?_).symm
  · intro a _ b _ h
    have := congrArg Fin.val h
    exact Fin.ext (by simp only at this; omega)
  · intro c _ hc
    rw [spread, if_neg, zero_mul]
    intro e
    refine hc ⟨⟨c.val % 128, by omega⟩, Finset.mem_coe.2 (Finset.mem_univ _), Fin.ext ?_⟩
    simp only
    omega
  · intro c _
    have e : (⟨(j.val / 64 * 128 + c.val) % 128, by omega⟩ : Fin 128) = c := Fin.ext (by simp only; omega)
    rw [spread, if_pos (by simp only; omega), e]

end Cert.Merge
-- ==== Proof.MgBlock.lean ====
/-
  The merge kernel: what one grid point's store holds at an index.
-/
module

public import proofs.«01_k».proof.Proof.MgSpec
public import proofs.«01_k».proof.Proof.FfnChunk
public import proofs.«01_k».proof.Proof.Gen.Kernel5Ideal
public import proofs.«01_k».proof.Proof.Gen.Kernel5Ideal.Frame
public import Idealize.ShloMosaic.Lib.Pointwise
public import Idealize.ShloMosaic.Lib.WritesUnit

@[expose] public section

set_option maxRecDepth 16384

noncomputable section

open Idealize.ShloMosaic Idealize.ShloMosaic.TcCoe Idealize.SL.Sem

namespace Cert.Kernel5Ideal.Val

open Cert.Kernel5Ideal Cert.Kernel5Ideal.Facts Cert.Kernel5Ideal.Gen Cert.Merge

variable (x0 : Vec Ideal S1x512x1024 .f32) (x1 : Vec Ideal S1x1x1024 .f32) (x2 : Vec Ideal S1x256x512 .f32)
  (x3 : Vec Ideal S1x512x256 .f32) (x4 : Vec Ideal S1x256x512 .f32) (x5 : Vec Ideal S1x512x512 .f32) (x6 : Vec Ideal S1x512x256 .f32)
  (x7 : Vec Ideal S1x1024 .f32) (x8 : Vec Ideal S256x512 .bf16) (x9 : Vec Ideal S1024x1024 .bf16) (x10 x11 : Vec Ideal S1x1024 .f32)

/-- The four groups of a block, normalised, gated and laid side by side. -/
def groups : FVec Ideal S512x1024 .bf16 :=
  k0_pay9 (k0_pay2 x4) (k0_pay3 x8 x5) (k0_pay4 x7) (k0_pay5 x2 x7) (k0_pay6 x3) (k0_pay7 x7) (k0_pay8 x3) x6

/-- The latent heads' outputs of a block at an entry. -/
theorem latent_apply (r : Fin 512) (j : Fin 256) :
    k0_pay3 x8 x5 (ix2 r j) = ∑ c : Fin 512, x8 (ix2 j c) * x5 (ix3 0 c r) := by
  pointwise [k0_pay3]

/-- The first group of a block at an entry. -/
theorem first_apply (r : Fin 512) (j : Fin 256) :
    k0_pay5 x2 x7 (ix2 r j) = rms (fun j => x2 (ix3 0 j r)) (gains (fun k => x7 (ix2 0 k)) 0) j := by
  pointwise [k0_pay5, k0_pay4]
  simp only [rms, gains, Fin.isValue, Fin.coe_ofNat_eq_mod, Nat.reduceMod, Nat.reduceMul, zero_mul, zero_add]

/-- The four groups of a block at an entry. -/
theorem groups_apply (r : Fin 512) (k : Fin 1024) :
    groups x2 x3 x4 x5 x6 x7 x8 (ix2 r k) = merged (fun j => x2 (ix3 0 j r)) (fun j => x3 (ix3 0 r j)) (fun j => x4 (ix3 0 j r))
      (fun j => ∑ c : Fin 512, x8 (ix2 j c) * x5 (ix3 0 c r)) (fun j => x6 (ix3 0 r j)) (fun k => x7 (ix2 0 k)) k := by
  pointwise [groups, k0_pay9, k0_pay2, k0_pay4, k0_pay6, k0_pay7, k0_pay8]
  simp only [first_apply, latent_apply, zero_sub, merged, side]
  split_ifs <;>
    simp only [rms, gains, Ffn.gate, Fin.isValue, Fin.coe_ofNat_eq_mod, Nat.reduceMod, Nat.reduceMul, one_mul]

/-- What the kernel normalises. -/
def before : FVec Ideal S512x1024 .f32 :=
  addf (mulf (broadcast S512x1024 (Scalar.ofBits .f32 0x3FB504F3#32)) (shapeCast S512x1024 x0 shapeCasts_S1x512x1024_S512x1024))
    (mulf (broadcastTo S512x1024 (addf (broadcast S1x1024 (Scalar.ofBits .f32 0x3F800000#32)) (shapeCast S1x1024 x1 shapeCasts_S1x1x1024_S1x1024))
        broadcasts_S1x1024_S512x1024)
      (matmul dot_S512x1024_S1024x1024_S512x1024_1_0_0_1_n_n none (groups x2 x3 x4 x5 x6 x7 x8)
        (shapeCast S1024x1024 x9 shapeCasts_S1024x1024_S1024x1024 : FVec Ideal S1024x1024 .bf16) (constant S512x1024 .f32 0x00000000#32)))

/-- A row of it. -/
theorem before_apply (r : Fin 512) (d : Fin 1024) :
    before x0 x1 x2 x3 x4 x5 x6 x7 x8 x9 (ix2 r d) = total (fun d => x0 (ix3 0 r d)) (fun d => x1 (ix3 0 0 d))
      (fun d => ∑ k, groups x2 x3 x4 x5 x6 x7 x8 (ix2 r k) * x9 (ix2 k d)) d := by
  pointwise [before]
  rfl

/-- The store's payload. -/
def stored : FVec Ideal S1x512x1024 .f32 :=
  k0_pay1 (k0_pay10 (groups x2 x3 x4 x5 x6 x7 x8) x1 x9 x0 x10 x11)

/-- It is the normalisation of those rows. -/
theorem stored_eq : stored x0 x1 x2 x3 x4 x5 x6 x7 x8 x9 x10 x11
    = Kernel2Ideal.Val.scaled x10 x11 (before x0 x1 x2 x3 x4 x5 x6 x7 x8 x9) := by
  have e : ∀ x : Vec Ideal S1x1024 .f32, View.ld x Kernel2Ideal.Gen.r0_24 = x := by
    intro x
    funext y
    obtain ⟨d, rfl⟩ : ∃ d : Fin 1024, y = (ix2 0 d : S1x1024.Idx) :=
      ⟨y 1, (eq_ix2 y).trans (congrArg (fun a => ix2 a (y 1)) (Subsingleton.elim (α := Fin 1) _ _))⟩
    pointwise
  unfold Kernel2Ideal.Val.scaled
  rw [e, e]
  rfl

end Cert.Kernel5Ideal.Val
-- ==== Proof.Whole.lean ====
/-
  Loads of whole buffers.
-/
module

public import Idealize.ShloMosaic.PureOps.Ideal
public import Idealize.ShloMosaic.Lib.VecWindow

@[expose] public section

noncomputable section

open Idealize.ShloMosaic

namespace Cert.Whole

/-- A load of a whole buffer that holds `X` reads `X`. -/
theorem load_whole {sig : RefSig} {κ : Kind} {sp : Space} {s : Shape} {e : EltTy} {M : Memref sig κ sp s e} (h : M.IsWhole) (X : s.Idx → Elt Ideal e)
    {off : Fin s.rank → ℕ} (inb : ∀ a, off a + s.size a ≤ s.size a) :
    View.readAt (Elt Ideal) M.view (Rect.unit (s := s) off s.size inb).toLoadRect (h.unread X) = X := by
  rw [View.readAt_full, h.read_unread]

end Cert.Whole
-- ==== Proof.MgOut.lean ====
/-
  The merge kernel: what one grid point leaves in its output block.
-/
module

public import proofs.«01_k».proof.Proof.MgBlock
public import proofs.«01_k».proof.Proof.Whole

@[expose] public section

set_option maxRecDepth 16384

noncomputable section

open Idealize.ShloMosaic Idealize.ShloMosaic.TcCoe Idealize.SL.Sem

namespace Cert.Kernel5Ideal.Val

open Cert.Kernel5Ideal Cert.Kernel5Ideal.Facts Cert.Kernel5Ideal.Gen Cert.Merge Cert.Whole

variable (c : Dev nD) (i : grid0.Coords) (arg2 : Memref sig .tc .vmem S1x512x1024 .f32) (harg2 : arg2.IsWhole) (arg3 : Memref sig .tc .vmem
  S1x1x1024 .f32) (harg3 : arg3.IsWhole) (arg4 : Memref sig .tc .vmem S1x256x512 .f32) (harg4 : arg4.IsWhole) (arg5 : Memref sig .tc
  .vmem S1x512x256 .f32) (harg5 : arg5.IsWhole) (arg6 : Memref sig .tc .vmem S1x256x512 .f32) (harg6 : arg6.IsWhole) (arg7 : Memref sig
  .tc .vmem S1x512x512 .f32) (harg7 : arg7.IsWhole) (arg8 : Memref sig .tc .vmem S1x512x256 .f32) (harg8 : arg8.IsWhole) (arg9 : Memref
  sig .tc .vmem S1x1024 .f32) (harg9 : arg9.IsWhole) (arg10 : Memref sig .tc .vmem S256x512 .bf16) (harg10 : arg10.IsWhole) (arg11 :
  Memref sig .tc .vmem S1024x1024 .bf16) (harg11 : arg11.IsWhole) (arg12 : Memref sig .tc .vmem S1x1024 .f32) (harg12 : arg12.IsWhole)
  (arg13 : Memref sig .tc .vmem S1x1024 .f32) (harg13 : arg13.IsWhole) (arg14 : Memref sig .tc .vmem S1x512x1024 .f32) (harg14 :
  arg14.IsWhole) (x0 : Vec Ideal S1x512x1024 .f32) (x1 : Vec Ideal S1x1x1024 .f32) (x2 : Vec Ideal S1x256x512 .f32) (x3 : Vec Ideal
  S1x512x256 .f32) (x4 : Vec Ideal S1x256x512 .f32) (x5 : Vec Ideal S1x512x512 .f32) (x6 : Vec Ideal S1x512x256 .f32) (x7 : Vec Ideal
  S1x1024 .f32) (x8 : Vec Ideal S256x512 .bf16) (x9 : Vec Ideal S1024x1024 .bf16) (x10 : Vec Ideal S1x1024 .f32) (x11 : Vec Ideal S1x1024
  .f32)

/-- What a grid point leaves is its store's payload of its input blocks. -/
theorem out_eq :
    out0_A_12 (F := Ideal) c i arg2 harg2 arg3 harg3 arg4 harg4 arg5 harg5 arg6 harg6 arg7 harg7 arg8 harg8 arg9 harg9 arg10 harg10 arg11 harg11 arg12 harg12
        arg13 harg13 arg14 harg14 x0 x1 x2 x3 x4 x5 x6 x7 x8 x9 x10 x11
      = stored x0 x1 x2 x3 x4 x5 x6 x7 x8 x9 x10 x11 := by
  have e0 : ∀ h, View.readAt (Elt Ideal) arg2.view (Rect.unit (s := S1x512x1024) ![0, 0, 0] ![1, 512, 1024] h).toLoadRect (harg2.unread x0) = x0 :=
    fun h => load_whole harg2 x0 h
  have e1 : ∀ h, View.readAt (Elt Ideal) arg3.view (Rect.unit (s := S1x1x1024) ![0, 0, 0] ![1, 1, 1024] h).toLoadRect (harg3.unread x1) = x1 :=
    fun h => load_whole harg3 x1 h
  have e2 : ∀ h, View.readAt (Elt Ideal) arg4.view (Rect.unit (s := S1x256x512) ![0, 0, 0] ![1, 256, 512] h).toLoadRect (harg4.unread x2) = x2 :=
    fun h => load_whole harg4 x2 h
  have e3 : ∀ h, View.readAt (Elt Ideal) arg5.view (Rect.unit (s := S1x512x256) ![0, 0, 0] ![1, 512, 256] h).toLoadRect (harg5.unread x3) = x3 :=
    fun h => load_whole harg5 x3 h
  have e4 : ∀ h, View.readAt (Elt Ideal) arg6.view (Rect.unit (s := S1x256x512) ![0, 0, 0] ![1, 256, 512] h).toLoadRect (harg6.unread x4) = x4 :=
    fun h => load_whole harg6 x4 h
  have e5 : ∀ h, View.readAt (Elt Ideal) arg7.view (Rect.unit (s := S1x512x512) ![0, 0, 0] ![1, 512, 512] h).toLoadRect (harg7.unread x5) = x5 :=
    fun h => load_whole harg7 x5 h
  have e6 : ∀ h, View.readAt (Elt Ideal) arg8.view (Rect.unit (s := S1x512x256) ![0, 0, 0] ![1, 512, 256] h).toLoadRect (harg8.unread x6) = x6 :=
    fun h => load_whole harg8 x6 h
  have e7 : ∀ h, View.readAt (Elt Ideal) arg9.view (Rect.unit (s := S1x1024) ![0, 0] ![1, 1024] h).toLoadRect (harg9.unread x7) = x7 :=
    fun h => load_whole harg9 x7 h
  have e8 : ∀ h, View.readAt (Elt Ideal) arg10.view (Rect.unit (s := S256x512) ![0, 0] ![256, 512] h).toLoadRect (harg10.unread x8) = x8 :=
    fun h => load_whole harg10 x8 h
  have e9 : ∀ h, View.readAt (Elt Ideal) arg11.view (Rect.unit (s := S1024x1024) ![0, 0] ![1024, 1024] h).toLoadRect (harg11.unread x9) = x9 :=
    fun h => load_whole harg11 x9 h
  have e10 : ∀ h, View.readAt (Elt Ideal) arg12.view (Rect.unit (s := S1x1024) ![0, 0] ![1, 1024] h).toLoadRect (harg12.unread x10) = x10 :=
    fun h => load_whole harg12 x10 h
  have e11 : ∀ h, View.readAt (Elt Ideal) arg13.view (Rect.unit (s := S1x1024) ![0, 0] ![1, 1024] h).toLoadRect (harg13.unread x11) = x11 :=
    fun h => load_whole harg13 x11 h
  unfold out0_A_12
  have e : (kernelRun0_A (F := Ideal) c i arg2 harg2 arg3 harg3 arg4 harg4 arg5 harg5 arg6 harg6 arg7 harg7 arg8 harg8 arg9 harg9 arg10 harg10 arg11 harg11 arg12 harg12
        arg13 harg13 arg14 harg14 x0 x1 x2 x3 x4 x5 x6 x7 x8 x9 x10 x11).1
      = [⟨Rect.unit (s := S1x512x1024) ![0, 0, 0] S1x512x1024.size inb_S1x512x1024_S1x512x1024_0_0_0,
        stored x0 x1 x2 x3 x4 x5 x6 x7 x8 x9 x10 x11⟩] := by
    unfold kernelRun0_A
    dsimp only
    sl_unfold_words
    rw [e0, e1, e2, e3, e4, e5, e6, e7, e8, e9, e10, e11]
    unfold stored groups
    rfl
  rw [e]
  funext y
  refine View.read_writes_cons_unit_of_mem VO0_12 _ _ _ _ _ y rfl fun b => ?_
  fin_cases b <;> simp

end Cert.Kernel5Ideal.Val
-- ==== Proof.MgScatter.lean ====
/-
  Writing arrays over parts of another one, read at an index.
-/
module

public import Idealize.ShloMosaic.PureOps
public import Idealize.ShloMosaic.PureOps.Ideal

@[expose] public section

open Idealize.ShloMosaic

namespace Cert.Merge

/-- When every update that lands on an index is `v`, and some update does or the index holds `v` already, it holds `v` afterwards. -/
theorem scatter_at {α : Type} {s si u : Shape} {w : ℕ} (d : ScatterDims s si u) (x : s.Idx → α) (idx : IVec si w)
    (upd : u.Idx → α) (i : s.Idx) (v : α) (hv : ∀ j, d.resultIdx? j idx = some i → upd j = v)
    (h : x i = v ∨ ∃ j, d.resultIdx? j idx = some i) :
    Host.scatter d (fun _ b => b) x idx upd i = v := by
  unfold Host.scatter
  have go : ∀ (l : List (Fin u.numel)) (r : s.Idx → α),
      (r i = v ∨ ∃ n ∈ l, d.resultIdx? (u.rowMajor.symm n) idx = some i) →
      l.foldl (fun r n => match d.resultIdx? (u.rowMajor.symm n) idx with
        | some i => fun j => if j = i then (fun _ b => b) (r i) (upd (u.rowMajor.symm n)) else r j
        | none => r) r i = v := by
    intro l
    induction l with
    | nil =>
      rintro r (h | ⟨n, hn, -⟩)
      · exact h
      · exact absurd hn List.not_mem_nil
    | cons n l ih =>
      intro r h
      refine ih _ ?_
      by_cases hn : d.resultIdx? (u.rowMajor.symm n) idx = some i
      · left
        simp only [hn, if_true]
        exact hv _ hn
      · rcases h with h | ⟨k, hk, e⟩
        · left
          beta_reduce
          generalize d.resultIdx? (u.rowMajor.symm n) idx = o at hn
          cases o with
          | none => exact h
          | some i' => exact (if_neg fun e => hn (congrArg some e.symm)).trans h
        · rcases List.mem_cons.1 hk with rfl | hk
          · exact absurd e hn
          · exact Or.inr ⟨k, hk, e⟩
  refine go _ x ?_
  rcases h with h | ⟨j, hj⟩
  · exact Or.inl h
  · exact Or.inr ⟨u.rowMajor j, List.mem_finRange _, by rw [Equiv.symm_apply_apply]; exact hj⟩

end Cert.Merge
-- ==== Proof.MgWeights.lean ====
/-
  The spread weights the kernel's host code makes, read at an index.
-/
module

public import proofs.«01_k».proof.Proof.MgSpec
public import proofs.«01_k».proof.Proof.MgScatter
public import proofs.«01_k».proof.Proof.Gen.Kernel5Ideal
public import proofs.«01_k».proof.Proof.Gen.Kernel5Ideal.Frame
public import Idealize.ShloMosaic.Lib.Pointwise
public import Idealize.ShloMosaic.Lib.Pipeline.ValueKit.Geometry
public import Idealize.ShloMosaic.Lib.Pipeline.ValueKit.Point

@[expose] public section

set_option maxRecDepth 16384

noncomputable section

open Idealize.ShloMosaic Idealize.ShloMosaic.TcCoe Idealize.SL.Sem

namespace Cert.Kernel5Ideal.Val

open Cert.Kernel5Ideal Cert.Kernel5Ideal.Facts Cert.Kernel5Ideal.Gen Cert.Merge

/-- A place in the spread weights, as the host code hands it to its update. -/
def place (a b : BitVec 32) : IVec S2 32 :=
  concatenate S2 0 [⟨S1, broadcastInDim S1 ![] bcast_S_S1 (constantI S_ 32 a)⟩, ⟨S1, broadcastInDim S1 ![] bcast_S_S1 (constantI S_ 32 b)⟩]
    concatenates_S1_S1_S2_d0

/-- The spread weights with one head's block written at a place. -/
def put (x : FVec Ideal S512x256 .f32) (a b : BitVec 32) (u : FVec Ideal S128x64 .f32) : FVec Ideal S512x256 .f32 :=
  Host.scatter scatter_S512x256_S2_S128x64_01_n_01_0 (fun _ b => b) x (place a b) u

/-- The spread weights. -/
def spreadArr (A8 : FVec Ideal S128x256 .f32) : FVec Ideal S256x512 .bf16 :=
  truncf .bf16 (transpose S256x512 [1, 0]
    (put (put (put (put (broadcastInDim S512x256 ![] bcast_S_S512x256 (constant S_ .f32 0x00000000#32)) 0#32 0#32
      (shapeCast S128x64 (extractStridedSlice S128x1x64 ![0, 0, 0] (shapeCast S128x4x64 A8 shapeCasts_S128x256_S128x4x64) slices_S128x4x64_S128x1x64_0_0_0) shapeCasts_S128x1x64_S128x64))
      128#32 64#32
      (shapeCast S128x64 (extractStridedSlice S128x1x64 ![0, 1, 0] (shapeCast S128x4x64 A8 shapeCasts_S128x256_S128x4x64) slices_S128x4x64_S128x1x64_0_1_0) shapeCasts_S128x1x64_S128x64))
      256#32 128#32
      (shapeCast S128x64 (extractStridedSlice S128x1x64 ![0, 2, 0] (shapeCast S128x4x64 A8 shapeCasts_S128x256_S128x4x64) slices_S128x4x64_S128x1x64_0_2_0) shapeCasts_S128x1x64_S128x64))
      384#32 192#32
      (shapeCast S128x64 (extractStridedSlice S128x1x64 ![0, 3, 0] (shapeCast S128x4x64 A8 shapeCasts_S128x256_S128x4x64) slices_S128x4x64_S128x1x64_0_3_0) shapeCasts_S128x1x64_S128x64))
    transposes_S512x256_S256x512_1_0) bitsLt_bf16_f32

/-- The kernel's weights are these. -/
theorem V_spread (m : (ℓ : Loc nD τ sig) → Buf (Elt Ideal) ℓ) (c : Dev nD) :
    V m c main_v27 = spreadArr (m ((c : Thread nD τ).loc main_arg8)) := by
  simp only [V, hostOps0, List.flatten_cons, List.flatten_nil, List.append_nil,
    List.cons_append, List.nil_append, StableHlo.after_cons, StableHlo.after_nil]
  after_results_simp
  unfold spreadArr put place
  rfl

/-- An update's coordinate goes to its place's own, added to it. -/
theorem lands (h : Fin 4) (a b : BitVec 32) (ha : a.toInt = h.val * 128) (hb : b.toInt = h.val * 64) (c : Fin 128) (j : Fin 64) :
    ScatterDims.resultIdx? scatter_S512x256_S2_S128x64_01_n_01_0 (ix2 c j) (place a b)
      = some (ix2 (⟨h.val * 128 + c.val, by omega⟩ : Fin 512) (⟨h.val * 64 + j.val, by omega⟩ : Fin 256)) := by
  have p0 : place a b (ix1 0) = a := by pointwise [place]
  have p1 : place a b (ix1 1) = b := by pointwise [place]
  have s0 : ScatterDims.start scatter_S512x256_S2_S128x64_01_n_01_0 (ix2 c j) (place a b) 0 = h.val * 128 := by
    unfold ScatterDims.start
    rw [dif_pos (by decide), ← ha, ← p0]
    congr 2
    funext b
    refine Fin.ext ?_
    match b with
    | ⟨0, _⟩ => rfl
  have s1 : ScatterDims.start scatter_S512x256_S2_S128x64_01_n_01_0 (ix2 c j) (place a b) 1 = h.val * 64 := by
    unfold ScatterDims.start
    rw [dif_pos (by decide), ← hb, ← p1]
    congr 2
    funext b
    refine Fin.ext ?_
    match b with
    | ⟨0, _⟩ => rfl
  have w0 : ScatterDims.window scatter_S512x256_S2_S128x64_01_n_01_0 (ix2 c j) 0 = c.val := rfl
  have w1 : ScatterDims.window scatter_S512x256_S2_S128x64_01_n_01_0 (ix2 c j) 1 = j.val := rfl
  unfold ScatterDims.resultIdx?
  rw [dif_pos]
  · congr 1
    funext k
    refine Fin.ext ?_
    match k with
    | ⟨0, _⟩ => show (ScatterDims.start _ _ _ 0 + ScatterDims.window _ _ 0 : ℤ).toNat = _; rw [s0, w0]; rfl
    | ⟨1, _⟩ => show (ScatterDims.start _ _ _ 1 + ScatterDims.window _ _ 1 : ℤ).toNat = _; rw [s1, w1]; rfl
  · intro k
    have : k = 0 ∨ k = 1 := by
      match k with
      | ⟨0, _⟩ => exact Or.inl rfl
      | ⟨1, _⟩ => exact Or.inr rfl
    rcases this with rfl | rfl
    · rw [s0, w0]; show _ ∧ _ < ((512 : ℕ) : ℤ); omega
    · rw [s1, w1]; show _ ∧ _ < ((256 : ℕ) : ℤ); omega

/-- Writing a head's block: inside it the head's weights, elsewhere what was there. -/
theorem put_apply (x : FVec Ideal S512x256 .f32) (h : Fin 4) (a b : BitVec 32) (ha : a.toInt = h.val * 128) (hb : b.toInt = h.val * 64)
    (u : FVec Ideal S128x64 .f32) (uv : Fin 128 → Fin 256 → EReal)
    (hu : ∀ (c : Fin 128) (j : Fin 64), u (ix2 c j) = uv c ⟨h.val * 64 + j.val, by omega⟩) (c : Fin 512) (j : Fin 256) :
    put x a b u (ix2 c j)
      = if c.val / 128 = h.val ∧ j.val / 64 = h.val then uv ⟨c.val % 128, by omega⟩ j else x (ix2 c j) := by
  refine scatter_at _ _ _ _ _ _ ?_ ?_
  · intro y e
    obtain ⟨c', j', rfl⟩ : ∃ (c' : Fin 128) (j' : Fin 64), y = (ix2 c' j' : S128x64.Idx) := ⟨y 0, y 1, eq_ix2 y⟩
    rw [lands h a b ha hb, Option.some.injEq] at e
    have e0 : h.val * 128 + c'.val = c.val := congrArg Fin.val (congrFun e 0)
    have e1 : h.val * 64 + j'.val = j.val := congrArg Fin.val (congrFun e 1)
    rw [hu, if_pos (by omega)]
    congr 1
    · exact Fin.ext (by simp only; omega)
    · exact Fin.ext e1
  · by_cases hc : c.val / 128 = h.val ∧ j.val / 64 = h.val
    · refine Or.inr ⟨ix2 (⟨c.val % 128, by omega⟩ : Fin 128) (⟨j.val % 64, by omega⟩ : Fin 64), ?_⟩
      rw [lands h a b ha hb]
      congr 2 <;> exact Fin.ext (by simp only; omega)
    · exact Or.inl (if_neg hc).symm

/-- The spread weights at an index. -/
theorem spreadArr_apply (A8 : FVec Ideal S128x256 .f32) (j : Fin 256) (c : Fin 512) :
    spreadArr A8 (ix2 j c) = spread (fun c j => A8 (ix2 c j)) c j := by
  pointwise [spreadArr]
  rw [put_apply _ 3 384#32 192#32 (by decide) (by decide) _ (fun c j => A8 (ix2 c j)) (fun c j => by pointwise),
    put_apply _ 2 256#32 128#32 (by decide) (by decide) _ (fun c j => A8 (ix2 c j)) (fun c j => by pointwise),
    put_apply _ 1 128#32 64#32 (by decide) (by decide) _ (fun c j => A8 (ix2 c j)) (fun c j => by pointwise),
    put_apply _ 0 0#32 0#32 (by decide) (by decide) _ (fun c j => A8 (ix2 c j)) (fun c j => by pointwise)]
  pointwise
  unfold spread
  have hc := c.isLt
  have hj := j.isLt
  show (if c.val / 128 = 3 ∧ j.val / 64 = 3 then _ else if c.val / 128 = 2 ∧ j.val / 64 = 2 then _
    else if c.val / 128 = 1 ∧ j.val / 64 = 1 then _ else if c.val / 128 = 0 ∧ j.val / 64 = 0 then _ else _) = _
  split_ifs <;> first | rfl | (exfalso; omega)

end Cert.Kernel5Ideal.Val
-- ==== Proof.MgArray.lean ====
/-
  The merge kernel's output array: every grid point's block placed in it, read back at an index.
-/
module

public import proofs.«01_k».proof.Proof.MgOut
public import proofs.«01_k».proof.Proof.MgWeights
public import proofs.«01_k».proof.Proof.Gen.Kernel5Ideal.Value
public import Idealize.ShloMosaic.Lib.Pipeline.ValueKit.Acc

@[expose] public section

set_option maxRecDepth 16384

noncomputable section

open Idealize.ShloMosaic Idealize.ShloMosaic.TcCoe Idealize.SL.Sem
open Idealize.ShloMosaic.Pipeline (Dat)

namespace Cert.Kernel5Ideal.Val

open Cert.Kernel5Ideal Cert.Kernel5Ideal.Facts Cert.Kernel5Ideal.Gen Cert.Merge

variable (m : (ℓ : Loc nD τ sig) → Buf (Elt Ideal) ℓ)

/-- The windows' block indices at a grid point. -/
theorem idx (t : Fin cfg0.N) :
    win0_0.index t = ![t.val / 16, t.val % 16, 0] ∧ win0_1.index t = ![t.val / 16, 0, 0] ∧ win0_2.index t = ![t.val / 16, 0, t.val % 16]
      ∧ win0_3.index t = ![t.val / 16, t.val % 16, 0] ∧ win0_4.index t = ![t.val / 16, 0, t.val % 16]
      ∧ win0_5.index t = ![t.val / 16, 0, t.val % 16] ∧ win0_6.index t = ![t.val / 16, t.val % 16, 7]
      ∧ win0_7.index t = ![0, 0] ∧ win0_8.index t = ![0, 0] ∧ win0_9.index t = ![0, 0] ∧ win0_10.index t = ![0, 0]
      ∧ win0_11.index t = ![0, 0] ∧ win0_12.index t = ![t.val / 16, t.val % 16, 0] := by
  revert t
  decide +kernel

/-- The merge with its normalisation, on whole arrays. -/
def mergeArr (A0 : Vec Ideal S4x8192x1024 .f32) (A1 : Vec Ideal S4x1x1024 .f32) (A2 : Vec Ideal S4x256x8192 .f32)
    (A3 : Vec Ideal S4x8192x256 .f32) (A4 : Vec Ideal S4x256x8192 .f32) (A5 : Vec Ideal S4x512x8192 .f32)
    (A6 : Vec Ideal S4x8192x3456 .f32) (A7 : Vec Ideal S1024 .f32) (A8 : Vec Ideal S128x256 .f32) (A9 : Vec Ideal S1024x1024 .f32)
    (A10 A11 : Vec Ideal S1024 .f32) : Vec Ideal S4x8192x1024 .f32 :=
  fun y => row (fun d => A0 (ix3 (y 0) (y 1) d)) (fun d => A1 (ix3 (y 0) 0 d)) (fun j => A2 (ix3 (y 0) j (y 1)))
    (fun j => A3 (ix3 (y 0) (y 1) j)) (fun j => A4 (ix3 (y 0) j (y 1)))
    (values (fun c j => A8 (ix2 c j)) fun c => A5 (ix3 (y 0) c (y 1)))
    (fun j => A6 (ix3 (y 0) (y 1) (⟨1792 + j.val, by omega⟩ : Fin 3456))) (fun k => A7 (ix1 k)) (fun k d => A9 (ix2 k d))
    (fun d => A10 (ix1 d)) (fun d => A11 (ix1 d)) (y 2)

/-- The gains as the host code hands them on. -/
theorem V_gains (c : Dev nD) : V m c main_v29 = shapeCast S1x1024 (m ((c : Thread nD τ).loc main_arg7)) shapeCasts_S1024_S1x1024 := by
  simp only [V, hostOps0, List.flatten_cons, List.flatten_nil, List.append_nil,
    List.cons_append, List.nil_append, StableHlo.after_cons, StableHlo.after_nil]
  after_results_simp
  rfl

/-- The output weights as the host code hands them on. -/
theorem V_out (c : Dev nD) : V m c main_v28 = truncf (F := Ideal) (s := S1024x1024) (φ := .f32) .bf16 (m ((c : Thread nD τ).loc main_arg9)) bitsLt_bf16_f32 := by
  simp only [V, hostOps0, List.flatten_cons, List.flatten_nil, List.append_nil,
    List.cons_append, List.nil_append, StableHlo.after_cons, StableHlo.after_nil]
  after_results_simp

/-- The normalisation's factors as the host code hands them on. -/
theorem V_factors (c : Dev nD) : V m c main_v30 = shapeCast S1x1024 (m ((c : Thread nD τ).loc main_arg10)) shapeCasts_S1024_S1x1024 := by
  simp only [V, hostOps0, List.flatten_cons, List.flatten_nil, List.append_nil,
    List.cons_append, List.nil_append, StableHlo.after_cons, StableHlo.after_nil]
  after_results_simp
  rfl

/-- The normalisation's offsets as the host code hands them on. -/
theorem V_offsets (c : Dev nD) : V m c main_v31 = shapeCast S1x1024 (m ((c : Thread nD τ).loc main_arg11)) shapeCasts_S1024_S1x1024 := by
  simp only [V, hostOps0, List.flatten_cons, List.flatten_nil, List.append_nil,
    List.cons_append, List.nil_append, StableHlo.after_cons, StableHlo.after_nil]
  after_results_simp
  rfl

/-- A row of 1024 entries, as an array with a leading unit axis. -/
theorem row_apply (A : FVec Ideal S1024 .f32) (d : Fin 1024) : shapeCast S1x1024 A shapeCasts_S1024_S1x1024 (ix2 0 d) = A (ix1 d) := by
  pointwise

/-- A grid point's rows in their array. -/
theorem iblk0 (c : Dev nD) (t : Fin cfg0.N) (b : Fin 4) (hb : b.val = t.val / 16) (r : Fin 512) (d : Fin 1024) :
    iblk m c 0 t (ix3 0 r d) = m ((c : Thread nD τ).loc main_arg0) (ix3 b (⟨t.val % 16 * 512 + r.val, by omega⟩ : Fin 8192) d) := by
  have e := (idx t).1
  rw [← V_main_arg0 m c]
  blk_ext [iblk, e]

/-- A grid point's gate on the block. -/
theorem iblk1 (c : Dev nD) (t : Fin cfg0.N) (b : Fin 4) (hb : b.val = t.val / 16) (d : Fin 1024) :
    iblk m c 1 t (ix3 0 0 d) = m ((c : Thread nD τ).loc main_arg1) (ix3 b 0 d) := by
  have e := (idx t).2.1
  rw [← V_main_arg1 m c]
  blk_ext [iblk, e]

/-- A grid point's first group. -/
theorem iblk2 (c : Dev nD) (t : Fin cfg0.N) (b : Fin 4) (hb : b.val = t.val / 16) (j : Fin 256) (r : Fin 512) :
    iblk m c 2 t (ix3 0 j r) = m ((c : Thread nD τ).loc main_arg2) (ix3 b j (⟨t.val % 16 * 512 + r.val, by omega⟩ : Fin 8192)) := by
  have e := (idx t).2.2.1
  rw [← V_main_arg2 m c]
  blk_ext [iblk, e]

/-- A grid point's second group. -/
theorem iblk3 (c : Dev nD) (t : Fin cfg0.N) (b : Fin 4) (hb : b.val = t.val / 16) (r : Fin 512) (j : Fin 256) :
    iblk m c 3 t (ix3 0 r j) = m ((c : Thread nD τ).loc main_arg3) (ix3 b (⟨t.val % 16 * 512 + r.val, by omega⟩ : Fin 8192) j) := by
  have e := (idx t).2.2.2.1
  rw [← V_main_arg3 m c]
  blk_ext [iblk, e]

/-- A grid point's third group. -/
theorem iblk4 (c : Dev nD) (t : Fin cfg0.N) (b : Fin 4) (hb : b.val = t.val / 16) (j : Fin 256) (r : Fin 512) :
    iblk m c 4 t (ix3 0 j r) = m ((c : Thread nD τ).loc main_arg4) (ix3 b j (⟨t.val % 16 * 512 + r.val, by omega⟩ : Fin 8192)) := by
  have e := (idx t).2.2.2.2.1
  rw [← V_main_arg4 m c]
  blk_ext [iblk, e]

/-- A grid point's latent heads. -/
theorem iblk5 (c : Dev nD) (t : Fin cfg0.N) (b : Fin 4) (hb : b.val = t.val / 16) (j : Fin 512) (r : Fin 512) :
    iblk m c 5 t (ix3 0 j r) = m ((c : Thread nD τ).loc main_arg5) (ix3 b j (⟨t.val % 16 * 512 + r.val, by omega⟩ : Fin 8192)) := by
  have e := (idx t).2.2.2.2.2.1
  rw [← V_main_arg5 m c]
  blk_ext [iblk, e]

/-- A grid point's gates of the second group: the projection's columns from 1792. -/
theorem iblk6 (c : Dev nD) (t : Fin cfg0.N) (b : Fin 4) (hb : b.val = t.val / 16) (r : Fin 512) (j : Fin 256) :
    X0_6 m c t (ix3 0 r j : S1x512x256.Idx) = m ((c : Thread nD τ).loc main_arg6) (ix3 b (⟨t.val % 16 * 512 + r.val, by omega⟩ : Fin 8192)
      (⟨1792 + j.val, by omega⟩ : Fin 3456)) := by
  have e := (idx t).2.2.2.2.2.2.1
  rw [← V_main_arg6 m c]
  unfold X0_6 Pipeline.Window.fill
  rw [dif_pos (moved0_6 t _)]
  blk_ext [iblk, e]

/-- The gains. -/
theorem iblk7 (c : Dev nD) (t : Fin cfg0.N) (d : Fin 1024) :
    iblk m c 7 t (ix2 0 d) = m ((c : Thread nD τ).loc main_arg7) (ix1 d) := by
  have e := (idx t).2.2.2.2.2.2.2.1
  rw [← row_apply (m ((c : Thread nD τ).loc main_arg7)), ← V_gains]
  blk_ext [iblk, e]

/-- The spread weights. -/
theorem iblk8 (c : Dev nD) (t : Fin cfg0.N) (j : Fin 256) (k : Fin 512) :
    iblk m c 8 t (ix2 j k) = spread (fun c' j => m ((c : Thread nD τ).loc main_arg8) (ix2 c' j)) k j := by
  have e := (idx t).2.2.2.2.2.2.2.2.1
  rw [← spreadArr_apply (m ((c : Thread nD τ).loc main_arg8)), ← V_spread]
  blk_ext [iblk, e]

/-- The output weights. -/
theorem iblk9 (c : Dev nD) (t : Fin cfg0.N) (k d : Fin 1024) :
    iblk m c 9 t (ix2 k d) = m ((c : Thread nD τ).loc main_arg9) (ix2 k d) := by
  have e := (idx t).2.2.2.2.2.2.2.2.2.1
  refine Eq.trans ?_ (congrFun (V_out m c) (ix2 k d))
  blk_ext [iblk, e]

/-- The normalisation's factors. -/
theorem iblk10 (c : Dev nD) (t : Fin cfg0.N) (d : Fin 1024) :
    iblk m c 10 t (ix2 0 d) = m ((c : Thread nD τ).loc main_arg10) (ix1 d) := by
  have e := (idx t).2.2.2.2.2.2.2.2.2.2.1
  rw [← row_apply (m ((c : Thread nD τ).loc main_arg10)), ← V_factors]
  blk_ext [iblk, e]

/-- The normalisation's offsets. -/
theorem iblk11 (c : Dev nD) (t : Fin cfg0.N) (d : Fin 1024) :
    iblk m c 11 t (ix2 0 d) = m ((c : Thread nD τ).loc main_arg11) (ix1 d) := by
  have e := (idx t).2.2.2.2.2.2.2.2.2.2.2.1
  rw [← row_apply (m ((c : Thread nD τ).loc main_arg11)), ← V_offsets]
  blk_ext [iblk, e]

/-- The kernel's result array is the merge of its arguments. -/
theorem final (c : Dev nD) :
    (dats m 0 c).arrAt 12 cfg0.N = mergeArr (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) (m ((c : Thread nD τ).loc main_arg7))
      (m ((c : Thread nD τ).loc main_arg8)) (m ((c : Thread nD τ).loc main_arg9)) (m ((c : Thread nD τ).loc main_arg10))
      (m ((c : Thread nD τ).loc main_arg11)) := by
  refine (dats m 0 c).arrAt_eq_of_covers 12 _ (by decide +kernel) fun t hf y => ?_
  blk_simp
  rw [after0_12]
  unfold outsAt0
  rw [out_eq, stored_eq]
  have ht : t.val < 64 := lt_of_lt_of_eq t.isLt N_0
  obtain ⟨r, d, rfl⟩ : ∃ (r : Fin 512) (d : Fin 1024), y = (ix3 0 r d : S1x512x1024.Idx) :=
    ⟨y 1, y 2, (eq_ix3 y).trans (congrArg (fun a => ix3 a (y 1) (y 2)) (Subsingleton.elim (α := Fin 1) _ _))⟩
  have e := (idx t).2.2.2.2.2.2.2.2.2.2.2.2
  have hy : (win0_12.blk t).view.emb (ix3 0 r d : S1x512x1024.Idx)
      = (ix3 (⟨t.val / 16, by omega⟩ : Fin 4) (⟨t.val % 16 * 512 + r.val, by omega⟩ : Fin 8192) d : S4x8192x1024.Idx) := by
    blk_ext [e]
  rw [hy, Kernel2Ideal.Val.scaled_apply]
  simp only [before_apply, groups_apply, iblk0 m c t ⟨t.val / 16, by omega⟩ rfl, iblk1 m c t ⟨t.val / 16, by omega⟩ rfl,
    iblk2 m c t ⟨t.val / 16, by omega⟩ rfl, iblk3 m c t ⟨t.val / 16, by omega⟩ rfl, iblk4 m c t ⟨t.val / 16, by omega⟩ rfl,
    iblk5 m c t ⟨t.val / 16, by omega⟩ rfl, iblk6 m c t ⟨t.val / 16, by omega⟩ rfl, iblk7, iblk8, iblk9, iblk10, iblk11, sum_spread]
  rfl

end Cert.Kernel5Ideal.Val
-- ==== Proof.MgRef.lean ====
/-
  The merge's reference: its steps, read at an index.
-/
module

public import proofs.«01_k».proof.Proof.MgArray
public import proofs.«01_k».proof.Proof.FfnRef
public import proofs.«01_k».proof.Proof.Gen.Reference5Ideal
public import proofs.«01_k».proof.Proof.Gen.Reference5Ideal.Run
public import Idealize.ShloMosaic.Lib.Pointwise

@[expose] public section

set_option maxRecDepth 16384

noncomputable section

open Idealize.ShloMosaic Idealize.ShloMosaic.TcCoe Idealize.SL.Sem

namespace Cert.Reference5Ideal.Val

open Cert.Reference5Ideal Cert.Reference5Ideal.Facts Cert.Reference5Ideal.Gen Cert.Merge Cert.Kernel5Ideal.Val

variable (A0 : FVec Ideal S4x8192x1024 .f32) (A1 : FVec Ideal S4x1x1024 .f32) (A5 : FVec Ideal S4x512x8192 .f32)
  (A7 : FVec Ideal S1024 .f32) (A8 : FVec Ideal S128x256 .f32) (A9 : FVec Ideal S1024x1024 .f32)

/-- The latent heads' outputs. -/
def latents : FVec Ideal S4x8192x256 .f32 :=
  shapeCast S4x8192x256 (transpose S4x8192x4x64 [2, 3, 0, 1]
    (Host.dotGeneral dot_S128x4x64_S4x4x128x8192_S4x64x4x8192_0_2_2_03_1_1 none (shapeCast S128x4x64 A8 shapeCasts_S128x256_S128x4x64)
      (shapeCast S4x4x128x8192 A5 shapeCasts_S4x512x8192_S4x4x128x8192)) transposes_S4x64x4x8192_S4x8192x4x64_2_3_0_1)
    shapeCasts_S4x8192x4x64_S4x8192x256

/-- A group with its positions before its entries. -/
def flip (A : FVec Ideal S4x256x8192 .f32) : FVec Ideal S4x8192x256 .f32 :=
  transpose S4x8192x256 [0, 2, 1] A transposes_S4x256x8192_S4x8192x256_0_2_1

/-- Four groups stacked. -/
def stack (P0 P1 P2 P3 : FVec Ideal S4x8192x256 .f32) : FVec Ideal S4x8192x4x256 .f32 :=
  concatenate S4x8192x4x256 2
    [⟨S4x8192x1x256, broadcastInDim S4x8192x1x256 ![0, 1, 3] bcast_S4x8192x256_S4x8192x1x256_0_1_3 P0⟩,
      ⟨S4x8192x1x256, broadcastInDim S4x8192x1x256 ![0, 1, 3] bcast_S4x8192x256_S4x8192x1x256_0_1_3 P1⟩,
      ⟨S4x8192x1x256, broadcastInDim S4x8192x1x256 ![0, 1, 3] bcast_S4x8192x256_S4x8192x1x256_0_1_3 P2⟩,
      ⟨S4x8192x1x256, broadcastInDim S4x8192x1x256 ![0, 1, 3] bcast_S4x8192x256_S4x8192x1x256_0_1_3 P3⟩]
    concatenates_S4x8192x1x256_S4x8192x1x256_S4x8192x1x256_S4x8192x1x256_S4x8192x4x256_d2

/-- The groups over their root mean squares, times their gains. -/
def rmsArr (X : FVec Ideal S4x8192x4x256 .f32) : FVec Ideal S4x8192x4x256 .f32 :=
  mulf (mulf X (broadcastInDim S4x8192x4x256 ![0, 1, 2, 3] bcast_S4x8192x4x1_S4x8192x4x256_0_1_2_3
      (Host.rsqrt (addf (Host.divf (broadcastInDim S4x8192x4x1 ![0, 1, 2] bcast_S4x8192x4_S4x8192x4x1_0_1_2
          (Host.reduceAdd (mulf X X) (constant S_ .f32 0x00000000#32) reducesTo_S4x8192x4x256_S4x8192x4_d3 h_S_))
          (broadcastInDim S4x8192x4x1 ![] bcast_S_S4x8192x4x1 (constant S_ .f32 0x43800000#32)))
        (broadcastInDim S4x8192x4x1 ![] bcast_S_S4x8192x4x1 (constant S_ .f32 0x358637BD#32))))))
    (broadcastInDim S4x8192x4x256 ![0, 1, 2, 3] bcast_S1x1x4x256_S4x8192x4x256_0_1_2_3
      (broadcastInDim S1x1x4x256 ![2, 3] bcast_S4x256_S1x1x4x256_2_3 (shapeCast S4x256 A7 shapeCasts_S1024_S4x256)))

/-- A gate times its logistic. -/
def gated (G : FVec Ideal S4x8192x256 .f32) : FVec Ideal S4x8192x256 .f32 :=
  mulf G (Host.divf (broadcastInDim S4x8192x256 ![] bcast_S_S4x8192x256 (constant S_ .f32 0x3F800000#32))
    (addf (broadcastInDim S4x8192x256 ![] bcast_S_S4x8192x256 (constant S_ .f32 0x3F800000#32)) (Host.exp (Host.negf G))))

/-- The groups side by side, the second one gated. -/
def sides (R : FVec Ideal S4x8192x4x256 .f32) (G : FVec Ideal S4x8192x256 .f32) : FVec Ideal S4x8192x1024 .f32 :=
  concatenate S4x8192x1024 2
    [⟨S4x8192x256, shapeCast S4x8192x256 (extractStridedSlice S4x8192x1x256 ![0, 0, 0, 0] R slices_S4x8192x4x256_S4x8192x1x256_0_0_0_0) shapeCasts_S4x8192x1x256_S4x8192x256⟩,
      ⟨S4x8192x256, mulf (shapeCast S4x8192x256 (extractStridedSlice S4x8192x1x256 ![0, 0, 1, 0] R slices_S4x8192x4x256_S4x8192x1x256_0_0_1_0) shapeCasts_S4x8192x1x256_S4x8192x256) (gated G)⟩,
      ⟨S4x8192x256, shapeCast S4x8192x256 (extractStridedSlice S4x8192x1x256 ![0, 0, 2, 0] R slices_S4x8192x4x256_S4x8192x1x256_0_0_2_0) shapeCasts_S4x8192x1x256_S4x8192x256⟩,
      ⟨S4x8192x256, shapeCast S4x8192x256 (extractStridedSlice S4x8192x1x256 ![0, 0, 3, 0] R slices_S4x8192x4x256_S4x8192x1x256_0_0_3_0) shapeCasts_S4x8192x1x256_S4x8192x256⟩]
    concatenates_S4x8192x256_S4x8192x256_S4x8192x256_S4x8192x256_S4x8192x1024_d2

/-- The rows with the block's output added. -/
def added (M : FVec Ideal S4x8192x1024 .f32) : FVec Ideal S4x8192x1024 .f32 :=
  addf (mulf (broadcastInDim S4x8192x1024 ![] bcast_S_S4x8192x1024 (constant S_ .f32 0x3FB504F3#32)) A0)
    (mulf (broadcastInDim S4x8192x1024 ![0, 1, 2] bcast_S4x1x1024_S4x8192x1024_0_1_2
      (addf (broadcastInDim S4x1x1024 ![] bcast_S_S4x1x1024 (constant S_ .f32 0x3F800000#32)) A1))
      (Host.dotGeneral dot_S4x8192x1024_S1024x1024_S4x8192x1024_2_0_01_1_n_n none M A9))

/-- The latent heads' outputs at an index. -/
theorem latents_apply (b : Fin 4) (s : Fin 8192) (j : Fin 256) :
    latents A5 A8 (ix3 b s j) = values (fun c j => A8 (ix2 c j)) (fun c => A5 (ix3 b c s)) j := by
  pointwise [latents]
  rfl

/-- The stacked groups, one by one. -/
theorem stack_apply (P0 P1 P2 P3 : FVec Ideal S4x8192x256 .f32) (b : Fin 4) (s : Fin 8192) (j : Fin 256) :
    stack P0 P1 P2 P3 (ix4 b s 0 j) = P0 (ix3 b s j) ∧ stack P0 P1 P2 P3 (ix4 b s 1 j) = P1 (ix3 b s j)
      ∧ stack P0 P1 P2 P3 (ix4 b s 2 j) = P2 (ix3 b s j) ∧ stack P0 P1 P2 P3 (ix4 b s 3 j) = P3 (ix3 b s j) := by
  refine ⟨?_, ?_, ?_, ?_⟩ <;> pointwise [stack]

/-- A normalised group. -/
theorem rmsArr_apply (X : FVec Ideal S4x8192x4x256 .f32) (b : Fin 4) (s : Fin 8192) (i : Fin 4) (j : Fin 256) :
    rmsArr A7 X (ix4 b s i j) = rms (fun j => X (ix4 b s i j)) (gains (fun k => A7 (ix1 k)) i) j := by
  pointwise [rmsArr]
  rfl

/-- The groups side by side at an index. -/
theorem sides_apply (R : FVec Ideal S4x8192x4x256 .f32) (G : FVec Ideal S4x8192x256 .f32) (b : Fin 4) (s : Fin 8192) (k : Fin 1024) :
    sides R G (ix3 b s k) = side (fun j => R (ix4 b s 0 j)) (fun j => R (ix4 b s 1 j) * Ffn.gate (G (ix3 b s j)))
      (fun j => R (ix4 b s 2 j)) (fun j => R (ix4 b s 3 j)) k := by
  pointwise [sides, gated]
  rfl

/-- A row with the block's output added. -/
theorem added_apply (M : FVec Ideal S4x8192x1024 .f32) (b : Fin 4) (s : Fin 8192) (d : Fin 1024) :
    added A0 A1 A9 M (ix3 b s d) = total (fun d => A0 (ix3 b s d)) (fun d => A1 (ix3 b 0 d))
      (fun d => ∑ k, M (ix3 b s k) * A9 (ix2 k d)) d := by
  pointwise [added]
  rfl

/-- What the reference normalises is these steps in a row. -/
theorem rows_eq (m : (ℓ : Loc nD τ sig) → Buf (Elt Ideal) ℓ) (c : Dev nD) :
    Value.res_main_v45 (StableHlo.launchContents m c) = added (m ((c.tc : Thread nD τ).loc main_arg0)) (m ((c.tc : Thread nD τ).loc main_arg1)) (m ((c.tc : Thread nD τ).loc main_arg9))
      (sides (rmsArr (m ((c.tc : Thread nD τ).loc main_arg7)) (stack (flip (m ((c.tc : Thread nD τ).loc main_arg2))) (m ((c.tc : Thread nD τ).loc main_arg3)) (flip (m ((c.tc : Thread nD τ).loc main_arg4))) (latents (m ((c.tc : Thread nD τ).loc main_arg5)) (m ((c.tc : Thread nD τ).loc main_arg8)))))
        (extractStridedSlice S4x8192x256 ![0, 0, 1792] (m ((c.tc : Thread nD τ).loc main_arg6)) slices_S4x8192x3456_S4x8192x256_0_0_1792)) := by
  unfold Value.res_main_v45 Value.res_main_v26 Value.res_main_v12 Value.res_main_v0
  rfl

/-- The reference's result is the merge of its arguments. -/
theorem res (m : (ℓ : Loc nD τ sig) → Buf (Elt Ideal) ℓ) (c : Dev nD) :
    Cert.Reference2Ideal.Val.norms (m ((c.tc : Thread nD τ).loc main_arg10)) (m ((c.tc : Thread nD τ).loc main_arg11)) (Value.res_main_v45 (StableHlo.launchContents m c))
      = mergeArr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) := by
  rw [rows_eq]
  funext y
  obtain ⟨b, s, d, rfl⟩ : ∃ (b : Fin 4) (s : Fin 8192) (d : Fin 1024), y = (ix3 b s d : S4x8192x1024.Idx) :=
    ⟨y 0, y 1, y 2, eq_ix3 y⟩
  rw [Cert.Reference2Ideal.Val.norms_apply]
  have hf : ∀ (A : FVec Ideal S4x256x8192 .f32) (j : Fin 256), flip A (ix3 b s j) = A (ix3 b j s) := by
    intro A j
    pointwise [flip]
  have hg : ∀ (A : FVec Ideal S4x8192x3456 .f32) (j : Fin 256),
      extractStridedSlice S4x8192x256 ![0, 0, 1792] A slices_S4x8192x3456_S4x8192x256_0_0_1792 (ix3 b s j)
        = A (ix3 b s (⟨1792 + j.val, by omega⟩ : Fin 3456)) := by
    intro A j
    pointwise
  simp only [added_apply, sides_apply, rmsArr_apply, (stack_apply _ _ _ _ _ _ _).1, (stack_apply _ _ _ _ _ _ _).2.1,
    (stack_apply _ _ _ _ _ _ _).2.2.1, (stack_apply _ _ _ _ _ _ _).2.2.2, latents_apply, hf, hg]
  rfl

end Cert.Reference5Ideal.Val
-- ==== Proof.LgSpec.lean ====
/-
  The forget gate's logarithm on plain numbers.
-/
module

public import Idealize.ShloMosaic.PureOps
public import Idealize.ShloMosaic.PureOps.Ideal

@[expose] public section

noncomputable section

open Idealize.ShloMosaic

namespace Cert.Gate

/-- The logarithm of the logistic function: minus the logarithm of one plus the exponential of `-z`, written without overflow. -/
def decay (z : EReal) : EReal := -(max (-z) 0 + Ideal.log1p (Ideal.exp (-FloatOps.absf (F := Ideal) (φ := .f32) z)))

/-- A number and its negation have the same absolute value. -/
theorem abs_neg (z : EReal) : FloatOps.absf (F := Ideal) (φ := .f32) (-z) = FloatOps.absf (F := Ideal) (φ := .f32) z := by
  show max (-z) (- -z) = max z (-z)
  rw [neg_neg, max_comm]

end Cert.Gate
-- ==== Proof.LgOut.lean ====
/-
  The forget gates' kernel: what one grid point leaves in the gates' block.
-/
module

public import proofs.«01_k».proof.Proof.LgSpec
public import proofs.«01_k».proof.Proof.Whole
public import proofs.«01_k».proof.Proof.Gen.Kernel6Ideal
public import proofs.«01_k».proof.Proof.Gen.Kernel6Ideal.Frame
public import Idealize.ShloMosaic.Lib.Pointwise

@[expose] public section

set_option maxRecDepth 16384

noncomputable section

open Idealize.ShloMosaic Idealize.ShloMosaic.TcCoe Idealize.SL.Sem

namespace Cert.Kernel6Ideal.Val

open Cert.Kernel6Ideal Cert.Kernel6Ideal.Facts Cert.Kernel6Ideal.Gen Cert.Gate Cert.Whole

/-- The gates' payload at an index. -/
theorem pay_apply (v3 : Vec Ideal S1x256x128 .f32) (v5 : Vec Ideal S1x128 .f32) (r : Fin 256) (h : Fin 4) :
    k0_pay4 v3 v5 (ix3 0 r h) = decay (v3 (ix3 0 r (⟨44 + h.val, by omega⟩ : Fin 128)) + v5 (ix2 0 (⟨44 + h.val, by omega⟩ : Fin 128))) := by
  pointwise [k0_pay4, k0_pay3]
  simp only [zero_sub]
  rfl

variable (c : Dev nD) (i : grid0.Coords) (arg2 : Memref sig .tc .vmem S1x256x512 .f32) (harg2 : arg2.IsWhole) (arg3 : Memref sig .tc .vmem
  S1x256x256 .f32) (harg3 : arg3.IsWhole) (arg4 : Memref sig .tc .vmem S1x256x256 .f32) (harg4 : arg4.IsWhole) (arg5 : Memref sig .tc .vmem
  S1x256x128 .f32) (harg5 : arg5.IsWhole) (arg6 : Memref sig .tc .vmem S1x128 .f32) (harg6 : arg6.IsWhole) (arg7 : Memref sig .tc .vmem
  S256x256 .f32) (harg7 : arg7.IsWhole) (arg8 : Memref sig .tc .vmem S384x768 .bf16) (harg8 : arg8.IsWhole) (arg9 : Memref sig .tc .vmem
  S1x768 .f32) (harg9 : arg9.IsWhole) (arg10 : Memref sig .tc .vmem S1x256x4 .f32) (harg10 : arg10.IsWhole) (arg11 : Memref sig .tc .vmem
  S1x256x512 .bf16) (harg11 : arg11.IsWhole) (arg12 : Memref sig .tc .vmem S1x1x256x256 .bf16) (harg12 : arg12.IsWhole) (arg13 : Memref sig
  .tc .vmem S1x1x128x256 .bf16) (harg13 : arg13.IsWhole) (arg14 : Memref sig .tc .vmem S1x128 .f32) (harg14 : arg14.IsWhole) (x0 : Vec Ideal
  S1x256x512 .f32) (x1 : Vec Ideal S1x256x256 .f32) (x2 : Vec Ideal S1x256x256 .f32) (x3 : Vec Ideal S1x256x128 .f32) (x4 : Vec Ideal S1x128
  .f32) (x5 : Vec Ideal S256x256 .f32) (x6 : Vec Ideal S384x768 .bf16) (x7 : Vec Ideal S1x768 .f32)

/-- What a grid point leaves in the gates' block, the first of a batch: the gates' payload of its columns and its offsets. -/
theorem out_A_eq (hc0 : cond0_0 i) :
    out0_A_8 (F := Ideal) c i arg2 harg2 arg3 harg3 arg4 harg4 arg5 harg5 arg6 harg6 arg7 harg7 arg8 harg8 arg9 harg9 arg10 harg10 arg11 harg11 arg12 harg12 arg13
        harg13 arg14 harg14 hc0 x0 x1 x2 x3 x4 x5 x6 x7
      = k0_pay4 x3 x4 := by
  have e3 : ∀ h, View.readAt (Elt Ideal) arg5.view (Rect.unit (s := S1x256x128) ![0, 0, 0] ![1, 256, 128] h).toLoadRect (harg5.unread x3) = x3 :=
    fun h => load_whole harg5 x3 h
  have e4 : ∀ h, View.readAt (Elt Ideal) arg6.view (Rect.unit (s := S1x128) ![0, 0] ![1, 128] h).toLoadRect (harg6.unread x4) = x4 :=
    fun h => load_whole harg6 x4 h
  unfold out0_A_8
  have e : (kernelRun0_A (F := Ideal) c i arg2 harg2 arg3 harg3 arg4 harg4 arg5 harg5 arg6 harg6 arg7 harg7 arg8 harg8 arg9 harg9 arg10 harg10 arg11 harg11 arg12 harg12 arg13
        harg13 arg14 harg14 hc0 x0 x1 x2 x3 x4 x5 x6 x7).1
      = [⟨Rect.unit (s := S1x256x4) ![0, 0, 0] S1x256x4.size inb_S1x256x4_S1x256x4_0_0_0, k0_pay4 x3 x4⟩] := by
    unfold kernelRun0_A
    dsimp only
    sl_unfold_words
    rw [e3, e4]
  rw [e]
  funext y
  refine View.read_writes_cons_unit_of_mem VO0_8 _ _ _ _ _ y rfl fun b => ?_
  fin_cases b <;> simp

/-- What a grid point leaves in the gates' block, a later one of a batch: the gates' payload of its columns and its offsets. -/
theorem out_B_eq (hc0 : ¬cond0_0 i) (xs0 : Vec Ideal S1x128 .f32) :
    out0_B_8 (F := Ideal) c i arg2 harg2 arg3 harg3 arg4 harg4 arg5 harg5 arg6 harg6 arg7 harg7 arg8 harg8 arg9 harg9 arg10 harg10 arg11 harg11 arg12 harg12 arg13
        harg13 arg14 harg14 hc0 x0 x1 x2 x3 x4 x5 x6 x7 xs0
      = k0_pay4 x3 x4 := by
  have e3 : ∀ h, View.readAt (Elt Ideal) arg5.view (Rect.unit (s := S1x256x128) ![0, 0, 0] ![1, 256, 128] h).toLoadRect (harg5.unread x3) = x3 :=
    fun h => load_whole harg5 x3 h
  have e4 : ∀ h, View.readAt (Elt Ideal) arg6.view (Rect.unit (s := S1x128) ![0, 0] ![1, 128] h).toLoadRect (harg6.unread x4) = x4 :=
    fun h => load_whole harg6 x4 h
  unfold out0_B_8
  have e : (kernelRun0_B (F := Ideal) c i arg2 harg2 arg3 harg3 arg4 harg4 arg5 harg5 arg6 harg6 arg7 harg7 arg8 harg8 arg9 harg9 arg10 harg10 arg11 harg11 arg12 harg12 arg13
        harg13 arg14 harg14 hc0 x0 x1 x2 x3 x4 x5 x6 x7 xs0).1
      = [⟨Rect.unit (s := S1x256x4) ![0, 0, 0] S1x256x4.size inb_S1x256x4_S1x256x4_0_0_0, k0_pay4 x3 x4⟩] := by
    unfold kernelRun0_B
    dsimp only
    sl_unfold_words
    rw [e3, e4]
  rw [e]
  funext y
  refine View.read_writes_cons_unit_of_mem VO0_8 _ _ _ _ _ y rfl fun b => ?_
  fin_cases b <;> simp

end Cert.Kernel6Ideal.Val
-- ==== Proof.LgRow.lean ====
/-
  The forget gates' offsets as the kernel's host code lays them out: a row with the offsets at its lanes 44 to 47.
-/
module

public import proofs.«01_k».proof.Proof.MgScatter
public import proofs.«01_k».proof.Proof.Gen.Kernel6Ideal
public import proofs.«01_k».proof.Proof.Gen.Kernel6Ideal.Frame
public import Idealize.ShloMosaic.Lib.Pointwise
public import Idealize.ShloMosaic.Lib.Pipeline.ValueKit.Geometry
public import Idealize.ShloMosaic.Lib.Pipeline.ValueKit.Point

@[expose] public section

set_option maxRecDepth 16384

noncomputable section

open Idealize.ShloMosaic Idealize.ShloMosaic.TcCoe Idealize.SL.Sem

namespace Cert.Kernel6Ideal.Val

open Cert.Kernel6Ideal Cert.Kernel6Ideal.Facts Cert.Kernel6Ideal.Gen Cert.Merge

/-- The place of the offsets in their row, as the host code hands it to its update. -/
def place : IVec S2 32 :=
  concatenate S2 0 [⟨S1, broadcastInDim S1 ![] bcast_S_S1 (constantI S_ 32 0#32)⟩, ⟨S1, broadcastInDim S1 ![] bcast_S_S1 (constantI S_ 32 44#32)⟩]
    concatenates_S1_S1_S2_d0

/-- The row of offsets. -/
def rowArr (A1 : FVec Ideal S4 .f32) : FVec Ideal S1x128 .f32 :=
  Host.scatter scatter_S1x128_S2_S4_0_0_01_0 (fun _ b => b) (broadcastInDim S1x128 ![] bcast_S_S1x128 (constant S_ .f32 0x00000000#32)) place A1

/-- The kernel's row of offsets is this. -/
theorem V_row (m : (ℓ : Loc nD τ sig) → Buf (Elt Ideal) ℓ) (c : Dev nD) :
    V m c main_v4 = rowArr (m ((c : Thread nD τ).loc main_arg1)) := by
  simp only [V, hostOps0, List.flatten_cons, List.flatten_nil, List.append_nil,
    List.cons_append, List.nil_append, StableHlo.after_cons, StableHlo.after_nil]
  after_results_simp
  unfold rowArr place
  rfl

/-- An offset goes to its lane. -/
theorem lands (h : Fin 4) :
    ScatterDims.resultIdx? scatter_S1x128_S2_S4_0_0_01_0 (ix1 h) place = some (ix2 0 (⟨44 + h.val, by omega⟩ : Fin 128)) := by
  have p0 : place (ix1 0) = 0#32 := by pointwise [place]
  have p1 : place (ix1 1) = 44#32 := by pointwise [place]
  have s0 : ScatterDims.start scatter_S1x128_S2_S4_0_0_01_0 (ix1 h) place 0 = 0 := by
    unfold ScatterDims.start
    rw [dif_pos (by decide), show (0 : ℤ) = (0#32 : BitVec 32).toInt from rfl, ← p0]
    congr 2
    funext b
    refine Fin.ext ?_
    match b with
    | ⟨0, _⟩ => rfl
  have s1 : ScatterDims.start scatter_S1x128_S2_S4_0_0_01_0 (ix1 h) place 1 = 44 := by
    unfold ScatterDims.start
    rw [dif_pos (by decide), show (44 : ℤ) = (44#32 : BitVec 32).toInt from rfl, ← p1]
    congr 2
    funext b
    refine Fin.ext ?_
    match b with
    | ⟨0, _⟩ => rfl
  have w0 : ScatterDims.window scatter_S1x128_S2_S4_0_0_01_0 (ix1 h) 0 = 0 := rfl
  have w1 : ScatterDims.window scatter_S1x128_S2_S4_0_0_01_0 (ix1 h) 1 = h.val := rfl
  have t0 : (ScatterDims.start scatter_S1x128_S2_S4_0_0_01_0 (ix1 h) place 0
      + (ScatterDims.window scatter_S1x128_S2_S4_0_0_01_0 (ix1 h) 0 : ℕ) : ℤ).toNat = 0 := by rw [s0, w0]; rfl
  have t1 : (ScatterDims.start scatter_S1x128_S2_S4_0_0_01_0 (ix1 h) place 1
      + (ScatterDims.window scatter_S1x128_S2_S4_0_0_01_0 (ix1 h) 1 : ℕ) : ℤ).toNat = 44 + h.val := by rw [s1, w1]; omega
  unfold ScatterDims.resultIdx?
  rw [dif_pos]
  · congr 1
    funext k
    refine Fin.ext ?_
    match k with
    | ⟨0, _⟩ => exact t0
    | ⟨1, _⟩ => exact t1
  · intro k
    have : k = 0 ∨ k = 1 := by
      match k with
      | ⟨0, _⟩ => exact Or.inl rfl
      | ⟨1, _⟩ => exact Or.inr rfl
    rcases this with rfl | rfl
    · rw [s0, w0]; show _ ∧ _ < ((1 : ℕ) : ℤ); omega
    · rw [s1, w1]; show _ ∧ _ < ((128 : ℕ) : ℤ); omega

/-- The row of offsets at an offset's lane. -/
theorem rowArr_apply (A1 : FVec Ideal S4 .f32) (h : Fin 4) : rowArr A1 (ix2 0 (⟨44 + h.val, by omega⟩ : Fin 128)) = A1 (ix1 h) := by
  refine scatter_at _ _ _ _ _ _ ?_ (Or.inr ⟨ix1 h, lands h⟩)
  intro y e
  obtain ⟨h', rfl⟩ : ∃ h' : Fin 4, y = (ix1 h' : S4.Idx) := ⟨y 0, eq_ix1 y⟩
  rw [lands h', Option.some.injEq] at e
  have e1 : 44 + h'.val = 44 + h.val := congrArg Fin.val (congrFun e 1)
  rw [show h' = h from Fin.ext (by omega)]

end Cert.Kernel6Ideal.Val
-- ==== Proof.LgArray.lean ====
/-
  The forget gates' output array: every grid point's block placed in it, read back at an index.
-/
module

public import proofs.«01_k».proof.Proof.LgOut
public import proofs.«01_k».proof.Proof.LgRow
public import proofs.«01_k».proof.Proof.Gen.Kernel6Ideal.Value
public import Idealize.ShloMosaic.Lib.Pipeline.ValueKit.Acc

@[expose] public section

set_option maxRecDepth 16384

noncomputable section

open Idealize.ShloMosaic Idealize.ShloMosaic.TcCoe Idealize.SL.Sem
open Idealize.ShloMosaic.Pipeline (Dat)

namespace Cert.Kernel6Ideal.Val

open Cert.Kernel6Ideal Cert.Kernel6Ideal.Facts Cert.Kernel6Ideal.Gen Cert.Gate

variable (m : (ℓ : Loc nD τ sig) → Buf (Elt Ideal) ℓ)

/-- The windows' block indices at a grid point: the gates' columns, the offsets, the gates. -/
theorem idx (t : Fin cfg0.N) :
    win0_3.index t = ![t.val / 32, t.val % 32, 26] ∧ win0_4.index t = ![0, 0] ∧ win0_8.index t = ![t.val / 32, t.val % 32, 0] := by
  revert t
  decide +kernel

/-- The logarithms of the forget gates, on whole arrays. -/
def gateArr (A0 : Vec Ideal S4x8192x3456 .f32) (A1 : Vec Ideal S4 .f32) : Vec Ideal S4x8192x4 .f32 :=
  fun y => decay (A0 (ix3 (y 0) (y 1) (⟨3372 + (y 2).val, by have := (y 2).isLt; change (y 2).val < 4 at this; omega⟩ : Fin 3456)) + A1 (ix1 (y 2)))

/-- A grid point's gate column in the projection. -/
theorem iblk3 (c : Dev nD) (t : Fin cfg0.N) (b : Fin 4) (hb : b.val = t.val / 32) (r : Fin 256) (h : Fin 4) :
    iblk m c 3 t (ix3 0 r (⟨44 + h.val, by omega⟩ : Fin 128)) = m ((c : Thread nD τ).loc main_arg0)
      (ix3 b (⟨t.val % 32 * 256 + r.val, by omega⟩ : Fin 8192) (⟨3372 + h.val, by omega⟩ : Fin 3456)) := by
  have e := (idx t).1
  rw [← V_main_arg0 m c]
  blk_ext [iblk, e]

/-- A gate's offset. -/
theorem iblk4 (c : Dev nD) (t : Fin cfg0.N) (h : Fin 4) :
    iblk m c 4 t (ix2 0 (⟨44 + h.val, by omega⟩ : Fin 128)) = m ((c : Thread nD τ).loc main_arg1) (ix1 h) := by
  have e := (idx t).2.1
  rw [← rowArr_apply (m ((c : Thread nD τ).loc main_arg1)), ← V_row]
  blk_ext [iblk, e]

/-- What any grid point leaves in the gates' block. -/
theorem left (c : Dev nD) (t : Fin cfg0.N) : (outsAt0 m c t.val t.isLt).1 = k0_pay4 (iblk m c 3 t) (iblk m c 4 t) := by
  by_cases h0 : t.val % 32 = 0
  · rw [outsAt0_A m c t h0]
    dsimp only
    rw [out_A_eq]
  · rw [outsAt0_B m c t h0]
    dsimp only
    rw [out_B_eq]

/-- The kernel's gates are the logarithms of the forget gates. -/
theorem final (c : Dev nD) :
    (dats m 0 c).arrAt 8 cfg0.N = gateArr (m ((c : Thread nD τ).loc main_arg0)) (m ((c : Thread nD τ).loc main_arg1)) := by
  refine (dats m 0 c).arrAt_eq_of_covers 8 _ (by decide +kernel) fun t hf y => ?_
  blk_simp
  rw [after0_8, left]
  have ht : t.val < 128 := lt_of_lt_of_eq t.isLt N_0
  obtain ⟨r, h, rfl⟩ : ∃ (r : Fin 256) (h : Fin 4), y = (ix3 0 r h : S1x256x4.Idx) :=
    ⟨y 1, y 2, (eq_ix3 y).trans (congrArg (fun a => ix3 a (y 1) (y 2)) (Subsingleton.elim (α := Fin 1) _ _))⟩
  have e := (idx t).2.2
  have hy : (win0_8.blk t).view.emb (ix3 0 r h : S1x256x4.Idx)
      = (ix3 (⟨t.val / 32, by omega⟩ : Fin 4) (⟨t.val % 32 * 256 + r.val, by omega⟩ : Fin 8192) h : S4x8192x4.Idx) := by
    blk_ext [e]
  rw [hy, pay_apply, iblk3 m c t ⟨t.val / 32, by omega⟩ rfl, iblk4]
  rfl

end Cert.Kernel6Ideal.Val
-- ==== Proof.LgRef.lean ====
/-
  The forget gates' reference, read at an index.
-/
module

public import proofs.«01_k».proof.Proof.LgArray
public import proofs.«01_k».proof.Proof.Gen.Reference6Ideal
public import proofs.«01_k».proof.Proof.Gen.Reference6Ideal.Run
public import Idealize.ShloMosaic.Lib.Pointwise

@[expose] public section

set_option maxRecDepth 16384

noncomputable section

open Idealize.ShloMosaic Idealize.ShloMosaic.TcCoe Idealize.SL.Sem

namespace Cert.Reference6Ideal.Val

open Cert.Reference6Ideal Cert.Reference6Ideal.Facts Cert.Reference6Ideal.Gen Cert.Gate Cert.Kernel6Ideal.Val

/-- The reference's composed result. -/
def gates (A0 : FVec Ideal S4x8192x3456 .f32) (A1 : FVec Ideal S4 .f32) : FVec Ideal S4x8192x4 .f32 :=
  Host.negf (select (cmpf .une (subf (Host.negf (addf (extractStridedSlice S4x8192x4 ![0, 0, 3372] A0 slices_S4x8192x3456_S4x8192x4_0_0_3372) (broadcastInDim S4x8192x4 ![0, 1, 2] bcast_S1x1x4_S4x8192x4_0_1_2 (broadcastInDim S1x1x4 ![2] bcast_S4_S1x1x4_2 A1)))) (broadcastInDim S4x8192x4 ![] bcast_S_S4x8192x4 (constant S_ .f32 0x00000000#32))) (subf (Host.negf (addf (extractStridedSlice S4x8192x4 ![0, 0, 3372] A0 slices_S4x8192x3456_S4x8192x4_0_0_3372) (broadcastInDim S4x8192x4 ![0, 1, 2] bcast_S1x1x4_S4x8192x4_0_1_2 (broadcastInDim S1x1x4 ![2] bcast_S4_S1x1x4_2 A1)))) (broadcastInDim S4x8192x4 ![] bcast_S_S4x8192x4 (constant S_ .f32 0x00000000#32)))) (addf (Host.negf (addf (extractStridedSlice S4x8192x4 ![0, 0, 3372] A0 slices_S4x8192x3456_S4x8192x4_0_0_3372) (broadcastInDim S4x8192x4 ![0, 1, 2] bcast_S1x1x4_S4x8192x4_0_1_2 (broadcastInDim S1x1x4 ![2] bcast_S4_S1x1x4_2 A1)))) (broadcastInDim S4x8192x4 ![] bcast_S_S4x8192x4 (constant S_ .f32 0x00000000#32))) (addf (maximumf (Host.negf (addf (extractStridedSlice S4x8192x4 ![0, 0, 3372] A0 slices_S4x8192x3456_S4x8192x4_0_0_3372) (broadcastInDim S4x8192x4 ![0, 1, 2] bcast_S1x1x4_S4x8192x4_0_1_2 (broadcastInDim S1x1x4 ![2] bcast_S4_S1x1x4_2 A1)))) (broadcastInDim S4x8192x4 ![] bcast_S_S4x8192x4 (constant S_ .f32 0x00000000#32))) (Host.log1p (Host.exp (Host.negf (Host.absf (subf (Host.negf (addf (extractStridedSlice S4x8192x4 ![0, 0, 3372] A0 slices_S4x8192x3456_S4x8192x4_0_0_3372) (broadcastInDim S4x8192x4 ![0, 1, 2] bcast_S1x1x4_S4x8192x4_0_1_2 (broadcastInDim S1x1x4 ![2] bcast_S4_S1x1x4_2 A1)))) (broadcastInDim S4x8192x4 ![] bcast_S_S4x8192x4 (constant S_ .f32 0x00000000#32)))))))))

/-- The reference's result is the logarithms of the forget gates. -/
theorem res (A0 : FVec Ideal S4x8192x3456 .f32) (A1 : FVec Ideal S4 .f32) : gates A0 A1 = gateArr A0 A1 := by
  funext y
  obtain ⟨b, s, h, rfl⟩ : ∃ (b : Fin 4) (s : Fin 8192) (h : Fin 4), y = (ix3 b s h : S4x8192x4.Idx) := ⟨y 0, y 1, y 2, eq_ix3 y⟩
  pointwise [gates]
  simp only [ne_eq, not_true_eq_false, if_false, abs_neg]
  rfl

end Cert.Reference6Ideal.Val
-- ==== Proof.LrSpec.lean ====
/-
  A position's row of latent keys on plain numbers: its normalised latent entries, then its rotated entries.
-/
module

public import Idealize.ShloMosaic.PureOps
public import Idealize.ShloMosaic.PureOps.Ideal

@[expose] public section

noncomputable section

open Idealize.ShloMosaic

namespace Cert.Rows

/-- A latent entry over the root mean square of the 128 entries, times its gain. -/
def norm (x : Fin 128 → EReal) (g : EReal) (j : Fin 128) : EReal :=
  x j * Ideal.rsqrt (Ideal.div (∑ i, x i * x i) (Ideal.ofBits .f32 0x43000000#32) + Ideal.ofBits .f32 0x358637BD#32) * g

/-- The angle a position rotates its `k`-th pair by: the position times `10000 ^ (-k / 16)`. -/
def angle (s : ℕ) (k : Fin 16) : EReal :=
  FloatOps.sitofp (F := Ideal) .f32 (BitVec.ofNat 32 s) * Ideal.pow (Ideal.ofBits .f32 0x461C4000#32)
    (Ideal.div (-FloatOps.sitofp (F := Ideal) .f32 (BitVec.ofNat 32 k.val)) (Ideal.ofBits .f32 0x41800000#32))

/-- The first entry of a rotated pair. -/
def first (a b : Fin 16 → EReal) (s : ℕ) (k : Fin 16) : EReal := a k * Ideal.cos (angle s k) - b k * Ideal.sin (angle s k)

/-- The second entry of a rotated pair. -/
def second (a b : Fin 16 → EReal) (s : ℕ) (k : Fin 16) : EReal := b k * Ideal.cos (angle s k) + a k * Ideal.sin (angle s k)

/-- An entry of a row: 128 latent ones, then the pairs' 16 first ones, then their 16 second ones. -/
def entry (x g : Fin 128 → EReal) (a b : Fin 16 → EReal) (s : ℕ) (l : Fin 160) : EReal :=
  if h : l.val < 128 then norm x (g ⟨l.val, h⟩) ⟨l.val, h⟩
  else if h' : l.val < 144 then first a b s ⟨l.val - 128, by omega⟩ else second a b s ⟨l.val - 144, by omega⟩

/-- The rotation by tables, at a first entry. -/
theorem first_eq (a b c sn : EReal) (z : EReal) : a * c + b * (-sn) + z * 0 = a * c - b * sn := by
  rw [mul_zero, add_zero, mul_neg, sub_eq_add_neg]

/-- The rotation by tables, at a second entry. -/
theorem second_eq (a b c sn : EReal) (z : EReal) : b * c + z * 0 + a * sn = b * c + a * sn := by
  rw [mul_zero, add_zero]

/-- Every place of a row is a latent one, a first one or a second one. -/
theorem places (P : Fin 160 → Prop) (h0 : ∀ j : Fin 128, P ⟨j.val, by omega⟩) (h1 : ∀ k : Fin 16, P ⟨128 + k.val, by omega⟩)
    (h2 : ∀ k : Fin 16, P ⟨144 + k.val, by omega⟩) (l : Fin 160) : P l := by
  by_cases a : l.val < 128
  · exact h0 ⟨l.val, a⟩
  · by_cases b : l.val < 144
    · have := h1 ⟨l.val - 128, by omega⟩
      rwa [show (⟨128 + (l.val - 128), by omega⟩ : Fin 160) = l from Fin.ext (by simp only; omega)] at this
    · have := h2 ⟨l.val - 144, by omega⟩
      rwa [show (⟨144 + (l.val - 144), by omega⟩ : Fin 160) = l from Fin.ext (by simp only; omega)] at this

variable (x g : Fin 128 → EReal) (a b : Fin 16 → EReal) (s : ℕ)

/-- A row's latent entries. -/
theorem entry_latent (j : Fin 128) : entry x g a b s ⟨j.val, by omega⟩ = norm x (g j) j := by
  unfold entry
  rw [dif_pos j.isLt]

/-- A row's first rotated entries. -/
theorem entry_first (k : Fin 16) : entry x g a b s ⟨128 + k.val, by omega⟩ = first a b s k := by
  unfold entry
  rw [dif_neg (by simp only; omega), dif_pos (by simp only; omega)]
  congr 1
  exact Fin.ext (by simp only; omega)

/-- A row's second rotated entries. -/
theorem entry_second (k : Fin 16) : entry x g a b s ⟨144 + k.val, by omega⟩ = second a b s k := by
  unfold entry
  rw [dif_neg (by simp only; omega), dif_neg (by simp only; omega)]
  congr 1
  exact Fin.ext (by simp only; omega)

end Cert.Rows
-- ==== Proof.LrOut.lean ====
/-
  The latent keys' kernel: what one grid point leaves in its block of rows.
-/
module

public import proofs.«01_k».proof.Proof.LrSpec
public import proofs.«01_k».proof.Proof.Whole
public import proofs.«01_k».proof.Proof.Gen.Kernel7Ideal
public import proofs.«01_k».proof.Proof.Gen.Kernel7Ideal.Frame
public import Idealize.ShloMosaic.Lib.Pointwise

@[expose] public section

set_option maxRecDepth 16384

noncomputable section

open Idealize.ShloMosaic Idealize.ShloMosaic.TcCoe Idealize.SL.Sem

namespace Cert.Kernel7Ideal.Val

open Cert.Kernel7Ideal Cert.Kernel7Ideal.Facts Cert.Kernel7Ideal.Gen Cert.Rows Cert.Whole

/-- The rows a grid point stores, of its blocks and its tables. -/
def rows (v38 : Vec Ideal S1x256x128 .f32) (v50 : Vec Ideal S1x128 .f32) (v54 : Vec Ideal S1x256x128 .f32) (v56 v60 v65 : Vec Ideal S256x128 .f32) : FVec Ideal S1x256x160 .f32 :=
  k0_pay1 (k0_pay8 v38 v50 v54 v56 v60 v65)

section
variable (v38 : Vec Ideal S1x256x128 .f32) (v50 : Vec Ideal S1x128 .f32) (v54 : Vec Ideal S1x256x128 .f32) (v56 v60 v65 : Vec Ideal S256x128 .f32)

/-- The rows' latent entries. -/
theorem rows_latent (r : Fin 256) (j : Fin 128) :
    rows v38 v50 v54 v56 v60 v65 (ix3 0 r (⟨j.val, by omega⟩ : Fin 160)) = norm (fun i => v38 (ix3 0 r i)) (v50 (ix2 0 j)) j := by
  pointwise [rows, k0_pay1, k0_pay8, k0_pay7, k0_pay6]
  rfl

/-- The rows' first rotated entries. -/
theorem rows_first (r : Fin 256) (k : Fin 16) :
    ∃ z, rows v38 v50 v54 v56 v60 v65 (ix3 0 r (⟨128 + k.val, by omega⟩ : Fin 160))
      = v54 (ix3 0 r (⟨k.val, by omega⟩ : Fin 128)) * v56 (ix2 r (⟨k.val, by omega⟩ : Fin 128))
        + v54 (ix3 0 r (⟨16 + k.val, by omega⟩ : Fin 128)) * v60 (ix2 r (⟨k.val, by omega⟩ : Fin 128))
        + z * v65 (ix2 r (⟨k.val, by omega⟩ : Fin 128)) := by
  have i0 : (⟨(k.val + 128 - 112) % 128, by omega⟩ : Fin 128) = ⟨16 + k.val, by omega⟩ := Fin.ext (by simp only; omega)
  refine ⟨v54 (ix3 0 r (⟨(k.val + 128 - 16) % 128, by omega⟩ : Fin 128)), ?_⟩
  pointwise [rows, k0_pay1, k0_pay8, k0_pay7, k0_pay6]
  rw [i0]

/-- The rows' second rotated entries. -/
theorem rows_second (r : Fin 256) (k : Fin 16) :
    ∃ z, rows v38 v50 v54 v56 v60 v65 (ix3 0 r (⟨144 + k.val, by omega⟩ : Fin 160))
      = v54 (ix3 0 r (⟨16 + k.val, by omega⟩ : Fin 128)) * v56 (ix2 r (⟨16 + k.val, by omega⟩ : Fin 128))
        + z * v60 (ix2 r (⟨16 + k.val, by omega⟩ : Fin 128))
        + v54 (ix3 0 r (⟨k.val, by omega⟩ : Fin 128)) * v65 (ix2 r (⟨16 + k.val, by omega⟩ : Fin 128)) := by
  have i0 : (⟨144 + k.val - 128, by omega⟩ : Fin 128) = ⟨16 + k.val, by omega⟩ := Fin.ext (by simp only; omega)
  have i1 : (⟨(144 + k.val - 128 + 128 - 16) % 128, by omega⟩ : Fin 128) = ⟨k.val, by omega⟩ := Fin.ext (by simp only; omega)
  refine ⟨v54 (ix3 0 r (⟨(144 + k.val - 128 + 128 - 112) % 128, by omega⟩ : Fin 128)), ?_⟩
  pointwise [rows, k0_pay1, k0_pay8, k0_pay7, k0_pay6]
  rw [dif_neg (by omega)]
  exact congrArg₂ (· + ·) (congrArg₂ (· + ·)
      (congrArg₂ (· * ·) (congrArg (fun i => v54 (ix3 0 r i)) i0) (congrArg (fun i => v56 (ix2 r i)) i0))
      (congrArg₂ (· * ·) rfl (congrArg (fun i => v60 (ix2 r i)) i0)))
    (congrArg₂ (· * ·) (congrArg (fun i => v54 (ix3 0 r i)) i1) (congrArg (fun i => v65 (ix2 r i)) i0))

end

variable (c : Dev nD) (i : grid0.Coords) (arg2 : Memref sig .tc .vmem S1x256x256 .f32) (harg2 : arg2.IsWhole) (arg3 : Memref sig .tc .vmem
  S1x256x128 .f32) (harg3 : arg3.IsWhole) (arg4 : Memref sig .tc .vmem S1x256x128 .f32) (harg4 : arg4.IsWhole) (arg5 : Memref sig .tc .vmem
  S1x256 .f32) (harg5 : arg5.IsWhole) (arg6 : Memref sig .tc .vmem S1x128 .f32) (harg6 : arg6.IsWhole) (arg7 : Memref sig .tc .vmem S256x384
  .bf16) (harg7 : arg7.IsWhole) (arg8 : Memref sig .tc .vmem S384x1024 .bf16) (harg8 : arg8.IsWhole) (arg9 : Memref sig .tc .vmem S256x128
  .f32) (harg9 : arg9.IsWhole) (arg10 : Memref sig .tc .vmem S256x128 .f32) (harg10 : arg10.IsWhole) (arg11 : Memref sig .tc .vmem S256x128
  .f32) (harg11 : arg11.IsWhole) (arg12 : Memref sig .tc .vmem S256x128 .f32) (harg12 : arg12.IsWhole) (arg13 : Memref sig .tc .vmem
  S256x128 .f32) (harg13 : arg13.IsWhole) (arg14 : Memref sig .tc .vmem S1x256x1024 .bf16) (harg14 : arg14.IsWhole) (arg15 : Memref sig .tc
  .vmem S1x256x160 .f32) (harg15 : arg15.IsWhole) (arg16 : Memref sig .tc .vmem S1x1x256x256 .bf16) (harg16 : arg16.IsWhole) (arg17 : Memref
  sig .tc .vmem S1x1x128x256 .bf16) (harg17 : arg17.IsWhole) (x0 : Vec Ideal S1x256x256 .f32) (x1 : Vec Ideal S1x256x128 .f32) (x2 : Vec
  Ideal S1x256x128 .f32) (x3 : Vec Ideal S1x256 .f32) (x4 : Vec Ideal S1x128 .f32) (x5 : Vec Ideal S256x384 .bf16) (x6 : Vec Ideal S384x1024
  .bf16) (x7 : Vec Ideal S256x128 .f32) (x8 : Vec Ideal S256x128 .f32) (x9 : Vec Ideal S256x128 .f32) (x10 : Vec Ideal S256x128 .f32) (x11 :
  Vec Ideal S256x128 .f32)

/-- What a grid point leaves in its block of rows is the rows of its blocks and its tables. -/
theorem out_eq :
    out0_A_13 (F := Ideal) c i arg2 harg2 arg3 harg3 arg4 harg4 arg5 harg5 arg6 harg6 arg7 harg7 arg8 harg8 arg9 harg9 arg10 harg10 arg11 harg11 arg12 harg12 arg13
        harg13 arg14 harg14 arg15 harg15 arg16 harg16 arg17 harg17 x0 x1 x2 x3 x4 x5 x6 x7 x8 x9 x10 x11
      = rows x1 x4 x2 x9 x10 x11 := by
  have e1 : ∀ h, View.readAt (Elt Ideal) arg3.view (Rect.unit (s := S1x256x128) ![0, 0, 0] ![1, 256, 128] h).toLoadRect (harg3.unread x1) = x1 :=
    fun h => load_whole harg3 x1 h
  have e2 : ∀ h, View.readAt (Elt Ideal) arg4.view (Rect.unit (s := S1x256x128) ![0, 0, 0] ![1, 256, 128] h).toLoadRect (harg4.unread x2) = x2 :=
    fun h => load_whole harg4 x2 h
  have e4 : ∀ h, View.readAt (Elt Ideal) arg6.view (Rect.unit (s := S1x128) ![0, 0] ![1, 128] h).toLoadRect (harg6.unread x4) = x4 :=
    fun h => load_whole harg6 x4 h
  have e9 : ∀ h, View.readAt (Elt Ideal) arg11.view (Rect.unit (s := S256x128) ![0, 0] ![256, 128] h).toLoadRect (harg11.unread x9) = x9 :=
    fun h => load_whole harg11 x9 h
  have e10 : ∀ h, View.readAt (Elt Ideal) arg12.view (Rect.unit (s := S256x128) ![0, 0] ![256, 128] h).toLoadRect (harg12.unread x10) = x10 :=
    fun h => load_whole harg12 x10 h
  have e11 : ∀ h, View.readAt (Elt Ideal) arg13.view (Rect.unit (s := S256x128) ![0, 0] ![256, 128] h).toLoadRect (harg13.unread x11) = x11 :=
    fun h => load_whole harg13 x11 h
  unfold out0_A_13
  have e : (kernelRun0_A (F := Ideal) c i arg2 harg2 arg3 harg3 arg4 harg4 arg5 harg5 arg6 harg6 arg7 harg7 arg8 harg8 arg9 harg9 arg10 harg10 arg11 harg11 arg12 harg12 arg13
        harg13 arg14 harg14 arg15 harg15 arg16 harg16 arg17 harg17 x0 x1 x2 x3 x4 x5 x6 x7 x8 x9 x10 x11).2.1
      = [⟨Rect.unit (s := S1x256x160) ![0, 0, 0] S1x256x160.size inb_S1x256x160_S1x256x160_0_0_0, rows x1 x4 x2 x9 x10 x11⟩] := by
    unfold kernelRun0_A
    dsimp only
    sl_unfold_words
    rw [e1, e2, e4, e9, e10, e11]
    unfold rows
    rfl
  rw [e]
  funext y
  refine View.read_writes_cons_unit_of_mem VO0_13 _ _ _ _ _ y rfl fun b => ?_
  fin_cases b <;> simp

end Cert.Kernel7Ideal.Val
-- ==== Proof.LrTables.lean ====
/-
  The rotation's tables the kernel's host code makes, read at an index.
-/
module

public import proofs.«01_k».proof.Proof.LrSpec
public import proofs.«01_k».proof.Proof.Gen.Kernel7Ideal
public import proofs.«01_k».proof.Proof.Gen.Kernel7Ideal.Frame
public import Idealize.ShloMosaic.Lib.Pointwise
public import Idealize.ShloMosaic.Lib.Pipeline.ValueKit.Geometry
public import Idealize.ShloMosaic.Lib.Pipeline.ValueKit.Point

@[expose] public section

set_option maxRecDepth 16384

noncomputable section

open Idealize.ShloMosaic Idealize.ShloMosaic.TcCoe Idealize.SL.Sem

namespace Cert.Kernel7Ideal.Val

open Cert.Kernel7Ideal Cert.Kernel7Ideal.Facts Cert.Kernel7Ideal.Gen Cert.Rows

variable (m : (ℓ : Loc nD τ sig) → Buf (Elt Ideal) ℓ)

/-- Arrays that agree give the same array side by side. -/
theorem concat3 {α : Type} {s s1 s2 s3 : Shape} {a : Fin s.rank} {A A' : s1.Idx → α} {B B' : s2.Idx → α} {C C' : s3.Idx → α}
    (h : Shape.Concatenates [s1, s2, s3] s a) (hA : A = A') (hB : B = B') (hC : C = C') :
    concatenate s a [⟨s1, A⟩, ⟨s2, B⟩, ⟨s3, C⟩] h = concatenate s a [⟨s1, A'⟩, ⟨s2, B'⟩, ⟨s3, C'⟩] h := by
  rw [hA, hB, hC]

/-- The angles. -/
def angles : FVec Ideal S8192x16 .f32 :=
  mulf
    (broadcastInDim S8192x16 ![0, 1] bcast_S8192x1_S8192x16_0_1
      (broadcastInDim S8192x1 ![0] bcast_S8192_S8192x1_0 (sitofp .f32 (iotaInDim S8192 32 0))))
    (broadcastInDim S8192x16 ![0, 1] bcast_S1x16_S8192x16_0_1
      (broadcastInDim S1x16 ![1] bcast_S16_S1x16_1
        (Host.powf (broadcastInDim S16 ![] bcast_S_S16 (constant S_ .f32 0x461C4000#32))
          (Host.divf (Host.negf (sitofp .f32 (iotaInDim S16 32 0)))
            (broadcastInDim S16 ![] bcast_S_S16 (constant S_ .f32 0x41800000#32))))))

/-- Sixteen lanes of zeros. -/
def none16 : FVec Ideal S8192x16 .f32 := broadcastInDim S8192x16 ![] bcast_S_S8192x16 (constant S_ .f32 0x00000000#32)

/-- A table: sixteen lanes, sixteen more, and zeros. -/
def table (A B : FVec Ideal S8192x16 .f32) : FVec Ideal S8192x128 .f32 :=
  concatenate S8192x128 1 [⟨S8192x16, A⟩, ⟨S8192x16, B⟩, ⟨S8192x96, broadcastInDim S8192x96 ![] bcast_S_S8192x96 (constant S_ .f32 0x00000000#32)⟩]
    concatenates_S8192x16_S8192x16_S8192x96_S8192x128_d1

/-- The table a row itself is multiplied by. -/
def cosines : FVec Ideal S8192x128 .f32 := table (Host.cos angles) (Host.cos angles)

/-- The kernel's first table is this. -/
theorem V_cosines (c : Dev nD) : V m c main_v27 = cosines := by
  simp only [V, hostOps0, List.flatten_cons, List.flatten_nil, List.append_nil,
    List.cons_append, List.nil_append, StableHlo.after_cons, StableHlo.after_nil]
  after_results_simp
  refine concat3 concatenates_S8192x16_S8192x16_S8192x96_S8192x128_d1 ?_ ?_ ?_
  all_goals
    dsimp only [Matrix.cons_val_zero, Matrix.cons_val_one, Matrix.cons_val]
    after_results_simp
  all_goals rfl

/-- The table the row moved left by sixteen lanes is multiplied by. -/
def sinesA : FVec Ideal S8192x128 .f32 := table (Host.negf (Host.sin angles)) none16

/-- The kernel's second table is this. -/
theorem V_sinesA (c : Dev nD) : V m c main_v29 = sinesA := by
  simp only [V, hostOps0, List.flatten_cons, List.flatten_nil, List.append_nil,
    List.cons_append, List.nil_append, StableHlo.after_cons, StableHlo.after_nil]
  after_results_simp
  refine concat3 concatenates_S8192x16_S8192x16_S8192x96_S8192x128_d1 ?_ ?_ ?_
  all_goals
    dsimp only [Matrix.cons_val_zero, Matrix.cons_val_one, Matrix.cons_val]
    after_results_simp
  all_goals rfl

/-- The table the row moved right by sixteen lanes is multiplied by. -/
def sinesB : FVec Ideal S8192x128 .f32 := table none16 (Host.sin angles)

/-- The kernel's third table is this. -/
theorem V_sinesB (c : Dev nD) : V m c main_v30 = sinesB := by
  simp only [V, hostOps0, List.flatten_cons, List.flatten_nil, List.append_nil,
    List.cons_append, List.nil_append, StableHlo.after_cons, StableHlo.after_nil]
  after_results_simp
  refine concat3 concatenates_S8192x16_S8192x16_S8192x96_S8192x128_d1 ?_ ?_ ?_
  all_goals
    dsimp only [Matrix.cons_val_zero, Matrix.cons_val_one, Matrix.cons_val]
    after_results_simp
  all_goals rfl

/-- The gains as the host code hands them on. -/
theorem V_gains (c : Dev nD) : V m c main_v0 = shapeCast S1x128 (m ((c : Thread nD τ).loc main_arg1)) shapeCasts_S128_S1x128 := by
  simp only [V, hostOps0, List.flatten_cons, List.flatten_nil, List.append_nil,
    List.cons_append, List.nil_append, StableHlo.after_cons, StableHlo.after_nil]
  after_results_simp
  rfl

/-- The gains at an index. -/
theorem gains_apply (A : FVec Ideal S128 .f32) (j : Fin 128) : shapeCast S1x128 A shapeCasts_S128_S1x128 (ix2 0 j) = A (ix1 j) := by
  pointwise

/-- An angle. -/
theorem angles_apply (s : Fin 8192) (k : Fin 16) : angles (ix2 s k) = angle s k := by
  pointwise [angles]
  rfl

/-- A table's first sixteen lanes and its next sixteen. -/
theorem table_apply (A B : FVec Ideal S8192x16 .f32) (s : Fin 8192) (k : Fin 16) :
    table A B (ix2 s (⟨k.val, by omega⟩ : Fin 128)) = A (ix2 s k) ∧ table A B (ix2 s (⟨16 + k.val, by omega⟩ : Fin 128)) = B (ix2 s k) := by
  constructor
  · pointwise [table]
  · pointwise [table]

/-- The first table at its used lanes. -/
theorem cosines_apply (s : Fin 8192) (k : Fin 16) :
    cosines (ix2 s (⟨k.val, by omega⟩ : Fin 128)) = Ideal.cos (angle s k)
      ∧ cosines (ix2 s (⟨16 + k.val, by omega⟩ : Fin 128)) = Ideal.cos (angle s k) := by
  unfold cosines
  rw [(table_apply _ _ s k).1, (table_apply _ _ s k).2, ← angles_apply]
  exact ⟨rfl, rfl⟩

/-- The second table at its used lanes. -/
theorem sinesA_apply (s : Fin 8192) (k : Fin 16) :
    sinesA (ix2 s (⟨k.val, by omega⟩ : Fin 128)) = -Ideal.sin (angle s k) ∧ sinesA (ix2 s (⟨16 + k.val, by omega⟩ : Fin 128)) = 0 := by
  unfold sinesA
  rw [(table_apply _ _ s k).1, (table_apply _ _ s k).2, ← angles_apply]
  exact ⟨rfl, by pointwise [none16]⟩

/-- The third table at its used lanes. -/
theorem sinesB_apply (s : Fin 8192) (k : Fin 16) :
    sinesB (ix2 s (⟨k.val, by omega⟩ : Fin 128)) = 0 ∧ sinesB (ix2 s (⟨16 + k.val, by omega⟩ : Fin 128)) = Ideal.sin (angle s k) := by
  unfold sinesB
  rw [(table_apply _ _ s k).1, (table_apply _ _ s k).2, ← angles_apply]
  exact ⟨by pointwise [none16], rfl⟩

end Cert.Kernel7Ideal.Val
-- ==== Proof.LrArray.lean ====
/-
  The latent keys' output array: every grid point's block placed in it, read back at an index.
-/
module

public import proofs.«01_k».proof.Proof.LrOut
public import proofs.«01_k».proof.Proof.LrTables
public import proofs.«01_k».proof.Proof.Gen.Kernel7Ideal.Value
public import Idealize.ShloMosaic.Lib.Pipeline.ValueKit.Acc

@[expose] public section

set_option maxRecDepth 16384

noncomputable section

open Idealize.ShloMosaic Idealize.ShloMosaic.TcCoe Idealize.SL.Sem
open Idealize.ShloMosaic.Pipeline (Dat)

namespace Cert.Kernel7Ideal.Val

open Cert.Kernel7Ideal Cert.Kernel7Ideal.Facts Cert.Kernel7Ideal.Gen Cert.Rows

variable (m : (ℓ : Loc nD τ sig) → Buf (Elt Ideal) ℓ)

/-- The windows' block indices at a grid point: the latent entries, the entries to rotate, the gains, the three tables, the rows. -/
theorem idx (t : Fin cfg0.N) :
    win0_1.index t = ![t.val / 32, t.val % 32, 25] ∧ win0_2.index t = ![t.val / 32, t.val % 32, 26] ∧ win0_4.index t = ![0, 0]
      ∧ win0_9.index t = ![t.val % 32, 0] ∧ win0_10.index t = ![t.val % 32, 0] ∧ win0_11.index t = ![t.val % 32, 0]
      ∧ win0_13.index t = ![t.val / 32, t.val % 32, 0] := by
  revert t
  decide +kernel

/-- The latent keys, on whole arrays. -/
def keyArr (A0 : Vec Ideal S4x8192x3456 .f32) (A1 : Vec Ideal S128 .f32) : Vec Ideal S4x8192x160 .f32 :=
  fun y => entry (fun j => A0 (ix3 (y 0) (y 1) (⟨3200 + j.val, by omega⟩ : Fin 3456))) (fun j => A1 (ix1 j))
    (fun k => A0 (ix3 (y 0) (y 1) (⟨3328 + k.val, by omega⟩ : Fin 3456))) (fun k => A0 (ix3 (y 0) (y 1) (⟨3344 + k.val, by omega⟩ : Fin 3456)))
    (y 1).val (y 2)

/-- A grid point's latent entries in the projection. -/
theorem iblk1 (c : Dev nD) (t : Fin cfg0.N) (b : Fin 4) (hb : b.val = t.val / 32) (r : Fin 256) (j : Fin 128) :
    iblk m c 1 t (ix3 0 r j) = m ((c : Thread nD τ).loc main_arg0)
      (ix3 b (⟨t.val % 32 * 256 + r.val, by omega⟩ : Fin 8192) (⟨3200 + j.val, by omega⟩ : Fin 3456)) := by
  have e := (idx t).1
  rw [← V_main_arg0 m c]
  blk_ext [iblk, e]

/-- A grid point's entries to rotate in the projection, the pairs' first ones. -/
theorem iblk2_first (c : Dev nD) (t : Fin cfg0.N) (b : Fin 4) (hb : b.val = t.val / 32) (r : Fin 256) (k : Fin 16) :
    iblk m c 2 t (ix3 0 r (⟨k.val, by omega⟩ : Fin 128)) = m ((c : Thread nD τ).loc main_arg0)
      (ix3 b (⟨t.val % 32 * 256 + r.val, by omega⟩ : Fin 8192) (⟨3328 + k.val, by omega⟩ : Fin 3456)) := by
  have e := (idx t).2.1
  rw [← V_main_arg0 m c]
  blk_ext [iblk, e]

/-- A grid point's entries to rotate in the projection, the pairs' second ones. -/
theorem iblk2_second (c : Dev nD) (t : Fin cfg0.N) (b : Fin 4) (hb : b.val = t.val / 32) (r : Fin 256) (k : Fin 16) :
    iblk m c 2 t (ix3 0 r (⟨16 + k.val, by omega⟩ : Fin 128)) = m ((c : Thread nD τ).loc main_arg0)
      (ix3 b (⟨t.val % 32 * 256 + r.val, by omega⟩ : Fin 8192) (⟨3344 + k.val, by omega⟩ : Fin 3456)) := by
  have e := (idx t).2.1
  rw [← V_main_arg0 m c]
  blk_ext [iblk, e]

/-- The gains. -/
theorem iblk4 (c : Dev nD) (t : Fin cfg0.N) (j : Fin 128) :
    iblk m c 4 t (ix2 0 j) = m ((c : Thread nD τ).loc main_arg1) (ix1 j) := by
  have e := (idx t).2.2.1
  rw [← gains_apply (m ((c : Thread nD τ).loc main_arg1)), ← V_gains]
  blk_ext [iblk, e]

/-- A grid point's part of the first table. -/
theorem iblk9 (c : Dev nD) (t : Fin cfg0.N) (r : Fin 256) (l : Fin 128) :
    iblk m c 9 t (ix2 r l) = cosines (ix2 (⟨t.val % 32 * 256 + r.val, by omega⟩ : Fin 8192) l) := by
  have e := (idx t).2.2.2.1
  rw [← V_cosines m c]
  blk_ext [iblk, e]

/-- A grid point's part of the second table. -/
theorem iblk10 (c : Dev nD) (t : Fin cfg0.N) (r : Fin 256) (l : Fin 128) :
    iblk m c 10 t (ix2 r l) = sinesA (ix2 (⟨t.val % 32 * 256 + r.val, by omega⟩ : Fin 8192) l) := by
  have e := (idx t).2.2.2.2.1
  rw [← V_sinesA m c]
  blk_ext [iblk, e]

/-- A grid point's part of the third table. -/
theorem iblk11 (c : Dev nD) (t : Fin cfg0.N) (r : Fin 256) (l : Fin 128) :
    iblk m c 11 t (ix2 r l) = sinesB (ix2 (⟨t.val % 32 * 256 + r.val, by omega⟩ : Fin 8192) l) := by
  have e := (idx t).2.2.2.2.2.1
  rw [← V_sinesB m c]
  blk_ext [iblk, e]

/-- The kernel's rows are the latent keys. -/
theorem final (c : Dev nD) :
    (dats m 0 c).arrAt 13 cfg0.N = keyArr (m ((c : Thread nD τ).loc main_arg0)) (m ((c : Thread nD τ).loc main_arg1)) := by
  refine (dats m 0 c).arrAt_eq_of_covers 13 _ (by decide +kernel) fun t hf y => ?_
  blk_simp
  rw [after0_13]
  unfold outsAt0
  dsimp only
  rw [out_eq]
  have ht : t.val < 128 := lt_of_lt_of_eq t.isLt N_0
  obtain ⟨r, l, rfl⟩ : ∃ (r : Fin 256) (l : Fin 160), y = (ix3 0 r l : S1x256x160.Idx) :=
    ⟨y 1, y 2, (eq_ix3 y).trans (congrArg (fun a => ix3 a (y 1) (y 2)) (Subsingleton.elim (α := Fin 1) _ _))⟩
  have e := (idx t).2.2.2.2.2.2
  have hy : (win0_13.blk t).view.emb (ix3 0 r l : S1x256x160.Idx)
      = (ix3 (⟨t.val / 32, by omega⟩ : Fin 4) (⟨t.val % 32 * 256 + r.val, by omega⟩ : Fin 8192) l : S4x8192x160.Idx) := by
    blk_ext [e]
  rw [hy]
  refine places (fun l => rows (iblk m c 1 t) (iblk m c 4 t) (iblk m c 2 t) (iblk m c 9 t) (iblk m c 10 t) (iblk m c 11 t) (ix3 0 r l)
    = keyArr (m ((c : Thread nD τ).loc main_arg0)) (m ((c : Thread nD τ).loc main_arg1))
      (ix3 (⟨t.val / 32, by omega⟩ : Fin 4) (⟨t.val % 32 * 256 + r.val, by omega⟩ : Fin 8192) l)) (fun j => ?_) (fun k => ?_) (fun k => ?_) l
  · refine Eq.trans ?_ (entry_latent _ _ _ _ _ j).symm
    rw [rows_latent, iblk4]
    simp only [iblk1 m c t ⟨t.val / 32, by omega⟩ rfl]
    rfl
  · refine Eq.trans ?_ (entry_first _ _ _ _ _ k).symm
    obtain ⟨z, ez⟩ := rows_first (iblk m c 1 t) (iblk m c 4 t) (iblk m c 2 t) (iblk m c 9 t) (iblk m c 10 t) (iblk m c 11 t) r k
    rw [ez, iblk2_first m c t ⟨t.val / 32, by omega⟩ rfl, iblk2_second m c t ⟨t.val / 32, by omega⟩ rfl, iblk9, iblk10, iblk11,
      (cosines_apply _ k).1, (sinesA_apply _ k).1, (sinesB_apply _ k).1, first_eq]
    rfl
  · refine Eq.trans ?_ (entry_second _ _ _ _ _ k).symm
    obtain ⟨z, ez⟩ := rows_second (iblk m c 1 t) (iblk m c 4 t) (iblk m c 2 t) (iblk m c 9 t) (iblk m c 10 t) (iblk m c 11 t) r k
    rw [ez, iblk2_first m c t ⟨t.val / 32, by omega⟩ rfl, iblk2_second m c t ⟨t.val / 32, by omega⟩ rfl, iblk9, iblk10, iblk11,
      (cosines_apply _ k).2, (sinesA_apply _ k).2, (sinesB_apply _ k).2, second_eq]
    rfl

end Cert.Kernel7Ideal.Val
-- ==== Proof.LrRef.lean ====
/-
  The latent keys' reference: its steps, read at an index.
-/
module

public import proofs.«01_k».proof.Proof.LrArray
public import proofs.«01_k».proof.Proof.Gen.Reference7Ideal
public import proofs.«01_k».proof.Proof.Gen.Reference7Ideal.Run
public import Idealize.ShloMosaic.Lib.Pointwise

@[expose] public section

set_option maxRecDepth 16384

noncomputable section

open Idealize.ShloMosaic Idealize.ShloMosaic.TcCoe Idealize.SL.Sem

namespace Cert.Reference7Ideal.Val

open Cert.Reference7Ideal Cert.Reference7Ideal.Facts Cert.Reference7Ideal.Gen Cert.Rows Cert.Kernel7Ideal.Val

variable (A0 : FVec Ideal S4x8192x3456 .f32) (A1 : FVec Ideal S128 .f32)

/-- The projection's latent columns. -/
def cols : FVec Ideal S4x8192x128 .f32 := extractStridedSlice S4x8192x128 ![0, 0, 3200] A0 slices_S4x8192x3456_S4x8192x128_0_0_3200

/-- The latent columns over their root mean squares, times their gains. -/
def normed (X : FVec Ideal S4x8192x128 .f32) : FVec Ideal S4x8192x128 .f32 :=
  mulf (mulf X (broadcastInDim S4x8192x128 ![0, 1, 2] bcast_S4x8192x1_S4x8192x128_0_1_2
      (Host.rsqrt (addf (Host.divf (broadcastInDim S4x8192x1 ![0, 1] bcast_S4x8192_S4x8192x1_0_1
          (Host.reduceAdd (mulf X X) (constant S_ .f32 0x00000000#32) reducesTo_S4x8192x128_S4x8192_d2 h_S_))
          (broadcastInDim S4x8192x1 ![] bcast_S_S4x8192x1 (constant S_ .f32 0x43000000#32)))
        (broadcastInDim S4x8192x1 ![] bcast_S_S4x8192x1 (constant S_ .f32 0x358637BD#32))))))
    (broadcastInDim S4x8192x128 ![0, 1, 2] bcast_S1x1x128_S4x8192x128_0_1_2 (broadcastInDim S1x1x128 ![2] bcast_S128_S1x1x128_2 A1))

/-- The angles. -/
def turns : FVec Ideal S8192x16 .f32 :=
  mulf
    (broadcastInDim S8192x16 ![0, 1] bcast_S8192x1_S8192x16_0_1
      (broadcastInDim S8192x1 ![0] bcast_S8192_S8192x1_0 (sitofp .f32 (iotaInDim S8192 32 0))))
    (broadcastInDim S8192x16 ![0, 1] bcast_S1x16_S8192x16_0_1
      (broadcastInDim S1x16 ![1] bcast_S16_S1x16_1
        (Host.powf (broadcastInDim S16 ![] bcast_S_S16 (constant S_ .f32 0x461C4000#32))
          (Host.divf (Host.negf (sitofp .f32 (iotaInDim S16 32 0)))
            (broadcastInDim S16 ![] bcast_S_S16 (constant S_ .f32 0x41800000#32))))))

/-- A factor of every batch's positions. -/
def every (T : FVec Ideal S8192x16 .f32) : FVec Ideal S4x8192x16 .f32 :=
  broadcastInDim S4x8192x16 ![0, 1, 2] bcast_S1x8192x16_S4x8192x16_0_1_2 (broadcastInDim S1x8192x16 ![1, 2] bcast_S8192x16_S1x8192x16_1_2 T)

/-- The columns to rotate. -/
def pairs : FVec Ideal S4x8192x32 .f32 := extractStridedSlice S4x8192x32 ![0, 0, 3328] A0 slices_S4x8192x3456_S4x8192x32_0_0_3328

/-- The pairs' first entries. -/
def half0 (X : FVec Ideal S4x8192x32 .f32) : FVec Ideal S4x8192x16 .f32 := extractStridedSlice S4x8192x16 ![0, 0, 0] X slices_S4x8192x32_S4x8192x16_0_0_0

/-- The pairs' second entries. -/
def half1 (X : FVec Ideal S4x8192x32 .f32) : FVec Ideal S4x8192x16 .f32 := extractStridedSlice S4x8192x16 ![0, 0, 16] X slices_S4x8192x32_S4x8192x16_0_0_16

/-- The normalised latent columns beside the rotated ones. -/
def keys (N : FVec Ideal S4x8192x128 .f32) (a b c s : FVec Ideal S4x8192x16 .f32) : FVec Ideal S4x8192x160 .f32 :=
  concatenate S4x8192x160 2 [⟨S4x8192x128, N⟩, ⟨S4x8192x32, concatenate S4x8192x32 2 [⟨S4x8192x16, subf (mulf a c) (mulf b s)⟩,
    ⟨S4x8192x16, addf (mulf b c) (mulf a s)⟩] concatenates_S4x8192x16_S4x8192x16_S4x8192x32_d2⟩] concatenates_S4x8192x128_S4x8192x32_S4x8192x160_d2

/-- The reference's result is these steps in a row. -/
theorem steps_eq (m : (ℓ : Loc nD τ sig) → Buf (Elt Ideal) ℓ) (c : Dev nD) :
    Value.res_main_v47 m c = keys (normed (m ((c.tc : Thread nD τ).loc main_arg1)) (cols (m ((c.tc : Thread nD τ).loc main_arg0))))
      (half0 (pairs (m ((c.tc : Thread nD τ).loc main_arg0)))) (half1 (pairs (m ((c.tc : Thread nD τ).loc main_arg0))))
      (every (Host.cos turns)) (every (Host.sin turns)) := by
  unfold Value.res_main_v47
  rfl

/-- A normalised latent column. -/
theorem normed_apply (X : FVec Ideal S4x8192x128 .f32) (b : Fin 4) (s : Fin 8192) (j : Fin 128) :
    normed A1 X (ix3 b s j) = norm (fun i => X (ix3 b s i)) (A1 (ix1 j)) j := by
  pointwise [normed]
  rfl

/-- A latent column of the projection. -/
theorem cols_apply (b : Fin 4) (s : Fin 8192) (j : Fin 128) : cols A0 (ix3 b s j) = A0 (ix3 b s (⟨3200 + j.val, by omega⟩ : Fin 3456)) := by
  pointwise [cols]

/-- A pair in the projection. -/
theorem pairs_apply (b : Fin 4) (s : Fin 8192) (k : Fin 16) :
    half0 (pairs A0) (ix3 b s k) = A0 (ix3 b s (⟨3328 + k.val, by omega⟩ : Fin 3456))
      ∧ half1 (pairs A0) (ix3 b s k) = A0 (ix3 b s (⟨3344 + k.val, by omega⟩ : Fin 3456)) := by
  constructor
  · pointwise [half0, pairs]
  · pointwise [half1, pairs]
    exact congrArg (fun l => A0 (ix3 b s l)) (Fin.ext (by simp only; omega))

/-- The angles' cosines and sines at a batch's position. -/
theorem every_apply (b : Fin 4) (s : Fin 8192) (k : Fin 16) :
    every (Host.cos turns) (ix3 b s k) = Ideal.cos (angle s k) ∧ every (Host.sin turns) (ix3 b s k) = Ideal.sin (angle s k) := by
  constructor
  · pointwise [every, turns]
    rfl
  · pointwise [every, turns]
    rfl

/-- The reference's row, place by place. -/
theorem keys_apply (N : FVec Ideal S4x8192x128 .f32) (a b c s : FVec Ideal S4x8192x16 .f32) (i : Fin 4) (r : Fin 8192) :
    (∀ j : Fin 128, keys N a b c s (ix3 i r (⟨j.val, by omega⟩ : Fin 160)) = N (ix3 i r j))
      ∧ (∀ k : Fin 16, keys N a b c s (ix3 i r (⟨128 + k.val, by omega⟩ : Fin 160))
        = a (ix3 i r k) * c (ix3 i r k) - b (ix3 i r k) * s (ix3 i r k))
      ∧ ∀ k : Fin 16, keys N a b c s (ix3 i r (⟨144 + k.val, by omega⟩ : Fin 160))
        = b (ix3 i r k) * c (ix3 i r k) + a (ix3 i r k) * s (ix3 i r k) := by
  refine ⟨fun j => ?_, fun k => ?_, fun k => ?_⟩
  · pointwise [keys]
  · pointwise [keys]
  · pointwise [keys]
    rw [dif_neg (by omega), dif_neg (by omega)]
    exact congrArg (fun l => b (ix3 i r l) * c (ix3 i r l) + a (ix3 i r l) * s (ix3 i r l)) (Fin.ext (by simp only; omega))

/-- The reference's result is the latent keys. -/
theorem res (m : (ℓ : Loc nD τ sig) → Buf (Elt Ideal) ℓ) (c : Dev nD) :
    Value.res_main_v47 m c = keyArr (m ((c.tc : Thread nD τ).loc main_arg0)) (m ((c.tc : Thread nD τ).loc main_arg1)) := by
  rw [steps_eq]
  generalize m ((c.tc : Thread nD τ).loc main_arg0) = A0
  generalize m ((c.tc : Thread nD τ).loc main_arg1) = A1
  funext y
  obtain ⟨b, s, l, rfl⟩ : ∃ (b : Fin 4) (s : Fin 8192) (l : Fin 160), y = (ix3 b s l : S4x8192x160.Idx) := ⟨y 0, y 1, y 2, eq_ix3 y⟩
  refine places (fun l => keys (normed A1 (cols A0)) (half0 (pairs A0)) (half1 (pairs A0)) (every (Host.cos turns)) (every (Host.sin turns)) (ix3 b s l)
    = keyArr A0 A1 (ix3 b s l)) (fun j => ?_) (fun k => ?_) (fun k => ?_) l
  · refine Eq.trans ?_ (entry_latent _ _ _ _ _ j).symm
    rw [(keys_apply _ _ _ _ _ b s).1, normed_apply]
    simp only [cols_apply]
    rfl
  · refine Eq.trans ?_ (entry_first _ _ _ _ _ k).symm
    rw [(keys_apply _ _ _ _ _ b s).2.1, (pairs_apply A0 b s k).1, (pairs_apply A0 b s k).2, (every_apply b s k).1, (every_apply b s k).2]
    rfl
  · refine Eq.trans ?_ (entry_second _ _ _ _ _ k).symm
    rw [(keys_apply _ _ _ _ _ b s).2.2, (pairs_apply A0 b s k).1, (pairs_apply A0 b s k).2, (every_apply b s k).1, (every_apply b s k).2]
    rfl

end Cert.Reference7Ideal.Val
-- ==== Proof.SfChunk.lean ====
/-
  The decode feed-forward kernel: one chunk of hidden units, and the row it normalises.
-/
module

public import proofs.«01_k».proof.Proof.FfnChunk
public import proofs.«01_k».proof.Proof.Gen.Kernel8Ideal
public import proofs.«01_k».proof.Proof.Gen.Kernel8Ideal.Frame
public import Idealize.ShloMosaic.Lib.Pointwise
public import Idealize.ShloMosaic.Lib.Pipeline.ValueKit.Acc

@[expose] public section

set_option maxRecDepth 16384

noncomputable section

open Idealize.ShloMosaic Idealize.ShloMosaic.TcCoe Idealize.SL.Sem

namespace Cert.Kernel8Ideal.Val

open Cert.Kernel8Ideal Cert.Kernel8Ideal.Facts Cert.Kernel8Ideal.Gen Cert.Ffn Cert.Kernel2Ideal.Val

/-- A chunk of hidden units at an entry. -/
theorem pay_apply (h : FVec Ideal S128x1024 .bf16) (g u : Vec Ideal S1024x256 .bf16) (w : Vec Ideal S256x1024 .bf16)
    (r : Fin 128) (d : Fin 1024) :
    k0_pay6 h g u w (ix2 r d) = ∑ j : Fin 256, unit (fun f => h (ix2 r f)) (fun f => g (ix2 f j)) (fun f => u (ix2 f j)) (w (ix2 j d)) := by
  pointwise [k0_pay6]
  simp only [zero_sub]
  rfl

variable (x0 x1 x2 x3 : Vec Ideal S1x128x1024 .f32) (x4 x5 : Vec Ideal S1024x2816 .bf16)
  (x6 : Vec Ideal S2816x1024 .bf16) (x7 x8 : Vec Ideal S1x1024 .f32)

/-- The scaled and shifted rows, as the kernel's products take them. -/
def scaledRows : FVec Ideal S128x1024 .bf16 := k0_pay3 (View.ld x0 r0_0) (View.ld x2 r0_0) (View.ld x1 r0_0)

/-- A row, scaled and shifted by its own entries. -/
theorem scaledRows_apply (r : Fin 128) (f : Fin 1024) :
    scaledRows x0 x1 x2 (ix2 r f) = hidden (fun f => x0 (ix3 0 r f)) (fun f => x1 (ix3 0 r f)) (fun f => x2 (ix3 0 r f)) f := by
  pointwise [scaledRows, k0_pay3, k0_pay2]
  rfl

/-- The chunks' sum, in the order the kernel adds them. -/
def chunks : FVec Ideal S128x1024 .f32 :=
  addf (addf (addf (addf (addf (addf (addf (addf (addf (addf (addf (broadcast S128x1024 (Scalar.ofBits .f32 0x00000000#32))
    (k0_pay6 (scaledRows x0 x1 x2) (View.ld x4 r0_1) (View.ld x5 r0_1) (View.ld x6 r0_2)))
    (k0_pay6 (scaledRows x0 x1 x2) (View.ld x4 r0_3) (View.ld x5 r0_3) (View.ld x6 r0_4)))
    (k0_pay6 (scaledRows x0 x1 x2) (View.ld x4 r0_5) (View.ld x5 r0_5) (View.ld x6 r0_6)))
    (k0_pay6 (scaledRows x0 x1 x2) (View.ld x4 r0_7) (View.ld x5 r0_7) (View.ld x6 r0_8)))
    (k0_pay6 (scaledRows x0 x1 x2) (View.ld x4 r0_9) (View.ld x5 r0_9) (View.ld x6 r0_10)))
    (k0_pay6 (scaledRows x0 x1 x2) (View.ld x4 r0_11) (View.ld x5 r0_11) (View.ld x6 r0_12)))
    (k0_pay6 (scaledRows x0 x1 x2) (View.ld x4 r0_13) (View.ld x5 r0_13) (View.ld x6 r0_14)))
    (k0_pay6 (scaledRows x0 x1 x2) (View.ld x4 r0_15) (View.ld x5 r0_15) (View.ld x6 r0_16)))
    (k0_pay6 (scaledRows x0 x1 x2) (View.ld x4 r0_17) (View.ld x5 r0_17) (View.ld x6 r0_18)))
    (k0_pay6 (scaledRows x0 x1 x2) (View.ld x4 r0_19) (View.ld x5 r0_19) (View.ld x6 r0_20)))
    (k0_pay6 (scaledRows x0 x1 x2) (View.ld x4 r0_21) (View.ld x5 r0_21) (View.ld x6 r0_22))

/-- Chunk `k` of the hidden units at an entry. -/
def piece (r : Fin 128) (d : Fin 1024) (k : ℕ) : EReal :=
  ∑ j : Fin 256, unit (hidden (fun f => x0 (ix3 0 r f)) (fun f => x1 (ix3 0 r f)) (fun f => x2 (ix3 0 r f)))
    (fun f => x4 (ix2 f ⟨(k * 256 + j.val) % 2816, by omega⟩)) (fun f => x5 (ix2 f ⟨(k * 256 + j.val) % 2816, by omega⟩))
    (x6 (ix2 ⟨(k * 256 + j.val) % 2816, by omega⟩ d))

/-- A chunk read from the weights' columns and rows that begin at `256 k`. -/
theorem chunk_piece (r : Fin 128) (d : Fin 1024) (k o : ℕ) (ho : o = k * 256)
    (hb : ∀ d, (![0, o] : Fin 2 → ℕ) d + S1024x256.size d ≤ S1024x2816.size d)
    (hc : ∀ d, (![o, 0] : Fin 2 → ℕ) d + S256x1024.size d ≤ S2816x1024.size d) :
    k0_pay6 (scaledRows x0 x1 x2) (View.ld x4 (Rect.unit (s := S1024x2816) ![0, o] S1024x256.size hb))
      (View.ld x5 (Rect.unit (s := S1024x2816) ![0, o] S1024x256.size hb))
      (View.ld x6 (Rect.unit (s := S2816x1024) ![o, 0] S256x1024.size hc)) (ix2 r d) = piece x0 x1 x2 x4 x5 x6 r d k := by
  subst ho
  rw [pay_apply]
  unfold piece
  refine Finset.sum_congr rfl fun j _ => ?_
  have e6 := ld_rows x6 (k * 256) hc j d
  have e4 := fun f => ld_cols x4 (k * 256) hb f j
  have e5 := fun f => ld_cols x5 (k * 256) hb f j
  exact congr (congr (congr (congrArg unit (funext fun f => scaledRows_apply x0 x1 x2 r f)) (funext e4)) (funext e5)) e6

/-- The kernel's sum is the sum over all hidden units. -/
theorem chunks_apply (r : Fin 128) (d : Fin 1024) :
    chunks x0 x1 x2 x4 x5 x6 (ix2 r d) = ∑ n : Fin 2816, unit (hidden (fun f => x0 (ix3 0 r f)) (fun f => x1 (ix3 0 r f)) (fun f => x2 (ix3 0 r f)))
      (fun f => x4 (ix2 f n)) (fun f => x5 (ix2 f n)) (x6 (ix2 n d)) := by
  refine Eq.trans ?_ (sum_pieces _ (piece x0 x1 x2 x4 x5 x6 r d) fun k hk => ?_).symm
  · simp only [Finset.sum_range_succ, Finset.sum_range_zero]
    pointwise [chunks]
    rw [chunk_piece x0 x1 x2 x4 x5 x6 r d 0 0 rfl, chunk_piece x0 x1 x2 x4 x5 x6 r d 1 256 rfl, chunk_piece x0 x1 x2 x4 x5 x6 r d 2 512 rfl,
      chunk_piece x0 x1 x2 x4 x5 x6 r d 3 768 rfl, chunk_piece x0 x1 x2 x4 x5 x6 r d 4 1024 rfl, chunk_piece x0 x1 x2 x4 x5 x6 r d 5 1280 rfl,
      chunk_piece x0 x1 x2 x4 x5 x6 r d 6 1536 rfl, chunk_piece x0 x1 x2 x4 x5 x6 r d 7 1792 rfl, chunk_piece x0 x1 x2 x4 x5 x6 r d 8 2048 rfl,
      chunk_piece x0 x1 x2 x4 x5 x6 r d 9 2304 rfl, chunk_piece x0 x1 x2 x4 x5 x6 r d 10 2560 rfl]
  · unfold piece
    refine Finset.sum_congr rfl fun j _ => ?_
    have e : (⟨(k * 256 + j.val) % 2816, by omega⟩ : Fin 2816) = ⟨k * 256 + j.val, by omega⟩ :=
      Fin.ext (Nat.mod_eq_of_lt (by omega))
    simp only [e]

/-- What the kernel normalises. -/
def whole : FVec Ideal S128x1024 .f32 :=
  addf (mulf (broadcast S128x1024 (Scalar.ofBits .f32 0x3FB504F3#32)) (k0_pay2 (View.ld x0 r0_0)))
    (mulf (mulf (broadcast S128x1024 (Scalar.ofBits .f32 0x3F000000#32))
      (addf (broadcast S128x1024 (Scalar.ofBits .f32 0x3F800000#32)) (shapeCast S128x1024 (View.ld x3 r0_0 : FVec Ideal S1x128x1024 .f32) shapeCasts_S1x128x1024_S128x1024)))
      (chunks x0 x1 x2 x4 x5 x6))

/-- A row of it. -/
theorem whole_apply (r : Fin 128) (d : Fin 1024) :
    whole x0 x1 x2 x3 x4 x5 x6 (ix2 r d) = total (fun f => x0 (ix3 0 r f)) (fun f => x3 (ix3 0 r f))
      (fun d => ∑ n : Fin 2816, unit (hidden (fun f => x0 (ix3 0 r f)) (fun f => x1 (ix3 0 r f)) (fun f => x2 (ix3 0 r f)))
        (fun f => x4 (ix2 f n)) (fun f => x5 (ix2 f n)) (x6 (ix2 n d))) d := by
  pointwise [whole, k0_pay2]
  rw [chunks_apply]
  rfl

/-- Rows less their means. -/
def apart (z : FVec Ideal S128x1024 .f32) : FVec Ideal S128x1024 .f32 :=
  subf z (broadcastTo S128x1024 (divf (shapeCast S128x1 (multiReduction .add [1] S128 z 0x00000000#32 reduces_S128x1024_S128 (.inl rfl) rfl)
    shapeCasts_S128_S128x1) (broadcast S128x1 (Scalar.ofBits .f32 0x44800000#32))) broadcasts_S128x1_S128x1024)

/-- A row less its mean. -/
theorem apart_apply (z : FVec Ideal S128x1024 .f32) (r : Fin 128) (d : Fin 1024) :
    apart z (ix2 r d) = centred (fun d => z (ix2 r d)) d := by
  pointwise [apart]
  rfl

/-- The last payload: the rows scaled by their deviations. -/
def stored (z : FVec Ideal S128x1024 .f32) : FVec Ideal S1x128x1024 .f32 :=
  k0_pay1 (k0_pay20 (View.ld x7 r0_23)) (k0_pay21 (View.ld x8 r0_23)) (apart z)
    (rsqrt (addf (divf (shapeCast S128x1 (multiReduction .add [1] S128 (mulf (apart z) (apart z)) 0x00000000#32 reduces_S128x1024_S128 (.inl rfl) rfl)
      shapeCasts_S128_S128x1) (broadcast S128x1 (Scalar.ofBits .f32 0x44800000#32))) (broadcast S128x1 (Scalar.ofBits .f32 0x3727C5AC#32))))

/-- A normalised row. -/
theorem stored_apply (z : FVec Ideal S128x1024 .f32) (r : Fin 128) (d : Fin 1024) :
    stored x7 x8 z (ix3 0 r d) = normed (fun d => z (ix2 r d)) (fun f => x7 (ix2 0 f)) (fun f => x8 (ix2 0 f)) d := by
  pointwise [stored, k0_pay1, k0_pay20, k0_pay21]
  simp only [apart_apply]
  rfl

/-- What the kernel leaves is these steps in a row. -/
theorem out_eq : out0_9 x0 x1 x2 x3 x4 x5 x6 x7 x8 = stored x7 x8 (whole x0 x1 x2 x3 x4 x5 x6) := by
  rw [show out0_9 x0 x1 x2 x3 x4 x5 x6 x7 x8 = View.canon [⟨r0_0, stored x7 x8 (whole x0 x1 x2 x3 x4 x5 x6)⟩] from rfl]
  frame_out

end Cert.Kernel8Ideal.Val
-- ==== Proof.SfArray.lean ====
/-
  The decode feed-forward kernel's output array, read at an index.
-/
module

public import proofs.«01_k».proof.Proof.SfChunk
public import proofs.«01_k».proof.Proof.Gen.Kernel8Ideal.Value
public import Idealize.ShloMosaic.Lib.Pipeline.ValueKit.Geometry
public import Idealize.ShloMosaic.Lib.Pipeline.ValueKit.Point

@[expose] public section

set_option maxRecDepth 16384

noncomputable section

open Idealize.ShloMosaic Idealize.ShloMosaic.TcCoe Idealize.SL.Sem
open Idealize.ShloMosaic.Pipeline (Dat)

namespace Cert.Kernel8Ideal.Val

open Cert.Kernel8Ideal Cert.Kernel8Ideal.Gen Cert.Ffn

variable (m : (ℓ : Loc nD τ sig) → Buf (Elt Ideal) ℓ)

/-- The windows' block indices at the one grid point. -/
theorem idx (t : Fin cfg0.N) :
    win0_0.index t = ![0, 0, 0] ∧ win0_1.index t = ![0, 0, 0] ∧ win0_2.index t = ![0, 0, 0]
      ∧ win0_3.index t = ![0, 0, 0] ∧ win0_4.index t = ![0, 0] ∧ win0_5.index t = ![0, 0] ∧ win0_6.index t = ![0, 0]
      ∧ win0_7.index t = ![0, 0] ∧ win0_8.index t = ![0, 0] ∧ win0_9.index t = ![0, 0, 0] := by
  revert t
  decide +kernel

/-- The feed-forward block with its normalisation, every row with a shift, a scale and a gate of its own. -/
def rowsArr (A0 A1 A2 A3 : Vec Ideal S1x128x1024 .f32) (A4 A5 : Vec Ideal S1024x2816 .f32)
    (A6 : Vec Ideal S2816x1024 .f32) (A7 A8 : Vec Ideal S1024 .f32) : Vec Ideal S1x128x1024 .f32 :=
  fun y => row (fun d => A0 (ix3 0 (y 1) d)) (fun d => A1 (ix3 0 (y 1) d)) (fun d => A2 (ix3 0 (y 1) d))
    (fun d => A3 (ix3 0 (y 1) d)) (fun f n => A4 (ix2 f n)) (fun f n => A5 (ix2 f n)) (fun n d => A6 (ix2 n d))
    (fun d => A7 (ix1 d)) (fun d => A8 (ix1 d)) (y 2)

/-- The rows. -/
theorem iblk0 (c : Dev nD) (t : Fin cfg0.N) (r : Fin 128) (d : Fin 1024) :
    iblk m c 0 t (ix3 0 r d) = m ((c : Thread nD τ).loc main_arg0) (ix3 0 r d) := by
  have e := (idx t).1
  blk_ext [iblk, V, e]

/-- The shifts. -/
theorem iblk1 (c : Dev nD) (t : Fin cfg0.N) (r : Fin 128) (d : Fin 1024) :
    iblk m c 1 t (ix3 0 r d) = m ((c : Thread nD τ).loc main_arg1) (ix3 0 r d) := by
  have e := (idx t).2.1
  blk_ext [iblk, V, e]

/-- The scales. -/
theorem iblk2 (c : Dev nD) (t : Fin cfg0.N) (r : Fin 128) (d : Fin 1024) :
    iblk m c 2 t (ix3 0 r d) = m ((c : Thread nD τ).loc main_arg2) (ix3 0 r d) := by
  have e := (idx t).2.2.1
  blk_ext [iblk, V, e]

/-- The gates on the block. -/
theorem iblk3 (c : Dev nD) (t : Fin cfg0.N) (r : Fin 128) (d : Fin 1024) :
    iblk m c 3 t (ix3 0 r d) = m ((c : Thread nD τ).loc main_arg3) (ix3 0 r d) := by
  have e := (idx t).2.2.2.1
  blk_ext [iblk, V, e]

/-- The gates' weights. -/
theorem iblk4 (c : Dev nD) (t : Fin cfg0.N) (f : Fin 1024) (n : Fin 2816) :
    iblk m c 4 t (ix2 f n) = m ((c : Thread nD τ).loc main_arg4) (ix2 f n) := by
  have e := (idx t).2.2.2.2.1
  blk_ext! [iblk, e]

/-- The values' weights. -/
theorem iblk5 (c : Dev nD) (t : Fin cfg0.N) (f : Fin 1024) (n : Fin 2816) :
    iblk m c 5 t (ix2 f n) = m ((c : Thread nD τ).loc main_arg5) (ix2 f n) := by
  have e := (idx t).2.2.2.2.2.1
  blk_ext! [iblk, e]

/-- The output weights. -/
theorem iblk6 (c : Dev nD) (t : Fin cfg0.N) (n : Fin 2816) (d : Fin 1024) :
    iblk m c 6 t (ix2 n d) = m ((c : Thread nD τ).loc main_arg6) (ix2 n d) := by
  have e := (idx t).2.2.2.2.2.2.1
  blk_ext! [iblk, e]

/-- The normalisation's factors. -/
theorem iblk7 (c : Dev nD) (t : Fin cfg0.N) (d : Fin 1024) :
    iblk m c 7 t (ix2 0 d) = m ((c : Thread nD τ).loc main_arg7) (ix1 d) := by
  have e := (idx t).2.2.2.2.2.2.2.1
  blk_ext! [iblk, e]

/-- The normalisation's offsets. -/
theorem iblk8 (c : Dev nD) (t : Fin cfg0.N) (d : Fin 1024) :
    iblk m c 8 t (ix2 0 d) = m ((c : Thread nD τ).loc main_arg8) (ix1 d) := by
  have e := (idx t).2.2.2.2.2.2.2.2.1
  blk_ext! [iblk, e]

/-- The kernel's result array is the feed-forward block of its arguments. -/
theorem final (c : Dev nD) :
    (dats m 0 c).arrAt 9 cfg0.N = rowsArr (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) (m ((c : Thread nD τ).loc main_arg7))
      (m ((c : Thread nD τ).loc main_arg8)) := by
  refine (dats m 0 c).arrAt_eq_of_covers 9 _ (by decide +kernel) fun t hf y => ?_
  blk_simp
  rw [after0_9, out_eq]
  obtain ⟨r, d, rfl⟩ : ∃ (r : Fin 128) (d : Fin 1024), y = (ix3 0 r d : S1x128x1024.Idx) :=
    ⟨y 1, y 2, (eq_ix3 y).trans (congrArg (fun a => ix3 a (y 1) (y 2)) (Subsingleton.elim (α := Fin 1) _ _))⟩
  have e := (idx t).2.2.2.2.2.2.2.2.2
  have hy : (win0_9.blk t).view.emb (ix3 0 r d : S1x128x1024.Idx) = (ix3 0 r d : S1x128x1024.Idx) := by
    blk_ext [e]
  rw [hy, stored_apply]
  simp only [whole_apply, iblk0, iblk1, iblk2, iblk3, iblk4, iblk5, iblk6, iblk7, iblk8]
  rfl

end Cert.Kernel8Ideal.Val
-- ==== Proof.SfRef.lean ====
/-
  The decode feed-forward reference: its steps, read at an index.
-/
module

public import proofs.«01_k».proof.Proof.SfArray
public import proofs.«01_k».proof.Proof.Gen.Reference8Ideal
public import proofs.«01_k».proof.Proof.Gen.Reference8Ideal.Run
public import Idealize.ShloMosaic.Lib.Pointwise

@[expose] public section

set_option maxRecDepth 16384

noncomputable section

open Idealize.ShloMosaic Idealize.ShloMosaic.TcCoe Idealize.SL.Sem

namespace Cert.Reference8Ideal.Val

open Cert.Reference8Ideal Cert.Reference8Ideal.Facts Cert.Reference8Ideal.Gen Cert.Ffn Cert.Kernel8Ideal.Val

variable (A0 A1 A2 A3 : FVec Ideal S1x128x1024 .f32) (A4 A5 : FVec Ideal S1024x2816 .f32)
  (A6 : FVec Ideal S2816x1024 .f32) (A7 A8 : FVec Ideal S1024 .f32)

/-- One number in every place. -/
def all (w : BitVec 32) : FVec Ideal S1x128x1024 .f32 := broadcastInDim S1x128x1024 ![] bcast_S_S1x128x1024 (constant S_ .f32 w)

/-- The scaled and shifted rows. -/
def shifted : FVec Ideal S1x128x1024 .f32 := addf (mulf A0 (addf (all 0x3F800000#32) A2)) A1

/-- A product with one of the two inner weights. -/
def inner (h : FVec Ideal S1x128x1024 .f32) (w : FVec Ideal S1024x2816 .f32) : FVec Ideal S1x128x2816 .f32 :=
  Host.dotGeneral dot_S1x128x1024_S1024x2816_S1x128x2816_2_0_01_1_n_n none h w

/-- A gate times its logistic. -/
def gated (g : FVec Ideal S1x128x2816 .f32) : FVec Ideal S1x128x2816 .f32 :=
  mulf g (Host.divf (broadcastInDim S1x128x2816 ![] bcast_S_S1x128x2816 (constant S_ .f32 0x3F800000#32))
    (addf (broadcastInDim S1x128x2816 ![] bcast_S_S1x128x2816 (constant S_ .f32 0x3F800000#32)) (Host.exp (Host.negf g))))

/-- The product with the output weights. -/
def outer (a : FVec Ideal S1x128x2816 .f32) : FVec Ideal S1x128x1024 .f32 :=
  Host.dotGeneral dot_S1x128x2816_S2816x1024_S1x128x1024_2_0_01_1_n_n none a A6

/-- The rows with the block's output added. -/
def added (y : FVec Ideal S1x128x1024 .f32) : FVec Ideal S1x128x1024 .f32 :=
  addf (mulf (all 0x3FB504F3#32) A0) (mulf (mulf (all 0x3F000000#32) (addf (all 0x3F800000#32) A3)) y)

/-- The rows' means. -/
def means (z : FVec Ideal S1x128x1024 .f32) : FVec Ideal S1x128x1 .f32 :=
  Host.divf (broadcastInDim S1x128x1 ![0, 1] bcast_S1x128_S1x128x1_0_1
      (Host.reduceAdd z (constant S_ .f32 0x00000000#32) reducesTo_S1x128x1024_S1x128_d2 h_S_))
    (broadcastInDim S1x128x1 ![] bcast_S_S1x128x1 (constant S_ .f32 0x44800000#32))

/-- The rows less their means. -/
def less (z : FVec Ideal S1x128x1024 .f32) : FVec Ideal S1x128x1024 .f32 :=
  subf z (broadcastInDim S1x128x1024 ![0, 1, 2] bcast_S1x128x1_S1x128x1024_0_1_2 (means z))

/-- The normalised rows. -/
def norms (z : FVec Ideal S1x128x1024 .f32) : FVec Ideal S1x128x1024 .f32 :=
  addf (mulf (mulf (less z) (broadcastInDim S1x128x1024 ![0, 1, 2] bcast_S1x128x1_S1x128x1024_0_1_2
      (Host.rsqrt (addf (means (mulf (less z) (less z))) (broadcastInDim S1x128x1 ![] bcast_S_S1x128x1 (constant S_ .f32 0x3727C5AC#32))))))
      (broadcastInDim S1x128x1024 ![0, 1, 2] bcast_S1x1x1024_S1x128x1024_0_1_2 (broadcastInDim S1x1x1024 ![2] bcast_S1024_S1x1x1024_2 A7)))
    (broadcastInDim S1x128x1024 ![0, 1, 2] bcast_S1x1x1024_S1x128x1024_0_1_2 (broadcastInDim S1x1x1024 ![2] bcast_S1024_S1x1x1024_2 A8))

/-- The reference is these steps in a row. -/
theorem res_eq (m : (ℓ : Loc nD τ sig) → Buf (Elt Ideal) ℓ) (c : Dev nD) :
    Value.res_main_v40 m c = norms (m ((c.tc : Thread nD τ).loc main_arg7)) (m ((c.tc : Thread nD τ).loc main_arg8))
      (added (m ((c.tc : Thread nD τ).loc main_arg0)) (m ((c.tc : Thread nD τ).loc main_arg3)) (outer (m ((c.tc : Thread nD τ).loc main_arg6))
        (mulf (gated (inner (shifted (m ((c.tc : Thread nD τ).loc main_arg0)) (m ((c.tc : Thread nD τ).loc main_arg1))
            (m ((c.tc : Thread nD τ).loc main_arg2))) (m ((c.tc : Thread nD τ).loc main_arg4))))
          (inner (shifted (m ((c.tc : Thread nD τ).loc main_arg0)) (m ((c.tc : Thread nD τ).loc main_arg1))
            (m ((c.tc : Thread nD τ).loc main_arg2))) (m ((c.tc : Thread nD τ).loc main_arg5)))))) := by
  unfold Value.res_main_v40
  rfl

/-- A scaled and shifted row. -/
theorem shifted_apply (s : Fin 128) (f : Fin 1024) :
    shifted A0 A1 A2 (ix3 0 s f) = hidden (fun d => A0 (ix3 0 s d)) (fun d => A1 (ix3 0 s d)) (fun d => A2 (ix3 0 s d)) f := by
  pointwise [shifted, all]
  rfl

/-- The block's output on a row. -/
theorem outer_apply (h : FVec Ideal S1x128x1024 .f32) (s : Fin 128) (d : Fin 1024) :
    outer A6 (mulf (gated (inner h A4)) (inner h A5)) (ix3 0 s d)
      = ∑ n : Fin 2816, unit (fun f => h (ix3 0 s f)) (fun f => A4 (ix2 f n)) (fun f => A5 (ix2 f n)) (A6 (ix2 n d)) := by
  pointwise [outer, gated, inner]
  rfl

/-- A row with the block's output added. -/
theorem added_apply (y : FVec Ideal S1x128x1024 .f32) (s : Fin 128) (d : Fin 1024) :
    added A0 A3 y (ix3 0 s d) = total (fun d => A0 (ix3 0 s d)) (fun d => A3 (ix3 0 s d)) (fun d => y (ix3 0 s d)) d := by
  pointwise [added, all]
  rfl

/-- A row's mean. -/
theorem means_apply (z : FVec Ideal S1x128x1024 .f32) (s : Fin 128) : means z (ix3 0 s 0) = mean fun d => z (ix3 0 s d) := by
  pointwise [means]
  rfl

/-- A row less its mean. -/
theorem less_apply (z : FVec Ideal S1x128x1024 .f32) (s : Fin 128) (d : Fin 1024) :
    less z (ix3 0 s d) = centred (fun d => z (ix3 0 s d)) d := by
  pointwise [less]
  rw [means_apply]
  rfl

/-- A normalised row. -/
theorem norms_apply (z : FVec Ideal S1x128x1024 .f32) (s : Fin 128) (d : Fin 1024) :
    norms A7 A8 z (ix3 0 s d) = normed (fun d => z (ix3 0 s d)) (fun d => A7 (ix1 d)) (fun d => A8 (ix1 d)) d := by
  pointwise [norms]
  rw [means_apply]
  pointwise
  simp only [less_apply]
  rfl

/-- The reference's result is the feed-forward block of its arguments. -/
theorem res (m : (ℓ : Loc nD τ sig) → Buf (Elt Ideal) ℓ) (c : Dev nD) :
    Value.res_main_v40 m c = rowsArr (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) (m ((c.tc : Thread nD τ).loc main_arg7))
      (m ((c.tc : Thread nD τ).loc main_arg8)) := by
  rw [res_eq]
  funext y
  obtain ⟨s, d, rfl⟩ : ∃ (s : Fin 128) (d : Fin 1024), y = (ix3 0 s d : S1x128x1024.Idx) :=
    ⟨y 1, y 2, (eq_ix3 y).trans (congrArg (fun a => ix3 a (y 1) (y 2)) (Subsingleton.elim (α := Fin 1) _ _))⟩
  rw [norms_apply]
  simp only [added_apply, outer_apply, shifted_apply]
  rfl

end Cert.Reference8Ideal.Val
-- ==== Proof.SiArray.lean ====
/-
  The sampled sequences' input projection: the kernel's output array, read at an index.
-/
module

public import proofs.«01_k».proof.Proof.InPad
public import proofs.«01_k».proof.Proof.Gen.Kernel9Ideal
public import proofs.«01_k».proof.Proof.Gen.Kernel9Ideal.Frame
public import proofs.«01_k».proof.Proof.Gen.Kernel9Ideal.Value
public import Idealize.ShloMosaic.Lib.Pipeline.ValueKit.Acc

@[expose] public section

set_option maxRecDepth 16384

noncomputable section

open Idealize.ShloMosaic Idealize.ShloMosaic.TcCoe Idealize.SL.Sem
open Idealize.ShloMosaic.Pipeline (Dat)

namespace Cert.Kernel9Ideal.Val

open Cert.Kernel9Ideal Cert.Kernel9Ideal.Gen Cert.Inproj

/-- A block of the result: its rows' products with the wider weights. -/
theorem out_apply (x0 x1 x2 : Vec Ideal S1x128x1024 .f32) (x3 : Vec Ideal S1024x3456 .bf16)
    (r : Fin 128) (j : Fin 3456) :
    out0_4 x0 x1 x2 x3 (ix3 0 r j)
      = ∑ d : Fin 1024, hidden (fun d => x0 (ix3 0 r d)) (fun d => x1 (ix3 0 r d)) (fun d => x2 (ix3 0 r d)) d * x3 (ix2 d j) := by
  have e : out0_4 x0 x1 x2 x3 = k0_pay1 (View.ld x0 r0_0) (View.ld x2 r0_0) (View.ld x1 r0_0) (View.ld x3 r0_1) := by
    unfold out0_4
    frame_out
  rw [e]
  pointwise [k0_pay1]
  rfl

variable (m : (ℓ : Loc nD τ sig) → Buf (Elt Ideal) ℓ)

/-- The windows' block indices at a grid point. -/
theorem idx (t : Fin cfg0.N) :
    win0_0.index t = ![0, 0, 0] ∧ win0_1.index t = ![0, 0, 0] ∧ win0_2.index t = ![0, 0, 0]
      ∧ win0_3.index t = ![0, 0] ∧ win0_4.index t = ![0, 0, 0] := by
  revert t
  decide +kernel

/-- The input projection, on whole arrays. -/
def projArr (A0 A1 A2 : Vec Ideal S1x128x1024 .f32) (A3 : Vec Ideal S1024x2544 .f32) :
    Vec Ideal S1x128x3456 .f32 :=
  fun y => product (hidden (fun d => A0 (ix3 0 (y 1) d)) (fun d => A1 (ix3 0 (y 1) d)) (fun d => A2 (ix3 0 (y 1) d)))
    (fun d n => A3 (ix2 d n)) (column (y 2).val)

/-- The rows in their array. -/
theorem iblk0 (c : Dev nD) (t : Fin cfg0.N) (r : Fin 128) (d : Fin 1024) :
    iblk m c 0 t (ix3 0 r d) = m ((c : Thread nD τ).loc main_arg0) (ix3 0 r d) := by
  have e := (idx t).1
  rw [← V_main_arg0 m c]
  blk_ext [iblk, e]

/-- The rows' shifts. -/
theorem iblk1 (c : Dev nD) (t : Fin cfg0.N) (r : Fin 128) (d : Fin 1024) :
    iblk m c 1 t (ix3 0 r d) = m ((c : Thread nD τ).loc main_arg1) (ix3 0 r d) := by
  have e := (idx t).2.1
  rw [← V_main_arg1 m c]
  blk_ext [iblk, e]

/-- The rows' scales. -/
theorem iblk2 (c : Dev nD) (t : Fin cfg0.N) (r : Fin 128) (d : Fin 1024) :
    iblk m c 2 t (ix3 0 r d) = m ((c : Thread nD τ).loc main_arg2) (ix3 0 r d) := by
  have e := (idx t).2.2.1
  rw [← V_main_arg2 m c]
  blk_ext [iblk, e]

/-- The host code's wider weights are the ones of the prompts' call. -/
theorem V_padded (c : Dev nD) : V m c main_v3 = Cert.Kernel4Ideal.Val.padded (m ((c : Thread nD τ).loc main_arg3)) := by
  simp only [V, hostOps0, hostOps0_1, hostOps0_2, hostOps0_3, hostOps0_4, List.flatten_cons, List.flatten_nil, List.append_nil,
    List.cons_append, List.nil_append, StableHlo.after_cons, StableHlo.after_nil]
  after_results_simp
  simp -implicitDefEqProofs only [StableHlo.TRef.toBuf, StableHlo.TRef.ofBuf, cast_cast, cast_eq, id_eq]
  unfold Cert.Kernel4Ideal.Val.padded Cert.Kernel4Ideal.Val.inside Cert.Kernel4Ideal.Val.taken
  rfl

/-- The wider weights. -/
theorem iblk3 (c : Dev nD) (t : Fin cfg0.N) (d : Fin 1024) (j : Fin 3456) :
    iblk m c 3 t (ix2 d j) = weight (fun d n => m ((c : Thread nD τ).loc main_arg3) (ix2 d n)) (column j.val) d := by
  have e := (idx t).2.2.2.1
  rw [← Cert.Kernel4Ideal.Val.padded_apply (m ((c : Thread nD τ).loc main_arg3)), ← V_padded]
  blk_ext [iblk, e]

/-- The kernel's result array is the input projection of its arguments. -/
theorem final (c : Dev nD) :
    (dats m 0 c).arrAt 4 cfg0.N = projArr (m ((c : Thread nD τ).loc main_arg0)) (m ((c : Thread nD τ).loc main_arg1))
      (m ((c : Thread nD τ).loc main_arg2)) (m ((c : Thread nD τ).loc main_arg3)) := by
  refine (dats m 0 c).arrAt_eq_of_covers 4 _ (by decide +kernel) fun t hf y => ?_
  blk_simp
  rw [after0_4]
  obtain ⟨r, j, rfl⟩ : ∃ (r : Fin 128) (j : Fin 3456), y = (ix3 0 r j : S1x128x3456.Idx) :=
    ⟨y 1, y 2, (eq_ix3 y).trans (congrArg (fun a => ix3 a (y 1) (y 2)) (Subsingleton.elim (α := Fin 1) _ _))⟩
  have e := (idx t).2.2.2.2
  have hy : (win0_4.blk t).view.emb (ix3 0 r j : S1x128x3456.Idx)
      = (ix3 0 r j : S1x128x3456.Idx) := by
    blk_ext [e]
  rw [hy, out_apply]
  simp only [iblk0 m c t, iblk1 m c t, iblk2 m c t,
    iblk3]
  rfl

end Cert.Kernel9Ideal.Val
-- ==== Proof.SiRef.lean ====
/-
  The sampled sequences' input projection, the reference: its pieces laid side by side are its product's columns, read at an index.
-/
module

public import proofs.«01_k».proof.Proof.SiArray
public import proofs.«01_k».proof.Proof.InRuns
public import proofs.«01_k».proof.Proof.Gen.Reference9Ideal
public import proofs.«01_k».proof.Proof.Gen.Reference9Ideal.Run
public import Idealize.ShloMosaic.Lib.Pointwise

@[expose] public section

set_option maxRecDepth 16384

noncomputable section

open Idealize.ShloMosaic Idealize.ShloMosaic.TcCoe Idealize.SL.Sem

namespace Cert.Reference9Ideal.Val

open Cert.Reference9Ideal Cert.Reference9Ideal.Facts Cert.Reference9Ideal.Gen Cert.Inproj Cert.Kernel9Ideal.Val

variable (A0 A1 A2 : FVec Ideal S1x128x1024 .f32) (A3 : FVec Ideal S1024x2544 .f32)

/-- The scaled and shifted rows' product with the weights. -/
def projected : FVec Ideal S1x128x2544 .f32 :=
  Host.dotGeneral dot_S1x128x1024_S1024x2544_S1x128x2544_2_0_01_1_n_n none
    (addf (mulf A0 (addf (broadcastInDim S1x128x1024 ![] bcast_S_S1x128x1024 (constant S_ .f32 0x3F800000#32)) A2)) A1) A3

/-- A row's product with a column of the weights. -/
def entry (_ : Fin 1) (r : Fin 128) (o : Option ℕ) : EReal :=
  product (hidden (fun d => A0 (ix3 0 r d)) (fun d => A1 (ix3 0 r d)) (fun d => A2 (ix3 0 r d))) (fun d n => A3 (ix2 d n)) o

/-- The product's own columns are one run. -/
theorem reads_projected : Reads (entry A0 A1 A2 A3) ⟨wide 1 128 2544, projected A0 A1 A2 A3⟩ (2544, run 0) :=
  ⟨_, rfl, fun b r k => by
    obtain rfl : b = 0 := Subsingleton.elim _ _
    have e : (run 0 k.val) = some k.val := congrArg some (Nat.zero_add _)
    simp only [e, entry]
    rw [product_some _ _ _ k.isLt]
    pointwise [projected]
    rfl⟩

/-- The reference is these pieces of the product. -/
theorem res_eq (m : (ℓ : Loc nD τ sig) → Buf (Elt Ideal) ℓ) (c : Dev nD) :
    Value.res_main_v36 m c = parts (projected (m ((c.tc : Thread nD τ).loc main_arg0)) (m ((c.tc : Thread nD τ).loc main_arg1))
      (m ((c.tc : Thread nD τ).loc main_arg2)) (m ((c.tc : Thread nD τ).loc main_arg3))) := by
  unfold Value.res_main_v36 parts part0 part1 part2 cut2 cut zeros projected
  rfl

/-- The reference's result is the input projection of its arguments. -/
theorem res (m : (ℓ : Loc nD τ sig) → Buf (Elt Ideal) ℓ) (c : Dev nD) :
    Value.res_main_v36 m c = projArr (m ((c.tc : Thread nD τ).loc main_arg0)) (m ((c.tc : Thread nD τ).loc main_arg1))
      (m ((c.tc : Thread nD τ).loc main_arg2)) (m ((c.tc : Thread nD τ).loc main_arg3)) := by
  rw [res_eq]
  obtain ⟨x, e, h⟩ := reads_parts (fun _ _ => product_none _ _)
    (reads_projected (m ((c.tc : Thread nD τ).loc main_arg0)) (m ((c.tc : Thread nD τ).loc main_arg1))
      (m ((c.tc : Thread nD τ).loc main_arg2)) (m ((c.tc : Thread nD τ).loc main_arg3)))
  have e' : parts _ = x := eq_of_heq (Sigma.mk.inj e).2
  rw [e']
  funext y
  exact (congrArg x (eq_ix3 y)).trans (h (y 0) (y 1) (y 2))

end Cert.Reference9Ideal.Val
-- ==== Proof.SlOut.lean ====
/-
  The sampled sequences' latent keys: what the kernel's grid point leaves in its block of rows.
-/
module

public import proofs.«01_k».proof.Proof.LrSpec
public import proofs.«01_k».proof.Proof.Whole
public import proofs.«01_k».proof.Proof.Gen.Kernel10Ideal
public import proofs.«01_k».proof.Proof.Gen.Kernel10Ideal.Frame
public import Idealize.ShloMosaic.Lib.Pointwise

@[expose] public section

set_option maxRecDepth 16384

noncomputable section

open Idealize.ShloMosaic Idealize.ShloMosaic.TcCoe Idealize.SL.Sem

namespace Cert.Kernel10Ideal.Val

open Cert.Kernel10Ideal Cert.Kernel10Ideal.Facts Cert.Kernel10Ideal.Gen Cert.Rows Cert.Whole

/-- The rows the grid point stores, of its blocks and its tables. -/
def rows (v40 : Vec Ideal S1x128x128 .f32) (v52 : Vec Ideal S1x128 .f32) (v56 : Vec Ideal S1x128x128 .f32) (v58 v63 v69 : Vec Ideal S1x128 .f32) : FVec Ideal S1x128x160 .f32 :=
  k0_pay1 (k0_pay4 v40 v52 v56 v58 v63 v69)

section
variable (v40 : Vec Ideal S1x128x128 .f32) (v52 : Vec Ideal S1x128 .f32) (v56 : Vec Ideal S1x128x128 .f32) (v58 v63 v69 : Vec Ideal S1x128 .f32)

/-- The rows' latent entries. -/
theorem rows_latent (r j : Fin 128) :
    rows v40 v52 v56 v58 v63 v69 (ix3 0 r (⟨j.val, by omega⟩ : Fin 160)) = norm (fun i => v40 (ix3 0 r i)) (v52 (ix2 0 j)) j := by
  pointwise [rows, k0_pay1, k0_pay4]
  rfl

/-- The rows' first rotated entries. -/
theorem rows_first (r : Fin 128) (k : Fin 16) :
    ∃ z, rows v40 v52 v56 v58 v63 v69 (ix3 0 r (⟨128 + k.val, by omega⟩ : Fin 160))
      = v56 (ix3 0 r (⟨k.val, by omega⟩ : Fin 128)) * v58 (ix2 0 (⟨k.val, by omega⟩ : Fin 128))
        + v56 (ix3 0 r (⟨16 + k.val, by omega⟩ : Fin 128)) * v63 (ix2 0 (⟨k.val, by omega⟩ : Fin 128))
        + z * v69 (ix2 0 (⟨k.val, by omega⟩ : Fin 128)) := by
  have i0 : (⟨(k.val + 128 - 112) % 128, by omega⟩ : Fin 128) = ⟨16 + k.val, by omega⟩ := Fin.ext (by simp only; omega)
  refine ⟨v56 (ix3 0 r (⟨(k.val + 128 - 16) % 128, by omega⟩ : Fin 128)), ?_⟩
  pointwise [rows, k0_pay1, k0_pay4]
  rw [i0]

/-- The rows' second rotated entries. -/
theorem rows_second (r : Fin 128) (k : Fin 16) :
    ∃ z, rows v40 v52 v56 v58 v63 v69 (ix3 0 r (⟨144 + k.val, by omega⟩ : Fin 160))
      = v56 (ix3 0 r (⟨16 + k.val, by omega⟩ : Fin 128)) * v58 (ix2 0 (⟨16 + k.val, by omega⟩ : Fin 128))
        + z * v63 (ix2 0 (⟨16 + k.val, by omega⟩ : Fin 128))
        + v56 (ix3 0 r (⟨k.val, by omega⟩ : Fin 128)) * v69 (ix2 0 (⟨16 + k.val, by omega⟩ : Fin 128)) := by
  have i0 : (⟨144 + k.val - 128, by omega⟩ : Fin 128) = ⟨16 + k.val, by omega⟩ := Fin.ext (by simp only; omega)
  have i1 : (⟨(144 + k.val - 128 + 128 - 16) % 128, by omega⟩ : Fin 128) = ⟨k.val, by omega⟩ := Fin.ext (by simp only; omega)
  refine ⟨v56 (ix3 0 r (⟨(144 + k.val - 128 + 128 - 112) % 128, by omega⟩ : Fin 128)), ?_⟩
  pointwise [rows, k0_pay1, k0_pay4]
  rw [dif_neg (by omega)]
  exact congrArg₂ (· + ·) (congrArg₂ (· + ·)
      (congrArg₂ (· * ·) (congrArg (fun i => v56 (ix3 0 r i)) i0) (congrArg (fun i => v58 (ix2 0 i)) i0))
      (congrArg₂ (· * ·) rfl (congrArg (fun i => v63 (ix2 0 i)) i0)))
    (congrArg₂ (· * ·) (congrArg (fun i => v56 (ix3 0 r i)) i1) (congrArg (fun i => v69 (ix2 0 i)) i0))

end

variable (c : Dev nD) (i : grid0.Coords) (arg2 : Memref sig .tc .vmem S1x128x256 .f32) (harg2 : arg2.IsWhole) (arg3 : Memref sig .tc .vmem
  S1x128x128 .f32) (harg3 : arg3.IsWhole) (arg4 : Memref sig .tc .vmem S1x128x128 .f32) (harg4 : arg4.IsWhole) (arg5 : Memref sig .tc .vmem
  S1x256 .f32) (harg5 : arg5.IsWhole) (arg6 : Memref sig .tc .vmem S1x128 .f32) (harg6 : arg6.IsWhole) (arg7 : Memref sig .tc .vmem S256x384
  .bf16) (harg7 : arg7.IsWhole) (arg8 : Memref sig .tc .vmem S384x1024 .bf16) (harg8 : arg8.IsWhole) (arg9 : Memref sig .tc .vmem S1x128
  .f32) (harg9 : arg9.IsWhole) (arg10 : Memref sig .tc .vmem S1x128 .f32) (harg10 : arg10.IsWhole) (arg11 : Memref sig .tc .vmem S1x128
  .f32) (harg11 : arg11.IsWhole) (arg12 : Memref sig .tc .vmem S1x128 .f32) (harg12 : arg12.IsWhole) (arg13 : Memref sig .tc .vmem S1x128
  .f32) (harg13 : arg13.IsWhole) (arg14 : Memref sig .tc .vmem S1x128x1024 .bf16) (harg14 : arg14.IsWhole) (arg15 : Memref sig .tc .vmem
  S1x128x160 .f32) (harg15 : arg15.IsWhole) (x0 : Vec Ideal S1x128x256 .f32) (x1 : Vec Ideal S1x128x128 .f32) (x2 : Vec Ideal S1x128x128
  .f32) (x3 : Vec Ideal S1x256 .f32) (x4 : Vec Ideal S1x128 .f32) (x5 : Vec Ideal S256x384 .bf16) (x6 : Vec Ideal S384x1024 .bf16) (x7 : Vec
  Ideal S1x128 .f32) (x8 : Vec Ideal S1x128 .f32) (x9 : Vec Ideal S1x128 .f32) (x10 : Vec Ideal S1x128 .f32) (x11 : Vec Ideal S1x128 .f32)

/-- What the grid point leaves in its block of rows is the rows of its blocks and its tables. -/
theorem out_eq :
    out0_A_13 (F := Ideal) c i arg2 harg2 arg3 harg3 arg4 harg4 arg5 harg5 arg6 harg6 arg7 harg7 arg8 harg8 arg9 harg9 arg10 harg10 arg11 harg11 arg12 harg12
        arg13 harg13 arg14 harg14 arg15 harg15 x0 x1 x2 x3 x4 x5 x6 x7 x8 x9 x10 x11
      = rows x1 x4 x2 x9 x10 x11 := by
  have e1 : ∀ h, View.readAt (Elt Ideal) arg3.view (Rect.unit (s := S1x128x128) ![0, 0, 0] ![1, 128, 128] h).toLoadRect (harg3.unread x1) = x1 :=
    fun h => load_whole harg3 x1 h
  have e2 : ∀ h, View.readAt (Elt Ideal) arg4.view (Rect.unit (s := S1x128x128) ![0, 0, 0] ![1, 128, 128] h).toLoadRect (harg4.unread x2) = x2 :=
    fun h => load_whole harg4 x2 h
  have e4 : ∀ h, View.readAt (Elt Ideal) arg6.view (Rect.unit (s := S1x128) ![0, 0] ![1, 128] h).toLoadRect (harg6.unread x4) = x4 :=
    fun h => load_whole harg6 x4 h
  have e9 : ∀ h, View.readAt (Elt Ideal) arg11.view (Rect.unit (s := S1x128) ![0, 0] ![1, 128] h).toLoadRect (harg11.unread x9) = x9 :=
    fun h => load_whole harg11 x9 h
  have e10 : ∀ h, View.readAt (Elt Ideal) arg12.view (Rect.unit (s := S1x128) ![0, 0] ![1, 128] h).toLoadRect (harg12.unread x10) = x10 :=
    fun h => load_whole harg12 x10 h
  have e11 : ∀ h, View.readAt (Elt Ideal) arg13.view (Rect.unit (s := S1x128) ![0, 0] ![1, 128] h).toLoadRect (harg13.unread x11) = x11 :=
    fun h => load_whole harg13 x11 h
  unfold out0_A_13
  have e : (kernelRun0_A (F := Ideal) c i arg2 harg2 arg3 harg3 arg4 harg4 arg5 harg5 arg6 harg6 arg7 harg7 arg8 harg8 arg9 harg9 arg10 harg10 arg11 harg11 arg12 harg12
        arg13 harg13 arg14 harg14 arg15 harg15 x0 x1 x2 x3 x4 x5 x6 x7 x8 x9 x10 x11).2.1
      = [⟨Rect.unit (s := S1x128x160) ![0, 0, 0] S1x128x160.size inb_S1x128x160_S1x128x160_0_0_0, rows x1 x4 x2 x9 x10 x11⟩] := by
    unfold kernelRun0_A
    dsimp only
    sl_unfold_words
    rw [e1, e2, e4, e9, e10, e11]
    unfold rows
    rfl
  rw [e]
  funext y
  refine View.read_writes_cons_unit_of_mem VO0_13 _ _ _ _ _ y rfl fun b => ?_
  fin_cases b <;> simp

end Cert.Kernel10Ideal.Val
-- ==== Proof.SlTables.lean ====
/-
  The tables the host code makes for the one position the sampled sequences are rotated by, read at an index.
-/
module

public import proofs.«01_k».proof.Proof.LrTables
public import proofs.«01_k».proof.Proof.Gen.Kernel10Ideal
public import proofs.«01_k».proof.Proof.Gen.Kernel10Ideal.Frame
public import Idealize.ShloMosaic.Lib.Pointwise
public import Idealize.ShloMosaic.Lib.Pipeline.ValueKit.Geometry
public import Idealize.ShloMosaic.Lib.Pipeline.ValueKit.Point

@[expose] public section

set_option maxRecDepth 16384

noncomputable section

open Idealize.ShloMosaic Idealize.ShloMosaic.TcCoe Idealize.SL.Sem

namespace Cert.Kernel10Ideal.Val

open Cert.Kernel10Ideal Cert.Kernel10Ideal.Facts Cert.Kernel10Ideal.Gen Cert.Rows

variable (m : (ℓ : Loc nD τ sig) → Buf (Elt Ideal) ℓ)

/-- The angles. -/
def angles : FVec Ideal S1x16 .f32 :=
  mulf
    (broadcastInDim S1x16 ![0, 1] bcast_S1x1_S1x16_0_1
      (broadcastInDim S1x1 ![0] bcast_S1_S1x1_0 (sitofp .f32 (broadcastInDim S1 ![] bcast_S_S1 (constantI S_ 32 16384#32)))))
    (broadcastInDim S1x16 ![1] bcast_S16_S1x16_1
      (Host.powf (broadcastInDim S16 ![] bcast_S_S16 (constant S_ .f32 0x461C4000#32))
        (Host.divf (Host.negf (sitofp .f32 (iotaInDim S16 32 0)))
          (broadcastInDim S16 ![] bcast_S_S16 (constant S_ .f32 0x41800000#32)))))

/-- Sixteen lanes of zeros. -/
def none16 : FVec Ideal S1x16 .f32 := broadcastInDim S1x16 ![] bcast_S_S1x16 (constant S_ .f32 0x00000000#32)

/-- A table: sixteen lanes, sixteen more, and zeros. -/
def table (A B : FVec Ideal S1x16 .f32) : FVec Ideal S1x128 .f32 :=
  concatenate S1x128 1 [⟨S1x16, A⟩, ⟨S1x16, B⟩, ⟨S1x96, broadcastInDim S1x96 ![] bcast_S_S1x96 (constant S_ .f32 0x00000000#32)⟩]
    concatenates_S1x16_S1x16_S1x96_S1x128_d1

/-- The table a row itself is multiplied by. -/
def cosines : FVec Ideal S1x128 .f32 := table (Host.cos angles) (Host.cos angles)

/-- The kernel's first table is this. -/
theorem V_cosines (c : Dev nD) : V m c main_v26 = cosines := by
  simp only [V, hostOps0, List.flatten_cons, List.flatten_nil, List.append_nil,
    List.cons_append, List.nil_append, StableHlo.after_cons, StableHlo.after_nil]
  after_results_simp
  refine Cert.Kernel7Ideal.Val.concat3 concatenates_S1x16_S1x16_S1x96_S1x128_d1 ?_ ?_ ?_
  all_goals
    dsimp only [Matrix.cons_val_zero, Matrix.cons_val_one, Matrix.cons_val]
    after_results_simp
  all_goals rfl

/-- The table the row moved left by sixteen lanes is multiplied by. -/
def sinesA : FVec Ideal S1x128 .f32 := table (Host.negf (Host.sin angles)) none16

/-- The kernel's second table is this. -/
theorem V_sinesA (c : Dev nD) : V m c main_v28 = sinesA := by
  simp only [V, hostOps0, List.flatten_cons, List.flatten_nil, List.append_nil,
    List.cons_append, List.nil_append, StableHlo.after_cons, StableHlo.after_nil]
  after_results_simp
  refine Cert.Kernel7Ideal.Val.concat3 concatenates_S1x16_S1x16_S1x96_S1x128_d1 ?_ ?_ ?_
  all_goals
    dsimp only [Matrix.cons_val_zero, Matrix.cons_val_one, Matrix.cons_val]
    after_results_simp
  all_goals rfl

/-- The table the row moved right by sixteen lanes is multiplied by. -/
def sinesB : FVec Ideal S1x128 .f32 := table none16 (Host.sin angles)

/-- The kernel's third table is this. -/
theorem V_sinesB (c : Dev nD) : V m c main_v29 = sinesB := by
  simp only [V, hostOps0, List.flatten_cons, List.flatten_nil, List.append_nil,
    List.cons_append, List.nil_append, StableHlo.after_cons, StableHlo.after_nil]
  after_results_simp
  refine Cert.Kernel7Ideal.Val.concat3 concatenates_S1x16_S1x16_S1x96_S1x128_d1 ?_ ?_ ?_
  all_goals
    dsimp only [Matrix.cons_val_zero, Matrix.cons_val_one, Matrix.cons_val]
    after_results_simp
  all_goals rfl

/-- The gains as the host code hands them on. -/
theorem V_gains (c : Dev nD) : V m c main_v0 = shapeCast S1x128 (m ((c : Thread nD τ).loc main_arg1)) shapeCasts_S128_S1x128 := by
  simp only [V, hostOps0, List.flatten_cons, List.flatten_nil, List.append_nil,
    List.cons_append, List.nil_append, StableHlo.after_cons, StableHlo.after_nil]
  after_results_simp
  rfl

/-- The gains at an index. -/
theorem gains_apply (A : FVec Ideal S128 .f32) (j : Fin 128) : shapeCast S1x128 A shapeCasts_S128_S1x128 (ix2 0 j) = A (ix1 j) := by
  pointwise

/-- An angle. -/
theorem angles_apply (k : Fin 16) : angles (ix2 0 k) = angle 16384 k := by
  pointwise [angles]
  rfl

/-- A table's first sixteen lanes and its next sixteen. -/
theorem table_apply (A B : FVec Ideal S1x16 .f32) (k : Fin 16) :
    table A B (ix2 0 (⟨k.val, by omega⟩ : Fin 128)) = A (ix2 0 k) ∧ table A B (ix2 0 (⟨16 + k.val, by omega⟩ : Fin 128)) = B (ix2 0 k) := by
  constructor
  · pointwise [table]
  · pointwise [table]

/-- The first table at its used lanes. -/
theorem cosines_apply (k : Fin 16) :
    cosines (ix2 0 (⟨k.val, by omega⟩ : Fin 128)) = Ideal.cos (angle 16384 k)
      ∧ cosines (ix2 0 (⟨16 + k.val, by omega⟩ : Fin 128)) = Ideal.cos (angle 16384 k) := by
  unfold cosines
  rw [(table_apply _ _ k).1, (table_apply _ _ k).2, ← angles_apply]
  exact ⟨rfl, rfl⟩

/-- The second table at its used lanes. -/
theorem sinesA_apply (k : Fin 16) :
    sinesA (ix2 0 (⟨k.val, by omega⟩ : Fin 128)) = -Ideal.sin (angle 16384 k) ∧ sinesA (ix2 0 (⟨16 + k.val, by omega⟩ : Fin 128)) = 0 := by
  unfold sinesA
  rw [(table_apply _ _ k).1, (table_apply _ _ k).2, ← angles_apply]
  exact ⟨rfl, by pointwise [none16]⟩

/-- The third table at its used lanes. -/
theorem sinesB_apply (k : Fin 16) :
    sinesB (ix2 0 (⟨k.val, by omega⟩ : Fin 128)) = 0 ∧ sinesB (ix2 0 (⟨16 + k.val, by omega⟩ : Fin 128)) = Ideal.sin (angle 16384 k) := by
  unfold sinesB
  rw [(table_apply _ _ k).1, (table_apply _ _ k).2, ← angles_apply]
  exact ⟨by pointwise [none16], rfl⟩

end Cert.Kernel10Ideal.Val
-- ==== Proof.SlArray.lean ====
/-
  The sampled sequences' latent keys: the kernel's output array, read at an index.
-/
module

public import proofs.«01_k».proof.Proof.SlOut
public import proofs.«01_k».proof.Proof.SlTables
public import proofs.«01_k».proof.Proof.Gen.Kernel10Ideal.Value
public import Idealize.ShloMosaic.Lib.Pipeline.ValueKit.Acc

@[expose] public section

set_option maxRecDepth 16384

noncomputable section

open Idealize.ShloMosaic Idealize.ShloMosaic.TcCoe Idealize.SL.Sem
open Idealize.ShloMosaic.Pipeline (Dat)

namespace Cert.Kernel10Ideal.Val

open Cert.Kernel10Ideal Cert.Kernel10Ideal.Facts Cert.Kernel10Ideal.Gen Cert.Rows

variable (m : (ℓ : Loc nD τ sig) → Buf (Elt Ideal) ℓ)

/-- The windows' block indices at a grid point: the latent entries, the entries to rotate, the gains, the three tables, the rows. -/
theorem idx (t : Fin cfg0.N) :
    win0_1.index t = ![0, 0, 25] ∧ win0_2.index t = ![0, 0, 26] ∧ win0_4.index t = ![0, 0]
      ∧ win0_9.index t = ![0, 0] ∧ win0_10.index t = ![0, 0] ∧ win0_11.index t = ![0, 0]
      ∧ win0_13.index t = ![0, 0, 0] := by
  revert t
  decide +kernel

/-- The latent keys, on whole arrays. -/
def keyArr (A0 : Vec Ideal S1x128x3456 .f32) (A1 : Vec Ideal S128 .f32) : Vec Ideal S1x128x160 .f32 :=
  fun y => entry (fun j => A0 (ix3 (y 0) (y 1) (⟨3200 + j.val, by omega⟩ : Fin 3456))) (fun j => A1 (ix1 j))
    (fun k => A0 (ix3 (y 0) (y 1) (⟨3328 + k.val, by omega⟩ : Fin 3456))) (fun k => A0 (ix3 (y 0) (y 1) (⟨3344 + k.val, by omega⟩ : Fin 3456)))
    16384 (y 2)

/-- A grid point's latent entries in the projection. -/
theorem iblk1 (c : Dev nD) (t : Fin cfg0.N) (r : Fin 128) (j : Fin 128) :
    iblk m c 1 t (ix3 0 r j) = m ((c : Thread nD τ).loc main_arg0)
      (ix3 0 r (⟨3200 + j.val, by omega⟩ : Fin 3456)) := by
  have e := (idx t).1
  rw [← V_main_arg0 m c]
  blk_ext [iblk, e]

/-- A grid point's entries to rotate in the projection, the pairs' first ones. -/
theorem iblk2_first (c : Dev nD) (t : Fin cfg0.N) (r : Fin 128) (k : Fin 16) :
    iblk m c 2 t (ix3 0 r (⟨k.val, by omega⟩ : Fin 128)) = m ((c : Thread nD τ).loc main_arg0)
      (ix3 0 r (⟨3328 + k.val, by omega⟩ : Fin 3456)) := by
  have e := (idx t).2.1
  rw [← V_main_arg0 m c]
  blk_ext [iblk, e]

/-- A grid point's entries to rotate in the projection, the pairs' second ones. -/
theorem iblk2_second (c : Dev nD) (t : Fin cfg0.N) (r : Fin 128) (k : Fin 16) :
    iblk m c 2 t (ix3 0 r (⟨16 + k.val, by omega⟩ : Fin 128)) = m ((c : Thread nD τ).loc main_arg0)
      (ix3 0 r (⟨3344 + k.val, by omega⟩ : Fin 3456)) := by
  have e := (idx t).2.1
  rw [← V_main_arg0 m c]
  blk_ext [iblk, e]

/-- The gains. -/
theorem iblk4 (c : Dev nD) (t : Fin cfg0.N) (j : Fin 128) :
    iblk m c 4 t (ix2 0 j) = m ((c : Thread nD τ).loc main_arg1) (ix1 j) := by
  have e := (idx t).2.2.1
  rw [← gains_apply (m ((c : Thread nD τ).loc main_arg1)), ← V_gains]
  blk_ext [iblk, e]

/-- The first table. -/
theorem iblk9 (c : Dev nD) (t : Fin cfg0.N) (l : Fin 128) :
    iblk m c 9 t (ix2 0 l) = cosines (ix2 0 l) := by
  have e := (idx t).2.2.2.1
  rw [← V_cosines m c]
  blk_ext [iblk, e]

/-- The second table. -/
theorem iblk10 (c : Dev nD) (t : Fin cfg0.N) (l : Fin 128) :
    iblk m c 10 t (ix2 0 l) = sinesA (ix2 0 l) := by
  have e := (idx t).2.2.2.2.1
  rw [← V_sinesA m c]
  blk_ext [iblk, e]

/-- The third table. -/
theorem iblk11 (c : Dev nD) (t : Fin cfg0.N) (l : Fin 128) :
    iblk m c 11 t (ix2 0 l) = sinesB (ix2 0 l) := by
  have e := (idx t).2.2.2.2.2.1
  rw [← V_sinesB m c]
  blk_ext [iblk, e]

/-- The kernel's rows are the latent keys. -/
theorem final (c : Dev nD) :
    (dats m 0 c).arrAt 13 cfg0.N = keyArr (m ((c : Thread nD τ).loc main_arg0)) (m ((c : Thread nD τ).loc main_arg1)) := by
  refine (dats m 0 c).arrAt_eq_of_covers 13 _ (by decide +kernel) fun t hf y => ?_
  blk_simp
  rw [after0_13]
  unfold outsAt0
  dsimp only
  rw [out_eq]
  obtain ⟨r, l, rfl⟩ : ∃ (r : Fin 128) (l : Fin 160), y = (ix3 0 r l : S1x128x160.Idx) :=
    ⟨y 1, y 2, (eq_ix3 y).trans (congrArg (fun a => ix3 a (y 1) (y 2)) (Subsingleton.elim (α := Fin 1) _ _))⟩
  have e := (idx t).2.2.2.2.2.2
  have hy : (win0_13.blk t).view.emb (ix3 0 r l : S1x128x160.Idx)
      = (ix3 0 r l : S1x128x160.Idx) := by
    blk_ext [e]
  rw [hy]
  refine places (fun l => rows (iblk m c 1 t) (iblk m c 4 t) (iblk m c 2 t) (iblk m c 9 t) (iblk m c 10 t) (iblk m c 11 t) (ix3 0 r l)
    = keyArr (m ((c : Thread nD τ).loc main_arg0)) (m ((c : Thread nD τ).loc main_arg1))
      (ix3 0 r l)) (fun j => ?_) (fun k => ?_) (fun k => ?_) l
  · refine Eq.trans ?_ (entry_latent _ _ _ _ _ j).symm
    rw [rows_latent, iblk4]
    simp only [iblk1 m c t]
    rfl
  · refine Eq.trans ?_ (entry_first _ _ _ _ _ k).symm
    obtain ⟨z, ez⟩ := rows_first (iblk m c 1 t) (iblk m c 4 t) (iblk m c 2 t) (iblk m c 9 t) (iblk m c 10 t) (iblk m c 11 t) r k
    rw [ez, iblk2_first m c t, iblk2_second m c t, iblk9, iblk10, iblk11,
      (cosines_apply k).1, (sinesA_apply k).1, (sinesB_apply k).1, first_eq]
    rfl
  · refine Eq.trans ?_ (entry_second _ _ _ _ _ k).symm
    obtain ⟨z, ez⟩ := rows_second (iblk m c 1 t) (iblk m c 4 t) (iblk m c 2 t) (iblk m c 9 t) (iblk m c 10 t) (iblk m c 11 t) r k
    rw [ez, iblk2_first m c t, iblk2_second m c t, iblk9, iblk10, iblk11,
      (cosines_apply k).2, (sinesA_apply k).2, (sinesB_apply k).2, second_eq]
    rfl

end Cert.Kernel10Ideal.Val
-- ==== Proof.SlRef.lean ====
/-
  The sampled sequences' latent keys: the reference's steps, read at an index.
-/
module

public import proofs.«01_k».proof.Proof.SlArray
public import proofs.«01_k».proof.Proof.Gen.Reference10Ideal
public import proofs.«01_k».proof.Proof.Gen.Reference10Ideal.Run
public import Idealize.ShloMosaic.Lib.Pointwise

@[expose] public section

set_option maxRecDepth 16384

noncomputable section

open Idealize.ShloMosaic Idealize.ShloMosaic.TcCoe Idealize.SL.Sem

namespace Cert.Reference10Ideal.Val

open Cert.Reference10Ideal Cert.Reference10Ideal.Facts Cert.Reference10Ideal.Gen Cert.Rows Cert.Kernel10Ideal.Val

variable (A0 : FVec Ideal S1x128x3456 .f32) (A1 : FVec Ideal S128 .f32)

/-- The projection's latent columns. -/
def cols : FVec Ideal S1x128x128 .f32 := extractStridedSlice S1x128x128 ![0, 0, 3200] A0 slices_S1x128x3456_S1x128x128_0_0_3200

/-- The latent columns over their root mean squares, times their gains. -/
def normed (X : FVec Ideal S1x128x128 .f32) : FVec Ideal S1x128x128 .f32 :=
  mulf (mulf X (broadcastInDim S1x128x128 ![0, 1, 2] bcast_S1x128x1_S1x128x128_0_1_2
      (Host.rsqrt (addf (Host.divf (broadcastInDim S1x128x1 ![0, 1] bcast_S1x128_S1x128x1_0_1
          (Host.reduceAdd (mulf X X) (constant S_ .f32 0x00000000#32) reducesTo_S1x128x128_S1x128_d2 h_S_))
          (broadcastInDim S1x128x1 ![] bcast_S_S1x128x1 (constant S_ .f32 0x43000000#32)))
        (broadcastInDim S1x128x1 ![] bcast_S_S1x128x1 (constant S_ .f32 0x358637BD#32))))))
    (broadcastInDim S1x128x128 ![0, 1, 2] bcast_S1x1x128_S1x128x128_0_1_2 (broadcastInDim S1x1x128 ![2] bcast_S128_S1x1x128_2 A1))

/-- The angles. -/
def turns : FVec Ideal S1x16 .f32 :=
  mulf
    (broadcastInDim S1x16 ![0, 1] bcast_S1x1_S1x16_0_1
      (broadcastInDim S1x1 ![0] bcast_S1_S1x1_0
        (sitofp .f32 (addi (broadcastInDim S1 ![] bcast_S_S1 (constantI S_ 32 16384#32)) (iotaInDim S1 32 0)))))
    (broadcastInDim S1x16 ![1] bcast_S16_S1x16_1
      (Host.powf (broadcastInDim S16 ![] bcast_S_S16 (constant S_ .f32 0x461C4000#32))
        (Host.divf (Host.negf (sitofp .f32 (iotaInDim S16 32 0)))
          (broadcastInDim S16 ![] bcast_S_S16 (constant S_ .f32 0x41800000#32)))))

/-- A factor of every sequence. -/
def every (T : FVec Ideal S1x16 .f32) : FVec Ideal S1x128x16 .f32 :=
  broadcastInDim S1x128x16 ![0, 1, 2] bcast_S1x1x16_S1x128x16_0_1_2 (broadcastInDim S1x1x16 ![1, 2] bcast_S1x16_S1x1x16_1_2 T)

/-- The columns to rotate. -/
def pairs : FVec Ideal S1x128x32 .f32 := extractStridedSlice S1x128x32 ![0, 0, 3328] A0 slices_S1x128x3456_S1x128x32_0_0_3328

/-- The pairs' first entries. -/
def half0 (X : FVec Ideal S1x128x32 .f32) : FVec Ideal S1x128x16 .f32 := extractStridedSlice S1x128x16 ![0, 0, 0] X slices_S1x128x32_S1x128x16_0_0_0

/-- The pairs' second entries. -/
def half1 (X : FVec Ideal S1x128x32 .f32) : FVec Ideal S1x128x16 .f32 := extractStridedSlice S1x128x16 ![0, 0, 16] X slices_S1x128x32_S1x128x16_0_0_16

/-- The normalised latent columns beside the rotated ones. -/
def keys (N : FVec Ideal S1x128x128 .f32) (a b c s : FVec Ideal S1x128x16 .f32) : FVec Ideal S1x128x160 .f32 :=
  concatenate S1x128x160 2 [⟨S1x128x128, N⟩, ⟨S1x128x32, concatenate S1x128x32 2 [⟨S1x128x16, subf (mulf a c) (mulf b s)⟩,
    ⟨S1x128x16, addf (mulf b c) (mulf a s)⟩] concatenates_S1x128x16_S1x128x16_S1x128x32_d2⟩] concatenates_S1x128x128_S1x128x32_S1x128x160_d2

/-- The reference's result is these steps in a row. -/
theorem steps_eq (m : (ℓ : Loc nD τ sig) → Buf (Elt Ideal) ℓ) (c : Dev nD) :
    Value.res_main_v48 m c = keys (normed (m ((c.tc : Thread nD τ).loc main_arg1)) (cols (m ((c.tc : Thread nD τ).loc main_arg0))))
      (half0 (pairs (m ((c.tc : Thread nD τ).loc main_arg0)))) (half1 (pairs (m ((c.tc : Thread nD τ).loc main_arg0))))
      (every (Host.cos turns)) (every (Host.sin turns)) := by
  unfold Value.res_main_v48
  rfl

/-- A normalised latent column. -/
theorem normed_apply (X : FVec Ideal S1x128x128 .f32) (s : Fin 128) (j : Fin 128) :
    normed A1 X (ix3 0 s j) = norm (fun i => X (ix3 0 s i)) (A1 (ix1 j)) j := by
  pointwise [normed]
  rfl

/-- A latent column of the projection. -/
theorem cols_apply (s : Fin 128) (j : Fin 128) : cols A0 (ix3 0 s j) = A0 (ix3 0 s (⟨3200 + j.val, by omega⟩ : Fin 3456)) := by
  pointwise [cols]

/-- A pair in the projection. -/
theorem pairs_apply (s : Fin 128) (k : Fin 16) :
    half0 (pairs A0) (ix3 0 s k) = A0 (ix3 0 s (⟨3328 + k.val, by omega⟩ : Fin 3456))
      ∧ half1 (pairs A0) (ix3 0 s k) = A0 (ix3 0 s (⟨3344 + k.val, by omega⟩ : Fin 3456)) := by
  constructor
  · pointwise [half0, pairs]
  · pointwise [half1, pairs]
    exact congrArg (fun l => A0 (ix3 0 s l)) (Fin.ext (by simp only; omega))

/-- The angles' cosines and sines for a sequence. -/
theorem every_apply (s : Fin 128) (k : Fin 16) :
    every (Host.cos turns) (ix3 0 s k) = Ideal.cos (angle 16384 k) ∧ every (Host.sin turns) (ix3 0 s k) = Ideal.sin (angle 16384 k) := by
  constructor
  · pointwise [every, turns]
    rfl
  · pointwise [every, turns]
    rfl

/-- The reference's row, place by place. -/
theorem keys_apply (N : FVec Ideal S1x128x128 .f32) (a b c s : FVec Ideal S1x128x16 .f32) (r : Fin 128) :
    (∀ j : Fin 128, keys N a b c s (ix3 0 r (⟨j.val, by omega⟩ : Fin 160)) = N (ix3 0 r j))
      ∧ (∀ k : Fin 16, keys N a b c s (ix3 0 r (⟨128 + k.val, by omega⟩ : Fin 160))
        = a (ix3 0 r k) * c (ix3 0 r k) - b (ix3 0 r k) * s (ix3 0 r k))
      ∧ ∀ k : Fin 16, keys N a b c s (ix3 0 r (⟨144 + k.val, by omega⟩ : Fin 160))
        = b (ix3 0 r k) * c (ix3 0 r k) + a (ix3 0 r k) * s (ix3 0 r k) := by
  refine ⟨fun j => ?_, fun k => ?_, fun k => ?_⟩
  · pointwise [keys]
  · pointwise [keys]
  · pointwise [keys]
    rw [dif_neg (by omega), dif_neg (by omega)]
    exact congrArg (fun l => b (ix3 0 r l) * c (ix3 0 r l) + a (ix3 0 r l) * s (ix3 0 r l)) (Fin.ext (by simp only; omega))

/-- The reference's result is the latent keys. -/
theorem res (m : (ℓ : Loc nD τ sig) → Buf (Elt Ideal) ℓ) (c : Dev nD) :
    Value.res_main_v48 m c = keyArr (m ((c.tc : Thread nD τ).loc main_arg0)) (m ((c.tc : Thread nD τ).loc main_arg1)) := by
  rw [steps_eq]
  generalize m ((c.tc : Thread nD τ).loc main_arg0) = A0
  generalize m ((c.tc : Thread nD τ).loc main_arg1) = A1
  funext y
  obtain ⟨s, l, rfl⟩ : ∃ (s : Fin 128) (l : Fin 160), y = (ix3 0 s l : S1x128x160.Idx) :=
    ⟨y 1, y 2, (eq_ix3 y).trans (congrArg (fun a => ix3 a (y 1) (y 2)) (Subsingleton.elim (α := Fin 1) _ _))⟩
  refine places (fun l => keys (normed A1 (cols A0)) (half0 (pairs A0)) (half1 (pairs A0)) (every (Host.cos turns)) (every (Host.sin turns)) (ix3 0 s l)
    = keyArr A0 A1 (ix3 0 s l)) (fun j => ?_) (fun k => ?_) (fun k => ?_) l
  · refine Eq.trans ?_ (entry_latent _ _ _ _ _ j).symm
    rw [(keys_apply _ _ _ _ _ s).1, normed_apply]
    simp only [cols_apply]
    rfl
  · refine Eq.trans ?_ (entry_first _ _ _ _ _ k).symm
    rw [(keys_apply _ _ _ _ _ s).2.1, (pairs_apply A0 s k).1, (pairs_apply A0 s k).2, (every_apply s k).1, (every_apply s k).2]
    rfl
  · refine Eq.trans ?_ (entry_second _ _ _ _ _ k).symm
    rw [(keys_apply _ _ _ _ _ s).2.2, (pairs_apply A0 s k).1, (pairs_apply A0 s k).2, (every_apply s k).1, (every_apply s k).2]
    rfl

end Cert.Reference10Ideal.Val
-- ==== Proof.SgRow.lean ====
/-
  The decode forget gates' offsets: a row of 128 lanes with the offsets at its lanes 44 to 47 and noughts elsewhere.
-/
module

public import proofs.«01_k».proof.Proof.LgRow
public import proofs.«01_k».proof.Proof.Gen.Kernel11Ideal
public import proofs.«01_k».proof.Proof.Gen.Kernel11Ideal.Frame

@[expose] public section

set_option maxRecDepth 16384

noncomputable section

open Idealize.ShloMosaic Idealize.ShloMosaic.TcCoe Idealize.SL.Sem

namespace Cert.Gate

/-- An offset at its lane, nought at any other. -/
def offset (o : Fin 4 → EReal) (l : Fin 128) : EReal := if h : 44 ≤ l.val ∧ l.val < 48 then o ⟨l.val - 44, by omega⟩ else 0

/-- A lane that holds an offset. -/
theorem offset_in (o : Fin 4 → EReal) (h : Fin 4) : offset o ⟨44 + h.val, by omega⟩ = o h := by
  unfold offset
  rw [dif_pos (by simp only; omega)]
  exact congrArg o (Fin.ext (by simp only; omega))

/-- A lane that holds none. -/
theorem offset_out (o : Fin 4 → EReal) (l : Fin 128) (h : ¬(44 ≤ l.val ∧ l.val < 48)) : offset o l = 0 := dif_neg h

/-- Every lane is one before the offsets, one of theirs or one after them. -/
theorem lanes (P : Fin 128 → Prop) (h0 : ∀ k : Fin 44, P ⟨k.val, by omega⟩) (h1 : ∀ k : Fin 4, P ⟨44 + k.val, by omega⟩)
    (h2 : ∀ k : Fin 80, P ⟨48 + k.val, by omega⟩) (l : Fin 128) : P l := by
  by_cases a : l.val < 44
  · exact h0 ⟨l.val, a⟩
  · by_cases b : l.val < 48
    · have := h1 ⟨l.val - 44, by omega⟩
      rwa [show (⟨44 + (l.val - 44), by omega⟩ : Fin 128) = l from Fin.ext (by simp only; omega)] at this
    · have := h2 ⟨l.val - 48, by omega⟩
      rwa [show (⟨48 + (l.val - 48), by omega⟩ : Fin 128) = l from Fin.ext (by simp only; omega)] at this

end Cert.Gate

namespace Cert.Kernel11Ideal.Val

open Cert.Kernel11Ideal Cert.Kernel11Ideal.Facts Cert.Kernel11Ideal.Gen Cert.Merge Cert.Gate Cert.Kernel6Ideal.Val

/-- The decode kernel's row of offsets is the prompt kernel's. -/
theorem V_row (m : (ℓ : Loc nD τ sig) → Buf (Elt Ideal) ℓ) (c : Dev nD) :
    V m c main_v7 = rowArr (m ((c : Thread nD τ).loc main_arg1)) := by
  simp only [V, hostOps0, List.flatten_cons, List.flatten_nil, List.append_nil,
    List.cons_append, List.nil_append, StableHlo.after_cons, StableHlo.after_nil]
  after_results_simp
  unfold rowArr place
  rfl

/-- The row of offsets at any lane. -/
theorem row_apply (A1 : FVec Ideal Cert.Kernel6Ideal.S4 .f32) (l : Fin 128) : rowArr A1 (ix2 0 l) = offset (fun h => A1 (ix1 h)) l := by
  by_cases h : 44 ≤ l.val ∧ l.val < 48
  · have e := rowArr_apply A1 ⟨l.val - 44, by omega⟩
    rw [show (⟨44 + (l.val - 44), by omega⟩ : Fin 128) = l from Fin.ext (by simp only; omega)] at e
    rw [e, offset, dif_pos h]
  · rw [offset_out _ l h]
    refine scatter_at _ _ _ _ _ _ ?_ (Or.inl (by pointwise))
    intro y e
    obtain ⟨k, rfl⟩ : ∃ k : Fin 4, y = (ix1 k : Cert.Kernel6Ideal.S4.Idx) := ⟨y 0, eq_ix1 y⟩
    rw [lands k, Option.some.injEq] at e
    have e1 : 44 + k.val = l.val := congrArg Fin.val (congrFun e 1)
    exact absurd (by omega) h

/-- The columns of the gates, a row for every sample. -/
def colsArr (A0 : FVec Ideal S1x128x3456 .f32) : FVec Ideal S128x1x128 .f32 :=
  broadcastInDim S128x1x128 ![0, 2] bcast_S128x128_S128x1x128_0_2
    (extractStridedSlice S128x128 ![0, 3328] (shapeCast S128x3456 A0 shapeCasts_S1x128x3456_S128x3456) slices_S128x3456_S128x128_0_3328)

/-- The kernel's columns are these. -/
theorem V_cols (m : (ℓ : Loc nD τ sig) → Buf (Elt Ideal) ℓ) (c : Dev nD) :
    V m c main_v2 = colsArr (m ((c : Thread nD τ).loc main_arg0)) := by
  simp only [V, hostOps0, List.flatten_cons, List.flatten_nil, List.append_nil,
    List.cons_append, List.nil_append, StableHlo.after_cons, StableHlo.after_nil]
  after_results_simp
  rfl

/-- A column of a sample. -/
theorem cols_apply (A0 : FVec Ideal S1x128x3456 .f32) (b l : Fin 128) :
    colsArr A0 (ix3 b 0 l) = A0 (ix3 0 b (⟨3328 + l.val, by omega⟩ : Fin 3456)) := by
  pointwise [colsArr]

end Cert.Kernel11Ideal.Val
-- ==== Proof.SgArray.lean ====
/-
  The decode forget gates: what a grid point leaves, and the array of all of them.
-/
module

public import proofs.«01_k».proof.Proof.LgSpec
public import proofs.«01_k».proof.Proof.SgRow
public import proofs.«01_k».proof.Proof.Gen.Kernel11Ideal.Value
public import Idealize.ShloMosaic.Lib.Pipeline.ValueKit.Acc

@[expose] public section

set_option maxRecDepth 16384

noncomputable section

open Idealize.ShloMosaic Idealize.ShloMosaic.TcCoe Idealize.SL.Sem
open Idealize.ShloMosaic.Pipeline (Dat)

namespace Cert.Kernel11Ideal.Val

open Cert.Kernel11Ideal Cert.Kernel11Ideal.Facts Cert.Kernel11Ideal.Gen Cert.Gate Cert.Kernel6Ideal.Val

/-- The gates' payload at an index. -/
theorem pay_apply (v0 : Vec Ideal S1x1x128 .f32) (v2 : Vec Ideal S1x128 .f32) (l : Fin 128) :
    k0_pay4 v0 v2 (ix3 0 0 l) = decay (v0 (ix3 0 0 l) + v2 (ix2 0 l)) := by
  pointwise [k0_pay4, k0_pay3]
  simp only [zero_sub]
  rfl

/-- What a grid point leaves in the gates' block is the gates' payload of its columns and its offsets. -/
theorem out_eq (x0 : Vec Ideal S1x4x128x128 .f32) (x1 : Vec Ideal S1x1x128 .f32) (x2 : Vec Ideal S1x128 .f32) (x3 x4 : Vec Ideal S128x128 .f32) :
    out0_6 x0 x1 x2 x3 x4 = k0_pay4 x1 x2 := by
  unfold out0_6
  frame_out

variable (m : (ℓ : Loc nD τ sig) → Buf (Elt Ideal) ℓ)

/-- The windows' block indices at a grid point: the gates' columns, the offsets, the gates. -/
theorem idx (t : Fin cfg0.N) :
    win0_1.index t = ![t.val, 0, 0] ∧ win0_2.index t = ![0, 0] ∧ win0_6.index t = ![t.val, 0, 0] := by
  revert t
  decide +kernel

/-- The logarithms of the logistic function of every sample's last 128 columns and their offsets. -/
def gateRows (A0 : Vec Ideal S1x128x3456 .f32) (A1 : Vec Ideal S4 .f32) : Vec Ideal S128x1x128 .f32 :=
  fun y => decay (A0 (ix3 0 (y 0) (⟨3328 + (y 2).val, by have := (y 2).isLt; change (y 2).val < 128 at this; omega⟩ : Fin 3456))
    + offset (fun h => A1 (ix1 h)) (y 2))

/-- A grid point's column. -/
theorem iblk1 (c : Dev nD) (t : Fin cfg0.N) (b : Fin 128) (hb : b.val = t.val) (l : Fin 128) :
    iblk m c 1 t (ix3 0 0 l) = m ((c : Thread nD τ).loc main_arg0) (ix3 0 b (⟨3328 + l.val, by omega⟩ : Fin 3456)) := by
  have e := (idx t).1
  rw [← cols_apply (m ((c : Thread nD τ).loc main_arg0)), ← V_cols]
  blk_ext [iblk, e]

/-- A grid point's offset. -/
theorem iblk2 (c : Dev nD) (t : Fin cfg0.N) (l : Fin 128) :
    iblk m c 2 t (ix2 0 l) = offset (fun h => m ((c : Thread nD τ).loc main_arg1) (ix1 h)) l := by
  have e := (idx t).2.1
  refine Eq.trans ?_ (row_apply (m ((c : Thread nD τ).loc main_arg1)) l)
  rw [← V_row]
  blk_ext [iblk, e]

/-- The kernel's gates are the logarithms of the logistic function. -/
theorem final (c : Dev nD) :
    (dats m 0 c).arrAt 6 cfg0.N = gateRows (m ((c : Thread nD τ).loc main_arg0)) (m ((c : Thread nD τ).loc main_arg1)) := by
  refine (dats m 0 c).arrAt_eq_of_covers 6 _ (by decide +kernel) fun t hf y => ?_
  blk_simp
  rw [after0_6, out_eq]
  have ht : t.val < 128 := lt_of_lt_of_eq t.isLt N_0
  obtain ⟨l, rfl⟩ : ∃ (l : Fin 128), y = (ix3 0 0 l : S1x1x128.Idx) :=
    ⟨y 2, (eq_ix3 y).trans (congrArg₂ (fun a b => ix3 a b (y 2)) (Subsingleton.elim (α := Fin 1) _ _) (Subsingleton.elim (α := Fin 1) _ _))⟩
  have e := (idx t).2.2
  have hy : (win0_6.blk t).view.emb (ix3 0 0 l : S1x1x128.Idx) = (ix3 (⟨t.val, ht⟩ : Fin 128) 0 l : S128x1x128.Idx) := by
    blk_ext [e]
  rw [hy, pay_apply, iblk1 m c t ⟨t.val, ht⟩ rfl, iblk2]
  rfl

end Cert.Kernel11Ideal.Val
-- ==== Proof.SgRef.lean ====
/-
  The decode forget gates' reference, read at an index.
-/
module

public import proofs.«01_k».proof.Proof.SgArray
public import proofs.«01_k».proof.Proof.Gen.Reference11Ideal
public import proofs.«01_k».proof.Proof.Gen.Reference11Ideal.Run
public import Idealize.ShloMosaic.Lib.Pointwise

@[expose] public section

set_option maxRecDepth 16384

noncomputable section

open Idealize.ShloMosaic Idealize.ShloMosaic.TcCoe Idealize.SL.Sem

namespace Cert.Reference11Ideal.Val

open Cert.Reference11Ideal Cert.Reference11Ideal.Facts Cert.Reference11Ideal.Gen Cert.Gate Cert.Kernel11Ideal.Val

/-- The reference's row of offsets. -/
def offsets (A1 : FVec Ideal S4 .f32) : FVec Ideal S128 .f32 :=
  concatenate S128 0 [⟨S44, broadcastInDim S44 ![] bcast_S_S44 (constant S_ .f32 0x00000000#32)⟩, ⟨S4, A1⟩,
    ⟨S80, broadcastInDim S80 ![] bcast_S_S80 (constant S_ .f32 0x00000000#32)⟩] concatenates_S44_S4_S80_S128_d0

/-- The gates before their logarithms. -/
def pre (A0 : FVec Ideal S1x128x3456 .f32) (B : FVec Ideal S128 .f32) : FVec Ideal S128x1x128 .f32 :=
  addf (broadcastInDim S128x1x128 ![0, 2] bcast_S128x128_S128x1x128_0_2 (shapeCast S128x128 (extractStridedSlice S1x128x128 ![0, 0, 3328] A0
      slices_S1x128x3456_S1x128x128_0_0_3328) shapeCasts_S1x128x128_S128x128))
    (broadcastInDim S128x1x128 ![0, 1, 2] bcast_S1x1x128_S128x1x128_0_1_2 (broadcastInDim S1x1x128 ![2] bcast_S128_S1x1x128_2 B))

/-- Noughts. -/
def noughts : FVec Ideal S128x1x128 .f32 := broadcastInDim S128x1x128 ![] bcast_S_S128x1x128 (constant S_ .f32 0x00000000#32)

/-- The logarithms of the logistic function. -/
def logs (P : FVec Ideal S128x1x128 .f32) : FVec Ideal S128x1x128 .f32 :=
  Host.negf (select (cmpf .une (subf (Host.negf P) noughts) (subf (Host.negf P) noughts)) (addf (Host.negf P) noughts)
    (addf (maximumf (Host.negf P) noughts) (Host.log1p (Host.exp (Host.negf (Host.absf (subf (Host.negf P) noughts)))))))

/-- The reference's result is these steps in a row. -/
theorem steps_eq (m : (ℓ : Loc nD τ sig) → Buf (Elt Ideal) ℓ) (c : Dev nD) :
    Value.res_main_v9 m c = logs (pre (m ((c.tc : Thread nD τ).loc main_arg0)) (offsets (m ((c.tc : Thread nD τ).loc main_arg1)))) := by
  unfold Value.res_main_v9
  rfl

/-- The row of offsets at any lane. -/
theorem offsets_apply (A1 : FVec Ideal S4 .f32) (l : Fin 128) : offsets A1 (ix1 l) = offset (fun h => A1 (ix1 h)) l := by
  refine lanes (fun l => offsets A1 (ix1 l) = offset (fun h => A1 (ix1 h)) l) (fun k => ?_) (fun k => ?_) (fun k => ?_) l
  · rw [offset_out _ _ (by simp only; omega)]
    pointwise [offsets]
  · rw [offset_in]
    pointwise [offsets]
  · rw [offset_out _ _ (by simp only; omega)]
    pointwise [offsets]
    rw [dif_neg (by omega), dif_neg (by omega)]

/-- A gate before its logarithm. -/
theorem pre_apply (A0 : FVec Ideal S1x128x3456 .f32) (B : FVec Ideal S128 .f32) (b l : Fin 128) :
    pre A0 B (ix3 b 0 l) = A0 (ix3 0 b (⟨3328 + l.val, by omega⟩ : Fin 3456)) + B (ix1 l) := by
  pointwise [pre]

/-- A gate's logarithm. -/
theorem logs_apply (P : FVec Ideal S128x1x128 .f32) (b l : Fin 128) : logs P (ix3 b 0 l) = decay (P (ix3 b 0 l)) := by
  pointwise [logs, noughts]
  simp only [ne_eq, not_true_eq_false, if_false, abs_neg]
  rfl

/-- The reference's result is the logarithms of the logistic function. -/
theorem res (m : (ℓ : Loc nD τ sig) → Buf (Elt Ideal) ℓ) (c : Dev nD) :
    Value.res_main_v9 m c = gateRows (m ((c.tc : Thread nD τ).loc main_arg0)) (m ((c.tc : Thread nD τ).loc main_arg1)) := by
  rw [steps_eq]
  funext y
  obtain ⟨b, l, rfl⟩ : ∃ (b l : Fin 128), y = (ix3 b 0 l : S128x1x128.Idx) :=
    ⟨y 0, y 2, (eq_ix3 y).trans (congrArg (fun a => ix3 (y 0) a (y 2)) (Subsingleton.elim (α := Fin 1) _ _))⟩
  rw [logs_apply, pre_apply, offsets_apply]
  rfl

end Cert.Reference11Ideal.Val
-- ==== Proof.lean ====
/-
  The certificate: the latent attention's kernel, the feed-forward kernel, the forgetting attention's kernel, the input
  projection's kernel, the merge's kernel, the kernels that prepare the forgetting and the latent attention, the four of these kernels
  that run again on the sampled sequences' new rows, and their references run and leave their arguments unchanged; each ideal attention kernel is the kernel with its mask constant read as minus infinity, and on
  finite queries and keys it computes its reference; the other ideal kernels compute their references on any arguments.
-/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Ref
public import proofs.«01_k».proof.Proof.FfnRef
public import proofs.«01_k».proof.Proof.FoxRef
public import proofs.«01_k».proof.Proof.InRef
public import proofs.«01_k».proof.Proof.MgRef
public import proofs.«01_k».proof.Proof.LgRef
public import proofs.«01_k».proof.Proof.LrRef
public import proofs.«01_k».proof.Proof.SfRef
public import proofs.«01_k».proof.Proof.SiRef
public import proofs.«01_k».proof.Proof.SlRef
public import proofs.«01_k».proof.Proof.SgRef
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Kernel10
public import proofs.«01_k».proof.Proof.Gen.Kernel10.Frame
public import proofs.«01_k».proof.Proof.Gen.Kernel10Ideal
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Kernel11
public import proofs.«01_k».proof.Proof.Gen.Kernel11.Frame
public import proofs.«01_k».proof.Proof.Gen.Kernel11Ideal
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import Idealize.ShloMosaic.Lib.Quiescent
public import Idealize.ShloMosaic.Lib.Pointwise
public import Idealize.ShloMosaic.Adequacy
public import Idealize.ShloMosaic.Init

@[expose] public section

noncomputable section

namespace Cert.Proof

open Idealize.ShloMosaic Idealize.SL.Sem

/-- The side conditions of the precondition's operations. -/
theorem finite_facts : Cert.Pre_finite.Facts :=
  ⟨by decide, by decide, by decide⟩

/-- The side conditions of the operations of the forgetting attention's precondition. -/
theorem finite_facts3 : Cert.Pre_finite3.Facts :=
  ⟨by decide, by decide, by decide⟩

/-- The reference's run leaves its arguments unchanged. -/
theorem frame_ref : haveI := Cert.ReferenceIdeal.Gen.facts; Cert.quiescent_ReferenceIdeal := fun m g _ =>
  (θ_run Cert.ReferenceIdeal.defs _ _).mono (fun r h => ⟨fun c => ⟨(h c).2.1, (h c).2.2.1, (h c).2.2.2⟩,
      Idealize.ShloMosaic.sem_eq_zero_of_no_sems (by decide) r.2⟩)
    (Cert.ReferenceIdeal.Value.run (F := Ideal) m g)

/-- The feed-forward reference's run leaves its arguments unchanged. -/
theorem frame_ref2 : haveI := Cert.Reference2Ideal.Gen.facts; Cert.quiescent_Reference2Ideal := fun m g _ =>
  (θ_run Cert.Reference2Ideal.defs _ _).mono (fun r h => ⟨fun c => (h c).2, Idealize.ShloMosaic.sem_eq_zero_of_no_sems (by decide) r.2⟩)
    (Cert.Reference2Ideal.Value.run (F := Ideal) m g)

/-- The run of the forgetting attention's reference leaves its arguments unchanged. -/
theorem frame_ref3 : haveI := Cert.Reference3Ideal.Gen.facts; Cert.quiescent_Reference3Ideal := fun m g _ =>
  (θ_run Cert.Reference3Ideal.defs _ _).mono (fun r h => ⟨fun c => (h c).2, Idealize.ShloMosaic.sem_eq_zero_of_no_sems (by decide) r.2⟩)
    (Cert.Reference3Ideal.Value.run (F := Ideal) m g)

/-- The run of the input projection's reference leaves its arguments unchanged. -/
theorem frame_ref4 : haveI := Cert.Reference4Ideal.Gen.facts; Cert.quiescent_Reference4Ideal := fun m g _ =>
  (θ_run Cert.Reference4Ideal.defs _ _).mono (fun r h => ⟨fun c => (h c).2, Idealize.ShloMosaic.sem_eq_zero_of_no_sems (by decide) r.2⟩)
    (Cert.Reference4Ideal.Value.run (F := Ideal) m g)

/-- The run of the merge's reference leaves its arguments unchanged. -/
theorem frame_ref5 : haveI := Cert.Reference5Ideal.Gen.facts; Cert.quiescent_Reference5Ideal := fun m g _ =>
  (θ_run Cert.Reference5Ideal.defs _ _).mono (fun r h => ⟨fun c => (h c).2, Idealize.ShloMosaic.sem_eq_zero_of_no_sems (by decide) r.2⟩)
    (Cert.Reference5Ideal.Value.run (F := Ideal) m g)

/-- The run of the forget gates' reference leaves its arguments unchanged. -/
theorem frame_ref6 : haveI := Cert.Reference6Ideal.Gen.facts; Cert.quiescent_Reference6Ideal := fun m g _ =>
  (θ_run Cert.Reference6Ideal.defs _ _).mono (fun r h => ⟨fun c => (h c).2, Idealize.ShloMosaic.sem_eq_zero_of_no_sems (by decide) r.2⟩)
    (Cert.Reference6Ideal.Value.run (F := Ideal) m g)

/-- The run of the latent keys' reference leaves its arguments unchanged. -/
theorem frame_ref7 : haveI := Cert.Reference7Ideal.Gen.facts; Cert.quiescent_Reference7Ideal := fun m g _ =>
  (θ_run Cert.Reference7Ideal.defs _ _).mono (fun r h => ⟨fun c => (h c).2, Idealize.ShloMosaic.sem_eq_zero_of_no_sems (by decide) r.2⟩)
    (Cert.Reference7Ideal.Value.run (F := Ideal) m g)

/-- The run of the reference of the sampled sequences' feed-forward leaves its arguments unchanged. -/
theorem frame_ref8 : haveI := Cert.Reference8Ideal.Gen.facts; Cert.quiescent_Reference8Ideal := fun m g _ =>
  (θ_run Cert.Reference8Ideal.defs _ _).mono (fun r h => ⟨fun c => (h c).2, Idealize.ShloMosaic.sem_eq_zero_of_no_sems (by decide) r.2⟩)
    (Cert.Reference8Ideal.Value.run (F := Ideal) m g)

/-- The run of the reference of the sampled sequences' input projection leaves its arguments unchanged. -/
theorem frame_ref9 : haveI := Cert.Reference9Ideal.Gen.facts; Cert.quiescent_Reference9Ideal := fun m g _ =>
  (θ_run Cert.Reference9Ideal.defs _ _).mono (fun r h => ⟨fun c => (h c).2, Idealize.ShloMosaic.sem_eq_zero_of_no_sems (by decide) r.2⟩)
    (Cert.Reference9Ideal.Value.run (F := Ideal) m g)

/-- The run of the reference of the sampled sequences' latent keys leaves its arguments unchanged. -/
theorem frame_ref10 : haveI := Cert.Reference10Ideal.Gen.facts; Cert.quiescent_Reference10Ideal := fun m g _ =>
  (θ_run Cert.Reference10Ideal.defs _ _).mono (fun r h => ⟨fun c => (h c).2, Idealize.ShloMosaic.sem_eq_zero_of_no_sems (by decide) r.2⟩)
    (Cert.Reference10Ideal.Value.run (F := Ideal) m g)

/-- The run of the reference of the sampled sequences' forget gates leaves its arguments unchanged. -/
theorem frame_ref11 : haveI := Cert.Reference11Ideal.Gen.facts; Cert.quiescent_Reference11Ideal := fun m g _ =>
  (θ_run Cert.Reference11Ideal.defs _ _).mono (fun r h => ⟨fun c => (h c).2, Idealize.ShloMosaic.sem_eq_zero_of_no_sems (by decide) r.2⟩)
    (Cert.Reference11Ideal.Value.run (F := Ideal) m g)

/-- A number whose absolute value is below `⊤` is finite. -/
theorem finite_of_lt (x : EReal) (h : BitVec.ofBool (decide (max x (-x) < Ideal.ofBits FTy.f32 0x7F800000#32)) = 1#1) :
    x ≠ ⊥ ∧ x ≠ ⊤ := by
  have e : Ideal.ofBits FTy.f32 0x7F800000#32 = ⊤ := by simp [Ideal.ofBits, Ideal.ieee]
  rw [e] at h
  have h' : max x (-x) < ⊤ := by
    by_contra hn
    rw [decide_eq_false hn] at h
    exact absurd h (by decide)
  refine ⟨?_, ?_⟩ <;> rintro rfl <;> simp at h'

/-- The precondition read at an index. -/
theorem finite_apply (m : (ℓ : Loc Cert.KernelIdeal.nD Cert.KernelIdeal.τ Cert.KernelIdeal.sig) → Buf (Elt Ideal) ℓ)
    (h : haveI := finite_facts; Cert.Pre_KernelIdeal_finite m) (c : Dev Cert.KernelIdeal.nD) :
    (∀ y, m ((c.tc : Thread Cert.KernelIdeal.nD Cert.KernelIdeal.τ).loc Cert.KernelIdeal.main_arg0) y ≠ (⊥ : EReal)
      ∧ m ((c.tc : Thread Cert.KernelIdeal.nD Cert.KernelIdeal.τ).loc Cert.KernelIdeal.main_arg0) y ≠ (⊤ : EReal))
    ∧ (∀ y, m ((c.tc : Thread Cert.KernelIdeal.nD Cert.KernelIdeal.τ).loc Cert.KernelIdeal.main_arg1) y ≠ (⊥ : EReal)
      ∧ m ((c.tc : Thread Cert.KernelIdeal.nD Cert.KernelIdeal.τ).loc Cert.KernelIdeal.main_arg1) y ≠ (⊤ : EReal)) := by
  obtain ⟨h0, h1⟩ := h c
  refine ⟨fun y => ?_, fun y => ?_⟩
  · have e := congrFun h0 y
    pointwise [Cert.Pre_finite.fn] at e
    exact finite_of_lt _ e
  · have e := congrFun h1 y
    pointwise [Cert.Pre_finite.fn] at e
    exact finite_of_lt _ e

/-- The ideal attention kernel computes its reference on finite queries and keys. -/
theorem attention : haveI := Cert.KernelIdeal.Gen.facts; haveI := Cert.ReferenceIdeal.Gen.facts; haveI := finite_facts
    Cert.algebraic_KernelIdeal_ReferenceIdeal_pre_finite :=
  fun m ρ m' ρ' hp hagree => ⟨fun c => Cert.KernelIdeal.Val.softArr
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    (θ_run Cert.KernelIdeal.defs _ _).mono (fun r h c => ⟨(h c).1.trans (Cert.KernelIdeal.Val.final m c
      (finite_apply m hp c).1 (finite_apply m hp c).2), (h c).2⟩) (Cert.KernelIdeal.Value.run_blocks (F := Ideal) m ρ),
    (θ_run Cert.ReferenceIdeal.defs _ _).mono (fun r h c => ⟨(h c).1.trans ((Cert.ReferenceIdeal.Val.res m' c).trans (by
      rw [(hagree c).1, (hagree c).2.1, (hagree c).2.2])), (h c).2⟩) (Cert.ReferenceIdeal.Value.run (F := Ideal) m' ρ')⟩

/-- The ideal feed-forward kernel computes its reference. -/
theorem feedforward : haveI := Cert.Kernel2Ideal.Gen.facts; haveI := Cert.Reference2Ideal.Gen.facts
    Cert.algebraic_Kernel2Ideal_Reference2Ideal :=
  fun m ρ m' ρ' _ hagree => ⟨fun c => Cert.Kernel2Ideal.Val.ffnArr
      (m ((c.tc : Thread Cert.Kernel2Ideal.nD Cert.Kernel2Ideal.τ).loc Cert.Kernel2Ideal.main_arg0))
      (m ((c.tc : Thread Cert.Kernel2Ideal.nD Cert.Kernel2Ideal.τ).loc Cert.Kernel2Ideal.main_arg1))
      (m ((c.tc : Thread Cert.Kernel2Ideal.nD Cert.Kernel2Ideal.τ).loc Cert.Kernel2Ideal.main_arg2))
      (m ((c.tc : Thread Cert.Kernel2Ideal.nD Cert.Kernel2Ideal.τ).loc Cert.Kernel2Ideal.main_arg3))
      (m ((c.tc : Thread Cert.Kernel2Ideal.nD Cert.Kernel2Ideal.τ).loc Cert.Kernel2Ideal.main_arg4))
      (m ((c.tc : Thread Cert.Kernel2Ideal.nD Cert.Kernel2Ideal.τ).loc Cert.Kernel2Ideal.main_arg5))
      (m ((c.tc : Thread Cert.Kernel2Ideal.nD Cert.Kernel2Ideal.τ).loc Cert.Kernel2Ideal.main_arg6))
      (m ((c.tc : Thread Cert.Kernel2Ideal.nD Cert.Kernel2Ideal.τ).loc Cert.Kernel2Ideal.main_arg7))
      (m ((c.tc : Thread Cert.Kernel2Ideal.nD Cert.Kernel2Ideal.τ).loc Cert.Kernel2Ideal.main_arg8)),
    (θ_run Cert.Kernel2Ideal.defs _ _).mono (fun r h c => ⟨(h c).1.trans (Cert.Kernel2Ideal.Val.final m c), (h c).2⟩)
      (Cert.Kernel2Ideal.Value.run_blocks (F := Ideal) m ρ),
    (θ_run Cert.Reference2Ideal.defs _ _).mono (fun r h c => ⟨(h c).1.trans ((Cert.Reference2Ideal.Val.res m' c).trans (by
      obtain ⟨e0, e1, e2, e3, e4, e5, e6, e7, e8⟩ := hagree c
      rw [e0, e1, e2, e3, e4, e5, e6, e7, e8])), (h c).2⟩) (Cert.Reference2Ideal.Value.run (F := Ideal) m' ρ')⟩

/-- The forgetting attention's precondition read at an index. -/
theorem finite_apply3 (m : (ℓ : Loc Cert.Kernel3Ideal.nD Cert.Kernel3Ideal.τ Cert.Kernel3Ideal.sig) → Buf (Elt Ideal) ℓ)
    (h : haveI := finite_facts3; Cert.Pre_Kernel3Ideal_finite3 m) (c : Dev Cert.Kernel3Ideal.nD) :
    (∀ y, m ((c.tc : Thread Cert.Kernel3Ideal.nD Cert.Kernel3Ideal.τ).loc Cert.Kernel3Ideal.main_arg0) y ≠ (⊥ : EReal)
      ∧ m ((c.tc : Thread Cert.Kernel3Ideal.nD Cert.Kernel3Ideal.τ).loc Cert.Kernel3Ideal.main_arg0) y ≠ (⊤ : EReal))
    ∧ (∀ y, m ((c.tc : Thread Cert.Kernel3Ideal.nD Cert.Kernel3Ideal.τ).loc Cert.Kernel3Ideal.main_arg1) y ≠ (⊥ : EReal)
      ∧ m ((c.tc : Thread Cert.Kernel3Ideal.nD Cert.Kernel3Ideal.τ).loc Cert.Kernel3Ideal.main_arg1) y ≠ (⊤ : EReal)) := by
  obtain ⟨h0, h1⟩ := h c
  refine ⟨fun y => ?_, fun y => ?_⟩
  · have e := congrFun h0 y
    pointwise [Cert.Pre_finite3.fn] at e
    exact finite_of_lt _ e
  · have e := congrFun h1 y
    pointwise [Cert.Pre_finite3.fn] at e
    exact finite_of_lt _ e

/-- The ideal kernel of the forgetting attention computes its reference on finite queries and keys. -/
theorem forgetting : haveI := Cert.Kernel3Ideal.Gen.facts; haveI := Cert.Reference3Ideal.Gen.facts; haveI := finite_facts3
    Cert.algebraic_Kernel3Ideal_Reference3Ideal_pre_finite3 :=
  fun m ρ m' ρ' hp hagree => ⟨fun c => Cert.Kernel3Ideal.Val.softArr
      (m ((c.tc : Thread Cert.Kernel3Ideal.nD Cert.Kernel3Ideal.τ).loc Cert.Kernel3Ideal.main_arg0))
      (m ((c.tc : Thread Cert.Kernel3Ideal.nD Cert.Kernel3Ideal.τ).loc Cert.Kernel3Ideal.main_arg1))
      (m ((c.tc : Thread Cert.Kernel3Ideal.nD Cert.Kernel3Ideal.τ).loc Cert.Kernel3Ideal.main_arg2)),
    (θ_run Cert.Kernel3Ideal.defs _ _).mono (fun r h c => ⟨(h c).1.trans (Cert.Kernel3Ideal.Val.final m c
      (finite_apply3 m hp c).1 (finite_apply3 m hp c).2), (h c).2⟩) (Cert.Kernel3Ideal.Value.run_blocks (F := Ideal) m ρ),
    (θ_run Cert.Reference3Ideal.defs _ _).mono (fun r h c => ⟨(h c).1.trans ((Cert.Reference3Ideal.Val.res m' c).trans (by
      rw [(hagree c).1, (hagree c).2.1, (hagree c).2.2])), (h c).2⟩) (Cert.Reference3Ideal.Value.run (F := Ideal) m' ρ')⟩

/-- The ideal kernel of the input projection computes its reference. -/
theorem projection : haveI := Cert.Kernel4Ideal.Gen.facts; haveI := Cert.Reference4Ideal.Gen.facts
    Cert.algebraic_Kernel4Ideal_Reference4Ideal :=
  fun m ρ m' ρ' _ hagree => ⟨fun c => Cert.Kernel4Ideal.Val.projArr
      (m ((c.tc : Thread Cert.Kernel4Ideal.nD Cert.Kernel4Ideal.τ).loc Cert.Kernel4Ideal.main_arg0))
      (m ((c.tc : Thread Cert.Kernel4Ideal.nD Cert.Kernel4Ideal.τ).loc Cert.Kernel4Ideal.main_arg1))
      (m ((c.tc : Thread Cert.Kernel4Ideal.nD Cert.Kernel4Ideal.τ).loc Cert.Kernel4Ideal.main_arg2))
      (m ((c.tc : Thread Cert.Kernel4Ideal.nD Cert.Kernel4Ideal.τ).loc Cert.Kernel4Ideal.main_arg3)),
    (θ_run Cert.Kernel4Ideal.defs _ _).mono (fun r h c => ⟨(h c).1.trans (Cert.Kernel4Ideal.Val.final m c), (h c).2⟩)
      (Cert.Kernel4Ideal.Value.run_blocks (F := Ideal) m ρ),
    (θ_run Cert.Reference4Ideal.defs _ _).mono (fun r h c => ⟨(h c).1.trans ((Cert.Reference4Ideal.Val.res m' c).trans (by
      obtain ⟨e0, e1, e2, e3⟩ := hagree c
      rw [e0, e1, e2, e3])), (h c).2⟩) (Cert.Reference4Ideal.Value.run (F := Ideal) m' ρ')⟩

/-- The ideal kernel of the merge computes its reference. -/
theorem merging : haveI := Cert.Kernel5Ideal.Gen.facts; haveI := Cert.Reference5Ideal.Gen.facts
    Cert.algebraic_Kernel5Ideal_Reference5Ideal :=
  fun m ρ m' ρ' _ hagree => ⟨fun c => Cert.Kernel5Ideal.Val.mergeArr
      (m ((c.tc : Thread Cert.Kernel5Ideal.nD Cert.Kernel5Ideal.τ).loc Cert.Kernel5Ideal.main_arg0))
      (m ((c.tc : Thread Cert.Kernel5Ideal.nD Cert.Kernel5Ideal.τ).loc Cert.Kernel5Ideal.main_arg1))
      (m ((c.tc : Thread Cert.Kernel5Ideal.nD Cert.Kernel5Ideal.τ).loc Cert.Kernel5Ideal.main_arg2))
      (m ((c.tc : Thread Cert.Kernel5Ideal.nD Cert.Kernel5Ideal.τ).loc Cert.Kernel5Ideal.main_arg3))
      (m ((c.tc : Thread Cert.Kernel5Ideal.nD Cert.Kernel5Ideal.τ).loc Cert.Kernel5Ideal.main_arg4))
      (m ((c.tc : Thread Cert.Kernel5Ideal.nD Cert.Kernel5Ideal.τ).loc Cert.Kernel5Ideal.main_arg5))
      (m ((c.tc : Thread Cert.Kernel5Ideal.nD Cert.Kernel5Ideal.τ).loc Cert.Kernel5Ideal.main_arg6))
      (m ((c.tc : Thread Cert.Kernel5Ideal.nD Cert.Kernel5Ideal.τ).loc Cert.Kernel5Ideal.main_arg7))
      (m ((c.tc : Thread Cert.Kernel5Ideal.nD Cert.Kernel5Ideal.τ).loc Cert.Kernel5Ideal.main_arg8))
      (m ((c.tc : Thread Cert.Kernel5Ideal.nD Cert.Kernel5Ideal.τ).loc Cert.Kernel5Ideal.main_arg9))
      (m ((c.tc : Thread Cert.Kernel5Ideal.nD Cert.Kernel5Ideal.τ).loc Cert.Kernel5Ideal.main_arg10))
      (m ((c.tc : Thread Cert.Kernel5Ideal.nD Cert.Kernel5Ideal.τ).loc Cert.Kernel5Ideal.main_arg11)),
    (θ_run Cert.Kernel5Ideal.defs _ _).mono (fun r h c => ⟨(h c).1.trans (Cert.Kernel5Ideal.Val.final m c), (h c).2⟩)
      (Cert.Kernel5Ideal.Value.run_blocks (F := Ideal) m ρ),
    (θ_run Cert.Reference5Ideal.defs _ _).mono (fun r h c => ⟨(h c).1.trans ((Cert.Reference5Ideal.Val.res m' c).trans (by
      obtain ⟨e0, e1, e2, e3, e4, e5, e6, e7, e8, e9, e10, e11⟩ := hagree c
      rw [e0, e1, e2, e3, e4, e5, e6, e7, e8, e9, e10, e11])), (h c).2⟩) (Cert.Reference5Ideal.Value.run (F := Ideal) m' ρ')⟩

/-- The ideal kernel of the forget gates computes its reference. -/
theorem gates : haveI := Cert.Kernel6Ideal.Gen.facts; haveI := Cert.Reference6Ideal.Gen.facts
    Cert.algebraic_Kernel6Ideal_Reference6Ideal :=
  fun m ρ m' ρ' _ hagree => ⟨fun c => Cert.Kernel6Ideal.Val.gateArr
      (m ((c.tc : Thread Cert.Kernel6Ideal.nD Cert.Kernel6Ideal.τ).loc Cert.Kernel6Ideal.main_arg0))
      (m ((c.tc : Thread Cert.Kernel6Ideal.nD Cert.Kernel6Ideal.τ).loc Cert.Kernel6Ideal.main_arg1)),
    (θ_run Cert.Kernel6Ideal.defs _ _).mono (fun r h c => ⟨(h c).1.trans (Cert.Kernel6Ideal.Val.final m c), (h c).2.2.2.2⟩)
      (Cert.Kernel6Ideal.Value.run_blocks (F := Ideal) m ρ),
    (θ_run Cert.Reference6Ideal.defs _ _).mono (fun r h c => ⟨(h c).1.trans ((Cert.Reference6Ideal.Val.res _ _).trans (by
      rw [(hagree c).1, (hagree c).2.1])), (h c).2⟩) (Cert.Reference6Ideal.Value.run (F := Ideal) m' ρ')⟩

/-- The ideal kernel of the latent keys computes its reference. -/
theorem latents : haveI := Cert.Kernel7Ideal.Gen.facts; haveI := Cert.Reference7Ideal.Gen.facts
    Cert.algebraic_Kernel7Ideal_Reference7Ideal :=
  fun m ρ m' ρ' _ hagree => ⟨fun c => Cert.Kernel7Ideal.Val.keyArr
      (m ((c.tc : Thread Cert.Kernel7Ideal.nD Cert.Kernel7Ideal.τ).loc Cert.Kernel7Ideal.main_arg0))
      (m ((c.tc : Thread Cert.Kernel7Ideal.nD Cert.Kernel7Ideal.τ).loc Cert.Kernel7Ideal.main_arg1)),
    (θ_run Cert.Kernel7Ideal.defs _ _).mono (fun r h c => ⟨(h c).2.1.trans (Cert.Kernel7Ideal.Val.final m c), (h c).2.2.2.2⟩)
      (Cert.Kernel7Ideal.Value.run_blocks (F := Ideal) m ρ),
    (θ_run Cert.Reference7Ideal.defs _ _).mono (fun r h c => ⟨(h c).1.trans ((Cert.Reference7Ideal.Val.res m' c).trans (by
      rw [(hagree c).1, (hagree c).2.1])), (h c).2⟩) (Cert.Reference7Ideal.Value.run (F := Ideal) m' ρ')⟩

/-- The ideal kernel of the sampled sequences' feed-forward computes its reference. -/
theorem sampled_feedforward : haveI := Cert.Kernel8Ideal.Gen.facts; haveI := Cert.Reference8Ideal.Gen.facts
    Cert.algebraic_Kernel8Ideal_Reference8Ideal :=
  fun m ρ m' ρ' _ hagree => ⟨fun c => Cert.Kernel8Ideal.Val.rowsArr
      (m ((c.tc : Thread Cert.Kernel8Ideal.nD Cert.Kernel8Ideal.τ).loc Cert.Kernel8Ideal.main_arg0))
      (m ((c.tc : Thread Cert.Kernel8Ideal.nD Cert.Kernel8Ideal.τ).loc Cert.Kernel8Ideal.main_arg1))
      (m ((c.tc : Thread Cert.Kernel8Ideal.nD Cert.Kernel8Ideal.τ).loc Cert.Kernel8Ideal.main_arg2))
      (m ((c.tc : Thread Cert.Kernel8Ideal.nD Cert.Kernel8Ideal.τ).loc Cert.Kernel8Ideal.main_arg3))
      (m ((c.tc : Thread Cert.Kernel8Ideal.nD Cert.Kernel8Ideal.τ).loc Cert.Kernel8Ideal.main_arg4))
      (m ((c.tc : Thread Cert.Kernel8Ideal.nD Cert.Kernel8Ideal.τ).loc Cert.Kernel8Ideal.main_arg5))
      (m ((c.tc : Thread Cert.Kernel8Ideal.nD Cert.Kernel8Ideal.τ).loc Cert.Kernel8Ideal.main_arg6))
      (m ((c.tc : Thread Cert.Kernel8Ideal.nD Cert.Kernel8Ideal.τ).loc Cert.Kernel8Ideal.main_arg7))
      (m ((c.tc : Thread Cert.Kernel8Ideal.nD Cert.Kernel8Ideal.τ).loc Cert.Kernel8Ideal.main_arg8)),
    (θ_run Cert.Kernel8Ideal.defs _ _).mono (fun r h c => ⟨(h c).1.trans (Cert.Kernel8Ideal.Val.final m c), (h c).2⟩)
      (Cert.Kernel8Ideal.Value.run_blocks (F := Ideal) m ρ),
    (θ_run Cert.Reference8Ideal.defs _ _).mono (fun r h c => ⟨(h c).1.trans ((Cert.Reference8Ideal.Val.res m' c).trans (by
      obtain ⟨e0, e1, e2, e3, e4, e5, e6, e7, e8⟩ := hagree c
      rw [e0, e1, e2, e3, e4, e5, e6, e7, e8])), (h c).2⟩) (Cert.Reference8Ideal.Value.run (F := Ideal) m' ρ')⟩

/-- The ideal kernel of the sampled sequences' input projection computes its reference. -/
theorem sampled_projection : haveI := Cert.Kernel9Ideal.Gen.facts; haveI := Cert.Reference9Ideal.Gen.facts
    Cert.algebraic_Kernel9Ideal_Reference9Ideal :=
  fun m ρ m' ρ' _ hagree => ⟨fun c => Cert.Kernel9Ideal.Val.projArr
      (m ((c.tc : Thread Cert.Kernel9Ideal.nD Cert.Kernel9Ideal.τ).loc Cert.Kernel9Ideal.main_arg0))
      (m ((c.tc : Thread Cert.Kernel9Ideal.nD Cert.Kernel9Ideal.τ).loc Cert.Kernel9Ideal.main_arg1))
      (m ((c.tc : Thread Cert.Kernel9Ideal.nD Cert.Kernel9Ideal.τ).loc Cert.Kernel9Ideal.main_arg2))
      (m ((c.tc : Thread Cert.Kernel9Ideal.nD Cert.Kernel9Ideal.τ).loc Cert.Kernel9Ideal.main_arg3)),
    (θ_run Cert.Kernel9Ideal.defs _ _).mono (fun r h c => ⟨(h c).1.trans (Cert.Kernel9Ideal.Val.final m c), (h c).2⟩)
      (Cert.Kernel9Ideal.Value.run_blocks (F := Ideal) m ρ),
    (θ_run Cert.Reference9Ideal.defs _ _).mono (fun r h c => ⟨(h c).1.trans ((Cert.Reference9Ideal.Val.res m' c).trans (by
      obtain ⟨e0, e1, e2, e3⟩ := hagree c
      rw [e0, e1, e2, e3])), (h c).2⟩) (Cert.Reference9Ideal.Value.run (F := Ideal) m' ρ')⟩

/-- The ideal kernel of the sampled sequences' latent keys computes its reference. -/
theorem sampled_latents : haveI := Cert.Kernel10Ideal.Gen.facts; haveI := Cert.Reference10Ideal.Gen.facts
    Cert.algebraic_Kernel10Ideal_Reference10Ideal :=
  fun m ρ m' ρ' _ hagree => ⟨fun c => Cert.Kernel10Ideal.Val.keyArr
      (m ((c.tc : Thread Cert.Kernel10Ideal.nD Cert.Kernel10Ideal.τ).loc Cert.Kernel10Ideal.main_arg0))
      (m ((c.tc : Thread Cert.Kernel10Ideal.nD Cert.Kernel10Ideal.τ).loc Cert.Kernel10Ideal.main_arg1)),
    (θ_run Cert.Kernel10Ideal.defs _ _).mono (fun r h c => ⟨(h c).2.1.trans (Cert.Kernel10Ideal.Val.final m c), (h c).2.2⟩)
      (Cert.Kernel10Ideal.Value.run_blocks (F := Ideal) m ρ),
    (θ_run Cert.Reference10Ideal.defs _ _).mono (fun r h c => ⟨(h c).1.trans ((Cert.Reference10Ideal.Val.res m' c).trans (by
      rw [(hagree c).1, (hagree c).2.1])), (h c).2⟩) (Cert.Reference10Ideal.Value.run (F := Ideal) m' ρ')⟩

/-- The ideal kernel of the sampled sequences' forget gates computes its reference. -/
theorem sampled_gates : haveI := Cert.Kernel11Ideal.Gen.facts; haveI := Cert.Reference11Ideal.Gen.facts
    Cert.algebraic_Kernel11Ideal_Reference11Ideal :=
  fun m ρ m' ρ' _ hagree => ⟨fun c => Cert.Kernel11Ideal.Val.gateRows
      (m ((c.tc : Thread Cert.Kernel11Ideal.nD Cert.Kernel11Ideal.τ).loc Cert.Kernel11Ideal.main_arg0))
      (m ((c.tc : Thread Cert.Kernel11Ideal.nD Cert.Kernel11Ideal.τ).loc Cert.Kernel11Ideal.main_arg1)),
    (θ_run Cert.Kernel11Ideal.defs _ _).mono (fun r h c => ⟨(h c).2.1.trans (Cert.Kernel11Ideal.Val.final m c), (h c).2.2⟩)
      (Cert.Kernel11Ideal.Value.run_blocks (F := Ideal) m ρ),
    (θ_run Cert.Reference11Ideal.defs _ _).mono (fun r h c => ⟨(h c).1.trans ((Cert.Reference11Ideal.Val.res m' c).trans (by
      rw [(hagree c).1, (hagree c).2.1])), (h c).2⟩) (Cert.Reference11Ideal.Value.run (F := Ideal) m' ρ')⟩

/-- Everything claimed. -/
theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    finite_facts, finite_facts3,
    fun m ρ _ => Cert.Kernel.Gen.frame m ρ, fun m ρ _ => Cert.KernelIdeal.Gen.frame m ρ,
    fun m ρ _ => Cert.KernelIdeal.Gen.frame m ρ, frame_ref, fun m ρ _ => frame_ref m ρ trivial,
    fun m ρ _ => Cert.Kernel2.Gen.frame m ρ, fun m ρ _ => Cert.Kernel2Ideal.Gen.frame m ρ, frame_ref2,
    fun m ρ _ => Cert.Kernel3.Gen.frame m ρ, fun m ρ _ => Cert.Kernel3Ideal.Gen.frame m ρ,
    fun m ρ _ => Cert.Kernel3Ideal.Gen.frame m ρ, frame_ref3, fun m ρ _ => frame_ref3 m ρ trivial,
    fun m ρ _ => Cert.Kernel4.Gen.frame m ρ, fun m ρ _ => Cert.Kernel4Ideal.Gen.frame m ρ, frame_ref4,
    fun m ρ _ => Cert.Kernel5.Gen.frame m ρ, fun m ρ _ => Cert.Kernel5Ideal.Gen.frame m ρ, frame_ref5,
    fun m ρ _ => Cert.Kernel6.Gen.frame m ρ, fun m ρ _ => Cert.Kernel6Ideal.Gen.frame m ρ, frame_ref6,
    fun m ρ _ => Cert.Kernel7.Gen.frame m ρ, fun m ρ _ => Cert.Kernel7Ideal.Gen.frame m ρ, frame_ref7,
    fun m ρ _ => Cert.Kernel8.Gen.frame m ρ, fun m ρ _ => Cert.Kernel8Ideal.Gen.frame m ρ, frame_ref8,
    fun m ρ _ => Cert.Kernel9.Gen.frame m ρ, fun m ρ _ => Cert.Kernel9Ideal.Gen.frame m ρ, frame_ref9,
    fun m ρ _ => Cert.Kernel10.Gen.frame m ρ, fun m ρ _ => Cert.Kernel10Ideal.Gen.frame m ρ, frame_ref10,
    fun m ρ _ => Cert.Kernel11.Gen.frame m ρ, fun m ρ _ => Cert.Kernel11Ideal.Gen.frame m ρ, frame_ref11,
    IdealRules.named_const.statement Cert.KernelIdeal.κ "mask" .f32 0xF149F2CA#32 ⊥ rfl, attention, trivial, feedforward,
    IdealRules.named_const.statement Cert.Kernel3Ideal.κ "mask" .f32 0xF149F2CA#32 ⊥ rfl, forgetting, trivial, projection, trivial, merging,
    trivial, gates, trivial, latents, trivial, sampled_feedforward, trivial, sampled_projection, trivial, sampled_latents,
    trivial, sampled_gates⟩

end Cert.Proof

end
